-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGlaNorm (m : (ℓ : Loc Cert.AdamGlaNorm.nD Cert.AdamGlaNorm.τ Cert.AdamGlaNorm.sig) → Buf (Elt Bits) ℓ) : Prop :=
  True

def Pre_AdamGlaNormIdeal (m : (ℓ : Loc Cert.AdamGlaNormIdeal.nD Cert.AdamGlaNormIdeal.τ Cert.AdamGlaNormIdeal.sig) → Buf (Elt Ideal) ℓ) : Prop :=
  True

def Pre_AdamGlaNormRefIdeal (m : (ℓ : Loc Cert.AdamGlaNormRefIdeal.nD Cert.AdamGlaNormRefIdeal.τ Cert.AdamGlaNormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamRank (m : (ℓ : Loc Cert.AdamRank.nD Cert.AdamRank.τ Cert.AdamRank.sig) → Buf (Elt Bits) ℓ) : Prop :=
  True

def Pre_AdamRankIdeal (m : (ℓ : Loc Cert.AdamRankIdeal.nD Cert.AdamRankIdeal.τ Cert.AdamRankIdeal.sig) → Buf (Elt Ideal) ℓ) : Prop :=
  True

def Pre_AdamRankRefIdeal (m : (ℓ : Loc Cert.AdamRankRefIdeal.nD Cert.AdamRankRefIdeal.τ Cert.AdamRankRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamPoolBias (m : (ℓ : Loc Cert.AdamPoolBias.nD Cert.AdamPoolBias.τ Cert.AdamPoolBias.sig) → Buf (Elt Bits) ℓ) : Prop :=
  True

def Pre_AdamPoolBiasIdeal (m : (ℓ : Loc Cert.AdamPoolBiasIdeal.nD Cert.AdamPoolBiasIdeal.τ Cert.AdamPoolBiasIdeal.sig) → Buf (Elt Ideal) ℓ) : Prop :=
  True

def Pre_AdamPoolBiasRefIdeal (m : (ℓ : Loc Cert.AdamPoolBiasRefIdeal.nD Cert.AdamPoolBiasRefIdeal.τ Cert.AdamPoolBiasRefIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_AdamFinalRefIdeal (m : (ℓ : Loc Cert.AdamFinalRefIdeal.nD Cert.AdamFinalRefIdeal.τ Cert.AdamFinalRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_GlaProjW (m : (ℓ : Loc Cert.GlaProjW.nD Cert.GlaProjW.τ Cert.GlaProjW.sig) → Buf (Elt Bits) ℓ) : Prop :=
  True

def Pre_GlaProjWIdeal (m : (ℓ : Loc Cert.GlaProjWIdeal.nD Cert.GlaProjWIdeal.τ Cert.GlaProjWIdeal.sig) → Buf (Elt Ideal) ℓ) : Prop :=
  True

def Pre_GlaProjWRefIdeal (m : (ℓ : Loc Cert.GlaProjWRefIdeal.nD Cert.GlaProjWRefIdeal.τ Cert.GlaProjWRefIdeal.sig) → Buf (Elt Ideal) ℓ) : Prop :=
  True

def Pre_GlaProjH (m : (ℓ : Loc Cert.GlaProjH.nD Cert.GlaProjH.τ Cert.GlaProjH.sig) → Buf (Elt Bits) ℓ) : Prop :=
  True

def Pre_GlaProjHIdeal (m : (ℓ : Loc Cert.GlaProjHIdeal.nD Cert.GlaProjHIdeal.τ Cert.GlaProjHIdeal.sig) → Buf (Elt Ideal) ℓ) : Prop :=
  True

def Pre_GlaProjHRefIdeal (m : (ℓ : Loc Cert.GlaProjHRefIdeal.nD Cert.GlaProjHRefIdeal.τ Cert.GlaProjHRefIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_GlaOutW (m : (ℓ : Loc Cert.GlaOutW.nD Cert.GlaOutW.τ Cert.GlaOutW.sig) → Buf (Elt Bits) ℓ) : Prop :=
  True

def Pre_GlaOutWIdeal (m : (ℓ : Loc Cert.GlaOutWIdeal.nD Cert.GlaOutWIdeal.τ Cert.GlaOutWIdeal.sig) → Buf (Elt Ideal) ℓ) : Prop :=
  True

def Pre_GlaOutWRefIdeal (m : (ℓ : Loc Cert.GlaOutWRefIdeal.nD Cert.GlaOutWRefIdeal.τ Cert.GlaOutWRefIdeal.sig) → Buf (Elt Ideal) ℓ) : Prop :=
  True

def Pre_GlaOutH (m : (ℓ : Loc Cert.GlaOutH.nD Cert.GlaOutH.τ Cert.GlaOutH.sig) → Buf (Elt Bits) ℓ) : Prop :=
  True

def Pre_GlaOutHIdeal (m : (ℓ : Loc Cert.GlaOutHIdeal.nD Cert.GlaOutHIdeal.τ Cert.GlaOutHIdeal.sig) → Buf (Elt Ideal) ℓ) : Prop :=
  True

def Pre_GlaOutHRefIdeal (m : (ℓ : Loc Cert.GlaOutHRefIdeal.nD Cert.GlaOutHRefIdeal.τ Cert.GlaOutHRefIdeal.sig) → Buf (Elt Ideal) ℓ) : Prop :=
  True

def Pre_PairUp (m : (ℓ : Loc Cert.PairUp.nD Cert.PairUp.τ Cert.PairUp.sig) → Buf (Elt Bits) ℓ) : Prop :=
  True

def Pre_PairUpIdeal (m : (ℓ : Loc Cert.PairUpIdeal.nD Cert.PairUpIdeal.τ Cert.PairUpIdeal.sig) → Buf (Elt Ideal) ℓ) : Prop :=
  True

def Pre_PairUpRefIdeal (m : (ℓ : Loc Cert.PairUpRefIdeal.nD Cert.PairUpRefIdeal.τ Cert.PairUpRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_PairDown (m : (ℓ : Loc Cert.PairDown.nD Cert.PairDown.τ Cert.PairDown.sig) → Buf (Elt Bits) ℓ) : Prop :=
  True

def Pre_PairDownIdeal (m : (ℓ : Loc Cert.PairDownIdeal.nD Cert.PairDownIdeal.τ Cert.PairDownIdeal.sig) → Buf (Elt Ideal) ℓ) : Prop :=
  True

def Pre_PairDownRefIdeal (m : (ℓ : Loc Cert.PairDownRefIdeal.nD Cert.PairDownRefIdeal.τ Cert.PairDownRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_PairIn (m : (ℓ : Loc Cert.PairIn.nD Cert.PairIn.τ Cert.PairIn.sig) → Buf (Elt Bits) ℓ) : Prop :=
  True

def Pre_PairInIdeal (m : (ℓ : Loc Cert.PairInIdeal.nD Cert.PairInIdeal.τ Cert.PairInIdeal.sig) → Buf (Elt Ideal) ℓ) : Prop :=
  True

def Pre_PairInRefIdeal (m : (ℓ : Loc Cert.PairInRefIdeal.nD Cert.PairInRefIdeal.τ Cert.PairInRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_PairOut (m : (ℓ : Loc Cert.PairOut.nD Cert.PairOut.τ Cert.PairOut.sig) → Buf (Elt Bits) ℓ) : Prop :=
  True

def Pre_PairOutIdeal (m : (ℓ : Loc Cert.PairOutIdeal.nD Cert.PairOutIdeal.τ Cert.PairOutIdeal.sig) → Buf (Elt Ideal) ℓ) : Prop :=
  True

def Pre_PairOutRefIdeal (m : (ℓ : Loc Cert.PairOutRefIdeal.nD Cert.PairOutRefIdeal.τ Cert.PairOutRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_PairPool (m : (ℓ : Loc Cert.PairPool.nD Cert.PairPool.τ Cert.PairPool.sig) → Buf (Elt Bits) ℓ) : Prop :=
  True

def Pre_PairPoolIdeal (m : (ℓ : Loc Cert.PairPoolIdeal.nD Cert.PairPoolIdeal.τ Cert.PairPoolIdeal.sig) → Buf (Elt Ideal) ℓ) : Prop :=
  True

def Pre_PairPoolRefIdeal (m : (ℓ : Loc Cert.PairPoolRefIdeal.nD Cert.PairPoolRefIdeal.τ Cert.PairPoolRefIdeal.sig) → Buf (Elt Ideal) ℓ) : Prop :=
  True

def Pre_SumPool (m : (ℓ : Loc Cert.SumPool.nD Cert.SumPool.τ Cert.SumPool.sig) → Buf (Elt Bits) ℓ) : Prop :=
  True

def Pre_SumPoolIdeal (m : (ℓ : Loc Cert.SumPoolIdeal.nD Cert.SumPoolIdeal.τ Cert.SumPoolIdeal.sig) → Buf (Elt Ideal) ℓ) : Prop :=
  True

def Pre_SumPoolRefIdeal (m : (ℓ : Loc Cert.SumPoolRefIdeal.nD Cert.SumPoolRefIdeal.τ Cert.SumPoolRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixRefIdeal (m : (ℓ : Loc Cert.PoolMixRefIdeal.nD Cert.PoolMixRefIdeal.τ Cert.PoolMixRefIdeal.sig) → Buf (Elt Ideal) ℓ) : Prop :=
  True

def Pre_PoolMixBwd (m : (ℓ : Loc Cert.PoolMixBwd.nD Cert.PoolMixBwd.τ Cert.PoolMixBwd.sig) → Buf (Elt Bits) ℓ) : Prop :=
  True

def Pre_PoolMixBwdIdeal (m : (ℓ : Loc Cert.PoolMixBwdIdeal.nD Cert.PoolMixBwdIdeal.τ Cert.PoolMixBwdIdeal.sig) → Buf (Elt Ideal) ℓ) : Prop :=
  True

def Pre_PoolMixBwdRefIdeal (m : (ℓ : Loc Cert.PoolMixBwdRefIdeal.nD Cert.PoolMixBwdRefIdeal.τ Cert.PoolMixBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamGlaNorm [hAdamGlaNorm : Cert.AdamGlaNorm.Facts] : Prop :=
  ∀ (m : (ℓ : Loc Cert.AdamGlaNorm.nD Cert.AdamGlaNorm.τ Cert.AdamGlaNorm.sig) → Buf (Elt Bits) ℓ) (g : Dev Cert.AdamGlaNorm.nD → PrngReg), Pre_AdamGlaNorm m →
    θ_run (Cert.AdamGlaNorm.defs (F := Bits)) (onTc (τ := Cert.AdamGlaNorm.τ) (Cert.AdamGlaNorm.main (F := Bits))) ⟨m, fun _ => 0, g⟩ (fun r => (∀ c : Dev Cert.AdamGlaNorm.nD,
      r.2.mem ((c.tc : Thread Cert.AdamGlaNorm.nD Cert.AdamGlaNorm.τ).loc Cert.AdamGlaNorm.main_arg0) = m ((c.tc : Thread Cert.AdamGlaNorm.nD Cert.AdamGlaNorm.τ).loc Cert.AdamGlaNorm.main_arg0)
      ∧ r.2.mem ((c.tc : Thread Cert.AdamGlaNorm.nD Cert.AdamGlaNorm.τ).loc Cert.AdamGlaNorm.main_arg1) = m ((c.tc : Thread Cert.AdamGlaNorm.nD Cert.AdamGlaNorm.τ).loc Cert.AdamGlaNorm.main_arg1)
      ∧ r.2.mem ((c.tc : Thread Cert.AdamGlaNorm.nD Cert.AdamGlaNorm.τ).loc Cert.AdamGlaNorm.main_arg2) = m ((c.tc : Thread Cert.AdamGlaNorm.nD Cert.AdamGlaNorm.τ).loc Cert.AdamGlaNorm.main_arg2)
      ∧ r.2.mem ((c.tc : Thread Cert.AdamGlaNorm.nD Cert.AdamGlaNorm.τ).loc Cert.AdamGlaNorm.main_arg3) = m ((c.tc : Thread Cert.AdamGlaNorm.nD Cert.AdamGlaNorm.τ).loc Cert.AdamGlaNorm.main_arg3))
      ∧ r.2.sem = fun _ => 0)

def quiescent_AdamGlaNormIdeal [hAdamGlaNormIdeal : Cert.AdamGlaNormIdeal.Facts] : Prop :=
  ∀ (m : (ℓ : Loc Cert.AdamGlaNormIdeal.nD Cert.AdamGlaNormIdeal.τ Cert.AdamGlaNormIdeal.sig) → Buf (Elt Ideal) ℓ) (g : Dev Cert.AdamGlaNormIdeal.nD → PrngReg), Pre_AdamGlaNormIdeal m →
    θ_run (Cert.AdamGlaNormIdeal.defs (F := Ideal)) (onTc (τ := Cert.AdamGlaNormIdeal.τ) (Cert.AdamGlaNormIdeal.main (F := Ideal))) ⟨m, fun _ => 0, g⟩ (fun r => (∀ c : Dev Cert.AdamGlaNormIdeal.nD,
      r.2.mem ((c.tc : Thread Cert.AdamGlaNormIdeal.nD Cert.AdamGlaNormIdeal.τ).loc Cert.AdamGlaNormIdeal.main_arg0) = m ((c.tc : Thread Cert.AdamGlaNormIdeal.nD Cert.AdamGlaNormIdeal.τ).loc Cert.AdamGlaNormIdeal.main_arg0)
      ∧ r.2.mem ((c.tc : Thread Cert.AdamGlaNormIdeal.nD Cert.AdamGlaNormIdeal.τ).loc Cert.AdamGlaNormIdeal.main_arg1) = m ((c.tc : Thread Cert.AdamGlaNormIdeal.nD Cert.AdamGlaNormIdeal.τ).loc Cert.AdamGlaNormIdeal.main_arg1)
      ∧ r.2.mem ((c.tc : Thread Cert.AdamGlaNormIdeal.nD Cert.AdamGlaNormIdeal.τ).loc Cert.AdamGlaNormIdeal.main_arg2) = m ((c.tc : Thread Cert.AdamGlaNormIdeal.nD Cert.AdamGlaNormIdeal.τ).loc Cert.AdamGlaNormIdeal.main_arg2)
      ∧ r.2.mem ((c.tc : Thread Cert.AdamGlaNormIdeal.nD Cert.AdamGlaNormIdeal.τ).loc Cert.AdamGlaNormIdeal.main_arg3) = m ((c.tc : Thread Cert.AdamGlaNormIdeal.nD Cert.AdamGlaNormIdeal.τ).loc Cert.AdamGlaNormIdeal.main_arg3))
      ∧ r.2.sem = fun _ => 0)

def quiescent_AdamGlaNormRefIdeal [hAdamGlaNormRefIdeal : Cert.AdamGlaNormRefIdeal.Facts] : Prop :=
  ∀ (m : (ℓ : Loc Cert.AdamGlaNormRefIdeal.nD Cert.AdamGlaNormRefIdeal.τ Cert.AdamGlaNormRefIdeal.sig) → Buf (Elt Ideal) ℓ) (g : Dev Cert.AdamGlaNormRefIdeal.nD → PrngReg), Pre_AdamGlaNormRefIdeal m →
    θ_run (Cert.AdamGlaNormRefIdeal.defs (F := Ideal)) (onTc (τ := Cert.AdamGlaNormRefIdeal.τ) (Cert.AdamGlaNormRefIdeal.main (F := Ideal))) ⟨m, fun _ => 0, g⟩ (fun r => (∀ c : Dev Cert.AdamGlaNormRefIdeal.nD,
      r.2.mem ((c.tc : Thread Cert.AdamGlaNormRefIdeal.nD Cert.AdamGlaNormRefIdeal.τ).loc Cert.AdamGlaNormRefIdeal.main_arg0) = m ((c.tc : Thread Cert.AdamGlaNormRefIdeal.nD Cert.AdamGlaNormRefIdeal.τ).loc Cert.AdamGlaNormRefIdeal.main_arg0)
      ∧ r.2.mem ((c.tc : Thread Cert.AdamGlaNormRefIdeal.nD Cert.AdamGlaNormRefIdeal.τ).loc Cert.AdamGlaNormRefIdeal.main_arg1) = m ((c.tc : Thread Cert.AdamGlaNormRefIdeal.nD Cert.AdamGlaNormRefIdeal.τ).loc Cert.AdamGlaNormRefIdeal.main_arg1)
      ∧ r.2.mem ((c.tc : Thread Cert.AdamGlaNormRefIdeal.nD Cert.AdamGlaNormRefIdeal.τ).loc Cert.AdamGlaNormRefIdeal.main_arg2) = m ((c.tc : Thread Cert.AdamGlaNormRefIdeal.nD Cert.AdamGlaNormRefIdeal.τ).loc Cert.AdamGlaNormRefIdeal.main_arg2)
      ∧ r.2.mem ((c.tc : Thread Cert.AdamGlaNormRefIdeal.nD Cert.AdamGlaNormRefIdeal.τ).loc Cert.AdamGlaNormRefIdeal.main_arg3) = m ((c.tc : Thread Cert.AdamGlaNormRefIdeal.nD Cert.AdamGlaNormRefIdeal.τ).loc Cert.AdamGlaNormRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamRank [hAdamRank : Cert.AdamRank.Facts] : Prop :=
  ∀ (m : (ℓ : Loc Cert.AdamRank.nD Cert.AdamRank.τ Cert.AdamRank.sig) → Buf (Elt Bits) ℓ) (g : Dev Cert.AdamRank.nD → PrngReg), Pre_AdamRank m →
    θ_run (Cert.AdamRank.defs (F := Bits)) (onTc (τ := Cert.AdamRank.τ) (Cert.AdamRank.main (F := Bits))) ⟨m, fun _ => 0, g⟩ (fun r => (∀ c : Dev Cert.AdamRank.nD,
      r.2.mem ((c.tc : Thread Cert.AdamRank.nD Cert.AdamRank.τ).loc Cert.AdamRank.main_arg0) = m ((c.tc : Thread Cert.AdamRank.nD Cert.AdamRank.τ).loc Cert.AdamRank.main_arg0)
      ∧ r.2.mem ((c.tc : Thread Cert.AdamRank.nD Cert.AdamRank.τ).loc Cert.AdamRank.main_arg1) = m ((c.tc : Thread Cert.AdamRank.nD Cert.AdamRank.τ).loc Cert.AdamRank.main_arg1)
      ∧ r.2.mem ((c.tc : Thread Cert.AdamRank.nD Cert.AdamRank.τ).loc Cert.AdamRank.main_arg2) = m ((c.tc : Thread Cert.AdamRank.nD Cert.AdamRank.τ).loc Cert.AdamRank.main_arg2)
      ∧ r.2.mem ((c.tc : Thread Cert.AdamRank.nD Cert.AdamRank.τ).loc Cert.AdamRank.main_arg3) = m ((c.tc : Thread Cert.AdamRank.nD Cert.AdamRank.τ).loc Cert.AdamRank.main_arg3))
      ∧ r.2.sem = fun _ => 0)

def quiescent_AdamRankIdeal [hAdamRankIdeal : Cert.AdamRankIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg), Pre_AdamRankIdeal m →
    θ_run (Cert.AdamRankIdeal.defs (F := Ideal)) (onTc (τ := Cert.AdamRankIdeal.τ) (Cert.AdamRankIdeal.main (F := Ideal))) ⟨m, fun _ => 0, g⟩ (fun r => (∀ c : Dev Cert.AdamRankIdeal.nD,
      r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
      ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
      ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
      ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ r.2.sem = fun _ => 0)

def quiescent_AdamRankRefIdeal [hAdamRankRefIdeal : Cert.AdamRankRefIdeal.Facts] : Prop :=
  ∀ (m : (ℓ : Loc Cert.AdamRankRefIdeal.nD Cert.AdamRankRefIdeal.τ Cert.AdamRankRefIdeal.sig) → Buf (Elt Ideal) ℓ) (g : Dev Cert.AdamRankRefIdeal.nD → PrngReg), Pre_AdamRankRefIdeal m →
    θ_run (Cert.AdamRankRefIdeal.defs (F := Ideal)) (onTc (τ := Cert.AdamRankRefIdeal.τ) (Cert.AdamRankRefIdeal.main (F := Ideal))) ⟨m, fun _ => 0, g⟩ (fun r => (∀ c : Dev Cert.AdamRankRefIdeal.nD,
      r.2.mem ((c.tc : Thread Cert.AdamRankRefIdeal.nD Cert.AdamRankRefIdeal.τ).loc Cert.AdamRankRefIdeal.main_arg0) = m ((c.tc : Thread Cert.AdamRankRefIdeal.nD Cert.AdamRankRefIdeal.τ).loc Cert.AdamRankRefIdeal.main_arg0)
      ∧ r.2.mem ((c.tc : Thread Cert.AdamRankRefIdeal.nD Cert.AdamRankRefIdeal.τ).loc Cert.AdamRankRefIdeal.main_arg1) = m ((c.tc : Thread Cert.AdamRankRefIdeal.nD Cert.AdamRankRefIdeal.τ).loc Cert.AdamRankRefIdeal.main_arg1)
      ∧ r.2.mem ((c.tc : Thread Cert.AdamRankRefIdeal.nD Cert.AdamRankRefIdeal.τ).loc Cert.AdamRankRefIdeal.main_arg2) = m ((c.tc : Thread Cert.AdamRankRefIdeal.nD Cert.AdamRankRefIdeal.τ).loc Cert.AdamRankRefIdeal.main_arg2)
      ∧ r.2.mem ((c.tc : Thread Cert.AdamRankRefIdeal.nD Cert.AdamRankRefIdeal.τ).loc Cert.AdamRankRefIdeal.main_arg3) = m ((c.tc : Thread Cert.AdamRankRefIdeal.nD Cert.AdamRankRefIdeal.τ).loc Cert.AdamRankRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamPoolBias [hAdamPoolBias : Cert.AdamPoolBias.Facts] : Prop :=
  ∀ (m : (ℓ : Loc Cert.AdamPoolBias.nD Cert.AdamPoolBias.τ Cert.AdamPoolBias.sig) → Buf (Elt Bits) ℓ) (g : Dev Cert.AdamPoolBias.nD → PrngReg), Pre_AdamPoolBias m →
    θ_run (Cert.AdamPoolBias.defs (F := Bits)) (onTc (τ := Cert.AdamPoolBias.τ) (Cert.AdamPoolBias.main (F := Bits))) ⟨m, fun _ => 0, g⟩ (fun r => (∀ c : Dev Cert.AdamPoolBias.nD,
      r.2.mem ((c.tc : Thread Cert.AdamPoolBias.nD Cert.AdamPoolBias.τ).loc Cert.AdamPoolBias.main_arg0) = m ((c.tc : Thread Cert.AdamPoolBias.nD Cert.AdamPoolBias.τ).loc Cert.AdamPoolBias.main_arg0)
      ∧ r.2.mem ((c.tc : Thread Cert.AdamPoolBias.nD Cert.AdamPoolBias.τ).loc Cert.AdamPoolBias.main_arg1) = m ((c.tc : Thread Cert.AdamPoolBias.nD Cert.AdamPoolBias.τ).loc Cert.AdamPoolBias.main_arg1)
      ∧ r.2.mem ((c.tc : Thread Cert.AdamPoolBias.nD Cert.AdamPoolBias.τ).loc Cert.AdamPoolBias.main_arg2) = m ((c.tc : Thread Cert.AdamPoolBias.nD Cert.AdamPoolBias.τ).loc Cert.AdamPoolBias.main_arg2)
      ∧ r.2.mem ((c.tc : Thread Cert.AdamPoolBias.nD Cert.AdamPoolBias.τ).loc Cert.AdamPoolBias.main_arg3) = m ((c.tc : Thread Cert.AdamPoolBias.nD Cert.AdamPoolBias.τ).loc Cert.AdamPoolBias.main_arg3))
      ∧ r.2.sem = fun _ => 0)

def quiescent_AdamPoolBiasIdeal [hAdamPoolBiasIdeal : Cert.AdamPoolBiasIdeal.Facts] : Prop :=
  ∀ (m : (ℓ : Loc Cert.AdamPoolBiasIdeal.nD Cert.AdamPoolBiasIdeal.τ Cert.AdamPoolBiasIdeal.sig) → Buf (Elt Ideal) ℓ) (g : Dev Cert.AdamPoolBiasIdeal.nD → PrngReg), Pre_AdamPoolBiasIdeal m →
    θ_run (Cert.AdamPoolBiasIdeal.defs (F := Ideal)) (onTc (τ := Cert.AdamPoolBiasIdeal.τ) (Cert.AdamPoolBiasIdeal.main (F := Ideal))) ⟨m, fun _ => 0, g⟩ (fun r => (∀ c : Dev Cert.AdamPoolBiasIdeal.nD,
      r.2.mem ((c.tc : Thread Cert.AdamPoolBiasIdeal.nD Cert.AdamPoolBiasIdeal.τ).loc Cert.AdamPoolBiasIdeal.main_arg0) = m ((c.tc : Thread Cert.AdamPoolBiasIdeal.nD Cert.AdamPoolBiasIdeal.τ).loc Cert.AdamPoolBiasIdeal.main_arg0)
      ∧ r.2.mem ((c.tc : Thread Cert.AdamPoolBiasIdeal.nD Cert.AdamPoolBiasIdeal.τ).loc Cert.AdamPoolBiasIdeal.main_arg1) = m ((c.tc : Thread Cert.AdamPoolBiasIdeal.nD Cert.AdamPoolBiasIdeal.τ).loc Cert.AdamPoolBiasIdeal.main_arg1)
      ∧ r.2.mem ((c.tc : Thread Cert.AdamPoolBiasIdeal.nD Cert.AdamPoolBiasIdeal.τ).loc Cert.AdamPoolBiasIdeal.main_arg2) = m ((c.tc : Thread Cert.AdamPoolBiasIdeal.nD Cert.AdamPoolBiasIdeal.τ).loc Cert.AdamPoolBiasIdeal.main_arg2)
      ∧ r.2.mem ((c.tc : Thread Cert.AdamPoolBiasIdeal.nD Cert.AdamPoolBiasIdeal.τ).loc Cert.AdamPoolBiasIdeal.main_arg3) = m ((c.tc : Thread Cert.AdamPoolBiasIdeal.nD Cert.AdamPoolBiasIdeal.τ).loc Cert.AdamPoolBiasIdeal.main_arg3))
      ∧ r.2.sem = fun _ => 0)

def quiescent_AdamPoolBiasRefIdeal [hAdamPoolBiasRefIdeal : Cert.AdamPoolBiasRefIdeal.Facts] : Prop :=
  ∀ (m : (ℓ : Loc Cert.AdamPoolBiasRefIdeal.nD Cert.AdamPoolBiasRefIdeal.τ Cert.AdamPoolBiasRefIdeal.sig) → Buf (Elt Ideal) ℓ) (g : Dev Cert.AdamPoolBiasRefIdeal.nD → PrngReg), Pre_AdamPoolBiasRefIdeal m →
    θ_run (Cert.AdamPoolBiasRefIdeal.defs (F := Ideal)) (onTc (τ := Cert.AdamPoolBiasRefIdeal.τ) (Cert.AdamPoolBiasRefIdeal.main (F := Ideal))) ⟨m, fun _ => 0, g⟩ (fun r => (∀ c : Dev Cert.AdamPoolBiasRefIdeal.nD,
      r.2.mem ((c.tc : Thread Cert.AdamPoolBiasRefIdeal.nD Cert.AdamPoolBiasRefIdeal.τ).loc Cert.AdamPoolBiasRefIdeal.main_arg0) = m ((c.tc : Thread Cert.AdamPoolBiasRefIdeal.nD Cert.AdamPoolBiasRefIdeal.τ).loc Cert.AdamPoolBiasRefIdeal.main_arg0)
      ∧ r.2.mem ((c.tc : Thread Cert.AdamPoolBiasRefIdeal.nD Cert.AdamPoolBiasRefIdeal.τ).loc Cert.AdamPoolBiasRefIdeal.main_arg1) = m ((c.tc : Thread Cert.AdamPoolBiasRefIdeal.nD Cert.AdamPoolBiasRefIdeal.τ).loc Cert.AdamPoolBiasRefIdeal.main_arg1)
      ∧ r.2.mem ((c.tc : Thread Cert.AdamPoolBiasRefIdeal.nD Cert.AdamPoolBiasRefIdeal.τ).loc Cert.AdamPoolBiasRefIdeal.main_arg2) = m ((c.tc : Thread Cert.AdamPoolBiasRefIdeal.nD Cert.AdamPoolBiasRefIdeal.τ).loc Cert.AdamPoolBiasRefIdeal.main_arg2)
      ∧ r.2.mem ((c.tc : Thread Cert.AdamPoolBiasRefIdeal.nD Cert.AdamPoolBiasRefIdeal.τ).loc Cert.AdamPoolBiasRefIdeal.main_arg3) = m ((c.tc : Thread Cert.AdamPoolBiasRefIdeal.nD Cert.AdamPoolBiasRefIdeal.τ).loc Cert.AdamPoolBiasRefIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_AdamFinalRefIdeal [hAdamFinalRefIdeal : Cert.AdamFinalRefIdeal.Facts] : Prop :=
  ∀ (m : (ℓ : Loc Cert.AdamFinalRefIdeal.nD Cert.AdamFinalRefIdeal.τ Cert.AdamFinalRefIdeal.sig) → Buf (Elt Ideal) ℓ) (g : Dev Cert.AdamFinalRefIdeal.nD → PrngReg), Pre_AdamFinalRefIdeal m →
    θ_run (Cert.AdamFinalRefIdeal.defs (F := Ideal)) (onTc (τ := Cert.AdamFinalRefIdeal.τ) (Cert.AdamFinalRefIdeal.main (F := Ideal))) ⟨m, fun _ => 0, g⟩ (fun r => (∀ c : Dev Cert.AdamFinalRefIdeal.nD,
      r.2.mem ((c.tc : Thread Cert.AdamFinalRefIdeal.nD Cert.AdamFinalRefIdeal.τ).loc Cert.AdamFinalRefIdeal.main_arg0) = m ((c.tc : Thread Cert.AdamFinalRefIdeal.nD Cert.AdamFinalRefIdeal.τ).loc Cert.AdamFinalRefIdeal.main_arg0)
      ∧ r.2.mem ((c.tc : Thread Cert.AdamFinalRefIdeal.nD Cert.AdamFinalRefIdeal.τ).loc Cert.AdamFinalRefIdeal.main_arg1) = m ((c.tc : Thread Cert.AdamFinalRefIdeal.nD Cert.AdamFinalRefIdeal.τ).loc Cert.AdamFinalRefIdeal.main_arg1)
      ∧ r.2.mem ((c.tc : Thread Cert.AdamFinalRefIdeal.nD Cert.AdamFinalRefIdeal.τ).loc Cert.AdamFinalRefIdeal.main_arg2) = m ((c.tc : Thread Cert.AdamFinalRefIdeal.nD Cert.AdamFinalRefIdeal.τ).loc Cert.AdamFinalRefIdeal.main_arg2)
      ∧ r.2.mem ((c.tc : Thread Cert.AdamFinalRefIdeal.nD Cert.AdamFinalRefIdeal.τ).loc Cert.AdamFinalRefIdeal.main_arg3) = m ((c.tc : Thread Cert.AdamFinalRefIdeal.nD Cert.AdamFinalRefIdeal.τ).loc Cert.AdamFinalRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1))
      ∧ r.2.sem = fun _ => 0)

def quiescent_GlaProjW [hGlaProjW : Cert.GlaProjW.Facts] : Prop :=
  ∀ (m : (ℓ : Loc Cert.GlaProjW.nD Cert.GlaProjW.τ Cert.GlaProjW.sig) → Buf (Elt Bits) ℓ) (g : Dev Cert.GlaProjW.nD → PrngReg), Pre_GlaProjW m →
    θ_run (Cert.GlaProjW.defs (F := Bits)) (onTc (τ := Cert.GlaProjW.τ) (Cert.GlaProjW.main (F := Bits))) ⟨m, fun _ => 0, g⟩ (fun r => (∀ c : Dev Cert.GlaProjW.nD,
      r.2.mem ((c.tc : Thread Cert.GlaProjW.nD Cert.GlaProjW.τ).loc Cert.GlaProjW.main_arg0) = m ((c.tc : Thread Cert.GlaProjW.nD Cert.GlaProjW.τ).loc Cert.GlaProjW.main_arg0)
      ∧ r.2.mem ((c.tc : Thread Cert.GlaProjW.nD Cert.GlaProjW.τ).loc Cert.GlaProjW.main_arg1) = m ((c.tc : Thread Cert.GlaProjW.nD Cert.GlaProjW.τ).loc Cert.GlaProjW.main_arg1))
      ∧ r.2.sem = fun _ => 0)

def quiescent_GlaProjWIdeal [hGlaProjWIdeal : Cert.GlaProjWIdeal.Facts] : Prop :=
  ∀ (m : (ℓ : Loc Cert.GlaProjWIdeal.nD Cert.GlaProjWIdeal.τ Cert.GlaProjWIdeal.sig) → Buf (Elt Ideal) ℓ) (g : Dev Cert.GlaProjWIdeal.nD → PrngReg), Pre_GlaProjWIdeal m →
    θ_run (Cert.GlaProjWIdeal.defs (F := Ideal)) (onTc (τ := Cert.GlaProjWIdeal.τ) (Cert.GlaProjWIdeal.main (F := Ideal))) ⟨m, fun _ => 0, g⟩ (fun r => (∀ c : Dev Cert.GlaProjWIdeal.nD,
      r.2.mem ((c.tc : Thread Cert.GlaProjWIdeal.nD Cert.GlaProjWIdeal.τ).loc Cert.GlaProjWIdeal.main_arg0) = m ((c.tc : Thread Cert.GlaProjWIdeal.nD Cert.GlaProjWIdeal.τ).loc Cert.GlaProjWIdeal.main_arg0)
      ∧ r.2.mem ((c.tc : Thread Cert.GlaProjWIdeal.nD Cert.GlaProjWIdeal.τ).loc Cert.GlaProjWIdeal.main_arg1) = m ((c.tc : Thread Cert.GlaProjWIdeal.nD Cert.GlaProjWIdeal.τ).loc Cert.GlaProjWIdeal.main_arg1))
      ∧ r.2.sem = fun _ => 0)

def quiescent_GlaProjWRefIdeal [hGlaProjWRefIdeal : Cert.GlaProjWRefIdeal.Facts] : Prop :=
  ∀ (m : (ℓ : Loc Cert.GlaProjWRefIdeal.nD Cert.GlaProjWRefIdeal.τ Cert.GlaProjWRefIdeal.sig) → Buf (Elt Ideal) ℓ) (g : Dev Cert.GlaProjWRefIdeal.nD → PrngReg), Pre_GlaProjWRefIdeal m →
    θ_run (Cert.GlaProjWRefIdeal.defs (F := Ideal)) (onTc (τ := Cert.GlaProjWRefIdeal.τ) (Cert.GlaProjWRefIdeal.main (F := Ideal))) ⟨m, fun _ => 0, g⟩ (fun r => (∀ c : Dev Cert.GlaProjWRefIdeal.nD,
      r.2.mem ((c.tc : Thread Cert.GlaProjWRefIdeal.nD Cert.GlaProjWRefIdeal.τ).loc Cert.GlaProjWRefIdeal.main_arg0) = m ((c.tc : Thread Cert.GlaProjWRefIdeal.nD Cert.GlaProjWRefIdeal.τ).loc Cert.GlaProjWRefIdeal.main_arg0)
      ∧ r.2.mem ((c.tc : Thread Cert.GlaProjWRefIdeal.nD Cert.GlaProjWRefIdeal.τ).loc Cert.GlaProjWRefIdeal.main_arg1) = m ((c.tc : Thread Cert.GlaProjWRefIdeal.nD Cert.GlaProjWRefIdeal.τ).loc Cert.GlaProjWRefIdeal.main_arg1))
      ∧ r.2.sem = fun _ => 0)

def quiescent_GlaProjH [hGlaProjH : Cert.GlaProjH.Facts] : Prop :=
  ∀ (m : (ℓ : Loc Cert.GlaProjH.nD Cert.GlaProjH.τ Cert.GlaProjH.sig) → Buf (Elt Bits) ℓ) (g : Dev Cert.GlaProjH.nD → PrngReg), Pre_GlaProjH m →
    θ_run (Cert.GlaProjH.defs (F := Bits)) (onTc (τ := Cert.GlaProjH.τ) (Cert.GlaProjH.main (F := Bits))) ⟨m, fun _ => 0, g⟩ (fun r => (∀ c : Dev Cert.GlaProjH.nD,
      r.2.mem ((c.tc : Thread Cert.GlaProjH.nD Cert.GlaProjH.τ).loc Cert.GlaProjH.main_arg0) = m ((c.tc : Thread Cert.GlaProjH.nD Cert.GlaProjH.τ).loc Cert.GlaProjH.main_arg0)
      ∧ r.2.mem ((c.tc : Thread Cert.GlaProjH.nD Cert.GlaProjH.τ).loc Cert.GlaProjH.main_arg1) = m ((c.tc : Thread Cert.GlaProjH.nD Cert.GlaProjH.τ).loc Cert.GlaProjH.main_arg1))
      ∧ r.2.sem = fun _ => 0)

def quiescent_GlaProjHIdeal [hGlaProjHIdeal : Cert.GlaProjHIdeal.Facts] : Prop :=
  ∀ (m : (ℓ : Loc Cert.GlaProjHIdeal.nD Cert.GlaProjHIdeal.τ Cert.GlaProjHIdeal.sig) → Buf (Elt Ideal) ℓ) (g : Dev Cert.GlaProjHIdeal.nD → PrngReg), Pre_GlaProjHIdeal m →
    θ_run (Cert.GlaProjHIdeal.defs (F := Ideal)) (onTc (τ := Cert.GlaProjHIdeal.τ) (Cert.GlaProjHIdeal.main (F := Ideal))) ⟨m, fun _ => 0, g⟩ (fun r => (∀ c : Dev Cert.GlaProjHIdeal.nD,
      r.2.mem ((c.tc : Thread Cert.GlaProjHIdeal.nD Cert.GlaProjHIdeal.τ).loc Cert.GlaProjHIdeal.main_arg0) = m ((c.tc : Thread Cert.GlaProjHIdeal.nD Cert.GlaProjHIdeal.τ).loc Cert.GlaProjHIdeal.main_arg0)
      ∧ r.2.mem ((c.tc : Thread Cert.GlaProjHIdeal.nD Cert.GlaProjHIdeal.τ).loc Cert.GlaProjHIdeal.main_arg1) = m ((c.tc : Thread Cert.GlaProjHIdeal.nD Cert.GlaProjHIdeal.τ).loc Cert.GlaProjHIdeal.main_arg1))
      ∧ r.2.sem = fun _ => 0)

def quiescent_GlaProjHRefIdeal [hGlaProjHRefIdeal : Cert.GlaProjHRefIdeal.Facts] : Prop :=
  ∀ (m : (ℓ : Loc Cert.GlaProjHRefIdeal.nD Cert.GlaProjHRefIdeal.τ Cert.GlaProjHRefIdeal.sig) → Buf (Elt Ideal) ℓ) (g : Dev Cert.GlaProjHRefIdeal.nD → PrngReg), Pre_GlaProjHRefIdeal m →
    θ_run (Cert.GlaProjHRefIdeal.defs (F := Ideal)) (onTc (τ := Cert.GlaProjHRefIdeal.τ) (Cert.GlaProjHRefIdeal.main (F := Ideal))) ⟨m, fun _ => 0, g⟩ (fun r => (∀ c : Dev Cert.GlaProjHRefIdeal.nD,
      r.2.mem ((c.tc : Thread Cert.GlaProjHRefIdeal.nD Cert.GlaProjHRefIdeal.τ).loc Cert.GlaProjHRefIdeal.main_arg0) = m ((c.tc : Thread Cert.GlaProjHRefIdeal.nD Cert.GlaProjHRefIdeal.τ).loc Cert.GlaProjHRefIdeal.main_arg0)
      ∧ r.2.mem ((c.tc : Thread Cert.GlaProjHRefIdeal.nD Cert.GlaProjHRefIdeal.τ).loc Cert.GlaProjHRefIdeal.main_arg1) = m ((c.tc : Thread Cert.GlaProjHRefIdeal.nD Cert.GlaProjHRefIdeal.τ).loc Cert.GlaProjHRefIdeal.main_arg1))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2))
      ∧ r.2.sem = fun _ => 0)

def quiescent_GlaOutW [hGlaOutW : Cert.GlaOutW.Facts] : Prop :=
  ∀ (m : (ℓ : Loc Cert.GlaOutW.nD Cert.GlaOutW.τ Cert.GlaOutW.sig) → Buf (Elt Bits) ℓ) (g : Dev Cert.GlaOutW.nD → PrngReg), Pre_GlaOutW m →
    θ_run (Cert.GlaOutW.defs (F := Bits)) (onTc (τ := Cert.GlaOutW.τ) (Cert.GlaOutW.main (F := Bits))) ⟨m, fun _ => 0, g⟩ (fun r => (∀ c : Dev Cert.GlaOutW.nD,
      r.2.mem ((c.tc : Thread Cert.GlaOutW.nD Cert.GlaOutW.τ).loc Cert.GlaOutW.main_arg0) = m ((c.tc : Thread Cert.GlaOutW.nD Cert.GlaOutW.τ).loc Cert.GlaOutW.main_arg0)
      ∧ r.2.mem ((c.tc : Thread Cert.GlaOutW.nD Cert.GlaOutW.τ).loc Cert.GlaOutW.main_arg1) = m ((c.tc : Thread Cert.GlaOutW.nD Cert.GlaOutW.τ).loc Cert.GlaOutW.main_arg1))
      ∧ r.2.sem = fun _ => 0)

def quiescent_GlaOutWIdeal [hGlaOutWIdeal : Cert.GlaOutWIdeal.Facts] : Prop :=
  ∀ (m : (ℓ : Loc Cert.GlaOutWIdeal.nD Cert.GlaOutWIdeal.τ Cert.GlaOutWIdeal.sig) → Buf (Elt Ideal) ℓ) (g : Dev Cert.GlaOutWIdeal.nD → PrngReg), Pre_GlaOutWIdeal m →
    θ_run (Cert.GlaOutWIdeal.defs (F := Ideal)) (onTc (τ := Cert.GlaOutWIdeal.τ) (Cert.GlaOutWIdeal.main (F := Ideal))) ⟨m, fun _ => 0, g⟩ (fun r => (∀ c : Dev Cert.GlaOutWIdeal.nD,
      r.2.mem ((c.tc : Thread Cert.GlaOutWIdeal.nD Cert.GlaOutWIdeal.τ).loc Cert.GlaOutWIdeal.main_arg0) = m ((c.tc : Thread Cert.GlaOutWIdeal.nD Cert.GlaOutWIdeal.τ).loc Cert.GlaOutWIdeal.main_arg0)
      ∧ r.2.mem ((c.tc : Thread Cert.GlaOutWIdeal.nD Cert.GlaOutWIdeal.τ).loc Cert.GlaOutWIdeal.main_arg1) = m ((c.tc : Thread Cert.GlaOutWIdeal.nD Cert.GlaOutWIdeal.τ).loc Cert.GlaOutWIdeal.main_arg1))
      ∧ r.2.sem = fun _ => 0)

def quiescent_GlaOutWRefIdeal [hGlaOutWRefIdeal : Cert.GlaOutWRefIdeal.Facts] : Prop :=
  ∀ (m : (ℓ : Loc Cert.GlaOutWRefIdeal.nD Cert.GlaOutWRefIdeal.τ Cert.GlaOutWRefIdeal.sig) → Buf (Elt Ideal) ℓ) (g : Dev Cert.GlaOutWRefIdeal.nD → PrngReg), Pre_GlaOutWRefIdeal m →
    θ_run (Cert.GlaOutWRefIdeal.defs (F := Ideal)) (onTc (τ := Cert.GlaOutWRefIdeal.τ) (Cert.GlaOutWRefIdeal.main (F := Ideal))) ⟨m, fun _ => 0, g⟩ (fun r => (∀ c : Dev Cert.GlaOutWRefIdeal.nD,
      r.2.mem ((c.tc : Thread Cert.GlaOutWRefIdeal.nD Cert.GlaOutWRefIdeal.τ).loc Cert.GlaOutWRefIdeal.main_arg0) = m ((c.tc : Thread Cert.GlaOutWRefIdeal.nD Cert.GlaOutWRefIdeal.τ).loc Cert.GlaOutWRefIdeal.main_arg0)
      ∧ r.2.mem ((c.tc : Thread Cert.GlaOutWRefIdeal.nD Cert.GlaOutWRefIdeal.τ).loc Cert.GlaOutWRefIdeal.main_arg1) = m ((c.tc : Thread Cert.GlaOutWRefIdeal.nD Cert.GlaOutWRefIdeal.τ).loc Cert.GlaOutWRefIdeal.main_arg1))
      ∧ r.2.sem = fun _ => 0)

def quiescent_GlaOutH [hGlaOutH : Cert.GlaOutH.Facts] : Prop :=
  ∀ (m : (ℓ : Loc Cert.GlaOutH.nD Cert.GlaOutH.τ Cert.GlaOutH.sig) → Buf (Elt Bits) ℓ) (g : Dev Cert.GlaOutH.nD → PrngReg), Pre_GlaOutH m →
    θ_run (Cert.GlaOutH.defs (F := Bits)) (onTc (τ := Cert.GlaOutH.τ) (Cert.GlaOutH.main (F := Bits))) ⟨m, fun _ => 0, g⟩ (fun r => (∀ c : Dev Cert.GlaOutH.nD,
      r.2.mem ((c.tc : Thread Cert.GlaOutH.nD Cert.GlaOutH.τ).loc Cert.GlaOutH.main_arg0) = m ((c.tc : Thread Cert.GlaOutH.nD Cert.GlaOutH.τ).loc Cert.GlaOutH.main_arg0)
      ∧ r.2.mem ((c.tc : Thread Cert.GlaOutH.nD Cert.GlaOutH.τ).loc Cert.GlaOutH.main_arg1) = m ((c.tc : Thread Cert.GlaOutH.nD Cert.GlaOutH.τ).loc Cert.GlaOutH.main_arg1))
      ∧ r.2.sem = fun _ => 0)

def quiescent_GlaOutHIdeal [hGlaOutHIdeal : Cert.GlaOutHIdeal.Facts] : Prop :=
  ∀ (m : (ℓ : Loc Cert.GlaOutHIdeal.nD Cert.GlaOutHIdeal.τ Cert.GlaOutHIdeal.sig) → Buf (Elt Ideal) ℓ) (g : Dev Cert.GlaOutHIdeal.nD → PrngReg), Pre_GlaOutHIdeal m →
    θ_run (Cert.GlaOutHIdeal.defs (F := Ideal)) (onTc (τ := Cert.GlaOutHIdeal.τ) (Cert.GlaOutHIdeal.main (F := Ideal))) ⟨m, fun _ => 0, g⟩ (fun r => (∀ c : Dev Cert.GlaOutHIdeal.nD,
      r.2.mem ((c.tc : Thread Cert.GlaOutHIdeal.nD Cert.GlaOutHIdeal.τ).loc Cert.GlaOutHIdeal.main_arg0) = m ((c.tc : Thread Cert.GlaOutHIdeal.nD Cert.GlaOutHIdeal.τ).loc Cert.GlaOutHIdeal.main_arg0)
      ∧ r.2.mem ((c.tc : Thread Cert.GlaOutHIdeal.nD Cert.GlaOutHIdeal.τ).loc Cert.GlaOutHIdeal.main_arg1) = m ((c.tc : Thread Cert.GlaOutHIdeal.nD Cert.GlaOutHIdeal.τ).loc Cert.GlaOutHIdeal.main_arg1))
      ∧ r.2.sem = fun _ => 0)

def quiescent_GlaOutHRefIdeal [hGlaOutHRefIdeal : Cert.GlaOutHRefIdeal.Facts] : Prop :=
  ∀ (m : (ℓ : Loc Cert.GlaOutHRefIdeal.nD Cert.GlaOutHRefIdeal.τ Cert.GlaOutHRefIdeal.sig) → Buf (Elt Ideal) ℓ) (g : Dev Cert.GlaOutHRefIdeal.nD → PrngReg), Pre_GlaOutHRefIdeal m →
    θ_run (Cert.GlaOutHRefIdeal.defs (F := Ideal)) (onTc (τ := Cert.GlaOutHRefIdeal.τ) (Cert.GlaOutHRefIdeal.main (F := Ideal))) ⟨m, fun _ => 0, g⟩ (fun r => (∀ c : Dev Cert.GlaOutHRefIdeal.nD,
      r.2.mem ((c.tc : Thread Cert.GlaOutHRefIdeal.nD Cert.GlaOutHRefIdeal.τ).loc Cert.GlaOutHRefIdeal.main_arg0) = m ((c.tc : Thread Cert.GlaOutHRefIdeal.nD Cert.GlaOutHRefIdeal.τ).loc Cert.GlaOutHRefIdeal.main_arg0)
      ∧ r.2.mem ((c.tc : Thread Cert.GlaOutHRefIdeal.nD Cert.GlaOutHRefIdeal.τ).loc Cert.GlaOutHRefIdeal.main_arg1) = m ((c.tc : Thread Cert.GlaOutHRefIdeal.nD Cert.GlaOutHRefIdeal.τ).loc Cert.GlaOutHRefIdeal.main_arg1))
      ∧ r.2.sem = fun _ => 0)

def quiescent_PairUp [hPairUp : Cert.PairUp.Facts] : Prop :=
  ∀ (m : (ℓ : Loc Cert.PairUp.nD Cert.PairUp.τ Cert.PairUp.sig) → Buf (Elt Bits) ℓ) (g : Dev Cert.PairUp.nD → PrngReg), Pre_PairUp m →
    θ_run (Cert.PairUp.defs (F := Bits)) (onTc (τ := Cert.PairUp.τ) (Cert.PairUp.main (F := Bits))) ⟨m, fun _ => 0, g⟩ (fun r => (∀ c : Dev Cert.PairUp.nD,
      r.2.mem ((c.tc : Thread Cert.PairUp.nD Cert.PairUp.τ).loc Cert.PairUp.main_arg0) = m ((c.tc : Thread Cert.PairUp.nD Cert.PairUp.τ).loc Cert.PairUp.main_arg0)
      ∧ r.2.mem ((c.tc : Thread Cert.PairUp.nD Cert.PairUp.τ).loc Cert.PairUp.main_arg1) = m ((c.tc : Thread Cert.PairUp.nD Cert.PairUp.τ).loc Cert.PairUp.main_arg1))
      ∧ r.2.sem = fun _ => 0)

def quiescent_PairUpIdeal [hPairUpIdeal : Cert.PairUpIdeal.Facts] : Prop :=
  ∀ (m : (ℓ : Loc Cert.PairUpIdeal.nD Cert.PairUpIdeal.τ Cert.PairUpIdeal.sig) → Buf (Elt Ideal) ℓ) (g : Dev Cert.PairUpIdeal.nD → PrngReg), Pre_PairUpIdeal m →
    θ_run (Cert.PairUpIdeal.defs (F := Ideal)) (onTc (τ := Cert.PairUpIdeal.τ) (Cert.PairUpIdeal.main (F := Ideal))) ⟨m, fun _ => 0, g⟩ (fun r => (∀ c : Dev Cert.PairUpIdeal.nD,
      r.2.mem ((c.tc : Thread Cert.PairUpIdeal.nD Cert.PairUpIdeal.τ).loc Cert.PairUpIdeal.main_arg0) = m ((c.tc : Thread Cert.PairUpIdeal.nD Cert.PairUpIdeal.τ).loc Cert.PairUpIdeal.main_arg0)
      ∧ r.2.mem ((c.tc : Thread Cert.PairUpIdeal.nD Cert.PairUpIdeal.τ).loc Cert.PairUpIdeal.main_arg1) = m ((c.tc : Thread Cert.PairUpIdeal.nD Cert.PairUpIdeal.τ).loc Cert.PairUpIdeal.main_arg1))
      ∧ r.2.sem = fun _ => 0)

def quiescent_PairUpRefIdeal [hPairUpRefIdeal : Cert.PairUpRefIdeal.Facts] : Prop :=
  ∀ (m : (ℓ : Loc Cert.PairUpRefIdeal.nD Cert.PairUpRefIdeal.τ Cert.PairUpRefIdeal.sig) → Buf (Elt Ideal) ℓ) (g : Dev Cert.PairUpRefIdeal.nD → PrngReg), Pre_PairUpRefIdeal m →
    θ_run (Cert.PairUpRefIdeal.defs (F := Ideal)) (onTc (τ := Cert.PairUpRefIdeal.τ) (Cert.PairUpRefIdeal.main (F := Ideal))) ⟨m, fun _ => 0, g⟩ (fun r => (∀ c : Dev Cert.PairUpRefIdeal.nD,
      r.2.mem ((c.tc : Thread Cert.PairUpRefIdeal.nD Cert.PairUpRefIdeal.τ).loc Cert.PairUpRefIdeal.main_arg0) = m ((c.tc : Thread Cert.PairUpRefIdeal.nD Cert.PairUpRefIdeal.τ).loc Cert.PairUpRefIdeal.main_arg0)
      ∧ r.2.mem ((c.tc : Thread Cert.PairUpRefIdeal.nD Cert.PairUpRefIdeal.τ).loc Cert.PairUpRefIdeal.main_arg1) = m ((c.tc : Thread Cert.PairUpRefIdeal.nD Cert.PairUpRefIdeal.τ).loc Cert.PairUpRefIdeal.main_arg1))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1))
      ∧ r.2.sem = fun _ => 0)

def quiescent_PairDown [hPairDown : Cert.PairDown.Facts] : Prop :=
  ∀ (m : (ℓ : Loc Cert.PairDown.nD Cert.PairDown.τ Cert.PairDown.sig) → Buf (Elt Bits) ℓ) (g : Dev Cert.PairDown.nD → PrngReg), Pre_PairDown m →
    θ_run (Cert.PairDown.defs (F := Bits)) (onTc (τ := Cert.PairDown.τ) (Cert.PairDown.main (F := Bits))) ⟨m, fun _ => 0, g⟩ (fun r => (∀ c : Dev Cert.PairDown.nD,
      r.2.mem ((c.tc : Thread Cert.PairDown.nD Cert.PairDown.τ).loc Cert.PairDown.main_arg0) = m ((c.tc : Thread Cert.PairDown.nD Cert.PairDown.τ).loc Cert.PairDown.main_arg0)
      ∧ r.2.mem ((c.tc : Thread Cert.PairDown.nD Cert.PairDown.τ).loc Cert.PairDown.main_arg1) = m ((c.tc : Thread Cert.PairDown.nD Cert.PairDown.τ).loc Cert.PairDown.main_arg1))
      ∧ r.2.sem = fun _ => 0)

def quiescent_PairDownIdeal [hPairDownIdeal : Cert.PairDownIdeal.Facts] : Prop :=
  ∀ (m : (ℓ : Loc Cert.PairDownIdeal.nD Cert.PairDownIdeal.τ Cert.PairDownIdeal.sig) → Buf (Elt Ideal) ℓ) (g : Dev Cert.PairDownIdeal.nD → PrngReg), Pre_PairDownIdeal m →
    θ_run (Cert.PairDownIdeal.defs (F := Ideal)) (onTc (τ := Cert.PairDownIdeal.τ) (Cert.PairDownIdeal.main (F := Ideal))) ⟨m, fun _ => 0, g⟩ (fun r => (∀ c : Dev Cert.PairDownIdeal.nD,
      r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
      ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1))
      ∧ r.2.sem = fun _ => 0)

def quiescent_PairDownRefIdeal [hPairDownRefIdeal : Cert.PairDownRefIdeal.Facts] : Prop :=
  ∀ (m : (ℓ : Loc Cert.PairDownRefIdeal.nD Cert.PairDownRefIdeal.τ Cert.PairDownRefIdeal.sig) → Buf (Elt Ideal) ℓ) (g : Dev Cert.PairDownRefIdeal.nD → PrngReg), Pre_PairDownRefIdeal m →
    θ_run (Cert.PairDownRefIdeal.defs (F := Ideal)) (onTc (τ := Cert.PairDownRefIdeal.τ) (Cert.PairDownRefIdeal.main (F := Ideal))) ⟨m, fun _ => 0, g⟩ (fun r => (∀ c : Dev Cert.PairDownRefIdeal.nD,
      r.2.mem ((c.tc : Thread Cert.PairDownRefIdeal.nD Cert.PairDownRefIdeal.τ).loc Cert.PairDownRefIdeal.main_arg0) = m ((c.tc : Thread Cert.PairDownRefIdeal.nD Cert.PairDownRefIdeal.τ).loc Cert.PairDownRefIdeal.main_arg0)
      ∧ r.2.mem ((c.tc : Thread Cert.PairDownRefIdeal.nD Cert.PairDownRefIdeal.τ).loc Cert.PairDownRefIdeal.main_arg1) = m ((c.tc : Thread Cert.PairDownRefIdeal.nD Cert.PairDownRefIdeal.τ).loc Cert.PairDownRefIdeal.main_arg1))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0)
      ∧ r.2.mem ((c.tc : Thread Cert.SumDown.nD Cert.SumDown.τ).loc Cert.SumDown.main_arg1) = m ((c.tc : Thread Cert.SumDown.nD Cert.SumDown.τ).loc Cert.SumDown.main_arg1))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
      ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0)
      ∧ r.2.mem ((c.tc : Thread Cert.SumDownRefIdeal.nD Cert.SumDownRefIdeal.τ).loc Cert.SumDownRefIdeal.main_arg1) = m ((c.tc : Thread Cert.SumDownRefIdeal.nD Cert.SumDownRefIdeal.τ).loc Cert.SumDownRefIdeal.main_arg1))
      ∧ r.2.sem = fun _ => 0)

def quiescent_PairIn [hPairIn : Cert.PairIn.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1))
      ∧ r.2.sem = fun _ => 0)

def quiescent_PairInIdeal [hPairInIdeal : Cert.PairInIdeal.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ r.2.sem = fun _ => 0)

def quiescent_PairInRefIdeal [hPairInRefIdeal : Cert.PairInRefIdeal.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1))
      ∧ r.2.sem = fun _ => 0)

def quiescent_PairOut [hPairOut : Cert.PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1))
      ∧ r.2.sem = fun _ => 0)

def quiescent_PairOutIdeal [hPairOutIdeal : Cert.PairOutIdeal.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1))
      ∧ r.2.sem = fun _ => 0)

def quiescent_PairPool [hPairPool : Cert.PairPool.Facts] : Prop :=
  ∀ (m : (ℓ : Loc Cert.PairPool.nD Cert.PairPool.τ Cert.PairPool.sig) → Buf (Elt Bits) ℓ) (g : Dev Cert.PairPool.nD → PrngReg), Pre_PairPool m →
    θ_run (Cert.PairPool.defs (F := Bits)) (onTc (τ := Cert.PairPool.τ) (Cert.PairPool.main (F := Bits))) ⟨m, fun _ => 0, g⟩ (fun r => (∀ c : Dev Cert.PairPool.nD,
      r.2.mem ((c.tc : Thread Cert.PairPool.nD Cert.PairPool.τ).loc Cert.PairPool.main_arg0) = m ((c.tc : Thread Cert.PairPool.nD Cert.PairPool.τ).loc Cert.PairPool.main_arg0)
      ∧ r.2.mem ((c.tc : Thread Cert.PairPool.nD Cert.PairPool.τ).loc Cert.PairPool.main_arg1) = m ((c.tc : Thread Cert.PairPool.nD Cert.PairPool.τ).loc Cert.PairPool.main_arg1))
      ∧ r.2.sem = fun _ => 0)

def quiescent_PairPoolIdeal [hPairPoolIdeal : Cert.PairPoolIdeal.Facts] : Prop :=
  ∀ (m : (ℓ : Loc Cert.PairPoolIdeal.nD Cert.PairPoolIdeal.τ Cert.PairPoolIdeal.sig) → Buf (Elt Ideal) ℓ) (g : Dev Cert.PairPoolIdeal.nD → PrngReg), Pre_PairPoolIdeal m →
    θ_run (Cert.PairPoolIdeal.defs (F := Ideal)) (onTc (τ := Cert.PairPoolIdeal.τ) (Cert.PairPoolIdeal.main (F := Ideal))) ⟨m, fun _ => 0, g⟩ (fun r => (∀ c : Dev Cert.PairPoolIdeal.nD,
      r.2.mem ((c.tc : Thread Cert.PairPoolIdeal.nD Cert.PairPoolIdeal.τ).loc Cert.PairPoolIdeal.main_arg0) = m ((c.tc : Thread Cert.PairPoolIdeal.nD Cert.PairPoolIdeal.τ).loc Cert.PairPoolIdeal.main_arg0)
      ∧ r.2.mem ((c.tc : Thread Cert.PairPoolIdeal.nD Cert.PairPoolIdeal.τ).loc Cert.PairPoolIdeal.main_arg1) = m ((c.tc : Thread Cert.PairPoolIdeal.nD Cert.PairPoolIdeal.τ).loc Cert.PairPoolIdeal.main_arg1))
      ∧ r.2.sem = fun _ => 0)

def quiescent_PairPoolRefIdeal [hPairPoolRefIdeal : Cert.PairPoolRefIdeal.Facts] : Prop :=
  ∀ (m : (ℓ : Loc Cert.PairPoolRefIdeal.nD Cert.PairPoolRefIdeal.τ Cert.PairPoolRefIdeal.sig) → Buf (Elt Ideal) ℓ) (g : Dev Cert.PairPoolRefIdeal.nD → PrngReg), Pre_PairPoolRefIdeal m →
    θ_run (Cert.PairPoolRefIdeal.defs (F := Ideal)) (onTc (τ := Cert.PairPoolRefIdeal.τ) (Cert.PairPoolRefIdeal.main (F := Ideal))) ⟨m, fun _ => 0, g⟩ (fun r => (∀ c : Dev Cert.PairPoolRefIdeal.nD,
      r.2.mem ((c.tc : Thread Cert.PairPoolRefIdeal.nD Cert.PairPoolRefIdeal.τ).loc Cert.PairPoolRefIdeal.main_arg0) = m ((c.tc : Thread Cert.PairPoolRefIdeal.nD Cert.PairPoolRefIdeal.τ).loc Cert.PairPoolRefIdeal.main_arg0)
      ∧ r.2.mem ((c.tc : Thread Cert.PairPoolRefIdeal.nD Cert.PairPoolRefIdeal.τ).loc Cert.PairPoolRefIdeal.main_arg1) = m ((c.tc : Thread Cert.PairPoolRefIdeal.nD Cert.PairPoolRefIdeal.τ).loc Cert.PairPoolRefIdeal.main_arg1))
      ∧ r.2.sem = fun _ => 0)

def quiescent_SumPool [hSumPool : Cert.SumPool.Facts] : Prop :=
  ∀ (m : (ℓ : Loc Cert.SumPool.nD Cert.SumPool.τ Cert.SumPool.sig) → Buf (Elt Bits) ℓ) (g : Dev Cert.SumPool.nD → PrngReg), Pre_SumPool m →
    θ_run (Cert.SumPool.defs (F := Bits)) (onTc (τ := Cert.SumPool.τ) (Cert.SumPool.main (F := Bits))) ⟨m, fun _ => 0, g⟩ (fun r => (∀ c : Dev Cert.SumPool.nD,
      r.2.mem ((c.tc : Thread Cert.SumPool.nD Cert.SumPool.τ).loc Cert.SumPool.main_arg0) = m ((c.tc : Thread Cert.SumPool.nD Cert.SumPool.τ).loc Cert.SumPool.main_arg0)
      ∧ r.2.mem ((c.tc : Thread Cert.SumPool.nD Cert.SumPool.τ).loc Cert.SumPool.main_arg1) = m ((c.tc : Thread Cert.SumPool.nD Cert.SumPool.τ).loc Cert.SumPool.main_arg1))
      ∧ r.2.sem = fun _ => 0)

def quiescent_SumPoolIdeal [hSumPoolIdeal : Cert.SumPoolIdeal.Facts] : Prop :=
  ∀ (m : (ℓ : Loc Cert.SumPoolIdeal.nD Cert.SumPoolIdeal.τ Cert.SumPoolIdeal.sig) → Buf (Elt Ideal) ℓ) (g : Dev Cert.SumPoolIdeal.nD → PrngReg), Pre_SumPoolIdeal m →
    θ_run (Cert.SumPoolIdeal.defs (F := Ideal)) (onTc (τ := Cert.SumPoolIdeal.τ) (Cert.SumPoolIdeal.main (F := Ideal))) ⟨m, fun _ => 0, g⟩ (fun r => (∀ c : Dev Cert.SumPoolIdeal.nD,
      r.2.mem ((c.tc : Thread Cert.SumPoolIdeal.nD Cert.SumPoolIdeal.τ).loc Cert.SumPoolIdeal.main_arg0) = m ((c.tc : Thread Cert.SumPoolIdeal.nD Cert.SumPoolIdeal.τ).loc Cert.SumPoolIdeal.main_arg0)
      ∧ r.2.mem ((c.tc : Thread Cert.SumPoolIdeal.nD Cert.SumPoolIdeal.τ).loc Cert.SumPoolIdeal.main_arg1) = m ((c.tc : Thread Cert.SumPoolIdeal.nD Cert.SumPoolIdeal.τ).loc Cert.SumPoolIdeal.main_arg1))
      ∧ r.2.sem = fun _ => 0)

def quiescent_SumPoolRefIdeal [hSumPoolRefIdeal : Cert.SumPoolRefIdeal.Facts] : Prop :=
  ∀ (m : (ℓ : Loc Cert.SumPoolRefIdeal.nD Cert.SumPoolRefIdeal.τ Cert.SumPoolRefIdeal.sig) → Buf (Elt Ideal) ℓ) (g : Dev Cert.SumPoolRefIdeal.nD → PrngReg), Pre_SumPoolRefIdeal m →
    θ_run (Cert.SumPoolRefIdeal.defs (F := Ideal)) (onTc (τ := Cert.SumPoolRefIdeal.τ) (Cert.SumPoolRefIdeal.main (F := Ideal))) ⟨m, fun _ => 0, g⟩ (fun r => (∀ c : Dev Cert.SumPoolRefIdeal.nD,
      r.2.mem ((c.tc : Thread Cert.SumPoolRefIdeal.nD Cert.SumPoolRefIdeal.τ).loc Cert.SumPoolRefIdeal.main_arg0) = m ((c.tc : Thread Cert.SumPoolRefIdeal.nD Cert.SumPoolRefIdeal.τ).loc Cert.SumPoolRefIdeal.main_arg0)
      ∧ r.2.mem ((c.tc : Thread Cert.SumPoolRefIdeal.nD Cert.SumPoolRefIdeal.τ).loc Cert.SumPoolRefIdeal.main_arg1) = m ((c.tc : Thread Cert.SumPoolRefIdeal.nD Cert.SumPoolRefIdeal.τ).loc Cert.SumPoolRefIdeal.main_arg1))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1)
      ∧ r.2.mem ((c.tc : Thread Cert.PoolMix.nD Cert.PoolMix.τ).loc Cert.PoolMix.main_arg2) = m ((c.tc : Thread Cert.PoolMix.nD Cert.PoolMix.τ).loc Cert.PoolMix.main_arg2)
      ∧ r.2.mem ((c.tc : Thread Cert.PoolMix.nD Cert.PoolMix.τ).loc Cert.PoolMix.main_arg3) = m ((c.tc : Thread Cert.PoolMix.nD Cert.PoolMix.τ).loc Cert.PoolMix.main_arg3)
      ∧ r.2.mem ((c.tc : Thread Cert.PoolMix.nD Cert.PoolMix.τ).loc Cert.PoolMix.main_arg4) = m ((c.tc : Thread Cert.PoolMix.nD Cert.PoolMix.τ).loc Cert.PoolMix.main_arg4))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
      ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
      ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3)
      ∧ r.2.mem ((c.tc : Thread Cert.PoolMixIdeal.nD Cert.PoolMixIdeal.τ).loc Cert.PoolMixIdeal.main_arg4) = m ((c.tc : Thread Cert.PoolMixIdeal.nD Cert.PoolMixIdeal.τ).loc Cert.PoolMixIdeal.main_arg4))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1)
      ∧ r.2.mem ((c.tc : Thread Cert.PoolMixRefIdeal.nD Cert.PoolMixRefIdeal.τ).loc Cert.PoolMixRefIdeal.main_arg2) = m ((c.tc : Thread Cert.PoolMixRefIdeal.nD Cert.PoolMixRefIdeal.τ).loc Cert.PoolMixRefIdeal.main_arg2)
      ∧ r.2.mem ((c.tc : Thread Cert.PoolMixRefIdeal.nD Cert.PoolMixRefIdeal.τ).loc Cert.PoolMixRefIdeal.main_arg3) = m ((c.tc : Thread Cert.PoolMixRefIdeal.nD Cert.PoolMixRefIdeal.τ).loc Cert.PoolMixRefIdeal.main_arg3)
      ∧ r.2.mem ((c.tc : Thread Cert.PoolMixRefIdeal.nD Cert.PoolMixRefIdeal.τ).loc Cert.PoolMixRefIdeal.main_arg4) = m ((c.tc : Thread Cert.PoolMixRefIdeal.nD Cert.PoolMixRefIdeal.τ).loc Cert.PoolMixRefIdeal.main_arg4))
      ∧ r.2.sem = fun _ => 0)

def quiescent_PoolMixBwd [hPoolMixBwd : Cert.PoolMixBwd.Facts] : Prop :=
  ∀ (m : (ℓ : Loc Cert.PoolMixBwd.nD Cert.PoolMixBwd.τ Cert.PoolMixBwd.sig) → Buf (Elt Bits) ℓ) (g : Dev Cert.PoolMixBwd.nD → PrngReg), Pre_PoolMixBwd m →
    θ_run (Cert.PoolMixBwd.defs (F := Bits)) (onTc (τ := Cert.PoolMixBwd.τ) (Cert.PoolMixBwd.main (F := Bits))) ⟨m, fun _ => 0, g⟩ (fun r => (∀ c : Dev Cert.PoolMixBwd.nD,
      r.2.mem ((c.tc : Thread Cert.PoolMixBwd.nD Cert.PoolMixBwd.τ).loc Cert.PoolMixBwd.main_arg0) = m ((c.tc : Thread Cert.PoolMixBwd.nD Cert.PoolMixBwd.τ).loc Cert.PoolMixBwd.main_arg0)
      ∧ r.2.mem ((c.tc : Thread Cert.PoolMixBwd.nD Cert.PoolMixBwd.τ).loc Cert.PoolMixBwd.main_arg1) = m ((c.tc : Thread Cert.PoolMixBwd.nD Cert.PoolMixBwd.τ).loc Cert.PoolMixBwd.main_arg1)
      ∧ r.2.mem ((c.tc : Thread Cert.PoolMixBwd.nD Cert.PoolMixBwd.τ).loc Cert.PoolMixBwd.main_arg2) = m ((c.tc : Thread Cert.PoolMixBwd.nD Cert.PoolMixBwd.τ).loc Cert.PoolMixBwd.main_arg2)
      ∧ r.2.mem ((c.tc : Thread Cert.PoolMixBwd.nD Cert.PoolMixBwd.τ).loc Cert.PoolMixBwd.main_arg3) = m ((c.tc : Thread Cert.PoolMixBwd.nD Cert.PoolMixBwd.τ).loc Cert.PoolMixBwd.main_arg3)
      ∧ r.2.mem ((c.tc : Thread Cert.PoolMixBwd.nD Cert.PoolMixBwd.τ).loc Cert.PoolMixBwd.main_arg4) = m ((c.tc : Thread Cert.PoolMixBwd.nD Cert.PoolMixBwd.τ).loc Cert.PoolMixBwd.main_arg4))
      ∧ r.2.sem = fun _ => 0)

def quiescent_PoolMixBwdIdeal [hPoolMixBwdIdeal : Cert.PoolMixBwdIdeal.Facts] : Prop :=
  ∀ (m : (ℓ : Loc Cert.PoolMixBwdIdeal.nD Cert.PoolMixBwdIdeal.τ Cert.PoolMixBwdIdeal.sig) → Buf (Elt Ideal) ℓ) (g : Dev Cert.PoolMixBwdIdeal.nD → PrngReg), Pre_PoolMixBwdIdeal m →
    θ_run (Cert.PoolMixBwdIdeal.defs (F := Ideal)) (onTc (τ := Cert.PoolMixBwdIdeal.τ) (Cert.PoolMixBwdIdeal.main (F := Ideal))) ⟨m, fun _ => 0, g⟩ (fun r => (∀ c : Dev Cert.PoolMixBwdIdeal.nD,
      r.2.mem ((c.tc : Thread Cert.PoolMixBwdIdeal.nD Cert.PoolMixBwdIdeal.τ).loc Cert.PoolMixBwdIdeal.main_arg0) = m ((c.tc : Thread Cert.PoolMixBwdIdeal.nD Cert.PoolMixBwdIdeal.τ).loc Cert.PoolMixBwdIdeal.main_arg0)
      ∧ r.2.mem ((c.tc : Thread Cert.PoolMixBwdIdeal.nD Cert.PoolMixBwdIdeal.τ).loc Cert.PoolMixBwdIdeal.main_arg1) = m ((c.tc : Thread Cert.PoolMixBwdIdeal.nD Cert.PoolMixBwdIdeal.τ).loc Cert.PoolMixBwdIdeal.main_arg1)
      ∧ r.2.mem ((c.tc : Thread Cert.PoolMixBwdIdeal.nD Cert.PoolMixBwdIdeal.τ).loc Cert.PoolMixBwdIdeal.main_arg2) = m ((c.tc : Thread Cert.PoolMixBwdIdeal.nD Cert.PoolMixBwdIdeal.τ).loc Cert.PoolMixBwdIdeal.main_arg2)
      ∧ r.2.mem ((c.tc : Thread Cert.PoolMixBwdIdeal.nD Cert.PoolMixBwdIdeal.τ).loc Cert.PoolMixBwdIdeal.main_arg3) = m ((c.tc : Thread Cert.PoolMixBwdIdeal.nD Cert.PoolMixBwdIdeal.τ).loc Cert.PoolMixBwdIdeal.main_arg3)
      ∧ r.2.mem ((c.tc : Thread Cert.PoolMixBwdIdeal.nD Cert.PoolMixBwdIdeal.τ).loc Cert.PoolMixBwdIdeal.main_arg4) = m ((c.tc : Thread Cert.PoolMixBwdIdeal.nD Cert.PoolMixBwdIdeal.τ).loc Cert.PoolMixBwdIdeal.main_arg4))
      ∧ r.2.sem = fun _ => 0)

def quiescent_PoolMixBwdRefIdeal [hPoolMixBwdRefIdeal : Cert.PoolMixBwdRefIdeal.Facts] : Prop :=
  ∀ (m : (ℓ : Loc Cert.PoolMixBwdRefIdeal.nD Cert.PoolMixBwdRefIdeal.τ Cert.PoolMixBwdRefIdeal.sig) → Buf (Elt Ideal) ℓ) (g : Dev Cert.PoolMixBwdRefIdeal.nD → PrngReg), Pre_PoolMixBwdRefIdeal m →
    θ_run (Cert.PoolMixBwdRefIdeal.defs (F := Ideal)) (onTc (τ := Cert.PoolMixBwdRefIdeal.τ) (Cert.PoolMixBwdRefIdeal.main (F := Ideal))) ⟨m, fun _ => 0, g⟩ (fun r => (∀ c : Dev Cert.PoolMixBwdRefIdeal.nD,
      r.2.mem ((c.tc : Thread Cert.PoolMixBwdRefIdeal.nD Cert.PoolMixBwdRefIdeal.τ).loc Cert.PoolMixBwdRefIdeal.main_arg0) = m ((c.tc : Thread Cert.PoolMixBwdRefIdeal.nD Cert.PoolMixBwdRefIdeal.τ).loc Cert.PoolMixBwdRefIdeal.main_arg0)
      ∧ r.2.mem ((c.tc : Thread Cert.PoolMixBwdRefIdeal.nD Cert.PoolMixBwdRefIdeal.τ).loc Cert.PoolMixBwdRefIdeal.main_arg1) = m ((c.tc : Thread Cert.PoolMixBwdRefIdeal.nD Cert.PoolMixBwdRefIdeal.τ).loc Cert.PoolMixBwdRefIdeal.main_arg1)
      ∧ r.2.mem ((c.tc : Thread Cert.PoolMixBwdRefIdeal.nD Cert.PoolMixBwdRefIdeal.τ).loc Cert.PoolMixBwdRefIdeal.main_arg2) = m ((c.tc : Thread Cert.PoolMixBwdRefIdeal.nD Cert.PoolMixBwdRefIdeal.τ).loc Cert.PoolMixBwdRefIdeal.main_arg2)
      ∧ r.2.mem ((c.tc : Thread Cert.PoolMixBwdRefIdeal.nD Cert.PoolMixBwdRefIdeal.τ).loc Cert.PoolMixBwdRefIdeal.main_arg3) = m ((c.tc : Thread Cert.PoolMixBwdRefIdeal.nD Cert.PoolMixBwdRefIdeal.τ).loc Cert.PoolMixBwdRefIdeal.main_arg3)
      ∧ r.2.mem ((c.tc : Thread Cert.PoolMixBwdRefIdeal.nD Cert.PoolMixBwdRefIdeal.τ).loc Cert.PoolMixBwdRefIdeal.main_arg4) = m ((c.tc : Thread Cert.PoolMixBwdRefIdeal.nD Cert.PoolMixBwdRefIdeal.τ).loc Cert.PoolMixBwdRefIdeal.main_arg4))
      ∧ r.2.sem = fun _ => 0)

def preserves_Kernel_KernelIdeal : Prop :=
  True

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_3)) (v1 : (c : Dev Cert.FfnIdeal.nD) → Buf (Elt Ideal) ((c.tc : Thread Cert.FfnIdeal.nD Cert.FfnIdeal.τ).loc Cert.FfnIdeal.main_v1_0)) (v2 : (c : Dev Cert.FfnIdeal.nD) → Buf (Elt Ideal) ((c.tc : Thread Cert.FfnIdeal.nD Cert.FfnIdeal.τ).loc Cert.FfnIdeal.main_v1_1)) (v3 : (c : Dev Cert.FfnIdeal.nD) → Buf (Elt Ideal) ((c.tc : Thread Cert.FfnIdeal.nD Cert.FfnIdeal.τ).loc Cert.FfnIdeal.main_v3)) (v4 : (c : Dev Cert.FfnIdeal.nD) → Buf (Elt Ideal) ((c.tc : Thread Cert.FfnIdeal.nD Cert.FfnIdeal.τ).loc Cert.FfnIdeal.main_v4)) (v5 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_3) = v0 c
          ∧ r.2.mem ((c.tc : Thread Cert.FfnIdeal.nD Cert.FfnIdeal.τ).loc Cert.FfnIdeal.main_v1_0) = v1 c
          ∧ r.2.mem ((c.tc : Thread Cert.FfnIdeal.nD Cert.FfnIdeal.τ).loc Cert.FfnIdeal.main_v1_1) = v2 c
          ∧ r.2.mem ((c.tc : Thread Cert.FfnIdeal.nD Cert.FfnIdeal.τ).loc Cert.FfnIdeal.main_v3) = v3 c
          ∧ r.2.mem ((c.tc : Thread Cert.FfnIdeal.nD Cert.FfnIdeal.τ).loc Cert.FfnIdeal.main_v4) = v4 c
          ∧ r.2.mem ((c.tc : Thread Cert.FfnIdeal.nD Cert.FfnIdeal.τ).loc Cert.FfnIdeal.main_v2) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_v30) = v1 c
          ∧ r.2.mem ((c.tc : Thread Cert.FfnRefIdeal.nD Cert.FfnRefIdeal.τ).loc Cert.FfnRefIdeal.main_v31) = v2 c
          ∧ r.2.mem ((c.tc : Thread Cert.FfnRefIdeal.nD Cert.FfnRefIdeal.τ).loc Cert.FfnRefIdeal.main_v32) = v3 c
          ∧ r.2.mem ((c.tc : Thread Cert.FfnRefIdeal.nD Cert.FfnRefIdeal.τ).loc Cert.FfnRefIdeal.main_v33) = v4 c
          ∧ r.2.mem ((c.tc : Thread Cert.FfnRefIdeal.nD Cert.FfnRefIdeal.τ).loc Cert.FfnRefIdeal.main_v34) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v13) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v23) = v0 c
          ∧ r.2.mem ((c.tc : Thread Cert.AdamMetaRefIdeal.nD Cert.AdamMetaRefIdeal.τ).loc Cert.AdamMetaRefIdeal.main_v4) = v1 c
          ∧ r.2.mem ((c.tc : Thread Cert.AdamMetaRefIdeal.nD Cert.AdamMetaRefIdeal.τ).loc Cert.AdamMetaRefIdeal.main_v10) = v2 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v5)) (v1 : (c : Dev Cert.AdamNormIdeal.nD) → Buf (Elt Ideal) ((c.tc : Thread Cert.AdamNormIdeal.nD Cert.AdamNormIdeal.τ).loc Cert.AdamNormIdeal.main_v6)) (v2 : (c : Dev Cert.AdamNormIdeal.nD) → Buf (Elt Ideal) ((c.tc : Thread Cert.AdamNormIdeal.nD Cert.AdamNormIdeal.τ).loc Cert.AdamNormIdeal.main_v7)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v5) = v0 c
          ∧ r.2.mem ((c.tc : Thread Cert.AdamNormIdeal.nD Cert.AdamNormIdeal.τ).loc Cert.AdamNormIdeal.main_v6) = v1 c
          ∧ r.2.mem ((c.tc : Thread Cert.AdamNormIdeal.nD Cert.AdamNormIdeal.τ).loc Cert.AdamNormIdeal.main_v7) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v5)) (v1 : (c : Dev Cert.AdamUpIdeal.nD) → Buf (Elt Ideal) ((c.tc : Thread Cert.AdamUpIdeal.nD Cert.AdamUpIdeal.τ).loc Cert.AdamUpIdeal.main_v6)) (v2 : (c : Dev Cert.AdamUpIdeal.nD) → Buf (Elt Ideal) ((c.tc : Thread Cert.AdamUpIdeal.nD Cert.AdamUpIdeal.τ).loc Cert.AdamUpIdeal.main_v7)) (v3 : (c : Dev Cert.AdamUpIdeal.nD) → Buf (Elt Ideal) ((c.tc : Thread Cert.AdamUpIdeal.nD Cert.AdamUpIdeal.τ).loc Cert.AdamUpIdeal.main_v8)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v5) = v0 c
          ∧ r.2.mem ((c.tc : Thread Cert.AdamUpIdeal.nD Cert.AdamUpIdeal.τ).loc Cert.AdamUpIdeal.main_v6) = v1 c
          ∧ r.2.mem ((c.tc : Thread Cert.AdamUpIdeal.nD Cert.AdamUpIdeal.τ).loc Cert.AdamUpIdeal.main_v7) = v2 c
          ∧ r.2.mem ((c.tc : Thread Cert.AdamUpIdeal.nD Cert.AdamUpIdeal.τ).loc Cert.AdamUpIdeal.main_v8) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg1) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v5)) (v1 : (c : Dev Cert.AdamDownIdeal.nD) → Buf (Elt Ideal) ((c.tc : Thread Cert.AdamDownIdeal.nD Cert.AdamDownIdeal.τ).loc Cert.AdamDownIdeal.main_v6)) (v2 : (c : Dev Cert.AdamDownIdeal.nD) → Buf (Elt Ideal) ((c.tc : Thread Cert.AdamDownIdeal.nD Cert.AdamDownIdeal.τ).loc Cert.AdamDownIdeal.main_v7)) (v3 : (c : Dev Cert.AdamDownIdeal.nD) → Buf (Elt Ideal) ((c.tc : Thread Cert.AdamDownIdeal.nD Cert.AdamDownIdeal.τ).loc Cert.AdamDownIdeal.main_v8)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v5) = v0 c
          ∧ r.2.mem ((c.tc : Thread Cert.AdamDownIdeal.nD Cert.AdamDownIdeal.τ).loc Cert.AdamDownIdeal.main_v6) = v1 c
          ∧ r.2.mem ((c.tc : Thread Cert.AdamDownIdeal.nD Cert.AdamDownIdeal.τ).loc Cert.AdamDownIdeal.main_v7) = v2 c
          ∧ r.2.mem ((c.tc : Thread Cert.AdamDownIdeal.nD Cert.AdamDownIdeal.τ).loc Cert.AdamDownIdeal.main_v8) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamGlaNorm_AdamGlaNormIdeal : Prop :=
  True

def algebraic_AdamGlaNormIdeal_AdamGlaNormRefIdeal [hAdamGlaNormIdeal : Cert.AdamGlaNormIdeal.Facts] [hAdamGlaNormRefIdeal : Cert.AdamGlaNormRefIdeal.Facts] : Prop :=
  ∀ (m : (ℓ : Loc Cert.AdamGlaNormIdeal.nD Cert.AdamGlaNormIdeal.τ Cert.AdamGlaNormIdeal.sig) → Buf (Elt Ideal) ℓ) (g : Dev Cert.AdamGlaNormIdeal.nD → PrngReg)
    (m' : (ℓ : Loc Cert.AdamGlaNormRefIdeal.nD Cert.AdamGlaNormRefIdeal.τ Cert.AdamGlaNormRefIdeal.sig) → Buf (Elt Ideal) ℓ) (g' : Dev Cert.AdamGlaNormRefIdeal.nD → PrngReg), Pre_AdamGlaNormIdeal m →
    (∀ c : Dev Cert.AdamGlaNormIdeal.nD,
      m' ((c.tc : Thread Cert.AdamGlaNormRefIdeal.nD Cert.AdamGlaNormRefIdeal.τ).loc Cert.AdamGlaNormRefIdeal.main_arg0) = m ((c.tc : Thread Cert.AdamGlaNormIdeal.nD Cert.AdamGlaNormIdeal.τ).loc Cert.AdamGlaNormIdeal.main_arg0)
      ∧ m' ((c.tc : Thread Cert.AdamGlaNormRefIdeal.nD Cert.AdamGlaNormRefIdeal.τ).loc Cert.AdamGlaNormRefIdeal.main_arg1) = m ((c.tc : Thread Cert.AdamGlaNormIdeal.nD Cert.AdamGlaNormIdeal.τ).loc Cert.AdamGlaNormIdeal.main_arg1)
      ∧ m' ((c.tc : Thread Cert.AdamGlaNormRefIdeal.nD Cert.AdamGlaNormRefIdeal.τ).loc Cert.AdamGlaNormRefIdeal.main_arg2) = m ((c.tc : Thread Cert.AdamGlaNormIdeal.nD Cert.AdamGlaNormIdeal.τ).loc Cert.AdamGlaNormIdeal.main_arg2)
      ∧ m' ((c.tc : Thread Cert.AdamGlaNormRefIdeal.nD Cert.AdamGlaNormRefIdeal.τ).loc Cert.AdamGlaNormRefIdeal.main_arg3) = m ((c.tc : Thread Cert.AdamGlaNormIdeal.nD Cert.AdamGlaNormIdeal.τ).loc Cert.AdamGlaNormIdeal.main_arg3)) →
    ∃ (v0 : (c : Dev Cert.AdamGlaNormIdeal.nD) → Buf (Elt Ideal) ((c.tc : Thread Cert.AdamGlaNormIdeal.nD Cert.AdamGlaNormIdeal.τ).loc Cert.AdamGlaNormIdeal.main_v0_0)) (v1 : (c : Dev Cert.AdamGlaNormIdeal.nD) → Buf (Elt Ideal) ((c.tc : Thread Cert.AdamGlaNormIdeal.nD Cert.AdamGlaNormIdeal.τ).loc Cert.AdamGlaNormIdeal.main_v0_1)) (v2 : (c : Dev Cert.AdamGlaNormIdeal.nD) → Buf (Elt Ideal) ((c.tc : Thread Cert.AdamGlaNormIdeal.nD Cert.AdamGlaNormIdeal.τ).loc Cert.AdamGlaNormIdeal.main_v0_2)),
      θ_run (Cert.AdamGlaNormIdeal.defs (F := Ideal)) (onTc (τ := Cert.AdamGlaNormIdeal.τ) (Cert.AdamGlaNormIdeal.main (F := Ideal))) ⟨m, fun _ => 0, g⟩ (fun r => ∀ c : Dev Cert.AdamGlaNormIdeal.nD,
          r.2.mem ((c.tc : Thread Cert.AdamGlaNormIdeal.nD Cert.AdamGlaNormIdeal.τ).loc Cert.AdamGlaNormIdeal.main_v0_0) = v0 c
          ∧ r.2.mem ((c.tc : Thread Cert.AdamGlaNormIdeal.nD Cert.AdamGlaNormIdeal.τ).loc Cert.AdamGlaNormIdeal.main_v0_1) = v1 c
          ∧ r.2.mem ((c.tc : Thread Cert.AdamGlaNormIdeal.nD Cert.AdamGlaNormIdeal.τ).loc Cert.AdamGlaNormIdeal.main_v0_2) = v2 c
          ∧ r.2.mem ((c.tc : Thread Cert.AdamGlaNormIdeal.nD Cert.AdamGlaNormIdeal.τ).loc Cert.AdamGlaNormIdeal.main_arg0) = m ((c.tc : Thread Cert.AdamGlaNormIdeal.nD Cert.AdamGlaNormIdeal.τ).loc Cert.AdamGlaNormIdeal.main_arg0)
          ∧ r.2.mem ((c.tc : Thread Cert.AdamGlaNormIdeal.nD Cert.AdamGlaNormIdeal.τ).loc Cert.AdamGlaNormIdeal.main_arg1) = m ((c.tc : Thread Cert.AdamGlaNormIdeal.nD Cert.AdamGlaNormIdeal.τ).loc Cert.AdamGlaNormIdeal.main_arg1)
          ∧ r.2.mem ((c.tc : Thread Cert.AdamGlaNormIdeal.nD Cert.AdamGlaNormIdeal.τ).loc Cert.AdamGlaNormIdeal.main_arg2) = m ((c.tc : Thread Cert.AdamGlaNormIdeal.nD Cert.AdamGlaNormIdeal.τ).loc Cert.AdamGlaNormIdeal.main_arg2)
          ∧ r.2.mem ((c.tc : Thread Cert.AdamGlaNormIdeal.nD Cert.AdamGlaNormIdeal.τ).loc Cert.AdamGlaNormIdeal.main_arg3) = m ((c.tc : Thread Cert.AdamGlaNormIdeal.nD Cert.AdamGlaNormIdeal.τ).loc Cert.AdamGlaNormIdeal.main_arg3))
      ∧ θ_run (Cert.AdamGlaNormRefIdeal.defs (F := Ideal)) (onTc (τ := Cert.AdamGlaNormRefIdeal.τ) (Cert.AdamGlaNormRefIdeal.main (F := Ideal))) ⟨m', fun _ => 0, g'⟩ (fun r => ∀ c : Dev Cert.AdamGlaNormRefIdeal.nD,
          r.2.mem ((c.tc : Thread Cert.AdamGlaNormRefIdeal.nD Cert.AdamGlaNormRefIdeal.τ).loc Cert.AdamGlaNormRefIdeal.main_v23) = v0 c
          ∧ r.2.mem ((c.tc : Thread Cert.AdamGlaNormRefIdeal.nD Cert.AdamGlaNormRefIdeal.τ).loc Cert.AdamGlaNormRefIdeal.main_v4) = v1 c
          ∧ r.2.mem ((c.tc : Thread Cert.AdamGlaNormRefIdeal.nD Cert.AdamGlaNormRefIdeal.τ).loc Cert.AdamGlaNormRefIdeal.main_v10) = v2 c
          ∧ r.2.mem ((c.tc : Thread Cert.AdamGlaNormRefIdeal.nD Cert.AdamGlaNormRefIdeal.τ).loc Cert.AdamGlaNormRefIdeal.main_arg0) = m' ((c.tc : Thread Cert.AdamGlaNormRefIdeal.nD Cert.AdamGlaNormRefIdeal.τ).loc Cert.AdamGlaNormRefIdeal.main_arg0)
          ∧ r.2.mem ((c.tc : Thread Cert.AdamGlaNormRefIdeal.nD Cert.AdamGlaNormRefIdeal.τ).loc Cert.AdamGlaNormRefIdeal.main_arg1) = m' ((c.tc : Thread Cert.AdamGlaNormRefIdeal.nD Cert.AdamGlaNormRefIdeal.τ).loc Cert.AdamGlaNormRefIdeal.main_arg1)
          ∧ r.2.mem ((c.tc : Thread Cert.AdamGlaNormRefIdeal.nD Cert.AdamGlaNormRefIdeal.τ).loc Cert.AdamGlaNormRefIdeal.main_arg2) = m' ((c.tc : Thread Cert.AdamGlaNormRefIdeal.nD Cert.AdamGlaNormRefIdeal.τ).loc Cert.AdamGlaNormRefIdeal.main_arg2)
          ∧ r.2.mem ((c.tc : Thread Cert.AdamGlaNormRefIdeal.nD Cert.AdamGlaNormRefIdeal.τ).loc Cert.AdamGlaNormRefIdeal.main_arg3) = m' ((c.tc : Thread Cert.AdamGlaNormRefIdeal.nD Cert.AdamGlaNormRefIdeal.τ).loc Cert.AdamGlaNormRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)) (v3 : (c : Dev Cert.AdamInIdeal.nD) → Buf (Elt Ideal) ((c.tc : Thread Cert.AdamInIdeal.nD Cert.AdamInIdeal.τ).loc Cert.AdamInIdeal.main_v8)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_v8) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamRank_AdamRankIdeal : Prop :=
  True

def algebraic_AdamRankIdeal_AdamRankRefIdeal [hAdamRankIdeal : Cert.AdamRankIdeal.Facts] [hAdamRankRefIdeal : Cert.AdamRankRefIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg)
    (m' : (ℓ : Loc Cert.AdamRankRefIdeal.nD Cert.AdamRankRefIdeal.τ Cert.AdamRankRefIdeal.sig) → Buf (Elt Ideal) ℓ) (g' : Dev Cert.AdamRankRefIdeal.nD → PrngReg), Pre_AdamRankIdeal m →
    (∀ c : Dev Cert.AdamRankIdeal.nD,
      m' ((c.tc : Thread Cert.AdamRankRefIdeal.nD Cert.AdamRankRefIdeal.τ).loc Cert.AdamRankRefIdeal.main_arg0) = m ((c.tc : Thread Cert.AdamRankIdeal.nD Cert.AdamRankIdeal.τ).loc Cert.AdamRankIdeal.main_arg0)
      ∧ m' ((c.tc : Thread Cert.AdamRankRefIdeal.nD Cert.AdamRankRefIdeal.τ).loc Cert.AdamRankRefIdeal.main_arg1) = m ((c.tc : Thread Cert.AdamRankIdeal.nD Cert.AdamRankIdeal.τ).loc Cert.AdamRankIdeal.main_arg1)
      ∧ m' ((c.tc : Thread Cert.AdamRankRefIdeal.nD Cert.AdamRankRefIdeal.τ).loc Cert.AdamRankRefIdeal.main_arg2) = m ((c.tc : Thread Cert.AdamRankIdeal.nD Cert.AdamRankIdeal.τ).loc Cert.AdamRankIdeal.main_arg2)
      ∧ m' ((c.tc : Thread Cert.AdamRankRefIdeal.nD Cert.AdamRankRefIdeal.τ).loc Cert.AdamRankRefIdeal.main_arg3) = m ((c.tc : Thread Cert.AdamRankIdeal.nD Cert.AdamRankIdeal.τ).loc Cert.AdamRankIdeal.main_arg3)) →
    ∃ (v0 : (c : Dev Cert.AdamRankIdeal.nD) → Buf (Elt Ideal) ((c.tc : Thread Cert.AdamRankIdeal.nD Cert.AdamRankIdeal.τ).loc Cert.AdamRankIdeal.main_v5)) (v1 : (c : Dev Cert.AdamRankIdeal.nD) → Buf (Elt Ideal) ((c.tc : Thread Cert.AdamRankIdeal.nD Cert.AdamRankIdeal.τ).loc Cert.AdamRankIdeal.main_v6)) (v2 : (c : Dev Cert.AdamRankIdeal.nD) → Buf (Elt Ideal) ((c.tc : Thread Cert.AdamRankIdeal.nD Cert.AdamRankIdeal.τ).loc Cert.AdamRankIdeal.main_v7)),
      θ_run (Cert.AdamRankIdeal.defs (F := Ideal)) (onTc (τ := Cert.AdamRankIdeal.τ) (Cert.AdamRankIdeal.main (F := Ideal))) ⟨m, fun _ => 0, g⟩ (fun r => ∀ c : Dev Cert.AdamRankIdeal.nD,
          r.2.mem ((c.tc : Thread Cert.AdamRankIdeal.nD Cert.AdamRankIdeal.τ).loc Cert.AdamRankIdeal.main_v5) = v0 c
          ∧ r.2.mem ((c.tc : Thread Cert.AdamRankIdeal.nD Cert.AdamRankIdeal.τ).loc Cert.AdamRankIdeal.main_v6) = v1 c
          ∧ r.2.mem ((c.tc : Thread Cert.AdamRankIdeal.nD Cert.AdamRankIdeal.τ).loc Cert.AdamRankIdeal.main_v7) = v2 c
          ∧ r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
          ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
          ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
          ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ θ_run (Cert.AdamRankRefIdeal.defs (F := Ideal)) (onTc (τ := Cert.AdamRankRefIdeal.τ) (Cert.AdamRankRefIdeal.main (F := Ideal))) ⟨m', fun _ => 0, g'⟩ (fun r => ∀ c : Dev Cert.AdamRankRefIdeal.nD,
          r.2.mem ((c.tc : Thread Cert.AdamRankRefIdeal.nD Cert.AdamRankRefIdeal.τ).loc Cert.AdamRankRefIdeal.main_v23) = v0 c
          ∧ r.2.mem ((c.tc : Thread Cert.AdamRankRefIdeal.nD Cert.AdamRankRefIdeal.τ).loc Cert.AdamRankRefIdeal.main_v4) = v1 c
          ∧ r.2.mem ((c.tc : Thread Cert.AdamRankRefIdeal.nD Cert.AdamRankRefIdeal.τ).loc Cert.AdamRankRefIdeal.main_v10) = v2 c
          ∧ r.2.mem ((c.tc : Thread Cert.AdamRankRefIdeal.nD Cert.AdamRankRefIdeal.τ).loc Cert.AdamRankRefIdeal.main_arg0) = m' ((c.tc : Thread Cert.AdamRankRefIdeal.nD Cert.AdamRankRefIdeal.τ).loc Cert.AdamRankRefIdeal.main_arg0)
          ∧ r.2.mem ((c.tc : Thread Cert.AdamRankRefIdeal.nD Cert.AdamRankRefIdeal.τ).loc Cert.AdamRankRefIdeal.main_arg1) = m' ((c.tc : Thread Cert.AdamRankRefIdeal.nD Cert.AdamRankRefIdeal.τ).loc Cert.AdamRankRefIdeal.main_arg1)
          ∧ r.2.mem ((c.tc : Thread Cert.AdamRankRefIdeal.nD Cert.AdamRankRefIdeal.τ).loc Cert.AdamRankRefIdeal.main_arg2) = m' ((c.tc : Thread Cert.AdamRankRefIdeal.nD Cert.AdamRankRefIdeal.τ).loc Cert.AdamRankRefIdeal.main_arg2)
          ∧ r.2.mem ((c.tc : Thread Cert.AdamRankRefIdeal.nD Cert.AdamRankRefIdeal.τ).loc Cert.AdamRankRefIdeal.main_arg3) = m' ((c.tc : Thread Cert.AdamRankRefIdeal.nD Cert.AdamRankRefIdeal.τ).loc Cert.AdamRankRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v5)) (v1 : (c : Dev Cert.AdamOutIdeal.nD) → Buf (Elt Ideal) ((c.tc : Thread Cert.AdamOutIdeal.nD Cert.AdamOutIdeal.τ).loc Cert.AdamOutIdeal.main_v6)) (v2 : (c : Dev Cert.AdamOutIdeal.nD) → Buf (Elt Ideal) ((c.tc : Thread Cert.AdamOutIdeal.nD Cert.AdamOutIdeal.τ).loc Cert.AdamOutIdeal.main_v7)) (v3 : (c : Dev Cert.AdamOutIdeal.nD) → Buf (Elt Ideal) ((c.tc : Thread Cert.AdamOutIdeal.nD Cert.AdamOutIdeal.τ).loc Cert.AdamOutIdeal.main_v8)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v5) = v0 c
          ∧ r.2.mem ((c.tc : Thread Cert.AdamOutIdeal.nD Cert.AdamOutIdeal.τ).loc Cert.AdamOutIdeal.main_v6) = v1 c
          ∧ r.2.mem ((c.tc : Thread Cert.AdamOutIdeal.nD Cert.AdamOutIdeal.τ).loc Cert.AdamOutIdeal.main_v7) = v2 c
          ∧ r.2.mem ((c.tc : Thread Cert.AdamOutIdeal.nD Cert.AdamOutIdeal.τ).loc Cert.AdamOutIdeal.main_v8) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v5)) (v1 : (c : Dev Cert.AdamPoolIdeal.nD) → Buf (Elt Ideal) ((c.tc : Thread Cert.AdamPoolIdeal.nD Cert.AdamPoolIdeal.τ).loc Cert.AdamPoolIdeal.main_v6)) (v2 : (c : Dev Cert.AdamPoolIdeal.nD) → Buf (Elt Ideal) ((c.tc : Thread Cert.AdamPoolIdeal.nD Cert.AdamPoolIdeal.τ).loc Cert.AdamPoolIdeal.main_v7)) (v3 : (c : Dev Cert.AdamPoolIdeal.nD) → Buf (Elt Ideal) ((c.tc : Thread Cert.AdamPoolIdeal.nD Cert.AdamPoolIdeal.τ).loc Cert.AdamPoolIdeal.main_v8)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v5) = v0 c
          ∧ r.2.mem ((c.tc : Thread Cert.AdamPoolIdeal.nD Cert.AdamPoolIdeal.τ).loc Cert.AdamPoolIdeal.main_v6) = v1 c
          ∧ r.2.mem ((c.tc : Thread Cert.AdamPoolIdeal.nD Cert.AdamPoolIdeal.τ).loc Cert.AdamPoolIdeal.main_v7) = v2 c
          ∧ r.2.mem ((c.tc : Thread Cert.AdamPoolIdeal.nD Cert.AdamPoolIdeal.τ).loc Cert.AdamPoolIdeal.main_v8) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg1) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamPoolBias_AdamPoolBiasIdeal : Prop :=
  True

def algebraic_AdamPoolBiasIdeal_AdamPoolBiasRefIdeal [hAdamPoolBiasIdeal : Cert.AdamPoolBiasIdeal.Facts] [hAdamPoolBiasRefIdeal : Cert.AdamPoolBiasRefIdeal.Facts] : Prop :=
  ∀ (m : (ℓ : Loc Cert.AdamPoolBiasIdeal.nD Cert.AdamPoolBiasIdeal.τ Cert.AdamPoolBiasIdeal.sig) → Buf (Elt Ideal) ℓ) (g : Dev Cert.AdamPoolBiasIdeal.nD → PrngReg)
    (m' : (ℓ : Loc Cert.AdamPoolBiasRefIdeal.nD Cert.AdamPoolBiasRefIdeal.τ Cert.AdamPoolBiasRefIdeal.sig) → Buf (Elt Ideal) ℓ) (g' : Dev Cert.AdamPoolBiasRefIdeal.nD → PrngReg), Pre_AdamPoolBiasIdeal m →
    (∀ c : Dev Cert.AdamPoolBiasIdeal.nD,
      m' ((c.tc : Thread Cert.AdamPoolBiasRefIdeal.nD Cert.AdamPoolBiasRefIdeal.τ).loc Cert.AdamPoolBiasRefIdeal.main_arg0) = m ((c.tc : Thread Cert.AdamPoolBiasIdeal.nD Cert.AdamPoolBiasIdeal.τ).loc Cert.AdamPoolBiasIdeal.main_arg0)
      ∧ m' ((c.tc : Thread Cert.AdamPoolBiasRefIdeal.nD Cert.AdamPoolBiasRefIdeal.τ).loc Cert.AdamPoolBiasRefIdeal.main_arg1) = m ((c.tc : Thread Cert.AdamPoolBiasIdeal.nD Cert.AdamPoolBiasIdeal.τ).loc Cert.AdamPoolBiasIdeal.main_arg1)
      ∧ m' ((c.tc : Thread Cert.AdamPoolBiasRefIdeal.nD Cert.AdamPoolBiasRefIdeal.τ).loc Cert.AdamPoolBiasRefIdeal.main_arg2) = m ((c.tc : Thread Cert.AdamPoolBiasIdeal.nD Cert.AdamPoolBiasIdeal.τ).loc Cert.AdamPoolBiasIdeal.main_arg2)
      ∧ m' ((c.tc : Thread Cert.AdamPoolBiasRefIdeal.nD Cert.AdamPoolBiasRefIdeal.τ).loc Cert.AdamPoolBiasRefIdeal.main_arg3) = m ((c.tc : Thread Cert.AdamPoolBiasIdeal.nD Cert.AdamPoolBiasIdeal.τ).loc Cert.AdamPoolBiasIdeal.main_arg3)) →
    ∃ (v0 : (c : Dev Cert.AdamPoolBiasIdeal.nD) → Buf (Elt Ideal) ((c.tc : Thread Cert.AdamPoolBiasIdeal.nD Cert.AdamPoolBiasIdeal.τ).loc Cert.AdamPoolBiasIdeal.main_v5)) (v1 : (c : Dev Cert.AdamPoolBiasIdeal.nD) → Buf (Elt Ideal) ((c.tc : Thread Cert.AdamPoolBiasIdeal.nD Cert.AdamPoolBiasIdeal.τ).loc Cert.AdamPoolBiasIdeal.main_v6)) (v2 : (c : Dev Cert.AdamPoolBiasIdeal.nD) → Buf (Elt Ideal) ((c.tc : Thread Cert.AdamPoolBiasIdeal.nD Cert.AdamPoolBiasIdeal.τ).loc Cert.AdamPoolBiasIdeal.main_v7)),
      θ_run (Cert.AdamPoolBiasIdeal.defs (F := Ideal)) (onTc (τ := Cert.AdamPoolBiasIdeal.τ) (Cert.AdamPoolBiasIdeal.main (F := Ideal))) ⟨m, fun _ => 0, g⟩ (fun r => ∀ c : Dev Cert.AdamPoolBiasIdeal.nD,
          r.2.mem ((c.tc : Thread Cert.AdamPoolBiasIdeal.nD Cert.AdamPoolBiasIdeal.τ).loc Cert.AdamPoolBiasIdeal.main_v5) = v0 c
          ∧ r.2.mem ((c.tc : Thread Cert.AdamPoolBiasIdeal.nD Cert.AdamPoolBiasIdeal.τ).loc Cert.AdamPoolBiasIdeal.main_v6) = v1 c
          ∧ r.2.mem ((c.tc : Thread Cert.AdamPoolBiasIdeal.nD Cert.AdamPoolBiasIdeal.τ).loc Cert.AdamPoolBiasIdeal.main_v7) = v2 c
          ∧ r.2.mem ((c.tc : Thread Cert.AdamPoolBiasIdeal.nD Cert.AdamPoolBiasIdeal.τ).loc Cert.AdamPoolBiasIdeal.main_arg0) = m ((c.tc : Thread Cert.AdamPoolBiasIdeal.nD Cert.AdamPoolBiasIdeal.τ).loc Cert.AdamPoolBiasIdeal.main_arg0)
          ∧ r.2.mem ((c.tc : Thread Cert.AdamPoolBiasIdeal.nD Cert.AdamPoolBiasIdeal.τ).loc Cert.AdamPoolBiasIdeal.main_arg1) = m ((c.tc : Thread Cert.AdamPoolBiasIdeal.nD Cert.AdamPoolBiasIdeal.τ).loc Cert.AdamPoolBiasIdeal.main_arg1)
          ∧ r.2.mem ((c.tc : Thread Cert.AdamPoolBiasIdeal.nD Cert.AdamPoolBiasIdeal.τ).loc Cert.AdamPoolBiasIdeal.main_arg2) = m ((c.tc : Thread Cert.AdamPoolBiasIdeal.nD Cert.AdamPoolBiasIdeal.τ).loc Cert.AdamPoolBiasIdeal.main_arg2)
          ∧ r.2.mem ((c.tc : Thread Cert.AdamPoolBiasIdeal.nD Cert.AdamPoolBiasIdeal.τ).loc Cert.AdamPoolBiasIdeal.main_arg3) = m ((c.tc : Thread Cert.AdamPoolBiasIdeal.nD Cert.AdamPoolBiasIdeal.τ).loc Cert.AdamPoolBiasIdeal.main_arg3))
      ∧ θ_run (Cert.AdamPoolBiasRefIdeal.defs (F := Ideal)) (onTc (τ := Cert.AdamPoolBiasRefIdeal.τ) (Cert.AdamPoolBiasRefIdeal.main (F := Ideal))) ⟨m', fun _ => 0, g'⟩ (fun r => ∀ c : Dev Cert.AdamPoolBiasRefIdeal.nD,
          r.2.mem ((c.tc : Thread Cert.AdamPoolBiasRefIdeal.nD Cert.AdamPoolBiasRefIdeal.τ).loc Cert.AdamPoolBiasRefIdeal.main_v23) = v0 c
          ∧ r.2.mem ((c.tc : Thread Cert.AdamPoolBiasRefIdeal.nD Cert.AdamPoolBiasRefIdeal.τ).loc Cert.AdamPoolBiasRefIdeal.main_v4) = v1 c
          ∧ r.2.mem ((c.tc : Thread Cert.AdamPoolBiasRefIdeal.nD Cert.AdamPoolBiasRefIdeal.τ).loc Cert.AdamPoolBiasRefIdeal.main_v10) = v2 c
          ∧ r.2.mem ((c.tc : Thread Cert.AdamPoolBiasRefIdeal.nD Cert.AdamPoolBiasRefIdeal.τ).loc Cert.AdamPoolBiasRefIdeal.main_arg0) = m' ((c.tc : Thread Cert.AdamPoolBiasRefIdeal.nD Cert.AdamPoolBiasRefIdeal.τ).loc Cert.AdamPoolBiasRefIdeal.main_arg0)
          ∧ r.2.mem ((c.tc : Thread Cert.AdamPoolBiasRefIdeal.nD Cert.AdamPoolBiasRefIdeal.τ).loc Cert.AdamPoolBiasRefIdeal.main_arg1) = m' ((c.tc : Thread Cert.AdamPoolBiasRefIdeal.nD Cert.AdamPoolBiasRefIdeal.τ).loc Cert.AdamPoolBiasRefIdeal.main_arg1)
          ∧ r.2.mem ((c.tc : Thread Cert.AdamPoolBiasRefIdeal.nD Cert.AdamPoolBiasRefIdeal.τ).loc Cert.AdamPoolBiasRefIdeal.main_arg2) = m' ((c.tc : Thread Cert.AdamPoolBiasRefIdeal.nD Cert.AdamPoolBiasRefIdeal.τ).loc Cert.AdamPoolBiasRefIdeal.main_arg2)
          ∧ r.2.mem ((c.tc : Thread Cert.AdamPoolBiasRefIdeal.nD Cert.AdamPoolBiasRefIdeal.τ).loc Cert.AdamPoolBiasRefIdeal.main_arg3) = m' ((c.tc : Thread Cert.AdamPoolBiasRefIdeal.nD Cert.AdamPoolBiasRefIdeal.τ).loc Cert.AdamPoolBiasRefIdeal.main_arg3))

def preserves_AdamFinal_AdamFinalIdeal : Prop :=
  True

def algebraic_AdamFinalIdeal_AdamFinalRefIdeal [hAdamFinalIdeal : Cert.AdamFinalIdeal.Facts] [hAdamFinalRefIdeal : Cert.AdamFinalRefIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.AdamFinalRefIdeal.nD Cert.AdamFinalRefIdeal.τ Cert.AdamFinalRefIdeal.sig) → Buf (Elt Ideal) ℓ) (g' : Dev Cert.AdamFinalRefIdeal.nD → PrngReg), Pre_AdamFinalIdeal m →
    (∀ c : Dev Cert.AdamFinalIdeal.nD,
      m' ((c.tc : Thread Cert.AdamFinalRefIdeal.nD Cert.AdamFinalRefIdeal.τ).loc Cert.AdamFinalRefIdeal.main_arg0) = m ((c.tc : Thread Cert.AdamFinalIdeal.nD Cert.AdamFinalIdeal.τ).loc Cert.AdamFinalIdeal.main_arg0)
      ∧ m' ((c.tc : Thread Cert.AdamFinalRefIdeal.nD Cert.AdamFinalRefIdeal.τ).loc Cert.AdamFinalRefIdeal.main_arg1) = m ((c.tc : Thread Cert.AdamFinalIdeal.nD Cert.AdamFinalIdeal.τ).loc Cert.AdamFinalIdeal.main_arg1)
      ∧ m' ((c.tc : Thread Cert.AdamFinalRefIdeal.nD Cert.AdamFinalRefIdeal.τ).loc Cert.AdamFinalRefIdeal.main_arg2) = m ((c.tc : Thread Cert.AdamFinalIdeal.nD Cert.AdamFinalIdeal.τ).loc Cert.AdamFinalIdeal.main_arg2)
      ∧ m' ((c.tc : Thread Cert.AdamFinalRefIdeal.nD Cert.AdamFinalRefIdeal.τ).loc Cert.AdamFinalRefIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v5)) (v1 : (c : Dev Cert.AdamFinalIdeal.nD) → Buf (Elt Ideal) ((c.tc : Thread Cert.AdamFinalIdeal.nD Cert.AdamFinalIdeal.τ).loc Cert.AdamFinalIdeal.main_v6)) (v2 : (c : Dev Cert.AdamFinalIdeal.nD) → Buf (Elt Ideal) ((c.tc : Thread Cert.AdamFinalIdeal.nD Cert.AdamFinalIdeal.τ).loc Cert.AdamFinalIdeal.main_v7)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v5) = v0 c
          ∧ r.2.mem ((c.tc : Thread Cert.AdamFinalIdeal.nD Cert.AdamFinalIdeal.τ).loc Cert.AdamFinalIdeal.main_v6) = v1 c
          ∧ r.2.mem ((c.tc : Thread Cert.AdamFinalIdeal.nD Cert.AdamFinalIdeal.τ).loc Cert.AdamFinalIdeal.main_v7) = v2 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.AdamFinalRefIdeal.defs (F := Ideal)) (onTc (τ := Cert.AdamFinalRefIdeal.τ) (Cert.AdamFinalRefIdeal.main (F := Ideal))) ⟨m', fun _ => 0, g'⟩ (fun r => ∀ c : Dev Cert.AdamFinalRefIdeal.nD,
          r.2.mem ((c.tc : Thread Cert.AdamFinalRefIdeal.nD Cert.AdamFinalRefIdeal.τ).loc Cert.AdamFinalRefIdeal.main_v23) = v0 c
          ∧ r.2.mem ((c.tc : Thread Cert.AdamFinalRefIdeal.nD Cert.AdamFinalRefIdeal.τ).loc Cert.AdamFinalRefIdeal.main_v4) = v1 c
          ∧ r.2.mem ((c.tc : Thread Cert.AdamFinalRefIdeal.nD Cert.AdamFinalRefIdeal.τ).loc Cert.AdamFinalRefIdeal.main_v10) = v2 c
          ∧ r.2.mem ((c.tc : Thread Cert.AdamFinalRefIdeal.nD Cert.AdamFinalRefIdeal.τ).loc Cert.AdamFinalRefIdeal.main_arg0) = m' ((c.tc : Thread Cert.AdamFinalRefIdeal.nD Cert.AdamFinalRefIdeal.τ).loc Cert.AdamFinalRefIdeal.main_arg0)
          ∧ r.2.mem ((c.tc : Thread Cert.AdamFinalRefIdeal.nD Cert.AdamFinalRefIdeal.τ).loc Cert.AdamFinalRefIdeal.main_arg1) = m' ((c.tc : Thread Cert.AdamFinalRefIdeal.nD Cert.AdamFinalRefIdeal.τ).loc Cert.AdamFinalRefIdeal.main_arg1)
          ∧ r.2.mem ((c.tc : Thread Cert.AdamFinalRefIdeal.nD Cert.AdamFinalRefIdeal.τ).loc Cert.AdamFinalRefIdeal.main_arg2) = m' ((c.tc : Thread Cert.AdamFinalRefIdeal.nD Cert.AdamFinalRefIdeal.τ).loc Cert.AdamFinalRefIdeal.main_arg2)
          ∧ r.2.mem ((c.tc : Thread Cert.AdamFinalRefIdeal.nD Cert.AdamFinalRefIdeal.τ).loc Cert.AdamFinalRefIdeal.main_arg3) = m' ((c.tc : Thread Cert.AdamFinalRefIdeal.nD Cert.AdamFinalRefIdeal.τ).loc Cert.AdamFinalRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)) →
    ∃ (v0 : (c : Dev Cert.SmallIdeal.nD) → Buf (Elt Ideal) ((c.tc : Thread Cert.SmallIdeal.nD Cert.SmallIdeal.τ).loc Cert.SmallIdeal.main_v15)) (v1 : (c : Dev Cert.SmallIdeal.nD) → Buf (Elt Ideal) ((c.tc : Thread Cert.SmallIdeal.nD Cert.SmallIdeal.τ).loc Cert.SmallIdeal.main_v16)) (v2 : (c : Dev Cert.SmallIdeal.nD) → Buf (Elt Ideal) ((c.tc : Thread Cert.SmallIdeal.nD Cert.SmallIdeal.τ).loc Cert.SmallIdeal.main_v17)) (v3 : (c : Dev Cert.SmallIdeal.nD) → Buf (Elt Ideal) ((c.tc : Thread Cert.SmallIdeal.nD Cert.SmallIdeal.τ).loc Cert.SmallIdeal.main_v18)) (v4 : (c : Dev Cert.SmallIdeal.nD) → Buf (Elt Ideal) ((c.tc : Thread Cert.SmallIdeal.nD Cert.SmallIdeal.τ).loc Cert.SmallIdeal.main_v19)) (v5 : (c : Dev Cert.SmallIdeal.nD) → Buf (Elt Ideal) ((c.tc : Thread Cert.SmallIdeal.nD Cert.SmallIdeal.τ).loc Cert.SmallIdeal.main_v20)) (v6 : (c : Dev Cert.SmallIdeal.nD) → Buf (Elt Ideal) ((c.tc : Thread Cert.SmallIdeal.nD Cert.SmallIdeal.τ).loc Cert.SmallIdeal.main_v21)) (v7 : (c : Dev Cert.SmallIdeal.nD) → Buf (Elt Ideal) ((c.tc : Thread Cert.SmallIdeal.nD Cert.SmallIdeal.τ).loc Cert.SmallIdeal.main_v22)) (v8 : (c : Dev Cert.SmallIdeal.nD) → Buf (Elt Ideal) ((c.tc : Thread Cert.SmallIdeal.nD Cert.SmallIdeal.τ).loc Cert.SmallIdeal.main_v23)) (v9 : (c : Dev Cert.SmallIdeal.nD) → Buf (Elt Ideal) ((c.tc : Thread Cert.SmallIdeal.nD Cert.SmallIdeal.τ).loc Cert.SmallIdeal.main_v24)) (v10 : (c : Dev Cert.SmallIdeal.nD) → Buf (Elt Ideal) ((c.tc : Thread Cert.SmallIdeal.nD Cert.SmallIdeal.τ).loc Cert.SmallIdeal.main_v25)) (v11 : (c : Dev Cert.SmallIdeal.nD) → Buf (Elt Ideal) ((c.tc : Thread Cert.SmallIdeal.nD Cert.SmallIdeal.τ).loc Cert.SmallIdeal.main_v26)) (v12 : (c : Dev Cert.SmallIdeal.nD) → Buf (Elt Ideal) ((c.tc : Thread Cert.SmallIdeal.nD Cert.SmallIdeal.τ).loc Cert.SmallIdeal.main_v27)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v15) = v0 c
          ∧ r.2.mem ((c.tc : Thread Cert.SmallIdeal.nD Cert.SmallIdeal.τ).loc Cert.SmallIdeal.main_v16) = v1 c
          ∧ r.2.mem ((c.tc : Thread Cert.SmallIdeal.nD Cert.SmallIdeal.τ).loc Cert.SmallIdeal.main_v17) = v2 c
          ∧ r.2.mem ((c.tc : Thread Cert.SmallIdeal.nD Cert.SmallIdeal.τ).loc Cert.SmallIdeal.main_v18) = v3 c
          ∧ r.2.mem ((c.tc : Thread Cert.SmallIdeal.nD Cert.SmallIdeal.τ).loc Cert.SmallIdeal.main_v19) = v4 c
          ∧ r.2.mem ((c.tc : Thread Cert.SmallIdeal.nD Cert.SmallIdeal.τ).loc Cert.SmallIdeal.main_v20) = v5 c
          ∧ r.2.mem ((c.tc : Thread Cert.SmallIdeal.nD Cert.SmallIdeal.τ).loc Cert.SmallIdeal.main_v21) = v6 c
          ∧ r.2.mem ((c.tc : Thread Cert.SmallIdeal.nD Cert.SmallIdeal.τ).loc Cert.SmallIdeal.main_v22) = v7 c
          ∧ r.2.mem ((c.tc : Thread Cert.SmallIdeal.nD Cert.SmallIdeal.τ).loc Cert.SmallIdeal.main_v23) = v8 c
          ∧ r.2.mem ((c.tc : Thread Cert.SmallIdeal.nD Cert.SmallIdeal.τ).loc Cert.SmallIdeal.main_v24) = v9 c
          ∧ r.2.mem ((c.tc : Thread Cert.SmallIdeal.nD Cert.SmallIdeal.τ).loc Cert.SmallIdeal.main_v25) = v10 c
          ∧ r.2.mem ((c.tc : Thread Cert.SmallIdeal.nD Cert.SmallIdeal.τ).loc Cert.SmallIdeal.main_v26) = v11 c
          ∧ r.2.mem ((c.tc : Thread Cert.SmallIdeal.nD Cert.SmallIdeal.τ).loc Cert.SmallIdeal.main_v27) = v12 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v1) = v1 c
          ∧ r.2.mem ((c.tc : Thread Cert.SmallRefIdeal.nD Cert.SmallRefIdeal.τ).loc Cert.SmallRefIdeal.main_v2) = v2 c
          ∧ r.2.mem ((c.tc : Thread Cert.SmallRefIdeal.nD Cert.SmallRefIdeal.τ).loc Cert.SmallRefIdeal.main_v3) = v3 c
          ∧ r.2.mem ((c.tc : Thread Cert.SmallRefIdeal.nD Cert.SmallRefIdeal.τ).loc Cert.SmallRefIdeal.main_v4) = v4 c
          ∧ r.2.mem ((c.tc : Thread Cert.SmallRefIdeal.nD Cert.SmallRefIdeal.τ).loc Cert.SmallRefIdeal.main_v5) = v5 c
          ∧ r.2.mem ((c.tc : Thread Cert.SmallRefIdeal.nD Cert.SmallRefIdeal.τ).loc Cert.SmallRefIdeal.main_v6) = v6 c
          ∧ r.2.mem ((c.tc : Thread Cert.SmallRefIdeal.nD Cert.SmallRefIdeal.τ).loc Cert.SmallRefIdeal.main_v7) = v7 c
          ∧ r.2.mem ((c.tc : Thread Cert.SmallRefIdeal.nD Cert.SmallRefIdeal.τ).loc Cert.SmallRefIdeal.main_v8) = v8 c
          ∧ r.2.mem ((c.tc : Thread Cert.SmallRefIdeal.nD Cert.SmallRefIdeal.τ).loc Cert.SmallRefIdeal.main_v9) = v9 c
          ∧ r.2.mem ((c.tc : Thread Cert.SmallRefIdeal.nD Cert.SmallRefIdeal.τ).loc Cert.SmallRefIdeal.main_v10) = v10 c
          ∧ r.2.mem ((c.tc : Thread Cert.SmallRefIdeal.nD Cert.SmallRefIdeal.τ).loc Cert.SmallRefIdeal.main_v11) = v11 c
          ∧ r.2.mem ((c.tc : Thread Cert.SmallRefIdeal.nD Cert.SmallRefIdeal.τ).loc Cert.SmallRefIdeal.main_v12) = v12 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v1_0)) (v2 : (c : Dev Cert.NormIdeal.nD) → Buf (Elt Ideal) ((c.tc : Thread Cert.NormIdeal.nD Cert.NormIdeal.τ).loc Cert.NormIdeal.main_v1_1)) (v3 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v1_0) = v1 c
          ∧ r.2.mem ((c.tc : Thread Cert.NormIdeal.nD Cert.NormIdeal.τ).loc Cert.NormIdeal.main_v1_1) = v2 c
          ∧ r.2.mem ((c.tc : Thread Cert.NormIdeal.nD Cert.NormIdeal.τ).loc Cert.NormIdeal.main_v1_2) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v34) = v1 c
          ∧ r.2.mem ((c.tc : Thread Cert.NormRefIdeal.nD Cert.NormRefIdeal.τ).loc Cert.NormRefIdeal.main_v17) = v2 c
          ∧ r.2.mem ((c.tc : Thread Cert.NormRefIdeal.nD Cert.NormRefIdeal.τ).loc Cert.NormRefIdeal.main_v38) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v35) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)) →
    ∃ (v0 : (c : Dev Cert.GlaProjIdeal.nD) → Buf (Elt Ideal) ((c.tc : Thread Cert.GlaProjIdeal.nD Cert.GlaProjIdeal.τ).loc Cert.GlaProjIdeal.main_v0)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v0) = v0 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v2) = v0 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1))

def preserves_GlaProjW_GlaProjWIdeal : Prop :=
  True

def algebraic_GlaProjWIdeal_GlaProjWRefIdeal [hGlaProjWIdeal : Cert.GlaProjWIdeal.Facts] [hGlaProjWRefIdeal : Cert.GlaProjWRefIdeal.Facts] : Prop :=
  ∀ (m : (ℓ : Loc Cert.GlaProjWIdeal.nD Cert.GlaProjWIdeal.τ Cert.GlaProjWIdeal.sig) → Buf (Elt Ideal) ℓ) (g : Dev Cert.GlaProjWIdeal.nD → PrngReg)
    (m' : (ℓ : Loc Cert.GlaProjWRefIdeal.nD Cert.GlaProjWRefIdeal.τ Cert.GlaProjWRefIdeal.sig) → Buf (Elt Ideal) ℓ) (g' : Dev Cert.GlaProjWRefIdeal.nD → PrngReg), Pre_GlaProjWIdeal m →
    (∀ c : Dev Cert.GlaProjWIdeal.nD,
      m' ((c.tc : Thread Cert.GlaProjWRefIdeal.nD Cert.GlaProjWRefIdeal.τ).loc Cert.GlaProjWRefIdeal.main_arg0) = m ((c.tc : Thread Cert.GlaProjWIdeal.nD Cert.GlaProjWIdeal.τ).loc Cert.GlaProjWIdeal.main_arg0)
      ∧ m' ((c.tc : Thread Cert.GlaProjWRefIdeal.nD Cert.GlaProjWRefIdeal.τ).loc Cert.GlaProjWRefIdeal.main_arg1) = m ((c.tc : Thread Cert.GlaProjWIdeal.nD Cert.GlaProjWIdeal.τ).loc Cert.GlaProjWIdeal.main_arg1)) →
    ∃ (v0 : (c : Dev Cert.GlaProjWIdeal.nD) → Buf (Elt Ideal) ((c.tc : Thread Cert.GlaProjWIdeal.nD Cert.GlaProjWIdeal.τ).loc Cert.GlaProjWIdeal.main_v0)),
      θ_run (Cert.GlaProjWIdeal.defs (F := Ideal)) (onTc (τ := Cert.GlaProjWIdeal.τ) (Cert.GlaProjWIdeal.main (F := Ideal))) ⟨m, fun _ => 0, g⟩ (fun r => ∀ c : Dev Cert.GlaProjWIdeal.nD,
          r.2.mem ((c.tc : Thread Cert.GlaProjWIdeal.nD Cert.GlaProjWIdeal.τ).loc Cert.GlaProjWIdeal.main_v0) = v0 c
          ∧ r.2.mem ((c.tc : Thread Cert.GlaProjWIdeal.nD Cert.GlaProjWIdeal.τ).loc Cert.GlaProjWIdeal.main_arg0) = m ((c.tc : Thread Cert.GlaProjWIdeal.nD Cert.GlaProjWIdeal.τ).loc Cert.GlaProjWIdeal.main_arg0)
          ∧ r.2.mem ((c.tc : Thread Cert.GlaProjWIdeal.nD Cert.GlaProjWIdeal.τ).loc Cert.GlaProjWIdeal.main_arg1) = m ((c.tc : Thread Cert.GlaProjWIdeal.nD Cert.GlaProjWIdeal.τ).loc Cert.GlaProjWIdeal.main_arg1))
      ∧ θ_run (Cert.GlaProjWRefIdeal.defs (F := Ideal)) (onTc (τ := Cert.GlaProjWRefIdeal.τ) (Cert.GlaProjWRefIdeal.main (F := Ideal))) ⟨m', fun _ => 0, g'⟩ (fun r => ∀ c : Dev Cert.GlaProjWRefIdeal.nD,
          r.2.mem ((c.tc : Thread Cert.GlaProjWRefIdeal.nD Cert.GlaProjWRefIdeal.τ).loc Cert.GlaProjWRefIdeal.main_v6) = v0 c
          ∧ r.2.mem ((c.tc : Thread Cert.GlaProjWRefIdeal.nD Cert.GlaProjWRefIdeal.τ).loc Cert.GlaProjWRefIdeal.main_arg0) = m' ((c.tc : Thread Cert.GlaProjWRefIdeal.nD Cert.GlaProjWRefIdeal.τ).loc Cert.GlaProjWRefIdeal.main_arg0)
          ∧ r.2.mem ((c.tc : Thread Cert.GlaProjWRefIdeal.nD Cert.GlaProjWRefIdeal.τ).loc Cert.GlaProjWRefIdeal.main_arg1) = m' ((c.tc : Thread Cert.GlaProjWRefIdeal.nD Cert.GlaProjWRefIdeal.τ).loc Cert.GlaProjWRefIdeal.main_arg1))

def preserves_GlaProjH_GlaProjHIdeal : Prop :=
  True

def algebraic_GlaProjHIdeal_GlaProjHRefIdeal [hGlaProjHIdeal : Cert.GlaProjHIdeal.Facts] [hGlaProjHRefIdeal : Cert.GlaProjHRefIdeal.Facts] : Prop :=
  ∀ (m : (ℓ : Loc Cert.GlaProjHIdeal.nD Cert.GlaProjHIdeal.τ Cert.GlaProjHIdeal.sig) → Buf (Elt Ideal) ℓ) (g : Dev Cert.GlaProjHIdeal.nD → PrngReg)
    (m' : (ℓ : Loc Cert.GlaProjHRefIdeal.nD Cert.GlaProjHRefIdeal.τ Cert.GlaProjHRefIdeal.sig) → Buf (Elt Ideal) ℓ) (g' : Dev Cert.GlaProjHRefIdeal.nD → PrngReg), Pre_GlaProjHIdeal m →
    (∀ c : Dev Cert.GlaProjHIdeal.nD,
      m' ((c.tc : Thread Cert.GlaProjHRefIdeal.nD Cert.GlaProjHRefIdeal.τ).loc Cert.GlaProjHRefIdeal.main_arg0) = m ((c.tc : Thread Cert.GlaProjHIdeal.nD Cert.GlaProjHIdeal.τ).loc Cert.GlaProjHIdeal.main_arg0)
      ∧ m' ((c.tc : Thread Cert.GlaProjHRefIdeal.nD Cert.GlaProjHRefIdeal.τ).loc Cert.GlaProjHRefIdeal.main_arg1) = m ((c.tc : Thread Cert.GlaProjHIdeal.nD Cert.GlaProjHIdeal.τ).loc Cert.GlaProjHIdeal.main_arg1)) →
    ∃ (v0 : (c : Dev Cert.GlaProjHIdeal.nD) → Buf (Elt Ideal) ((c.tc : Thread Cert.GlaProjHIdeal.nD Cert.GlaProjHIdeal.τ).loc Cert.GlaProjHIdeal.main_v0)),
      θ_run (Cert.GlaProjHIdeal.defs (F := Ideal)) (onTc (τ := Cert.GlaProjHIdeal.τ) (Cert.GlaProjHIdeal.main (F := Ideal))) ⟨m, fun _ => 0, g⟩ (fun r => ∀ c : Dev Cert.GlaProjHIdeal.nD,
          r.2.mem ((c.tc : Thread Cert.GlaProjHIdeal.nD Cert.GlaProjHIdeal.τ).loc Cert.GlaProjHIdeal.main_v0) = v0 c
          ∧ r.2.mem ((c.tc : Thread Cert.GlaProjHIdeal.nD Cert.GlaProjHIdeal.τ).loc Cert.GlaProjHIdeal.main_arg0) = m ((c.tc : Thread Cert.GlaProjHIdeal.nD Cert.GlaProjHIdeal.τ).loc Cert.GlaProjHIdeal.main_arg0)
          ∧ r.2.mem ((c.tc : Thread Cert.GlaProjHIdeal.nD Cert.GlaProjHIdeal.τ).loc Cert.GlaProjHIdeal.main_arg1) = m ((c.tc : Thread Cert.GlaProjHIdeal.nD Cert.GlaProjHIdeal.τ).loc Cert.GlaProjHIdeal.main_arg1))
      ∧ θ_run (Cert.GlaProjHRefIdeal.defs (F := Ideal)) (onTc (τ := Cert.GlaProjHRefIdeal.τ) (Cert.GlaProjHRefIdeal.main (F := Ideal))) ⟨m', fun _ => 0, g'⟩ (fun r => ∀ c : Dev Cert.GlaProjHRefIdeal.nD,
          r.2.mem ((c.tc : Thread Cert.GlaProjHRefIdeal.nD Cert.GlaProjHRefIdeal.τ).loc Cert.GlaProjHRefIdeal.main_v4) = v0 c
          ∧ r.2.mem ((c.tc : Thread Cert.GlaProjHRefIdeal.nD Cert.GlaProjHRefIdeal.τ).loc Cert.GlaProjHRefIdeal.main_arg0) = m' ((c.tc : Thread Cert.GlaProjHRefIdeal.nD Cert.GlaProjHRefIdeal.τ).loc Cert.GlaProjHRefIdeal.main_arg0)
          ∧ r.2.mem ((c.tc : Thread Cert.GlaProjHRefIdeal.nD Cert.GlaProjHRefIdeal.τ).loc Cert.GlaProjHRefIdeal.main_arg1) = m' ((c.tc : Thread Cert.GlaProjHRefIdeal.nD Cert.GlaProjHRefIdeal.τ).loc Cert.GlaProjHRefIdeal.main_arg1))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)) →
    ∃ (v0 : (c : Dev Cert.GlaOutIdeal.nD) → Buf (Elt Ideal) ((c.tc : Thread Cert.GlaOutIdeal.nD Cert.GlaOutIdeal.τ).loc Cert.GlaOutIdeal.main_v0)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v0) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v3) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2))

def preserves_GlaOutW_GlaOutWIdeal : Prop :=
  True

def algebraic_GlaOutWIdeal_GlaOutWRefIdeal [hGlaOutWIdeal : Cert.GlaOutWIdeal.Facts] [hGlaOutWRefIdeal : Cert.GlaOutWRefIdeal.Facts] : Prop :=
  ∀ (m : (ℓ : Loc Cert.GlaOutWIdeal.nD Cert.GlaOutWIdeal.τ Cert.GlaOutWIdeal.sig) → Buf (Elt Ideal) ℓ) (g : Dev Cert.GlaOutWIdeal.nD → PrngReg)
    (m' : (ℓ : Loc Cert.GlaOutWRefIdeal.nD Cert.GlaOutWRefIdeal.τ Cert.GlaOutWRefIdeal.sig) → Buf (Elt Ideal) ℓ) (g' : Dev Cert.GlaOutWRefIdeal.nD → PrngReg), Pre_GlaOutWIdeal m →
    (∀ c : Dev Cert.GlaOutWIdeal.nD,
      m' ((c.tc : Thread Cert.GlaOutWRefIdeal.nD Cert.GlaOutWRefIdeal.τ).loc Cert.GlaOutWRefIdeal.main_arg0) = m ((c.tc : Thread Cert.GlaOutWIdeal.nD Cert.GlaOutWIdeal.τ).loc Cert.GlaOutWIdeal.main_arg0)
      ∧ m' ((c.tc : Thread Cert.GlaOutWRefIdeal.nD Cert.GlaOutWRefIdeal.τ).loc Cert.GlaOutWRefIdeal.main_arg1) = m ((c.tc : Thread Cert.GlaOutWIdeal.nD Cert.GlaOutWIdeal.τ).loc Cert.GlaOutWIdeal.main_arg1)) →
    ∃ (v0 : (c : Dev Cert.GlaOutWIdeal.nD) → Buf (Elt Ideal) ((c.tc : Thread Cert.GlaOutWIdeal.nD Cert.GlaOutWIdeal.τ).loc Cert.GlaOutWIdeal.main_v0)),
      θ_run (Cert.GlaOutWIdeal.defs (F := Ideal)) (onTc (τ := Cert.GlaOutWIdeal.τ) (Cert.GlaOutWIdeal.main (F := Ideal))) ⟨m, fun _ => 0, g⟩ (fun r => ∀ c : Dev Cert.GlaOutWIdeal.nD,
          r.2.mem ((c.tc : Thread Cert.GlaOutWIdeal.nD Cert.GlaOutWIdeal.τ).loc Cert.GlaOutWIdeal.main_v0) = v0 c
          ∧ r.2.mem ((c.tc : Thread Cert.GlaOutWIdeal.nD Cert.GlaOutWIdeal.τ).loc Cert.GlaOutWIdeal.main_arg0) = m ((c.tc : Thread Cert.GlaOutWIdeal.nD Cert.GlaOutWIdeal.τ).loc Cert.GlaOutWIdeal.main_arg0)
          ∧ r.2.mem ((c.tc : Thread Cert.GlaOutWIdeal.nD Cert.GlaOutWIdeal.τ).loc Cert.GlaOutWIdeal.main_arg1) = m ((c.tc : Thread Cert.GlaOutWIdeal.nD Cert.GlaOutWIdeal.τ).loc Cert.GlaOutWIdeal.main_arg1))
      ∧ θ_run (Cert.GlaOutWRefIdeal.defs (F := Ideal)) (onTc (τ := Cert.GlaOutWRefIdeal.τ) (Cert.GlaOutWRefIdeal.main (F := Ideal))) ⟨m', fun _ => 0, g'⟩ (fun r => ∀ c : Dev Cert.GlaOutWRefIdeal.nD,
          r.2.mem ((c.tc : Thread Cert.GlaOutWRefIdeal.nD Cert.GlaOutWRefIdeal.τ).loc Cert.GlaOutWRefIdeal.main_v5) = v0 c
          ∧ r.2.mem ((c.tc : Thread Cert.GlaOutWRefIdeal.nD Cert.GlaOutWRefIdeal.τ).loc Cert.GlaOutWRefIdeal.main_arg0) = m' ((c.tc : Thread Cert.GlaOutWRefIdeal.nD Cert.GlaOutWRefIdeal.τ).loc Cert.GlaOutWRefIdeal.main_arg0)
          ∧ r.2.mem ((c.tc : Thread Cert.GlaOutWRefIdeal.nD Cert.GlaOutWRefIdeal.τ).loc Cert.GlaOutWRefIdeal.main_arg1) = m' ((c.tc : Thread Cert.GlaOutWRefIdeal.nD Cert.GlaOutWRefIdeal.τ).loc Cert.GlaOutWRefIdeal.main_arg1))

def preserves_GlaOutH_GlaOutHIdeal : Prop :=
  True

def algebraic_GlaOutHIdeal_GlaOutHRefIdeal [hGlaOutHIdeal : Cert.GlaOutHIdeal.Facts] [hGlaOutHRefIdeal : Cert.GlaOutHRefIdeal.Facts] : Prop :=
  ∀ (m : (ℓ : Loc Cert.GlaOutHIdeal.nD Cert.GlaOutHIdeal.τ Cert.GlaOutHIdeal.sig) → Buf (Elt Ideal) ℓ) (g : Dev Cert.GlaOutHIdeal.nD → PrngReg)
    (m' : (ℓ : Loc Cert.GlaOutHRefIdeal.nD Cert.GlaOutHRefIdeal.τ Cert.GlaOutHRefIdeal.sig) → Buf (Elt Ideal) ℓ) (g' : Dev Cert.GlaOutHRefIdeal.nD → PrngReg), Pre_GlaOutHIdeal m →
    (∀ c : Dev Cert.GlaOutHIdeal.nD,
      m' ((c.tc : Thread Cert.GlaOutHRefIdeal.nD Cert.GlaOutHRefIdeal.τ).loc Cert.GlaOutHRefIdeal.main_arg0) = m ((c.tc : Thread Cert.GlaOutHIdeal.nD Cert.GlaOutHIdeal.τ).loc Cert.GlaOutHIdeal.main_arg0)
      ∧ m' ((c.tc : Thread Cert.GlaOutHRefIdeal.nD Cert.GlaOutHRefIdeal.τ).loc Cert.GlaOutHRefIdeal.main_arg1) = m ((c.tc : Thread Cert.GlaOutHIdeal.nD Cert.GlaOutHIdeal.τ).loc Cert.GlaOutHIdeal.main_arg1)) →
    ∃ (v0 : (c : Dev Cert.GlaOutHIdeal.nD) → Buf (Elt Ideal) ((c.tc : Thread Cert.GlaOutHIdeal.nD Cert.GlaOutHIdeal.τ).loc Cert.GlaOutHIdeal.main_v0)),
      θ_run (Cert.GlaOutHIdeal.defs (F := Ideal)) (onTc (τ := Cert.GlaOutHIdeal.τ) (Cert.GlaOutHIdeal.main (F := Ideal))) ⟨m, fun _ => 0, g⟩ (fun r => ∀ c : Dev Cert.GlaOutHIdeal.nD,
          r.2.mem ((c.tc : Thread Cert.GlaOutHIdeal.nD Cert.GlaOutHIdeal.τ).loc Cert.GlaOutHIdeal.main_v0) = v0 c
          ∧ r.2.mem ((c.tc : Thread Cert.GlaOutHIdeal.nD Cert.GlaOutHIdeal.τ).loc Cert.GlaOutHIdeal.main_arg0) = m ((c.tc : Thread Cert.GlaOutHIdeal.nD Cert.GlaOutHIdeal.τ).loc Cert.GlaOutHIdeal.main_arg0)
          ∧ r.2.mem ((c.tc : Thread Cert.GlaOutHIdeal.nD Cert.GlaOutHIdeal.τ).loc Cert.GlaOutHIdeal.main_arg1) = m ((c.tc : Thread Cert.GlaOutHIdeal.nD Cert.GlaOutHIdeal.τ).loc Cert.GlaOutHIdeal.main_arg1))
      ∧ θ_run (Cert.GlaOutHRefIdeal.defs (F := Ideal)) (onTc (τ := Cert.GlaOutHRefIdeal.τ) (Cert.GlaOutHRefIdeal.main (F := Ideal))) ⟨m', fun _ => 0, g'⟩ (fun r => ∀ c : Dev Cert.GlaOutHRefIdeal.nD,
          r.2.mem ((c.tc : Thread Cert.GlaOutHRefIdeal.nD Cert.GlaOutHRefIdeal.τ).loc Cert.GlaOutHRefIdeal.main_v3) = v0 c
          ∧ r.2.mem ((c.tc : Thread Cert.GlaOutHRefIdeal.nD Cert.GlaOutHRefIdeal.τ).loc Cert.GlaOutHRefIdeal.main_arg0) = m' ((c.tc : Thread Cert.GlaOutHRefIdeal.nD Cert.GlaOutHRefIdeal.τ).loc Cert.GlaOutHRefIdeal.main_arg0)
          ∧ r.2.mem ((c.tc : Thread Cert.GlaOutHRefIdeal.nD Cert.GlaOutHRefIdeal.τ).loc Cert.GlaOutHRefIdeal.main_arg1) = m' ((c.tc : Thread Cert.GlaOutHRefIdeal.nD Cert.GlaOutHRefIdeal.τ).loc Cert.GlaOutHRefIdeal.main_arg1))

def preserves_PairUp_PairUpIdeal : Prop :=
  True

def algebraic_PairUpIdeal_PairUpRefIdeal [hPairUpIdeal : Cert.PairUpIdeal.Facts] [hPairUpRefIdeal : Cert.PairUpRefIdeal.Facts] : Prop :=
  ∀ (m : (ℓ : Loc Cert.PairUpIdeal.nD Cert.PairUpIdeal.τ Cert.PairUpIdeal.sig) → Buf (Elt Ideal) ℓ) (g : Dev Cert.PairUpIdeal.nD → PrngReg)
    (m' : (ℓ : Loc Cert.PairUpRefIdeal.nD Cert.PairUpRefIdeal.τ Cert.PairUpRefIdeal.sig) → Buf (Elt Ideal) ℓ) (g' : Dev Cert.PairUpRefIdeal.nD → PrngReg), Pre_PairUpIdeal m →
    (∀ c : Dev Cert.PairUpIdeal.nD,
      m' ((c.tc : Thread Cert.PairUpRefIdeal.nD Cert.PairUpRefIdeal.τ).loc Cert.PairUpRefIdeal.main_arg0) = m ((c.tc : Thread Cert.PairUpIdeal.nD Cert.PairUpIdeal.τ).loc Cert.PairUpIdeal.main_arg0)
      ∧ m' ((c.tc : Thread Cert.PairUpRefIdeal.nD Cert.PairUpRefIdeal.τ).loc Cert.PairUpRefIdeal.main_arg1) = m ((c.tc : Thread Cert.PairUpIdeal.nD Cert.PairUpIdeal.τ).loc Cert.PairUpIdeal.main_arg1)) →
    ∃ (v0 : (c : Dev Cert.PairUpIdeal.nD) → Buf (Elt Ideal) ((c.tc : Thread Cert.PairUpIdeal.nD Cert.PairUpIdeal.τ).loc Cert.PairUpIdeal.main_v1)),
      θ_run (Cert.PairUpIdeal.defs (F := Ideal)) (onTc (τ := Cert.PairUpIdeal.τ) (Cert.PairUpIdeal.main (F := Ideal))) ⟨m, fun _ => 0, g⟩ (fun r => ∀ c : Dev Cert.PairUpIdeal.nD,
          r.2.mem ((c.tc : Thread Cert.PairUpIdeal.nD Cert.PairUpIdeal.τ).loc Cert.PairUpIdeal.main_v1) = v0 c
          ∧ r.2.mem ((c.tc : Thread Cert.PairUpIdeal.nD Cert.PairUpIdeal.τ).loc Cert.PairUpIdeal.main_arg0) = m ((c.tc : Thread Cert.PairUpIdeal.nD Cert.PairUpIdeal.τ).loc Cert.PairUpIdeal.main_arg0)
          ∧ r.2.mem ((c.tc : Thread Cert.PairUpIdeal.nD Cert.PairUpIdeal.τ).loc Cert.PairUpIdeal.main_arg1) = m ((c.tc : Thread Cert.PairUpIdeal.nD Cert.PairUpIdeal.τ).loc Cert.PairUpIdeal.main_arg1))
      ∧ θ_run (Cert.PairUpRefIdeal.defs (F := Ideal)) (onTc (τ := Cert.PairUpRefIdeal.τ) (Cert.PairUpRefIdeal.main (F := Ideal))) ⟨m', fun _ => 0, g'⟩ (fun r => ∀ c : Dev Cert.PairUpRefIdeal.nD,
          r.2.mem ((c.tc : Thread Cert.PairUpRefIdeal.nD Cert.PairUpRefIdeal.τ).loc Cert.PairUpRefIdeal.main_v5) = v0 c
          ∧ r.2.mem ((c.tc : Thread Cert.PairUpRefIdeal.nD Cert.PairUpRefIdeal.τ).loc Cert.PairUpRefIdeal.main_arg0) = m' ((c.tc : Thread Cert.PairUpRefIdeal.nD Cert.PairUpRefIdeal.τ).loc Cert.PairUpRefIdeal.main_arg0)
          ∧ r.2.mem ((c.tc : Thread Cert.PairUpRefIdeal.nD Cert.PairUpRefIdeal.τ).loc Cert.PairUpRefIdeal.main_arg1) = m' ((c.tc : Thread Cert.PairUpRefIdeal.nD Cert.PairUpRefIdeal.τ).loc Cert.PairUpRefIdeal.main_arg1))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)
      ∧ m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1)) →
    ∃ (v0 : (c : Dev Cert.SumUpIdeal.nD) → Buf (Elt Ideal) ((c.tc : Thread Cert.SumUpIdeal.nD Cert.SumUpIdeal.τ).loc Cert.SumUpIdeal.main_v4)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v4) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v5) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0)
          ∧ r.2.mem ((c.tc : Thread Cert.SumUpRefIdeal.nD Cert.SumUpRefIdeal.τ).loc Cert.SumUpRefIdeal.main_arg1) = m' ((c.tc : Thread Cert.SumUpRefIdeal.nD Cert.SumUpRefIdeal.τ).loc Cert.SumUpRefIdeal.main_arg1))

def preserves_PairDown_PairDownIdeal : Prop :=
  True

def algebraic_PairDownIdeal_PairDownRefIdeal [hPairDownIdeal : Cert.PairDownIdeal.Facts] [hPairDownRefIdeal : Cert.PairDownRefIdeal.Facts] : Prop :=
  ∀ (m : (ℓ : Loc Cert.PairDownIdeal.nD Cert.PairDownIdeal.τ Cert.PairDownIdeal.sig) → Buf (Elt Ideal) ℓ) (g : Dev Cert.PairDownIdeal.nD → PrngReg)
    (m' : (ℓ : Loc Cert.PairDownRefIdeal.nD Cert.PairDownRefIdeal.τ Cert.PairDownRefIdeal.sig) → Buf (Elt Ideal) ℓ) (g' : Dev Cert.PairDownRefIdeal.nD → PrngReg), Pre_PairDownIdeal m →
    (∀ c : Dev Cert.PairDownIdeal.nD,
      m' ((c.tc : Thread Cert.PairDownRefIdeal.nD Cert.PairDownRefIdeal.τ).loc Cert.PairDownRefIdeal.main_arg0) = m ((c.tc : Thread Cert.PairDownIdeal.nD Cert.PairDownIdeal.τ).loc Cert.PairDownIdeal.main_arg0)
      ∧ m' ((c.tc : Thread Cert.PairDownRefIdeal.nD Cert.PairDownRefIdeal.τ).loc Cert.PairDownRefIdeal.main_arg1) = m ((c.tc : Thread Cert.PairDownIdeal.nD Cert.PairDownIdeal.τ).loc Cert.PairDownIdeal.main_arg1)) →
    ∃ (v0 : (c : Dev Cert.PairDownIdeal.nD) → Buf (Elt Ideal) ((c.tc : Thread Cert.PairDownIdeal.nD Cert.PairDownIdeal.τ).loc Cert.PairDownIdeal.main_v1)),
      θ_run (Cert.PairDownIdeal.defs (F := Ideal)) (onTc (τ := Cert.PairDownIdeal.τ) (Cert.PairDownIdeal.main (F := Ideal))) ⟨m, fun _ => 0, g⟩ (fun r => ∀ c : Dev Cert.PairDownIdeal.nD,
          r.2.mem ((c.tc : Thread Cert.PairDownIdeal.nD Cert.PairDownIdeal.τ).loc Cert.PairDownIdeal.main_v1) = v0 c
          ∧ r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
          ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1))
      ∧ θ_run (Cert.PairDownRefIdeal.defs (F := Ideal)) (onTc (τ := Cert.PairDownRefIdeal.τ) (Cert.PairDownRefIdeal.main (F := Ideal))) ⟨m', fun _ => 0, g'⟩ (fun r => ∀ c : Dev Cert.PairDownRefIdeal.nD,
          r.2.mem ((c.tc : Thread Cert.PairDownRefIdeal.nD Cert.PairDownRefIdeal.τ).loc Cert.PairDownRefIdeal.main_v5) = v0 c
          ∧ r.2.mem ((c.tc : Thread Cert.PairDownRefIdeal.nD Cert.PairDownRefIdeal.τ).loc Cert.PairDownRefIdeal.main_arg0) = m' ((c.tc : Thread Cert.PairDownRefIdeal.nD Cert.PairDownRefIdeal.τ).loc Cert.PairDownRefIdeal.main_arg0)
          ∧ r.2.mem ((c.tc : Thread Cert.PairDownRefIdeal.nD Cert.PairDownRefIdeal.τ).loc Cert.PairDownRefIdeal.main_arg1) = m' ((c.tc : Thread Cert.PairDownRefIdeal.nD Cert.PairDownRefIdeal.τ).loc Cert.PairDownRefIdeal.main_arg1))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)
      ∧ m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1)) →
    ∃ (v0 : (c : Dev Cert.SumDownIdeal.nD) → Buf (Elt Ideal) ((c.tc : Thread Cert.SumDownIdeal.nD Cert.SumDownIdeal.τ).loc Cert.SumDownIdeal.main_v4)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v4) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
          ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v5) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0)
          ∧ r.2.mem ((c.tc : Thread Cert.SumDownRefIdeal.nD Cert.SumDownRefIdeal.τ).loc Cert.SumDownRefIdeal.main_arg1) = m' ((c.tc : Thread Cert.SumDownRefIdeal.nD Cert.SumDownRefIdeal.τ).loc Cert.SumDownRefIdeal.main_arg1))

def preserves_PairIn_PairInIdeal : Prop :=
  True

def algebraic_PairInIdeal_PairInRefIdeal [hPairInIdeal : Cert.PairInIdeal.Facts] [hPairInRefIdeal : Cert.PairInRefIdeal.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInRefIdeal.nD Cert.PairInRefIdeal.τ Cert.PairInRefIdeal.sig) → Buf (Elt Ideal) ℓ) (g' : Dev Cert.PairInRefIdeal.nD → PrngReg), Pre_PairInIdeal m →
    (∀ c : Dev Cert.PairInIdeal.nD,
      m' ((c.tc : Thread Cert.PairInRefIdeal.nD Cert.PairInRefIdeal.τ).loc Cert.PairInRefIdeal.main_arg0) = m ((c.tc : Thread Cert.PairInIdeal.nD Cert.PairInIdeal.τ).loc Cert.PairInIdeal.main_arg0)
      ∧ m' ((c.tc : Thread Cert.PairInRefIdeal.nD Cert.PairInRefIdeal.τ).loc Cert.PairInRefIdeal.main_arg1) = m ((c.tc : Thread Cert.PairInIdeal.nD Cert.PairInIdeal.τ).loc Cert.PairInIdeal.main_arg1)) →
    ∃ (v0 : (c : Dev Cert.PairInIdeal.nD) → Buf (Elt Ideal) ((c.tc : Thread Cert.PairInIdeal.nD Cert.PairInIdeal.τ).loc Cert.PairInIdeal.main_v1)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v1) = v0 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ θ_run (Cert.PairInRefIdeal.defs (F := Ideal)) (onTc (τ := Cert.PairInRefIdeal.τ) (Cert.PairInRefIdeal.main (F := Ideal))) ⟨m', fun _ => 0, g'⟩ (fun r => ∀ c : Dev Cert.PairInRefIdeal.nD,
          r.2.mem ((c.tc : Thread Cert.PairInRefIdeal.nD Cert.PairInRefIdeal.τ).loc Cert.PairInRefIdeal.main_v5) = v0 c
          ∧ r.2.mem ((c.tc : Thread Cert.PairInRefIdeal.nD Cert.PairInRefIdeal.τ).loc Cert.PairInRefIdeal.main_arg0) = m' ((c.tc : Thread Cert.PairInRefIdeal.nD Cert.PairInRefIdeal.τ).loc Cert.PairInRefIdeal.main_arg0)
          ∧ r.2.mem ((c.tc : Thread Cert.PairInRefIdeal.nD Cert.PairInRefIdeal.τ).loc Cert.PairInRefIdeal.main_arg1) = m' ((c.tc : Thread Cert.PairInRefIdeal.nD Cert.PairInRefIdeal.τ).loc Cert.PairInRefIdeal.main_arg1))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)) →
    ∃ (v0 : (c : Dev Cert.SumInIdeal.nD) → Buf (Elt Ideal) ((c.tc : Thread Cert.SumInIdeal.nD Cert.SumInIdeal.τ).loc Cert.SumInIdeal.main_v4)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v4) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v5) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1))

def preserves_PairOut_PairOutIdeal : Prop :=
  True

def algebraic_PairOutIdeal_PairOutRefIdeal [hPairOutIdeal : Cert.PairOutIdeal.Facts] [hPairOutRefIdeal : Cert.PairOutRefIdeal.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)) →
    ∃ (v0 : (c : Dev Cert.PairOutIdeal.nD) → Buf (Elt Ideal) ((c.tc : Thread Cert.PairOutIdeal.nD Cert.PairOutIdeal.τ).loc Cert.PairOutIdeal.main_v1)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v1) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v5) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)) →
    ∃ (v0 : (c : Dev Cert.SumOutIdeal.nD) → Buf (Elt Ideal) ((c.tc : Thread Cert.SumOutIdeal.nD Cert.SumOutIdeal.τ).loc Cert.SumOutIdeal.main_v4)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v4) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v5) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1))

def preserves_PairPool_PairPoolIdeal : Prop :=
  True

def algebraic_PairPoolIdeal_PairPoolRefIdeal [hPairPoolIdeal : Cert.PairPoolIdeal.Facts] [hPairPoolRefIdeal : Cert.PairPoolRefIdeal.Facts] : Prop :=
  ∀ (m : (ℓ : Loc Cert.PairPoolIdeal.nD Cert.PairPoolIdeal.τ Cert.PairPoolIdeal.sig) → Buf (Elt Ideal) ℓ) (g : Dev Cert.PairPoolIdeal.nD → PrngReg)
    (m' : (ℓ : Loc Cert.PairPoolRefIdeal.nD Cert.PairPoolRefIdeal.τ Cert.PairPoolRefIdeal.sig) → Buf (Elt Ideal) ℓ) (g' : Dev Cert.PairPoolRefIdeal.nD → PrngReg), Pre_PairPoolIdeal m →
    (∀ c : Dev Cert.PairPoolIdeal.nD,
      m' ((c.tc : Thread Cert.PairPoolRefIdeal.nD Cert.PairPoolRefIdeal.τ).loc Cert.PairPoolRefIdeal.main_arg0) = m ((c.tc : Thread Cert.PairPoolIdeal.nD Cert.PairPoolIdeal.τ).loc Cert.PairPoolIdeal.main_arg0)
      ∧ m' ((c.tc : Thread Cert.PairPoolRefIdeal.nD Cert.PairPoolRefIdeal.τ).loc Cert.PairPoolRefIdeal.main_arg1) = m ((c.tc : Thread Cert.PairPoolIdeal.nD Cert.PairPoolIdeal.τ).loc Cert.PairPoolIdeal.main_arg1)) →
    ∃ (v0 : (c : Dev Cert.PairPoolIdeal.nD) → Buf (Elt Ideal) ((c.tc : Thread Cert.PairPoolIdeal.nD Cert.PairPoolIdeal.τ).loc Cert.PairPoolIdeal.main_v1)),
      θ_run (Cert.PairPoolIdeal.defs (F := Ideal)) (onTc (τ := Cert.PairPoolIdeal.τ) (Cert.PairPoolIdeal.main (F := Ideal))) ⟨m, fun _ => 0, g⟩ (fun r => ∀ c : Dev Cert.PairPoolIdeal.nD,
          r.2.mem ((c.tc : Thread Cert.PairPoolIdeal.nD Cert.PairPoolIdeal.τ).loc Cert.PairPoolIdeal.main_v1) = v0 c
          ∧ r.2.mem ((c.tc : Thread Cert.PairPoolIdeal.nD Cert.PairPoolIdeal.τ).loc Cert.PairPoolIdeal.main_arg0) = m ((c.tc : Thread Cert.PairPoolIdeal.nD Cert.PairPoolIdeal.τ).loc Cert.PairPoolIdeal.main_arg0)
          ∧ r.2.mem ((c.tc : Thread Cert.PairPoolIdeal.nD Cert.PairPoolIdeal.τ).loc Cert.PairPoolIdeal.main_arg1) = m ((c.tc : Thread Cert.PairPoolIdeal.nD Cert.PairPoolIdeal.τ).loc Cert.PairPoolIdeal.main_arg1))
      ∧ θ_run (Cert.PairPoolRefIdeal.defs (F := Ideal)) (onTc (τ := Cert.PairPoolRefIdeal.τ) (Cert.PairPoolRefIdeal.main (F := Ideal))) ⟨m', fun _ => 0, g'⟩ (fun r => ∀ c : Dev Cert.PairPoolRefIdeal.nD,
          r.2.mem ((c.tc : Thread Cert.PairPoolRefIdeal.nD Cert.PairPoolRefIdeal.τ).loc Cert.PairPoolRefIdeal.main_v5) = v0 c
          ∧ r.2.mem ((c.tc : Thread Cert.PairPoolRefIdeal.nD Cert.PairPoolRefIdeal.τ).loc Cert.PairPoolRefIdeal.main_arg0) = m' ((c.tc : Thread Cert.PairPoolRefIdeal.nD Cert.PairPoolRefIdeal.τ).loc Cert.PairPoolRefIdeal.main_arg0)
          ∧ r.2.mem ((c.tc : Thread Cert.PairPoolRefIdeal.nD Cert.PairPoolRefIdeal.τ).loc Cert.PairPoolRefIdeal.main_arg1) = m' ((c.tc : Thread Cert.PairPoolRefIdeal.nD Cert.PairPoolRefIdeal.τ).loc Cert.PairPoolRefIdeal.main_arg1))

def preserves_SumPool_SumPoolIdeal : Prop :=
  True

def algebraic_SumPoolIdeal_SumPoolRefIdeal [hSumPoolIdeal : Cert.SumPoolIdeal.Facts] [hSumPoolRefIdeal : Cert.SumPoolRefIdeal.Facts] : Prop :=
  ∀ (m : (ℓ : Loc Cert.SumPoolIdeal.nD Cert.SumPoolIdeal.τ Cert.SumPoolIdeal.sig) → Buf (Elt Ideal) ℓ) (g : Dev Cert.SumPoolIdeal.nD → PrngReg)
    (m' : (ℓ : Loc Cert.SumPoolRefIdeal.nD Cert.SumPoolRefIdeal.τ Cert.SumPoolRefIdeal.sig) → Buf (Elt Ideal) ℓ) (g' : Dev Cert.SumPoolRefIdeal.nD → PrngReg), Pre_SumPoolIdeal m →
    (∀ c : Dev Cert.SumPoolIdeal.nD,
      m' ((c.tc : Thread Cert.SumPoolRefIdeal.nD Cert.SumPoolRefIdeal.τ).loc Cert.SumPoolRefIdeal.main_arg0) = m ((c.tc : Thread Cert.SumPoolIdeal.nD Cert.SumPoolIdeal.τ).loc Cert.SumPoolIdeal.main_arg0)
      ∧ m' ((c.tc : Thread Cert.SumPoolRefIdeal.nD Cert.SumPoolRefIdeal.τ).loc Cert.SumPoolRefIdeal.main_arg1) = m ((c.tc : Thread Cert.SumPoolIdeal.nD Cert.SumPoolIdeal.τ).loc Cert.SumPoolIdeal.main_arg1)) →
    ∃ (v0 : (c : Dev Cert.SumPoolIdeal.nD) → Buf (Elt Ideal) ((c.tc : Thread Cert.SumPoolIdeal.nD Cert.SumPoolIdeal.τ).loc Cert.SumPoolIdeal.main_v4)),
      θ_run (Cert.SumPoolIdeal.defs (F := Ideal)) (onTc (τ := Cert.SumPoolIdeal.τ) (Cert.SumPoolIdeal.main (F := Ideal))) ⟨m, fun _ => 0, g⟩ (fun r => ∀ c : Dev Cert.SumPoolIdeal.nD,
          r.2.mem ((c.tc : Thread Cert.SumPoolIdeal.nD Cert.SumPoolIdeal.τ).loc Cert.SumPoolIdeal.main_v4) = v0 c
          ∧ r.2.mem ((c.tc : Thread Cert.SumPoolIdeal.nD Cert.SumPoolIdeal.τ).loc Cert.SumPoolIdeal.main_arg0) = m ((c.tc : Thread Cert.SumPoolIdeal.nD Cert.SumPoolIdeal.τ).loc Cert.SumPoolIdeal.main_arg0)
          ∧ r.2.mem ((c.tc : Thread Cert.SumPoolIdeal.nD Cert.SumPoolIdeal.τ).loc Cert.SumPoolIdeal.main_arg1) = m ((c.tc : Thread Cert.SumPoolIdeal.nD Cert.SumPoolIdeal.τ).loc Cert.SumPoolIdeal.main_arg1))
      ∧ θ_run (Cert.SumPoolRefIdeal.defs (F := Ideal)) (onTc (τ := Cert.SumPoolRefIdeal.τ) (Cert.SumPoolRefIdeal.main (F := Ideal))) ⟨m', fun _ => 0, g'⟩ (fun r => ∀ c : Dev Cert.SumPoolRefIdeal.nD,
          r.2.mem ((c.tc : Thread Cert.SumPoolRefIdeal.nD Cert.SumPoolRefIdeal.τ).loc Cert.SumPoolRefIdeal.main_v5) = v0 c
          ∧ r.2.mem ((c.tc : Thread Cert.SumPoolRefIdeal.nD Cert.SumPoolRefIdeal.τ).loc Cert.SumPoolRefIdeal.main_arg0) = m' ((c.tc : Thread Cert.SumPoolRefIdeal.nD Cert.SumPoolRefIdeal.τ).loc Cert.SumPoolRefIdeal.main_arg0)
          ∧ r.2.mem ((c.tc : Thread Cert.SumPoolRefIdeal.nD Cert.SumPoolRefIdeal.τ).loc Cert.SumPoolRefIdeal.main_arg1) = m' ((c.tc : Thread Cert.SumPoolRefIdeal.nD Cert.SumPoolRefIdeal.τ).loc Cert.SumPoolRefIdeal.main_arg1))

def preserves_PoolMix_PoolMixIdeal : Prop :=
  True

def algebraic_PoolMixIdeal_PoolMixRefIdeal [hPoolMixIdeal : Cert.PoolMixIdeal.Facts] [hPoolMixRefIdeal : Cert.PoolMixRefIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)
      ∧ m' ((c.tc : Thread Cert.PoolMixRefIdeal.nD Cert.PoolMixRefIdeal.τ).loc Cert.PoolMixRefIdeal.main_arg2) = m ((c.tc : Thread Cert.PoolMixIdeal.nD Cert.PoolMixIdeal.τ).loc Cert.PoolMixIdeal.main_arg2)
      ∧ m' ((c.tc : Thread Cert.PoolMixRefIdeal.nD Cert.PoolMixRefIdeal.τ).loc Cert.PoolMixRefIdeal.main_arg3) = m ((c.tc : Thread Cert.PoolMixIdeal.nD Cert.PoolMixIdeal.τ).loc Cert.PoolMixIdeal.main_arg3)
      ∧ m' ((c.tc : Thread Cert.PoolMixRefIdeal.nD Cert.PoolMixRefIdeal.τ).loc Cert.PoolMixRefIdeal.main_arg4) = m ((c.tc : Thread Cert.PoolMixIdeal.nD Cert.PoolMixIdeal.τ).loc Cert.PoolMixIdeal.main_arg4)) →
    ∃ (v0 : (c : Dev Cert.PoolMixIdeal.nD) → Buf (Elt Ideal) ((c.tc : Thread Cert.PoolMixIdeal.nD Cert.PoolMixIdeal.τ).loc Cert.PoolMixIdeal.main_v0)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v0) = v0 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
          ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
          ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3)
          ∧ r.2.mem ((c.tc : Thread Cert.PoolMixIdeal.nD Cert.PoolMixIdeal.τ).loc Cert.PoolMixIdeal.main_arg4) = m ((c.tc : Thread Cert.PoolMixIdeal.nD Cert.PoolMixIdeal.τ).loc Cert.PoolMixIdeal.main_arg4))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v15) = v0 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1)
          ∧ r.2.mem ((c.tc : Thread Cert.PoolMixRefIdeal.nD Cert.PoolMixRefIdeal.τ).loc Cert.PoolMixRefIdeal.main_arg2) = m' ((c.tc : Thread Cert.PoolMixRefIdeal.nD Cert.PoolMixRefIdeal.τ).loc Cert.PoolMixRefIdeal.main_arg2)
          ∧ r.2.mem ((c.tc : Thread Cert.PoolMixRefIdeal.nD Cert.PoolMixRefIdeal.τ).loc Cert.PoolMixRefIdeal.main_arg3) = m' ((c.tc : Thread Cert.PoolMixRefIdeal.nD Cert.PoolMixRefIdeal.τ).loc Cert.PoolMixRefIdeal.main_arg3)
          ∧ r.2.mem ((c.tc : Thread Cert.PoolMixRefIdeal.nD Cert.PoolMixRefIdeal.τ).loc Cert.PoolMixRefIdeal.main_arg4) = m' ((c.tc : Thread Cert.PoolMixRefIdeal.nD Cert.PoolMixRefIdeal.τ).loc Cert.PoolMixRefIdeal.main_arg4))

def preserves_PoolMixBwd_PoolMixBwdIdeal : Prop :=
  True

def algebraic_PoolMixBwdIdeal_PoolMixBwdRefIdeal [hPoolMixBwdIdeal : Cert.PoolMixBwdIdeal.Facts] [hPoolMixBwdRefIdeal : Cert.PoolMixBwdRefIdeal.Facts] : Prop :=
  ∀ (m : (ℓ : Loc Cert.PoolMixBwdIdeal.nD Cert.PoolMixBwdIdeal.τ Cert.PoolMixBwdIdeal.sig) → Buf (Elt Ideal) ℓ) (g : Dev Cert.PoolMixBwdIdeal.nD → PrngReg)
    (m' : (ℓ : Loc Cert.PoolMixBwdRefIdeal.nD Cert.PoolMixBwdRefIdeal.τ Cert.PoolMixBwdRefIdeal.sig) → Buf (Elt Ideal) ℓ) (g' : Dev Cert.PoolMixBwdRefIdeal.nD → PrngReg), Pre_PoolMixBwdIdeal m →
    (∀ c : Dev Cert.PoolMixBwdIdeal.nD,
      m' ((c.tc : Thread Cert.PoolMixBwdRefIdeal.nD Cert.PoolMixBwdRefIdeal.τ).loc Cert.PoolMixBwdRefIdeal.main_arg0) = m ((c.tc : Thread Cert.PoolMixBwdIdeal.nD Cert.PoolMixBwdIdeal.τ).loc Cert.PoolMixBwdIdeal.main_arg0)
      ∧ m' ((c.tc : Thread Cert.PoolMixBwdRefIdeal.nD Cert.PoolMixBwdRefIdeal.τ).loc Cert.PoolMixBwdRefIdeal.main_arg1) = m ((c.tc : Thread Cert.PoolMixBwdIdeal.nD Cert.PoolMixBwdIdeal.τ).loc Cert.PoolMixBwdIdeal.main_arg1)
      ∧ m' ((c.tc : Thread Cert.PoolMixBwdRefIdeal.nD Cert.PoolMixBwdRefIdeal.τ).loc Cert.PoolMixBwdRefIdeal.main_arg2) = m ((c.tc : Thread Cert.PoolMixBwdIdeal.nD Cert.PoolMixBwdIdeal.τ).loc Cert.PoolMixBwdIdeal.main_arg2)
      ∧ m' ((c.tc : Thread Cert.PoolMixBwdRefIdeal.nD Cert.PoolMixBwdRefIdeal.τ).loc Cert.PoolMixBwdRefIdeal.main_arg3) = m ((c.tc : Thread Cert.PoolMixBwdIdeal.nD Cert.PoolMixBwdIdeal.τ).loc Cert.PoolMixBwdIdeal.main_arg3)
      ∧ m' ((c.tc : Thread Cert.PoolMixBwdRefIdeal.nD Cert.PoolMixBwdRefIdeal.τ).loc Cert.PoolMixBwdRefIdeal.main_arg4) = m ((c.tc : Thread Cert.PoolMixBwdIdeal.nD Cert.PoolMixBwdIdeal.τ).loc Cert.PoolMixBwdIdeal.main_arg4)) →
    ∃ (v0 : (c : Dev Cert.PoolMixBwdIdeal.nD) → Buf (Elt Ideal) ((c.tc : Thread Cert.PoolMixBwdIdeal.nD Cert.PoolMixBwdIdeal.τ).loc Cert.PoolMixBwdIdeal.main_v0_0)) (v1 : (c : Dev Cert.PoolMixBwdIdeal.nD) → Buf (Elt Ideal) ((c.tc : Thread Cert.PoolMixBwdIdeal.nD Cert.PoolMixBwdIdeal.τ).loc Cert.PoolMixBwdIdeal.main_v0_1)) (v2 : (c : Dev Cert.PoolMixBwdIdeal.nD) → Buf (Elt Ideal) ((c.tc : Thread Cert.PoolMixBwdIdeal.nD Cert.PoolMixBwdIdeal.τ).loc Cert.PoolMixBwdIdeal.main_v0_2)) (v3 : (c : Dev Cert.PoolMixBwdIdeal.nD) → Buf (Elt Ideal) ((c.tc : Thread Cert.PoolMixBwdIdeal.nD Cert.PoolMixBwdIdeal.τ).loc Cert.PoolMixBwdIdeal.main_v0_3)),
      θ_run (Cert.PoolMixBwdIdeal.defs (F := Ideal)) (onTc (τ := Cert.PoolMixBwdIdeal.τ) (Cert.PoolMixBwdIdeal.main (F := Ideal))) ⟨m, fun _ => 0, g⟩ (fun r => ∀ c : Dev Cert.PoolMixBwdIdeal.nD,
          r.2.mem ((c.tc : Thread Cert.PoolMixBwdIdeal.nD Cert.PoolMixBwdIdeal.τ).loc Cert.PoolMixBwdIdeal.main_v0_0) = v0 c
          ∧ r.2.mem ((c.tc : Thread Cert.PoolMixBwdIdeal.nD Cert.PoolMixBwdIdeal.τ).loc Cert.PoolMixBwdIdeal.main_v0_1) = v1 c
          ∧ r.2.mem ((c.tc : Thread Cert.PoolMixBwdIdeal.nD Cert.PoolMixBwdIdeal.τ).loc Cert.PoolMixBwdIdeal.main_v0_2) = v2 c
          ∧ r.2.mem ((c.tc : Thread Cert.PoolMixBwdIdeal.nD Cert.PoolMixBwdIdeal.τ).loc Cert.PoolMixBwdIdeal.main_v0_3) = v3 c
          ∧ r.2.mem ((c.tc : Thread Cert.PoolMixBwdIdeal.nD Cert.PoolMixBwdIdeal.τ).loc Cert.PoolMixBwdIdeal.main_arg0) = m ((c.tc : Thread Cert.PoolMixBwdIdeal.nD Cert.PoolMixBwdIdeal.τ).loc Cert.PoolMixBwdIdeal.main_arg0)
          ∧ r.2.mem ((c.tc : Thread Cert.PoolMixBwdIdeal.nD Cert.PoolMixBwdIdeal.τ).loc Cert.PoolMixBwdIdeal.main_arg1) = m ((c.tc : Thread Cert.PoolMixBwdIdeal.nD Cert.PoolMixBwdIdeal.τ).loc Cert.PoolMixBwdIdeal.main_arg1)
          ∧ r.2.mem ((c.tc : Thread Cert.PoolMixBwdIdeal.nD Cert.PoolMixBwdIdeal.τ).loc Cert.PoolMixBwdIdeal.main_arg2) = m ((c.tc : Thread Cert.PoolMixBwdIdeal.nD Cert.PoolMixBwdIdeal.τ).loc Cert.PoolMixBwdIdeal.main_arg2)
          ∧ r.2.mem ((c.tc : Thread Cert.PoolMixBwdIdeal.nD Cert.PoolMixBwdIdeal.τ).loc Cert.PoolMixBwdIdeal.main_arg3) = m ((c.tc : Thread Cert.PoolMixBwdIdeal.nD Cert.PoolMixBwdIdeal.τ).loc Cert.PoolMixBwdIdeal.main_arg3)
          ∧ r.2.mem ((c.tc : Thread Cert.PoolMixBwdIdeal.nD Cert.PoolMixBwdIdeal.τ).loc Cert.PoolMixBwdIdeal.main_arg4) = m ((c.tc : Thread Cert.PoolMixBwdIdeal.nD Cert.PoolMixBwdIdeal.τ).loc Cert.PoolMixBwdIdeal.main_arg4))
      ∧ θ_run (Cert.PoolMixBwdRefIdeal.defs (F := Ideal)) (onTc (τ := Cert.PoolMixBwdRefIdeal.τ) (Cert.PoolMixBwdRefIdeal.main (F := Ideal))) ⟨m', fun _ => 0, g'⟩ (fun r => ∀ c : Dev Cert.PoolMixBwdRefIdeal.nD,
          r.2.mem ((c.tc : Thread Cert.PoolMixBwdRefIdeal.nD Cert.PoolMixBwdRefIdeal.τ).loc Cert.PoolMixBwdRefIdeal.main_v33) = v0 c
          ∧ r.2.mem ((c.tc : Thread Cert.PoolMixBwdRefIdeal.nD Cert.PoolMixBwdRefIdeal.τ).loc Cert.PoolMixBwdRefIdeal.main_v34) = v1 c
          ∧ r.2.mem ((c.tc : Thread Cert.PoolMixBwdRefIdeal.nD Cert.PoolMixBwdRefIdeal.τ).loc Cert.PoolMixBwdRefIdeal.main_v27) = v2 c
          ∧ r.2.mem ((c.tc : Thread Cert.PoolMixBwdRefIdeal.nD Cert.PoolMixBwdRefIdeal.τ).loc Cert.PoolMixBwdRefIdeal.main_v20) = v3 c
          ∧ r.2.mem ((c.tc : Thread Cert.PoolMixBwdRefIdeal.nD Cert.PoolMixBwdRefIdeal.τ).loc Cert.PoolMixBwdRefIdeal.main_arg0) = m' ((c.tc : Thread Cert.PoolMixBwdRefIdeal.nD Cert.PoolMixBwdRefIdeal.τ).loc Cert.PoolMixBwdRefIdeal.main_arg0)
          ∧ r.2.mem ((c.tc : Thread Cert.PoolMixBwdRefIdeal.nD Cert.PoolMixBwdRefIdeal.τ).loc Cert.PoolMixBwdRefIdeal.main_arg1) = m' ((c.tc : Thread Cert.PoolMixBwdRefIdeal.nD Cert.PoolMixBwdRefIdeal.τ).loc Cert.PoolMixBwdRefIdeal.main_arg1)
          ∧ r.2.mem ((c.tc : Thread Cert.PoolMixBwdRefIdeal.nD Cert.PoolMixBwdRefIdeal.τ).loc Cert.PoolMixBwdRefIdeal.main_arg2) = m' ((c.tc : Thread Cert.PoolMixBwdRefIdeal.nD Cert.PoolMixBwdRefIdeal.τ).loc Cert.PoolMixBwdRefIdeal.main_arg2)
          ∧ r.2.mem ((c.tc : Thread Cert.PoolMixBwdRefIdeal.nD Cert.PoolMixBwdRefIdeal.τ).loc Cert.PoolMixBwdRefIdeal.main_arg3) = m' ((c.tc : Thread Cert.PoolMixBwdRefIdeal.nD Cert.PoolMixBwdRefIdeal.τ).loc Cert.PoolMixBwdRefIdeal.main_arg3)
          ∧ r.2.mem ((c.tc : Thread Cert.PoolMixBwdRefIdeal.nD Cert.PoolMixBwdRefIdeal.τ).loc Cert.PoolMixBwdRefIdeal.main_arg4) = m' ((c.tc : Thread Cert.PoolMixBwdRefIdeal.nD Cert.PoolMixBwdRefIdeal.τ).loc Cert.PoolMixBwdRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnDh : Cert.FfnDh.Facts) (hFfnDhIdeal : Cert.FfnDhIdeal.Facts) (hFfnDhRefIdeal : Cert.FfnDhRefIdeal.Facts) (hFfnDown : Cert.FfnDown.Facts) (hFfnDownIdeal : Cert.FfnDownIdeal.Facts) (hFfnDownRefIdeal : Cert.FfnDownRefIdeal.Facts) (hAdamMeta : Cert.AdamMeta.Facts) (hAdamMetaIdeal : Cert.AdamMetaIdeal.Facts) (hAdamMetaRefIdeal : Cert.AdamMetaRefIdeal.Facts) (hAdamNorm : Cert.AdamNorm.Facts) (hAdamNormIdeal : Cert.AdamNormIdeal.Facts) (hAdamNormRefIdeal : Cert.AdamNormRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamGlaNorm : Cert.AdamGlaNorm.Facts) (hAdamGlaNormIdeal : Cert.AdamGlaNormIdeal.Facts) (hAdamGlaNormRefIdeal : Cert.AdamGlaNormRefIdeal.Facts) (hAdamIn : Cert.AdamIn.Facts) (hAdamInIdeal : Cert.AdamInIdeal.Facts) (hAdamInRefIdeal : Cert.AdamInRefIdeal.Facts) (hAdamRank : Cert.AdamRank.Facts) (hAdamRankIdeal : Cert.AdamRankIdeal.Facts) (hAdamRankRefIdeal : Cert.AdamRankRefIdeal.Facts) (hAdamBias : Cert.AdamBias.Facts) (hAdamBiasIdeal : Cert.AdamBiasIdeal.Facts) (hAdamBiasRefIdeal : Cert.AdamBiasRefIdeal.Facts) (hAdamHead : Cert.AdamHead.Facts) (hAdamHeadIdeal : Cert.AdamHeadIdeal.Facts) (hAdamHeadRefIdeal : Cert.AdamHeadRefIdeal.Facts) (hAdamOut : Cert.AdamOut.Facts) (hAdamOutIdeal : Cert.AdamOutIdeal.Facts) (hAdamOutRefIdeal : Cert.AdamOutRefIdeal.Facts) (hAdamPool : Cert.AdamPool.Facts) (hAdamPoolIdeal : Cert.AdamPoolIdeal.Facts) (hAdamPoolRefIdeal : Cert.AdamPoolRefIdeal.Facts) (hAdamPoolBias : Cert.AdamPoolBias.Facts) (hAdamPoolBiasIdeal : Cert.AdamPoolBiasIdeal.Facts) (hAdamPoolBiasRefIdeal : Cert.AdamPoolBiasRefIdeal.Facts) (hAdamFinal : Cert.AdamFinal.Facts) (hAdamFinalIdeal : Cert.AdamFinalIdeal.Facts) (hAdamFinalRefIdeal : Cert.AdamFinalRefIdeal.Facts) (hSmall : Cert.Small.Facts) (hSmallIdeal : Cert.SmallIdeal.Facts) (hSmallRefIdeal : Cert.SmallRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hGlaProj : Cert.GlaProj.Facts) (hGlaProjIdeal : Cert.GlaProjIdeal.Facts) (hGlaProjRefIdeal : Cert.GlaProjRefIdeal.Facts) (hGlaProjW : Cert.GlaProjW.Facts) (hGlaProjWIdeal : Cert.GlaProjWIdeal.Facts) (hGlaProjWRefIdeal : Cert.GlaProjWRefIdeal.Facts) (hGlaProjH : Cert.GlaProjH.Facts) (hGlaProjHIdeal : Cert.GlaProjHIdeal.Facts) (hGlaProjHRefIdeal : Cert.GlaProjHRefIdeal.Facts) (hGlaOut : Cert.GlaOut.Facts) (hGlaOutIdeal : Cert.GlaOutIdeal.Facts) (hGlaOutRefIdeal : Cert.GlaOutRefIdeal.Facts) (hGlaOutW : Cert.GlaOutW.Facts) (hGlaOutWIdeal : Cert.GlaOutWIdeal.Facts) (hGlaOutWRefIdeal : Cert.GlaOutWRefIdeal.Facts) (hGlaOutH : Cert.GlaOutH.Facts) (hGlaOutHIdeal : Cert.GlaOutHIdeal.Facts) (hGlaOutHRefIdeal : Cert.GlaOutHRefIdeal.Facts) (hPairUp : Cert.PairUp.Facts) (hPairUpIdeal : Cert.PairUpIdeal.Facts) (hPairUpRefIdeal : Cert.PairUpRefIdeal.Facts) (hSumUp : Cert.SumUp.Facts) (hSumUpIdeal : Cert.SumUpIdeal.Facts) (hSumUpRefIdeal : Cert.SumUpRefIdeal.Facts) (hPairDown : Cert.PairDown.Facts) (hPairDownIdeal : Cert.PairDownIdeal.Facts) (hPairDownRefIdeal : Cert.PairDownRefIdeal.Facts) (hSumDown : Cert.SumDown.Facts) (hSumDownIdeal : Cert.SumDownIdeal.Facts) (hSumDownRefIdeal : Cert.SumDownRefIdeal.Facts) (hPairIn : Cert.PairIn.Facts) (hPairInIdeal : Cert.PairInIdeal.Facts) (hPairInRefIdeal : Cert.PairInRefIdeal.Facts) (hSumIn : Cert.SumIn.Facts) (hSumInIdeal : Cert.SumInIdeal.Facts) (hSumInRefIdeal : Cert.SumInRefIdeal.Facts) (hPairOut : Cert.PairOut.Facts) (hPairOutIdeal : Cert.PairOutIdeal.Facts) (hPairOutRefIdeal : Cert.PairOutRefIdeal.Facts) (hSumOut : Cert.SumOut.Facts) (hSumOutIdeal : Cert.SumOutIdeal.Facts) (hSumOutRefIdeal : Cert.SumOutRefIdeal.Facts) (hPairPool : Cert.PairPool.Facts) (hPairPoolIdeal : Cert.PairPoolIdeal.Facts) (hPairPoolRefIdeal : Cert.PairPoolRefIdeal.Facts) (hSumPool : Cert.SumPool.Facts) (hSumPoolIdeal : Cert.SumPoolIdeal.Facts) (hSumPoolRefIdeal : Cert.SumPoolRefIdeal.Facts) (hPoolMix : Cert.PoolMix.Facts) (hPoolMixIdeal : Cert.PoolMixIdeal.Facts) (hPoolMixRefIdeal : Cert.PoolMixRefIdeal.Facts) (hPoolMixBwd : Cert.PoolMixBwd.Facts) (hPoolMixBwdIdeal : Cert.PoolMixBwdIdeal.Facts) (hPoolMixBwdRefIdeal : Cert.PoolMixBwdRefIdeal.Facts) (hPre_ffn_finite : Cert.Pre_ffn_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGlaNorm (hAdamGlaNorm := hAdamGlaNorm)
    ∧ quiescent_AdamGlaNormIdeal (hAdamGlaNormIdeal := hAdamGlaNormIdeal)
    ∧ quiescent_AdamGlaNormRefIdeal (hAdamGlaNormRefIdeal := hAdamGlaNormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamRank (hAdamRank := hAdamRank)
    ∧ quiescent_AdamRankIdeal (hAdamRankIdeal := hAdamRankIdeal)
    ∧ quiescent_AdamRankRefIdeal (hAdamRankRefIdeal := hAdamRankRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamPoolBias (hAdamPoolBias := hAdamPoolBias)
    ∧ quiescent_AdamPoolBiasIdeal (hAdamPoolBiasIdeal := hAdamPoolBiasIdeal)
    ∧ quiescent_AdamPoolBiasRefIdeal (hAdamPoolBiasRefIdeal := hAdamPoolBiasRefIdeal)
    ∧ quiescent_AdamFinal (hAdamFinal := hAdamFinal)
    ∧ quiescent_AdamFinalIdeal (hAdamFinalIdeal := hAdamFinalIdeal)
    ∧ quiescent_AdamFinalRefIdeal (hAdamFinalRefIdeal := hAdamFinalRefIdeal)
    ∧ quiescent_Small (hSmall := hSmall)
    ∧ quiescent_SmallIdeal (hSmallIdeal := hSmallIdeal)
    ∧ quiescent_SmallRefIdeal (hSmallRefIdeal := hSmallRefIdeal)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_GlaProjW (hGlaProjW := hGlaProjW)
    ∧ quiescent_GlaProjWIdeal (hGlaProjWIdeal := hGlaProjWIdeal)
    ∧ quiescent_GlaProjWRefIdeal (hGlaProjWRefIdeal := hGlaProjWRefIdeal)
    ∧ quiescent_GlaProjH (hGlaProjH := hGlaProjH)
    ∧ quiescent_GlaProjHIdeal (hGlaProjHIdeal := hGlaProjHIdeal)
    ∧ quiescent_GlaProjHRefIdeal (hGlaProjHRefIdeal := hGlaProjHRefIdeal)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_GlaOutW (hGlaOutW := hGlaOutW)
    ∧ quiescent_GlaOutWIdeal (hGlaOutWIdeal := hGlaOutWIdeal)
    ∧ quiescent_GlaOutWRefIdeal (hGlaOutWRefIdeal := hGlaOutWRefIdeal)
    ∧ quiescent_GlaOutH (hGlaOutH := hGlaOutH)
    ∧ quiescent_GlaOutHIdeal (hGlaOutHIdeal := hGlaOutHIdeal)
    ∧ quiescent_GlaOutHRefIdeal (hGlaOutHRefIdeal := hGlaOutHRefIdeal)
    ∧ quiescent_PairUp (hPairUp := hPairUp)
    ∧ quiescent_PairUpIdeal (hPairUpIdeal := hPairUpIdeal)
    ∧ quiescent_PairUpRefIdeal (hPairUpRefIdeal := hPairUpRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_PairDown (hPairDown := hPairDown)
    ∧ quiescent_PairDownIdeal (hPairDownIdeal := hPairDownIdeal)
    ∧ quiescent_PairDownRefIdeal (hPairDownRefIdeal := hPairDownRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_PairIn (hPairIn := hPairIn)
    ∧ quiescent_PairInIdeal (hPairInIdeal := hPairInIdeal)
    ∧ quiescent_PairInRefIdeal (hPairInRefIdeal := hPairInRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_PairOut (hPairOut := hPairOut)
    ∧ quiescent_PairOutIdeal (hPairOutIdeal := hPairOutIdeal)
    ∧ quiescent_PairOutRefIdeal (hPairOutRefIdeal := hPairOutRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_PairPool (hPairPool := hPairPool)
    ∧ quiescent_PairPoolIdeal (hPairPoolIdeal := hPairPoolIdeal)
    ∧ quiescent_PairPoolRefIdeal (hPairPoolRefIdeal := hPairPoolRefIdeal)
    ∧ quiescent_SumPool (hSumPool := hSumPool)
    ∧ quiescent_SumPoolIdeal (hSumPoolIdeal := hSumPoolIdeal)
    ∧ quiescent_SumPoolRefIdeal (hSumPoolRefIdeal := hSumPoolRefIdeal)
    ∧ quiescent_PoolMix (hPoolMix := hPoolMix)
    ∧ quiescent_PoolMixIdeal (hPoolMixIdeal := hPoolMixIdeal)
    ∧ quiescent_PoolMixRefIdeal (hPoolMixRefIdeal := hPoolMixRefIdeal)
    ∧ quiescent_PoolMixBwd (hPoolMixBwd := hPoolMixBwd)
    ∧ quiescent_PoolMixBwdIdeal (hPoolMixBwdIdeal := hPoolMixBwdIdeal)
    ∧ quiescent_PoolMixBwdRefIdeal (hPoolMixBwdRefIdeal := hPoolMixBwdRefIdeal)
    ∧ preserves_Kernel_KernelIdeal
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnDh_FfnDhIdeal
    ∧ algebraic_FfnDhIdeal_FfnDhRefIdeal (hFfnDhIdeal := hFfnDhIdeal) (hFfnDhRefIdeal := hFfnDhRefIdeal)
    ∧ preserves_FfnDown_FfnDownIdeal
    ∧ algebraic_FfnDownIdeal_FfnDownRefIdeal (hFfnDownIdeal := hFfnDownIdeal) (hFfnDownRefIdeal := hFfnDownRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGlaNorm_AdamGlaNormIdeal
    ∧ algebraic_AdamGlaNormIdeal_AdamGlaNormRefIdeal (hAdamGlaNormIdeal := hAdamGlaNormIdeal) (hAdamGlaNormRefIdeal := hAdamGlaNormRefIdeal)
    ∧ preserves_AdamIn_AdamInIdeal
    ∧ algebraic_AdamInIdeal_AdamInRefIdeal (hAdamInIdeal := hAdamInIdeal) (hAdamInRefIdeal := hAdamInRefIdeal)
    ∧ preserves_AdamRank_AdamRankIdeal
    ∧ algebraic_AdamRankIdeal_AdamRankRefIdeal (hAdamRankIdeal := hAdamRankIdeal) (hAdamRankRefIdeal := hAdamRankRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamPoolBias_AdamPoolBiasIdeal
    ∧ algebraic_AdamPoolBiasIdeal_AdamPoolBiasRefIdeal (hAdamPoolBiasIdeal := hAdamPoolBiasIdeal) (hAdamPoolBiasRefIdeal := hAdamPoolBiasRefIdeal)
    ∧ preserves_AdamFinal_AdamFinalIdeal
    ∧ algebraic_AdamFinalIdeal_AdamFinalRefIdeal (hAdamFinalIdeal := hAdamFinalIdeal) (hAdamFinalRefIdeal := hAdamFinalRefIdeal)
    ∧ preserves_Small_SmallIdeal
    ∧ algebraic_SmallIdeal_SmallRefIdeal (hSmallIdeal := hSmallIdeal) (hSmallRefIdeal := hSmallRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_GlaProj_GlaProjIdeal
    ∧ algebraic_GlaProjIdeal_GlaProjRefIdeal (hGlaProjIdeal := hGlaProjIdeal) (hGlaProjRefIdeal := hGlaProjRefIdeal)
    ∧ preserves_GlaProjW_GlaProjWIdeal
    ∧ algebraic_GlaProjWIdeal_GlaProjWRefIdeal (hGlaProjWIdeal := hGlaProjWIdeal) (hGlaProjWRefIdeal := hGlaProjWRefIdeal)
    ∧ preserves_GlaProjH_GlaProjHIdeal
    ∧ algebraic_GlaProjHIdeal_GlaProjHRefIdeal (hGlaProjHIdeal := hGlaProjHIdeal) (hGlaProjHRefIdeal := hGlaProjHRefIdeal)
    ∧ preserves_GlaOut_GlaOutIdeal
    ∧ algebraic_GlaOutIdeal_GlaOutRefIdeal (hGlaOutIdeal := hGlaOutIdeal) (hGlaOutRefIdeal := hGlaOutRefIdeal)
    ∧ preserves_GlaOutW_GlaOutWIdeal
    ∧ algebraic_GlaOutWIdeal_GlaOutWRefIdeal (hGlaOutWIdeal := hGlaOutWIdeal) (hGlaOutWRefIdeal := hGlaOutWRefIdeal)
    ∧ preserves_GlaOutH_GlaOutHIdeal
    ∧ algebraic_GlaOutHIdeal_GlaOutHRefIdeal (hGlaOutHIdeal := hGlaOutHIdeal) (hGlaOutHRefIdeal := hGlaOutHRefIdeal)
    ∧ preserves_PairUp_PairUpIdeal
    ∧ algebraic_PairUpIdeal_PairUpRefIdeal (hPairUpIdeal := hPairUpIdeal) (hPairUpRefIdeal := hPairUpRefIdeal)
    ∧ preserves_SumUp_SumUpIdeal
    ∧ algebraic_SumUpIdeal_SumUpRefIdeal (hSumUpIdeal := hSumUpIdeal) (hSumUpRefIdeal := hSumUpRefIdeal)
    ∧ preserves_PairDown_PairDownIdeal
    ∧ algebraic_PairDownIdeal_PairDownRefIdeal (hPairDownIdeal := hPairDownIdeal) (hPairDownRefIdeal := hPairDownRefIdeal)
    ∧ preserves_SumDown_SumDownIdeal
    ∧ algebraic_SumDownIdeal_SumDownRefIdeal (hSumDownIdeal := hSumDownIdeal) (hSumDownRefIdeal := hSumDownRefIdeal)
    ∧ preserves_PairIn_PairInIdeal
    ∧ algebraic_PairInIdeal_PairInRefIdeal (hPairInIdeal := hPairInIdeal) (hPairInRefIdeal := hPairInRefIdeal)
    ∧ preserves_SumIn_SumInIdeal
    ∧ algebraic_SumInIdeal_SumInRefIdeal (hSumInIdeal := hSumInIdeal) (hSumInRefIdeal := hSumInRefIdeal)
    ∧ preserves_PairOut_PairOutIdeal
    ∧ algebraic_PairOutIdeal_PairOutRefIdeal (hPairOutIdeal := hPairOutIdeal) (hPairOutRefIdeal := hPairOutRefIdeal)
    ∧ preserves_SumOut_SumOutIdeal
    ∧ algebraic_SumOutIdeal_SumOutRefIdeal (hSumOutIdeal := hSumOutIdeal) (hSumOutRefIdeal := hSumOutRefIdeal)
    ∧ preserves_PairPool_PairPoolIdeal
    ∧ algebraic_PairPoolIdeal_PairPoolRefIdeal (hPairPoolIdeal := hPairPoolIdeal) (hPairPoolRefIdeal := hPairPoolRefIdeal)
    ∧ preserves_SumPool_SumPoolIdeal
    ∧ algebraic_SumPoolIdeal_SumPoolRefIdeal (hSumPoolIdeal := hSumPoolIdeal) (hSumPoolRefIdeal := hSumPoolRefIdeal)
    ∧ preserves_PoolMix_PoolMixIdeal
    ∧ algebraic_PoolMixIdeal_PoolMixRefIdeal (hPoolMixIdeal := hPoolMixIdeal) (hPoolMixRefIdeal := hPoolMixRefIdeal)
    ∧ preserves_PoolMixBwd_PoolMixBwdIdeal
    ∧ algebraic_PoolMixBwdIdeal_PoolMixBwdRefIdeal (hPoolMixBwdIdeal := hPoolMixBwdIdeal) (hPoolMixBwdRefIdeal := hPoolMixBwdRefIdeal)
-- ==== Pre_ffn_finite.lean ====
abbrev S2112x2048 : Shape := ⟨2, ![2112, 2048]⟩
abbrev S4x2048x1408 : Shape := ⟨3, ![4, 2048, 1408]⟩
abbrev S5632x2048 : Shape := ⟨2, ![5632, 2048]⟩
abbrev S_ : Shape := ⟨0, ![]⟩

class Facts : Prop where
  bitsLt_bf16_f32 : FTy.bits .bf16 < FTy.bits .f32
  bcast_S_S2112x2048 : S_.BroadcastsInDim S2112x2048 (![] : Fin 0 → Fin S2112x2048.rank)
  reducesTo_S2112x2048_S_d0_1 : S2112x2048.ReducesTo [0, 1] S_
  h_S_ : 0 < S_.numel
  bcast_S_S4x2048x1408 : S_.BroadcastsInDim S4x2048x1408 (![] : Fin 0 → Fin S4x2048x1408.rank)
  reducesTo_S4x2048x1408_S_d0_1_2 : S4x2048x1408.ReducesTo [0, 1, 2] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S2112x2048 .bf16) (main_v4 : IVec S_ 1) (main_v9 : IVec S_ 1) (main_v14 : IVec S_ 1) (main_v16 : FVec F S5632x2048 .f32) (main_cst_4 : FVec F S_ .f32) : IVec S_ 1 :=
  let main_v17 : FVec F S5632x2048 .f32 := broadcastInDim S5632x2048 ![] bcast_S_S5632x2048 main_cst_4
  let main_v18 : IVec S5632x2048 1 := cmpf .olt main_v16 main_v17
  let main_c_5 : IVec S_ 1 := constantI S_ 1 1#1
  let main_v19 : IVec S_ 1 := (fun x v => Host.reduce IntOp.andi x v reducesTo_S5632x2048_S_d0_1 h_S_) main_v18 main_c_5
  let main_v20 : FVec F S2112x2048 .f32 := (extf .f32 · bitsLt_bf16_f32) main_arg4
  let main_v21 : FVec F S2112x2048 .f32 := Host.absf main_v20
  let main_cst_6 : FVec F S_ .f32 := constant S_ .f32 0x7F800000#32
  let main_v22 : FVec F S2112x2048 .f32 := broadcastInDim S2112x2048 ![] bcast_S_S2112x2048 main_cst_6
  let main_v23 : IVec S2112x2048 1 := cmpf .olt main_v21 main_v22
  let main_c_7 : IVec S_ 1 := constantI S_ 1 1#1
  let main_v24 : IVec S_ 1 := (fun x v => Host.reduce IntOp.andi x v reducesTo_S2112x2048_S_d0_1 h_S_) main_v23 main_c_7
  let main_v25 : IVec S_ 1 := andi main_v4 main_v9
  let main_v26 : IVec S_ 1 := andi main_v25 main_v14
  let main_v27 : IVec S_ 1 := andi main_v26 main_v19
  let main_v28 : IVec S_ 1 := andi main_v27 main_v24
  main_v28

def fn {F : FTy → Type} [FloatOps F] (main_arg0 : FVec F S2112x2048 .bf16) (main_arg1 : FVec F S4x2048x1408 .bf16) (main_arg2 : FVec F S4x2048x1408 .bf16) (main_arg3 : FVec F S5632x2048 .bf16) (main_arg4 : FVec F S2112x2048 .bf16) : IVec S_ 1 :=
  let main_v0 : FVec F S2112x2048 .f32 := (extf .f32 · bitsLt_bf16_f32) main_arg0
  let main_v1 : FVec F S2112x2048 .f32 := Host.absf main_v0
  let main_cst : FVec F S_ .f32 := constant S_ .f32 0x7F800000#32
  let main_v2 : FVec F S2112x2048 .f32 := broadcastInDim S2112x2048 ![] bcast_S_S2112x2048 main_cst
  let main_v3 : IVec S2112x2048 1 := cmpf .olt main_v1 main_v2
  let main_c : IVec S_ 1 := constantI S_ 1 1#1
  let main_v4 : IVec S_ 1 := (fun x v => Host.reduce IntOp.andi x v reducesTo_S2112x2048_S_d0_1 h_S_) main_v3 main_c
  let main_v5 : FVec F S4x2048x1408 .f32 := (extf .f32 · bitsLt_bf16_f32) main_arg1
  let main_v6 : FVec F S4x2048x1408 .f32 := Host.absf main_v5
  let main_cst_0 : FVec F S_ .f32 := constant S_ .f32 0x7F800000#32
  let main_v7 : FVec F S4x2048x1408 .f32 := broadcastInDim S4x2048x1408 ![] bcast_S_S4x2048x1408 main_cst_0
  let main_v8 : IVec S4x2048x1408 1 := cmpf .olt main_v6 main_v7
  let main_c_1 : IVec S_ 1 := constantI S_ 1 1#1
  let main_v9 : IVec S_ 1 := (fun x v => Host.reduce IntOp.andi x v reducesTo_S4x2048x1408_S_d0_1_2 h_S_) main_v8 main_c_1
  let main_v10 : FVec F S4x2048x1408 .f32 := (extf .f32 · bitsLt_bf16_f32) main_arg2
  let main_v11 : FVec F S4x2048x1408 .f32 := Host.absf main_v10
  let main_cst_2 : FVec F S_ .f32 := constant S_ .f32 0x7F800000#32
  let main_v12 : FVec F S4x2048x1408 .f32 := broadcastInDim S4x2048x1408 ![] bcast_S_S4x2048x1408 main_cst_2
  let main_v13 : IVec S4x2048x1408 1 := cmpf .olt main_v11 main_v12
  let main_c_3 : IVec S_ 1 := constantI S_ 1 1#1
  let main_v14 : IVec S_ 1 := (fun x v => Host.reduce IntOp.andi x v reducesTo_S4x2048x1408_S_d0_1_2 h_S_) main_v13 main_c_3
  let main_v15 : FVec F S5632x2048 .f32 := (extf .f32 · bitsLt_bf16_f32) main_arg3
  let main_v16 : FVec F S5632x2048 .f32 := Host.absf main_v15
  let main_cst_4 : FVec F S_ .f32 := constant S_ .f32 0x7F800000#32
  fn_part1 (F := F) main_arg4 main_v4 main_v9 main_v14 main_v16 main_cst_4
-- ==== Kernel.lean ====
abbrev S2064x1024 : Shape := ⟨2, ![2064, 1024]⟩
abbrev S2064x2048 : Shape := ⟨2, ![2064, 2048]⟩
abbrev S2064x16 : Shape := ⟨2, ![2064, 16]⟩
abbrev S16x1024 : Shape := ⟨2, ![16, 1024]⟩
abbrev S1x1024 : Shape := ⟨2, ![1, 1024]⟩
abbrev S33x4x512x256 : Shape := ⟨4, ![33, 4, 512, 256]⟩
abbrev S_ : Shape := ⟨0, ![]⟩
abbrev S2112x1024 : Shape := ⟨2, ![2112, 1024]⟩
abbrev S2112x2048 : Shape := ⟨2, ![2112, 2048]⟩
abbrev S2112x128 : Shape := ⟨2, ![2112, 128]⟩
abbrev S2112x6272 : Shape := ⟨2, ![2112, 6272]⟩
abbrev S128x1024 : Shape := ⟨2, ![128, 1024]⟩
abbrev S4x128x256 : Shape := ⟨3, ![4, 128, 256]⟩
abbrev S4x1x256 : Shape := ⟨3, ![4, 1, 256]⟩
abbrev S64x1024 : Shape := ⟨2, ![64, 1024]⟩
abbrev S64x2048 : Shape := ⟨2, ![64, 2048]⟩
abbrev S64x128 : Shape := ⟨2, ![64, 128]⟩
abbrev S1x4x512x256 : Shape := ⟨4, ![1, 4, 512, 256]⟩
abbrev S64x6272 : Shape := ⟨2, ![64, 6272]⟩
abbrev S4x512x256 : Shape := ⟨3, ![4, 512, 256]⟩
abbrev S64x64 : Shape := ⟨2, ![64, 64]⟩
abbrev S128x256 : Shape := ⟨2, ![128, 256]⟩
abbrev S1x256 : Shape := ⟨2, ![1, 256]⟩
abbrev S64x256 : Shape := ⟨2, ![64, 256]⟩
abbrev S64x1 : Shape := ⟨2, ![64, 1]⟩
abbrev S256 : Shape := ⟨1, ![256]⟩
abbrev S64x512 : Shape := ⟨2, ![64, 512]⟩
abbrev S1x1x512x256 : Shape := ⟨4, ![1, 1, 512, 256]⟩
abbrev S512x256 : Shape := ⟨2, ![512, 256]⟩
abbrev S1x512x256 : Shape := ⟨3, ![1, 512, 256]⟩
abbrev S1x128x256 : Shape := ⟨3, ![1, 128, 256]⟩
abbrev S1x1x256 : Shape := ⟨3, ![1, 1, 256]⟩

abbrev nBuf : Space → Nat
  | .hbm => 39
  | .vmem => 21
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x2048, .f32⟩
  | .hbm, ⟨3, _⟩ => ⟨S2064x16, .f32⟩
  | .hbm, ⟨4, _⟩ => ⟨S2064x2048, .f32⟩
  | .hbm, ⟨5, _⟩ => ⟨S16x1024, .f32⟩
  | .hbm, ⟨6, _⟩ => ⟨S1x1024, .f32⟩
  | .hbm, ⟨7, _⟩ => ⟨S33x4x512x256, .f32⟩
  | .hbm, ⟨8, _⟩ => ⟨S2064x2048, .f32⟩
  | .hbm, ⟨9, _⟩ => ⟨S2064x2048, .bf16⟩
  | .hbm, ⟨10, _⟩ => ⟨S_, .i32⟩
  | .hbm, ⟨11, _⟩ => ⟨S_, .f32⟩
  | .hbm, ⟨12, _⟩ => ⟨S2112x1024, .f32⟩
  | .hbm, ⟨13, _⟩ => ⟨S_, .i32⟩
  | .hbm, ⟨14, _⟩ => ⟨S_, .f32⟩
  | .hbm, ⟨15, _⟩ => ⟨S2112x1024, .f32⟩
  | .hbm, ⟨16, _⟩ => ⟨S_, .i32⟩
  | .hbm, ⟨17, _⟩ => ⟨S_, .f32⟩
  | .hbm, ⟨18, _⟩ => ⟨S2112x2048, .f32⟩
  | .hbm, ⟨19, _⟩ => ⟨S_, .i32⟩
  | .hbm, ⟨20, _⟩ => ⟨S_, .f32⟩
  | .hbm, ⟨21, _⟩ => ⟨S2112x2048, .f32⟩
  | .hbm, ⟨22, _⟩ => ⟨S_, .i32⟩
  | .hbm, ⟨23, _⟩ => ⟨S_, .f32⟩
  | .hbm, ⟨24, _⟩ => ⟨S2112x128, .f32⟩
  | .hbm, ⟨25, _⟩ => ⟨S2112x6272, .f32⟩
  | .hbm, ⟨26, _⟩ => ⟨S16x1024, .bf16⟩
  | .hbm, ⟨27, _⟩ => ⟨S_, .i32⟩
  | .hbm, ⟨28, _⟩ => ⟨S_, .bf16⟩
  | .hbm, ⟨29, _⟩ => ⟨S128x1024, .bf16⟩
  | .hbm, ⟨30, _⟩ => ⟨S_, .i32⟩
  | .hbm, ⟨31, _⟩ => ⟨S_, .f32⟩
  | .hbm, ⟨32, _⟩ => ⟨S2112x2048, .f32⟩
  | .hbm, ⟨33, _⟩ => ⟨S_, .i32⟩
  | .hbm, ⟨34, _⟩ => ⟨S_, .bf16⟩
  | .hbm, ⟨35, _⟩ => ⟨S2112x2048, .bf16⟩
  | .hbm, ⟨36, _⟩ => ⟨S2112x6272, .bf16⟩
  | .hbm, ⟨37, _⟩ => ⟨S4x128x256, .f32⟩
  | .hbm, ⟨38, _⟩ => ⟨S4x1x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x128, .f32⟩
  | .local _ .vmem, ⟨7, _⟩ => ⟨S64x128, .f32⟩
  | .local _ .vmem, ⟨8, _⟩ => ⟨S128x1024, .bf16⟩
  | .local _ .vmem, ⟨9, _⟩ => ⟨S1x1024, .f32⟩
  | .local _ .vmem, ⟨10, _⟩ => ⟨S1x4x512x256, .f32⟩
  | .local _ .vmem, ⟨11, _⟩ => ⟨S1x4x512x256, .f32⟩
  | .local _ .vmem, ⟨12, _⟩ => ⟨S64x2048, .f32⟩
  | .local _ .vmem, ⟨13, _⟩ => ⟨S64x2048, .f32⟩
  | .local _ .vmem, ⟨14, _⟩ => ⟨S64x2048, .bf16⟩
  | .local _ .vmem, ⟨15, _⟩ => ⟨S64x2048, .bf16⟩
  | .local _ .vmem, ⟨16, _⟩ => ⟨S64x6272, .bf16⟩
  | .local _ .vmem, ⟨17, _⟩ => ⟨S64x6272, .bf16⟩
  | .local _ .vmem, ⟨18, _⟩ => ⟨S4x128x256, .f32⟩
  | .local _ .vmem, ⟨19, _⟩ => ⟨S4x1x256, .f32⟩
  | .local _ .vmem, ⟨20, _⟩ => ⟨S4x512x256, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_call2_v0 : Ref sig .tc := ⟨.hbm, 17, rfl⟩
abbrev main_v2 : Ref sig .tc := ⟨.hbm, 18, rfl⟩
abbrev main_c_2 : Ref sig .tc := ⟨.hbm, 19, rfl⟩
abbrev main_call3_v0 : Ref sig .tc := ⟨.hbm, 20, rfl⟩
abbrev main_v3 : Ref sig .tc := ⟨.hbm, 21, rfl⟩
abbrev main_c_3 : Ref sig .tc := ⟨.hbm, 22, rfl⟩
abbrev main_call4_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_4 : Ref sig .tc := ⟨.hbm, 27, rfl⟩
abbrev main_call5_v0 : Ref sig .tc := ⟨.hbm, 28, rfl⟩
abbrev main_v7 : Ref sig .tc := ⟨.hbm, 29, rfl⟩
abbrev main_c_5 : Ref sig .tc := ⟨.hbm, 30, rfl⟩
abbrev main_call6_v0 : Ref sig .tc := ⟨.hbm, 31, rfl⟩
abbrev main_v8 : Ref sig .tc := ⟨.hbm, 32, rfl⟩
abbrev main_c_6 : Ref sig .tc := ⟨.hbm, 33, rfl⟩
abbrev main_call7_v0 : Ref sig .tc := ⟨.hbm, 34, rfl⟩
abbrev main_v9 : Ref sig .tc := ⟨.hbm, 35, rfl⟩
abbrev main_v10_0 : Ref sig .tc := ⟨.hbm, 36, rfl⟩
abbrev main_v10_1 : Ref sig .tc := ⟨.hbm, 37, rfl⟩
abbrev main_v10_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c48_i32 : BitVec 32 := 48#32
  let c0_i32 : BitVec 32 := 0#32
  ![v0.toNat, c48_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x6272 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
abbrev S2064x1024 : Shape := ⟨2, ![2064, 1024]⟩
abbrev S2064x2048 : Shape := ⟨2, ![2064, 2048]⟩
abbrev S2064x16 : Shape := ⟨2, ![2064, 16]⟩
abbrev S16x1024 : Shape := ⟨2, ![16, 1024]⟩
abbrev S1x1024 : Shape := ⟨2, ![1, 1024]⟩
abbrev S33x4x512x256 : Shape := ⟨4, ![33, 4, 512, 256]⟩
abbrev S_ : Shape := ⟨0, ![]⟩
abbrev S2112x1024 : Shape := ⟨2, ![2112, 1024]⟩
abbrev S2112x2048 : Shape := ⟨2, ![2112, 2048]⟩
abbrev S2112x128 : Shape := ⟨2, ![2112, 128]⟩
abbrev S2112x6272 : Shape := ⟨2, ![2112, 6272]⟩
abbrev S128x1024 : Shape := ⟨2, ![128, 1024]⟩
abbrev S4x128x256 : Shape := ⟨3, ![4, 128, 256]⟩
abbrev S4x1x256 : Shape := ⟨3, ![4, 1, 256]⟩
abbrev S64x1024 : Shape := ⟨2, ![64, 1024]⟩
abbrev S64x2048 : Shape := ⟨2, ![64, 2048]⟩
abbrev S64x128 : Shape := ⟨2, ![64, 128]⟩
abbrev S1x4x512x256 : Shape := ⟨4, ![1, 4, 512, 256]⟩
abbrev S64x6272 : Shape := ⟨2, ![64, 6272]⟩
abbrev S4x512x256 : Shape := ⟨3, ![4, 512, 256]⟩
abbrev S64x64 : Shape := ⟨2, ![64, 64]⟩
abbrev S128x256 : Shape := ⟨2, ![128, 256]⟩
abbrev S1x256 : Shape := ⟨2, ![1, 256]⟩
abbrev S64x256 : Shape := ⟨2, ![64, 256]⟩
abbrev S64x1 : Shape := ⟨2, ![64, 1]⟩
abbrev S256 : Shape := ⟨1, ![256]⟩
abbrev S64x512 : Shape := ⟨2, ![64, 512]⟩
abbrev S1x1x512x256 : Shape := ⟨4, ![1, 1, 512, 256]⟩
abbrev S512x256 : Shape := ⟨2, ![512, 256]⟩
abbrev S1x512x256 : Shape := ⟨3, ![1, 512, 256]⟩
abbrev S1x128x256 : Shape := ⟨3, ![1, 128, 256]⟩
abbrev S1x1x256 : Shape := ⟨3, ![1, 1, 256]⟩

abbrev nBuf : Space → Nat
  | .hbm => 39
  | .vmem => 21
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x2048, .f32⟩
  | .hbm, ⟨3, _⟩ => ⟨S2064x16, .f32⟩
  | .hbm, ⟨4, _⟩ => ⟨S2064x2048, .f32⟩
  | .hbm, ⟨5, _⟩ => ⟨S16x1024, .f32⟩
  | .hbm, ⟨6, _⟩ => ⟨S1x1024, .f32⟩
  | .hbm, ⟨7, _⟩ => ⟨S33x4x512x256, .f32⟩
  | .hbm, ⟨8, _⟩ => ⟨S2064x2048, .f32⟩
  | .hbm, ⟨9, _⟩ => ⟨S2064x2048, .bf16⟩
  | .hbm, ⟨10, _⟩ => ⟨S_, .i32⟩
  | .hbm, ⟨11, _⟩ => ⟨S_, .f32⟩
  | .hbm, ⟨12, _⟩ => ⟨S2112x1024, .f32⟩
  | .hbm, ⟨13, _⟩ => ⟨S_, .i32⟩
  | .hbm, ⟨14, _⟩ => ⟨S_, .f32⟩
  | .hbm, ⟨15, _⟩ => ⟨S2112x1024, .f32⟩
  | .hbm, ⟨16, _⟩ => ⟨S_, .i32⟩
  | .hbm, ⟨17, _⟩ => ⟨S_, .f32⟩
  | .hbm, ⟨18, _⟩ => ⟨S2112x2048, .f32⟩
  | .hbm, ⟨19, _⟩ => ⟨S_, .i32⟩
  | .hbm, ⟨20, _⟩ => ⟨S_, .f32⟩
  | .hbm, ⟨21, _⟩ => ⟨S2112x2048, .f32⟩
  | .hbm, ⟨22, _⟩ => ⟨S_, .i32⟩
  | .hbm, ⟨23, _⟩ => ⟨S_, .f32⟩
  | .hbm, ⟨24, _⟩ => ⟨S2112x128, .f32⟩
  | .hbm, ⟨25, _⟩ => ⟨S2112x6272, .f32⟩
  | .hbm, ⟨26, _⟩ => ⟨S16x1024, .bf16⟩
  | .hbm, ⟨27, _⟩ => ⟨S_, .i32⟩
  | .hbm, ⟨28, _⟩ => ⟨S_, .bf16⟩
  | .hbm, ⟨29, _⟩ => ⟨S128x1024, .bf16⟩
  | .hbm, ⟨30, _⟩ => ⟨S_, .i32⟩
  | .hbm, ⟨31, _⟩ => ⟨S_, .f32⟩
  | .hbm, ⟨32, _⟩ => ⟨S2112x2048, .f32⟩
  | .hbm, ⟨33, _⟩ => ⟨S_, .i32⟩
  | .hbm, ⟨34, _⟩ => ⟨S_, .bf16⟩
  | .hbm, ⟨35, _⟩ => ⟨S2112x2048, .bf16⟩
  | .hbm, ⟨36, _⟩ => ⟨S2112x6272, .bf16⟩
  | .hbm, ⟨37, _⟩ => ⟨S4x128x256, .f32⟩
  | .hbm, ⟨38, _⟩ => ⟨S4x1x256, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x128, .f32⟩
  | .local _ .vmem, ⟨7, _⟩ => ⟨S64x128, .f32⟩
  | .local _ .vmem, ⟨8, _⟩ => ⟨S128x1024, .bf16⟩
  | .local _ .vmem, ⟨9, _⟩ => ⟨S1x1024, .f32⟩
  | .local _ .vmem, ⟨10, _⟩ => ⟨S1x4x512x256, .f32⟩
  | .local _ .vmem, ⟨11, _⟩ => ⟨S1x4x512x256, .f32⟩
  | .local _ .vmem, ⟨12, _⟩ => ⟨S64x2048, .f32⟩
  | .local _ .vmem, ⟨13, _⟩ => ⟨S64x2048, .f32⟩
  | .local _ .vmem, ⟨14, _⟩ => ⟨S64x2048, .bf16⟩
  | .local _ .vmem, ⟨15, _⟩ => ⟨S64x2048, .bf16⟩
  | .local _ .vmem, ⟨16, _⟩ => ⟨S64x6272, .bf16⟩
  | .local _ .vmem, ⟨17, _⟩ => ⟨S64x6272, .bf16⟩
  | .local _ .vmem, ⟨18, _⟩ => ⟨S4x128x256, .f32⟩
  | .local _ .vmem, ⟨19, _⟩ => ⟨S4x1x256, .f32⟩
  | .local _ .vmem, ⟨20, _⟩ => ⟨S4x512x256, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_call2_v0 : Ref sig .tc := ⟨.hbm, 17, rfl⟩
abbrev main_v2 : Ref sig .tc := ⟨.hbm, 18, rfl⟩
abbrev main_c_2 : Ref sig .tc := ⟨.hbm, 19, rfl⟩
abbrev main_call3_v0 : Ref sig .tc := ⟨.hbm, 20, rfl⟩
abbrev main_v3 : Ref sig .tc := ⟨.hbm, 21, rfl⟩
abbrev main_c_3 : Ref sig .tc := ⟨.hbm, 22, rfl⟩
abbrev main_call4_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_4 : Ref sig .tc := ⟨.hbm, 27, rfl⟩
abbrev main_call5_v0 : Ref sig .tc := ⟨.hbm, 28, rfl⟩
abbrev main_v7 : Ref sig .tc := ⟨.hbm, 29, rfl⟩
abbrev main_c_5 : Ref sig .tc := ⟨.hbm, 30, rfl⟩
abbrev main_call6_v0 : Ref sig .tc := ⟨.hbm, 31, rfl⟩
abbrev main_v8 : Ref sig .tc := ⟨.hbm, 32, rfl⟩
abbrev main_c_6 : Ref sig .tc := ⟨.hbm, 33, rfl⟩
abbrev main_call7_v0 : Ref sig .tc := ⟨.hbm, 34, rfl⟩
abbrev main_v9 : Ref sig .tc := ⟨.hbm, 35, rfl⟩
abbrev main_v10_0 : Ref sig .tc := ⟨.hbm, 36, rfl⟩
abbrev main_v10_1 : Ref sig .tc := ⟨.hbm, 37, rfl⟩
abbrev main_v10_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c48_i32 : BitVec 32 := 48#32
  let c0_i32 : BitVec 32 := 0#32
  ![v0.toNat, c48_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x6272 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2064x1024 : Shape := ⟨2, ![2064, 1024]⟩
abbrev S2064x2048 : Shape := ⟨2, ![2064, 2048]⟩
abbrev S2064x16 : Shape := ⟨2, ![2064, 16]⟩
abbrev S16x1024 : Shape := ⟨2, ![16, 1024]⟩
abbrev S1x1024 : Shape := ⟨2, ![1, 1024]⟩
abbrev S33x4x512x256 : Shape := ⟨4, ![33, 4, 512, 256]⟩
abbrev S_ : Shape := ⟨0, ![]⟩
abbrev S1x2064x4x256 : Shape := ⟨4, ![1, 2064, 4, 256]⟩
abbrev S1x4x2064x256 : Shape := ⟨4, ![1, 4, 2064, 256]⟩
abbrev S1x4x48x256 : Shape := ⟨4, ![1, 4, 48, 256]⟩
abbrev S1x4x2112x256 : Shape := ⟨4, ![1, 4, 2112, 256]⟩
abbrev S1x4x33x64x256 : Shape := ⟨5, ![1, 4, 33, 64, 256]⟩
abbrev S33x1x4x64x256 : Shape := ⟨5, ![33, 1, 4, 64, 256]⟩
abbrev S1x2064x4x512 : Shape := ⟨4, ![1, 2064, 4, 512]⟩
abbrev S1x4x2064x512 : Shape := ⟨4, ![1, 4, 2064, 512]⟩
abbrev S1x4x48x512 : Shape := ⟨4, ![1, 4, 48, 512]⟩
abbrev S1x4x2112x512 : Shape := ⟨4, ![1, 4, 2112, 512]⟩
abbrev S1x4x33x64x512 : Shape := ⟨5, ![1, 4, 33, 64, 512]⟩
abbrev S33x1x4x64x512 : Shape := ⟨5, ![33, 1, 4, 64, 512]⟩
abbrev S33x4x256x512 : Shape := ⟨4, ![33, 4, 256, 512]⟩
abbrev S33x1x4x256x512 : Shape := ⟨5, ![33, 1, 4, 256, 512]⟩
abbrev S1x4x256x512 : Shape := ⟨4, ![1, 4, 256, 512]⟩
abbrev S1x1x4x256x512 : Shape := ⟨5, ![1, 1, 4, 256, 512]⟩
abbrev S1x1x4x64x256 : Shape := ⟨5, ![1, 1, 4, 64, 256]⟩
abbrev S1x4x64x256 : Shape := ⟨4, ![1, 4, 64, 256]⟩
abbrev S1x1x4x64x512 : Shape := ⟨5, ![1, 1, 4, 64, 512]⟩
abbrev S1x4x64x512 : Shape := ⟨4, ![1, 4, 64, 512]⟩
abbrev S64x64 : Shape := ⟨2, ![64, 64]⟩
abbrev S1x4x1x256 : Shape := ⟨4, ![1, 4, 1, 256]⟩
abbrev S1x4x64x1x256 : Shape := ⟨5, ![1, 4, 64, 1, 256]⟩
abbrev S1x4x1x64x256 : Shape := ⟨5, ![1, 4, 1, 64, 256]⟩
abbrev S1x4x64x64x256 : Shape := ⟨5, ![1, 4, 64, 64, 256]⟩
abbrev S64x64x1 : Shape := ⟨3, ![64, 64, 1]⟩
abbrev S1x4x64x64 : Shape := ⟨4, ![1, 4, 64, 64]⟩
abbrev S1x4x256 : Shape := ⟨3, ![1, 4, 256]⟩
abbrev S1x4x256x1 : Shape := ⟨4, ![1, 4, 256, 1]⟩
abbrev S1x4x512x64 : Shape := ⟨4, ![1, 4, 512, 64]⟩
abbrev S1x4x256x64 : Shape := ⟨4, ![1, 4, 256, 64]⟩
abbrev S4x256 : Shape := ⟨2, ![4, 256]⟩
abbrev S4x64x256 : Shape := ⟨3, ![4, 64, 256]⟩
abbrev S1x4x512x256 : Shape := ⟨4, ![1, 4, 512, 256]⟩
abbrev S1024 : Shape := ⟨1, ![1024]⟩
abbrev S1024x16 : Shape := ⟨2, ![1024, 16]⟩
abbrev S2064x6160 : Shape := ⟨2, ![2064, 6160]⟩
abbrev S2112x6272 : Shape := ⟨2, ![2112, 6272]⟩
abbrev S16x4x256 : Shape := ⟨3, ![16, 4, 256]⟩
abbrev S4x16x256 : Shape := ⟨3, ![4, 16, 256]⟩
abbrev S4x128x256 : Shape := ⟨3, ![4, 128, 256]⟩
abbrev S4x1x256 : Shape := ⟨3, ![4, 1, 256]⟩

abbrev nBuf : Space → Nat
  | .hbm => 447
  | .vmem => 0
  | .smem => 0
  | _ => 0

abbrev hbmTy0_0 (i : Nat) : BufTy := match i % 128 with
  | 0 => ⟨S2064x1024, .f32⟩
  | 1 => ⟨S2064x1024, .f32⟩
  | 2 => ⟨S2064x2048, .f32⟩
  | 3 => ⟨S2064x16, .f32⟩
  | 4 => ⟨S2064x2048, .f32⟩
  | 5 => ⟨S16x1024, .f32⟩
  | 6 => ⟨S1x1024, .f32⟩
  | 7 => ⟨S33x4x512x256, .f32⟩
  | 8 => ⟨S2064x2048, .f32⟩
  | 9 => ⟨S2064x2048, .bf16⟩
  | 10 => ⟨S2064x1024, .f32⟩
  | 11 => ⟨S2064x1024, .f32⟩
  | 12 => ⟨S2064x1024, .f32⟩
  | 13 => ⟨S2064x1024, .f32⟩
  | 14 => ⟨S_, .f32⟩
  | 15 => ⟨S2064x1024, .f32⟩
  | 16 => ⟨S2064x1024, .f32⟩
  | 17 => ⟨S2064x1024, .f32⟩
  | 18 => ⟨S2064x1024, .f32⟩
  | 19 => ⟨S2064x1024, .i1⟩
  | 20 => ⟨S2064x1024, .f32⟩
  | 21 => ⟨S2064x1024, .f32⟩
  | 22 => ⟨S2064x1024, .f32⟩
  | 23 => ⟨S2064x1024, .f32⟩
  | 24 => ⟨S2064x1024, .f32⟩
  | 25 => ⟨S2064x1024, .f32⟩
  | 26 => ⟨S2064x1024, .f32⟩
  | 27 => ⟨S2064x1024, .f32⟩
  | 28 => ⟨S2064x1024, .f32⟩
  | 29 => ⟨S_, .f32⟩
  | 30 => ⟨S2064x1024, .f32⟩
  | 31 => ⟨S2064x1024, .f32⟩
  | 32 => ⟨S1x2064x4x256, .f32⟩
  | 33 => ⟨S1x4x2064x256, .f32⟩
  | 34 => ⟨S_, .f32⟩
  | 35 => ⟨S1x4x2064x256, .f32⟩
  | 36 => ⟨S1x4x2064x256, .f32⟩
  | 37 => ⟨S_, .f32⟩
  | 38 => ⟨S1x4x48x256, .f32⟩
  | 39 => ⟨S1x4x2112x256, .f32⟩
  | 40 => ⟨S1x4x33x64x256, .f32⟩
  | 41 => ⟨S33x1x4x64x256, .f32⟩
  | 42 => ⟨S1x2064x4x256, .f32⟩
  | 43 => ⟨S1x4x2064x256, .f32⟩
  | 44 => ⟨S_, .f32⟩
  | 45 => ⟨S1x4x48x256, .f32⟩
  | 46 => ⟨S1x4x2112x256, .f32⟩
  | 47 => ⟨S1x4x33x64x256, .f32⟩
  | 48 => ⟨S33x1x4x64x256, .f32⟩
  | 49 => ⟨S1x2064x4x512, .f32⟩
  | 50 => ⟨S1x4x2064x512, .f32⟩
  | 51 => ⟨S_, .f32⟩
  | 52 => ⟨S1x4x48x512, .f32⟩
  | 53 => ⟨S1x4x2112x512, .f32⟩
  | 54 => ⟨S1x4x33x64x512, .f32⟩
  | 55 => ⟨S33x1x4x64x512, .f32⟩
  | 56 => ⟨S1x2064x4x256, .f32⟩
  | 57 => ⟨S1x4x2064x256, .f32⟩
  | 58 => ⟨S_, .f32⟩
  | 59 => ⟨S1x4x48x256, .f32⟩
  | 60 => ⟨S1x4x2112x256, .f32⟩
  | 61 => ⟨S1x4x33x64x256, .f32⟩
  | 62 => ⟨S33x1x4x64x256, .f32⟩
  | 63 => ⟨S_, .f32⟩
  | 64 => ⟨S33x1x4x64x512, .f32⟩
  | 65 => ⟨S1x4x33x64x512, .f32⟩
  | 66 => ⟨S1x4x2112x512, .f32⟩
  | 67 => ⟨S1x4x2064x512, .f32⟩
  | 68 => ⟨S1x2064x4x512, .f32⟩
  | 69 => ⟨S2064x2048, .f32⟩
  | 70 => ⟨S1x2064x4x512, .f32⟩
  | 71 => ⟨S1x4x2064x512, .f32⟩
  | 72 => ⟨S_, .f32⟩
  | 73 => ⟨S1x4x2112x512, .f32⟩
  | 74 => ⟨S1x4x33x64x512, .f32⟩
  | 75 => ⟨S33x1x4x64x512, .f32⟩
  | 76 => ⟨S33x4x256x512, .f32⟩
  | 77 => ⟨S33x1x4x256x512, .f32⟩
  | 78 => ⟨S_, .f32⟩
  | 79 => ⟨S1x4x256x512, .f32⟩
  | 80 => ⟨S_, .f32⟩
  | 81 => ⟨S33x1x4x64x256, .f32⟩
  | 82 => ⟨S_, .f32⟩
  | 83 => ⟨S33x1x4x64x256, .f32⟩
  | 84 => ⟨S_, .f32⟩
  | 85 => ⟨S33x1x4x64x512, .f32⟩
  | 86 => ⟨S_, .f32⟩
  | 87 => ⟨S33x1x4x64x256, .f32⟩
  | 88 => ⟨S_, .i32⟩
  | 89 => ⟨S33x1x4x256x512, .f32⟩
  | 90 => ⟨S33x1x4x64x256, .f32⟩
  | 91 => ⟨S33x1x4x64x256, .f32⟩
  | 92 => ⟨S33x1x4x64x512, .f32⟩
  | 93 => ⟨S33x1x4x64x256, .f32⟩
  | 94 => ⟨S33x1x4x64x512, .f32⟩
  | 95 => ⟨S_, .i32⟩
  | 96 => ⟨S1x4x256x512, .f32⟩
  | 97 => ⟨S33x1x4x64x256, .f32⟩
  | 98 => ⟨S33x1x4x64x256, .f32⟩
  | 99 => ⟨S33x1x4x64x512, .f32⟩
  | 100 => ⟨S33x1x4x64x256, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S1x1x4x256x512, .f32⟩
  | 112 => ⟨S1x4x256x512, .f32⟩
  | 113 => ⟨S_, .i32⟩
  | 114 => ⟨S_, .i32⟩
  | 115 => ⟨S_, .i32⟩
  | 116 => ⟨S_, .i32⟩
  | 117 => ⟨S1x1x4x64x256, .f32⟩
  | 118 => ⟨S1x4x64x256, .f32⟩
  | 119 => ⟨S_, .i32⟩
  | 120 => ⟨S_, .i32⟩
  | 121 => ⟨S_, .i32⟩
  | 122 => ⟨S_, .i32⟩
  | 123 => ⟨S1x1x4x64x256, .f32⟩
  | 124 => ⟨S1x4x64x256, .f32⟩
  | 125 => ⟨S_, .i32⟩
  | 126 => ⟨S_, .i32⟩
  | 127 => ⟨S_, .i32⟩
  | _ => ⟨S2064x1024, .f32⟩

abbrev hbmTy0_1 (i : Nat) : BufTy := match i % 128 with
  | 0 => ⟨S_, .i32⟩
  | 1 => ⟨S1x1x4x64x512, .f32⟩
  | 2 => ⟨S1x4x64x512, .f32⟩
  | 3 => ⟨S_, .i32⟩
  | 4 => ⟨S_, .i32⟩
  | 5 => ⟨S_, .i32⟩
  | 6 => ⟨S_, .i32⟩
  | 7 => ⟨S1x1x4x64x256, .f32⟩
  | 8 => ⟨S1x4x64x256, .f32⟩
  | 9 => ⟨S_, .i32⟩
  | 10 => ⟨S_, .i32⟩
  | 11 => ⟨S_, .i32⟩
  | 12 => ⟨S_, .i32⟩
  | 13 => ⟨S1x1x4x64x512, .f32⟩
  | 14 => ⟨S1x4x64x512, .f32⟩
  | 15 => ⟨S_, .i1⟩
  | 16 => ⟨S64x64, .i1⟩
  | 17 => ⟨S64x64, .i32⟩
  | 18 => ⟨S_, .i32⟩
  | 19 => ⟨S64x64, .i32⟩
  | 20 => ⟨S64x64, .i32⟩
  | 21 => ⟨S64x64, .i32⟩
  | 22 => ⟨S64x64, .i1⟩
  | 23 => ⟨S_, .i1⟩
  | 24 => ⟨S64x64, .i1⟩
  | 25 => ⟨S64x64, .i1⟩
  | 26 => ⟨S_, .f32⟩
  | 27 => ⟨S_, .f32⟩
  | 28 => ⟨S1x4x64x256, .f32⟩
  | 29 => ⟨S1x4x1x256, .f32⟩
  | 30 => ⟨S1x4x64x256, .f32⟩
  | 31 => ⟨S1x4x64x256, .f32⟩
  | 32 => ⟨S1x4x64x512, .f32⟩
  | 33 => ⟨S1x4x64x1x256, .f32⟩
  | 34 => ⟨S1x4x1x64x256, .f32⟩
  | 35 => ⟨S1x4x64x64x256, .f32⟩
  | 36 => ⟨S1x4x64x64x256, .f32⟩
  | 37 => ⟨S1x4x64x64x256, .f32⟩
  | 38 => ⟨S64x64x1, .i1⟩
  | 39 => ⟨S_, .f32⟩
  | 40 => ⟨S_, .f32⟩
  | 41 => ⟨S1x4x64x64x256, .i1⟩
  | 42 => ⟨S1x4x64x64x256, .f32⟩
  | 43 => ⟨S1x4x64x64x256, .f32⟩
  | 44 => ⟨S_, .f32⟩
  | 45 => ⟨S1x4x64x64x256, .f32⟩
  | 46 => ⟨S1x4x64x64x256, .f32⟩
  | 47 => ⟨S1x4x64x1x256, .f32⟩
  | 48 => ⟨S1x4x64x64x256, .f32⟩
  | 49 => ⟨S1x4x64x64x256, .f32⟩
  | 50 => ⟨S1x4x1x64x256, .f32⟩
  | 51 => ⟨S1x4x64x64x256, .f32⟩
  | 52 => ⟨S1x4x64x64x256, .f32⟩
  | 53 => ⟨S_, .f32⟩
  | 54 => ⟨S1x4x64x64, .f32⟩
  | 55 => ⟨S1x4x64x512, .f32⟩
  | 56 => ⟨S1x4x64x512, .f32⟩
  | 57 => ⟨S1x4x256, .f32⟩
  | 58 => ⟨S1x4x256, .f32⟩
  | 59 => ⟨S1x4x256x1, .f32⟩
  | 60 => ⟨S1x4x256x512, .f32⟩
  | 61 => ⟨S1x4x256x512, .f32⟩
  | 62 => ⟨S1x4x64x256, .f32⟩
  | 63 => ⟨S1x4x64x256, .f32⟩
  | 64 => ⟨S1x4x64x256, .f32⟩
  | 65 => ⟨S1x4x64x256, .f32⟩
  | 66 => ⟨S1x4x256x512, .f32⟩
  | 67 => ⟨S1x4x256x512, .f32⟩
  | 68 => ⟨S1x4x512x64, .f32⟩
  | 69 => ⟨S1x4x64x512, .f32⟩
  | 70 => ⟨S1x4x256x64, .f32⟩
  | 71 => ⟨S1x4x64x256, .f32⟩
  | 72 => ⟨S1x4x64x256, .f32⟩
  | 73 => ⟨S1x4x64x256, .f32⟩
  | 74 => ⟨S1x4x64x256, .f32⟩
  | 75 => ⟨S_, .f32⟩
  | 76 => ⟨S1x4x256, .f32⟩
  | 77 => ⟨S1x4x1x256, .f32⟩
  | 78 => ⟨S1x4x64x256, .f32⟩
  | 79 => ⟨S1x4x256x512, .f32⟩
  | 80 => ⟨S1x4x256x512, .f32⟩
  | 81 => ⟨S1x4x256x512, .f32⟩
  | 82 => ⟨S_, .f32⟩
  | 83 => ⟨S1x4x256, .f32⟩
  | 84 => ⟨S1x4x256x1, .f32⟩
  | 85 => ⟨S_, .f32⟩
  | 86 => ⟨S4x256, .f32⟩
  | 87 => ⟨S1x4x256, .f32⟩
  | 88 => ⟨S1x4x256, .f32⟩
  | 89 => ⟨S1x4x1x256, .f32⟩
  | 90 => ⟨S1x4x1x256, .f32⟩
  | 91 => ⟨S1x4x512x64, .f32⟩
  | 92 => ⟨S1x4x64x512, .f32⟩
  | 93 => ⟨S1x4x64x512, .f32⟩
  | 94 => ⟨S1x4x64x64, .f32⟩
  | 95 => ⟨S1x4x64x64x256, .f32⟩
  | 96 => ⟨S1x4x64x64x256, .f32⟩
  | 97 => ⟨S_, .f32⟩
  | 98 => ⟨S1x4x64x256, .f32⟩
  | 99 => ⟨S1x4x1x64x256, .f32⟩
  | 100 => ⟨S1x4x64x64x256, .f32⟩
  | 101 => ⟨S1x4x64x64x256, .f32⟩
  | 102 => ⟨S_, .f32⟩
  | 103 => ⟨S4x64x256, .f32⟩
  | 104 => ⟨S1x4x64x256, .f32⟩
  | 105 => ⟨S1x4x64x256, .f32⟩
  | 106 => ⟨S1x4x64x64x256, .f32⟩
  | 107 => ⟨S1x4x64x64x256, .f32⟩
  | 108 => ⟨S1x4x64x64x256, .f32⟩
  | 109 => ⟨S_, .f32⟩
  | 110 => ⟨S1x4x64x256, .f32⟩
  | 111 => ⟨S1x4x64x1x256, .f32⟩
  | 112 => ⟨S_, .f32⟩
  | 113 => ⟨S4x64x256, .f32⟩
  | 114 => ⟨S1x4x64x256, .f32⟩
  | 115 => ⟨S1x4x64x64x256, .f32⟩
  | 116 => ⟨S_, .f32⟩
  | 117 => ⟨S1x4x64x64x256, .f32⟩
  | 118 => ⟨S1x4x64x64x256, .f32⟩
  | 119 => ⟨S_, .f32⟩
  | 120 => ⟨S1x4x64x256, .f32⟩
  | 121 => ⟨S1x4x64x1x256, .f32⟩
  | 122 => ⟨S1x4x64x64x256, .f32⟩
  | 123 => ⟨S_, .f32⟩
  | 124 => ⟨S1x4x64x256, .f32⟩
  | 125 => ⟨S1x4x1x64x256, .f32⟩
  | 126 => ⟨S_, .f32⟩
  | 127 => ⟨S4x64x256, .f32⟩
  | _ => ⟨S2064x1024, .f32⟩

abbrev hbmTy0_2 (i : Nat) : BufTy := match i % 128 with
  | 0 => ⟨S1x4x64x256, .f32⟩
  | 1 => ⟨S1x4x64x256, .f32⟩
  | 2 => ⟨S_, .f32⟩
  | 3 => ⟨S4x64x256, .f32⟩
  | 4 => ⟨S1x4x64x256, .f32⟩
  | 5 => ⟨S1x4x64x256, .f32⟩
  | 6 => ⟨S1x4x512x256, .f32⟩
  | 7 => ⟨S1x4x256x512, .f32⟩
  | 8 => ⟨S1x4x256x512, .f32⟩
  | 9 => ⟨S1x4x64x256, .f32⟩
  | 10 => ⟨S1x4x64x256, .f32⟩
  | 11 => ⟨S1x4x64x256, .f32⟩
  | 12 => ⟨S1x4x64x256, .f32⟩
  | 13 => ⟨S1x4x64x256, .f32⟩
  | 14 => ⟨S1x4x64x256, .f32⟩
  | 15 => ⟨S_, .f32⟩
  | 16 => ⟨S1x4x64x256, .f32⟩
  | 17 => ⟨S1x4x64x256, .f32⟩
  | 18 => ⟨S_, .f32⟩
  | 19 => ⟨S_, .f32⟩
  | 20 => ⟨S1x4x64x256, .f32⟩
  | 21 => ⟨S1x1x4x64x256, .f32⟩
  | 22 => ⟨S_, .i32⟩
  | 23 => ⟨S_, .i32⟩
  | 24 => ⟨S_, .i32⟩
  | 25 => ⟨S_, .i32⟩
  | 26 => ⟨S33x1x4x64x256, .f32⟩
  | 27 => ⟨S1x1x4x64x256, .f32⟩
  | 28 => ⟨S_, .i32⟩
  | 29 => ⟨S_, .i32⟩
  | 30 => ⟨S_, .i32⟩
  | 31 => ⟨S_, .i32⟩
  | 32 => ⟨S33x1x4x64x256, .f32⟩
  | 33 => ⟨S1x1x4x64x512, .f32⟩
  | 34 => ⟨S_, .i32⟩
  | 35 => ⟨S_, .i32⟩
  | 36 => ⟨S_, .i32⟩
  | 37 => ⟨S_, .i32⟩
  | 38 => ⟨S33x1x4x64x512, .f32⟩
  | 39 => ⟨S1x1x4x64x256, .f32⟩
  | 40 => ⟨S_, .i32⟩
  | 41 => ⟨S_, .i32⟩
  | 42 => ⟨S_, .i32⟩
  | 43 => ⟨S_, .i32⟩
  | 44 => ⟨S33x1x4x64x256, .f32⟩
  | 45 => ⟨S_, .i32⟩
  | 46 => ⟨S_, .i32⟩
  | 47 => ⟨S2064x1024, .f32⟩
  | 48 => ⟨S2064x1024, .f32⟩
  | 49 => ⟨S2064x1024, .f32⟩
  | 50 => ⟨S2064x1024, .f32⟩
  | 51 => ⟨S_, .f32⟩
  | 52 => ⟨S2064x1024, .f32⟩
  | 53 => ⟨S2064x1024, .f32⟩
  | 54 => ⟨S2064x1024, .f32⟩
  | 55 => ⟨S2064x1024, .f32⟩
  | 56 => ⟨S2064x1024, .i1⟩
  | 57 => ⟨S2064x1024, .f32⟩
  | 58 => ⟨S2064x1024, .f32⟩
  | 59 => ⟨S2064x1024, .f32⟩
  | 60 => ⟨S2064x1024, .f32⟩
  | 61 => ⟨S2064x1024, .f32⟩
  | 62 => ⟨S2064x1024, .f32⟩
  | 63 => ⟨S2064x1024, .f32⟩
  | 64 => ⟨S2064x1024, .f32⟩
  | 65 => ⟨S_, .f32⟩
  | 66 => ⟨S2064x1024, .f32⟩
  | 67 => ⟨S2064x1024, .i1⟩
  | 68 => ⟨S_, .f32⟩
  | 69 => ⟨S2064x1024, .f32⟩
  | 70 => ⟨S2064x1024, .f32⟩
  | 71 => ⟨S_, .f32⟩
  | 72 => ⟨S2064x1024, .f32⟩
  | 73 => ⟨S2064x1024, .i1⟩
  | 74 => ⟨S_, .f32⟩
  | 75 => ⟨S2064x1024, .f32⟩
  | 76 => ⟨S2064x1024, .f32⟩
  | 77 => ⟨S2064x1024, .f32⟩
  | 78 => ⟨S2064x1024, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S2064x1024, .f32⟩
  | 87 => ⟨S2064x1024, .i1⟩
  | 88 => ⟨S_, .f32⟩
  | 89 => ⟨S2064x1024, .f32⟩
  | 90 => ⟨S2064x1024, .f32⟩
  | 91 => ⟨S2064x1024, .f32⟩
  | 92 => ⟨S2064x1024, .f32⟩
  | 93 => ⟨S2064x1024, .f32⟩
  | 94 => ⟨S_, .f32⟩
  | 95 => ⟨S2064x1024, .f32⟩
  | 96 => ⟨S2064x1024, .f32⟩
  | 97 => ⟨S2064x1024, .f32⟩
  | 98 => ⟨S_, .f32⟩
  | 99 => ⟨S2064x1024, .f32⟩
  | 100 => ⟨S2064x1024, .f32⟩
  | 101 => ⟨S1x2064x4x256, .f32⟩
  | 102 => ⟨S1x4x2064x256, .f32⟩
  | 103 => ⟨S_, .f32⟩
  | 104 => ⟨S1x4x2064x256, .f32⟩
  | 105 => ⟨S1x4x2064x256, .f32⟩
  | 106 => ⟨S_, .f32⟩
  | 107 => ⟨S1x4x48x256, .f32⟩
  | 108 => ⟨S1x4x2112x256, .f32⟩
  | 109 => ⟨S_, .f32⟩
  | 110 => ⟨S1x4x48x256, .f32⟩
  | 111 => ⟨S1x4x33x64x256, .f32⟩
  | 112 => ⟨S33x1x4x64x256, .f32⟩
  | 113 => ⟨S1x2064x4x256, .f32⟩
  | 114 => ⟨S1x4x2064x256, .f32⟩
  | 115 => ⟨S_, .f32⟩
  | 116 => ⟨S1x4x48x256, .f32⟩
  | 117 => ⟨S1x4x2112x256, .f32⟩
  | 118 => ⟨S_, .f32⟩
  | 119 => ⟨S1x4x48x256, .f32⟩
  | 120 => ⟨S1x4x33x64x256, .f32⟩
  | 121 => ⟨S33x1x4x64x256, .f32⟩
  | 122 => ⟨S1x2064x4x512, .f32⟩
  | 123 => ⟨S1x4x2064x512, .f32⟩
  | 124 => ⟨S_, .f32⟩
  | 125 => ⟨S1x4x48x512, .f32⟩
  | 126 => ⟨S1x4x2112x512, .f32⟩
  | 127 => ⟨S_, .f32⟩
  | _ => ⟨S2064x1024, .f32⟩

abbrev hbmTy0_3 (i : Nat) : BufTy := match i % 128 with
  | 0 => ⟨S1x4x48x512, .f32⟩
  | 1 => ⟨S1x4x33x64x512, .f32⟩
  | 2 => ⟨S33x1x4x64x512, .f32⟩
  | 3 => ⟨S1x2064x4x256, .f32⟩
  | 4 => ⟨S1x4x2064x256, .f32⟩
  | 5 => ⟨S_, .f32⟩
  | 6 => ⟨S1x4x48x256, .f32⟩
  | 7 => ⟨S1x4x2112x256, .f32⟩
  | 8 => ⟨S_, .f32⟩
  | 9 => ⟨S1x4x48x256, .f32⟩
  | 10 => ⟨S1x4x33x64x256, .f32⟩
  | 11 => ⟨S33x1x4x64x256, .f32⟩
  | 12 => ⟨S1x4x33x64x256, .f32⟩
  | 13 => ⟨S1x4x2112x256, .f32⟩
  | 14 => ⟨S1x4x48x256, .f32⟩
  | 15 => ⟨S1x4x2064x256, .f32⟩
  | 16 => ⟨S1x2064x4x256, .f32⟩
  | 17 => ⟨S2064x1024, .f32⟩
  | 18 => ⟨S1x4x33x64x512, .f32⟩
  | 19 => ⟨S1x4x2112x512, .f32⟩
  | 20 => ⟨S1x4x48x512, .f32⟩
  | 21 => ⟨S1x4x2064x512, .f32⟩
  | 22 => ⟨S1x2064x4x512, .f32⟩
  | 23 => ⟨S2064x2048, .f32⟩
  | 24 => ⟨S1x4x33x64x256, .f32⟩
  | 25 => ⟨S1x4x2112x256, .f32⟩
  | 26 => ⟨S1x4x48x256, .f32⟩
  | 27 => ⟨S1x4x2064x256, .f32⟩
  | 28 => ⟨S1x2064x4x256, .f32⟩
  | 29 => ⟨S2064x1024, .f32⟩
  | 30 => ⟨S1x4x33x64x256, .f32⟩
  | 31 => ⟨S1x4x2112x256, .f32⟩
  | 32 => ⟨S1x4x48x256, .f32⟩
  | 33 => ⟨S1x4x2064x256, .f32⟩
  | 34 => ⟨S_, .f32⟩
  | 35 => ⟨S1x4x2064x256, .f32⟩
  | 36 => ⟨S1x4x2064x256, .f32⟩
  | 37 => ⟨S1x2064x4x256, .f32⟩
  | 38 => ⟨S2064x1024, .f32⟩
  | 39 => ⟨S_, .f32⟩
  | 40 => ⟨S2064x1024, .f32⟩
  | 41 => ⟨S2064x1024, .f32⟩
  | 42 => ⟨S2064x1024, .f32⟩
  | 43 => ⟨S2064x1024, .f32⟩
  | 44 => ⟨S2064x1024, .f32⟩
  | 45 => ⟨S_, .f32⟩
  | 46 => ⟨S1024, .f32⟩
  | 47 => ⟨S1x1024, .f32⟩
  | 48 => ⟨S1024x16, .f32⟩
  | 49 => ⟨S16x1024, .f32⟩
  | 50 => ⟨S2064x16, .f32⟩
  | 51 => ⟨S2064x2048, .f32⟩
  | 52 => ⟨S2064x6160, .f32⟩
  | 53 => ⟨S_, .i32⟩
  | 54 => ⟨S_, .f32⟩
  | 55 => ⟨S2112x6272, .f32⟩
  | 56 => ⟨S2112x6272, .bf16⟩
  | 57 => ⟨S16x4x256, .f32⟩
  | 58 => ⟨S4x16x256, .f32⟩
  | 59 => ⟨S_, .i32⟩
  | 60 => ⟨S_, .f32⟩
  | 61 => ⟨S4x128x256, .f32⟩
  | 62 => ⟨S4x1x256, .f32⟩
  | _ => ⟨S2064x1024, .f32⟩

abbrev hbmTy (i : Nat) : BufTy := match i / 128 with
  | 0 => hbmTy0_0 i
  | 1 => hbmTy0_1 i
  | 2 => hbmTy0_2 i
  | 3 => hbmTy0_3 i
  | _ => ⟨S2064x1024, .f32⟩

abbrev bufTy : (tb : Table) → Fin (tcTables nBuf tb) → BufTy
  | .hbm, ⟨i, _⟩ => hbmTy i
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_cst_9 : Ref sig .tc := ⟨.hbm, 82, rfl⟩
abbrev main_v47 : Ref sig .tc := ⟨.hbm, 83, rfl⟩
abbrev main_cst_10 : Ref sig .tc := ⟨.hbm, 84, rfl⟩
abbrev main_v48 : Ref sig .tc := ⟨.hbm, 85, rfl⟩
abbrev main_cst_11 : Ref sig .tc := ⟨.hbm, 86, rfl⟩
abbrev main_v49 : Ref sig .tc := ⟨.hbm, 87, rfl⟩
abbrev main_c : Ref sig .tc := ⟨.hbm, 88, rfl⟩
abbrev main_v50_0 : Ref sig .tc := ⟨.hbm, 89, rfl⟩
abbrev main_v50_1 : Ref sig .tc := ⟨.hbm, 90, rfl⟩
abbrev main_v50_2 : Ref sig .tc := ⟨.hbm, 91, rfl⟩
abbrev main_v50_3 : Ref sig .tc := ⟨.hbm, 92, rfl⟩
abbrev main_v50_4 : Ref sig .tc := ⟨.hbm, 93, rfl⟩
abbrev main_v50_5 : Ref sig .tc := ⟨.hbm, 94, rfl⟩
abbrev main_v50_6 : Ref sig .tc := ⟨.hbm, 95, rfl⟩
abbrev main_v50_7 : Ref sig .tc := ⟨.hbm, 96, rfl⟩
abbrev main_v50_8 : Ref sig .tc := ⟨.hbm, 97, rfl⟩
abbrev main_v50_9 : Ref sig .tc := ⟨.hbm, 98, rfl⟩
abbrev main_v50_10 : Ref sig .tc := ⟨.hbm, 99, rfl⟩
abbrev main_v50_11 : Ref sig .tc := ⟨.hbm, 100, rfl⟩
abbrev main_while0c_c_38 : Ref sig .tc := ⟨.hbm, 101, rfl⟩
abbrev main_while0c_v129 : Ref sig .tc := ⟨.hbm, 102, rfl⟩
abbrev main_while0b_c_38 : Ref sig .tc := ⟨.hbm, 103, rfl⟩
abbrev main_while0b_v129 : Ref sig .tc := ⟨.hbm, 104, rfl⟩
abbrev main_while0b_c_39 : Ref sig .tc := ⟨.hbm, 105, rfl⟩
abbrev main_while0b_v130 : Ref sig .tc := ⟨.hbm, 106, rfl⟩
abbrev main_while0b_call1_c : Ref sig .tc := ⟨.hbm, 107, rfl⟩
abbrev main_while0b_call1_c_0 : Ref sig .tc := ⟨.hbm, 108, rfl⟩
abbrev main_while0b_call1_c_1 : Ref sig .tc := ⟨.hbm, 109, rfl⟩
abbrev main_while0b_call1_c_2 : Ref sig .tc := ⟨.hbm, 110, rfl⟩
abbrev main_while0b_call1_v0 : Ref sig .tc := ⟨.hbm, 111, rfl⟩
abbrev main_while0b_v131 : Ref sig .tc := ⟨.hbm, 112, rfl⟩
abbrev main_while0b_call2_c : Ref sig .tc := ⟨.hbm, 113, rfl⟩
abbrev main_while0b_call2_c_0 : Ref sig .tc := ⟨.hbm, 114, rfl⟩
abbrev main_while0b_call2_c_1 : Ref sig .tc := ⟨.hbm, 115, rfl⟩
abbrev main_while0b_call2_c_2 : Ref sig .tc := ⟨.hbm, 116, rfl⟩
abbrev main_while0b_call2_v0 : Ref sig .tc := ⟨.hbm, 117, rfl⟩
abbrev main_while0b_v132 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_c_1 : Ref sig .tc := ⟨.hbm, 121, rfl⟩
abbrev main_while0b_call3_c_2 : Ref sig .tc := ⟨.hbm, 122, rfl⟩
abbrev main_while0b_call3_v0 : Ref sig .tc := ⟨.hbm, 123, rfl⟩
abbrev main_while0b_v133 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_call4_v0 : Ref sig .tc := ⟨.hbm, 129, rfl⟩
abbrev main_while0b_v134 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_call5_v0 : Ref sig .tc := ⟨.hbm, 135, rfl⟩
abbrev main_while0b_v135 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_call6_v0 : Ref sig .tc := ⟨.hbm, 141, rfl⟩
abbrev main_while0b_v136 : Ref sig .tc := ⟨.hbm, 142, rfl⟩
abbrev main_while0b_c_40 : Ref sig .tc := ⟨.hbm, 143, rfl⟩
abbrev main_while0b_v137 : Ref sig .tc := ⟨.hbm, 144, rfl⟩
abbrev main_while0b_call7_v0 : Ref sig .tc := ⟨.hbm, 145, rfl⟩
abbrev main_while0b_call7_c : Ref sig .tc := ⟨.hbm, 146, rfl⟩
abbrev main_while0b_call7_v1 : Ref sig .tc := ⟨.hbm, 147, rfl⟩
abbrev main_while0b_call7_v2 : Ref sig .tc := ⟨.hbm, 148, rfl⟩
abbrev main_while0b_call7_v3 : Ref sig .tc := ⟨.hbm, 149, rfl⟩
abbrev main_while0b_call7_v4 : Ref sig .tc := ⟨.hbm, 150, rfl⟩
abbrev main_while0b_call7_c_0 : Ref sig .tc := ⟨.hbm, 151, rfl⟩
abbrev main_while0b_call7_v5 : Ref sig .tc := ⟨.hbm, 152, rfl⟩
abbrev main_while0b_v138 : Ref sig .tc := ⟨.hbm, 153, rfl⟩
abbrev main_while0b_call8_call0_cst : Ref sig .tc := ⟨.hbm, 154, rfl⟩
abbrev main_while0b_call8_call0_v0 : Ref sig .tc := ⟨.hbm, 155, rfl⟩
abbrev main_while0b_v139 : Ref sig .tc := ⟨.hbm, 156, rfl⟩
abbrev main_while0b_v140 : Ref sig .tc := ⟨.hbm, 157, rfl⟩
abbrev main_while0b_v141 : Ref sig .tc := ⟨.hbm, 158, rfl⟩
abbrev main_while0b_v142 : Ref sig .tc := ⟨.hbm, 159, rfl⟩
abbrev main_while0b_v143 : Ref sig .tc := ⟨.hbm, 160, rfl⟩
abbrev main_while0b_v144 : Ref sig .tc := ⟨.hbm, 161, rfl⟩
abbrev main_while0b_v145 : Ref sig .tc := ⟨.hbm, 162, rfl⟩
abbrev main_while0b_v146 : Ref sig .tc := ⟨.hbm, 163, rfl⟩
abbrev main_while0b_v147 : Ref sig .tc := ⟨.hbm, 164, rfl⟩
abbrev main_while0b_v148 : Ref sig .tc := ⟨.hbm, 165, rfl⟩
abbrev main_while0b_v149 : Ref sig .tc := ⟨.hbm, 166, rfl⟩
abbrev main_while0b_cst_41 : Ref sig .tc := ⟨.hbm, 167, rfl⟩
abbrev main_while0b_call9_v0 : Ref sig .tc := ⟨.hbm, 168, rfl⟩
abbrev main_while0b_v150_1 : Ref sig .tc := ⟨.hbm, 169, rfl⟩
abbrev main_while0b_call9_v2 : Ref sig .tc := ⟨.hbm, 170, rfl⟩
abbrev main_while0b_v150_0 : Ref sig .tc := ⟨.hbm, 171, rfl⟩
abbrev main_while0b_call9_cst : Ref sig .tc := ⟨.hbm, 172, rfl⟩
abbrev main_while0b_v150_2 : Ref sig .tc := ⟨.hbm, 173, rfl⟩
abbrev main_while0b_v151 : Ref sig .tc := ⟨.hbm, 174, rfl⟩
abbrev main_while0b_v152 : Ref sig .tc := ⟨.hbm, 175, rfl⟩
abbrev main_while0b_v153 : Ref sig .tc := ⟨.hbm, 176, rfl⟩
abbrev main_while0b_v154 : Ref sig .tc := ⟨.hbm, 177, rfl⟩
abbrev main_while0b_v155 : Ref sig .tc := ⟨.hbm, 178, rfl⟩
abbrev main_while0b_v156 : Ref sig .tc := ⟨.hbm, 179, rfl⟩
abbrev main_while0b_v157 : Ref sig .tc := ⟨.hbm, 180, rfl⟩
abbrev main_while0b_cst_42 : Ref sig .tc := ⟨.hbm, 181, rfl⟩
abbrev main_while0b_v158 : Ref sig .tc := ⟨.hbm, 182, rfl⟩
abbrev main_while0b_v159 : Ref sig .tc := ⟨.hbm, 183, rfl⟩
abbrev main_while0b_v160 : Ref sig .tc := ⟨.hbm, 184, rfl⟩
abbrev main_while0b_v161 : Ref sig .tc := ⟨.hbm, 185, rfl⟩
abbrev main_while0b_v162 : Ref sig .tc := ⟨.hbm, 186, rfl⟩
abbrev main_while0b_v163 : Ref sig .tc := ⟨.hbm, 187, rfl⟩
abbrev main_while0b_v164 : Ref sig .tc := ⟨.hbm, 188, rfl⟩
abbrev main_while0b_v165 : Ref sig .tc := ⟨.hbm, 189, rfl⟩
abbrev main_while0b_v166 : Ref sig .tc := ⟨.hbm, 190, rfl⟩
abbrev main_while0b_v167 : Ref sig .tc := ⟨.hbm, 191, rfl⟩
abbrev main_while0b_v168 : Ref sig .tc := ⟨.hbm, 192, rfl⟩
abbrev main_while0b_v169 : Ref sig .tc := ⟨.hbm, 193, rfl⟩
abbrev main_while0b_v170 : Ref sig .tc := ⟨.hbm, 194, rfl⟩
abbrev main_while0b_v171 : Ref sig .tc := ⟨.hbm, 195, rfl⟩
abbrev main_while0b_v172 : Ref sig .tc := ⟨.hbm, 196, rfl⟩
abbrev main_while0b_v173 : Ref sig .tc := ⟨.hbm, 197, rfl⟩
abbrev main_while0b_v174 : Ref sig .tc := ⟨.hbm, 198, rfl⟩
abbrev main_while0b_v175 : Ref sig .tc := ⟨.hbm, 199, rfl⟩
abbrev main_while0b_v176 : Ref sig .tc := ⟨.hbm, 200, rfl⟩
abbrev main_while0b_v177 : Ref sig .tc := ⟨.hbm, 201, rfl⟩
abbrev main_while0b_v178 : Ref sig .tc := ⟨.hbm, 202, rfl⟩
abbrev main_while0b_cst_43 : Ref sig .tc := ⟨.hbm, 203, rfl⟩
abbrev main_while0b_v179 : Ref sig .tc := ⟨.hbm, 204, rfl⟩
abbrev main_while0b_v180 : Ref sig .tc := ⟨.hbm, 205, rfl⟩
abbrev main_while0b_v181 : Ref sig .tc := ⟨.hbm, 206, rfl⟩
abbrev main_while0b_v182 : Ref sig .tc := ⟨.hbm, 207, rfl⟩
abbrev main_while0b_v183 : Ref sig .tc := ⟨.hbm, 208, rfl⟩
abbrev main_while0b_v184 : Ref sig .tc := ⟨.hbm, 209, rfl⟩
abbrev main_while0b_cst_44 : Ref sig .tc := ⟨.hbm, 210, rfl⟩
abbrev main_while0b_v185 : Ref sig .tc := ⟨.hbm, 211, rfl⟩
abbrev main_while0b_v186 : Ref sig .tc := ⟨.hbm, 212, rfl⟩
abbrev main_while0b_cst_45 : Ref sig .tc := ⟨.hbm, 213, rfl⟩
abbrev main_while0b_v187 : Ref sig .tc := ⟨.hbm, 214, rfl⟩
abbrev main_while0b_v188 : Ref sig .tc := ⟨.hbm, 215, rfl⟩
abbrev main_while0b_v189 : Ref sig .tc := ⟨.hbm, 216, rfl⟩
abbrev main_while0b_v190 : Ref sig .tc := ⟨.hbm, 217, rfl⟩
abbrev main_while0b_v191 : Ref sig .tc := ⟨.hbm, 218, rfl⟩
abbrev main_while0b_v192 : Ref sig .tc := ⟨.hbm, 219, rfl⟩
abbrev main_while0b_v193 : Ref sig .tc := ⟨.hbm, 220, rfl⟩
abbrev main_while0b_v194 : Ref sig .tc := ⟨.hbm, 221, rfl⟩
abbrev main_while0b_v195 : Ref sig .tc := ⟨.hbm, 222, rfl⟩
abbrev main_while0b_v196 : Ref sig .tc := ⟨.hbm, 223, rfl⟩
abbrev main_while0b_v197 : Ref sig .tc := ⟨.hbm, 224, rfl⟩
abbrev main_while0b_cst_46 : Ref sig .tc := ⟨.hbm, 225, rfl⟩
abbrev main_while0b_v198 : Ref sig .tc := ⟨.hbm, 226, rfl⟩
abbrev main_while0b_v199 : Ref sig .tc := ⟨.hbm, 227, rfl⟩
abbrev main_while0b_v200 : Ref sig .tc := ⟨.hbm, 228, rfl⟩
abbrev main_while0b_v201 : Ref sig .tc := ⟨.hbm, 229, rfl⟩
abbrev main_while0b_cst_47 : Ref sig .tc := ⟨.hbm, 230, rfl⟩
abbrev main_while0b_v202 : Ref sig .tc := ⟨.hbm, 231, rfl⟩
abbrev main_while0b_v203 : Ref sig .tc := ⟨.hbm, 232, rfl⟩
abbrev main_while0b_v204 : Ref sig .tc := ⟨.hbm, 233, rfl⟩
abbrev main_while0b_v205 : Ref sig .tc := ⟨.hbm, 234, rfl⟩
abbrev main_while0b_v206 : Ref sig .tc := ⟨.hbm, 235, rfl⟩
abbrev main_while0b_v207 : Ref sig .tc := ⟨.hbm, 236, rfl⟩
abbrev main_while0b_cst_48 : Ref sig .tc := ⟨.hbm, 237, rfl⟩
abbrev main_while0b_v208 : Ref sig .tc := ⟨.hbm, 238, rfl⟩
abbrev main_while0b_v209 : Ref sig .tc := ⟨.hbm, 239, rfl⟩
abbrev main_while0b_cst_49 : Ref sig .tc := ⟨.hbm, 240, rfl⟩
abbrev main_while0b_v210 : Ref sig .tc := ⟨.hbm, 241, rfl⟩
abbrev main_while0b_v211 : Ref sig .tc := ⟨.hbm, 242, rfl⟩
abbrev main_while0b_v212 : Ref sig .tc := ⟨.hbm, 243, rfl⟩
abbrev main_while0b_call10_cst : Ref sig .tc := ⟨.hbm, 244, rfl⟩
abbrev main_while0b_call10_v0 : Ref sig .tc := ⟨.hbm, 245, rfl⟩
abbrev main_while0b_v213 : Ref sig .tc := ⟨.hbm, 246, rfl⟩
abbrev main_while0b_cst_50 : Ref sig .tc := ⟨.hbm, 247, rfl⟩
abbrev main_while0b_v214 : Ref sig .tc := ⟨.hbm, 248, rfl⟩
abbrev main_while0b_v215 : Ref sig .tc := ⟨.hbm, 249, rfl⟩
abbrev main_while0b_v216 : Ref sig .tc := ⟨.hbm, 250, rfl⟩
abbrev main_while0b_cst_51 : Ref sig .tc := ⟨.hbm, 251, rfl⟩
abbrev main_while0b_v217 : Ref sig .tc := ⟨.hbm, 252, rfl⟩
abbrev main_while0b_v218 : Ref sig .tc := ⟨.hbm, 253, rfl⟩
abbrev main_while0b_cst_52 : Ref sig .tc := ⟨.hbm, 254, rfl⟩
abbrev main_while0b_v219 : Ref sig .tc := ⟨.hbm, 255, rfl⟩
abbrev main_while0b_v220 : Ref sig .tc := ⟨.hbm, 256, rfl⟩
abbrev main_while0b_v221 : Ref sig .tc := ⟨.hbm, 257, rfl⟩
abbrev main_while0b_cst_53 : Ref sig .tc := ⟨.hbm, 258, rfl⟩
abbrev main_while0b_v222 : Ref sig .tc := ⟨.hbm, 259, rfl⟩
abbrev main_while0b_v223 : Ref sig .tc := ⟨.hbm, 260, rfl⟩
abbrev main_while0b_v224 : Ref sig .tc := ⟨.hbm, 261, rfl⟩
abbrev main_while0b_v225 : Ref sig .tc := ⟨.hbm, 262, rfl⟩
abbrev main_while0b_v226 : Ref sig .tc := ⟨.hbm, 263, rfl⟩
abbrev main_while0b_v227 : Ref sig .tc := ⟨.hbm, 264, rfl⟩
abbrev main_while0b_v228 : Ref sig .tc := ⟨.hbm, 265, rfl⟩
abbrev main_while0b_v229 : Ref sig .tc := ⟨.hbm, 266, rfl⟩
abbrev main_while0b_v230 : Ref sig .tc := ⟨.hbm, 267, rfl⟩
abbrev main_while0b_v231 : Ref sig .tc := ⟨.hbm, 268, rfl⟩
abbrev main_while0b_v232 : Ref sig .tc := ⟨.hbm, 269, rfl⟩
abbrev main_while0b_v233 : Ref sig .tc := ⟨.hbm, 270, rfl⟩
abbrev main_while0b_cst_54 : Ref sig .tc := ⟨.hbm, 271, rfl⟩
abbrev main_while0b_v234 : Ref sig .tc := ⟨.hbm, 272, rfl⟩
abbrev main_while0b_v235 : Ref sig .tc := ⟨.hbm, 273, rfl⟩
abbrev main_while0b_call11_call0_cst : Ref sig .tc := ⟨.hbm, 274, rfl⟩
abbrev main_while0b_call11_call0_v0 : Ref sig .tc := ⟨.hbm, 275, rfl⟩
abbrev main_while0b_v236 : Ref sig .tc := ⟨.hbm, 276, rfl⟩
abbrev main_while0b_call12_v0 : Ref sig .tc := ⟨.hbm, 277, rfl⟩
abbrev main_while0b_call12_c : Ref sig .tc := ⟨.hbm, 278, rfl⟩
abbrev main_while0b_call12_c_0 : Ref sig .tc := ⟨.hbm, 279, rfl⟩
abbrev main_while0b_call12_c_1 : Ref sig .tc := ⟨.hbm, 280, rfl⟩
abbrev main_while0b_call12_c_2 : Ref sig .tc := ⟨.hbm, 281, rfl⟩
abbrev main_while0b_v237 : Ref sig .tc := ⟨.hbm, 282, rfl⟩
abbrev main_while0b_call13_v0 : Ref sig .tc := ⟨.hbm, 283, rfl⟩
abbrev main_while0b_call13_c : Ref sig .tc := ⟨.hbm, 284, rfl⟩
abbrev main_while0b_call13_c_0 : Ref sig .tc := ⟨.hbm, 285, rfl⟩
abbrev main_while0b_call13_c_1 : Ref sig .tc := ⟨.hbm, 286, rfl⟩
abbrev main_while0b_call13_c_2 : Ref sig .tc := ⟨.hbm, 287, rfl⟩
abbrev main_while0b_v238 : Ref sig .tc := ⟨.hbm, 288, rfl⟩
abbrev main_while0b_call14_v0 : Ref sig .tc := ⟨.hbm, 289, rfl⟩
abbrev main_while0b_call14_c : Ref sig .tc := ⟨.hbm, 290, rfl⟩
abbrev main_while0b_call14_c_0 : Ref sig .tc := ⟨.hbm, 291, rfl⟩
abbrev main_while0b_call14_c_1 : Ref sig .tc := ⟨.hbm, 292, rfl⟩
abbrev main_while0b_call14_c_2 : Ref sig .tc := ⟨.hbm, 293, rfl⟩
abbrev main_while0b_v239 : Ref sig .tc := ⟨.hbm, 294, rfl⟩
abbrev main_while0b_call15_v0 : Ref sig .tc := ⟨.hbm, 295, rfl⟩
abbrev main_while0b_call15_c : Ref sig .tc := ⟨.hbm, 296, rfl⟩
abbrev main_while0b_call15_c_0 : Ref sig .tc := ⟨.hbm, 297, rfl⟩
abbrev main_while0b_call15_c_1 : Ref sig .tc := ⟨.hbm, 298, rfl⟩
abbrev main_while0b_call15_c_2 : Ref sig .tc := ⟨.hbm, 299, rfl⟩
abbrev main_while0b_v240 : Ref sig .tc := ⟨.hbm, 300, rfl⟩
abbrev main_while0b_c_55 : Ref sig .tc := ⟨.hbm, 301, rfl⟩
abbrev main_while0b_v241 : Ref sig .tc := ⟨.hbm, 302, rfl⟩
abbrev main_v51 : Ref sig .tc := ⟨.hbm, 303, rfl⟩
abbrev main_v52 : Ref sig .tc := ⟨.hbm, 304, rfl⟩
abbrev main_v53 : Ref sig .tc := ⟨.hbm, 305, rfl⟩
abbrev main_call16_v0 : Ref sig .tc := ⟨.hbm, 306, rfl⟩
abbrev main_call16_call0_cst : Ref sig .tc := ⟨.hbm, 307, rfl⟩
abbrev main_call16_call0_v0 : Ref sig .tc := ⟨.hbm, 308, rfl⟩
abbrev main_call16_call0_v1 : Ref sig .tc := ⟨.hbm, 309, rfl⟩
abbrev main_call16_call0_v2 : Ref sig .tc := ⟨.hbm, 310, rfl⟩
abbrev main_call16_call0_v3 : Ref sig .tc := ⟨.hbm, 311, rfl⟩
abbrev main_call16_call0_v4 : Ref sig .tc := ⟨.hbm, 312, rfl⟩
abbrev main_call16_call0_v5 : Ref sig .tc := ⟨.hbm, 313, rfl⟩
abbrev main_call16_call0_v6 : Ref sig .tc := ⟨.hbm, 314, rfl⟩
abbrev main_call16_call0_v7 : Ref sig .tc := ⟨.hbm, 315, rfl⟩
abbrev main_call16_call0_v8 : Ref sig .tc := ⟨.hbm, 316, rfl⟩
abbrev main_call16_call0_v9 : Ref sig .tc := ⟨.hbm, 317, rfl⟩
abbrev main_call16_call0_v10 : Ref sig .tc := ⟨.hbm, 318, rfl⟩
abbrev main_call16_call0_v11 : Ref sig .tc := ⟨.hbm, 319, rfl⟩
abbrev main_call16_v1_0 : Ref sig .tc := ⟨.hbm, 320, rfl⟩
abbrev main_call16_call0_cst_0 : Ref sig .tc := ⟨.hbm, 321, rfl⟩
abbrev main_call16_call0_v13 : Ref sig .tc := ⟨.hbm, 322, rfl⟩
abbrev main_call16_call0_v14 : Ref sig .tc := ⟨.hbm, 323, rfl⟩
abbrev main_call16_call0_cst_1 : Ref sig .tc := ⟨.hbm, 324, rfl⟩
abbrev main_call16_call0_v15 : Ref sig .tc := ⟨.hbm, 325, rfl⟩
abbrev main_call16_call0_v16 : Ref sig .tc := ⟨.hbm, 326, rfl⟩
abbrev main_call16_call0_cst_2 : Ref sig .tc := ⟨.hbm, 327, rfl⟩
abbrev main_call16_call0_v17 : Ref sig .tc := ⟨.hbm, 328, rfl⟩
abbrev main_call16_call0_v18 : Ref sig .tc := ⟨.hbm, 329, rfl⟩
abbrev main_call16_call0_cst_3 : Ref sig .tc := ⟨.hbm, 330, rfl⟩
abbrev main_call16_call0_v19 : Ref sig .tc := ⟨.hbm, 331, rfl⟩
abbrev main_call16_call0_v20 : Ref sig .tc := ⟨.hbm, 332, rfl⟩
abbrev main_call16_call0_v21 : Ref sig .tc := ⟨.hbm, 333, rfl⟩
abbrev main_v54_1 : Ref sig .tc := ⟨.hbm, 334, rfl⟩
abbrev main_call16_call0_cst_4 : Ref sig .tc := ⟨.hbm, 335, rfl⟩
abbrev main_call16_call0_cst_5 : Ref sig .tc := ⟨.hbm, 336, rfl⟩
abbrev main_call16_call0_v23 : Ref sig .tc := ⟨.hbm, 337, rfl⟩
abbrev main_call16_call0_cst_6 : Ref sig .tc := ⟨.hbm, 338, rfl⟩
abbrev main_call16_call0_cst_7 : Ref sig .tc := ⟨.hbm, 339, rfl⟩
abbrev main_call16_call0_v24 : Ref sig .tc := ⟨.hbm, 340, rfl⟩
abbrev main_call16_call0_cst_8 : Ref sig .tc := ⟨.hbm, 341, rfl⟩
abbrev main_call16_call0_v25 : Ref sig .tc := ⟨.hbm, 342, rfl⟩
abbrev main_call16_call0_v26 : Ref sig .tc := ⟨.hbm, 343, rfl⟩
abbrev main_call16_call0_cst_9 : Ref sig .tc := ⟨.hbm, 344, rfl⟩
abbrev main_call16_call0_v27 : Ref sig .tc := ⟨.hbm, 345, rfl⟩
abbrev main_call16_call0_v28 : Ref sig .tc := ⟨.hbm, 346, rfl⟩
abbrev main_call16_call0_v29 : Ref sig .tc := ⟨.hbm, 347, rfl⟩
abbrev main_call16_call0_v30 : Ref sig .tc := ⟨.hbm, 348, rfl⟩
abbrev main_call16_call0_v31 : Ref sig .tc := ⟨.hbm, 349, rfl⟩
abbrev main_call16_call0_cst_10 : Ref sig .tc := ⟨.hbm, 350, rfl⟩
abbrev main_call16_call0_v32 : Ref sig .tc := ⟨.hbm, 351, rfl⟩
abbrev main_v54_2 : Ref sig .tc := ⟨.hbm, 352, rfl⟩
abbrev main_v54_0 : Ref sig .tc := ⟨.hbm, 353, rfl⟩
abbrev main_cst_12 : Ref sig .tc := ⟨.hbm, 354, rfl⟩
abbrev main_v55 : Ref sig .tc := ⟨.hbm, 355, rfl⟩
abbrev main_v56 : Ref sig .tc := ⟨.hbm, 356, rfl⟩
abbrev main_v57 : Ref sig .tc := ⟨.hbm, 357, rfl⟩
abbrev main_v58 : Ref sig .tc := ⟨.hbm, 358, rfl⟩
abbrev main_cst_13 : Ref sig .tc := ⟨.hbm, 359, rfl⟩
abbrev main_v59 : Ref sig .tc := ⟨.hbm, 360, rfl⟩
abbrev main_v60 : Ref sig .tc := ⟨.hbm, 361, rfl⟩
abbrev main_cst_14 : Ref sig .tc := ⟨.hbm, 362, rfl⟩
abbrev main_v61 : Ref sig .tc := ⟨.hbm, 363, rfl⟩
abbrev main_v62 : Ref sig .tc := ⟨.hbm, 364, rfl⟩
abbrev main_cst_15 : Ref sig .tc := ⟨.hbm, 365, rfl⟩
abbrev main_v63 : Ref sig .tc := ⟨.hbm, 366, rfl⟩
abbrev main_v64 : Ref sig .tc := ⟨.hbm, 367, rfl⟩
abbrev main_v65 : Ref sig .tc := ⟨.hbm, 368, rfl⟩
abbrev main_v66 : Ref sig .tc := ⟨.hbm, 369, rfl⟩
abbrev main_v67 : Ref sig .tc := ⟨.hbm, 370, rfl⟩
abbrev main_cst_16 : Ref sig .tc := ⟨.hbm, 371, rfl⟩
abbrev main_v68 : Ref sig .tc := ⟨.hbm, 372, rfl⟩
abbrev main_v69 : Ref sig .tc := ⟨.hbm, 373, rfl⟩
abbrev main_cst_17 : Ref sig .tc := ⟨.hbm, 374, rfl⟩
abbrev main_v70 : Ref sig .tc := ⟨.hbm, 375, rfl⟩
abbrev main_v71 : Ref sig .tc := ⟨.hbm, 376, rfl⟩
abbrev main_v72 : Ref sig .tc := ⟨.hbm, 377, rfl⟩
abbrev main_v73 : Ref sig .tc := ⟨.hbm, 378, rfl⟩
abbrev main_v74 : Ref sig .tc := ⟨.hbm, 379, rfl⟩
abbrev main_cst_18 : Ref sig .tc := ⟨.hbm, 380, rfl⟩
abbrev main_v75 : Ref sig .tc := ⟨.hbm, 381, rfl⟩
abbrev main_v76 : Ref sig .tc := ⟨.hbm, 382, rfl⟩
abbrev main_cst_19 : Ref sig .tc := ⟨.hbm, 383, rfl⟩
abbrev main_v77 : Ref sig .tc := ⟨.hbm, 384, rfl⟩
abbrev main_v78 : Ref sig .tc := ⟨.hbm, 385, rfl⟩
abbrev main_v79 : Ref sig .tc := ⟨.hbm, 386, rfl⟩
abbrev main_v80 : Ref sig .tc := ⟨.hbm, 387, rfl⟩
abbrev main_v81 : Ref sig .tc := ⟨.hbm, 388, rfl⟩
abbrev main_cst_20 : Ref sig .tc := ⟨.hbm, 389, rfl⟩
abbrev main_v82 : Ref sig .tc := ⟨.hbm, 390, rfl⟩
abbrev main_v83 : Ref sig .tc := ⟨.hbm, 391, rfl⟩
abbrev main_cst_21 : Ref sig .tc := ⟨.hbm, 392, rfl⟩
abbrev main_v84 : Ref sig .tc := ⟨.hbm, 393, rfl⟩
abbrev main_v85 : Ref sig .tc := ⟨.hbm, 394, rfl⟩
abbrev main_v86 : Ref sig .tc := ⟨.hbm, 395, rfl⟩
abbrev main_v87 : Ref sig .tc := ⟨.hbm, 396, rfl⟩
abbrev main_v88 : Ref sig .tc := ⟨.hbm, 397, rfl⟩
abbrev main_v89 : Ref sig .tc := ⟨.hbm, 398, rfl⟩
abbrev main_v90 : Ref sig .tc := ⟨.hbm, 399, rfl⟩
abbrev main_v91 : Ref sig .tc := ⟨.hbm, 400, rfl⟩
abbrev main_v92 : Ref sig .tc := ⟨.hbm, 401, rfl⟩
abbrev main_v93 : Ref sig .tc := ⟨.hbm, 402, rfl⟩
abbrev main_v94 : Ref sig .tc := ⟨.hbm, 403, rfl⟩
abbrev main_v95 : Ref sig .tc := ⟨.hbm, 404, rfl⟩
abbrev main_v96 : Ref sig .tc := ⟨.hbm, 405, rfl⟩
abbrev main_v97 : Ref sig .tc := ⟨.hbm, 406, rfl⟩
abbrev main_v98 : Ref sig .tc := ⟨.hbm, 407, rfl⟩
abbrev main_v99 : Ref sig .tc := ⟨.hbm, 408, rfl⟩
abbrev main_v100 : Ref sig .tc := ⟨.hbm, 409, rfl⟩
abbrev main_v101 : Ref sig .tc := ⟨.hbm, 410, rfl⟩
abbrev main_v102 : Ref sig .tc := ⟨.hbm, 411, rfl⟩
abbrev main_v103 : Ref sig .tc := ⟨.hbm, 412, rfl⟩
abbrev main_v104 : Ref sig .tc := ⟨.hbm, 413, rfl⟩
abbrev main_v105 : Ref sig .tc := ⟨.hbm, 414, rfl⟩
abbrev main_v106 : Ref sig .tc := ⟨.hbm, 415, rfl⟩
abbrev main_v107 : Ref sig .tc := ⟨.hbm, 416, rfl⟩
abbrev main_v108 : Ref sig .tc := ⟨.hbm, 417, rfl⟩
abbrev main_cst_22 : Ref sig .tc := ⟨.hbm, 418, rfl⟩
abbrev main_v109 : Ref sig .tc := ⟨.hbm, 419, rfl⟩
abbrev main_v110 : Ref sig .tc := ⟨.hbm, 420, rfl⟩
abbrev main_v111 : Ref sig .tc := ⟨.hbm, 421, rfl⟩
abbrev main_v112 : Ref sig .tc := ⟨.hbm, 422, rfl⟩
abbrev main_cst_23 : Ref sig .tc := ⟨.hbm, 423, rfl⟩
abbrev main_v113 : Ref sig .tc := ⟨.hbm, 424, rfl⟩
abbrev main_v114 : Ref sig .tc := ⟨.hbm, 425, rfl⟩
abbrev main_call17_v0 : Ref sig .tc := ⟨.hbm, 426, rfl⟩
abbrev main_call17_v1 : Ref sig .tc := ⟨.hbm, 427, rfl⟩
abbrev main_v115 : Ref sig .tc := ⟨.hbm, 428, rfl⟩
abbrev main_cst_24 : Ref sig .tc := ⟨.hbm, 429, rfl⟩
abbrev main_v116 : Ref sig .tc := ⟨.hbm, 430, rfl⟩
abbrev main_v117 : Ref sig .tc := ⟨.hbm, 431, rfl⟩
abbrev main_v118 : Ref sig .tc := ⟨.hbm, 432, rfl⟩
abbrev main_v119 : Ref sig .tc := ⟨.hbm, 433, rfl⟩
abbrev main_v120 : Ref sig .tc := ⟨.hbm, 434, rfl⟩
abbrev main_v121 : Ref sig .tc := ⟨.hbm, 435, rfl⟩
abbrev main_v122 : Ref sig .tc := ⟨.hbm, 436, rfl⟩
abbrev main_c_25 : Ref sig .tc := ⟨.hbm, 437, rfl⟩
abbrev main_call18_v0 : Ref sig .tc := ⟨.hbm, 438, rfl⟩
abbrev main_v123 : Ref sig .tc := ⟨.hbm, 439, rfl⟩
abbrev main_v124 : Ref sig .tc := ⟨.hbm, 440, rfl⟩
abbrev main_v125 : Ref sig .tc := ⟨.hbm, 441, rfl⟩
abbrev main_v126 : Ref sig .tc := ⟨.hbm, 442, rfl⟩
abbrev main_c_26 : Ref sig .tc := ⟨.hbm, 443, rfl⟩
abbrev main_call19_v0 : Ref sig .tc := ⟨.hbm, 444, rfl⟩
abbrev main_v127 : Ref sig .tc := ⟨.hbm, 445, rfl⟩
abbrev main_v128 : Ref sig .tc := ⟨.hbm, 446, rfl⟩

abbrev nD : Nat := 1
abbrev τ : Topo := Topo.v7x

variable {F : FTy → Type} [FloatOps F]

abbrev main_while0_count : Scf.Loop 32 := ⟨0#32, 33#32, 1#32⟩
-- ==== Ffn.lean ====
abbrev S2112x2048 : Shape := ⟨2, ![2112, 2048]⟩
abbrev S4x2048x1408 : Shape := ⟨3, ![4, 2048, 1408]⟩
abbrev S5632x2048 : Shape := ⟨2, ![5632, 2048]⟩
abbrev S2112x5632 : Shape := ⟨2, ![2112, 5632]⟩
abbrev S352x2048 : Shape := ⟨2, ![352, 2048]⟩
abbrev S1x2048x1408 : Shape := ⟨3, ![1, 2048, 1408]⟩
abbrev S352x1408 : Shape := ⟨2, ![352, 1408]⟩
abbrev S1x2048x256 : Shape := ⟨3, ![1, 2048, 256]⟩
abbrev S2048x256 : Shape := ⟨2, ![2048, 256]⟩
abbrev S352x256 : Shape := ⟨2, ![352, 256]⟩
abbrev S1x2048x128 : Shape := ⟨3, ![1, 2048, 128]⟩
abbrev S2048x128 : Shape := ⟨2, ![2048, 128]⟩
abbrev S352x128 : Shape := ⟨2, ![352, 128]⟩
abbrev S704x2048 : Shape := ⟨2, ![704, 2048]⟩
abbrev S1408x2048 : Shape := ⟨2, ![1408, 2048]⟩
abbrev S704x1408 : Shape := ⟨2, ![704, 1408]⟩
abbrev S256x2048 : Shape := ⟨2, ![256, 2048]⟩
abbrev S704x256 : Shape := ⟨2, ![704, 256]⟩
abbrev S128x2048 : Shape := ⟨2, ![128, 2048]⟩
abbrev S704x128 : Shape := ⟨2, ![704, 128]⟩
abbrev S2112x1408 : Shape := ⟨2, ![2112, 1408]⟩
abbrev S2112x1024 : Shape := ⟨2, ![2112, 1024]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 14
  | .vmem => 46
  | .smem => 0
  | _ => 0

abbrev bufTy : (tb : Table) → Fin (tcTables nBuf tb) → BufTy
  | .hbm, ⟨0, _⟩ => ⟨S2112x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2112x2048, .bf16⟩
  | .hbm, ⟨5, _⟩ => ⟨S2112x5632, .bf16⟩
  | .hbm, ⟨6, _⟩ => ⟨S2112x5632, .bf16⟩
  | .hbm, ⟨7, _⟩ => ⟨S2112x5632, .bf16⟩
  | .hbm, ⟨8, _⟩ => ⟨S2112x5632, .bf16⟩
  | .hbm, ⟨9, _⟩ => ⟨S2112x5632, .bf16⟩
  | .hbm, ⟨10, _⟩ => ⟨S2112x5632, .bf16⟩
  | .hbm, ⟨11, _⟩ => ⟨S5632x2048, .bf16⟩
  | .hbm, ⟨12, _⟩ => ⟨S4x2048x1408, .bf16⟩
  | .hbm, ⟨13, _⟩ => ⟨S4x2048x1408, .bf16⟩
  | .local _ .vmem, ⟨0, _⟩ => ⟨S352x2048, .bf16⟩
  | .local _ .vmem, ⟨1, _⟩ => ⟨S352x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S352x1408, .bf16⟩
  | .local _ .vmem, ⟨7, _⟩ => ⟨S352x1408, .bf16⟩
  | .local _ .vmem, ⟨8, _⟩ => ⟨S352x1408, .bf16⟩
  | .local _ .vmem, ⟨9, _⟩ => ⟨S352x1408, .bf16⟩
  | .local _ .vmem, ⟨10, _⟩ => ⟨S352x1408, .bf16⟩
  | .local _ .vmem, ⟨11, _⟩ => ⟨S352x1408, .bf16⟩
  | .local _ .vmem, ⟨12, _⟩ => ⟨S352x1408, .bf16⟩
  | .local _ .vmem, ⟨13, _⟩ => ⟨S352x1408, .bf16⟩
  | .local _ .vmem, ⟨14, _⟩ => ⟨S704x2048, .bf16⟩
  | .local _ .vmem, ⟨15, _⟩ => ⟨S704x2048, .bf16⟩
  | .local _ .vmem, ⟨16, _⟩ => ⟨S1408x2048, .bf16⟩
  | .local _ .vmem, ⟨17, _⟩ => ⟨S1408x2048, .bf16⟩
  | .local _ .vmem, ⟨18, _⟩ => ⟨S704x1408, .bf16⟩
  | .local _ .vmem, ⟨19, _⟩ => ⟨S704x1408, .bf16⟩
  | .local _ .vmem, ⟨20, _⟩ => ⟨S704x1408, .bf16⟩
  | .local _ .vmem, ⟨21, _⟩ => ⟨S704x1408, .bf16⟩
  | .local _ .vmem, ⟨22, _⟩ => ⟨S704x1408, .bf16⟩
  | .local _ .vmem, ⟨23, _⟩ => ⟨S704x1408, .bf16⟩
  | .local _ .vmem, ⟨24, _⟩ => ⟨S704x1408, .bf16⟩
  | .local _ .vmem, ⟨25, _⟩ => ⟨S704x1408, .bf16⟩
  | .local _ .vmem, ⟨26, _⟩ => ⟨S704x1408, .bf16⟩
  | .local _ .vmem, ⟨27, _⟩ => ⟨S704x1408, .bf16⟩
  | .local _ .vmem, ⟨28, _⟩ => ⟨S2112x1408, .bf16⟩
  | .local _ .vmem, ⟨29, _⟩ => ⟨S2112x1408, .bf16⟩
  | .local _ .vmem, ⟨30, _⟩ => ⟨S2112x1024, .bf16⟩
  | .local _ .vmem, ⟨31, _⟩ => ⟨S2112x1024, .bf16⟩
  | .local _ .vmem, ⟨32, _⟩ => ⟨S1408x1024, .bf16⟩
  | .local _ .vmem, ⟨33, _⟩ => ⟨S1408x1024, .bf16⟩
  | .local _ .vmem, ⟨34, _⟩ => ⟨S2112x1024, .bf16⟩
  | .local _ .vmem, ⟨35, _⟩ => ⟨S2112x1024, .bf16⟩
  | .local _ .vmem, ⟨36, _⟩ => ⟨S2112x1408, .bf16⟩
  | .local _ .vmem, ⟨37, _⟩ => ⟨S2112x1408, .bf16⟩
  | .local _ .vmem, ⟨38, _⟩ => ⟨S1x1024x1408, .bf16⟩
  | .local _ .vmem, ⟨39, _⟩ => ⟨S1x1024x1408, .bf16⟩
  | .local _ .vmem, ⟨40, _⟩ => ⟨S2112x1024, .bf16⟩
  | .local _ .vmem, ⟨41, _⟩ => ⟨S2112x1024, .bf16⟩
  | .local _ .vmem, ⟨42, _⟩ => ⟨S2112x1408, .bf16⟩
  | .local _ .vmem, ⟨43, _⟩ => ⟨S2112x1408, .bf16⟩
  | .local _ .vmem, ⟨44, _⟩ => ⟨S1x1024x1408, .bf16⟩
  | .local _ .vmem, ⟨45, _⟩ => ⟨S1x1024x1408, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S352x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S704x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S704x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S704x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S704x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S704x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S704x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S2112x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2112x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S2112x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2112x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S2112x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2112x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== FfnRefIdeal.lean ====
abbrev S2112x2048 : Shape := ⟨2, ![2112, 2048]⟩
abbrev S4x2048x1408 : Shape := ⟨3, ![4, 2048, 1408]⟩
abbrev S5632x2048 : Shape := ⟨2, ![5632, 2048]⟩
abbrev S2048x4x1408 : Shape := ⟨3, ![2048, 4, 1408]⟩
abbrev S2048x5632 : Shape := ⟨2, ![2048, 5632]⟩
abbrev S2112x5632 : Shape := ⟨2, ![2112, 5632]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2112x2048, .bf16⟩
  | .hbm, ⟨5, _⟩ => ⟨S4x2048x1408, .f32⟩
  | .hbm, ⟨6, _⟩ => ⟨S4x2048x1408, .f32⟩
  | .hbm, ⟨7, _⟩ => ⟨S2112x2048, .f32⟩
  | .hbm, ⟨8, _⟩ => ⟨S2048x4x1408, .f32⟩
  | .hbm, ⟨9, _⟩ => ⟨S2048x5632, .f32⟩
  | .hbm, ⟨10, _⟩ => ⟨S2112x5632, .f32⟩
  | .hbm, ⟨11, _⟩ => ⟨S2112x2048, .f32⟩
  | .hbm, ⟨12, _⟩ => ⟨S2048x4x1408, .f32⟩
  | .hbm, ⟨13, _⟩ => ⟨S2048x5632, .f32⟩
  | .hbm, ⟨14, _⟩ => ⟨S2112x5632, .f32⟩
  | .hbm, ⟨15, _⟩ => ⟨S2112x5632, .f32⟩
  | .hbm, ⟨16, _⟩ => ⟨S2112x5632, .f32⟩
  | .hbm, ⟨17, _⟩ => ⟨S_, .f32⟩
  | .hbm, ⟨18, _⟩ => ⟨S2112x5632, .f32⟩
  | .hbm, ⟨19, _⟩ => ⟨S2112x5632, .f32⟩
  | .hbm, ⟨20, _⟩ => ⟨S_, .f32⟩
  | .hbm, ⟨21, _⟩ => ⟨S2112x5632, .f32⟩
  | .hbm, ⟨22, _⟩ => ⟨S2112x5632, .f32⟩
  | .hbm, ⟨23, _⟩ => ⟨S_, .f32⟩
  | .hbm, ⟨24, _⟩ => ⟨S2112x5632, .f32⟩
  | .hbm, ⟨25, _⟩ => ⟨S2112x5632, .f32⟩
  | .hbm, ⟨26, _⟩ => ⟨S2112x5632, .f32⟩
  | .hbm, ⟨27, _⟩ => ⟨S2112x5632, .f32⟩
  | .hbm, ⟨28, _⟩ => ⟨S2112x5632, .f32⟩
  | .hbm, ⟨29, _⟩ => ⟨S5632x2048, .f32⟩
  | .hbm, ⟨30, _⟩ => ⟨S2112x2048, .f32⟩
  | .hbm, ⟨31, _⟩ => ⟨S2112x2048, .f32⟩
  | .hbm, ⟨32, _⟩ => ⟨S2048x5632, .f32⟩
  | .hbm, ⟨33, _⟩ => ⟨S5632x2048, .f32⟩
  | .hbm, ⟨34, _⟩ => ⟨S2112x5632, .f32⟩
  | .hbm, ⟨35, _⟩ => ⟨S2112x5632, .f32⟩
  | .hbm, ⟨36, _⟩ => ⟨S2112x5632, .f32⟩
  | .hbm, ⟨37, _⟩ => ⟨S2112x5632, .f32⟩
  | .hbm, ⟨38, _⟩ => ⟨S2112x5632, .f32⟩
  | .hbm, ⟨39, _⟩ => ⟨S2112x5632, .f32⟩
  | .hbm, ⟨40, _⟩ => ⟨S2112x5632, .f32⟩
  | .hbm, ⟨41, _⟩ => ⟨S5632x2048, .f32⟩
  | .hbm, ⟨42, _⟩ => ⟨S2048x5632, .f32⟩
  | .hbm, ⟨43, _⟩ => ⟨S2048x4x1408, .f32⟩
  | .hbm, ⟨44, _⟩ => ⟨S4x2048x1408, .f32⟩
  | .hbm, ⟨45, _⟩ => ⟨S5632x2048, .f32⟩
  | .hbm, ⟨46, _⟩ => ⟨S2048x5632, .f32⟩
  | .hbm, ⟨47, _⟩ => ⟨S2048x4x1408, .f32⟩
  | .hbm, ⟨48, _⟩ => ⟨S4x2048x1408, .f32⟩
  | .hbm, ⟨49, _⟩ => ⟨S2112x5632, .bf16⟩
  | .hbm, ⟨50, _⟩ => ⟨S2112x5632, .bf16⟩
  | .hbm, ⟨51, _⟩ => ⟨S2112x5632, .bf16⟩
  | .hbm, ⟨52, _⟩ => ⟨S4x2048x1408, .bf16⟩
  | .hbm, ⟨53, _⟩ => ⟨S4x2048x1408, .bf16⟩
  | .hbm, ⟨54, _⟩ => ⟨S5632x2048, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v10_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v10_1 : Ref sig .tc := ⟨.hbm, 26, rfl⟩
abbrev main_v10_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== FfnDh.lean ====
abbrev S2112x5632 : Shape := ⟨2, ![2112, 5632]⟩
abbrev S4x2048x1408 : Shape := ⟨3, ![4, 2048, 1408]⟩
abbrev S2112x2048 : Shape := ⟨2, ![2112, 2048]⟩
abbrev S704x1408 : Shape := ⟨2, ![704, 1408]⟩
abbrev S1x2048x1408 : Shape := ⟨3, ![1, 2048, 1408]⟩
abbrev S704x2048 : Shape := ⟨2, ![704, 2048]⟩
abbrev S2048x1408 : Shape := ⟨2, ![2048, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2112x5632, .bf16⟩
  | .hbm, ⟨1, _⟩ => ⟨S4x2048x1408, .bf16⟩
  | .hbm, ⟨2, _⟩ => ⟨S2112x5632, .bf16⟩
  | .hbm, ⟨3, _⟩ => ⟨S4x2048x1408, .bf16⟩
  | .hbm, ⟨4, _⟩ => ⟨S2112x2048, .f32⟩
  | .local _ .vmem, ⟨0, _⟩ => ⟨S704x1408, .bf16⟩
  | .local _ .vmem, ⟨1, _⟩ => ⟨S704x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S704x1408, .bf16⟩
  | .local _ .vmem, ⟨5, _⟩ => ⟨S704x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S704x2048, .f32⟩
  | .local _ .vmem, ⟨9, _⟩ => ⟨S704x2048, .f32⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S704x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== FfnDhRefIdeal.lean ====
abbrev S2112x5632 : Shape := ⟨2, ![2112, 5632]⟩
abbrev S4x2048x1408 : Shape := ⟨3, ![4, 2048, 1408]⟩
abbrev S_ : Shape := ⟨0, ![]⟩
abbrev S2112x2048 : Shape := ⟨2, ![2112, 2048]⟩
abbrev S2048x4x1408 : Shape := ⟨3, ![2048, 4, 1408]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S4x2048x1408, .bf16⟩
  | .hbm, ⟨2, _⟩ => ⟨S2112x5632, .bf16⟩
  | .hbm, ⟨3, _⟩ => ⟨S4x2048x1408, .bf16⟩
  | .hbm, ⟨4, _⟩ => ⟨S_, .f32⟩
  | .hbm, ⟨5, _⟩ => ⟨S2112x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S2112x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S2112x5632, .f32⟩
  | .hbm, ⟨14, _⟩ => ⟨S2112x5632, .f32⟩
  | .hbm, ⟨15, _⟩ => ⟨S2112x5632, .f32⟩
  | .hbm, ⟨16, _⟩ => ⟨S2112x2048, .f32⟩
  | .hbm, ⟨17, _⟩ => ⟨S2112x2048, .f32⟩
  | .hbm, ⟨18, _⟩ => ⟨S2112x2048, .f32⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnDown.lean ====
abbrev S2112x5632 : Shape := ⟨2, ![2112, 5632]⟩
abbrev S5632x2048 : Shape := ⟨2, ![5632, 2048]⟩
abbrev S2112x2048 : Shape := ⟨2, ![2112, 2048]⟩
abbrev S704x2048 : Shape := ⟨2, ![704, 2048]⟩
abbrev S704x1408 : Shape := ⟨2, ![704, 1408]⟩
abbrev S1408x2048 : Shape := ⟨2, ![1408, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .hbm, ⟨3, _⟩ => ⟨S2112x2048, .f32⟩
  | .local _ .vmem, ⟨0, _⟩ => ⟨S704x2048, .f32⟩
  | .local _ .vmem, ⟨1, _⟩ => ⟨S704x1408, .bf16⟩
  | .local _ .vmem, ⟨2, _⟩ => ⟨S704x1408, .bf16⟩
  | .local _ .vmem, ⟨3, _⟩ => ⟨S1408x2048, .bf16⟩
  | .local _ .vmem, ⟨4, _⟩ => ⟨S1408x2048, .bf16⟩
  | .local _ .vmem, ⟨5, _⟩ => ⟨S704x2048, .f32⟩
  | .local _ .vmem, ⟨6, _⟩ => ⟨S704x2048, .f32⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S704x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S704x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S704x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== FfnDownRefIdeal.lean ====
abbrev S2112x5632 : Shape := ⟨2, ![2112, 5632]⟩
abbrev S5632x2048 : Shape := ⟨2, ![5632, 2048]⟩
abbrev S2112x2048 : Shape := ⟨2, ![2112, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .hbm, ⟨3, _⟩ => ⟨S2112x5632, .f32⟩
  | .hbm, ⟨4, _⟩ => ⟨S5632x2048, .f32⟩
  | .hbm, ⟨5, _⟩ => ⟨S2112x2048, .f32⟩
  | .hbm, ⟨6, _⟩ => ⟨S_, .f32⟩
  | .hbm, ⟨7, _⟩ => ⟨S2112x2048, .f32⟩
  | .hbm, ⟨8, _⟩ => ⟨S2112x2048, .f32⟩
  | .hbm, ⟨9, _⟩ => ⟨S2112x2048, .f32⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdamMeta.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamMetaIdeal.lean ====
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamMetaRefIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S2x2x512 : Shape := ⟨3, ![2, 2, 512]⟩
abbrev S4x512 : Shape := ⟨2, ![4, 512]⟩

abbrev nBuf : Space → Nat
  | .hbm => 14
  | .vmem => 7
  | .smem => 0
  | _ => 0

abbrev bufTy : (tb : Table) → Fin (tcTables nBuf tb) → BufTy
  | .hbm, ⟨0, _⟩ => ⟨S2x2x512, .f32⟩
  | .hbm, ⟨1, _⟩ => ⟨S2x2x512, .f32⟩
  | .hbm, ⟨2, _⟩ => ⟨S2x2x512, .f32⟩
  | .hbm, ⟨3, _⟩ => ⟨S2x2x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S2x2x512, .f32⟩
  | .hbm, ⟨12, _⟩ => ⟨S2x2x512, .f32⟩
  | .hbm, ⟨13, _⟩ => ⟨S2x2x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S2x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamNormIdeal.lean ====
abbrev S2x2x512 : Shape := ⟨3, ![2, 2, 512]⟩
abbrev S4x512 : Shape := ⟨2, ![4, 512]⟩

abbrev nBuf : Space → Nat
  | .hbm => 14
  | .vmem => 7
  | .smem => 0
  | _ => 0

abbrev bufTy : (tb : Table) → Fin (tcTables nBuf tb) → BufTy
  | .hbm, ⟨0, _⟩ => ⟨S2x2x512, .f32⟩
  | .hbm, ⟨1, _⟩ => ⟨S2x2x512, .f32⟩
  | .hbm, ⟨2, _⟩ => ⟨S2x2x512, .f32⟩
  | .hbm, ⟨3, _⟩ => ⟨S2x2x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S2x2x512, .f32⟩
  | .hbm, ⟨12, _⟩ => ⟨S2x2x512, .f32⟩
  | .hbm, ⟨13, _⟩ => ⟨S2x2x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S2x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamNormRefIdeal.lean ====
abbrev S2x2x512 : Shape := ⟨3, ![2, 2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x512, .f32⟩
  | .hbm, ⟨1, _⟩ => ⟨S2x2x512, .f32⟩
  | .hbm, ⟨2, _⟩ => ⟨S2x2x512, .f32⟩
  | .hbm, ⟨3, _⟩ => ⟨S2x2x512, .f32⟩
  | .hbm, ⟨4, _⟩ => ⟨S_, .f32⟩
  | .hbm, ⟨5, _⟩ => ⟨S2x2x512, .f32⟩
  | .hbm, ⟨6, _⟩ => ⟨S2x2x512, .f32⟩
  | .hbm, ⟨7, _⟩ => ⟨S_, .f32⟩
  | .hbm, ⟨8, _⟩ => ⟨S2x2x512, .f32⟩
  | .hbm, ⟨9, _⟩ => ⟨S2x2x512, .f32⟩
  | .hbm, ⟨10, _⟩ => ⟨S2x2x512, .f32⟩
  | .hbm, ⟨11, _⟩ => ⟨S_, .f32⟩
  | .hbm, ⟨12, _⟩ => ⟨S2x2x512, .f32⟩
  | .hbm, ⟨13, _⟩ => ⟨S2x2x512, .f32⟩
  | .hbm, ⟨14, _⟩ => ⟨S2x2x512, .f32⟩
  | .hbm, ⟨15, _⟩ => ⟨S_, .f32⟩
  | .hbm, ⟨16, _⟩ => ⟨S2x2x512, .f32⟩
  | .hbm, ⟨17, _⟩ => ⟨S2x2x512, .f32⟩
  | .hbm, ⟨18, _⟩ => ⟨S2x2x512, .f32⟩
  | .hbm, ⟨19, _⟩ => ⟨S_, .f32⟩
  | .hbm, ⟨20, _⟩ => ⟨S2x2x512, .f32⟩
  | .hbm, ⟨21, _⟩ => ⟨S2x2x512, .f32⟩
  | .hbm, ⟨22, _⟩ => ⟨S_, .f32⟩
  | .hbm, ⟨23, _⟩ => ⟨S2x2x512, .f32⟩
  | .hbm, ⟨24, _⟩ => ⟨S2x2x512, .f32⟩
  | .hbm, ⟨25, _⟩ => ⟨S2x2x512, .f32⟩
  | .hbm, ⟨26, _⟩ => ⟨S_, .f32⟩
  | .hbm, ⟨27, _⟩ => ⟨S2x2x512, .f32⟩
  | .hbm, ⟨28, _⟩ => ⟨S2x2x512, .f32⟩
  | .hbm, ⟨29, _⟩ => ⟨S2x2x512, .f32⟩
  | .hbm, ⟨30, _⟩ => ⟨S_, .f32⟩
  | .hbm, ⟨31, _⟩ => ⟨S2x2x512, .f32⟩
  | .hbm, ⟨32, _⟩ => ⟨S2x2x512, .f32⟩
  | .hbm, ⟨33, _⟩ => ⟨S2x2x512, .f32⟩
  | .hbm, ⟨34, _⟩ => ⟨S_, .f32⟩
  | .hbm, ⟨35, _⟩ => ⟨S2x2x512, .f32⟩
  | .hbm, ⟨36, _⟩ => ⟨S2x2x512, .f32⟩
  | _, _ => ⟨S2x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x2x2048x1408 : Shape := ⟨4, ![2, 2, 2048, 1408]⟩
abbrev S8192x1408 : Shape := ⟨2, ![8192, 1408]⟩
abbrev S256x1408 : Shape := ⟨2, ![256, 1408]⟩

abbrev nBuf : Space → Nat
  | .hbm => 16
  | .vmem => 16
  | .smem => 0
  | _ => 0

abbrev bufTy : (tb : Table) → Fin (tcTables nBuf tb) → BufTy
  | .hbm, ⟨0, _⟩ => ⟨S2x2x2048x1408, .f32⟩
  | .hbm, ⟨1, _⟩ => ⟨S2x2x2048x1408, .f32⟩
  | .hbm, ⟨2, _⟩ => ⟨S2x2x2048x1408, .f32⟩
  | .hbm, ⟨3, _⟩ => ⟨S2x2x2048x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S8192x1408, .f32⟩
  | .hbm, ⟨12, _⟩ => ⟨S2x2x2048x1408, .f32⟩
  | .hbm, ⟨13, _⟩ => ⟨S2x2x2048x1408, .f32⟩
  | .hbm, ⟨14, _⟩ => ⟨S2x2x2048x1408, .f32⟩
  | .hbm, ⟨15, _⟩ => ⟨S2x2x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpIdeal.lean ====
abbrev S2x2x2048x1408 : Shape := ⟨4, ![2, 2, 2048, 1408]⟩
abbrev S8192x1408 : Shape := ⟨2, ![8192, 1408]⟩
abbrev S256x1408 : Shape := ⟨2, ![256, 1408]⟩

abbrev nBuf : Space → Nat
  | .hbm => 16
  | .vmem => 16
  | .smem => 0
  | _ => 0

abbrev bufTy : (tb : Table) → Fin (tcTables nBuf tb) → BufTy
  | .hbm, ⟨0, _⟩ => ⟨S2x2x2048x1408, .f32⟩
  | .hbm, ⟨1, _⟩ => ⟨S2x2x2048x1408, .f32⟩
  | .hbm, ⟨2, _⟩ => ⟨S2x2x2048x1408, .f32⟩
  | .hbm, ⟨3, _⟩ => ⟨S2x2x2048x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S8192x1408, .f32⟩
  | .hbm, ⟨12, _⟩ => ⟨S2x2x2048x1408, .f32⟩
  | .hbm, ⟨13, _⟩ => ⟨S2x2x2048x1408, .f32⟩
  | .hbm, ⟨14, _⟩ => ⟨S2x2x2048x1408, .f32⟩
  | .hbm, ⟨15, _⟩ => ⟨S2x2x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S2x2x2048x1408 : Shape := ⟨4, ![2, 2, 2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x2048x1408, .f32⟩
  | .hbm, ⟨1, _⟩ => ⟨S2x2x2048x1408, .f32⟩
  | .hbm, ⟨2, _⟩ => ⟨S2x2x2048x1408, .f32⟩
  | .hbm, ⟨3, _⟩ => ⟨S2x2x2048x1408, .f32⟩
  | .hbm, ⟨4, _⟩ => ⟨S_, .f32⟩
  | .hbm, ⟨5, _⟩ => ⟨S2x2x2048x1408, .f32⟩
  | .hbm, ⟨6, _⟩ => ⟨S2x2x2048x1408, .f32⟩
  | .hbm, ⟨7, _⟩ => ⟨S_, .f32⟩
  | .hbm, ⟨8, _⟩ => ⟨S2x2x2048x1408, .f32⟩
  | .hbm, ⟨9, _⟩ => ⟨S2x2x2048x1408, .f32⟩
  | .hbm, ⟨10, _⟩ => ⟨S2x2x2048x1408, .f32⟩
  | .hbm, ⟨11, _⟩ => ⟨S_, .f32⟩
  | .hbm, ⟨12, _⟩ => ⟨S2x2x2048x1408, .f32⟩
  | .hbm, ⟨13, _⟩ => ⟨S2x2x2048x1408, .f32⟩
  | .hbm, ⟨14, _⟩ => ⟨S2x2x2048x1408, .f32⟩
  | .hbm, ⟨15, _⟩ => ⟨S_, .f32⟩
  | .hbm, ⟨16, _⟩ => ⟨S2x2x2048x1408, .f32⟩
  | .hbm, ⟨17, _⟩ => ⟨S2x2x2048x1408, .f32⟩
  | .hbm, ⟨18, _⟩ => ⟨S2x2x2048x1408, .f32⟩
  | .hbm, ⟨19, _⟩ => ⟨S_, .f32⟩
  | .hbm, ⟨20, _⟩ => ⟨S2x2x2048x1408, .f32⟩
  | .hbm, ⟨21, _⟩ => ⟨S2x2x2048x1408, .f32⟩
  | .hbm, ⟨22, _⟩ => ⟨S_, .f32⟩
  | .hbm, ⟨23, _⟩ => ⟨S2x2x2048x1408, .f32⟩
  | .hbm, ⟨24, _⟩ => ⟨S2x2x2048x1408, .f32⟩
  | .hbm, ⟨25, _⟩ => ⟨S2x2x2048x1408, .f32⟩
  | .hbm, ⟨26, _⟩ => ⟨S_, .f32⟩
  | .hbm, ⟨27, _⟩ => ⟨S2x2x2048x1408, .f32⟩
  | .hbm, ⟨28, _⟩ => ⟨S2x2x2048x1408, .f32⟩
  | .hbm, ⟨29, _⟩ => ⟨S2x2x2048x1408, .f32⟩
  | .hbm, ⟨30, _⟩ => ⟨S_, .f32⟩
  | .hbm, ⟨31, _⟩ => ⟨S2x2x2048x1408, .f32⟩
  | .hbm, ⟨32, _⟩ => ⟨S2x2x2048x1408, .f32⟩
  | .hbm, ⟨33, _⟩ => ⟨S2x2x2048x1408, .f32⟩
  | .hbm, ⟨34, _⟩ => ⟨S_, .f32⟩
  | .hbm, ⟨35, _⟩ => ⟨S2x2x2048x1408, .f32⟩
  | .hbm, ⟨36, _⟩ => ⟨S2x2x2048x1408, .f32⟩
  | _, _ => ⟨S2x2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x2x1408x2048 : Shape := ⟨4, ![2, 2, 1408, 2048]⟩
abbrev S5632x2048 : Shape := ⟨2, ![5632, 2048]⟩
abbrev S256x2048 : Shape := ⟨2, ![256, 2048]⟩

abbrev nBuf : Space → Nat
  | .hbm => 16
  | .vmem => 16
  | .smem => 0
  | _ => 0

abbrev bufTy : (tb : Table) → Fin (tcTables nBuf tb) → BufTy
  | .hbm, ⟨0, _⟩ => ⟨S2x2x1408x2048, .f32⟩
  | .hbm, ⟨1, _⟩ => ⟨S2x2x1408x2048, .f32⟩
  | .hbm, ⟨2, _⟩ => ⟨S2x2x1408x2048, .f32⟩
  | .hbm, ⟨3, _⟩ => ⟨S2x2x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S5632x2048, .f32⟩
  | .hbm, ⟨12, _⟩ => ⟨S2x2x1408x2048, .f32⟩
  | .hbm, ⟨13, _⟩ => ⟨S2x2x1408x2048, .f32⟩
  | .hbm, ⟨14, _⟩ => ⟨S2x2x1408x2048, .f32⟩
  | .hbm, ⟨15, _⟩ => ⟨S2x2x1408x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownIdeal.lean ====
abbrev S2x2x1408x2048 : Shape := ⟨4, ![2, 2, 1408, 2048]⟩
abbrev S5632x2048 : Shape := ⟨2, ![5632, 2048]⟩
abbrev S256x2048 : Shape := ⟨2, ![256, 2048]⟩

abbrev nBuf : Space → Nat
  | .hbm => 16
  | .vmem => 16
  | .smem => 0
  | _ => 0

abbrev bufTy : (tb : Table) → Fin (tcTables nBuf tb) → BufTy
  | .hbm, ⟨0, _⟩ => ⟨S2x2x1408x2048, .f32⟩
  | .hbm, ⟨1, _⟩ => ⟨S2x2x1408x2048, .f32⟩
  | .hbm, ⟨2, _⟩ => ⟨S2x2x1408x2048, .f32⟩
  | .hbm, ⟨3, _⟩ => ⟨S2x2x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S5632x2048, .f32⟩
  | .hbm, ⟨12, _⟩ => ⟨S2x2x1408x2048, .f32⟩
  | .hbm, ⟨13, _⟩ => ⟨S2x2x1408x2048, .f32⟩
  | .hbm, ⟨14, _⟩ => ⟨S2x2x1408x2048, .f32⟩
  | .hbm, ⟨15, _⟩ => ⟨S2x2x1408x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2x2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S2x2x1408x2048 : Shape := ⟨4, ![2, 2, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2x1408x2048, .f32⟩
  | .hbm, ⟨1, _⟩ => ⟨S2x2x1408x2048, .f32⟩
  | .hbm, ⟨2, _⟩ => ⟨S2x2x1408x2048, .f32⟩
  | .hbm, ⟨3, _⟩ => ⟨S2x2x1408x2048, .f32⟩
  | .hbm, ⟨4, _⟩ => ⟨S_, .f32⟩
  | .hbm, ⟨5, _⟩ => ⟨S2x2x1408x2048, .f32⟩
  | .hbm, ⟨6, _⟩ => ⟨S2x2x1408x2048, .f32⟩
  | .hbm, ⟨7, _⟩ => ⟨S_, .f32⟩
  | .hbm, ⟨8, _⟩ => ⟨S2x2x1408x2048, .f32⟩
  | .hbm, ⟨9, _⟩ => ⟨S2x2x1408x2048, .f32⟩
  | .hbm, ⟨10, _⟩ => ⟨S2x2x1408x2048, .f32⟩
  | .hbm, ⟨11, _⟩ => ⟨S_, .f32⟩
  | .hbm, ⟨12, _⟩ => ⟨S2x2x1408x2048, .f32⟩
  | .hbm, ⟨13, _⟩ => ⟨S2x2x1408x2048, .f32⟩
  | .hbm, ⟨14, _⟩ => ⟨S2x2x1408x2048, .f32⟩
  | .hbm, ⟨15, _⟩ => ⟨S_, .f32⟩
  | .hbm, ⟨16, _⟩ => ⟨S2x2x1408x2048, .f32⟩
  | .hbm, ⟨17, _⟩ => ⟨S2x2x1408x2048, .f32⟩
  | .hbm, ⟨18, _⟩ => ⟨S2x2x1408x2048, .f32⟩
  | .hbm, ⟨19, _⟩ => ⟨S_, .f32⟩
  | .hbm, ⟨20, _⟩ => ⟨S2x2x1408x2048, .f32⟩
  | .hbm, ⟨21, _⟩ => ⟨S2x2x1408x2048, .f32⟩
  | .hbm, ⟨22, _⟩ => ⟨S_, .f32⟩
  | .hbm, ⟨23, _⟩ => ⟨S2x2x1408x2048, .f32⟩
  | .hbm, ⟨24, _⟩ => ⟨S2x2x1408x2048, .f32⟩
  | .hbm, ⟨25, _⟩ => ⟨S2x2x1408x2048, .f32⟩
  | .hbm, ⟨26, _⟩ => ⟨S_, .f32⟩
  | .hbm, ⟨27, _⟩ => ⟨S2x2x1408x2048, .f32⟩
  | .hbm, ⟨28, _⟩ => ⟨S2x2x1408x2048, .f32⟩
  | .hbm, ⟨29, _⟩ => ⟨S2x2x1408x2048, .f32⟩
  | .hbm, ⟨30, _⟩ => ⟨S_, .f32⟩
  | .hbm, ⟨31, _⟩ => ⟨S2x2x1408x2048, .f32⟩
  | .hbm, ⟨32, _⟩ => ⟨S2x2x1408x2048, .f32⟩
  | .hbm, ⟨33, _⟩ => ⟨S2x2x1408x2048, .f32⟩
  | .hbm, ⟨34, _⟩ => ⟨S_, .f32⟩
  | .hbm, ⟨35, _⟩ => ⟨S2x2x1408x2048, .f32⟩
  | .hbm, ⟨36, _⟩ => ⟨S2x2x1408x2048, .f32⟩
  | _, _ => ⟨S2x2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlaNorm.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamGlaNormIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamGlaNormRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1x2048x1540 : Shape := ⟨3, ![1, 2048, 1540]⟩
abbrev S2048x1540 : Shape := ⟨2, ![2048, 1540]⟩
abbrev S256x1540 : Shape := ⟨2, ![256, 1540]⟩

abbrev nBuf : Space → Nat
  | .hbm => 16
  | .vmem => 16
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S2048x1540, .f32⟩
  | .hbm, ⟨9, _⟩ => ⟨S2048x1540, .f32⟩
  | .hbm, ⟨10, _⟩ => ⟨S2048x1540, .f32⟩
  | .hbm, ⟨11, _⟩ => ⟨S2048x1540, .f32⟩
  | .hbm, ⟨12, _⟩ => ⟨S1x2048x1540, .f32⟩
  | .hbm, ⟨13, _⟩ => ⟨S1x2048x1540, .f32⟩
  | .hbm, ⟨14, _⟩ => ⟨S1x2048x1540, .f32⟩
  | .hbm, ⟨15, _⟩ => ⟨S1x2048x1540, .f32⟩
  | .local _ .vmem, ⟨0, _⟩ => ⟨S256x1540, .f32⟩
  | .local _ .vmem, ⟨1, _⟩ => ⟨S256x1540, .f32⟩
  | .local _ .vmem, ⟨2, _⟩ => ⟨S256x1540, .f32⟩
  | .local _ .vmem, ⟨3, _⟩ => ⟨S256x1540, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S1x2048x1540 : Shape := ⟨3, ![1, 2048, 1540]⟩
abbrev S2048x1540 : Shape := ⟨2, ![2048, 1540]⟩
abbrev S256x1540 : Shape := ⟨2, ![256, 1540]⟩

abbrev nBuf : Space → Nat
  | .hbm => 16
  | .vmem => 16
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S2048x1540, .f32⟩
  | .hbm, ⟨9, _⟩ => ⟨S2048x1540, .f32⟩
  | .hbm, ⟨10, _⟩ => ⟨S2048x1540, .f32⟩
  | .hbm, ⟨11, _⟩ => ⟨S2048x1540, .f32⟩
  | .hbm, ⟨12, _⟩ => ⟨S1x2048x1540, .f32⟩
  | .hbm, ⟨13, _⟩ => ⟨S1x2048x1540, .f32⟩
  | .hbm, ⟨14, _⟩ => ⟨S1x2048x1540, .f32⟩
  | .hbm, ⟨15, _⟩ => ⟨S1x2048x1540, .f32⟩
  | .local _ .vmem, ⟨0, _⟩ => ⟨S256x1540, .f32⟩
  | .local _ .vmem, ⟨1, _⟩ => ⟨S256x1540, .f32⟩
  | .local _ .vmem, ⟨2, _⟩ => ⟨S256x1540, .f32⟩
  | .local _ .vmem, ⟨3, _⟩ => ⟨S256x1540, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S1x2048x1540 : Shape := ⟨3, ![1, 2048, 1540]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S_, .f32⟩
  | .hbm, ⟨5, _⟩ => ⟨S1x2048x1540, .f32⟩
  | .hbm, ⟨6, _⟩ => ⟨S1x2048x1540, .f32⟩
  | .hbm, ⟨7, _⟩ => ⟨S_, .f32⟩
  | .hbm, ⟨8, _⟩ => ⟨S1x2048x1540, .f32⟩
  | .hbm, ⟨9, _⟩ => ⟨S1x2048x1540, .f32⟩
  | .hbm, ⟨10, _⟩ => ⟨S1x2048x1540, .f32⟩
  | .hbm, ⟨11, _⟩ => ⟨S_, .f32⟩
  | .hbm, ⟨12, _⟩ => ⟨S1x2048x1540, .f32⟩
  | .hbm, ⟨13, _⟩ => ⟨S1x2048x1540, .f32⟩
  | .hbm, ⟨14, _⟩ => ⟨S1x2048x1540, .f32⟩
  | .hbm, ⟨15, _⟩ => ⟨S_, .f32⟩
  | .hbm, ⟨16, _⟩ => ⟨S1x2048x1540, .f32⟩
  | .hbm, ⟨17, _⟩ => ⟨S1x2048x1540, .f32⟩
  | .hbm, ⟨18, _⟩ => ⟨S1x2048x1540, .f32⟩
  | .hbm, ⟨19, _⟩ => ⟨S_, .f32⟩
  | .hbm, ⟨20, _⟩ => ⟨S1x2048x1540, .f32⟩
  | .hbm, ⟨21, _⟩ => ⟨S1x2048x1540, .f32⟩
  | .hbm, ⟨22, _⟩ => ⟨S_, .f32⟩
  | .hbm, ⟨23, _⟩ => ⟨S1x2048x1540, .f32⟩
  | .hbm, ⟨24, _⟩ => ⟨S1x2048x1540, .f32⟩
  | .hbm, ⟨25, _⟩ => ⟨S1x2048x1540, .f32⟩
  | .hbm, ⟨26, _⟩ => ⟨S_, .f32⟩
  | .hbm, ⟨27, _⟩ => ⟨S1x2048x1540, .f32⟩
  | .hbm, ⟨28, _⟩ => ⟨S1x2048x1540, .f32⟩
  | .hbm, ⟨29, _⟩ => ⟨S1x2048x1540, .f32⟩
  | .hbm, ⟨30, _⟩ => ⟨S_, .f32⟩
  | .hbm, ⟨31, _⟩ => ⟨S1x2048x1540, .f32⟩
  | .hbm, ⟨32, _⟩ => ⟨S1x2048x1540, .f32⟩
  | .hbm, ⟨33, _⟩ => ⟨S1x2048x1540, .f32⟩
  | .hbm, ⟨34, _⟩ => ⟨S_, .f32⟩
  | .hbm, ⟨35, _⟩ => ⟨S1x2048x1540, .f32⟩
  | .hbm, ⟨36, _⟩ => ⟨S1x2048x1540, .f32⟩
  | _, _ => ⟨S1x2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRank.lean ====
abbrev S1x16x256 : Shape := ⟨3, ![1, 16, 256]⟩
abbrev S16x256 : Shape := ⟨2, ![16, 256]⟩

abbrev nBuf : Space → Nat
  | .hbm => 14
  | .vmem => 7
  | .smem => 0
  | _ => 0

abbrev bufTy : (tb : Table) → Fin (tcTables nBuf tb) → BufTy
  | .hbm, ⟨0, _⟩ => ⟨S1x16x256, .f32⟩
  | .hbm, ⟨1, _⟩ => ⟨S1x16x256, .f32⟩
  | .hbm, ⟨2, _⟩ => ⟨S1x16x256, .f32⟩
  | .hbm, ⟨3, _⟩ => ⟨S1x16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S1x16x256, .f32⟩
  | .hbm, ⟨12, _⟩ => ⟨S1x16x256, .f32⟩
  | .hbm, ⟨13, _⟩ => ⟨S1x16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S1x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamRankIdeal.lean ====
abbrev S1x16x256 : Shape := ⟨3, ![1, 16, 256]⟩
abbrev S16x256 : Shape := ⟨2, ![16, 256]⟩

abbrev nBuf : Space → Nat
  | .hbm => 14
  | .vmem => 7
  | .smem => 0
  | _ => 0

abbrev bufTy : (tb : Table) → Fin (tcTables nBuf tb) → BufTy
  | .hbm, ⟨0, _⟩ => ⟨S1x16x256, .f32⟩
  | .hbm, ⟨1, _⟩ => ⟨S1x16x256, .f32⟩
  | .hbm, ⟨2, _⟩ => ⟨S1x16x256, .f32⟩
  | .hbm, ⟨3, _⟩ => ⟨S1x16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S1x16x256, .f32⟩
  | .hbm, ⟨12, _⟩ => ⟨S1x16x256, .f32⟩
  | .hbm, ⟨13, _⟩ => ⟨S1x16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S1x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamRankRefIdeal.lean ====
abbrev S1x16x256 : Shape := ⟨3, ![1, 16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x256, .f32⟩
  | .hbm, ⟨1, _⟩ => ⟨S1x16x256, .f32⟩
  | .hbm, ⟨2, _⟩ => ⟨S1x16x256, .f32⟩
  | .hbm, ⟨3, _⟩ => ⟨S1x16x256, .f32⟩
  | .hbm, ⟨4, _⟩ => ⟨S_, .f32⟩
  | .hbm, ⟨5, _⟩ => ⟨S1x16x256, .f32⟩
  | .hbm, ⟨6, _⟩ => ⟨S1x16x256, .f32⟩
  | .hbm, ⟨7, _⟩ => ⟨S_, .f32⟩
  | .hbm, ⟨8, _⟩ => ⟨S1x16x256, .f32⟩
  | .hbm, ⟨9, _⟩ => ⟨S1x16x256, .f32⟩
  | .hbm, ⟨10, _⟩ => ⟨S1x16x256, .f32⟩
  | .hbm, ⟨11, _⟩ => ⟨S_, .f32⟩
  | .hbm, ⟨12, _⟩ => ⟨S1x16x256, .f32⟩
  | .hbm, ⟨13, _⟩ => ⟨S1x16x256, .f32⟩
  | .hbm, ⟨14, _⟩ => ⟨S1x16x256, .f32⟩
  | .hbm, ⟨15, _⟩ => ⟨S_, .f32⟩
  | .hbm, ⟨16, _⟩ => ⟨S1x16x256, .f32⟩
  | .hbm, ⟨17, _⟩ => ⟨S1x16x256, .f32⟩
  | .hbm, ⟨18, _⟩ => ⟨S1x16x256, .f32⟩
  | .hbm, ⟨19, _⟩ => ⟨S_, .f32⟩
  | .hbm, ⟨20, _⟩ => ⟨S1x16x256, .f32⟩
  | .hbm, ⟨21, _⟩ => ⟨S1x16x256, .f32⟩
  | .hbm, ⟨22, _⟩ => ⟨S_, .f32⟩
  | .hbm, ⟨23, _⟩ => ⟨S1x16x256, .f32⟩
  | .hbm, ⟨24, _⟩ => ⟨S1x16x256, .f32⟩
  | .hbm, ⟨25, _⟩ => ⟨S1x16x256, .f32⟩
  | .hbm, ⟨26, _⟩ => ⟨S_, .f32⟩
  | .hbm, ⟨27, _⟩ => ⟨S1x16x256, .f32⟩
  | .hbm, ⟨28, _⟩ => ⟨S1x16x256, .f32⟩
  | .hbm, ⟨29, _⟩ => ⟨S1x16x256, .f32⟩
  | .hbm, ⟨30, _⟩ => ⟨S_, .f32⟩
  | .hbm, ⟨31, _⟩ => ⟨S1x16x256, .f32⟩
  | .hbm, ⟨32, _⟩ => ⟨S1x16x256, .f32⟩
  | .hbm, ⟨33, _⟩ => ⟨S1x16x256, .f32⟩
  | .hbm, ⟨34, _⟩ => ⟨S_, .f32⟩
  | .hbm, ⟨35, _⟩ => ⟨S1x16x256, .f32⟩
  | .hbm, ⟨36, _⟩ => ⟨S1x16x256, .f32⟩
  | _, _ => ⟨S1x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamBiasIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamBiasRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamHeadIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamHeadRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1x512x2048 : Shape := ⟨3, ![1, 512, 2048]⟩
abbrev S512x2048 : Shape := ⟨2, ![512, 2048]⟩
abbrev S256x2048 : Shape := ⟨2, ![256, 2048]⟩

abbrev nBuf : Space → Nat
  | .hbm => 16
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S1x512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
abbrev S1x512x2048 : Shape := ⟨3, ![1, 512, 2048]⟩
abbrev S512x2048 : Shape := ⟨2, ![512, 2048]⟩
abbrev S256x2048 : Shape := ⟨2, ![256, 2048]⟩

abbrev nBuf : Space → Nat
  | .hbm => 16
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S1x512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S1x4x128x512 : Shape := ⟨4, ![1, 4, 128, 512]⟩
abbrev S512x512 : Shape := ⟨2, ![512, 512]⟩
abbrev S256x512 : Shape := ⟨2, ![256, 512]⟩

abbrev nBuf : Space → Nat
  | .hbm => 16
  | .vmem => 16
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1x4x128x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S1x4x128x512, .f32⟩
  | .hbm, ⟨13, _⟩ => ⟨S1x4x128x512, .f32⟩
  | .hbm, ⟨14, _⟩ => ⟨S1x4x128x512, .f32⟩
  | .hbm, ⟨15, _⟩ => ⟨S1x4x128x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1x4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamPoolIdeal.lean ====
abbrev S1x4x128x512 : Shape := ⟨4, ![1, 4, 128, 512]⟩
abbrev S512x512 : Shape := ⟨2, ![512, 512]⟩
abbrev S256x512 : Shape := ⟨2, ![256, 512]⟩

abbrev nBuf : Space → Nat
  | .hbm => 16
  | .vmem => 16
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1x4x128x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S1x4x128x512, .f32⟩
  | .hbm, ⟨13, _⟩ => ⟨S1x4x128x512, .f32⟩
  | .hbm, ⟨14, _⟩ => ⟨S1x4x128x512, .f32⟩
  | .hbm, ⟨15, _⟩ => ⟨S1x4x128x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1x4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamPoolRefIdeal.lean ====
abbrev S1x4x128x512 : Shape := ⟨4, ![1, 4, 128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x128x512, .f32⟩
  | .hbm, ⟨1, _⟩ => ⟨S1x4x128x512, .f32⟩
  | .hbm, ⟨2, _⟩ => ⟨S1x4x128x512, .f32⟩
  | .hbm, ⟨3, _⟩ => ⟨S1x4x128x512, .f32⟩
  | .hbm, ⟨4, _⟩ => ⟨S_, .f32⟩
  | .hbm, ⟨5, _⟩ => ⟨S1x4x128x512, .f32⟩
  | .hbm, ⟨6, _⟩ => ⟨S1x4x128x512, .f32⟩
  | .hbm, ⟨7, _⟩ => ⟨S_, .f32⟩
  | .hbm, ⟨8, _⟩ => ⟨S1x4x128x512, .f32⟩
  | .hbm, ⟨9, _⟩ => ⟨S1x4x128x512, .f32⟩
  | .hbm, ⟨10, _⟩ => ⟨S1x4x128x512, .f32⟩
  | .hbm, ⟨11, _⟩ => ⟨S_, .f32⟩
  | .hbm, ⟨12, _⟩ => ⟨S1x4x128x512, .f32⟩
  | .hbm, ⟨13, _⟩ => ⟨S1x4x128x512, .f32⟩
  | .hbm, ⟨14, _⟩ => ⟨S1x4x128x512, .f32⟩
  | .hbm, ⟨15, _⟩ => ⟨S_, .f32⟩
  | .hbm, ⟨16, _⟩ => ⟨S1x4x128x512, .f32⟩
  | .hbm, ⟨17, _⟩ => ⟨S1x4x128x512, .f32⟩
  | .hbm, ⟨18, _⟩ => ⟨S1x4x128x512, .f32⟩
  | .hbm, ⟨19, _⟩ => ⟨S_, .f32⟩
  | .hbm, ⟨20, _⟩ => ⟨S1x4x128x512, .f32⟩
  | .hbm, ⟨21, _⟩ => ⟨S1x4x128x512, .f32⟩
  | .hbm, ⟨22, _⟩ => ⟨S_, .f32⟩
  | .hbm, ⟨23, _⟩ => ⟨S1x4x128x512, .f32⟩
  | .hbm, ⟨24, _⟩ => ⟨S1x4x128x512, .f32⟩
  | .hbm, ⟨25, _⟩ => ⟨S1x4x128x512, .f32⟩
  | .hbm, ⟨26, _⟩ => ⟨S_, .f32⟩
  | .hbm, ⟨27, _⟩ => ⟨S1x4x128x512, .f32⟩
  | .hbm, ⟨28, _⟩ => ⟨S1x4x128x512, .f32⟩
  | .hbm, ⟨29, _⟩ => ⟨S1x4x128x512, .f32⟩
  | .hbm, ⟨30, _⟩ => ⟨S_, .f32⟩
  | .hbm, ⟨31, _⟩ => ⟨S1x4x128x512, .f32⟩
  | .hbm, ⟨32, _⟩ => ⟨S1x4x128x512, .f32⟩
  | .hbm, ⟨33, _⟩ => ⟨S1x4x128x512, .f32⟩
  | .hbm, ⟨34, _⟩ => ⟨S_, .f32⟩
  | .hbm, ⟨35, _⟩ => ⟨S1x4x128x512, .f32⟩
  | .hbm, ⟨36, _⟩ => ⟨S1x4x128x512, .f32⟩
  | _, _ => ⟨S1x4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPoolBias.lean ====
abbrev S1x4x128 : Shape := ⟨3, ![1, 4, 128]⟩
abbrev S4x128 : Shape := ⟨2, ![4, 128]⟩

abbrev nBuf : Space → Nat
  | .hbm => 14
  | .vmem => 7
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S1x4x128, .f32⟩
  | .hbm, ⟨12, _⟩ => ⟨S1x4x128, .f32⟩
  | .hbm, ⟨13, _⟩ => ⟨S1x4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamPoolBiasIdeal.lean ====
abbrev S1x4x128 : Shape := ⟨3, ![1, 4, 128]⟩
abbrev S4x128 : Shape := ⟨2, ![4, 128]⟩

abbrev nBuf : Space → Nat
  | .hbm => 14
  | .vmem => 7
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S1x4x128, .f32⟩
  | .hbm, ⟨12, _⟩ => ⟨S1x4x128, .f32⟩
  | .hbm, ⟨13, _⟩ => ⟨S1x4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamPoolBiasRefIdeal.lean ====
abbrev S1x4x128 : Shape := ⟨3, ![1, 4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S_, .f32⟩
  | .hbm, ⟨5, _⟩ => ⟨S1x4x128, .f32⟩
  | .hbm, ⟨6, _⟩ => ⟨S1x4x128, .f32⟩
  | .hbm, ⟨7, _⟩ => ⟨S_, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S_, .f32⟩
  | .hbm, ⟨12, _⟩ => ⟨S1x4x128, .f32⟩
  | .hbm, ⟨13, _⟩ => ⟨S1x4x128, .f32⟩
  | .hbm, ⟨14, _⟩ => ⟨S1x4x128, .f32⟩
  | .hbm, ⟨15, _⟩ => ⟨S_, .f32⟩
  | .hbm, ⟨16, _⟩ => ⟨S1x4x128, .f32⟩
  | .hbm, ⟨17, _⟩ => ⟨S1x4x128, .f32⟩
  | .hbm, ⟨18, _⟩ => ⟨S1x4x128, .f32⟩
  | .hbm, ⟨19, _⟩ => ⟨S_, .f32⟩
  | .hbm, ⟨20, _⟩ => ⟨S1x4x128, .f32⟩
  | .hbm, ⟨21, _⟩ => ⟨S1x4x128, .f32⟩
  | .hbm, ⟨22, _⟩ => ⟨S_, .f32⟩
  | .hbm, ⟨23, _⟩ => ⟨S1x4x128, .f32⟩
  | .hbm, ⟨24, _⟩ => ⟨S1x4x128, .f32⟩
  | .hbm, ⟨25, _⟩ => ⟨S1x4x128, .f32⟩
  | .hbm, ⟨26, _⟩ => ⟨S_, .f32⟩
  | .hbm, ⟨27, _⟩ => ⟨S1x4x128, .f32⟩
  | .hbm, ⟨28, _⟩ => ⟨S1x4x128, .f32⟩
  | .hbm, ⟨29, _⟩ => ⟨S1x4x128, .f32⟩
  | .hbm, ⟨30, _⟩ => ⟨S_, .f32⟩
  | .hbm, ⟨31, _⟩ => ⟨S1x4x128, .f32⟩
  | .hbm, ⟨32, _⟩ => ⟨S1x4x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4x128, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFinal.lean ====
abbrev S2048 : Shape := ⟨1, ![2048]⟩
abbrev S1x2048 : Shape := ⟨2, ![1, 2048]⟩

abbrev nBuf : Space → Nat
  | .hbm => 14
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048, .f32⟩
  | .hbm, ⟨12, _⟩ => ⟨S2048, .f32⟩
  | .hbm, ⟨13, _⟩ => ⟨S2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamFinalRefIdeal.lean ====
abbrev S2048 : Shape := ⟨1, ![2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S8x64x512 : Shape := ⟨3, ![8, 64, 512]⟩
abbrev S8x4x512 : Shape := ⟨3, ![8, 4, 512]⟩
abbrev S8x32x512 : Shape := ⟨3, ![8, 32, 512]⟩
abbrev S8x2x512 : Shape := ⟨3, ![8, 2, 512]⟩
abbrev S8x1x512 : Shape := ⟨3, ![8, 1, 512]⟩
abbrev S_ : Shape := ⟨0, ![]⟩
abbrev S8x8x512 : Shape := ⟨3, ![8, 8, 512]⟩
abbrev S8x184x512 : Shape := ⟨3, ![8, 184, 512]⟩
abbrev S184x512 : Shape := ⟨2, ![184, 512]⟩
abbrev S1x184x512 : Shape := ⟨3, ![1, 184, 512]⟩
abbrev S64x512 : Shape := ⟨2, ![64, 512]⟩
abbrev S4x512 : Shape := ⟨2, ![4, 512]⟩
abbrev S32x512 : Shape := ⟨2, ![32, 512]⟩
abbrev S2x512 : Shape := ⟨2, ![2, 512]⟩
abbrev S1x512 : Shape := ⟨2, ![1, 512]⟩

abbrev nBuf : Space → Nat
  | .hbm => 67
  | .vmem => 2
  | .smem => 0
  | _ => 0

abbrev bufTy : (tb : Table) → Fin (tcTables nBuf tb) → BufTy
  | .hbm, ⟨0, _⟩ => ⟨S8x64x512, .f32⟩
  | .hbm, ⟨1, _⟩ => ⟨S8x4x512, .f32⟩
  | .hbm, ⟨2, _⟩ => ⟨S8x4x512, .f32⟩
  | .hbm, ⟨3, _⟩ => ⟨S8x4x512, .f32⟩
  | .hbm, ⟨4, _⟩ => ⟨S8x4x512, .f32⟩
  | .hbm, ⟨5, _⟩ => ⟨S8x4x512, .f32⟩
  | .hbm, ⟨6, _⟩ => ⟨S8x32x512, .f32⟩
  | .hbm, ⟨7, _⟩ => ⟨S8x2x512, .f32⟩
  | .hbm, ⟨8, _⟩ => ⟨S8x1x512, .f32⟩
  | .hbm, ⟨9, _⟩ => ⟨S8x4x512, .f32⟩
  | .hbm, ⟨10, _⟩ => ⟨S8x4x512, .f32⟩
  | .hbm, ⟨11, _⟩ => ⟨S8x4x512, .f32⟩
  | .hbm, ⟨12, _⟩ => ⟨S8x4x512, .f32⟩
  | .hbm, ⟨13, _⟩ => ⟨S_, .i32⟩
  | .hbm, ⟨14, _⟩ => ⟨S_, .f32⟩
  | .hbm, ⟨15, _⟩ => ⟨S8x64x512, .f32⟩
  | .hbm, ⟨16, _⟩ => ⟨S_, .i32⟩
  | .hbm, ⟨17, _⟩ => ⟨S_, .f32⟩
  | .hbm, ⟨18, _⟩ => ⟨S8x8x512, .f32⟩
  | .hbm, ⟨19, _⟩ => ⟨S_, .i32⟩
  | .hbm, ⟨20, _⟩ => ⟨S_, .f32⟩
  | .hbm, ⟨21, _⟩ => ⟨S8x8x512, .f32⟩
  | .hbm, ⟨22, _⟩ => ⟨S_, .i32⟩
  | .hbm, ⟨23, _⟩ => ⟨S_, .f32⟩
  | .hbm, ⟨24, _⟩ => ⟨S8x8x512, .f32⟩
  | .hbm, ⟨25, _⟩ => ⟨S_, .i32⟩
  | .hbm, ⟨26, _⟩ => ⟨S_, .f32⟩
  | .hbm, ⟨27, _⟩ => ⟨S8x8x512, .f32⟩
  | .hbm, ⟨28, _⟩ => ⟨S_, .i32⟩
  | .hbm, ⟨29, _⟩ => ⟨S_, .f32⟩
  | .hbm, ⟨30, _⟩ => ⟨S8x8x512, .f32⟩
  | .hbm, ⟨31, _⟩ => ⟨S_, .i32⟩
  | .hbm, ⟨32, _⟩ => ⟨S_, .f32⟩
  | .hbm, ⟨33, _⟩ => ⟨S8x32x512, .f32⟩
  | .hbm, ⟨34, _⟩ => ⟨S_, .i32⟩
  | .hbm, ⟨35, _⟩ => ⟨S_, .f32⟩
  | .hbm, ⟨36, _⟩ => ⟨S8x8x512, .f32⟩
  | .hbm, ⟨37, _⟩ => ⟨S_, .i32⟩
  | .hbm, ⟨38, _⟩ => ⟨S_, .f32⟩
  | .hbm, ⟨39, _⟩ => ⟨S8x8x512, .f32⟩
  | .hbm, ⟨40, _⟩ => ⟨S_, .i32⟩
  | .hbm, ⟨41, _⟩ => ⟨S_, .f32⟩
  | .hbm, ⟨42, _⟩ => ⟨S8x8x512, .f32⟩
  | .hbm, ⟨43, _⟩ => ⟨S_, .i32⟩
  | .hbm, ⟨44, _⟩ => ⟨S_, .f32⟩
  | .hbm, ⟨45, _⟩ => ⟨S8x8x512, .f32⟩
  | .hbm, ⟨46, _⟩ => ⟨S_, .i32⟩
  | .hbm, ⟨47, _⟩ => ⟨S_, .f32⟩
  | .hbm, ⟨48, _⟩ => ⟨S8x8x512, .f32⟩
  | .hbm, ⟨49, _⟩ => ⟨S_, .i32⟩
  | .hbm, ⟨50, _⟩ => ⟨S_, .f32⟩
  | .hbm, ⟨51, _⟩ => ⟨S8x8x512, .f32⟩
  | .hbm, ⟨52, _⟩ => ⟨S8x184x512, .f32⟩
  | .hbm, ⟨53, _⟩ => ⟨S184x512, .f32⟩
  | .hbm, ⟨54, _⟩ => ⟨S64x512, .f32⟩
  | .hbm, ⟨55, _⟩ => ⟨S4x512, .f32⟩
  | .hbm, ⟨56, _⟩ => ⟨S4x512, .f32⟩
  | .hbm, ⟨57, _⟩ => ⟨S4x512, .f32⟩
  | .hbm, ⟨58, _⟩ => ⟨S4x512, .f32⟩
  | .hbm, ⟨59, _⟩ => ⟨S4x512, .f32⟩
  | .hbm, ⟨60, _⟩ => ⟨S32x512, .f32⟩
  | .hbm, ⟨61, _⟩ => ⟨S2x512, .f32⟩
  | .hbm, ⟨62, _⟩ => ⟨S1x512, .f32⟩
  | .hbm, ⟨63, _⟩ => ⟨S4x512, .f32⟩
  | .hbm, ⟨64, _⟩ => ⟨S4x512, .f32⟩
  | .hbm, ⟨65, _⟩ => ⟨S4x512, .f32⟩
  | .hbm, ⟨66, _⟩ => ⟨S4x512, .f32⟩
  | .local _ .vmem, ⟨0, _⟩ => ⟨S8x184x512, .f32⟩
  | .local _ .vmem, ⟨1, _⟩ => ⟨S184x512, .f32⟩
  | _, _ => ⟨S8x64x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_c_1 : Ref sig .tc := ⟨.hbm, 19, rfl⟩
abbrev main_call2_v0 : Ref sig .tc := ⟨.hbm, 20, rfl⟩
abbrev main_v2 : Ref sig .tc := ⟨.hbm, 21, rfl⟩
abbrev main_c_2 : Ref sig .tc := ⟨.hbm, 22, rfl⟩
abbrev main_call3_v0 : Ref sig .tc := ⟨.hbm, 23, rfl⟩
abbrev main_v3 : Ref sig .tc := ⟨.hbm, 24, rfl⟩
abbrev main_c_3 : Ref sig .tc := ⟨.hbm, 25, rfl⟩
abbrev main_call4_v0 : Ref sig .tc := ⟨.hbm, 26, rfl⟩
abbrev main_v4 : Ref sig .tc := ⟨.hbm, 27, rfl⟩
abbrev main_c_4 : Ref sig .tc := ⟨.hbm, 28, rfl⟩
abbrev main_call5_v0 : Ref sig .tc := ⟨.hbm, 29, rfl⟩
abbrev main_v5 : Ref sig .tc := ⟨.hbm, 30, rfl⟩
abbrev main_c_5 : Ref sig .tc := ⟨.hbm, 31, rfl⟩
abbrev main_call6_v0 : Ref sig .tc := ⟨.hbm, 32, rfl⟩
abbrev main_v6 : Ref sig .tc := ⟨.hbm, 33, rfl⟩
abbrev main_c_6 : Ref sig .tc := ⟨.hbm, 34, rfl⟩
abbrev main_call7_v0 : Ref sig .tc := ⟨.hbm, 35, rfl⟩
abbrev main_v7 : Ref sig .tc := ⟨.hbm, 36, rfl⟩
abbrev main_c_7 : Ref sig .tc := ⟨.hbm, 37, rfl⟩
abbrev main_call8_v0 : Ref sig .tc := ⟨.hbm, 38, rfl⟩
abbrev main_v8 : Ref sig .tc := ⟨.hbm, 39, rfl⟩
abbrev main_c_8 : Ref sig .tc := ⟨.hbm, 40, rfl⟩
abbrev main_call9_v0 : Ref sig .tc := ⟨.hbm, 41, rfl⟩
abbrev main_v9 : Ref sig .tc := ⟨.hbm, 42, rfl⟩
abbrev main_c_9 : Ref sig .tc := ⟨.hbm, 43, rfl⟩
abbrev main_call10_v0 : Ref sig .tc := ⟨.hbm, 44, rfl⟩
abbrev main_v10 : Ref sig .tc := ⟨.hbm, 45, rfl⟩
abbrev main_c_10 : Ref sig .tc := ⟨.hbm, 46, rfl⟩
abbrev main_call11_v0 : Ref sig .tc := ⟨.hbm, 47, rfl⟩
abbrev main_v11 : Ref sig .tc := ⟨.hbm, 48, rfl⟩
abbrev main_c_11 : Ref sig .tc := ⟨.hbm, 49, rfl⟩
abbrev main_call12_v0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x184x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S184x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SmallRefIdeal.lean ====
abbrev S8x64x512 : Shape := ⟨3, ![8, 64, 512]⟩
abbrev S8x4x512 : Shape := ⟨3, ![8, 4, 512]⟩
abbrev S8x32x512 : Shape := ⟨3, ![8, 32, 512]⟩
abbrev S8x2x512 : Shape := ⟨3, ![8, 2, 512]⟩
abbrev S8x1x512 : Shape := ⟨3, ![8, 1, 512]⟩
abbrev S_ : Shape := ⟨0, ![]⟩
abbrev S64x512 : Shape := ⟨2, ![64, 512]⟩
abbrev S4x512 : Shape := ⟨2, ![4, 512]⟩
abbrev S32x512 : Shape := ⟨2, ![32, 512]⟩
abbrev S2x512 : Shape := ⟨2, ![2, 512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x64x512, .f32⟩
  | .hbm, ⟨1, _⟩ => ⟨S8x4x512, .f32⟩
  | .hbm, ⟨2, _⟩ => ⟨S8x4x512, .f32⟩
  | .hbm, ⟨3, _⟩ => ⟨S8x4x512, .f32⟩
  | .hbm, ⟨4, _⟩ => ⟨S8x4x512, .f32⟩
  | .hbm, ⟨5, _⟩ => ⟨S8x4x512, .f32⟩
  | .hbm, ⟨6, _⟩ => ⟨S8x32x512, .f32⟩
  | .hbm, ⟨7, _⟩ => ⟨S8x2x512, .f32⟩
  | .hbm, ⟨8, _⟩ => ⟨S8x1x512, .f32⟩
  | .hbm, ⟨9, _⟩ => ⟨S8x4x512, .f32⟩
  | .hbm, ⟨10, _⟩ => ⟨S8x4x512, .f32⟩
  | .hbm, ⟨11, _⟩ => ⟨S8x4x512, .f32⟩
  | .hbm, ⟨12, _⟩ => ⟨S8x4x512, .f32⟩
  | .hbm, ⟨13, _⟩ => ⟨S_, .f32⟩
  | .hbm, ⟨14, _⟩ => ⟨S64x512, .f32⟩
  | .hbm, ⟨15, _⟩ => ⟨S_, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S_, .f32⟩
  | .hbm, ⟨24, _⟩ => ⟨S4x512, .f32⟩
  | .hbm, ⟨25, _⟩ => ⟨S_, .f32⟩
  | .hbm, ⟨26, _⟩ => ⟨S32x512, .f32⟩
  | .hbm, ⟨27, _⟩ => ⟨S_, .f32⟩
  | .hbm, ⟨28, _⟩ => ⟨S2x512, .f32⟩
  | .hbm, ⟨29, _⟩ => ⟨S_, .f32⟩
  | .hbm, ⟨30, _⟩ => ⟨S1x512, .f32⟩
  | .hbm, ⟨31, _⟩ => ⟨S_, .f32⟩
  | .hbm, ⟨32, _⟩ => ⟨S4x512, .f32⟩
  | .hbm, ⟨33, _⟩ => ⟨S_, .f32⟩
  | .hbm, ⟨34, _⟩ => ⟨S4x512, .f32⟩
  | .hbm, ⟨35, _⟩ => ⟨S_, .f32⟩
  | .hbm, ⟨36, _⟩ => ⟨S4x512, .f32⟩
  | .hbm, ⟨37, _⟩ => ⟨S_, .f32⟩
  | .hbm, ⟨38, _⟩ => ⟨S4x512, .f32⟩
  | _, _ => ⟨S8x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_cst_3 : Ref sig .tc := ⟨.hbm, 21, rfl⟩
abbrev main_v4 : Ref sig .tc := ⟨.hbm, 22, rfl⟩
abbrev main_cst_4 : Ref sig .tc := ⟨.hbm, 23, rfl⟩
abbrev main_v5 : Ref sig .tc := ⟨.hbm, 24, rfl⟩
abbrev main_cst_5 : Ref sig .tc := ⟨.hbm, 25, rfl⟩
abbrev main_v6 : Ref sig .tc := ⟨.hbm, 26, rfl⟩
abbrev main_cst_6 : Ref sig .tc := ⟨.hbm, 27, rfl⟩
abbrev main_v7 : Ref sig .tc := ⟨.hbm, 28, rfl⟩
abbrev main_cst_7 : Ref sig .tc := ⟨.hbm, 29, rfl⟩
abbrev main_v8 : Ref sig .tc := ⟨.hbm, 30, rfl⟩
abbrev main_cst_8 : Ref sig .tc := ⟨.hbm, 31, rfl⟩
abbrev main_v9 : Ref sig .tc := ⟨.hbm, 32, rfl⟩
abbrev main_cst_9 : Ref sig .tc := ⟨.hbm, 33, rfl⟩
abbrev main_v10 : Ref sig .tc := ⟨.hbm, 34, rfl⟩
abbrev main_cst_10 : Ref sig .tc := ⟨.hbm, 35, rfl⟩
abbrev main_v11 : Ref sig .tc := ⟨.hbm, 36, rfl⟩
abbrev main_cst_11 : Ref sig .tc := ⟨.hbm, 37, rfl⟩
abbrev main_v12 : Ref sig .tc := ⟨.hbm, 38, rfl⟩

abbrev nD : Nat := 1
abbrev τ : Topo := Topo.v7x

variable {F : FTy → Type} [FloatOps F]
-- ==== Norm.lean ====
abbrev S2112x2048 : Shape := ⟨2, ![2112, 2048]⟩
abbrev S1x2048 : Shape := ⟨2, ![1, 2048]⟩
abbrev S2112x1 : Shape := ⟨2, ![2112, 1]⟩
abbrev S352x2048 : Shape := ⟨2, ![352, 2048]⟩
abbrev S352x1 : Shape := ⟨2, ![352, 1]⟩
abbrev S352 : Shape := ⟨1, ![352]⟩
abbrev S2048 : Shape := ⟨1, ![2048]⟩

abbrev nBuf : Space → Nat
  | .hbm => 9
  | .vmem => 21
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2112x2048, .f32⟩
  | .hbm, ⟨3, _⟩ => ⟨S2112x2048, .f32⟩
  | .hbm, ⟨4, _⟩ => ⟨S2112x2048, .bf16⟩
  | .hbm, ⟨5, _⟩ => ⟨S2112x1, .f32⟩
  | .hbm, ⟨6, _⟩ => ⟨S2112x2048, .f32⟩
  | .hbm, ⟨7, _⟩ => ⟨S1x2048, .f32⟩
  | .hbm, ⟨8, _⟩ => ⟨S2112x2048, .bf16⟩
  | .local _ .vmem, ⟨0, _⟩ => ⟨S352x2048, .f32⟩
  | .local _ .vmem, ⟨1, _⟩ => ⟨S352x2048, .f32⟩
  | .local _ .vmem, ⟨2, _⟩ => ⟨S1x2048, .f32⟩
  | .local _ .vmem, ⟨3, _⟩ => ⟨S352x2048, .bf16⟩
  | .local _ .vmem, ⟨4, _⟩ => ⟨S352x2048, .bf16⟩
  | .local _ .vmem, ⟨5, _⟩ => ⟨S352x1, .f32⟩
  | .local _ .vmem, ⟨6, _⟩ => ⟨S352x1, .f32⟩
  | .local _ .vmem, ⟨7, _⟩ => ⟨S352x2048, .f32⟩
  | .local _ .vmem, ⟨8, _⟩ => ⟨S352x2048, .f32⟩
  | .local _ .vmem, ⟨9, _⟩ => ⟨S352x2048, .f32⟩
  | .local _ .vmem, ⟨10, _⟩ => ⟨S352x2048, .f32⟩
  | .local _ .vmem, ⟨11, _⟩ => ⟨S1x2048, .f32⟩
  | .local _ .vmem, ⟨12, _⟩ => ⟨S352x1, .f32⟩
  | .local _ .vmem, ⟨13, _⟩ => ⟨S352x1, .f32⟩
  | .local _ .vmem, ⟨14, _⟩ => ⟨S352x2048, .f32⟩
  | .local _ .vmem, ⟨15, _⟩ => ⟨S352x2048, .f32⟩
  | .local _ .vmem, ⟨16, _⟩ => ⟨S352x2048, .f32⟩
  | .local _ .vmem, ⟨17, _⟩ => ⟨S352x2048, .f32⟩
  | .local _ .vmem, ⟨18, _⟩ => ⟨S1x2048, .f32⟩
  | .local _ .vmem, ⟨19, _⟩ => ⟨S352x2048, .bf16⟩
  | .local _ .vmem, ⟨20, _⟩ => ⟨S352x2048, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S352x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S352x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S352x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S352x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S352x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== NormRefIdeal.lean ====
abbrev S2112x2048 : Shape := ⟨2, ![2112, 2048]⟩
abbrev S1x2048 : Shape := ⟨2, ![1, 2048]⟩
abbrev S_ : Shape := ⟨0, ![]⟩
abbrev S2112 : Shape := ⟨1, ![2112]⟩
abbrev S2112x1 : Shape := ⟨2, ![2112, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2112x2048, .f32⟩
  | .hbm, ⟨3, _⟩ => ⟨S2112x2048, .f32⟩
  | .hbm, ⟨4, _⟩ => ⟨S2112x2048, .f32⟩
  | .hbm, ⟨5, _⟩ => ⟨S_, .f32⟩
  | .hbm, ⟨6, _⟩ => ⟨S2112, .f32⟩
  | .hbm, ⟨7, _⟩ => ⟨S2112x1, .f32⟩
  | .hbm, ⟨8, _⟩ => ⟨S_, .f32⟩
  | .hbm, ⟨9, _⟩ => ⟨S2112x1, .f32⟩
  | .hbm, ⟨10, _⟩ => ⟨S2112x1, .f32⟩
  | .hbm, ⟨11, _⟩ => ⟨S_, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S2112x1, .f32⟩
  | .hbm, ⟨16, _⟩ => ⟨S_, .f32⟩
  | .hbm, ⟨17, _⟩ => ⟨S2112x1, .f32⟩
  | .hbm, ⟨18, _⟩ => ⟨S2112x1, .f32⟩
  | .hbm, ⟨19, _⟩ => ⟨S2112x2048, .f32⟩
  | .hbm, ⟨20, _⟩ => ⟨S2112x2048, .f32⟩
  | .hbm, ⟨21, _⟩ => ⟨S2112x2048, .f32⟩
  | .hbm, ⟨22, _⟩ => ⟨S2112x2048, .f32⟩
  | .hbm, ⟨23, _⟩ => ⟨S2112x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2112x2048, .f32⟩
  | .hbm, ⟨28, _⟩ => ⟨S2112x2048, .f32⟩
  | .hbm, ⟨29, _⟩ => ⟨S2112x2048, .f32⟩
  | .hbm, ⟨30, _⟩ => ⟨S_, .f32⟩
  | .hbm, ⟨31, _⟩ => ⟨S2112, .f32⟩
  | .hbm, ⟨32, _⟩ => ⟨S2112x1, .f32⟩
  | .hbm, ⟨33, _⟩ => ⟨S2112x2048, .f32⟩
  | .hbm, ⟨34, _⟩ => ⟨S2112x2048, .f32⟩
  | .hbm, ⟨35, _⟩ => ⟨S2112x1, .f32⟩
  | .hbm, ⟨36, _⟩ => ⟨S_, .f32⟩
  | .hbm, ⟨37, _⟩ => ⟨S2112x1, .f32⟩
  | .hbm, ⟨38, _⟩ => ⟨S2112x1, .f32⟩
  | .hbm, ⟨39, _⟩ => ⟨S_, .f32⟩
  | .hbm, ⟨40, _⟩ => ⟨S2112, .f32⟩
  | .hbm, ⟨41, _⟩ => ⟨S2112x2048, .f32⟩
  | .hbm, ⟨42, _⟩ => ⟨S2112x2048, .f32⟩
  | .hbm, ⟨43, _⟩ => ⟨S2112x2048, .f32⟩
  | .hbm, ⟨44, _⟩ => ⟨S2112x2048, .f32⟩
  | .hbm, ⟨45, _⟩ => ⟨S2112x2048, .f32⟩
  | .hbm, ⟨46, _⟩ => ⟨S2112x2048, .f32⟩
  | .hbm, ⟨47, _⟩ => ⟨S2112x2048, .bf16⟩
  | .hbm, ⟨48, _⟩ => ⟨S_, .f32⟩
  | .hbm, ⟨49, _⟩ => ⟨S2112x2048, .f32⟩
  | .hbm, ⟨50, _⟩ => ⟨S2112x2048, .f32⟩
  | .hbm, ⟨51, _⟩ => ⟨S2112x2048, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S2112x2048 : Shape := ⟨2, ![2112, 2048]⟩
abbrev S1x2048 : Shape := ⟨2, ![1, 2048]⟩
abbrev S1x1 : Shape := ⟨2, ![1, 1]⟩
abbrev S352x2048 : Shape := ⟨2, ![352, 2048]⟩
abbrev S352x1 : Shape := ⟨2, ![352, 1]⟩
abbrev S352 : Shape := ⟨1, ![352]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2112x2048, .f32⟩
  | .hbm, ⟨3, _⟩ => ⟨S1x1, .f32⟩
  | .hbm, ⟨4, _⟩ => ⟨S2112x2048, .f32⟩
  | .hbm, ⟨5, _⟩ => ⟨S1x2048, .f32⟩
  | .hbm, ⟨6, _⟩ => ⟨S2112x2048, .bf16⟩
  | .local _ .vmem, ⟨0, _⟩ => ⟨S352x2048, .f32⟩
  | .local _ .vmem, ⟨1, _⟩ => ⟨S352x2048, .f32⟩
  | .local _ .vmem, ⟨2, _⟩ => ⟨S1x2048, .f32⟩
  | .local _ .vmem, ⟨3, _⟩ => ⟨S352x2048, .f32⟩
  | .local _ .vmem, ⟨4, _⟩ => ⟨S352x2048, .f32⟩
  | .local _ .vmem, ⟨5, _⟩ => ⟨S1x1, .f32⟩
  | .local _ .vmem, ⟨6, _⟩ => ⟨S352x2048, .f32⟩
  | .local _ .vmem, ⟨7, _⟩ => ⟨S352x2048, .f32⟩
  | .local _ .vmem, ⟨8, _⟩ => ⟨S1x2048, .f32⟩
  | .local _ .vmem, ⟨9, _⟩ => ⟨S352x2048, .bf16⟩
  | .local _ .vmem, ⟨10, _⟩ => ⟨S352x2048, .bf16⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRefIdeal.lean ====
abbrev S2112x2048 : Shape := ⟨2, ![2112, 2048]⟩
abbrev S1x2048 : Shape := ⟨2, ![1, 2048]⟩
abbrev S_ : Shape := ⟨0, ![]⟩
abbrev S2112 : Shape := ⟨1, ![2112]⟩
abbrev S2112x1 : Shape := ⟨2, ![2112, 1]⟩
abbrev S2048x2048 : Shape := ⟨2, ![2048, 2048]⟩
abbrev S2048 : Shape := ⟨1, ![2048]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2112x2048, .f32⟩
  | .hbm, ⟨3, _⟩ => ⟨S2112x2048, .f32⟩
  | .hbm, ⟨4, _⟩ => ⟨S_, .f32⟩
  | .hbm, ⟨5, _⟩ => ⟨S2112, .f32⟩
  | .hbm, ⟨6, _⟩ => ⟨S2112x1, .f32⟩
  | .hbm, ⟨7, _⟩ => ⟨S_, .f32⟩
  | .hbm, ⟨8, _⟩ => ⟨S2112x1, .f32⟩
  | .hbm, ⟨9, _⟩ => ⟨S2112x1, .f32⟩
  | .hbm, ⟨10, _⟩ => ⟨S_, .f32⟩
  | .hbm, ⟨11, _⟩ => ⟨S2112x1, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S_, .f32⟩
  | .hbm, ⟨16, _⟩ => ⟨S2112x1, .f32⟩
  | .hbm, ⟨17, _⟩ => ⟨S2112x1, .f32⟩
  | .hbm, ⟨18, _⟩ => ⟨S2112x2048, .f32⟩
  | .hbm, ⟨19, _⟩ => ⟨S2112x2048, .f32⟩
  | .hbm, ⟨20, _⟩ => ⟨S2112x2048, .f32⟩
  | .hbm, ⟨21, _⟩ => ⟨S2112x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2112x2048, .f32⟩
  | .hbm, ⟨49, _⟩ => ⟨S2112x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2112x2048, .f32⟩
  | .hbm, ⟨54, _⟩ => ⟨S2112x2048, .f32⟩
  | .hbm, ⟨55, _⟩ => ⟨S2112x2048, .f32⟩
  | .hbm, ⟨56, _⟩ => ⟨S_, .f32⟩
  | .hbm, ⟨57, _⟩ => ⟨S2112, .f32⟩
  | .hbm, ⟨58, _⟩ => ⟨S2112x1, .f32⟩
  | .hbm, ⟨59, _⟩ => ⟨S2112x2048, .f32⟩
  | .hbm, ⟨60, _⟩ => ⟨S2112x2048, .f32⟩
  | .hbm, ⟨61, _⟩ => ⟨S2112x1, .f32⟩
  | .hbm, ⟨62, _⟩ => ⟨S_, .f32⟩
  | .hbm, ⟨63, _⟩ => ⟨S2112x1, .f32⟩
  | .hbm, ⟨64, _⟩ => ⟨S2112x1, .f32⟩
  | .hbm, ⟨65, _⟩ => ⟨S_, .f32⟩
  | .hbm, ⟨66, _⟩ => ⟨S2112, .f32⟩
  | .hbm, ⟨67, _⟩ => ⟨S2112x2048, .f32⟩
  | .hbm, ⟨68, _⟩ => ⟨S2112x2048, .f32⟩
  | .hbm, ⟨69, _⟩ => ⟨S2112x2048, .f32⟩
  | .hbm, ⟨70, _⟩ => ⟨S2112x2048, .f32⟩
  | .hbm, ⟨71, _⟩ => ⟨S2112x2048, .f32⟩
  | .hbm, ⟨72, _⟩ => ⟨S1x1, .f32⟩
  | .hbm, ⟨73, _⟩ => ⟨S_, .f32⟩
  | .hbm, ⟨74, _⟩ => ⟨S2112x2048, .f32⟩
  | .hbm, ⟨75, _⟩ => ⟨S2112x2048, .f32⟩
  | .hbm, ⟨76, _⟩ => ⟨S2112x2048, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== GlaProj.lean ====
abbrev S2112x2048 : Shape := ⟨2, ![2112, 2048]⟩
abbrev S2048x6272 : Shape := ⟨2, ![2048, 6272]⟩
abbrev S2112x6272 : Shape := ⟨2, ![2112, 6272]⟩
abbrev S704x2048 : Shape := ⟨2, ![704, 2048]⟩
abbrev S2048x896 : Shape := ⟨2, ![2048, 896]⟩
abbrev S704x896 : Shape := ⟨2, ![704, 896]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S2048x6272, .bf16⟩
  | .hbm, ⟨2, _⟩ => ⟨S2112x6272, .f32⟩
  | .local _ .vmem, ⟨0, _⟩ => ⟨S704x2048, .bf16⟩
  | .local _ .vmem, ⟨1, _⟩ => ⟨S704x2048, .bf16⟩
  | .local _ .vmem, ⟨2, _⟩ => ⟨S2048x896, .bf16⟩
  | .local _ .vmem, ⟨3, _⟩ => ⟨S2048x896, .bf16⟩
  | .local _ .vmem, ⟨4, _⟩ => ⟨S704x896, .f32⟩
  | .local _ .vmem, ⟨5, _⟩ => ⟨S704x896, .f32⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaProjRefIdeal.lean ====
abbrev S2112x2048 : Shape := ⟨2, ![2112, 2048]⟩
abbrev S2048x6272 : Shape := ⟨2, ![2048, 6272]⟩
abbrev S2112x6272 : Shape := ⟨2, ![2112, 6272]⟩

abbrev nBuf : Space → Nat
  | .hbm => 5
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2048x6272, .bf16⟩
  | .hbm, ⟨2, _⟩ => ⟨S2112x2048, .f32⟩
  | .hbm, ⟨3, _⟩ => ⟨S2048x6272, .f32⟩
  | .hbm, ⟨4, _⟩ => ⟨S2112x6272, .f32⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GlaProjW.lean ====
abbrev S2112x2048 : Shape := ⟨2, ![2112, 2048]⟩
abbrev S2112x6272 : Shape := ⟨2, ![2112, 6272]⟩
abbrev S2048x6272 : Shape := ⟨2, ![2048, 6272]⟩
abbrev S2112x512 : Shape := ⟨2, ![2112, 512]⟩
abbrev S2112x896 : Shape := ⟨2, ![2112, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S2112x6272, .bf16⟩
  | .hbm, ⟨2, _⟩ => ⟨S2048x6272, .bf16⟩
  | .local _ .vmem, ⟨0, _⟩ => ⟨S2112x512, .bf16⟩
  | .local _ .vmem, ⟨1, _⟩ => ⟨S2112x512, .bf16⟩
  | .local _ .vmem, ⟨2, _⟩ => ⟨S2112x896, .bf16⟩
  | .local _ .vmem, ⟨3, _⟩ => ⟨S2112x896, .bf16⟩
  | .local _ .vmem, ⟨4, _⟩ => ⟨S512x896, .bf16⟩
  | .local _ .vmem, ⟨5, _⟩ => ⟨S512x896, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaProjWRefIdeal.lean ====
abbrev S2112x2048 : Shape := ⟨2, ![2112, 2048]⟩
abbrev S2112x6272 : Shape := ⟨2, ![2112, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2112x6272, .bf16⟩
  | .hbm, ⟨2, _⟩ => ⟨S_, .f32⟩
  | .hbm, ⟨3, _⟩ => ⟨S2048x6272, .f32⟩
  | .hbm, ⟨4, _⟩ => ⟨S2112x2048, .f32⟩
  | .hbm, ⟨5, _⟩ => ⟨S2112x6272, .f32⟩
  | .hbm, ⟨6, _⟩ => ⟨S2112x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GlaProjH.lean ====
abbrev S2112x6272 : Shape := ⟨2, ![2112, 6272]⟩
abbrev S2048x6272 : Shape := ⟨2, ![2048, 6272]⟩
abbrev S2112x2048 : Shape := ⟨2, ![2112, 2048]⟩
abbrev S704x896 : Shape := ⟨2, ![704, 896]⟩
abbrev S2048x896 : Shape := ⟨2, ![2048, 896]⟩
abbrev S704x2048 : Shape := ⟨2, ![704, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2112x6272, .bf16⟩
  | .hbm, ⟨1, _⟩ => ⟨S2048x6272, .bf16⟩
  | .hbm, ⟨2, _⟩ => ⟨S2112x2048, .f32⟩
  | .local _ .vmem, ⟨0, _⟩ => ⟨S704x896, .bf16⟩
  | .local _ .vmem, ⟨1, _⟩ => ⟨S704x896, .bf16⟩
  | .local _ .vmem, ⟨2, _⟩ => ⟨S2048x896, .bf16⟩
  | .local _ .vmem, ⟨3, _⟩ => ⟨S2048x896, .bf16⟩
  | .local _ .vmem, ⟨4, _⟩ => ⟨S704x2048, .f32⟩
  | .local _ .vmem, ⟨5, _⟩ => ⟨S704x2048, .f32⟩
  | _, _ => ⟨S2112x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![3, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S704x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GlaProjHRefIdeal.lean ====
abbrev S2112x6272 : Shape := ⟨2, ![2112, 6272]⟩
abbrev S2048x6272 : Shape := ⟨2, ![2048, 6272]⟩
abbrev S_ : Shape := ⟨0, ![]⟩
abbrev S2112x2048 : Shape := ⟨2, ![2112, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2112x6272, .bf16⟩
  | .hbm, ⟨1, _⟩ => ⟨S2048x6272, .bf16⟩
  | .hbm, ⟨2, _⟩ => ⟨S_, .f32⟩
  | .hbm, ⟨3, _⟩ => ⟨S2112x2048, .f32⟩
  | .hbm, ⟨4, _⟩ => ⟨S2048x6272, .f32⟩
  | .hbm, ⟨5, _⟩ => ⟨S2112x6272, .f32⟩
  | .hbm, ⟨6, _⟩ => ⟨S2112x6272, .f32⟩
  | .hbm, ⟨7, _⟩ => ⟨S2112x2048, .f32⟩
  | _, _ => ⟨S2112x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GlaOut.lean ====
abbrev S2112x2048 : Shape := ⟨2, ![2112, 2048]⟩
abbrev S2048x2048 : Shape := ⟨2, ![2048, 2048]⟩
abbrev S352x2048 : Shape := ⟨2, ![352, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S2048x2048, .bf16⟩
  | .hbm, ⟨2, _⟩ => ⟨S2112x2048, .f32⟩
  | .hbm, ⟨3, _⟩ => ⟨S2112x2048, .f32⟩
  | .local _ .vmem, ⟨0, _⟩ => ⟨S352x2048, .f32⟩
  | .local _ .vmem, ⟨1, _⟩ => ⟨S352x2048, .bf16⟩
  | .local _ .vmem, ⟨2, _⟩ => ⟨S352x2048, .bf16⟩
  | .local _ .vmem, ⟨3, _⟩ => ⟨S2048x2048, .bf16⟩
  | .local _ .vmem, ⟨4, _⟩ => ⟨S352x2048, .f32⟩
  | .local _ .vmem, ⟨5, _⟩ => ⟨S352x2048, .f32⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![6, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S352x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S352x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== GlaOutRefIdeal.lean ====
abbrev S2112x2048 : Shape := ⟨2, ![2112, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2048x2048, .bf16⟩
  | .hbm, ⟨2, _⟩ => ⟨S2112x2048, .f32⟩
  | .hbm, ⟨3, _⟩ => ⟨S2112x2048, .f32⟩
  | .hbm, ⟨4, _⟩ => ⟨S2048x2048, .f32⟩
  | .hbm, ⟨5, _⟩ => ⟨S2112x2048, .f32⟩
  | .hbm, ⟨6, _⟩ => ⟨S2112x2048, .f32⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GlaOutW.lean ====
abbrev S2112x2048 : Shape := ⟨2, ![2112, 2048]⟩
abbrev S2048x2048 : Shape := ⟨2, ![2048, 2048]⟩
abbrev S2112x512 : Shape := ⟨2, ![2112, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S2112x2048, .f32⟩
  | .hbm, ⟨2, _⟩ => ⟨S2048x2048, .bf16⟩
  | .local _ .vmem, ⟨0, _⟩ => ⟨S2112x512, .bf16⟩
  | .local _ .vmem, ⟨1, _⟩ => ⟨S2112x512, .bf16⟩
  | .local _ .vmem, ⟨2, _⟩ => ⟨S2112x512, .f32⟩
  | .local _ .vmem, ⟨3, _⟩ => ⟨S2112x512, .f32⟩
  | .local _ .vmem, ⟨4, _⟩ => ⟨S512x512, .bf16⟩
  | .local _ .vmem, ⟨5, _⟩ => ⟨S512x512, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaOutWRefIdeal.lean ====
abbrev S2112x2048 : Shape := ⟨2, ![2112, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2112x2048, .f32⟩
  | .hbm, ⟨2, _⟩ => ⟨S_, .f32⟩
  | .hbm, ⟨3, _⟩ => ⟨S2048x2048, .f32⟩
  | .hbm, ⟨4, _⟩ => ⟨S2112x2048, .f32⟩
  | .hbm, ⟨5, _⟩ => ⟨S2112x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GlaOutH.lean ====
abbrev S2112x2048 : Shape := ⟨2, ![2112, 2048]⟩
abbrev S2048x2048 : Shape := ⟨2, ![2048, 2048]⟩
abbrev S352x2048 : Shape := ⟨2, ![352, 2048]⟩
abbrev S512x2048 : Shape := ⟨2, ![512, 2048]⟩
abbrev S352x512 : Shape := ⟨2, ![352, 512]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .f32⟩
  | .hbm, ⟨1, _⟩ => ⟨S2048x2048, .bf16⟩
  | .hbm, ⟨2, _⟩ => ⟨S2112x2048, .f32⟩
  | .local _ .vmem, ⟨0, _⟩ => ⟨S352x2048, .f32⟩
  | .local _ .vmem, ⟨1, _⟩ => ⟨S352x2048, .f32⟩
  | .local _ .vmem, ⟨2, _⟩ => ⟨S512x2048, .bf16⟩
  | .local _ .vmem, ⟨3, _⟩ => ⟨S512x2048, .bf16⟩
  | .local _ .vmem, ⟨4, _⟩ => ⟨S352x512, .f32⟩
  | .local _ .vmem, ⟨5, _⟩ => ⟨S352x512, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![6, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S352x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GlaOutHRefIdeal.lean ====
abbrev S2112x2048 : Shape := ⟨2, ![2112, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2048x2048, .bf16⟩
  | .hbm, ⟨2, _⟩ => ⟨S_, .f32⟩
  | .hbm, ⟨3, _⟩ => ⟨S2112x2048, .f32⟩
  | .hbm, ⟨4, _⟩ => ⟨S2048x2048, .f32⟩
  | .hbm, ⟨5, _⟩ => ⟨S2112x2048, .f32⟩
  | .hbm, ⟨6, _⟩ => ⟨S2112x2048, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PairUp.lean ====
abbrev S4x2x1024x1408 : Shape := ⟨4, ![4, 2, 1024, 1408]⟩
abbrev S4x1024x1408 : Shape := ⟨3, ![4, 1024, 1408]⟩
abbrev S_ : Shape := ⟨0, ![]⟩
abbrev S1 : Shape := ⟨1, ![1]⟩
abbrev S1x1x512x1408 : Shape := ⟨4, ![1, 1, 512, 1408]⟩
abbrev S1x512x1408 : Shape := ⟨3, ![1, 512, 1408]⟩
abbrev S512x1408 : Shape := ⟨2, ![512, 1408]⟩

abbrev nBuf : Space → Nat
  | .hbm => 4
  | .vmem => 6
  | .smem => 1
  | _ => 0

abbrev bufTy : (tb : Table) → Fin (tcTables nBuf tb) → BufTy
  | .hbm, ⟨0, _⟩ => ⟨S4x2x1024x1408, .bf16⟩
  | .hbm, ⟨1, _⟩ => ⟨S4x1024x1408, .bf16⟩
  | .hbm, ⟨2, _⟩ => ⟨S_, .i32⟩
  | .hbm, ⟨3, _⟩ => ⟨S4x1024x1408, .bf16⟩
  | .local _ .vmem, ⟨0, _⟩ => ⟨S1x1x512x1408, .bf16⟩
  | .local _ .vmem, ⟨1, _⟩ => ⟨S1x1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .smem, ⟨0, _⟩ => ⟨S1, .i32⟩
  | _, _ => ⟨S4x2x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUpIdeal.lean ====
abbrev S4x2x1024x1408 : Shape := ⟨4, ![4, 2, 1024, 1408]⟩
abbrev S4x1024x1408 : Shape := ⟨3, ![4, 1024, 1408]⟩
abbrev S_ : Shape := ⟨0, ![]⟩
abbrev S1 : Shape := ⟨1, ![1]⟩
abbrev S1x1x512x1408 : Shape := ⟨4, ![1, 1, 512, 1408]⟩
abbrev S1x512x1408 : Shape := ⟨3, ![1, 512, 1408]⟩
abbrev S512x1408 : Shape := ⟨2, ![512, 1408]⟩

abbrev nBuf : Space → Nat
  | .hbm => 4
  | .vmem => 6
  | .smem => 1
  | _ => 0

abbrev bufTy : (tb : Table) → Fin (tcTables nBuf tb) → BufTy
  | .hbm, ⟨0, _⟩ => ⟨S4x2x1024x1408, .bf16⟩
  | .hbm, ⟨1, _⟩ => ⟨S4x1024x1408, .bf16⟩
  | .hbm, ⟨2, _⟩ => ⟨S_, .i32⟩
  | .hbm, ⟨3, _⟩ => ⟨S4x1024x1408, .bf16⟩
  | .local _ .vmem, ⟨0, _⟩ => ⟨S1x1x512x1408, .bf16⟩
  | .local _ .vmem, ⟨1, _⟩ => ⟨S1x1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | .local _ .smem, ⟨0, _⟩ => ⟨S1, .i32⟩
  | _, _ => ⟨S4x2x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUpRefIdeal.lean ====
abbrev S4x2x1024x1408 : Shape := ⟨4, ![4, 2, 1024, 1408]⟩
abbrev S4x1024x1408 : Shape := ⟨3, ![4, 1024, 1408]⟩
abbrev S4x1x1024x1408 : Shape := ⟨4, ![4, 1, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4x2x1024x1408, .bf16⟩
  | .hbm, ⟨1, _⟩ => ⟨S4x1024x1408, .bf16⟩
  | .hbm, ⟨2, _⟩ => ⟨S4x1x1024x1408, .bf16⟩
  | .hbm, ⟨3, _⟩ => ⟨S4x1024x1408, .bf16⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .bf16⟩
  | _, _ => ⟨S4x2x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SumUp.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S4x2x1024x1408 : Shape := ⟨4, ![4, 2, 1024, 1408]⟩
abbrev S1x512x1408 : Shape := ⟨3, ![1, 512, 1408]⟩
abbrev S3x512x1408 : Shape := ⟨3, ![3, 512, 1408]⟩
abbrev S1x1x512x1408 : Shape := ⟨4, ![1, 1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 7
  | .vmem => 6
  | .smem => 2
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S_, .i32⟩
  | .hbm, ⟨3, _⟩ => ⟨S_, .i32⟩
  | .hbm, ⟨4, _⟩ => ⟨S4x2x1024x1408, .f32⟩
  | .hbm, ⟨5, _⟩ => ⟨S1x1x1024x1408, .f32⟩
  | .hbm, ⟨6, _⟩ => ⟨S1024x1408, .f32⟩
  | .local _ .vmem, ⟨0, _⟩ => ⟨S1x512x1408, .bf16⟩
  | .local _ .vmem, ⟨1, _⟩ => ⟨S1x512x1408, .bf16⟩
  | .local _ .vmem, ⟨2, _⟩ => ⟨S3x512x1408, .bf16⟩
  | .local _ .vmem, ⟨3, _⟩ => ⟨S3x512x1408, .bf16⟩
  | .local _ .vmem, ⟨4, _⟩ => ⟨S1x1x512x1408, .f32⟩
  | .local _ .vmem, ⟨5, _⟩ => ⟨S1x1x512x1408, .f32⟩
  | .local _ .smem, ⟨0, _⟩ => ⟨S1, .i32⟩
  | .local _ .smem, ⟨1, _⟩ => ⟨S1, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c3_i32 : BitVec 32 := 3#32
  let c0_i32 : BitVec 32 := 0#32
  let c0_i32_0 : BitVec 32 := 0#32
  ![c3_i32.toNat, v0.toNat, arg0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumUpIdeal.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S4x2x1024x1408 : Shape := ⟨4, ![4, 2, 1024, 1408]⟩
abbrev S1x512x1408 : Shape := ⟨3, ![1, 512, 1408]⟩
abbrev S3x512x1408 : Shape := ⟨3, ![3, 512, 1408]⟩
abbrev S1x1x512x1408 : Shape := ⟨4, ![1, 1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩

abbrev nBuf : Space → Nat
  | .hbm => 7
  | .vmem => 6
  | .smem => 2
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S_, .i32⟩
  | .hbm, ⟨3, _⟩ => ⟨S_, .i32⟩
  | .hbm, ⟨4, _⟩ => ⟨S4x2x1024x1408, .f32⟩
  | .hbm, ⟨5, _⟩ => ⟨S1x1x1024x1408, .f32⟩
  | .hbm, ⟨6, _⟩ => ⟨S1024x1408, .f32⟩
  | .local _ .vmem, ⟨0, _⟩ => ⟨S1x512x1408, .bf16⟩
  | .local _ .vmem, ⟨1, _⟩ => ⟨S1x512x1408, .bf16⟩
  | .local _ .vmem, ⟨2, _⟩ => ⟨S3x512x1408, .bf16⟩
  | .local _ .vmem, ⟨3, _⟩ => ⟨S3x512x1408, .bf16⟩
  | .local _ .vmem, ⟨4, _⟩ => ⟨S1x1x512x1408, .f32⟩
  | .local _ .vmem, ⟨5, _⟩ => ⟨S1x1x512x1408, .f32⟩
  | .local _ .smem, ⟨0, _⟩ => ⟨S1, .i32⟩
  | .local _ .smem, ⟨1, _⟩ => ⟨S1, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c3_i32 : BitVec 32 := 3#32
  let c0_i32 : BitVec 32 := 0#32
  let c0_i32_0 : BitVec 32 := 0#32
  ![c3_i32.toNat, v0.toNat, arg0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumUpRefIdeal.lean ====
abbrev S4x1024x1408 : Shape := ⟨3, ![4, 1024, 1408]⟩
abbrev S3x1024x1408 : Shape := ⟨3, ![3, 1024, 1408]⟩
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S1x1024x1408, .bf16⟩
  | .hbm, ⟨3, _⟩ => ⟨S1024x1408, .bf16⟩
  | .hbm, ⟨4, _⟩ => ⟨S1024x1408, .f32⟩
  | .hbm, ⟨5, _⟩ => ⟨S3x1024x1408, .f32⟩
  | .hbm, ⟨6, _⟩ => ⟨S_, .f32⟩
  | .hbm, ⟨7, _⟩ => ⟨S1024x1408, .f32⟩
  | .hbm, ⟨8, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PairDown.lean ====
abbrev S4x2x704x2048 : Shape := ⟨4, ![4, 2, 704, 2048]⟩
abbrev S4x704x2048 : Shape := ⟨3, ![4, 704, 2048]⟩
abbrev S_ : Shape := ⟨0, ![]⟩
abbrev S1 : Shape := ⟨1, ![1]⟩
abbrev S1x1x352x2048 : Shape := ⟨4, ![1, 1, 352, 2048]⟩
abbrev S1x352x2048 : Shape := ⟨3, ![1, 352, 2048]⟩
abbrev S352x2048 : Shape := ⟨2, ![352, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S_, .i32⟩
  | .hbm, ⟨3, _⟩ => ⟨S4x704x2048, .bf16⟩
  | .local _ .vmem, ⟨0, _⟩ => ⟨S1x1x352x2048, .bf16⟩
  | .local _ .vmem, ⟨1, _⟩ => ⟨S1x1x352x2048, .bf16⟩
  | .local _ .vmem, ⟨2, _⟩ => ⟨S1x352x2048, .bf16⟩
  | .local _ .vmem, ⟨3, _⟩ => ⟨S1x352x2048, .bf16⟩
  | .local _ .vmem, ⟨4, _⟩ => ⟨S1x352x2048, .bf16⟩
  | .local _ .vmem, ⟨5, _⟩ => ⟨S1x352x2048, .bf16⟩
  | .local _ .smem, ⟨0, _⟩ => ⟨S1, .i32⟩
  | _, _ => ⟨S4x2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDownIdeal.lean ====
abbrev S4x2x704x2048 : Shape := ⟨4, ![4, 2, 704, 2048]⟩
abbrev S4x704x2048 : Shape := ⟨3, ![4, 704, 2048]⟩
abbrev S_ : Shape := ⟨0, ![]⟩
abbrev S1 : Shape := ⟨1, ![1]⟩
abbrev S1x1x352x2048 : Shape := ⟨4, ![1, 1, 352, 2048]⟩
abbrev S1x352x2048 : Shape := ⟨3, ![1, 352, 2048]⟩
abbrev S352x2048 : Shape := ⟨2, ![352, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S_, .i32⟩
  | .hbm, ⟨3, _⟩ => ⟨S4x704x2048, .bf16⟩
  | .local _ .vmem, ⟨0, _⟩ => ⟨S1x1x352x2048, .bf16⟩
  | .local _ .vmem, ⟨1, _⟩ => ⟨S1x1x352x2048, .bf16⟩
  | .local _ .vmem, ⟨2, _⟩ => ⟨S1x352x2048, .bf16⟩
  | .local _ .vmem, ⟨3, _⟩ => ⟨S1x352x2048, .bf16⟩
  | .local _ .vmem, ⟨4, _⟩ => ⟨S1x352x2048, .bf16⟩
  | .local _ .vmem, ⟨5, _⟩ => ⟨S1x352x2048, .bf16⟩
  | .local _ .smem, ⟨0, _⟩ => ⟨S1, .i32⟩
  | _, _ => ⟨S4x2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDownRefIdeal.lean ====
abbrev S4x2x704x2048 : Shape := ⟨4, ![4, 2, 704, 2048]⟩
abbrev S4x704x2048 : Shape := ⟨3, ![4, 704, 2048]⟩
abbrev S4x1x704x2048 : Shape := ⟨4, ![4, 1, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S4x1x704x2048, .bf16⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .bf16⟩
  | _, _ => ⟨S4x2x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SumDown.lean ====
abbrev S4x704x2048 : Shape := ⟨3, ![4, 704, 2048]⟩
abbrev S3x704x2048 : Shape := ⟨3, ![3, 704, 2048]⟩
abbrev S_ : Shape := ⟨0, ![]⟩
abbrev S1 : Shape := ⟨1, ![1]⟩
abbrev S4x2x704x2048 : Shape := ⟨4, ![4, 2, 704, 2048]⟩
abbrev S1x352x2048 : Shape := ⟨3, ![1, 352, 2048]⟩
abbrev S3x352x2048 : Shape := ⟨3, ![3, 352, 2048]⟩
abbrev S1x1x352x2048 : Shape := ⟨4, ![1, 1, 352, 2048]⟩
abbrev S352x2048 : Shape := ⟨2, ![352, 2048]⟩
abbrev S1x1x704x2048 : Shape := ⟨4, ![1, 1, 704, 2048]⟩
abbrev S704x2048 : Shape := ⟨2, ![704, 2048]⟩

abbrev nBuf : Space → Nat
  | .hbm => 7
  | .vmem => 6
  | .smem => 2
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S_, .i32⟩
  | .hbm, ⟨3, _⟩ => ⟨S_, .i32⟩
  | .hbm, ⟨4, _⟩ => ⟨S4x2x704x2048, .f32⟩
  | .hbm, ⟨5, _⟩ => ⟨S1x1x704x2048, .f32⟩
  | .hbm, ⟨6, _⟩ => ⟨S704x2048, .f32⟩
  | .local _ .vmem, ⟨0, _⟩ => ⟨S1x352x2048, .bf16⟩
  | .local _ .vmem, ⟨1, _⟩ => ⟨S1x352x2048, .bf16⟩
  | .local _ .vmem, ⟨2, _⟩ => ⟨S3x352x2048, .bf16⟩
  | .local _ .vmem, ⟨3, _⟩ => ⟨S3x352x2048, .bf16⟩
  | .local _ .vmem, ⟨4, _⟩ => ⟨S1x1x352x2048, .f32⟩
  | .local _ .vmem, ⟨5, _⟩ => ⟨S1x1x352x2048, .f32⟩
  | .local _ .smem, ⟨0, _⟩ => ⟨S1, .i32⟩
  | .local _ .smem, ⟨1, _⟩ => ⟨S1, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c3_i32 : BitVec 32 := 3#32
  let c0_i32 : BitVec 32 := 0#32
  let c0_i32_0 : BitVec 32 := 0#32
  ![c3_i32.toNat, v0.toNat, arg0.toNat, c0_i32.toNat]

abbrev stage0_0 : Fin 2 → Memref sig .tc .vmem S1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumDownIdeal.lean ====
abbrev S4x704x2048 : Shape := ⟨3, ![4, 704, 2048]⟩
abbrev S3x704x2048 : Shape := ⟨3, ![3, 704, 2048]⟩
abbrev S_ : Shape := ⟨0, ![]⟩
abbrev S1 : Shape := ⟨1, ![1]⟩
abbrev S4x2x704x2048 : Shape := ⟨4, ![4, 2, 704, 2048]⟩
abbrev S1x352x2048 : Shape := ⟨3, ![1, 352, 2048]⟩
abbrev S3x352x2048 : Shape := ⟨3, ![3, 352, 2048]⟩
abbrev S1x1x352x2048 : Shape := ⟨4, ![1, 1, 352, 2048]⟩
abbrev S352x2048 : Shape := ⟨2, ![352, 2048]⟩
abbrev S1x1x704x2048 : Shape := ⟨4, ![1, 1, 704, 2048]⟩
abbrev S704x2048 : Shape := ⟨2, ![704, 2048]⟩

abbrev nBuf : Space → Nat
  | .hbm => 7
  | .vmem => 6
  | .smem => 2
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S_, .i32⟩
  | .hbm, ⟨3, _⟩ => ⟨S_, .i32⟩
  | .hbm, ⟨4, _⟩ => ⟨S4x2x704x2048, .f32⟩
  | .hbm, ⟨5, _⟩ => ⟨S1x1x704x2048, .f32⟩
  | .hbm, ⟨6, _⟩ => ⟨S704x2048, .f32⟩
  | .local _ .vmem, ⟨0, _⟩ => ⟨S1x352x2048, .bf16⟩
  | .local _ .vmem, ⟨1, _⟩ => ⟨S1x352x2048, .bf16⟩
  | .local _ .vmem, ⟨2, _⟩ => ⟨S3x352x2048, .bf16⟩
  | .local _ .vmem, ⟨3, _⟩ => ⟨S3x352x2048, .bf16⟩
  | .local _ .vmem, ⟨4, _⟩ => ⟨S1x1x352x2048, .f32⟩
  | .local _ .vmem, ⟨5, _⟩ => ⟨S1x1x352x2048, .f32⟩
  | .local _ .smem, ⟨0, _⟩ => ⟨S1, .i32⟩
  | .local _ .smem, ⟨1, _⟩ => ⟨S1, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c3_i32 : BitVec 32 := 3#32
  let c0_i32 : BitVec 32 := 0#32
  let c0_i32_0 : BitVec 32 := 0#32
  ![c3_i32.toNat, v0.toNat, arg0.toNat, c0_i32.toNat]

abbrev stage0_0 : Fin 2 → Memref sig .tc .vmem S1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumDownRefIdeal.lean ====
abbrev S4x704x2048 : Shape := ⟨3, ![4, 704, 2048]⟩
abbrev S3x704x2048 : Shape := ⟨3, ![3, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S1x704x2048, .bf16⟩
  | .hbm, ⟨3, _⟩ => ⟨S704x2048, .bf16⟩
  | .hbm, ⟨4, _⟩ => ⟨S704x2048, .f32⟩
  | .hbm, ⟨5, _⟩ => ⟨S3x704x2048, .f32⟩
  | .hbm, ⟨6, _⟩ => ⟨S_, .f32⟩
  | .hbm, ⟨7, _⟩ => ⟨S704x2048, .f32⟩
  | .hbm, ⟨8, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PairIn.lean ====
abbrev S4x2x1024x1540 : Shape := ⟨4, ![4, 2, 1024, 1540]⟩
abbrev S4x1024x1540 : Shape := ⟨3, ![4, 1024, 1540]⟩
abbrev S_ : Shape := ⟨0, ![]⟩
abbrev S1 : Shape := ⟨1, ![1]⟩
abbrev S1x1x512x1540 : Shape := ⟨4, ![1, 1, 512, 1540]⟩
abbrev S1x512x1540 : Shape := ⟨3, ![1, 512, 1540]⟩
abbrev S512x1540 : Shape := ⟨2, ![512, 1540]⟩

abbrev nBuf : Space → Nat
  | .hbm => 4
  | .vmem => 6
  | .smem => 1
  | _ => 0

abbrev bufTy : (tb : Table) → Fin (tcTables nBuf tb) → BufTy
  | .hbm, ⟨0, _⟩ => ⟨S4x2x1024x1540, .bf16⟩
  | .hbm, ⟨1, _⟩ => ⟨S4x1024x1540, .bf16⟩
  | .hbm, ⟨2, _⟩ => ⟨S_, .i32⟩
  | .hbm, ⟨3, _⟩ => ⟨S4x1024x1540, .bf16⟩
  | .local _ .vmem, ⟨0, _⟩ => ⟨S1x1x512x1540, .bf16⟩
  | .local _ .vmem, ⟨1, _⟩ => ⟨S1x1x512x1540, .bf16⟩
  | .local _ .vmem, ⟨2, _⟩ => ⟨S1x512x1540, .bf16⟩
  | .local _ .vmem, ⟨3, _⟩ => ⟨S1x512x1540, .bf16⟩
  | .local _ .vmem, ⟨4, _⟩ => ⟨S1x512x1540, .bf16⟩
  | .local _ .vmem, ⟨5, _⟩ => ⟨S1x512x1540, .bf16⟩
  | .local _ .smem, ⟨0, _⟩ => ⟨S1, .i32⟩
  | _, _ => ⟨S4x2x1024x1540, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1540 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1540 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1540 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInIdeal.lean ====
abbrev S4x2x1024x1540 : Shape := ⟨4, ![4, 2, 1024, 1540]⟩
abbrev S4x1024x1540 : Shape := ⟨3, ![4, 1024, 1540]⟩
abbrev S_ : Shape := ⟨0, ![]⟩
abbrev S1 : Shape := ⟨1, ![1]⟩
abbrev S1x1x512x1540 : Shape := ⟨4, ![1, 1, 512, 1540]⟩
abbrev S1x512x1540 : Shape := ⟨3, ![1, 512, 1540]⟩
abbrev S512x1540 : Shape := ⟨2, ![512, 1540]⟩

abbrev nBuf : Space → Nat
  | .hbm => 4
  | .vmem => 6
  | .smem => 1
  | _ => 0

abbrev bufTy : (tb : Table) → Fin (tcTables nBuf tb) → BufTy
  | .hbm, ⟨0, _⟩ => ⟨S4x2x1024x1540, .bf16⟩
  | .hbm, ⟨1, _⟩ => ⟨S4x1024x1540, .bf16⟩
  | .hbm, ⟨2, _⟩ => ⟨S_, .i32⟩
  | .hbm, ⟨3, _⟩ => ⟨S4x1024x1540, .bf16⟩
  | .local _ .vmem, ⟨0, _⟩ => ⟨S1x1x512x1540, .bf16⟩
  | .local _ .vmem, ⟨1, _⟩ => ⟨S1x1x512x1540, .bf16⟩
  | .local _ .vmem, ⟨2, _⟩ => ⟨S1x512x1540, .bf16⟩
  | .local _ .vmem, ⟨3, _⟩ => ⟨S1x512x1540, .bf16⟩
  | .local _ .vmem, ⟨4, _⟩ => ⟨S1x512x1540, .bf16⟩
  | .local _ .vmem, ⟨5, _⟩ => ⟨S1x512x1540, .bf16⟩
  | .local _ .smem, ⟨0, _⟩ => ⟨S1, .i32⟩
  | _, _ => ⟨S4x2x1024x1540, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1540 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1540 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1540 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInRefIdeal.lean ====
abbrev S4x2x1024x1540 : Shape := ⟨4, ![4, 2, 1024, 1540]⟩
abbrev S4x1024x1540 : Shape := ⟨3, ![4, 1024, 1540]⟩
abbrev S4x1x1024x1540 : Shape := ⟨4, ![4, 1, 1024, 1540]⟩

abbrev nBuf : Space → Nat
  | .hbm => 8
  | .vmem => 0
  | .smem => 0
  | _ => 0

abbrev bufTy : (tb : Table) → Fin (tcTables nBuf tb) → BufTy
  | .hbm, ⟨0, _⟩ => ⟨S4x2x1024x1540, .bf16⟩
  | .hbm, ⟨1, _⟩ => ⟨S4x1024x1540, .bf16⟩
  | .hbm, ⟨2, _⟩ => ⟨S4x1x1024x1540, .bf16⟩
  | .hbm, ⟨3, _⟩ => ⟨S4x1024x1540, .bf16⟩
  | .hbm, ⟨4, _⟩ => ⟨S4x1024x1540, .f32⟩
  | .hbm, ⟨5, _⟩ => ⟨S4x1024x1540, .f32⟩
  | .hbm, ⟨6, _⟩ => ⟨S4x1024x1540, .f32⟩
  | .hbm, ⟨7, _⟩ => ⟨S4x1024x1540, .bf16⟩
  | _, _ => ⟨S4x2x1024x1540, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SumIn.lean ====
abbrev S4x1024x1540 : Shape := ⟨3, ![4, 1024, 1540]⟩
abbrev S3x1024x1540 : Shape := ⟨3, ![3, 1024, 1540]⟩
abbrev S_ : Shape := ⟨0, ![]⟩
abbrev S1 : Shape := ⟨1, ![1]⟩
abbrev S1x2x1024x1540 : Shape := ⟨4, ![1, 2, 1024, 1540]⟩
abbrev S1x512x1540 : Shape := ⟨3, ![1, 512, 1540]⟩
abbrev S3x512x1540 : Shape := ⟨3, ![3, 512, 1540]⟩
abbrev S1x1x512x1540 : Shape := ⟨4, ![1, 1, 512, 1540]⟩
abbrev S512x1540 : Shape := ⟨2, ![512, 1540]⟩
abbrev S1x1x1024x1540 : Shape := ⟨4, ![1, 1, 1024, 1540]⟩
abbrev S1024x1540 : Shape := ⟨2, ![1024, 1540]⟩

abbrev nBuf : Space → Nat
  | .hbm => 7
  | .vmem => 6
  | .smem => 2
  | _ => 0

abbrev bufTy : (tb : Table) → Fin (tcTables nBuf tb) → BufTy
  | .hbm, ⟨0, _⟩ => ⟨S4x1024x1540, .bf16⟩
  | .hbm, ⟨1, _⟩ => ⟨S3x1024x1540, .bf16⟩
  | .hbm, ⟨2, _⟩ => ⟨S_, .i32⟩
  | .hbm, ⟨3, _⟩ => ⟨S_, .i32⟩
  | .hbm, ⟨4, _⟩ => ⟨S1x2x1024x1540, .f32⟩
  | .hbm, ⟨5, _⟩ => ⟨S1x1x1024x1540, .f32⟩
  | .hbm, ⟨6, _⟩ => ⟨S1024x1540, .f32⟩
  | .local _ .vmem, ⟨0, _⟩ => ⟨S1x512x1540, .bf16⟩
  | .local _ .vmem, ⟨1, _⟩ => ⟨S1x512x1540, .bf16⟩
  | .local _ .vmem, ⟨2, _⟩ => ⟨S3x512x1540, .bf16⟩
  | .local _ .vmem, ⟨3, _⟩ => ⟨S3x512x1540, .bf16⟩
  | .local _ .vmem, ⟨4, _⟩ => ⟨S1x1x512x1540, .f32⟩
  | .local _ .vmem, ⟨5, _⟩ => ⟨S1x1x512x1540, .f32⟩
  | .local _ .smem, ⟨0, _⟩ => ⟨S1, .i32⟩
  | .local _ .smem, ⟨1, _⟩ => ⟨S1, .i32⟩
  | _, _ => ⟨S4x1024x1540, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 2 → Memref sig .tc .vmem S1x512x1540 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1540 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInIdeal.lean ====
abbrev S4x1024x1540 : Shape := ⟨3, ![4, 1024, 1540]⟩
abbrev S3x1024x1540 : Shape := ⟨3, ![3, 1024, 1540]⟩
abbrev S_ : Shape := ⟨0, ![]⟩
abbrev S1 : Shape := ⟨1, ![1]⟩
abbrev S1x2x1024x1540 : Shape := ⟨4, ![1, 2, 1024, 1540]⟩
abbrev S1x512x1540 : Shape := ⟨3, ![1, 512, 1540]⟩
abbrev S3x512x1540 : Shape := ⟨3, ![3, 512, 1540]⟩
abbrev S1x1x512x1540 : Shape := ⟨4, ![1, 1, 512, 1540]⟩
abbrev S512x1540 : Shape := ⟨2, ![512, 1540]⟩
abbrev S1x1x1024x1540 : Shape := ⟨4, ![1, 1, 1024, 1540]⟩
abbrev S1024x1540 : Shape := ⟨2, ![1024, 1540]⟩

abbrev nBuf : Space → Nat
  | .hbm => 7
  | .vmem => 6
  | .smem => 2
  | _ => 0

abbrev bufTy : (tb : Table) → Fin (tcTables nBuf tb) → BufTy
  | .hbm, ⟨0, _⟩ => ⟨S4x1024x1540, .bf16⟩
  | .hbm, ⟨1, _⟩ => ⟨S3x1024x1540, .bf16⟩
  | .hbm, ⟨2, _⟩ => ⟨S_, .i32⟩
  | .hbm, ⟨3, _⟩ => ⟨S_, .i32⟩
  | .hbm, ⟨4, _⟩ => ⟨S1x2x1024x1540, .f32⟩
  | .hbm, ⟨5, _⟩ => ⟨S1x1x1024x1540, .f32⟩
  | .hbm, ⟨6, _⟩ => ⟨S1024x1540, .f32⟩
  | .local _ .vmem, ⟨0, _⟩ => ⟨S1x512x1540, .bf16⟩
  | .local _ .vmem, ⟨1, _⟩ => ⟨S1x512x1540, .bf16⟩
  | .local _ .vmem, ⟨2, _⟩ => ⟨S3x512x1540, .bf16⟩
  | .local _ .vmem, ⟨3, _⟩ => ⟨S3x512x1540, .bf16⟩
  | .local _ .vmem, ⟨4, _⟩ => ⟨S1x1x512x1540, .f32⟩
  | .local _ .vmem, ⟨5, _⟩ => ⟨S1x1x512x1540, .f32⟩
  | .local _ .smem, ⟨0, _⟩ => ⟨S1, .i32⟩
  | .local _ .smem, ⟨1, _⟩ => ⟨S1, .i32⟩
  | _, _ => ⟨S4x1024x1540, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 2 → Memref sig .tc .vmem S1x512x1540 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1540 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInRefIdeal.lean ====
abbrev S4x1024x1540 : Shape := ⟨3, ![4, 1024, 1540]⟩
abbrev S3x1024x1540 : Shape := ⟨3, ![3, 1024, 1540]⟩
abbrev S1x1024x1540 : Shape := ⟨3, ![1, 1024, 1540]⟩
abbrev S1024x1540 : Shape := ⟨2, ![1024, 1540]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1024x1540, .bf16⟩
  | .hbm, ⟨1, _⟩ => ⟨S3x1024x1540, .bf16⟩
  | .hbm, ⟨2, _⟩ => ⟨S1x1024x1540, .bf16⟩
  | .hbm, ⟨3, _⟩ => ⟨S1024x1540, .bf16⟩
  | .hbm, ⟨4, _⟩ => ⟨S1024x1540, .f32⟩
  | .hbm, ⟨5, _⟩ => ⟨S3x1024x1540, .f32⟩
  | .hbm, ⟨6, _⟩ => ⟨S_, .f32⟩
  | .hbm, ⟨7, _⟩ => ⟨S1024x1540, .f32⟩
  | .hbm, ⟨8, _⟩ => ⟨S1024x1540, .f32⟩
  | _, _ => ⟨S4x1024x1540, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PairOut.lean ====
abbrev S4x2x256x2048 : Shape := ⟨4, ![4, 2, 256, 2048]⟩
abbrev S4x256x2048 : Shape := ⟨3, ![4, 256, 2048]⟩
abbrev S_ : Shape := ⟨0, ![]⟩
abbrev S1 : Shape := ⟨1, ![1]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutIdeal.lean ====
abbrev S4x2x256x2048 : Shape := ⟨4, ![4, 2, 256, 2048]⟩
abbrev S4x256x2048 : Shape := ⟨3, ![4, 256, 2048]⟩
abbrev S_ : Shape := ⟨0, ![]⟩
abbrev S1 : Shape := ⟨1, ![1]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutRefIdeal.lean ====
abbrev S4x2x256x2048 : Shape := ⟨4, ![4, 2, 256, 2048]⟩
abbrev S4x256x2048 : Shape := ⟨3, ![4, 256, 2048]⟩
abbrev S4x1x256x2048 : Shape := ⟨4, ![4, 1, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S4x1x256x2048, .bf16⟩
  | .hbm, ⟨3, _⟩ => ⟨S4x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .bf16⟩
  | _, _ => ⟨S4x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SumOut.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S1x2x256x2048 : Shape := ⟨4, ![1, 2, 256, 2048]⟩
abbrev S1x256x2048 : Shape := ⟨3, ![1, 256, 2048]⟩
abbrev S1x1x256x2048 : Shape := ⟨4, ![1, 1, 256, 2048]⟩
abbrev S256x2048 : Shape := ⟨2, ![256, 2048]⟩

abbrev nBuf : Space → Nat
  | .hbm => 7
  | .vmem => 3
  | .smem => 2
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S_, .i32⟩
  | .hbm, ⟨4, _⟩ => ⟨S1x2x256x2048, .f32⟩
  | .hbm, ⟨5, _⟩ => ⟨S1x1x256x2048, .f32⟩
  | .hbm, ⟨6, _⟩ => ⟨S256x2048, .f32⟩
  | .local _ .vmem, ⟨0, _⟩ => ⟨S1x256x2048, .bf16⟩
  | .local _ .vmem, ⟨1, _⟩ => ⟨S3x256x2048, .bf16⟩
  | .local _ .vmem, ⟨2, _⟩ => ⟨S1x1x256x2048, .f32⟩
  | .local _ .smem, ⟨0, _⟩ => ⟨S1, .i32⟩
  | .local _ .smem, ⟨1, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S1x2x256x2048 : Shape := ⟨4, ![1, 2, 256, 2048]⟩
abbrev S1x256x2048 : Shape := ⟨3, ![1, 256, 2048]⟩
abbrev S1x1x256x2048 : Shape := ⟨4, ![1, 1, 256, 2048]⟩
abbrev S256x2048 : Shape := ⟨2, ![256, 2048]⟩

abbrev nBuf : Space → Nat
  | .hbm => 7
  | .vmem => 3
  | .smem => 2
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S_, .i32⟩
  | .hbm, ⟨4, _⟩ => ⟨S1x2x256x2048, .f32⟩
  | .hbm, ⟨5, _⟩ => ⟨S1x1x256x2048, .f32⟩
  | .hbm, ⟨6, _⟩ => ⟨S256x2048, .f32⟩
  | .local _ .vmem, ⟨0, _⟩ => ⟨S1x256x2048, .bf16⟩
  | .local _ .vmem, ⟨1, _⟩ => ⟨S3x256x2048, .bf16⟩
  | .local _ .vmem, ⟨2, _⟩ => ⟨S1x1x256x2048, .f32⟩
  | .local _ .smem, ⟨0, _⟩ => ⟨S1, .i32⟩
  | .local _ .smem, ⟨1, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .bf16⟩
  | .hbm, ⟨3, _⟩ => ⟨S256x2048, .bf16⟩
  | .hbm, ⟨4, _⟩ => ⟨S256x2048, .f32⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PairPool.lean ====
abbrev S4x2x256x512 : Shape := ⟨4, ![4, 2, 256, 512]⟩
abbrev S4x256x512 : Shape := ⟨3, ![4, 256, 512]⟩
abbrev S_ : Shape := ⟨0, ![]⟩
abbrev S1 : Shape := ⟨1, ![1]⟩
abbrev S1x1x256x512 : Shape := ⟨4, ![1, 1, 256, 512]⟩
abbrev S1x256x512 : Shape := ⟨3, ![1, 256, 512]⟩
abbrev S256x512 : Shape := ⟨2, ![256, 512]⟩

abbrev nBuf : Space → Nat
  | .hbm => 4
  | .vmem => 6
  | .smem => 1
  | _ => 0

abbrev bufTy : (tb : Table) → Fin (tcTables nBuf tb) → BufTy
  | .hbm, ⟨0, _⟩ => ⟨S4x2x256x512, .bf16⟩
  | .hbm, ⟨1, _⟩ => ⟨S4x256x512, .bf16⟩
  | .hbm, ⟨2, _⟩ => ⟨S_, .i32⟩
  | .hbm, ⟨3, _⟩ => ⟨S4x256x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .smem, ⟨0, _⟩ => ⟨S1, .i32⟩
  | _, _ => ⟨S4x2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairPoolRefIdeal.lean ====
abbrev S4x2x256x512 : Shape := ⟨4, ![4, 2, 256, 512]⟩
abbrev S4x256x512 : Shape := ⟨3, ![4, 256, 512]⟩
abbrev S4x1x256x512 : Shape := ⟨4, ![4, 1, 256, 512]⟩

abbrev nBuf : Space → Nat
  | .hbm => 8
  | .vmem => 0
  | .smem => 0
  | _ => 0

abbrev bufTy : (tb : Table) → Fin (tcTables nBuf tb) → BufTy
  | .hbm, ⟨0, _⟩ => ⟨S4x2x256x512, .bf16⟩
  | .hbm, ⟨1, _⟩ => ⟨S4x256x512, .bf16⟩
  | .hbm, ⟨2, _⟩ => ⟨S4x1x256x512, .bf16⟩
  | .hbm, ⟨3, _⟩ => ⟨S4x256x512, .bf16⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .bf16⟩
  | _, _ => ⟨S4x2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SumPool.lean ====
abbrev S4x256x512 : Shape := ⟨3, ![4, 256, 512]⟩
abbrev S3x256x512 : Shape := ⟨3, ![3, 256, 512]⟩
abbrev S_ : Shape := ⟨0, ![]⟩
abbrev S1 : Shape := ⟨1, ![1]⟩
abbrev S1x2x256x512 : Shape := ⟨4, ![1, 2, 256, 512]⟩
abbrev S1x256x512 : Shape := ⟨3, ![1, 256, 512]⟩
abbrev S1x1x256x512 : Shape := ⟨4, ![1, 1, 256, 512]⟩
abbrev S256x512 : Shape := ⟨2, ![256, 512]⟩

abbrev nBuf : Space → Nat
  | .hbm => 7
  | .vmem => 3
  | .smem => 2
  | _ => 0

abbrev bufTy : (tb : Table) → Fin (tcTables nBuf tb) → BufTy
  | .hbm, ⟨0, _⟩ => ⟨S4x256x512, .bf16⟩
  | .hbm, ⟨1, _⟩ => ⟨S3x256x512, .bf16⟩
  | .hbm, ⟨2, _⟩ => ⟨S_, .i32⟩
  | .hbm, ⟨3, _⟩ => ⟨S_, .i32⟩
  | .hbm, ⟨4, _⟩ => ⟨S1x2x256x512, .f32⟩
  | .hbm, ⟨5, _⟩ => ⟨S1x1x256x512, .f32⟩
  | .hbm, ⟨6, _⟩ => ⟨S256x512, .f32⟩
  | .local _ .vmem, ⟨0, _⟩ => ⟨S1x256x512, .bf16⟩
  | .local _ .vmem, ⟨1, _⟩ => ⟨S3x256x512, .bf16⟩
  | .local _ .vmem, ⟨2, _⟩ => ⟨S1x1x256x512, .f32⟩
  | .local _ .smem, ⟨0, _⟩ => ⟨S1, .i32⟩
  | .local _ .smem, ⟨1, _⟩ => ⟨S1, .i32⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![c0_i32.toNat, v0.toNat, arg0.toNat, c0_i32_0.toNat]

abbrev stage0_0 : Fin 1 → Memref sig .tc .vmem S1x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPoolRefIdeal.lean ====
abbrev S4x256x512 : Shape := ⟨3, ![4, 256, 512]⟩
abbrev S3x256x512 : Shape := ⟨3, ![3, 256, 512]⟩
abbrev S1x256x512 : Shape := ⟨3, ![1, 256, 512]⟩
abbrev S256x512 : Shape := ⟨2, ![256, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S3x256x512, .bf16⟩
  | .hbm, ⟨2, _⟩ => ⟨S1x256x512, .bf16⟩
  | .hbm, ⟨3, _⟩ => ⟨S256x512, .bf16⟩
  | .hbm, ⟨4, _⟩ => ⟨S256x512, .f32⟩
  | .hbm, ⟨5, _⟩ => ⟨S3x256x512, .f32⟩
  | .hbm, ⟨6, _⟩ => ⟨S_, .f32⟩
  | .hbm, ⟨7, _⟩ => ⟨S256x512, .f32⟩
  | .hbm, ⟨8, _⟩ => ⟨S256x512, .f32⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PoolMix.lean ====
abbrev S2112x2048 : Shape := ⟨2, ![2112, 2048]⟩
abbrev S4x512x512 : Shape := ⟨3, ![4, 512, 512]⟩
abbrev S1x2048 : Shape := ⟨2, ![1, 2048]⟩
abbrev S352x512 : Shape := ⟨2, ![352, 512]⟩
abbrev S1x512x512 : Shape := ⟨3, ![1, 512, 512]⟩
abbrev S1x512 : Shape := ⟨2, ![1, 512]⟩
abbrev S352x1 : Shape := ⟨2, ![352, 1]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2112x2048, .bf16⟩
  | .hbm, ⟨1, _⟩ => ⟨S2112x2048, .f32⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S2112x2048, .f32⟩
  | .local _ .vmem, ⟨0, _⟩ => ⟨S352x512, .bf16⟩
  | .local _ .vmem, ⟨1, _⟩ => ⟨S352x512, .bf16⟩
  | .local _ .vmem, ⟨2, _⟩ => ⟨S352x512, .f32⟩
  | .local _ .vmem, ⟨3, _⟩ => ⟨S352x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S352x512, .f32⟩
  | .local _ .vmem, ⟨11, _⟩ => ⟨S352x512, .f32⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolMixRefIdeal.lean ====
abbrev S2112x2048 : Shape := ⟨2, ![2112, 2048]⟩
abbrev S4x512x512 : Shape := ⟨3, ![4, 512, 512]⟩
abbrev S1x2048 : Shape := ⟨2, ![1, 2048]⟩
abbrev S2112x4x512 : Shape := ⟨3, ![2112, 4, 512]⟩
abbrev S4x512x2112 : Shape := ⟨3, ![4, 512, 2112]⟩
abbrev S4x512 : Shape := ⟨2, ![4, 512]⟩
abbrev S1x4x512 : Shape := ⟨3, ![1, 4, 512]⟩
abbrev S2112 : Shape := ⟨1, ![2112]⟩
abbrev S2112x1 : Shape := ⟨2, ![2112, 1]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2112x2048, .f32⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S2112x4x512, .bf16⟩
  | .hbm, ⟨6, _⟩ => ⟨S4x512x2112, .f32⟩
  | .hbm, ⟨7, _⟩ => ⟨S2112x4x512, .f32⟩
  | .hbm, ⟨8, _⟩ => ⟨S4x512, .f32⟩
  | .hbm, ⟨9, _⟩ => ⟨S1x4x512, .f32⟩
  | .hbm, ⟨10, _⟩ => ⟨S2112x4x512, .f32⟩
  | .hbm, ⟨11, _⟩ => ⟨S2112x4x512, .f32⟩
  | .hbm, ⟨12, _⟩ => ⟨S2112x2048, .f32⟩
  | .hbm, ⟨13, _⟩ => ⟨S2112x2048, .f32⟩
  | .hbm, ⟨14, _⟩ => ⟨S2112x2048, .f32⟩
  | .hbm, ⟨15, _⟩ => ⟨S2112, .i32⟩
  | .hbm, ⟨16, _⟩ => ⟨S2112x1, .i32⟩
  | .hbm, ⟨17, _⟩ => ⟨S_, .i32⟩
  | .hbm, ⟨18, _⟩ => ⟨S2112x1, .i32⟩
  | .hbm, ⟨19, _⟩ => ⟨S2112x1, .i1⟩
  | .hbm, ⟨20, _⟩ => ⟨S_, .f32⟩
  | .hbm, ⟨21, _⟩ => ⟨S_, .f32⟩
  | .hbm, ⟨22, _⟩ => ⟨S2112x2048, .i1⟩
  | .hbm, ⟨23, _⟩ => ⟨S2112x2048, .f32⟩
  | .hbm, ⟨24, _⟩ => ⟨S2112x2048, .f32⟩
  | .hbm, ⟨25, _⟩ => ⟨S2112x2048, .f32⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== PoolMixBwd.lean ====
abbrev S2112x2048 : Shape := ⟨2, ![2112, 2048]⟩
abbrev S4x512x512 : Shape := ⟨3, ![4, 512, 512]⟩
abbrev S1x2048 : Shape := ⟨2, ![1, 2048]⟩
abbrev S352x512 : Shape := ⟨2, ![352, 512]⟩
abbrev S1x512x512 : Shape := ⟨3, ![1, 512, 512]⟩
abbrev S1x512 : Shape := ⟨2, ![1, 512]⟩
abbrev S512x512 : Shape := ⟨2, ![512, 512]⟩
abbrev S352x1 : Shape := ⟨2, ![352, 1]⟩
abbrev S512 : Shape := ⟨1, ![512]⟩

abbrev nBuf : Space → Nat
  | .hbm => 9
  | .vmem => 19
  | .smem => 0
  | _ => 0

abbrev bufTy : (tb : Table) → Fin (tcTables nBuf tb) → BufTy
  | .hbm, ⟨0, _⟩ => ⟨S2112x2048, .f32⟩
  | .hbm, ⟨1, _⟩ => ⟨S2112x2048, .bf16⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S2112x2048, .f32⟩
  | .hbm, ⟨6, _⟩ => ⟨S4x512x512, .bf16⟩
  | .hbm, ⟨7, _⟩ => ⟨S1x2048, .f32⟩
  | .hbm, ⟨8, _⟩ => ⟨S1x2048, .f32⟩
  | .local _ .vmem, ⟨0, _⟩ => ⟨S352x512, .f32⟩
  | .local _ .vmem, ⟨1, _⟩ => ⟨S352x512, .f32⟩
  | .local _ .vmem, ⟨2, _⟩ => ⟨S352x512, .bf16⟩
  | .local _ .vmem, ⟨3, _⟩ => ⟨S352x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S352x512, .f32⟩
  | .local _ .vmem, ⟨11, _⟩ => ⟨S352x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v46 : BitVec 1 := Scalar.cmpi .eq arg1 c5_i32
  let v47 : BitVec 32 := Scalar.extui v46
  let c0_i32_30 : BitVec 32 := 0#32
  let v48 : BitVec 1 := Scalar.cmpi .ne v47 c0_i32_30
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PoolMixBwdRefIdeal.lean ====
abbrev S2112x2048 : Shape := ⟨2, ![2112, 2048]⟩
abbrev S4x512x512 : Shape := ⟨3, ![4, 512, 512]⟩
abbrev S1x2048 : Shape := ⟨2, ![1, 2048]⟩
abbrev S2112x4x512 : Shape := ⟨3, ![2112, 4, 512]⟩
abbrev S4x512x2112 : Shape := ⟨3, ![4, 512, 2112]⟩
abbrev S4x512 : Shape := ⟨2, ![4, 512]⟩
abbrev S1x4x512 : Shape := ⟨3, ![1, 4, 512]⟩
abbrev S2112 : Shape := ⟨1, ![2112]⟩
abbrev S2112x1 : Shape := ⟨2, ![2112, 1]⟩
abbrev S_ : Shape := ⟨0, ![]⟩
abbrev S2048 : Shape := ⟨1, ![2048]⟩
abbrev S4x2112x512 : Shape := ⟨3, ![4, 2112, 512]⟩

abbrev nBuf : Space → Nat
  | .hbm => 52
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S2112x2048, .bf16⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S2112x2048, .f32⟩
  | .hbm, ⟨6, _⟩ => ⟨S4x512x512, .f32⟩
  | .hbm, ⟨7, _⟩ => ⟨S2112x4x512, .f32⟩
  | .hbm, ⟨8, _⟩ => ⟨S4x512x2112, .f32⟩
  | .hbm, ⟨9, _⟩ => ⟨S2112x4x512, .f32⟩
  | .hbm, ⟨10, _⟩ => ⟨S4x512, .f32⟩
  | .hbm, ⟨11, _⟩ => ⟨S1x4x512, .f32⟩
  | .hbm, ⟨12, _⟩ => ⟨S2112x4x512, .f32⟩
  | .hbm, ⟨13, _⟩ => ⟨S2112x4x512, .f32⟩
  | .hbm, ⟨14, _⟩ => ⟨S2112, .i32⟩
  | .hbm, ⟨15, _⟩ => ⟨S2112x1, .i32⟩
  | .hbm, ⟨16, _⟩ => ⟨S_, .i32⟩
  | .hbm, ⟨17, _⟩ => ⟨S2112x1, .i32⟩
  | .hbm, ⟨18, _⟩ => ⟨S2112x1, .i1⟩
  | .hbm, ⟨19, _⟩ => ⟨S2112x2048, .f32⟩
  | .hbm, ⟨20, _⟩ => ⟨S2112x2048, .f32⟩
  | .hbm, ⟨21, _⟩ => ⟨S2112x2048, .f32⟩
  | .hbm, ⟨22, _⟩ => ⟨S_, .f32⟩
  | .hbm, ⟨23, _⟩ => ⟨S_, .f32⟩
  | .hbm, ⟨24, _⟩ => ⟨S2112x2048, .i1⟩
  | .hbm, ⟨25, _⟩ => ⟨S2112x2048, .f32⟩
  | .hbm, ⟨26, _⟩ => ⟨S2112x2048, .f32⟩
  | .hbm, ⟨27, _⟩ => ⟨S_, .f32⟩
  | .hbm, ⟨28, _⟩ => ⟨S2112x2048, .f32⟩
  | .hbm, ⟨29, _⟩ => ⟨S_, .f32⟩
  | .hbm, ⟨30, _⟩ => ⟨S2112x2048, .f32⟩
  | .hbm, ⟨31, _⟩ => ⟨S2112x2048, .f32⟩
  | .hbm, ⟨32, _⟩ => ⟨S2112x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2112x2048, .f32⟩
  | .hbm, ⟨37, _⟩ => ⟨S2112x2048, .f32⟩
  | .hbm, ⟨38, _⟩ => ⟨S2112x4x512, .f32⟩
  | .hbm, ⟨39, _⟩ => ⟨S_, .f32⟩
  | .hbm, ⟨40, _⟩ => ⟨S4x512, .f32⟩
  | .hbm, ⟨41, _⟩ => ⟨S1x4x512, .f32⟩
  | .hbm, ⟨42, _⟩ => ⟨S_, .f32⟩
  | .hbm, ⟨43, _⟩ => ⟨S4x512, .f32⟩
  | .hbm, ⟨44, _⟩ => ⟨S1x2048, .f32⟩
  | .hbm, ⟨45, _⟩ => ⟨S4x512x2112, .f32⟩
  | .hbm, ⟨46, _⟩ => ⟨S4x2112x512, .f32⟩
  | .hbm, ⟨47, _⟩ => ⟨S2112x4x512, .f32⟩
  | .hbm, ⟨48, _⟩ => ⟨S4x512x512, .f32⟩
  | .hbm, ⟨49, _⟩ => ⟨S4x512x512, .f32⟩
  | .hbm, ⟨50, _⟩ => ⟨S2112x2048, .f32⟩
  | .hbm, ⟨51, _⟩ => ⟨S4x512x512, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.GlaRef.lean ====
/- The frame of the chunked linear attention's reference: the program is host code around one counted loop, and none of
   its stretches writes an argument. -/
module

public import proofs.«01_k».proof.Defs
public import proofs.«01_k».proof.Proof.Gen.ReferenceIdeal.Run

@[expose] public section

noncomputable section

namespace Cert.ReferenceIdeal.Hand

open Idealize.ShloMosaic Idealize.ShloMosaic.StableHlo Idealize.SL.Sem
open Cert.ReferenceIdeal Cert.ReferenceIdeal.Value

variable {F : FTy → Type} [FloatOps F]

/-- The buffers of the reference's arguments. -/
abbrev argRefs : List (Ref sig .tc) :=
  [main_arg0, main_arg1, main_arg2, main_arg3, main_arg4, main_arg5, main_arg6, main_arg7, main_arg8, main_arg9]

/-- A stretch of operations leaves every argument as it was. -/
def Keeps (ops : List (HloOp τ sig (Elt F))) : Prop :=
  ∀ r ∈ argRefs, ∀ V : Valuation τ sig (Elt F), after ops V (Proc.devRef .tc r) = V (Proc.devRef .tc r)

/-- A stretch that writes only buffers other than the arguments leaves the arguments as they were. -/
theorem keeps_of {ops : List (HloOp τ sig (Elt F))} {W : List (Ref sig .tc)}
    (hW : ops.Forall fun op => op.writes ⊆ (W.map (Proc.devRef (τ := τ) .tc)).toFinset)
    (hd : ∀ r ∈ argRefs, r ∉ W) : Keeps ops :=
  fun r hr V => after_of_writes_sub ops V hW (hd r hr)

/-- Stretches that each leave the arguments as they were do so together. -/
theorem afterL_keeps {items : List (List (HloOp τ sig (Elt F)))} (h : ∀ ops ∈ items, Keeps ops)
    {r : Ref sig .tc} (hr : r ∈ argRefs) :
    ∀ V : Valuation τ sig (Elt F), afterL items V (Proc.devRef .tc r) = V (Proc.devRef .tc r) := by
  induction items with
  | nil => exact fun _ => rfl
  | cons ops rest ih =>
    intro V
    rw [afterL_cons, ih (fun o ho => h o (List.mem_cons_of_mem _ ho))]
    exact h ops List.mem_cons_self r hr V

/-- The stretches before the loop write no argument. -/
theorem pre_keeps : ∀ ops ∈ (preI : List (List (HloOp τ sig (Elt F)))), Keeps ops := by
  simp only [List.forall_mem_cons]
  exact ⟨keeps_of hostOps0_writes (by decide +kernel), keeps_of hostOps0_1_writes (by decide +kernel),
    keeps_of hostOps0_2_writes (by decide +kernel), fun _ h => absurd h List.not_mem_nil⟩

/-- The loop's body writes no argument. -/
theorem body_keeps : ∀ ops ∈ (bodyI : List (List (HloOp τ sig (Elt F)))), Keeps ops := by
  simp only [List.forall_mem_cons]
  exact ⟨keeps_of while0Ops0_writes (by decide +kernel), keeps_of while0Ops0_1_writes (by decide +kernel),
    keeps_of while0Ops0_2_writes (by decide +kernel), keeps_of while0Ops0_3_writes (by decide +kernel),
    keeps_of while0Ops0_4_writes (by decide +kernel), keeps_of while0Ops0_5_writes (by decide +kernel),
    keeps_of while0Ops0_6_writes (by decide +kernel), keeps_of while0Ops0_7_writes (by decide +kernel),
    keeps_of while0Ops0_8_writes (by decide +kernel), keeps_of while0Ops0_9_writes (by decide +kernel),
    keeps_of while0Ops0_10_writes (by decide +kernel), keeps_of while0Ops0_11_writes (by decide +kernel),
    keeps_of while0Ops0_12_writes (by decide +kernel), keeps_of while0Ops0_13_writes (by decide +kernel),
    keeps_of while0Ops0_14_writes (by decide +kernel), keeps_of while0Ops0_15_writes (by decide +kernel),
    keeps_of while0Ops0_16_writes (by decide +kernel), keeps_of while0Ops0_17_writes (by decide +kernel),
    keeps_of while0Ops0_18_writes (by decide +kernel), keeps_of while0Ops0_19_writes (by decide +kernel),
    keeps_of while0Ops0_20_writes (by decide +kernel), fun _ h => absurd h List.not_mem_nil⟩

set_option maxRecDepth 100000 in
/-- The stretches after the loop write no argument. -/
theorem post_keeps {r : Ref sig .tc} (hr : r ∈ argRefs) (V : Valuation τ sig (Elt F)) :
    afterL postI V (Proc.devRef .tc r) = V (Proc.devRef .tc r) := by
  rw [afterL_eq_after_flatten]
  refine after_of_forall_not_mem _ V fun op hop => ?_
  simp only [List.flatten_cons, List.flatten_nil, List.append_nil, List.cons_append, List.nil_append] at hop
  fin_cases hop <;> fin_cases hr <;> exact fun h => devRef_ne_of_ne (by decide) (Finset.mem_singleton.mp h)

/-- Every trip of the loop leaves the arguments as they were at its entry. -/
theorem atTrip_keeps {r : Ref sig .tc} (hr : r ∈ argRefs) (W₀ : Dev nD → Valuation τ sig (Elt F)) (c : Dev nD) :
    ∀ k, atTrip condOps bodyI W₀ k c (Proc.devRef .tc r) = W₀ c (Proc.devRef .tc r)
  | 0 => rfl
  | k + 1 => by
    rw [atTrip_succ, afterL_keeps body_keeps hr,
      keeps_of condOps_writes (by decide +kernel) r hr, atTrip_keeps hr W₀ c k]

/-- At the end of the program every argument is as it was at the launch. -/
theorem final_arg (m : (ℓ : Loc nD τ sig) → Buf (Elt F) ℓ) (c : Dev nD) {r : Ref sig .tc} (hr : r ∈ argRefs) :
    finalContents condOps preI bodyI postI 33 m c (Proc.devRef .tc r) = m ((c.tc : Thread nD τ).loc r) := by
  show afterL postI _ _ = _
  rw [post_keeps hr, keeps_of condOps_writes (by decide +kernel) r hr, atTrip_keeps hr]
  exact afterL_keeps pre_keeps hr _

/-- The reference ends on every memory, with its arguments as they were and its counters at zero. -/
theorem frame : Cert.quiescent_ReferenceIdeal := fun m ρ _ =>
  (θ_run Cert.ReferenceIdeal.defs _ _).mono (fun r h => ⟨fun c =>
      ⟨(h c main_arg0 rfl).trans (final_arg m c (by decide)), (h c main_arg1 rfl).trans (final_arg m c (by decide)),
       (h c main_arg2 rfl).trans (final_arg m c (by decide)), (h c main_arg3 rfl).trans (final_arg m c (by decide)),
       (h c main_arg4 rfl).trans (final_arg m c (by decide)), (h c main_arg5 rfl).trans (final_arg m c (by decide)),
       (h c main_arg6 rfl).trans (final_arg m c (by decide)), (h c main_arg7 rfl).trans (final_arg m c (by decide)),
       (h c main_arg8 rfl).trans (final_arg m c (by decide)), (h c main_arg9 rfl).trans (final_arg m c (by decide))⟩,
      Idealize.ShloMosaic.sem_eq_zero_of_no_sems (by decide) r.2⟩)
    (Cert.ReferenceIdeal.Value.run_fold (F := Ideal) m ρ)

end Cert.ReferenceIdeal.Hand

end
-- ==== Proof.Sums.lean ====
/-
  Shared arithmetic of the feed-forward value proofs: arrays read at natural-number coordinates (zero outside
  their extents), so that tile arithmetic is arithmetic on naturals, and sums over an axis cut into tiles.
-/
module

public import Idealize.ShloMosaic.Lib.Pointwise
public import Idealize.ShloMosaic.PureOps.Ideal.Laws

@[expose] public section

noncomputable section

namespace Cert.Sums

open Idealize.ShloMosaic
open scoped BigOperators

/-- A rank-2 array read at natural coordinates, zero outside. -/
def at2 {α : Type} [Zero α] {M N : ℕ} (a : (⟨2, ![M, N]⟩ : Shape).Idx → α) (i j : ℕ) : α :=
  if h : i < M ∧ j < N then a (ix2 ⟨i, h.1⟩ ⟨j, h.2⟩) else 0

/-- A rank-3 array read at natural coordinates, zero outside. -/
def at3 {α : Type} [Zero α] {M N P : ℕ} (a : (⟨3, ![M, N, P]⟩ : Shape).Idx → α) (i j k : ℕ) : α :=
  if h : i < M ∧ j < N ∧ k < P then a (ix3 ⟨i, h.1⟩ ⟨j, h.2.1⟩ ⟨k, h.2.2⟩) else 0

/-- Inside the extents `at2` is the array's element. -/
theorem at2_of_lt {α : Type} [Zero α] {M N : ℕ} (a : (⟨2, ![M, N]⟩ : Shape).Idx → α) {i j : ℕ} (hi : i < M) (hj : j < N) :
    at2 a i j = a (ix2 ⟨i, hi⟩ ⟨j, hj⟩) := dif_pos ⟨hi, hj⟩

/-- An element at an index is `at2` at the index's coordinates. -/
theorem eq_at2 {α : Type} [Zero α] {M N : ℕ} (a : (⟨2, ![M, N]⟩ : Shape).Idx → α) (i : Fin M) (j : Fin N) :
    a (ix2 i j) = at2 a i.val j.val := (at2_of_lt a i.isLt j.isLt).symm

/-- Inside the extents `at3` is the array's element. -/
theorem at3_of_lt {α : Type} [Zero α] {M N P : ℕ} (a : (⟨3, ![M, N, P]⟩ : Shape).Idx → α) {i j k : ℕ}
    (hi : i < M) (hj : j < N) (hk : k < P) : at3 a i j k = a (ix3 ⟨i, hi⟩ ⟨j, hj⟩ ⟨k, hk⟩) := dif_pos ⟨hi, hj, hk⟩

/-- An element at an index is `at3` at the index's coordinates. -/
theorem eq_at3 {α : Type} [Zero α] {M N P : ℕ} (a : (⟨3, ![M, N, P]⟩ : Shape).Idx → α) (i : Fin M) (j : Fin N) (k : Fin P) :
    a (ix3 i j k) = at3 a i.val j.val k.val := (at3_of_lt a i.isLt j.isLt k.isLt).symm

/-- A sum over `T * K` positions is the sum over `T` tiles of the sums over each tile's `K` positions. -/
theorem sum_range_tiles {β : Type*} [AddCommMonoid β] (f : ℕ → β) (T K : ℕ) :
    ∑ q ∈ Finset.range (T * K), f q = ∑ s ∈ Finset.range T, ∑ k ∈ Finset.range K, f (s * K + k) := by
  induction T with
  | zero => simp
  | succ T ih => rw [Finset.sum_range_succ, Nat.succ_mul, Finset.sum_range_add, ih]

/-- The same, the tile's positions as `Fin K`. -/
theorem sum_fin_tiles {β : Type*} [AddCommMonoid β] (f : ℕ → β) (T K : ℕ) :
    ∑ q : Fin (T * K), f q.val = ∑ s ∈ Finset.range T, ∑ k : Fin K, f (s * K + k.val) := by
  rw [← Finset.sum_range (n := T * K) f, sum_range_tiles]
  exact Finset.sum_congr rfl fun s _ => Finset.sum_range fun k => f (s * K + k)

end Cert.Sums

end
-- ==== Proof.FfnTiles.lean ====
/- The tiles the five calls of the feed-forward block write, as sums over what each grid point loads. -/
module

public import proofs.«01_k».proof.Proof.Gen.FfnIdeal.Frame
public import proofs.«01_k».proof.Proof.Sums
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Sums
open scoped BigOperators

variable (V : (c : Dev nD) → (b : Ref sig .tc) → Buf (Elt Ideal) ((c : Thread nD τ).loc b))

/-- Entry `(r, q)` of a tile of rows by the `j`-th tile of columns of a stacked weight. -/
def rowCol (X : Vec Ideal S352x2048 .bf16) (W : Vec Ideal S1x2048x1408 .bf16) (r : Fin 352) (q : Fin 1408) : EReal :=
  ∑ k : Fin 2048, X (ix2 r k) * W (ix3 0 k q)

/-- Entry `(r, q)` of a tile of rows by the transpose of a tile of rows. -/
def rowRow (X : Vec Ideal S704x2048 .bf16) (W : Vec Ideal S1408x2048 .bf16) (r : Fin 704) (q : Fin 1408) : EReal :=
  ∑ k : Fin 2048, X (ix2 r k) * W (ix2 q k)

/-- The logistic function, as a division. -/
def lgt (g : EReal) : EReal := Ideal.div 1 (1 + Ideal.exp (0 - g))

set_option maxHeartbeats 1000000 in
/-- The up projection's tile at a point of the gate/up grid. -/
theorem outsAt0_3 (c : Dev nD) (t : Fin cfg0.N) (r : Fin 352) (q : Fin 1408) :
    (outsAt0 V c t).1 (ix2 r q) = rowCol (iblk0 V c 0 t) (iblk0 V c 2 t) r q := by
  unfold outsAt0
  dsimp only
  unfold out0_A_3
  rw [View.read_writes_eq_canon _ _ _ (cover0_A_3 _ _ _ _ _ _ _ _ _ _ _ _ _ _ _ _ _ _ _)]
  unfold kernelRun0_A
  dsimp only
  canon_tiles x h using cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (ix2 r q)
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.cst_67, kernelRun0_A.sl.cst_89]
  all_goals open_payloads
  all_goals try simp only [View.readAt_eq_ld, Memref.IsWhole.read_unread]
  all_goals obtain ⟨a, b, rfl⟩ : ∃ a b, x = ix2 a b := ⟨_, _, eq_ix2 x⟩
  all_goals obtain rfl : r = a := Fin.ext (h0.trans (by simp))
  all_goals pointwise []
  all_goals unfold rowCol
  all_goals obtain ⟨q, hq⟩ := q
  case piece0 => obtain rfl : q = 1280 + b.val := h1; rfl
  case piece1 => obtain rfl : q = 1024 + b.val := h1; rfl
  case piece2 => obtain rfl : q = 768 + b.val := h1; rfl
  case piece3 => obtain rfl : q = 512 + b.val := h1; rfl
  case piece4 => obtain rfl : q = 256 + b.val := h1; rfl
  case piece5 => obtain rfl : q = b.val := h1.trans (by simp); rfl

set_option maxHeartbeats 1000000 in
/-- The tile of silu at a point of the gate/up grid. -/
theorem outsAt0_4 (c : Dev nD) (t : Fin cfg0.N) (r : Fin 352) (q : Fin 1408) :
    (outsAt0 V c t).2.1 (ix2 r q) = (rowCol (iblk0 V c 0 t) (iblk0 V c 1 t) r q) * lgt (rowCol (iblk0 V c 0 t) (iblk0 V c 1 t) r q) := by
  unfold outsAt0
  dsimp only
  unfold out0_A_4
  rw [View.read_writes_eq_canon _ _ _ (cover0_A_4 _ _ _ _ _ _ _ _ _ _ _ _ _ _ _ _ _ _ _)]
  unfold kernelRun0_A
  dsimp only
  canon_tiles x h using cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (ix2 r q)
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.cst_67, kernelRun0_A.sl.cst_89]
  all_goals open_payloads
  all_goals try simp only [View.readAt_eq_ld, Memref.IsWhole.read_unread]
  all_goals obtain ⟨a, b, rfl⟩ : ∃ a b, x = ix2 a b := ⟨_, _, eq_ix2 x⟩
  all_goals obtain rfl : r = a := Fin.ext (h0.trans (by simp))
  all_goals pointwise []
  all_goals unfold lgt rowCol
  all_goals obtain ⟨q, hq⟩ := q
  case piece0 => obtain rfl : q = 1280 + b.val := h1; rfl
  case piece1 => obtain rfl : q = 1024 + b.val := h1; rfl
  case piece2 => obtain rfl : q = 768 + b.val := h1; rfl
  case piece3 => obtain rfl : q = 512 + b.val := h1; rfl
  case piece4 => obtain rfl : q = 256 + b.val := h1; rfl
  case piece5 => obtain rfl : q = b.val := h1.trans (by simp); rfl

set_option maxHeartbeats 1000000 in
/-- The tile of silu's derivative at a point of the gate/up grid. -/
theorem outsAt0_5 (c : Dev nD) (t : Fin cfg0.N) (r : Fin 352) (q : Fin 1408) :
    (outsAt0 V c t).2.2.1 (ix2 r q) = lgt (rowCol (iblk0 V c 0 t) (iblk0 V c 1 t) r q) * (1 + (rowCol (iblk0 V c 0 t) (iblk0 V c 1 t) r q) * (1 - lgt (rowCol (iblk0 V c 0 t) (iblk0 V c 1 t) r q))) := by
  unfold outsAt0
  dsimp only
  unfold out0_A_5
  rw [View.read_writes_eq_canon _ _ _ (cover0_A_5 _ _ _ _ _ _ _ _ _ _ _ _ _ _ _ _ _ _ _)]
  unfold kernelRun0_A
  dsimp only
  canon_tiles x h using cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (ix2 r q)
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.cst_67, kernelRun0_A.sl.cst_89]
  all_goals open_payloads
  all_goals try simp only [View.readAt_eq_ld, Memref.IsWhole.read_unread]
  all_goals obtain ⟨a, b, rfl⟩ : ∃ a b, x = ix2 a b := ⟨_, _, eq_ix2 x⟩
  all_goals obtain rfl : r = a := Fin.ext (h0.trans (by simp))
  all_goals pointwise []
  all_goals unfold lgt rowCol
  all_goals obtain ⟨q, hq⟩ := q
  case piece0 => obtain rfl : q = 1280 + b.val := h1; rfl
  case piece1 => obtain rfl : q = 1024 + b.val := h1; rfl
  case piece2 => obtain rfl : q = 768 + b.val := h1; rfl
  case piece3 => obtain rfl : q = 512 + b.val := h1; rfl
  case piece4 => obtain rfl : q = 256 + b.val := h1; rfl
  case piece5 => obtain rfl : q = b.val := h1.trans (by simp); rfl

set_option maxHeartbeats 1000000 in
/-- The tile of the activations at a point of the gate/up grid. -/
theorem outsAt0_6 (c : Dev nD) (t : Fin cfg0.N) (r : Fin 352) (q : Fin 1408) :
    (outsAt0 V c t).2.2.2 (ix2 r q) = (rowCol (iblk0 V c 0 t) (iblk0 V c 1 t) r q) * lgt (rowCol (iblk0 V c 0 t) (iblk0 V c 1 t) r q) * rowCol (iblk0 V c 0 t) (iblk0 V c 2 t) r q := by
  unfold outsAt0
  dsimp only
  unfold out0_A_6
  rw [View.read_writes_eq_canon _ _ _ (cover0_A_6 _ _ _ _ _ _ _ _ _ _ _ _ _ _ _ _ _ _ _)]
  unfold kernelRun0_A
  dsimp only
  canon_tiles x h using cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (ix2 r q)
  all_goals try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.cst_67, kernelRun0_A.sl.cst_89]
  all_goals open_payloads
  all_goals try simp only [View.readAt_eq_ld, Memref.IsWhole.read_unread]
  all_goals obtain ⟨a, b, rfl⟩ : ∃ a b, x = ix2 a b := ⟨_, _, eq_ix2 x⟩
  all_goals obtain rfl : r = a := Fin.ext (h0.trans (by simp))
  all_goals pointwise []
  all_goals unfold lgt rowCol
  all_goals obtain ⟨q, hq⟩ := q
  case piece0 => obtain rfl : q = 1280 + b.val := h1; rfl
  case piece1 => obtain rfl : q = 1024 + b.val := h1; rfl
  case piece2 => obtain rfl : q = 768 + b.val := h1; rfl
  case piece3 => obtain rfl : q = 512 + b.val := h1; rfl
  case piece4 => obtain rfl : q = 256 + b.val := h1; rfl
  case piece5 => obtain rfl : q = b.val := h1.trans (by simp); rfl

set_option maxHeartbeats 1000000 in
/-- The tile of the gradient of the gate projection at a point of the activations' backward grid. -/
theorem outsAt1_5 (c : Dev nD) (t : Fin cfg1.N) (r : Fin 704) (q : Fin 1408) :
    (outsAt1 V c t).1 (ix2 r q) = rowRow (iblk1 V c 0 t) (iblk1 V c 1 t) r q * iblk1 V c 2 t (ix2 r q) * iblk1 V c 4 t (ix2 r q) := by
  unfold outsAt1
  dsimp only
  unfold out1_A_5
  rw [View.read_writes_eq_canon _ _ _ (cover1_A_5 _ _ _ _ _ _ _ _ _ _ _ _ _ _ _ _ _ _ _ _ _)]
  unfold kernelRun1_A
  dsimp only
  canon_tiles x h using cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (ix2 r q)
  all_goals try simp only [kernelRun1_A.sl.r, kernelRun1_A.sl.r_1, kernelRun1_A.sl.r_2, kernelRun1_A.sl.r_3, kernelRun1_A.sl.r_4, kernelRun1_A.sl.r_5, kernelRun1_A.sl.r_6]
  all_goals open_payloads
  all_goals try simp only [View.readAt_eq_ld, Memref.IsWhole.read_unread]
  all_goals obtain ⟨a, b, rfl⟩ : ∃ a b, x = ix2 a b := ⟨_, _, eq_ix2 x⟩
  all_goals obtain rfl : r = a := Fin.ext (h0.trans (by simp))
  all_goals pointwise []
  all_goals unfold rowRow
  all_goals obtain ⟨q, hq⟩ := q
  case piece0 => obtain rfl : q = 1280 + b.val := h1; rfl
  case piece1 => obtain rfl : q = 1024 + b.val := h1; rfl
  case piece2 => obtain rfl : q = 768 + b.val := h1; rfl
  case piece3 => obtain rfl : q = 512 + b.val := h1; rfl
  case piece4 => obtain rfl : q = 256 + b.val := h1; rfl
  case piece5 => obtain rfl : q = b.val := h1.trans (by simp); rfl

set_option maxHeartbeats 1000000 in
/-- The tile of the gradient of the up projection at a point of the activations' backward grid. -/
theorem outsAt1_6 (c : Dev nD) (t : Fin cfg1.N) (r : Fin 704) (q : Fin 1408) :
    (outsAt1 V c t).2 (ix2 r q) = rowRow (iblk1 V c 0 t) (iblk1 V c 1 t) r q * iblk1 V c 3 t (ix2 r q) := by
  unfold outsAt1
  dsimp only
  unfold out1_A_6
  rw [View.read_writes_eq_canon _ _ _ (cover1_A_6 _ _ _ _ _ _ _ _ _ _ _ _ _ _ _ _ _ _ _ _ _)]
  unfold kernelRun1_A
  dsimp only
  canon_tiles x h using cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (ix2 r q)
  all_goals try simp only [kernelRun1_A.sl.r, kernelRun1_A.sl.r_1, kernelRun1_A.sl.r_2, kernelRun1_A.sl.r_3, kernelRun1_A.sl.r_4, kernelRun1_A.sl.r_5, kernelRun1_A.sl.r_6]
  all_goals open_payloads
  all_goals try simp only [View.readAt_eq_ld, Memref.IsWhole.read_unread]
  all_goals obtain ⟨a, b, rfl⟩ : ∃ a b, x = ix2 a b := ⟨_, _, eq_ix2 x⟩
  all_goals obtain rfl : r = a := Fin.ext (h0.trans (by simp))
  all_goals pointwise []
  all_goals unfold rowRow
  all_goals obtain ⟨q, hq⟩ := q
  case piece0 => obtain rfl : q = 1280 + b.val := h1; rfl
  case piece1 => obtain rfl : q = 1024 + b.val := h1; rfl
  case piece2 => obtain rfl : q = 768 + b.val := h1; rfl
  case piece3 => obtain rfl : q = 512 + b.val := h1; rfl
  case piece4 => obtain rfl : q = 256 + b.val := h1; rfl
  case piece5 => obtain rfl : q = b.val := h1.trans (by simp); rfl

end Cert.FfnIdeal.Hand

end
-- ==== Proof.FfnBlocks.lean ====
/- The blocks the five calls of the feed-forward block load at each grid point, in terms of the whole arrays. -/
module

public import proofs.«01_k».proof.Proof.FfnTiles
public import proofs.«01_k».proof.Proof.Sums
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Sums
open scoped BigOperators

variable (V : (c : Dev nD) → (b : Ref sig .tc) → Buf (Elt Ideal) ((c : Thread nD τ).loc b))

/-- The arrays the calls read and write, as arrays of extended reals. -/
abbrev vH (c : Dev nD) : FVec Ideal S2112x2048 .bf16 := V c main_arg0
abbrev vWg (c : Dev nD) : FVec Ideal S4x2048x1408 .bf16 := V c main_arg1
abbrev vWu (c : Dev nD) : FVec Ideal S4x2048x1408 .bf16 := V c main_arg2
abbrev vWd (c : Dev nD) : FVec Ideal S5632x2048 .bf16 := V c main_arg3
abbrev vDy (c : Dev nD) : FVec Ideal S2112x2048 .bf16 := V c main_arg4
abbrev vUp (c : Dev nD) : FVec Ideal S2112x5632 .bf16 := V c main_v0_0
abbrev vSilu (c : Dev nD) : FVec Ideal S2112x5632 .bf16 := V c main_v0_1
abbrev vDsilu (c : Dev nD) : FVec Ideal S2112x5632 .bf16 := V c main_v0_2
abbrev vAct (c : Dev nD) : FVec Ideal S2112x5632 .bf16 := V c main_v0_3
abbrev vDgate (c : Dev nD) : FVec Ideal S2112x5632 .bf16 := V c main_v1_0
abbrev vDup (c : Dev nD) : FVec Ideal S2112x5632 .bf16 := V c main_v1_1

/-! ## The windows' index maps -/

theorem idx0_0 : ∀ t : Fin cfg0.N, win0_0.index t 0 = t.val % 6 ∧ win0_0.index t 1 = 0 :=
  (by decide +kernel : ∀ t : Fin grid0.N, _)
theorem idx0_1 : ∀ t : Fin cfg0.N, win0_1.index t 0 = t.val / 6 ∧ win0_1.index t 1 = 0 ∧ win0_1.index t 2 = 0 :=
  (by decide +kernel : ∀ t : Fin grid0.N, _)
theorem idx0_2 : ∀ t : Fin cfg0.N, win0_2.index t 0 = t.val / 6 ∧ win0_2.index t 1 = 0 ∧ win0_2.index t 2 = 0 :=
  (by decide +kernel : ∀ t : Fin grid0.N, _)
theorem idx0_3 : ∀ t : Fin cfg0.N, win0_3.index t 0 = t.val % 6 ∧ win0_3.index t 1 = t.val / 6 :=
  (by decide +kernel : ∀ t : Fin grid0.N, _)
theorem idx0_4 : ∀ t : Fin cfg0.N, win0_4.index t 0 = t.val % 6 ∧ win0_4.index t 1 = t.val / 6 :=
  (by decide +kernel : ∀ t : Fin grid0.N, _)
theorem idx0_5 : ∀ t : Fin cfg0.N, win0_5.index t 0 = t.val % 6 ∧ win0_5.index t 1 = t.val / 6 :=
  (by decide +kernel : ∀ t : Fin grid0.N, _)
theorem idx0_6 : ∀ t : Fin cfg0.N, win0_6.index t 0 = t.val % 6 ∧ win0_6.index t 1 = t.val / 6 :=
  (by decide +kernel : ∀ t : Fin grid0.N, _)
theorem idx1_0 : ∀ t : Fin cfg1.N, win1_0.index t 0 = t.val % 3 ∧ win1_0.index t 1 = 0 :=
  (by decide +kernel : ∀ t : Fin grid1.N, _)
theorem idx1_1 : ∀ t : Fin cfg1.N, win1_1.index t 0 = t.val / 3 ∧ win1_1.index t 1 = 0 :=
  (by decide +kernel : ∀ t : Fin grid1.N, _)
theorem idx1_2 : ∀ t : Fin cfg1.N, win1_2.index t 0 = t.val % 3 ∧ win1_2.index t 1 = t.val / 3 :=
  (by decide +kernel : ∀ t : Fin grid1.N, _)
theorem idx1_3 : ∀ t : Fin cfg1.N, win1_3.index t 0 = t.val % 3 ∧ win1_3.index t 1 = t.val / 3 :=
  (by decide +kernel : ∀ t : Fin grid1.N, _)
theorem idx1_4 : ∀ t : Fin cfg1.N, win1_4.index t 0 = t.val % 3 ∧ win1_4.index t 1 = t.val / 3 :=
  (by decide +kernel : ∀ t : Fin grid1.N, _)
theorem idx1_5 : ∀ t : Fin cfg1.N, win1_5.index t 0 = t.val % 3 ∧ win1_5.index t 1 = t.val / 3 :=
  (by decide +kernel : ∀ t : Fin grid1.N, _)
theorem idx1_6 : ∀ t : Fin cfg1.N, win1_6.index t 0 = t.val % 3 ∧ win1_6.index t 1 = t.val / 3 :=
  (by decide +kernel : ∀ t : Fin grid1.N, _)
theorem idx2_0 : ∀ t : Fin cfg2.N, win2_0.index t 0 = 0 ∧ win2_0.index t 1 = t.val % 4 :=
  (by decide +kernel : ∀ t : Fin grid2.N, _)
theorem idx2_1 : ∀ t : Fin cfg2.N, win2_1.index t 0 = 0 ∧ win2_1.index t 1 = t.val / 4 :=
  (by decide +kernel : ∀ t : Fin grid2.N, _)
theorem idx2_2 : ∀ t : Fin cfg2.N, win2_2.index t 0 = t.val % 4 ∧ win2_2.index t 1 = t.val / 4 :=
  (by decide +kernel : ∀ t : Fin grid2.N, _)
theorem idx3_0 : ∀ t : Fin cfg3.N, win3_0.index t 0 = 0 ∧ win3_0.index t 1 = t.val % 2 :=
  (by decide +kernel : ∀ t : Fin grid3.N, _)
theorem idx3_1 : ∀ t : Fin cfg3.N, win3_1.index t 0 = 0 ∧ win3_1.index t 1 = t.val / 2 :=
  (by decide +kernel : ∀ t : Fin grid3.N, _)
theorem idx3_2 : ∀ t : Fin cfg3.N, win3_2.index t 0 = t.val / 2 ∧ win3_2.index t 1 = t.val % 2 ∧ win3_2.index t 2 = 0 :=
  (by decide +kernel : ∀ t : Fin grid3.N, _)
theorem idx4_0 : ∀ t : Fin cfg4.N, win4_0.index t 0 = 0 ∧ win4_0.index t 1 = t.val % 2 :=
  (by decide +kernel : ∀ t : Fin grid4.N, _)
theorem idx4_1 : ∀ t : Fin cfg4.N, win4_1.index t 0 = 0 ∧ win4_1.index t 1 = t.val / 2 :=
  (by decide +kernel : ∀ t : Fin grid4.N, _)
theorem idx4_2 : ∀ t : Fin cfg4.N, win4_2.index t 0 = t.val / 2 ∧ win4_2.index t 1 = t.val % 2 ∧ win4_2.index t 2 = 0 :=
  (by decide +kernel : ∀ t : Fin grid4.N, _)

/-! ## The input blocks, at an index of the whole array -/

/-- The rows of the input. -/
theorem blk0_0 (c : Dev nD) (t : Fin cfg0.N) (r : Fin 352) (k : Fin 2048) :
    iblk0 V c 0 t (ix2 r k) = at2 (vH V c) (t.val % 6 * 352 + r.val) (k.val) := by
  have hN : t.val < 24 := lt_of_lt_of_eq t.isLt N_0
  rw [at2_of_lt _ (by omega) (by omega)]
  unfold iblk0
  rw [View.read_apply]
  refine congrArg (vH V c) ?_
  funext a
  apply Fin.ext
  match a with
  | ⟨0, _⟩ => show win0_0.index t 0 * 352 + 1 * r.val = _; rw [(idx0_0 t).1]; simp
  | ⟨1, _⟩ => show win0_0.index t 1 * 2048 + 1 * k.val = _; rw [(idx0_0 t).2]; simp

/-- One stack of the gate weight. -/
theorem blk0_1 (c : Dev nD) (t : Fin cfg0.N) (r : Fin 2048) (k : Fin 1408) :
    iblk0 V c 1 t (ix3 0 r k) = at3 (vWg V c) (t.val / 6) (r.val) (k.val) := by
  have hN : t.val < 24 := lt_of_lt_of_eq t.isLt N_0
  rw [at3_of_lt _ (by omega) (by omega) (by omega)]
  unfold iblk0
  rw [View.read_apply]
  refine congrArg (vWg V c) ?_
  funext a
  apply Fin.ext
  match a with
  | ⟨0, _⟩ => show win0_1.index t 0 * 1 + 1 * 0 = _; rw [(idx0_1 t).1]; simp
  | ⟨1, _⟩ => show win0_1.index t 1 * 2048 + 1 * r.val = _; rw [(idx0_1 t).2.1]; simp
  | ⟨2, _⟩ => show win0_1.index t 2 * 1408 + 1 * k.val = _; rw [(idx0_1 t).2.2]; simp

/-- One stack of the up weight. -/
theorem blk0_2 (c : Dev nD) (t : Fin cfg0.N) (r : Fin 2048) (k : Fin 1408) :
    iblk0 V c 2 t (ix3 0 r k) = at3 (vWu V c) (t.val / 6) (r.val) (k.val) := by
  have hN : t.val < 24 := lt_of_lt_of_eq t.isLt N_0
  rw [at3_of_lt _ (by omega) (by omega) (by omega)]
  unfold iblk0
  rw [View.read_apply]
  refine congrArg (vWu V c) ?_
  funext a
  apply Fin.ext
  match a with
  | ⟨0, _⟩ => show win0_2.index t 0 * 1 + 1 * 0 = _; rw [(idx0_2 t).1]; simp
  | ⟨1, _⟩ => show win0_2.index t 1 * 2048 + 1 * r.val = _; rw [(idx0_2 t).2.1]; simp
  | ⟨2, _⟩ => show win0_2.index t 2 * 1408 + 1 * k.val = _; rw [(idx0_2 t).2.2]; simp

/-- The rows of the output's gradient. -/
theorem blk1_0 (c : Dev nD) (t : Fin cfg1.N) (r : Fin 704) (k : Fin 2048) :
    iblk1 V c 0 t (ix2 r k) = at2 (vDy V c) (t.val % 3 * 704 + r.val) (k.val) := by
  have hN : t.val < 12 := lt_of_lt_of_eq t.isLt N_1
  rw [at2_of_lt _ (by omega) (by omega)]
  unfold iblk1
  rw [View.read_apply]
  refine congrArg (vDy V c) ?_
  funext a
  apply Fin.ext
  match a with
  | ⟨0, _⟩ => show win1_0.index t 0 * 704 + 1 * r.val = _; rw [(idx1_0 t).1]; simp
  | ⟨1, _⟩ => show win1_0.index t 1 * 2048 + 1 * k.val = _; rw [(idx1_0 t).2]; simp

/-- The rows of the down weight. -/
theorem blk1_1 (c : Dev nD) (t : Fin cfg1.N) (r : Fin 1408) (k : Fin 2048) :
    iblk1 V c 1 t (ix2 r k) = at2 (vWd V c) (t.val / 3 * 1408 + r.val) (k.val) := by
  have hN : t.val < 12 := lt_of_lt_of_eq t.isLt N_1
  rw [at2_of_lt _ (by omega) (by omega)]
  unfold iblk1
  rw [View.read_apply]
  refine congrArg (vWd V c) ?_
  funext a
  apply Fin.ext
  match a with
  | ⟨0, _⟩ => show win1_1.index t 0 * 1408 + 1 * r.val = _; rw [(idx1_1 t).1]; simp
  | ⟨1, _⟩ => show win1_1.index t 1 * 2048 + 1 * k.val = _; rw [(idx1_1 t).2]; simp

/-- A tile of the up projection. -/
theorem blk1_2 (c : Dev nD) (t : Fin cfg1.N) (r : Fin 704) (k : Fin 1408) :
    iblk1 V c 2 t (ix2 r k) = at2 (vUp V c) (t.val % 3 * 704 + r.val) (t.val / 3 * 1408 + k.val) := by
  have hN : t.val < 12 := lt_of_lt_of_eq t.isLt N_1
  rw [at2_of_lt _ (by omega) (by omega)]
  unfold iblk1
  rw [View.read_apply]
  refine congrArg (vUp V c) ?_
  funext a
  apply Fin.ext
  match a with
  | ⟨0, _⟩ => show win1_2.index t 0 * 704 + 1 * r.val = _; rw [(idx1_2 t).1]; simp
  | ⟨1, _⟩ => show win1_2.index t 1 * 1408 + 1 * k.val = _; rw [(idx1_2 t).2]; simp

/-- A tile of silu. -/
theorem blk1_3 (c : Dev nD) (t : Fin cfg1.N) (r : Fin 704) (k : Fin 1408) :
    iblk1 V c 3 t (ix2 r k) = at2 (vSilu V c) (t.val % 3 * 704 + r.val) (t.val / 3 * 1408 + k.val) := by
  have hN : t.val < 12 := lt_of_lt_of_eq t.isLt N_1
  rw [at2_of_lt _ (by omega) (by omega)]
  unfold iblk1
  rw [View.read_apply]
  refine congrArg (vSilu V c) ?_
  funext a
  apply Fin.ext
  match a with
  | ⟨0, _⟩ => show win1_3.index t 0 * 704 + 1 * r.val = _; rw [(idx1_3 t).1]; simp
  | ⟨1, _⟩ => show win1_3.index t 1 * 1408 + 1 * k.val = _; rw [(idx1_3 t).2]; simp

/-- A tile of silu's derivative. -/
theorem blk1_4 (c : Dev nD) (t : Fin cfg1.N) (r : Fin 704) (k : Fin 1408) :
    iblk1 V c 4 t (ix2 r k) = at2 (vDsilu V c) (t.val % 3 * 704 + r.val) (t.val / 3 * 1408 + k.val) := by
  have hN : t.val < 12 := lt_of_lt_of_eq t.isLt N_1
  rw [at2_of_lt _ (by omega) (by omega)]
  unfold iblk1
  rw [View.read_apply]
  refine congrArg (vDsilu V c) ?_
  funext a
  apply Fin.ext
  match a with
  | ⟨0, _⟩ => show win1_4.index t 0 * 704 + 1 * r.val = _; rw [(idx1_4 t).1]; simp
  | ⟨1, _⟩ => show win1_4.index t 1 * 1408 + 1 * k.val = _; rw [(idx1_4 t).2]; simp

/-- Columns of the activations. -/
theorem blk2_0 (c : Dev nD) (t : Fin cfg2.N) (r : Fin 2112) (k : Fin 1408) :
    iblk2 V c 0 t (ix2 r k) = at2 (vAct V c) (r.val) (t.val % 4 * 1408 + k.val) := by
  have hN : t.val < 8 := lt_of_lt_of_eq t.isLt N_2
  rw [at2_of_lt _ (by omega) (by omega)]
  unfold iblk2
  rw [View.read_apply]
  refine congrArg (vAct V c) ?_
  funext a
  apply Fin.ext
  match a with
  | ⟨0, _⟩ => show win2_0.index t 0 * 2112 + 1 * r.val = _; rw [(idx2_0 t).1]; simp
  | ⟨1, _⟩ => show win2_0.index t 1 * 1408 + 1 * k.val = _; rw [(idx2_0 t).2]; simp

/-- Columns of the output's gradient. -/
theorem blk2_1 (c : Dev nD) (t : Fin cfg2.N) (r : Fin 2112) (k : Fin 1024) :
    iblk2 V c 1 t (ix2 r k) = at2 (vDy V c) (r.val) (t.val / 4 * 1024 + k.val) := by
  have hN : t.val < 8 := lt_of_lt_of_eq t.isLt N_2
  rw [at2_of_lt _ (by omega) (by omega)]
  unfold iblk2
  rw [View.read_apply]
  refine congrArg (vDy V c) ?_
  funext a
  apply Fin.ext
  match a with
  | ⟨0, _⟩ => show win2_1.index t 0 * 2112 + 1 * r.val = _; rw [(idx2_1 t).1]; simp
  | ⟨1, _⟩ => show win2_1.index t 1 * 1024 + 1 * k.val = _; rw [(idx2_1 t).2]; simp

/-- Columns of the input. -/
theorem blk3_0 (c : Dev nD) (t : Fin cfg3.N) (r : Fin 2112) (k : Fin 1024) :
    iblk3 V c 0 t (ix2 r k) = at2 (vH V c) (r.val) (t.val % 2 * 1024 + k.val) := by
  have hN : t.val < 8 := lt_of_lt_of_eq t.isLt N_3
  rw [at2_of_lt _ (by omega) (by omega)]
  unfold iblk3
  rw [View.read_apply]
  refine congrArg (vH V c) ?_
  funext a
  apply Fin.ext
  match a with
  | ⟨0, _⟩ => show win3_0.index t 0 * 2112 + 1 * r.val = _; rw [(idx3_0 t).1]; simp
  | ⟨1, _⟩ => show win3_0.index t 1 * 1024 + 1 * k.val = _; rw [(idx3_0 t).2]; simp

/-- Columns of the gate's gradient. -/
theorem blk3_1 (c : Dev nD) (t : Fin cfg3.N) (r : Fin 2112) (k : Fin 1408) :
    iblk3 V c 1 t (ix2 r k) = at2 (vDgate V c) (r.val) (t.val / 2 * 1408 + k.val) := by
  have hN : t.val < 8 := lt_of_lt_of_eq t.isLt N_3
  rw [at2_of_lt _ (by omega) (by omega)]
  unfold iblk3
  rw [View.read_apply]
  refine congrArg (vDgate V c) ?_
  funext a
  apply Fin.ext
  match a with
  | ⟨0, _⟩ => show win3_1.index t 0 * 2112 + 1 * r.val = _; rw [(idx3_1 t).1]; simp
  | ⟨1, _⟩ => show win3_1.index t 1 * 1408 + 1 * k.val = _; rw [(idx3_1 t).2]; simp

/-- Columns of the input. -/
theorem blk4_0 (c : Dev nD) (t : Fin cfg4.N) (r : Fin 2112) (k : Fin 1024) :
    iblk4 V c 0 t (ix2 r k) = at2 (vH V c) (r.val) (t.val % 2 * 1024 + k.val) := by
  have hN : t.val < 8 := lt_of_lt_of_eq t.isLt N_4
  rw [at2_of_lt _ (by omega) (by omega)]
  unfold iblk4
  rw [View.read_apply]
  refine congrArg (vH V c) ?_
  funext a
  apply Fin.ext
  match a with
  | ⟨0, _⟩ => show win4_0.index t 0 * 2112 + 1 * r.val = _; rw [(idx4_0 t).1]; simp
  | ⟨1, _⟩ => show win4_0.index t 1 * 1024 + 1 * k.val = _; rw [(idx4_0 t).2]; simp

/-- Columns of the up projection's gradient. -/
theorem blk4_1 (c : Dev nD) (t : Fin cfg4.N) (r : Fin 2112) (k : Fin 1408) :
    iblk4 V c 1 t (ix2 r k) = at2 (vDup V c) (r.val) (t.val / 2 * 1408 + k.val) := by
  have hN : t.val < 8 := lt_of_lt_of_eq t.isLt N_4
  rw [at2_of_lt _ (by omega) (by omega)]
  unfold iblk4
  rw [View.read_apply]
  refine congrArg (vDup V c) ?_
  funext a
  apply Fin.ext
  match a with
  | ⟨0, _⟩ => show win4_1.index t 0 * 2112 + 1 * r.val = _; rw [(idx4_1 t).1]; simp
  | ⟨1, _⟩ => show win4_1.index t 1 * 1408 + 1 * k.val = _; rw [(idx4_1 t).2]; simp

end Cert.FfnIdeal.Hand

end
-- ==== Proof.FfnArrays.lean ====
/- The arrays the five calls of the feed-forward block leave, entry by entry: the tiles put together. -/
module

public import proofs.«01_k».proof.Proof.FfnBlocks
public import proofs.«01_k».proof.Proof.Sums
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Sums
open scoped BigOperators

variable (V : (c : Dev nD) → (b : Ref sig .tc) → Buf (Elt Ideal) ((c : Thread nD τ).loc b))

/-! ## The arrays' entries, in closed form -/

/-- A row of the input by a column of a weight stacked in four blocks of columns. -/
def proj (h : FVec Ideal S2112x2048 .bf16) (w : FVec Ideal S4x2048x1408 .bf16) (i j : ℕ) : EReal :=
  ∑ k : Fin 2048, at2 h i k.val * at3 w (j / 1408) k.val (j % 1408)

/-- A row of the output's gradient by a row of the down weight: the gradient of the activations. -/
def dact (dy : FVec Ideal S2112x2048 .bf16) (wd : FVec Ideal S5632x2048 .bf16) (i j : ℕ) : EReal :=
  ∑ k : Fin 2048, at2 dy i k.val * at2 wd j k.val

/-- A column of one array by a column of another, over all rows: a weight's gradient. -/
def colCol {M N : ℕ} (a : (⟨2, ![2112, M]⟩ : Shape).Idx → EReal) (b : (⟨2, ![2112, N]⟩ : Shape).Idx → EReal) (i j : ℕ) : EReal :=
  ∑ x : Fin 2112, at2 a x.val i * at2 b x.val j

/-- The array with the given entries. -/
def ofEntries (f : ℕ → ℕ → EReal) : FVec Ideal S2112x5632 .bf16 := fun x => f (x 0).val (x 1).val

theorem at2_ofEntries (f : ℕ → ℕ → EReal) {i j : ℕ} (hi : i < 2112) (hj : j < 5632) : at2 (ofEntries f) i j = f i j :=
  at2_of_lt _ hi hj

/-- The gate projection's entries in a tile. -/
theorem rowCol_gate (c : Dev nD) (t : Fin cfg0.N) (r : Fin 352) (q : Fin 1408) :
    rowCol (iblk0 V c 0 t) (iblk0 V c 1 t) r q = proj (vH V c) (vWg V c) (t.val % 6 * 352 + r.val) (t.val / 6 * 1408 + q.val) := by
  unfold rowCol proj
  refine Finset.sum_congr rfl fun k _ => ?_
  rw [blk0_0, blk0_1, show (t.val / 6 * 1408 + q.val) / 1408 = t.val / 6 by omega, show (t.val / 6 * 1408 + q.val) % 1408 = q.val by omega]

/-- The up projection's entries in a tile. -/
theorem rowCol_up (c : Dev nD) (t : Fin cfg0.N) (r : Fin 352) (q : Fin 1408) :
    rowCol (iblk0 V c 0 t) (iblk0 V c 2 t) r q = proj (vH V c) (vWu V c) (t.val % 6 * 352 + r.val) (t.val / 6 * 1408 + q.val) := by
  unfold rowCol proj
  refine Finset.sum_congr rfl fun k _ => ?_
  rw [blk0_0, blk0_2, show (t.val / 6 * 1408 + q.val) / 1408 = t.val / 6 by omega, show (t.val / 6 * 1408 + q.val) % 1408 = q.val by omega]

/-- The entries of the activations' gradient in a tile. -/
theorem rowRow_dact (c : Dev nD) (t : Fin cfg1.N) (r : Fin 704) (q : Fin 1408) :
    rowRow (iblk1 V c 0 t) (iblk1 V c 1 t) r q = dact (vDy V c) (vWd V c) (t.val % 3 * 704 + r.val) (t.val / 3 * 1408 + q.val) := by
  unfold rowRow dact
  refine Finset.sum_congr rfl fun k _ => ?_
  rw [blk1_0, blk1_1]

/-- The up projection, as the call leaves it. -/
theorem arr0_3 (c : Dev nD) : (dat0 V c).arrAt 3 cfg0.N = ofEntries fun i j => proj (vH V c) (vWu V c) i j := by
  refine (dat0 V c).arrAt_eq_of_cover 3 _ (fun t _ => ?_) (fun x => ?_)
  · show (dat0 V c).after 3 t = _
    rw [after0_3]
    funext y
    obtain ⟨r, q, rfl⟩ : ∃ (r : Fin 352) (q : Fin 1408), y = ix2 r q := ⟨_, _, eq_ix2 y⟩
    rw [View.read_apply]
    refine (outsAt0_3 V c t r q).trans ?_
    have h0 : (((cfg0.win 3).blk t).view.emb (ix2 r q) 0).val = t.val % 6 * 352 + r.val := by
      show win0_3.index t 0 * 352 + 1 * r.val = _; rw [(idx0_3 t).1]; simp
    have h1 : (((cfg0.win 3).blk t).view.emb (ix2 r q) 1).val = t.val / 6 * 1408 + q.val := by
      show win0_3.index t 1 * 1408 + 1 * q.val = _; rw [(idx0_3 t).2]; simp
    show _ = (fun i j => proj (vH V c) (vWu V c) i j) (((cfg0.win 3).blk t).view.emb (ix2 r q) 0).val (((cfg0.win 3).blk t).view.emb (ix2 r q) 1).val
    rw [h0, h1, rowCol_up]
  · have hx0 : (x 0).val < 2112 := (x 0).isLt
    have hx1 : (x 1).val < 5632 := (x 1).isLt
    have ht : (x 1).val / 1408 * 6 + (x 0).val / 352 < cfg0.N := by rw [show cfg0.N = 24 from N_0]; omega
    refine ⟨⟨_, ht⟩, flush0_3 _, ?_⟩
    show x ∈ ((View.whole main_v0_0).slice (win0_3.rect ⟨_, ht⟩)).set
    rw [View.set_slice_whole, Rect.mem_set_unit]
    have e0 : win0_3.index ⟨_, ht⟩ 0 = (x 0).val / 352 := (idx0_3 _).1.trans (show ((x 1).val / 1408 * 6 + (x 0).val / 352) % 6 = _ by omega)
    have e1 : win0_3.index ⟨_, ht⟩ 1 = (x 1).val / 1408 := (idx0_3 _).2.trans (show ((x 1).val / 1408 * 6 + (x 0).val / 352) / 6 = _ by omega)
    intro a
    match a with
    | ⟨0, _⟩ => show win0_3.index ⟨_, ht⟩ 0 * 352 ≤ (x 0).val ∧ (x 0).val < win0_3.index ⟨_, ht⟩ 0 * 352 + 352; omega
    | ⟨1, _⟩ => show win0_3.index ⟨_, ht⟩ 1 * 1408 ≤ (x 1).val ∧ (x 1).val < win0_3.index ⟨_, ht⟩ 1 * 1408 + 1408; omega

/-- silu, as the call leaves it. -/
theorem arr0_4 (c : Dev nD) : (dat0 V c).arrAt 4 cfg0.N = ofEntries fun i j => proj (vH V c) (vWg V c) i j * lgt (proj (vH V c) (vWg V c) i j) := by
  refine (dat0 V c).arrAt_eq_of_cover 4 _ (fun t _ => ?_) (fun x => ?_)
  · show (dat0 V c).after 4 t = _
    rw [after0_4]
    funext y
    obtain ⟨r, q, rfl⟩ : ∃ (r : Fin 352) (q : Fin 1408), y = ix2 r q := ⟨_, _, eq_ix2 y⟩
    rw [View.read_apply]
    refine (outsAt0_4 V c t r q).trans ?_
    have h0 : (((cfg0.win 4).blk t).view.emb (ix2 r q) 0).val = t.val % 6 * 352 + r.val := by
      show win0_4.index t 0 * 352 + 1 * r.val = _; rw [(idx0_4 t).1]; simp
    have h1 : (((cfg0.win 4).blk t).view.emb (ix2 r q) 1).val = t.val / 6 * 1408 + q.val := by
      show win0_4.index t 1 * 1408 + 1 * q.val = _; rw [(idx0_4 t).2]; simp
    show _ = (fun i j => proj (vH V c) (vWg V c) i j * lgt (proj (vH V c) (vWg V c) i j)) (((cfg0.win 4).blk t).view.emb (ix2 r q) 0).val (((cfg0.win 4).blk t).view.emb (ix2 r q) 1).val
    rw [h0, h1, rowCol_gate]
  · have hx0 : (x 0).val < 2112 := (x 0).isLt
    have hx1 : (x 1).val < 5632 := (x 1).isLt
    have ht : (x 1).val / 1408 * 6 + (x 0).val / 352 < cfg0.N := by rw [show cfg0.N = 24 from N_0]; omega
    refine ⟨⟨_, ht⟩, flush0_4 _, ?_⟩
    show x ∈ ((View.whole main_v0_1).slice (win0_4.rect ⟨_, ht⟩)).set
    rw [View.set_slice_whole, Rect.mem_set_unit]
    have e0 : win0_4.index ⟨_, ht⟩ 0 = (x 0).val / 352 := (idx0_4 _).1.trans (show ((x 1).val / 1408 * 6 + (x 0).val / 352) % 6 = _ by omega)
    have e1 : win0_4.index ⟨_, ht⟩ 1 = (x 1).val / 1408 := (idx0_4 _).2.trans (show ((x 1).val / 1408 * 6 + (x 0).val / 352) / 6 = _ by omega)
    intro a
    match a with
    | ⟨0, _⟩ => show win0_4.index ⟨_, ht⟩ 0 * 352 ≤ (x 0).val ∧ (x 0).val < win0_4.index ⟨_, ht⟩ 0 * 352 + 352; omega
    | ⟨1, _⟩ => show win0_4.index ⟨_, ht⟩ 1 * 1408 ≤ (x 1).val ∧ (x 1).val < win0_4.index ⟨_, ht⟩ 1 * 1408 + 1408; omega

/-- silu's derivative, as the call leaves it. -/
theorem arr0_5 (c : Dev nD) : (dat0 V c).arrAt 5 cfg0.N = ofEntries fun i j => lgt (proj (vH V c) (vWg V c) i j) * (1 + proj (vH V c) (vWg V c) i j * (1 - lgt (proj (vH V c) (vWg V c) i j))) := by
  refine (dat0 V c).arrAt_eq_of_cover 5 _ (fun t _ => ?_) (fun x => ?_)
  · show (dat0 V c).after 5 t = _
    rw [after0_5]
    funext y
    obtain ⟨r, q, rfl⟩ : ∃ (r : Fin 352) (q : Fin 1408), y = ix2 r q := ⟨_, _, eq_ix2 y⟩
    rw [View.read_apply]
    refine (outsAt0_5 V c t r q).trans ?_
    have h0 : (((cfg0.win 5).blk t).view.emb (ix2 r q) 0).val = t.val % 6 * 352 + r.val := by
      show win0_5.index t 0 * 352 + 1 * r.val = _; rw [(idx0_5 t).1]; simp
    have h1 : (((cfg0.win 5).blk t).view.emb (ix2 r q) 1).val = t.val / 6 * 1408 + q.val := by
      show win0_5.index t 1 * 1408 + 1 * q.val = _; rw [(idx0_5 t).2]; simp
    show _ = (fun i j => lgt (proj (vH V c) (vWg V c) i j) * (1 + proj (vH V c) (vWg V c) i j * (1 - lgt (proj (vH V c) (vWg V c) i j)))) (((cfg0.win 5).blk t).view.emb (ix2 r q) 0).val (((cfg0.win 5).blk t).view.emb (ix2 r q) 1).val
    rw [h0, h1, rowCol_gate]
  · have hx0 : (x 0).val < 2112 := (x 0).isLt
    have hx1 : (x 1).val < 5632 := (x 1).isLt
    have ht : (x 1).val / 1408 * 6 + (x 0).val / 352 < cfg0.N := by rw [show cfg0.N = 24 from N_0]; omega
    refine ⟨⟨_, ht⟩, flush0_5 _, ?_⟩
    show x ∈ ((View.whole main_v0_2).slice (win0_5.rect ⟨_, ht⟩)).set
    rw [View.set_slice_whole, Rect.mem_set_unit]
    have e0 : win0_5.index ⟨_, ht⟩ 0 = (x 0).val / 352 := (idx0_5 _).1.trans (show ((x 1).val / 1408 * 6 + (x 0).val / 352) % 6 = _ by omega)
    have e1 : win0_5.index ⟨_, ht⟩ 1 = (x 1).val / 1408 := (idx0_5 _).2.trans (show ((x 1).val / 1408 * 6 + (x 0).val / 352) / 6 = _ by omega)
    intro a
    match a with
    | ⟨0, _⟩ => show win0_5.index ⟨_, ht⟩ 0 * 352 ≤ (x 0).val ∧ (x 0).val < win0_5.index ⟨_, ht⟩ 0 * 352 + 352; omega
    | ⟨1, _⟩ => show win0_5.index ⟨_, ht⟩ 1 * 1408 ≤ (x 1).val ∧ (x 1).val < win0_5.index ⟨_, ht⟩ 1 * 1408 + 1408; omega

/-- The activations, as the call leaves it. -/
theorem arr0_6 (c : Dev nD) : (dat0 V c).arrAt 6 cfg0.N = ofEntries fun i j => proj (vH V c) (vWg V c) i j * lgt (proj (vH V c) (vWg V c) i j) * proj (vH V c) (vWu V c) i j := by
  refine (dat0 V c).arrAt_eq_of_cover 6 _ (fun t _ => ?_) (fun x => ?_)
  · show (dat0 V c).after 6 t = _
    rw [after0_6]
    funext y
    obtain ⟨r, q, rfl⟩ : ∃ (r : Fin 352) (q : Fin 1408), y = ix2 r q := ⟨_, _, eq_ix2 y⟩
    rw [View.read_apply]
    refine (outsAt0_6 V c t r q).trans ?_
    have h0 : (((cfg0.win 6).blk t).view.emb (ix2 r q) 0).val = t.val % 6 * 352 + r.val := by
      show win0_6.index t 0 * 352 + 1 * r.val = _; rw [(idx0_6 t).1]; simp
    have h1 : (((cfg0.win 6).blk t).view.emb (ix2 r q) 1).val = t.val / 6 * 1408 + q.val := by
      show win0_6.index t 1 * 1408 + 1 * q.val = _; rw [(idx0_6 t).2]; simp
    show _ = (fun i j => proj (vH V c) (vWg V c) i j * lgt (proj (vH V c) (vWg V c) i j) * proj (vH V c) (vWu V c) i j) (((cfg0.win 6).blk t).view.emb (ix2 r q) 0).val (((cfg0.win 6).blk t).view.emb (ix2 r q) 1).val
    rw [h0, h1, rowCol_gate, rowCol_up]
  · have hx0 : (x 0).val < 2112 := (x 0).isLt
    have hx1 : (x 1).val < 5632 := (x 1).isLt
    have ht : (x 1).val / 1408 * 6 + (x 0).val / 352 < cfg0.N := by rw [show cfg0.N = 24 from N_0]; omega
    refine ⟨⟨_, ht⟩, flush0_6 _, ?_⟩
    show x ∈ ((View.whole main_v0_3).slice (win0_6.rect ⟨_, ht⟩)).set
    rw [View.set_slice_whole, Rect.mem_set_unit]
    have e0 : win0_6.index ⟨_, ht⟩ 0 = (x 0).val / 352 := (idx0_6 _).1.trans (show ((x 1).val / 1408 * 6 + (x 0).val / 352) % 6 = _ by omega)
    have e1 : win0_6.index ⟨_, ht⟩ 1 = (x 1).val / 1408 := (idx0_6 _).2.trans (show ((x 1).val / 1408 * 6 + (x 0).val / 352) / 6 = _ by omega)
    intro a
    match a with
    | ⟨0, _⟩ => show win0_6.index ⟨_, ht⟩ 0 * 352 ≤ (x 0).val ∧ (x 0).val < win0_6.index ⟨_, ht⟩ 0 * 352 + 352; omega
    | ⟨1, _⟩ => show win0_6.index ⟨_, ht⟩ 1 * 1408 ≤ (x 1).val ∧ (x 1).val < win0_6.index ⟨_, ht⟩ 1 * 1408 + 1408; omega

/-- The gate's gradient, as the call leaves it. -/
theorem arr1_5 (c : Dev nD) : (dat1 V c).arrAt 5 cfg1.N = ofEntries fun i j => dact (vDy V c) (vWd V c) i j * at2 (vUp V c) i j * at2 (vDsilu V c) i j := by
  refine (dat1 V c).arrAt_eq_of_cover 5 _ (fun t _ => ?_) (fun x => ?_)
  · show (dat1 V c).after 5 t = _
    rw [after1_5]
    funext y
    obtain ⟨r, q, rfl⟩ : ∃ (r : Fin 704) (q : Fin 1408), y = ix2 r q := ⟨_, _, eq_ix2 y⟩
    rw [View.read_apply]
    refine (outsAt1_5 V c t r q).trans ?_
    have h0 : (((cfg1.win 5).blk t).view.emb (ix2 r q) 0).val = t.val % 3 * 704 + r.val := by
      show win1_5.index t 0 * 704 + 1 * r.val = _; rw [(idx1_5 t).1]; simp
    have h1 : (((cfg1.win 5).blk t).view.emb (ix2 r q) 1).val = t.val / 3 * 1408 + q.val := by
      show win1_5.index t 1 * 1408 + 1 * q.val = _; rw [(idx1_5 t).2]; simp
    show _ = (fun i j => dact (vDy V c) (vWd V c) i j * at2 (vUp V c) i j * at2 (vDsilu V c) i j) (((cfg1.win 5).blk t).view.emb (ix2 r q) 0).val (((cfg1.win 5).blk t).view.emb (ix2 r q) 1).val
    rw [h0, h1, rowRow_dact, blk1_2, blk1_4]
  · have hx0 : (x 0).val < 2112 := (x 0).isLt
    have hx1 : (x 1).val < 5632 := (x 1).isLt
    have ht : (x 1).val / 1408 * 3 + (x 0).val / 704 < cfg1.N := by rw [show cfg1.N = 12 from N_1]; omega
    refine ⟨⟨_, ht⟩, flush1_5 _, ?_⟩
    show x ∈ ((View.whole main_v1_0).slice (win1_5.rect ⟨_, ht⟩)).set
    rw [View.set_slice_whole, Rect.mem_set_unit]
    have e0 : win1_5.index ⟨_, ht⟩ 0 = (x 0).val / 704 := (idx1_5 _).1.trans (show ((x 1).val / 1408 * 3 + (x 0).val / 704) % 3 = _ by omega)
    have e1 : win1_5.index ⟨_, ht⟩ 1 = (x 1).val / 1408 := (idx1_5 _).2.trans (show ((x 1).val / 1408 * 3 + (x 0).val / 704) / 3 = _ by omega)
    intro a
    match a with
    | ⟨0, _⟩ => show win1_5.index ⟨_, ht⟩ 0 * 704 ≤ (x 0).val ∧ (x 0).val < win1_5.index ⟨_, ht⟩ 0 * 704 + 704; omega
    | ⟨1, _⟩ => show win1_5.index ⟨_, ht⟩ 1 * 1408 ≤ (x 1).val ∧ (x 1).val < win1_5.index ⟨_, ht⟩ 1 * 1408 + 1408; omega

/-- The up projection's gradient, as the call leaves it. -/
theorem arr1_6 (c : Dev nD) : (dat1 V c).arrAt 6 cfg1.N = ofEntries fun i j => dact (vDy V c) (vWd V c) i j * at2 (vSilu V c) i j := by
  refine (dat1 V c).arrAt_eq_of_cover 6 _ (fun t _ => ?_) (fun x => ?_)
  · show (dat1 V c).after 6 t = _
    rw [after1_6]
    funext y
    obtain ⟨r, q, rfl⟩ : ∃ (r : Fin 704) (q : Fin 1408), y = ix2 r q := ⟨_, _, eq_ix2 y⟩
    rw [View.read_apply]
    refine (outsAt1_6 V c t r q).trans ?_
    have h0 : (((cfg1.win 6).blk t).view.emb (ix2 r q) 0).val = t.val % 3 * 704 + r.val := by
      show win1_6.index t 0 * 704 + 1 * r.val = _; rw [(idx1_6 t).1]; simp
    have h1 : (((cfg1.win 6).blk t).view.emb (ix2 r q) 1).val = t.val / 3 * 1408 + q.val := by
      show win1_6.index t 1 * 1408 + 1 * q.val = _; rw [(idx1_6 t).2]; simp
    show _ = (fun i j => dact (vDy V c) (vWd V c) i j * at2 (vSilu V c) i j) (((cfg1.win 6).blk t).view.emb (ix2 r q) 0).val (((cfg1.win 6).blk t).view.emb (ix2 r q) 1).val
    rw [h0, h1, rowRow_dact, blk1_3]
  · have hx0 : (x 0).val < 2112 := (x 0).isLt
    have hx1 : (x 1).val < 5632 := (x 1).isLt
    have ht : (x 1).val / 1408 * 3 + (x 0).val / 704 < cfg1.N := by rw [show cfg1.N = 12 from N_1]; omega
    refine ⟨⟨_, ht⟩, flush1_6 _, ?_⟩
    show x ∈ ((View.whole main_v1_1).slice (win1_6.rect ⟨_, ht⟩)).set
    rw [View.set_slice_whole, Rect.mem_set_unit]
    have e0 : win1_6.index ⟨_, ht⟩ 0 = (x 0).val / 704 := (idx1_6 _).1.trans (show ((x 1).val / 1408 * 3 + (x 0).val / 704) % 3 = _ by omega)
    have e1 : win1_6.index ⟨_, ht⟩ 1 = (x 1).val / 1408 := (idx1_6 _).2.trans (show ((x 1).val / 1408 * 3 + (x 0).val / 704) / 3 = _ by omega)
    intro a
    match a with
    | ⟨0, _⟩ => show win1_6.index ⟨_, ht⟩ 0 * 704 ≤ (x 0).val ∧ (x 0).val < win1_6.index ⟨_, ht⟩ 0 * 704 + 704; omega
    | ⟨1, _⟩ => show win1_6.index ⟨_, ht⟩ 1 * 1408 ≤ (x 1).val ∧ (x 1).val < win1_6.index ⟨_, ht⟩ 1 * 1408 + 1408; omega

/-- The down weight's gradient's tile. -/
theorem out2_apply (x0 : Vec Ideal S2112x1408 .bf16) (x1 : Vec Ideal S2112x1024 .bf16) (a : Fin 1408) (b : Fin 1024) :
    out2_2 x0 x1 (ix2 a b) = ∑ x : Fin 2112, x0 (ix2 x a) * x1 (ix2 x b) := by
  canon_tiles x h
  obtain ⟨p, q, rfl⟩ : ∃ (p : Fin 1408) (q : Fin 1024), x = ix2 p q := ⟨_, _, eq_ix2 x⟩
  obtain rfl : a = p := Fin.ext (h0.trans (by simp))
  obtain rfl : b = q := Fin.ext (h1.trans (by simp))
  pointwise [k2_pay1]

/-- The gate weight's gradient's tile. -/
theorem out3_apply (x0 : Vec Ideal S2112x1024 .bf16) (x1 : Vec Ideal S2112x1408 .bf16) (a : Fin 1024) (b : Fin 1408) :
    out3_2 x0 x1 (ix3 0 a b) = ∑ x : Fin 2112, x0 (ix2 x a) * x1 (ix2 x b) := by
  canon_tiles x h
  obtain ⟨z, p, q, rfl⟩ : ∃ (z : Fin 1) (p : Fin 1024) (q : Fin 1408), x = ix3 z p q := ⟨_, _, _, eq_ix3 x⟩
  obtain rfl : a = p := Fin.ext (h1.trans (by simp))
  obtain rfl : b = q := Fin.ext (h2.trans (by simp))
  pointwise [k3_pay1]

/-- The up weight's gradient's tile. -/
theorem out4_apply (x0 : Vec Ideal S2112x1024 .bf16) (x1 : Vec Ideal S2112x1408 .bf16) (a : Fin 1024) (b : Fin 1408) :
    out4_2 x0 x1 (ix3 0 a b) = ∑ x : Fin 2112, x0 (ix2 x a) * x1 (ix2 x b) := by
  canon_tiles x h
  obtain ⟨z, p, q, rfl⟩ : ∃ (z : Fin 1) (p : Fin 1024) (q : Fin 1408), x = ix3 z p q := ⟨_, _, _, eq_ix3 x⟩
  obtain rfl : a = p := Fin.ext (h1.trans (by simp))
  obtain rfl : b = q := Fin.ext (h2.trans (by simp))
  pointwise [k4_pay1]

/-- The down weight's gradient, as the call leaves it. -/
theorem arr2_2 (c : Dev nD) : (dat2 V c).arrAt 2 cfg2.N = (fun x => colCol (vAct V c) (vDy V c) (x 0).val (x 1).val : FVec Ideal S5632x2048 .bf16) := by
  refine (dat2 V c).arrAt_eq_of_cover 2 _ (fun t _ => ?_) (fun x => ?_)
  · show (dat2 V c).after 2 t = _
    rw [after2_2]
    funext y
    obtain ⟨r, q, rfl⟩ : ∃ (r : Fin 1408) (q : Fin 1024), y = ix2 r q := ⟨_, _, eq_ix2 y⟩
    rw [View.read_apply]
    have h0 : (((cfg2.win 2).blk t).view.emb (ix2 r q) 0).val = t.val % 4 * 1408 + r.val := by
      show win2_2.index t 0 * 1408 + 1 * r.val = _; rw [(idx2_2 t).1]; simp
    have h1 : (((cfg2.win 2).blk t).view.emb (ix2 r q) 1).val = t.val / 4 * 1024 + q.val := by
      show win2_2.index t 1 * 1024 + 1 * q.val = _; rw [(idx2_2 t).2]; simp
    show out2_2 (iblk2 V c 0 t) (iblk2 V c 1 t) (ix2 r q) = colCol (vAct V c) (vDy V c) (((cfg2.win 2).blk t).view.emb (ix2 r q) 0).val (((cfg2.win 2).blk t).view.emb (ix2 r q) 1).val
    rw [h0, h1, out2_apply]
    exact Finset.sum_congr rfl fun k _ => by rw [blk2_0, blk2_1]
  · have hx0 : (x 0).val < 5632 := (x 0).isLt
    have hx1 : (x 1).val < 2048 := (x 1).isLt
    have ht : (x 1).val / 1024 * 4 + (x 0).val / 1408 < cfg2.N := by rw [show cfg2.N = 8 from N_2]; omega
    refine ⟨⟨_, ht⟩, flush2_2 _, ?_⟩
    show x ∈ ((View.whole main_v2).slice (win2_2.rect ⟨_, ht⟩)).set
    rw [View.set_slice_whole, Rect.mem_set_unit]
    have e0 : win2_2.index ⟨_, ht⟩ 0 = (x 0).val / 1408 := (idx2_2 _).1.trans (show ((x 1).val / 1024 * 4 + (x 0).val / 1408) % 4 = _ by omega)
    have e1 : win2_2.index ⟨_, ht⟩ 1 = (x 1).val / 1024 := (idx2_2 _).2.trans (show ((x 1).val / 1024 * 4 + (x 0).val / 1408) / 4 = _ by omega)
    intro a
    match a with
    | ⟨0, _⟩ => show win2_2.index ⟨_, ht⟩ 0 * 1408 ≤ (x 0).val ∧ (x 0).val < win2_2.index ⟨_, ht⟩ 0 * 1408 + 1408; omega
    | ⟨1, _⟩ => show win2_2.index ⟨_, ht⟩ 1 * 1024 ≤ (x 1).val ∧ (x 1).val < win2_2.index ⟨_, ht⟩ 1 * 1024 + 1024; omega

/-- The gate weight's gradient, as the call leaves it: in four blocks of columns. -/
theorem arr3_2 (c : Dev nD) : (dat3 V c).arrAt 2 cfg3.N
    = (fun x => colCol (vH V c) (vDgate V c) (x 1).val ((x 0).val * 1408 + (x 2).val) : FVec Ideal S4x2048x1408 .bf16) := by
  refine (dat3 V c).arrAt_eq_of_cover 2 _ (fun t _ => ?_) (fun x => ?_)
  · show (dat3 V c).after 2 t = _
    rw [after3_2]
    funext y
    obtain ⟨z, r, q, rfl⟩ : ∃ (z : Fin 1) (r : Fin 1024) (q : Fin 1408), y = ix3 z r q := ⟨_, _, _, eq_ix3 y⟩
    obtain rfl : z = 0 := Subsingleton.elim _ _
    rw [View.read_apply]
    have h0 : (((cfg3.win 2).blk t).view.emb (ix3 0 r q) 0).val = t.val / 2 := by
      show win3_2.index t 0 * 1 + 1 * 0 = _; rw [(idx3_2 t).1]; simp
    have h1 : (((cfg3.win 2).blk t).view.emb (ix3 0 r q) 1).val = t.val % 2 * 1024 + r.val := by
      show win3_2.index t 1 * 1024 + 1 * r.val = _; rw [(idx3_2 t).2.1]; simp
    have h2 : (((cfg3.win 2).blk t).view.emb (ix3 0 r q) 2).val = q.val := by
      show win3_2.index t 2 * 1408 + 1 * q.val = _; rw [(idx3_2 t).2.2]; simp
    show out3_2 (iblk3 V c 0 t) (iblk3 V c 1 t) (ix3 0 r q) = colCol (vH V c) (vDgate V c) (((cfg3.win 2).blk t).view.emb (ix3 0 r q) 1).val
      ((((cfg3.win 2).blk t).view.emb (ix3 0 r q) 0).val * 1408 + (((cfg3.win 2).blk t).view.emb (ix3 0 r q) 2).val)
    rw [h0, h1, h2, out3_apply]
    exact Finset.sum_congr rfl fun k _ => by rw [blk3_0, blk3_1]
  · have hx0 : (x 0).val < 4 := (x 0).isLt
    have hx1 : (x 1).val < 2048 := (x 1).isLt
    have hx2 : (x 2).val < 1408 := (x 2).isLt
    have ht : (x 0).val * 2 + (x 1).val / 1024 < cfg3.N := by rw [show cfg3.N = 8 from N_3]; omega
    refine ⟨⟨_, ht⟩, flush3_2 _, ?_⟩
    show x ∈ ((View.whole main_v3).slice (win3_2.rect ⟨_, ht⟩)).set
    rw [View.set_slice_whole, Rect.mem_set_unit]
    have e0 : win3_2.index ⟨_, ht⟩ 0 = (x 0).val := (idx3_2 _).1.trans (show ((x 0).val * 2 + (x 1).val / 1024) / 2 = _ by omega)
    have e1 : win3_2.index ⟨_, ht⟩ 1 = (x 1).val / 1024 := (idx3_2 _).2.1.trans (show ((x 0).val * 2 + (x 1).val / 1024) % 2 = _ by omega)
    have e2 : win3_2.index ⟨_, ht⟩ 2 = 0 := (idx3_2 _).2.2
    intro a
    match a with
    | ⟨0, _⟩ => show win3_2.index ⟨_, ht⟩ 0 * 1 ≤ (x 0).val ∧ (x 0).val < win3_2.index ⟨_, ht⟩ 0 * 1 + 1; omega
    | ⟨1, _⟩ => show win3_2.index ⟨_, ht⟩ 1 * 1024 ≤ (x 1).val ∧ (x 1).val < win3_2.index ⟨_, ht⟩ 1 * 1024 + 1024; omega
    | ⟨2, _⟩ => show win3_2.index ⟨_, ht⟩ 2 * 1408 ≤ (x 2).val ∧ (x 2).val < win3_2.index ⟨_, ht⟩ 2 * 1408 + 1408; omega

/-- The up weight's gradient, as the call leaves it: in four blocks of columns. -/
theorem arr4_2 (c : Dev nD) : (dat4 V c).arrAt 2 cfg4.N
    = (fun x => colCol (vH V c) (vDup V c) (x 1).val ((x 0).val * 1408 + (x 2).val) : FVec Ideal S4x2048x1408 .bf16) := by
  refine (dat4 V c).arrAt_eq_of_cover 2 _ (fun t _ => ?_) (fun x => ?_)
  · show (dat4 V c).after 2 t = _
    rw [after4_2]
    funext y
    obtain ⟨z, r, q, rfl⟩ : ∃ (z : Fin 1) (r : Fin 1024) (q : Fin 1408), y = ix3 z r q := ⟨_, _, _, eq_ix3 y⟩
    obtain rfl : z = 0 := Subsingleton.elim _ _
    rw [View.read_apply]
    have h0 : (((cfg4.win 2).blk t).view.emb (ix3 0 r q) 0).val = t.val / 2 := by
      show win4_2.index t 0 * 1 + 1 * 0 = _; rw [(idx4_2 t).1]; simp
    have h1 : (((cfg4.win 2).blk t).view.emb (ix3 0 r q) 1).val = t.val % 2 * 1024 + r.val := by
      show win4_2.index t 1 * 1024 + 1 * r.val = _; rw [(idx4_2 t).2.1]; simp
    have h2 : (((cfg4.win 2).blk t).view.emb (ix3 0 r q) 2).val = q.val := by
      show win4_2.index t 2 * 1408 + 1 * q.val = _; rw [(idx4_2 t).2.2]; simp
    show out4_2 (iblk4 V c 0 t) (iblk4 V c 1 t) (ix3 0 r q) = colCol (vH V c) (vDup V c) (((cfg4.win 2).blk t).view.emb (ix3 0 r q) 1).val
      ((((cfg4.win 2).blk t).view.emb (ix3 0 r q) 0).val * 1408 + (((cfg4.win 2).blk t).view.emb (ix3 0 r q) 2).val)
    rw [h0, h1, h2, out4_apply]
    exact Finset.sum_congr rfl fun k _ => by rw [blk4_0, blk4_1]
  · have hx0 : (x 0).val < 4 := (x 0).isLt
    have hx1 : (x 1).val < 2048 := (x 1).isLt
    have hx2 : (x 2).val < 1408 := (x 2).isLt
    have ht : (x 0).val * 2 + (x 1).val / 1024 < cfg4.N := by rw [show cfg4.N = 8 from N_4]; omega
    refine ⟨⟨_, ht⟩, flush4_2 _, ?_⟩
    show x ∈ ((View.whole main_v4).slice (win4_2.rect ⟨_, ht⟩)).set
    rw [View.set_slice_whole, Rect.mem_set_unit]
    have e0 : win4_2.index ⟨_, ht⟩ 0 = (x 0).val := (idx4_2 _).1.trans (show ((x 0).val * 2 + (x 1).val / 1024) / 2 = _ by omega)
    have e1 : win4_2.index ⟨_, ht⟩ 1 = (x 1).val / 1024 := (idx4_2 _).2.1.trans (show ((x 0).val * 2 + (x 1).val / 1024) % 2 = _ by omega)
    have e2 : win4_2.index ⟨_, ht⟩ 2 = 0 := (idx4_2 _).2.2
    intro a
    match a with
    | ⟨0, _⟩ => show win4_2.index ⟨_, ht⟩ 0 * 1 ≤ (x 0).val ∧ (x 0).val < win4_2.index ⟨_, ht⟩ 0 * 1 + 1; omega
    | ⟨1, _⟩ => show win4_2.index ⟨_, ht⟩ 1 * 1024 ≤ (x 1).val ∧ (x 1).val < win4_2.index ⟨_, ht⟩ 1 * 1024 + 1024; omega
    | ⟨2, _⟩ => show win4_2.index ⟨_, ht⟩ 2 * 1408 ≤ (x 2).val ∧ (x 2).val < win4_2.index ⟨_, ht⟩ 2 * 1408 + 1408; omega

end Cert.FfnIdeal.Hand

end
-- ==== Proof.FfnRun.lean ====
/- The run of the five calls of the feed-forward block: each array it returns as a function of the arguments. -/
module

public import proofs.«01_k».proof.Proof.FfnArrays
public import proofs.«01_k».proof.Proof.Sums
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat cellOf)

namespace Cert.FfnIdeal.Hand

open Cert.FfnIdeal Cert.FfnIdeal.Gen Cert.Sums
open scoped BigOperators

variable (m : (ℓ : Loc nD τ sig) → Buf (Elt Ideal) ℓ) (ρ : Dev nD → PrngReg)

/-! ## What each call finds in its input arrays -/

theorem V1_arg0 (c : Dev nD) : V1 m ρ c main_arg0 = m ((c.tc : Thread nD τ).loc main_arg0) := W1_args m ρ c main_arg0 (by decide)
theorem V1_arg3 (c : Dev nD) : V1 m ρ c main_arg3 = m ((c.tc : Thread nD τ).loc main_arg3) := W1_args m ρ c main_arg3 (by decide)
theorem V1_arg4 (c : Dev nD) : V1 m ρ c main_arg4 = m ((c.tc : Thread nD τ).loc main_arg4) := W1_args m ρ c main_arg4 (by decide)
theorem V2_arg4 (c : Dev nD) : V2 m ρ c main_arg4 = m ((c.tc : Thread nD τ).loc main_arg4) := W2_args m ρ c main_arg4 (by decide)
theorem V3_arg0 (c : Dev nD) : V3 m ρ c main_arg0 = m ((c.tc : Thread nD τ).loc main_arg0) := W3_args m ρ c main_arg0 (by decide)
theorem V4_arg0 (c : Dev nD) : V4 m ρ c main_arg0 = m ((c.tc : Thread nD τ).loc main_arg0) := W4_args m ρ c main_arg0 (by decide)

/-- The five arguments as arrays of extended reals. -/
abbrev aH (c : Dev nD) : FVec Ideal S2112x2048 .bf16 := m ((c.tc : Thread nD τ).loc main_arg0)
abbrev aWg (c : Dev nD) : FVec Ideal S4x2048x1408 .bf16 := m ((c.tc : Thread nD τ).loc main_arg1)
abbrev aWu (c : Dev nD) : FVec Ideal S4x2048x1408 .bf16 := m ((c.tc : Thread nD τ).loc main_arg2)
abbrev aWd (c : Dev nD) : FVec Ideal S5632x2048 .bf16 := m ((c.tc : Thread nD τ).loc main_arg3)
abbrev aDy (c : Dev nD) : FVec Ideal S2112x2048 .bf16 := m ((c.tc : Thread nD τ).loc main_arg4)

/-! ## The six results as functions of the arguments -/

/-- The activations `silu(g) · u`. -/
def actOf (h : FVec Ideal S2112x2048 .bf16) (wg wu : FVec Ideal S4x2048x1408 .bf16) : FVec Ideal S2112x5632 .bf16 :=
  ofEntries fun i j => proj h wg i j * lgt (proj h wg i j) * proj h wu i j

/-- The gate's gradient `da · u · silu'(g)`. -/
def dgateOf (h : FVec Ideal S2112x2048 .bf16) (wg wu : FVec Ideal S4x2048x1408 .bf16) (wd : FVec Ideal S5632x2048 .bf16)
    (dy : FVec Ideal S2112x2048 .bf16) : FVec Ideal S2112x5632 .bf16 :=
  ofEntries fun i j => dact dy wd i j * proj h wu i j * (lgt (proj h wg i j) * (1 + proj h wg i j * (1 - lgt (proj h wg i j))))

/-- The up projection's gradient `da · silu(g)`. -/
def dupOf (h : FVec Ideal S2112x2048 .bf16) (wg : FVec Ideal S4x2048x1408 .bf16) (wd : FVec Ideal S5632x2048 .bf16)
    (dy : FVec Ideal S2112x2048 .bf16) : FVec Ideal S2112x5632 .bf16 :=
  ofEntries fun i j => dact dy wd i j * (proj h wg i j * lgt (proj h wg i j))

/-- A stacked weight's gradient `hᵀ · d`. -/
def dstackOf (h : FVec Ideal S2112x2048 .bf16) (d : FVec Ideal S2112x5632 .bf16) : FVec Ideal S4x2048x1408 .bf16 :=
  fun x => colCol h d (x 1).val ((x 0).val * 1408 + (x 2).val)

/-- The down weight's gradient `actᵀ · dy`. -/
def ddownOf (a : FVec Ideal S2112x5632 .bf16) (dy : FVec Ideal S2112x2048 .bf16) : FVec Ideal S5632x2048 .bf16 :=
  fun x => colCol a dy (x 0).val (x 1).val

/-! ## Each call's result, from the arguments -/

theorem ofEntries_congr {f g : ℕ → ℕ → EReal} (h : ∀ i j, i < 2112 → j < 5632 → f i j = g i j) : ofEntries f = ofEntries g :=
  funext fun x => h _ _ (x 0).isLt (x 1).isLt

theorem V1_up (c : Dev nD) : vUp (V1 m ρ) c = ofEntries fun i j => proj (aH m c) (aWu m c) i j :=
  (W1_arr m ρ c 3).trans (arr0_3 (V0 m ρ) c)
theorem V1_silu (c : Dev nD) : vSilu (V1 m ρ) c = ofEntries fun i j => proj (aH m c) (aWg m c) i j * lgt (proj (aH m c) (aWg m c) i j) :=
  (W1_arr m ρ c 4).trans (arr0_4 (V0 m ρ) c)
theorem V1_dsilu (c : Dev nD) : vDsilu (V1 m ρ) c
    = ofEntries fun i j => lgt (proj (aH m c) (aWg m c) i j) * (1 + proj (aH m c) (aWg m c) i j * (1 - lgt (proj (aH m c) (aWg m c) i j))) :=
  (W1_arr m ρ c 5).trans (arr0_5 (V0 m ρ) c)
theorem V1_act (c : Dev nD) : vAct (V1 m ρ) c = actOf (aH m c) (aWg m c) (aWu m c) :=
  (W1_arr m ρ c 6).trans (arr0_6 (V0 m ρ) c)

theorem V2_act (c : Dev nD) : vAct (V2 m ρ) c = actOf (aH m c) (aWg m c) (aWu m c) :=
  (W2_of m ρ c main_v0_3 (by decide +kernel)).trans (V1_act m ρ c)

theorem V2_dgate (c : Dev nD) : vDgate (V2 m ρ) c = dgateOf (aH m c) (aWg m c) (aWu m c) (aWd m c) (aDy m c) := by
  refine ((W2_arr m ρ c 5).trans (arr1_5 (V1 m ρ) c)).trans (ofEntries_congr fun i j hi hj => ?_)
  rw [V1_up, V1_dsilu, at2_ofEntries _ hi hj, at2_ofEntries _ hi hj]
  rw [show vDy (V1 m ρ) c = aDy m c from V1_arg4 m ρ c, show vWd (V1 m ρ) c = aWd m c from V1_arg3 m ρ c]

theorem V2_dup (c : Dev nD) : vDup (V2 m ρ) c = dupOf (aH m c) (aWg m c) (aWd m c) (aDy m c) := by
  refine ((W2_arr m ρ c 6).trans (arr1_6 (V1 m ρ) c)).trans (ofEntries_congr fun i j hi hj => ?_)
  rw [V1_silu, at2_ofEntries _ hi hj]
  rw [show vDy (V1 m ρ) c = aDy m c from V1_arg4 m ρ c, show vWd (V1 m ρ) c = aWd m c from V1_arg3 m ρ c]

theorem V3_dgate (c : Dev nD) : vDgate (V3 m ρ) c = dgateOf (aH m c) (aWg m c) (aWu m c) (aWd m c) (aDy m c) :=
  (W3_of m ρ c main_v1_0 (by decide +kernel)).trans (V2_dgate m ρ c)
theorem V4_dup (c : Dev nD) : vDup (V4 m ρ) c = dupOf (aH m c) (aWg m c) (aWd m c) (aDy m c) :=
  (W4_of m ρ c main_v1_1 (by decide +kernel)).trans ((W3_of m ρ c main_v1_1 (by decide +kernel)).trans (V2_dup m ρ c))

/-! ## The six result arrays at the end -/

theorem end_act (c : Dev nD) : W5 m ρ c (Proc.devRef .tc main_v0_3) = actOf (aH m c) (aWg m c) (aWu m c) :=
  (W5_of m ρ c main_v0_3 (by decide +kernel)).trans ((W4_of m ρ c main_v0_3 (by decide +kernel)).trans
    ((W3_of m ρ c main_v0_3 (by decide +kernel)).trans (V2_act m ρ c)))

theorem end_dgate (c : Dev nD) : W5 m ρ c (Proc.devRef .tc main_v1_0) = dgateOf (aH m c) (aWg m c) (aWu m c) (aWd m c) (aDy m c) :=
  (W5_of m ρ c main_v1_0 (by decide +kernel)).trans ((W4_of m ρ c main_v1_0 (by decide +kernel)).trans (V3_dgate m ρ c))

theorem end_dup (c : Dev nD) : W5 m ρ c (Proc.devRef .tc main_v1_1) = dupOf (aH m c) (aWg m c) (aWd m c) (aDy m c) :=
  (W5_of m ρ c main_v1_1 (by decide +kernel)).trans (V4_dup m ρ c)

theorem end_dwd (c : Dev nD) : W5 m ρ c (Proc.devRef .tc main_v2) = ddownOf (actOf (aH m c) (aWg m c) (aWu m c)) (aDy m c) := by
  refine (W5_of m ρ c main_v2 (by decide +kernel)).trans ((W4_of m ρ c main_v2 (by decide +kernel)).trans ((W3_arr m ρ c 2).trans ((arr2_2 (V2 m ρ) c).trans ?_)))
  rw [V2_act, show vDy (V2 m ρ) c = aDy m c from V2_arg4 m ρ c]
  rfl

theorem end_dwg (c : Dev nD) : W5 m ρ c (Proc.devRef .tc main_v3)
    = dstackOf (aH m c) (dgateOf (aH m c) (aWg m c) (aWu m c) (aWd m c) (aDy m c)) := by
  refine (W5_of m ρ c main_v3 (by decide +kernel)).trans ((W4_arr m ρ c 2).trans ((arr3_2 (V3 m ρ) c).trans ?_))
  rw [V3_dgate, show vH (V3 m ρ) c = aH m c from V3_arg0 m ρ c]
  rfl

theorem end_dwu (c : Dev nD) : W5 m ρ c (Proc.devRef .tc main_v4)
    = dstackOf (aH m c) (dupOf (aH m c) (aWg m c) (aWd m c) (aDy m c)) := by
  refine (W5_arr m ρ c 2).trans ((arr4_2 (V4 m ρ) c).trans ?_)
  rw [V4_dup, show vH (V4 m ρ) c = aH m c from V4_arg0 m ρ c]
  rfl

/-! ## The run -/

set_option backward.isDefEq.respectTransparency.types false in
/-- The run of the five calls: it ends with the six results at their closed forms and the arguments as they were. -/
theorem run : θ_run defs (onTc (τ := τ) (main (F := Ideal))) ⟨m, fun _ => 0, ρ⟩ (fun r => ∀ c : Dev nD,
      r.2.mem ((c.tc : Thread nD τ).loc main_v0_3) = actOf (aH m c) (aWg m c) (aWu m c)
      ∧ r.2.mem ((c.tc : Thread nD τ).loc main_v1_0) = dgateOf (aH m c) (aWg m c) (aWu m c) (aWd m c) (aDy m c)
      ∧ r.2.mem ((c.tc : Thread nD τ).loc main_v1_1) = dupOf (aH m c) (aWg m c) (aWd m c) (aDy m c)
      ∧ r.2.mem ((c.tc : Thread nD τ).loc main_v3) = dstackOf (aH m c) (dgateOf (aH m c) (aWg m c) (aWu m c) (aWd m c) (aDy m c))
      ∧ r.2.mem ((c.tc : Thread nD τ).loc main_v4) = dstackOf (aH m c) (dupOf (aH m c) (aWg m c) (aWd m c) (aDy m c))
      ∧ r.2.mem ((c.tc : Thread nD τ).loc main_v2) = ddownOf (actOf (aH m c) (aWg m c) (aWu m c)) (aDy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => (fun c =>
      ⟨(h c _ (mem_uc main_v0_3 (by decide))).trans (end_act m ρ c),
       (h c _ (mem_uc main_v1_0 (by decide))).trans (end_dgate m ρ c),
       (h c _ (mem_uc main_v1_1 (by decide))).trans (end_dup m ρ c),
       (h c _ (mem_uc main_v3 (by decide))).trans (end_dwg m ρ c),
       (h c _ (mem_uc main_v4 (by decide))).trans (end_dwu m ρ c),
       (h c _ (mem_uc main_v2 (by decide))).trans (end_dwd m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩))

end Cert.FfnIdeal.Hand

end
-- ==== Proof.FfnFinite.lean ====
/- The precondition of the feed-forward value claim, unfolded: every entry of the five arguments is a real number; and what finite numbers are closed under. -/
module

public import proofs.«01_k».proof.Pre_ffn_finite
public import proofs.«01_k».proof.Proof.FfnRun
public import Idealize.ShloMosaic.Lib.ReduceAll
public import Idealize.ShloMosaic.Lib.Tactic

@[expose] public section

set_option maxRecDepth 16384

noncomputable section

open Idealize.ShloMosaic

namespace Cert.Finite

open Cert.Sums Cert.FfnIdeal.Hand
open scoped BigOperators

/-- An extended real that is a real number. -/
def Real' (x : EReal) : Prop := ∃ r : ℝ, x = (r : EReal)

theorem Real'.mul {x y : EReal} : Real' x → Real' y → Real' (x * y) := fun ⟨a, ha⟩ ⟨b, hb⟩ => ⟨a * b, by rw [ha, hb, EReal.coe_mul]⟩
theorem Real'.add {x y : EReal} : Real' x → Real' y → Real' (x + y) := fun ⟨a, ha⟩ ⟨b, hb⟩ => ⟨a + b, by rw [ha, hb, EReal.coe_add]⟩
theorem Real'.zero : Real' 0 := ⟨0, rfl⟩

theorem Real'.sum {ι : Type*} (s : Finset ι) (f : ι → EReal) (h : ∀ i ∈ s, Real' (f i)) : Real' (∑ i ∈ s, f i) := by
  classical
  induction s using Finset.induction_on with
  | empty => simpa using Real'.zero
  | insert a s ha ih =>
    rw [Finset.sum_insert ha]
    exact (h a (Finset.mem_insert_self a s)).add (ih fun i hi => h i (Finset.mem_insert_of_mem hi))

theorem Real'.at2 {M N : ℕ} {a : (⟨2, ![M, N]⟩ : Shape).Idx → EReal} (h : ∀ x, Real' (a x)) (i j : ℕ) : Real' (at2 a i j) := by
  unfold Sums.at2
  split
  · exact h _
  · exact .zero

theorem Real'.at3 {M N P : ℕ} {a : (⟨3, ![M, N, P]⟩ : Shape).Idx → EReal} (h : ∀ x, Real' (a x)) (i j k : ℕ) : Real' (at3 a i j k) := by
  unfold Sums.at3
  split
  · exact h _
  · exact .zero

/-- The logistic function of a real number is a real number. -/
theorem Real'.lgt {x : EReal} : Real' x → Real' (lgt x) := by
  rintro ⟨g, rfl⟩
  refine ⟨1 / (1 + Real.exp (0 - g)), ?_⟩
  have e : (1 : EReal) + Ideal.exp (0 - (g : EReal)) = ((1 + Real.exp (0 - g) : ℝ) : EReal) := by
    rw [← EReal.coe_zero, ← EReal.coe_sub, Ideal.exp_coe, EReal.coe_add, EReal.coe_one]
  unfold FfnIdeal.Hand.lgt
  rw [e, Ideal.div_coe (by positivity), one_mul]

/-- The two spellings of `silu`'s derivative agree at real numbers. -/
theorem dsilu_eq {p g s : EReal} (hp : Real' p) (hg : Real' g) (hs : Real' s) :
    p * s + g * p * (s * (1 - s)) = p * (s * (1 + g * (1 - s))) := by
  obtain ⟨p, rfl⟩ := hp
  obtain ⟨g, rfl⟩ := hg
  obtain ⟨s, rfl⟩ := hs
  rw [← EReal.coe_one]
  simp only [← EReal.coe_sub, ← EReal.coe_mul, ← EReal.coe_add]
  congr 1
  ring

/-- An array all of whose absolute values are below plus infinity has real entries. -/
theorem real_of_all {s t u : Shape} [Subsingleton t.Idx] (x : FVec Ideal s .bf16) (hb) {axes : List (Fin s.rank)} (hbc) (hr : s.ReducesTo axes t)
    (hu : 0 < u.numel) (j : t.Idx)
    (e : Host.reduce IntOp.andi (cmpf .olt (Host.absf (extf .f32 x hb)) (broadcastInDim (s := ⟨0, ![]⟩) s ![] hbc (constant ⟨0, ![]⟩ .f32 0x7F800000#32)))
      (constantI u 1 1#1) hr hu j = 1#1) (i : s.Idx) : Real' (x i) := by
  have e1 := Host.reduce_andi_all _ _ _ _ _ e i
  have e2 : Ideal.cmp .olt (max (x i : EReal) (-(x i : EReal))) (Ideal.ofBits .f32 0x7F800000#32) = 1 := e1
  rw [Ideal.cmp_olt_eq_one, show Ideal.ofBits .f32 0x7F800000#32 = ⊤ by simp [Ideal.ofBits, Ideal.ieee], max_lt_iff] at e2
  refine ⟨EReal.toReal (x i), (EReal.coe_toReal e2.1.ne ?_).symm⟩
  intro h
  rw [h] at e2
  exact absurd e2.2 (by simp)

/-- The side conditions of the precondition's operations. -/
theorem facts : Cert.Pre_ffn_finite.Facts where
  bitsLt_bf16_f32 := by decide
  bcast_S_S2112x2048 := by decide
  reducesTo_S2112x2048_S_d0_1 := by decide
  h_S_ := by decide
  bcast_S_S4x2048x1408 := by decide
  reducesTo_S4x2048x1408_S_d0_1_2 := by decide
  bcast_S_S5632x2048 := by decide
  reducesTo_S5632x2048_S_d0_1 := by decide

instance : Subsingleton Cert.Pre_ffn_finite.S_.Idx := ⟨fun a b => funext fun x => x.elim0⟩

/-- The precondition: the entries of all five arguments are real numbers. -/
theorem of_pre [Cert.Pre_ffn_finite.Facts] (h : FVec Ideal ⟨2, ![2112, 2048]⟩ .bf16) (wg wu : FVec Ideal ⟨3, ![4, 2048, 1408]⟩ .bf16)
    (wd : FVec Ideal ⟨2, ![5632, 2048]⟩ .bf16) (dy : FVec Ideal ⟨2, ![2112, 2048]⟩ .bf16)
    (e : Cert.Pre_ffn_finite.fn (F := Ideal) h wg wu wd dy = fun _ => 1#1) :
    (∀ i, Real' (h i)) ∧ (∀ i, Real' (wg i)) ∧ (∀ i, Real' (wu i)) ∧ (∀ i, Real' (wd i)) ∧ ∀ i, Real' (dy i) := by
  have e' := congrFun e (fun a : Fin 0 => a.elim0)
  obtain ⟨e', e4⟩ := IntOp.andi_eq_one.1 e'
  obtain ⟨e', e3⟩ := IntOp.andi_eq_one.1 e'
  obtain ⟨e', e2⟩ := IntOp.andi_eq_one.1 e'
  obtain ⟨e0, e1⟩ := IntOp.andi_eq_one.1 e'
  exact ⟨real_of_all h _ _ _ _ _ e0, real_of_all wg _ _ _ _ _ e1, real_of_all wu _ _ _ _ _ e2, real_of_all wd _ _ _ _ _ e3,
    real_of_all dy _ _ _ _ _ e4⟩

end Cert.Finite

end
-- ==== Proof.FfnValue.lean ====
/- The reference of the feed-forward block read entry by entry, and the block's value claim. -/
module

public import proofs.«01_k».proof.Defs
public import proofs.«01_k».proof.Proof.FfnFinite
public import proofs.«01_k».proof.Proof.Gen.FfnRefIdeal.Run
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

namespace Cert.FfnRefIdeal.Hand

open Cert.FfnRefIdeal Cert.FfnRefIdeal.Gen Cert.Sums Cert.Finite
open Cert.FfnIdeal.Hand (proj dact colCol ofEntries lgt actOf dgateOf dupOf dstackOf ddownOf ofEntries_congr)
open scoped BigOperators

/-- The whole product with a stacked weight, read entry by entry. -/
theorem proj_eq (h : FVec Ideal S2112x2048 .bf16) (w : FVec Ideal S4x2048x1408 .bf16) :
    Host.dotGeneral (F := Ideal) dot_S2112x2048_S2048x5632_S2112x5632_1_0_0_1_n_n none (extf .f32 h bitsLt_bf16_f32)
        (shapeCast _ (transpose S2048x4x1408 [1, 0, 2] (extf .f32 w bitsLt_bf16_f32) transposes_S4x2048x1408_S2048x4x1408_1_0_2)
          shapeCasts_S2048x4x1408_S2048x5632)
      = (ofEntries (proj h w) : FVec Ideal S2112x5632 .f32) := by
  funext x
  obtain ⟨i, j, rfl⟩ : ∃ (i : Fin 2112) (j : Fin 5632), x = ix2 i j := ⟨_, _, eq_ix2 x⟩
  pointwise
  show _ = proj h w i.val j.val
  unfold proj
  refine Finset.sum_congr rfl fun k _ => ?_
  rw [eq_at2 h, eq_at3 w]

/-- The activations' gradient, read entry by entry. -/
theorem dact_eq (dy : FVec Ideal S2112x2048 .bf16) (wd : FVec Ideal S5632x2048 .bf16) :
    Host.dotGeneral (F := Ideal) dot_S2112x2048_S5632x2048_S2112x5632_1_1_0_0_n_n none (extf .f32 dy bitsLt_bf16_f32) (extf .f32 wd bitsLt_bf16_f32)
      = (ofEntries (dact dy wd) : FVec Ideal S2112x5632 .f32) := by
  funext x
  obtain ⟨i, j, rfl⟩ : ∃ (i : Fin 2112) (j : Fin 5632), x = ix2 i j := ⟨_, _, eq_ix2 x⟩
  pointwise
  show _ = dact dy wd i.val j.val
  unfold dact
  refine Finset.sum_congr rfl fun k _ => ?_
  rw [eq_at2 dy, eq_at2 wd]

/-- The reference's logistic function. -/
theorem lgt_eq (f : ℕ → ℕ → EReal) :
    Host.divf (F := Ideal) (broadcastInDim S2112x5632 ![] bcast_S_S2112x5632 (constant S_ .f32 0x3F800000#32))
        (addf (broadcastInDim S2112x5632 ![] bcast_S_S2112x5632 (constant S_ .f32 0x3F800000#32)) (Host.exp (Host.negf (ofEntries f : FVec Ideal S2112x5632 .f32))))
      = (ofEntries (fun i j => lgt (f i j)) : FVec Ideal S2112x5632 .f32) := by
  funext x
  obtain ⟨i, j, rfl⟩ : ∃ (i : Fin 2112) (j : Fin 5632), x = ix2 i j := ⟨_, _, eq_ix2 x⟩
  pointwise
  show _ = lgt (f i.val j.val)
  unfold lgt
  rw [zero_sub]
  rfl

/-- A stacked weight's gradient through the reference's transposes. -/
theorem stack_eq (h : FVec Ideal S2112x2048 .bf16) (d : FVec Ideal S2112x5632 .f32) :
    truncf (F := Ideal) .bf16 (transpose S4x2048x1408 [1, 0, 2] (shapeCast _ (transpose S2048x5632 [1, 0]
        (Host.dotGeneral dot_S2112x5632_S2112x2048_S5632x2048_0_0_1_1_n_n none d (extf .f32 h bitsLt_bf16_f32)) transposes_S5632x2048_S2048x5632_1_0)
        shapeCasts_S2048x5632_S2048x4x1408) transposes_S2048x4x1408_S4x2048x1408_1_0_2) bitsLt_bf16_f32 = dstackOf h d := by
  funext x
  obtain ⟨s, i, j, rfl⟩ : ∃ (s : Fin 4) (i : Fin 2048) (j : Fin 1408), x = ix3 s i j := ⟨_, _, _, eq_ix3 x⟩
  pointwise
  show _ = colCol h d i.val (s.val * 1408 + j.val)
  unfold colCol
  refine Finset.sum_congr rfl fun k _ => ?_
  rw [eq_at2 h, eq_at2 (M := 2112) (N := 5632) d, mul_comm]

/-- The down weight's gradient through the reference's transpose. -/
theorem down_eq (a : FVec Ideal S2112x5632 .f32) (dy : FVec Ideal S2112x2048 .bf16) :
    truncf (F := Ideal) .bf16 (transpose S5632x2048 [1, 0]
        (Host.dotGeneral dot_S2112x2048_S2112x5632_S2048x5632_0_0_1_1_n_n none (extf .f32 dy bitsLt_bf16_f32) a) transposes_S2048x5632_S5632x2048_1_0) bitsLt_bf16_f32
      = ddownOf a dy := by
  funext x
  obtain ⟨i, j, rfl⟩ : ∃ (i : Fin 5632) (j : Fin 2048), x = ix2 i j := ⟨_, _, eq_ix2 x⟩
  pointwise
  show _ = colCol a dy i.val j.val
  unfold colCol
  refine Finset.sum_congr rfl fun k _ => ?_
  rw [eq_at2 dy, eq_at2 (M := 2112) (N := 5632) a, mul_comm]

section Elementwise

variable (h : FVec Ideal S2112x2048 .bf16) (wg wu : FVec Ideal S4x2048x1408 .bf16) (wd : FVec Ideal S5632x2048 .bf16) (dy : FVec Ideal S2112x2048 .bf16)

/-- The activations. -/
theorem act_eq : mulf (F := Ideal) (φ := .f32) (mulf (φ := .f32) (ofEntries (proj h wg) : FVec Ideal S2112x5632 .f32) (ofEntries fun i j => lgt (proj h wg i j)))
      (ofEntries (proj h wu)) = (actOf h wg wu : FVec Ideal S2112x5632 .f32) := rfl

/-- The up projection's gradient. -/
theorem dup_eq : mulf (F := Ideal) (φ := .f32) (mulf (φ := .f32) (ofEntries (proj h wg) : FVec Ideal S2112x5632 .f32) (ofEntries fun i j => lgt (proj h wg i j)))
      (ofEntries (dact dy wd)) = (dupOf h wg wd dy : FVec Ideal S2112x5632 .f32) :=
  funext fun _ => mul_comm _ _

/-- The gate's gradient: the reference adds the two parts of `silu`'s derivative, which at real numbers is the product
    with their sum. -/
theorem dgate_eq (hh : ∀ i, Real' (h i)) (hg : ∀ i, Real' (wg i)) (hu : ∀ i, Real' (wu i)) (hd : ∀ i, Real' (wd i)) (hy : ∀ i, Real' (dy i)) :
    addf (F := Ideal) (φ := .f32) (mulf (φ := .f32) (mulf (φ := .f32) (ofEntries (dact dy wd) : FVec Ideal S2112x5632 .f32) (ofEntries (proj h wu))) (ofEntries fun i j => lgt (proj h wg i j)))
      (mulf (φ := .f32) (mulf (φ := .f32) (ofEntries (proj h wg)) (mulf (φ := .f32) (ofEntries (dact dy wd)) (ofEntries (proj h wu))))
        (mulf (φ := .f32) (ofEntries fun i j => lgt (proj h wg i j))
          (subf (φ := .f32) (broadcastInDim S2112x5632 ![] bcast_S_S2112x5632 (constant S_ .f32 0x3F800000#32)) (ofEntries fun i j => lgt (proj h wg i j)))))
      = (dgateOf h wg wu wd dy : FVec Ideal S2112x5632 .f32) := by
  have hp : ∀ (w : FVec Ideal S4x2048x1408 .bf16), (∀ i, Real' (w i)) → ∀ i j, Real' (proj h w i j) := fun w hw i j =>
    Real'.sum _ _ fun k _ => (Real'.at2 hh _ _).mul (Real'.at3 hw _ _ _)
  have hda : ∀ i j, Real' (dact dy wd i j) := fun i j => Real'.sum _ _ fun k _ => (Real'.at2 hy _ _).mul (Real'.at2 hd _ _)
  funext x
  have e1 : broadcastInDim S2112x5632 ![] bcast_S_S2112x5632 (constant (F := Ideal) S_ .f32 0x3F800000#32) x = (1 : EReal) := by
    pointwise
  show dact dy wd _ _ * proj h wu _ _ * lgt (proj h wg _ _)
      + proj h wg _ _ * (dact dy wd _ _ * proj h wu _ _) * (lgt (proj h wg _ _) * (_ - lgt (proj h wg _ _))) = _
  rw [e1]
  exact dsilu_eq ((hda _ _).mul (hp wu hu _ _)) (hp wg hg _ _) (hp wg hg _ _).lgt

end Elementwise

end Cert.FfnRefIdeal.Hand

namespace Cert.Ffn.Hand

open Idealize.ShloMosaic Idealize.SL.Sem Cert.FfnIdeal.Hand Cert.FfnRefIdeal.Hand Cert.Finite

/-- THE VALUE CLAIM of the feed-forward block: from the same finite arguments the five calls and the reference end with
    the same activations, the same gradients of the two projections and the same gradients of the three weights. -/
theorem algebraic [Cert.Pre_ffn_finite.Facts] : Cert.algebraic_FfnIdeal_FfnRefIdeal_pre_ffn_finite := by
  intro m g m' g' hpre hargs
  refine ⟨_, _, _, _, _, _, Cert.FfnIdeal.Hand.run m g, ?_⟩
  refine (θ_run _ _ _).mono (fun r h c => ?_) (Cert.FfnRefIdeal.Value.run (F := Ideal) m' g')
  obtain ⟨hh, hg, hu, hd, hy⟩ := of_pre _ _ _ _ _ (hpre c)
  obtain ⟨e0, e1, e2, e3, e4⟩ := hargs c
  obtain ⟨r0, r1, r2, r3, r4, r5, ra⟩ := h c
  rw [e0, e1, e2] at r0
  rw [e0, e1, e2, e3, e4] at r1 r3
  rw [e0, e1, e3, e4] at r2 r4
  rw [e0, e1, e2, e4] at r5
  refine ⟨r0.trans ?_, r1.trans ?_, r2.trans ?_, r3.trans ?_, r4.trans ?_, r5.trans ?_, ra⟩
  · rw [proj_eq, proj_eq, lgt_eq, act_eq]; rfl
  · rw [proj_eq, proj_eq, dact_eq, lgt_eq, dgate_eq _ _ _ _ _ hh hg hu hd hy]; rfl
  · rw [proj_eq, dact_eq, lgt_eq, dup_eq]; rfl
  · rw [proj_eq, proj_eq, dact_eq, lgt_eq, dgate_eq _ _ _ _ _ hh hg hu hd hy, stack_eq]
  · rw [proj_eq, dact_eq, lgt_eq, dup_eq, stack_eq]
  · rw [proj_eq, proj_eq, lgt_eq, act_eq, down_eq]

end Cert.Ffn.Hand

end
-- ==== Proof.FfnDh.lean ====
/-
  The feed-forward input gradient `dh = dgate · wgᵀ + dup · wuᵀ`: the kernel's result array and the reference's, both
  read at an index. The kernel adds, tile after tile of the hidden width, both products' partial sums into one
  accumulator; over the extended reals these sums regroup to the two whole products of the reference.
-/
module

public import proofs.«01_k».proof.Defs
public import proofs.«01_k».proof.Proof.Sums
public import proofs.«01_k».proof.Proof.Gen.FfnDhIdeal.Value
public import proofs.«01_k».proof.Proof.Gen.FfnDhRefIdeal.Run
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnDhIdeal.Hand

open Cert.FfnDhIdeal Cert.FfnDhIdeal.Gen Cert.FfnDhIdeal.Value Cert.Sums
open scoped BigOperators

/-- One point's update of the accumulator at an index: both partial products are added. -/
theorem step_apply (xs : FVec Ideal S704x2048 .f32) (x0 x2 : FVec Ideal S704x1408 .bf16) (x1 x3 : FVec Ideal S1x2048x1408 .bf16)
    (r : Fin 704) (q : Fin 2048) :
    k0_pay3 (k0_pay2 xs x0 x1) x2 x3 (ix2 r q)
      = xs (ix2 r q) + ((∑ k : Fin 1408, x0 (ix2 r k) * x1 (ix3 0 q k)) + ∑ k : Fin 1408, x2 (ix2 r k) * x3 (ix3 0 q k)) := by
  pointwise [k0_pay3, k0_pay2]
  rw [add_assoc]

/-- The accumulator's first contents are zero. -/
theorem init_apply (j : S704x2048.Idx) : k0_pay1 (F := Ideal) j = 0 := by
  pointwise [k0_pay1]

variable (m : (ℓ : Loc nD τ sig) → Buf (Elt Ideal) ℓ)

/-- A row tile's first point leaves the two partial products added onto zero. -/
theorem scratch_A (c : Dev nD) (t : Fin cfg0.N) (h0 : t.val % 4 = 0) :
    (outsAt0 m c t.val t.isLt).2 = k0_pay3 (k0_pay2 k0_pay1 (iblk m c 0 t) (iblk m c 1 t)) (iblk m c 2 t) (iblk m c 3 t) := by
  rw [outsAt0_A m c t h0 (by omega)]
  frame_out

/-- A later point adds its two partial products onto what the point before left … -/
theorem scratch_BC (c : Dev nD) (t : Fin cfg0.N) (h0 : ¬t.val % 4 = 0) :
    (outsAt0 m c t.val t.isLt).2
      = k0_pay3 (k0_pay2 (outsAt0 m c (t.val - 1) (Nat.lt_of_le_of_lt (Nat.sub_le _ _) t.isLt)).2 (iblk m c 0 t) (iblk m c 1 t))
          (iblk m c 2 t) (iblk m c 3 t) := by
  by_cases h1 : t.val % 4 = 3
  · rw [outsAt0_C m c t h0 h1]
    frame_out
    rw [(Memref.isWhole_whole _).read_unread]
  · rw [outsAt0_B m c t h0 h1]
    frame_out
    rw [(Memref.isWhole_whole _).read_unread]

/-- … and the last one stores the accumulator into the output block. -/
theorem out_C (c : Dev nD) (t : Fin cfg0.N) (h1 : t.val % 4 = 3) :
    (outsAt0 m c t.val t.isLt).1 = (outsAt0 m c t.val t.isLt).2 := by
  rw [outsAt0_C m c t (by omega) h1]
  frame_out

/-- The four arguments as arrays of extended reals. -/
abbrev dgate (c : Dev nD) : FVec Ideal S2112x5632 .bf16 := m ((c.tc : Thread nD τ).loc main_arg0)
abbrev wg (c : Dev nD) : FVec Ideal S4x2048x1408 .bf16 := m ((c.tc : Thread nD τ).loc main_arg1)
abbrev dup (c : Dev nD) : FVec Ideal S2112x5632 .bf16 := m ((c.tc : Thread nD τ).loc main_arg2)
abbrev wu (c : Dev nD) : FVec Ideal S4x2048x1408 .bf16 := m ((c.tc : Thread nD τ).loc main_arg3)

/-- The windows' index maps in closed form: point `t` is tile of rows `t / 4`, tile of the hidden width `t % 4`. -/
theorem idx0 : ∀ t : Fin cfg0.N, win0_0.index t 0 = t.val / 4 ∧ win0_0.index t 1 = t.val % 4 :=
  (by decide +kernel : ∀ t : Fin grid0.N, _)
theorem idx1 : ∀ t : Fin cfg0.N, win0_1.index t 0 = t.val % 4 ∧ win0_1.index t 1 = 0 ∧ win0_1.index t 2 = 0 :=
  (by decide +kernel : ∀ t : Fin grid0.N, _)
theorem idx2 : ∀ t : Fin cfg0.N, win0_2.index t 0 = t.val / 4 ∧ win0_2.index t 1 = t.val % 4 :=
  (by decide +kernel : ∀ t : Fin grid0.N, _)
theorem idx3 : ∀ t : Fin cfg0.N, win0_3.index t 0 = t.val % 4 ∧ win0_3.index t 1 = 0 ∧ win0_3.index t 2 = 0 :=
  (by decide +kernel : ∀ t : Fin grid0.N, _)

/-- The block of `dgate` at point `t`. -/
theorem blk0 (c : Dev nD) (t : Fin cfg0.N) (r : Fin 704) (k : Fin 1408) :
    (iblk m c 0 t : Vec Ideal S704x1408 .bf16) (ix2 r k) = at2 (dgate m c) (t.val / 4 * 704 + r.val) (t.val % 4 * 1408 + k.val) := by
  have hN : t.val < 12 := lt_of_lt_of_eq t.isLt N_0
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 704 + 1 * r.val = _; rw [(idx0 t).1]; simp
  | ⟨1, _⟩ => show win0_0.index t 1 * 1408 + 1 * k.val = _; rw [(idx0 t).2]; simp

/-- The block of `wg` at point `t`: the whole matrix of tile `t % 4`. -/
theorem blk1 (c : Dev nD) (t : Fin cfg0.N) (q : Fin 2048) (k : Fin 1408) :
    (iblk m c 1 t : Vec Ideal S1x2048x1408 .bf16) (ix3 0 q k) = at3 (wg m c) (t.val % 4) q.val k.val := by
  rw [at3_of_lt _ (by omega) q.isLt k.isLt]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 1 + 1 * 0 = _; rw [(idx1 t).1]; simp
  | ⟨1, _⟩ => show win0_1.index t 1 * 2048 + 1 * q.val = _; rw [(idx1 t).2.1]; simp
  | ⟨2, _⟩ => show win0_1.index t 2 * 1408 + 1 * k.val = _; rw [(idx1 t).2.2]; simp

/-- The block of `dup` at point `t`. -/
theorem blk2 (c : Dev nD) (t : Fin cfg0.N) (r : Fin 704) (k : Fin 1408) :
    (iblk m c 2 t : Vec Ideal S704x1408 .bf16) (ix2 r k) = at2 (dup m c) (t.val / 4 * 704 + r.val) (t.val % 4 * 1408 + k.val) := by
  have hN : t.val < 12 := lt_of_lt_of_eq t.isLt N_0
  rw [at2_of_lt _ (by omega) (by omega)]
  unfold iblk
  rw [View.read_apply]
  refine (congrFun (V_main_arg2 m c) _).trans (congrArg (m ((c.tc : Thread nD τ).loc main_arg2)) ?_)
  funext a
  apply Fin.ext
  match a with
  | ⟨0, _⟩ => show win0_2.index t 0 * 704 + 1 * r.val = _; rw [(idx2 t).1]; simp
  | ⟨1, _⟩ => show win0_2.index t 1 * 1408 + 1 * k.val = _; rw [(idx2 t).2]; simp

/-- The block of `wu` at point `t`: the whole matrix of tile `t % 4`. -/
theorem blk3 (c : Dev nD) (t : Fin cfg0.N) (q : Fin 2048) (k : Fin 1408) :
    (iblk m c 3 t : Vec Ideal S1x2048x1408 .bf16) (ix3 0 q k) = at3 (wu m c) (t.val % 4) q.val k.val := by
  rw [at3_of_lt _ (by omega) q.isLt k.isLt]
  unfold iblk
  rw [View.read_apply]
  refine (congrFun (V_main_arg3 m c) _).trans (congrArg (m ((c.tc : Thread nD τ).loc main_arg3)) ?_)
  funext a
  apply Fin.ext
  match a with
  | ⟨0, _⟩ => show win0_3.index t 0 * 1 + 1 * 0 = _; rw [(idx3 t).1]; simp
  | ⟨1, _⟩ => show win0_3.index t 1 * 2048 + 1 * q.val = _; rw [(idx3 t).2.1]; simp
  | ⟨2, _⟩ => show win0_3.index t 2 * 1408 + 1 * k.val = _; rw [(idx3 t).2.2]; simp

/-- What hidden tile `s` adds to row `i`, column `q` of the result. -/
def part (c : Dev nD) (i q s : ℕ) : EReal :=
  (∑ k : Fin 1408, at2 (dgate m c) i (s * 1408 + k.val) * at3 (wg m c) s q k.val)
    + ∑ k : Fin 1408, at2 (dup m c) i (s * 1408 + k.val) * at3 (wu m c) s q k.val

/-- The accumulator after point `n`: the sum of the tiles seen since the row tile began. -/
theorem scratch_eq (c : Dev nD) : ∀ (n : ℕ) (h : n < cfg0.N) (r : Fin 704) (q : Fin 2048),
    (outsAt0 m c n h).2 (ix2 r q) = ∑ s ∈ Finset.range (n % 4 + 1), part m c (n / 4 * 704 + r.val) q.val s := by
  intro n
  induction n with
  | zero =>
    intro h r q
    refine (congrFun (scratch_A m c ⟨0, h⟩ rfl) _).trans ?_
    rw [step_apply, init_apply, zero_add]
    simp only [blk0, blk1, blk2, blk3]
    simp [part]
  | succ n ih =>
    intro h r q
    by_cases h0 : (n + 1) % 4 = 0
    · refine (congrFun (scratch_A m c ⟨n + 1, h⟩ h0) _).trans ?_
      rw [step_apply, init_apply, zero_add]
      simp only [blk0, blk1, blk2, blk3, h0]
      simp [part]
    · refine (congrFun (scratch_BC m c ⟨n + 1, h⟩ h0) _).trans ?_
      rw [step_apply]
      simp only [blk0, blk1, blk2, blk3]
      have e1 : (n + 1) / 4 = n / 4 := by omega
      have e2 : (n + 1) % 4 = n % 4 + 1 := by omega
      rw [e1, e2, Finset.sum_range_succ]
      congr 1
      exact ih _ r q

/-- THE KERNEL'S RESULT at an index: the sum over the four hidden tiles. -/
theorem result_apply (c : Dev nD) (i : Fin 2112) (q : Fin 2048) :
    (G4 m c : S2112x2048.Idx → EReal) (ix2 i q) = ∑ s ∈ Finset.range 4, part m c i.val q.val s := by
  have hp : pt4Of (ix2 i q) = 4 * (i.val / 704) + 3 := by
    show 4 * (1 * (i.val / 704 - 0) + 1 * (q.val / 2048 - 0)) + 3 = _
    have := q.isLt
    omega
  have hN : pt4Of (ix2 i q) < cfg0.N := by
    rw [hp, show cfg0.N = 12 from N_0]
    have := i.isLt
    omega
  unfold G4
  rw [dif_pos hN, ← outsAt0_sweep m c _ hN]
  have hl : loc4Of (ix2 i q) = ix2 ⟨i.val % 704, Nat.mod_lt _ (by decide)⟩ q := by
    funext a
    apply Fin.ext
    match a with
    | ⟨0, _⟩ => rfl
    | ⟨1, _⟩ => exact Nat.mod_eq_of_lt q.isLt
  rw [hl, out_C m c ⟨pt4Of (ix2 i q), hN⟩ (by show pt4Of (ix2 i q) % 4 = 3; rw [hp]; omega), scratch_eq]
  have e1 : pt4Of (ix2 i q) % 4 + 1 = 4 := by rw [hp]; omega
  have e2 : pt4Of (ix2 i q) / 4 * 704 + i.val % 704 = i.val := by rw [hp]; omega
  simp only [e1, e2]

end Cert.FfnDhIdeal.Hand

namespace Cert.FfnDhRefIdeal.Hand

open Cert.FfnDhRefIdeal Cert.FfnDhRefIdeal.Gen Cert.Sums
open scoped BigOperators

/-- One of the reference's two products at an index: a row against a row of the weights, the weights' hidden tiles laid
    side by side. -/
theorem product_apply (x : FVec Ideal S2112x5632 .bf16) (w : FVec Ideal S4x2048x1408 .bf16) (i : Fin 2112) (q : Fin 2048) :
    Host.dotGeneral (F := Ideal) dot_S2112x5632_S2048x5632_S2112x2048_1_1_0_0_n_n none (extf .f32 x bitsLt_bf16_f32)
        (shapeCast _ (transpose S2048x4x1408 [1, 0, 2] (extf .f32 w bitsLt_bf16_f32) transposes_S4x2048x1408_S2048x4x1408_1_0_2)
          shapeCasts_S2048x4x1408_S2048x5632) (ix2 i q)
      = ∑ s ∈ Finset.range 4, ∑ k : Fin 1408, at2 x i.val (s * 1408 + k.val) * at3 w s q.val k.val := by
  pointwise
  have e := sum_fin_tiles (fun p => at2 x i.val p * at3 w (p / 1408) q.val (p % 1408)) 4 1408
  have e' : ∀ s : ℕ, (∑ k : Fin 1408, at2 x i.val (s * 1408 + k.val) * at3 w ((s * 1408 + k.val) / 1408) q.val ((s * 1408 + k.val) % 1408))
      = ∑ k : Fin 1408, at2 x i.val (s * 1408 + k.val) * at3 w s q.val k.val := fun s => by
    refine Finset.sum_congr rfl fun k _ => ?_
    have := k.isLt
    rw [show (s * 1408 + k.val) / 1408 = s by omega, show (s * 1408 + k.val) % 1408 = k.val by omega]
  simp only [e'] at e
  rw [← e]
  refine Finset.sum_congr rfl fun p _ => ?_
  rw [eq_at2 x, eq_at3 w]

end Cert.FfnDhRefIdeal.Hand

namespace Cert.FfnDh.Hand

open Cert.FfnDhIdeal.Hand Cert.FfnDhRefIdeal.Hand
open scoped BigOperators

/-- THE VALUE CLAIM of the input gradient: from the same arguments the kernel and the reference end with the same
    array of extended reals; the tile sums of the two products are regrouped. -/
theorem algebraic : Cert.algebraic_FfnDhIdeal_FfnDhRefIdeal := by
  intro m g m' g' _ hargs
  refine ⟨fun c => Cert.FfnDhIdeal.Value.G4 m c, Cert.FfnDhIdeal.Value.run m g, ?_⟩
  refine (θ_run _ _ _).mono (fun r h c => ⟨(h c).1.trans ?_, (h c).2⟩) (Cert.FfnDhRefIdeal.Value.run (F := Ideal) m' g')
  obtain ⟨e0, e1, e2, e3⟩ := hargs c
  rw [e0, e1, e2, e3]
  funext j
  obtain ⟨i, q, rfl⟩ : ∃ (i : Fin 2112) (q : Fin 2048), j = ix2 i q := ⟨_, _, eq_ix2 j⟩
  refine Eq.trans (congrArg₂ (· + ·) (product_apply (dup m c) (wu m c) i q) (product_apply (dgate m c) (wg m c) i q)) ?_
  refine Eq.trans ?_ (result_apply m c i q).symm
  simp only [part, Finset.sum_add_distrib]
  exact add_comm _ _

end Cert.FfnDh.Hand

end
-- ==== Proof.FfnDown.lean ====
/-
  The feed-forward block's last product with its residual, `y = x + ½ · (act · wd)`: the kernel's result array and the
  reference's, both read at an index. The kernel accumulates the product tile after tile of the hidden width and adds
  the residual at the last tile.
-/
module

public import proofs.«01_k».proof.Defs
public import proofs.«01_k».proof.Proof.Sums
public import proofs.«01_k».proof.Proof.Gen.FfnDownIdeal.Value
public import proofs.«01_k».proof.Proof.Gen.FfnDownRefIdeal.Run
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnDownIdeal.Hand

open Cert.FfnDownIdeal Cert.FfnDownIdeal.Gen Cert.FfnDownIdeal.Value Cert.Sums
open scoped BigOperators

/-- One point's update of the accumulator at an index: the tile's partial product is added. -/
theorem step_apply (xs : FVec Ideal S704x2048 .f32) (x1 : FVec Ideal S704x1408 .bf16) (x2 : FVec Ideal S1408x2048 .bf16)
    (r : Fin 704) (q : Fin 2048) :
    k0_pay2 xs x1 x2 (ix2 r q) = xs (ix2 r q) + ∑ k : Fin 1408, x1 (ix2 r k) * x2 (ix2 k q) := by
  pointwise [k0_pay2]

/-- The accumulator's first contents are zero. -/
theorem init_apply (j : S704x2048.Idx) : k0_pay1 (F := Ideal) j = 0 := by
  pointwise [k0_pay1]

/-- The one half both programs multiply by. -/
abbrev half : EReal := FloatOps.ofBits (F := Ideal) .f32 0x3F000000#32

/-- The last point's store: the residual plus half the accumulator. -/
theorem store_apply (x acc : FVec Ideal S704x2048 .f32) (j : S704x2048.Idx) :
    k0_pay3 x acc j = x j + half * acc j := rfl

variable (m : (ℓ : Loc nD τ sig) → Buf (Elt Ideal) ℓ)

/-- A row tile's first point leaves its partial product added onto zero. -/
theorem scratch_A (c : Dev nD) (t : Fin cfg0.N) (h0 : t.val % 4 = 0) :
    (outsAt0 m c t.val t.isLt).2 = k0_pay2 k0_pay1 (iblk m c 1 t) (iblk m c 2 t) := by
  rw [outsAt0_A m c t h0 (by omega)]
  frame_out

/-- A later point adds its partial product onto what the point before left … -/
theorem scratch_BC (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 1 t) (iblk m c 2 t) := by
  by_cases h1 : t.val % 4 = 3
  · rw [outsAt0_C m c t h0 h1]
    frame_out
    rw [(Memref.isWhole_whole _).read_unread]
  · rw [outsAt0_B m c t h0 h1]
    frame_out
    rw [(Memref.isWhole_whole _).read_unread]

/-- … and the last one stores the residual plus half the accumulator into the output block. -/
theorem out_C (c : Dev nD) (t : Fin cfg0.N) (h1 : t.val % 4 = 3) :
    (outsAt0 m c t.val t.isLt).1 = k0_pay3 (iblk m c 0 t) (outsAt0 m c t.val t.isLt).2 := by
  rw [outsAt0_C m c t (by omega) h1]
  frame_out

/-- The three arguments as arrays of extended reals. -/
abbrev act (c : Dev nD) : FVec Ideal S2112x5632 .bf16 := m ((c.tc : Thread nD τ).loc main_arg0)
abbrev wd (c : Dev nD) : FVec Ideal S5632x2048 .bf16 := m ((c.tc : Thread nD τ).loc main_arg1)
abbrev res (c : Dev nD) : FVec Ideal S2112x2048 .f32 := m ((c.tc : Thread nD τ).loc main_arg2)

/-- The windows' index maps in closed form: point `t` is tile of rows `t / 4`, tile of the hidden width `t % 4`. -/
theorem idx0 : ∀ t : Fin cfg0.N, win0_0.index t 0 = t.val / 4 ∧ win0_0.index t 1 = 0 :=
  (by decide +kernel : ∀ t : Fin grid0.N, _)
theorem idx1 : ∀ t : Fin cfg0.N, win0_1.index t 0 = t.val / 4 ∧ win0_1.index t 1 = t.val % 4 :=
  (by decide +kernel : ∀ t : Fin grid0.N, _)
theorem idx2 : ∀ t : Fin cfg0.N, win0_2.index t 0 = t.val % 4 ∧ win0_2.index t 1 = 0 :=
  (by decide +kernel : ∀ t : Fin grid0.N, _)

/-- The residual's block at point `t`. -/
theorem blk0 (c : Dev nD) (t : Fin cfg0.N) (r : Fin 704) (q : Fin 2048) :
    (iblk m c 0 t : Vec Ideal S704x2048 .f32) (ix2 r q) = at2 (res m c) (t.val / 4 * 704 + r.val) q.val := by
  have hN : t.val < 12 := lt_of_lt_of_eq t.isLt N_0
  rw [at2_of_lt _ (by omega) (by omega)]
  unfold iblk
  rw [View.read_apply]
  refine (congrFun (V_main_arg2 m c) _).trans (congrArg (m ((c.tc : Thread nD τ).loc main_arg2)) ?_)
  funext a
  apply Fin.ext
  match a with
  | ⟨0, _⟩ => show win0_0.index t 0 * 704 + 1 * r.val = _; rw [(idx0 t).1]; simp
  | ⟨1, _⟩ => show win0_0.index t 1 * 2048 + 1 * q.val = _; rw [(idx0 t).2]; simp

/-- The block of `act` at point `t`. -/
theorem blk1 (c : Dev nD) (t : Fin cfg0.N) (r : Fin 704) (k : Fin 1408) :
    (iblk m c 1 t : Vec Ideal S704x1408 .bf16) (ix2 r k) = at2 (act m c) (t.val / 4 * 704 + r.val) (t.val % 4 * 1408 + k.val) := by
  have hN : t.val < 12 := lt_of_lt_of_eq t.isLt N_0
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_1.index t 0 * 704 + 1 * r.val = _; rw [(idx1 t).1]; simp
  | ⟨1, _⟩ => show win0_1.index t 1 * 1408 + 1 * k.val = _; rw [(idx1 t).2]; simp

/-- The block of `wd` at point `t`. -/
theorem blk2 (c : Dev nD) (t : Fin cfg0.N) (k : Fin 1408) (q : Fin 2048) :
    (iblk m c 2 t : Vec Ideal S1408x2048 .bf16) (ix2 k q) = at2 (wd m c) (t.val % 4 * 1408 + k.val) q.val := by
  rw [at2_of_lt _ (by omega) q.isLt]
  unfold iblk
  rw [View.read_apply]
  refine (congrFun (V_main_arg1 m c) _).trans (congrArg (m ((c.tc : Thread nD τ).loc main_arg1)) ?_)
  funext a
  apply Fin.ext
  match a with
  | ⟨0, _⟩ => show win0_2.index t 0 * 1408 + 1 * k.val = _; rw [(idx2 t).1]; simp
  | ⟨1, _⟩ => show win0_2.index t 1 * 2048 + 1 * q.val = _; rw [(idx2 t).2]; simp

/-- What hidden tile `s` adds to row `i`, column `q` of the product. -/
def part (c : Dev nD) (i q s : ℕ) : EReal :=
  ∑ k : Fin 1408, at2 (act m c) i (s * 1408 + k.val) * at2 (wd m c) (s * 1408 + k.val) q

/-- The accumulator after point `n`: the sum of the tiles seen since the row tile began. -/
theorem scratch_eq (c : Dev nD) : ∀ (n : ℕ) (h : n < cfg0.N) (r : Fin 704) (q : Fin 2048),
    (outsAt0 m c n h).2 (ix2 r q) = ∑ s ∈ Finset.range (n % 4 + 1), part m c (n / 4 * 704 + r.val) q.val s := by
  intro n
  induction n with
  | zero =>
    intro h r q
    refine (congrFun (scratch_A m c ⟨0, h⟩ rfl) _).trans ?_
    rw [step_apply, init_apply, zero_add]
    simp only [blk1, blk2]
    simp [part]
  | succ n ih =>
    intro h r q
    by_cases h0 : (n + 1) % 4 = 0
    · refine (congrFun (scratch_A m c ⟨n + 1, h⟩ h0) _).trans ?_
      rw [step_apply, init_apply, zero_add]
      simp only [blk1, blk2, h0]
      simp [part]
    · refine (congrFun (scratch_BC m c ⟨n + 1, h⟩ h0) _).trans ?_
      rw [step_apply]
      simp only [blk1, blk2]
      have e1 : (n + 1) / 4 = n / 4 := by omega
      have e2 : (n + 1) % 4 = n % 4 + 1 := by omega
      rw [e1, e2, Finset.sum_range_succ]
      congr 1
      exact ih _ r q

/-- THE KERNEL'S RESULT at an index: the residual plus half the sum over the four hidden tiles. -/
theorem result_apply (c : Dev nD) (i : Fin 2112) (q : Fin 2048) :
    (G3 m c : S2112x2048.Idx → EReal) (ix2 i q) = res m c (ix2 i q) + half * ∑ s ∈ Finset.range 4, part m c i.val q.val s := by
  have hp : pt3Of (ix2 i q) = 4 * (i.val / 704) + 3 := by
    show 4 * (1 * (i.val / 704 - 0) + 1 * (q.val / 2048 - 0)) + 3 = _
    have := q.isLt
    omega
  have hN : pt3Of (ix2 i q) < cfg0.N := by
    rw [hp, show cfg0.N = 12 from N_0]
    have := i.isLt
    omega
  unfold G3
  rw [dif_pos hN, ← outsAt0_sweep m c _ hN]
  have hl : loc3Of (ix2 i q) = ix2 ⟨i.val % 704, Nat.mod_lt _ (by decide)⟩ q := by
    funext a
    apply Fin.ext
    match a with
    | ⟨0, _⟩ => rfl
    | ⟨1, _⟩ => exact Nat.mod_eq_of_lt q.isLt
  have e1 : pt3Of (ix2 i q) % 4 + 1 = 4 := by rw [hp]; omega
  have e2 : pt3Of (ix2 i q) / 4 * 704 + i.val % 704 = i.val := by rw [hp]; omega
  rw [hl, out_C m c ⟨pt3Of (ix2 i q), hN⟩ (by show pt3Of (ix2 i q) % 4 = 3; rw [hp]; omega), store_apply, scratch_eq, blk0, eq_at2 (res m c)]
  simp only [e1, e2]

end Cert.FfnDownIdeal.Hand

namespace Cert.FfnDownRefIdeal.Hand

open Cert.FfnDownRefIdeal Cert.FfnDownRefIdeal.Gen Cert.Sums
open scoped BigOperators

/-- The reference's product at an index, its sum over the hidden width cut into four tiles. -/
theorem product_apply (x : FVec Ideal S2112x5632 .bf16) (w : FVec Ideal S5632x2048 .bf16) (i : Fin 2112) (q : Fin 2048) :
    Host.dotGeneral (F := Ideal) dot_S2112x5632_S5632x2048_S2112x2048_1_0_0_1_n_n none (extf .f32 x bitsLt_bf16_f32)
        (extf .f32 w bitsLt_bf16_f32) (ix2 i q)
      = ∑ s ∈ Finset.range 4, ∑ k : Fin 1408, at2 x i.val (s * 1408 + k.val) * at2 w (s * 1408 + k.val) q.val := by
  pointwise
  rw [← sum_fin_tiles (fun p => at2 x i.val p * at2 w p q.val) 4 1408]
  refine Finset.sum_congr rfl fun p _ => ?_
  rw [eq_at2 x, eq_at2 w]

end Cert.FfnDownRefIdeal.Hand

namespace Cert.FfnDown.Hand

open Cert.FfnDownIdeal.Hand Cert.FfnDownRefIdeal.Hand
open scoped BigOperators

/-- THE VALUE CLAIM of the last product: from the same arguments the kernel and the reference end with the same array
    of extended reals. -/
theorem algebraic : Cert.algebraic_FfnDownIdeal_FfnDownRefIdeal := by
  intro m g m' g' _ hargs
  refine ⟨fun c => Cert.FfnDownIdeal.Value.G3 m c, Cert.FfnDownIdeal.Value.run m g, ?_⟩
  refine (θ_run _ _ _).mono (fun r h c => ⟨(h c).1.trans ?_, (h c).2⟩) (Cert.FfnDownRefIdeal.Value.run (F := Ideal) m' g')
  obtain ⟨e0, e1, e2⟩ := hargs c
  rw [e0, e1, e2]
  funext j
  obtain ⟨i, q, rfl⟩ : ∃ (i : Fin 2112) (q : Fin 2048), j = ix2 i q := ⟨_, _, eq_ix2 j⟩
  refine Eq.trans (congrArg (fun z => res m c (ix2 i q) + half * z) (product_apply (act m c) (wd m c) i q)) ?_
  exact (result_apply m c i q).symm

end Cert.FfnDown.Hand

end
-- ==== Proof.Adam.lean ====
/- The AdamW step at one entry and over an array of any shape: what a tile of the optimiser's calls computes, and what the
   reference's lines do. -/
module

public import Idealize.ShloMosaic.PureOps
public import Idealize.ShloMosaic.PureOps.Ideal
public import Idealize.ShloMosaic.Lib.Pipeline.ValueKit
public import Idealize.ShloMosaic.Lib.Tactic

@[expose] public section

noncomputable section

open Idealize.ShloMosaic

namespace Cert.Adam

variable {s t : Shape}

/-- The new first moment: `0.9 m + 0.1 g`. -/
def newM (g m : FVec Ideal s .f32) : FVec Ideal s .f32 :=
  addf (mulf (broadcast s (Scalar.ofBits .f32 0x3F666666#32)) m) (mulf (broadcast s (Scalar.ofBits .f32 0x3DCCCCCD#32)) g)

/-- The new second moment: `0.999 v + 0.001 g²`. -/
def newV (g v : FVec Ideal s .f32) : FVec Ideal s .f32 :=
  addf (mulf (broadcast s (Scalar.ofBits .f32 0x3F7FBE77#32)) v) (mulf (broadcast s (Scalar.ofBits .f32 0x3A83126F#32)) (mulf g g))

/-- The step: both moments divided by their corrections, the decay of the weight added, times minus the rate. -/
def delta (w g m v : FVec Ideal s .f32) : FVec Ideal s .f32 :=
  mulf (broadcast s (Scalar.ofBits .f32 0xBA83126F#32))
    (addf (divf (divf (newM g m) (broadcast s (Scalar.ofBits .f32 0x3F26BD02#32)))
        (addf (sqrt (divf (newV g v) (broadcast s (Scalar.ofBits .f32 0x3C231ACC#32)))) (broadcast s (Scalar.ofBits .f32 0x322BCC77#32))))
      (mulf (broadcast s (Scalar.ofBits .f32 0x3C23D70A#32)) w))

/-- The gradient, handed on. -/
@[irreducible] def copy (g : FVec Ideal s .f32) : FVec Ideal s .f32 := g

/-! ## The step is taken entry by entry -/

theorem newM_entry {g m : FVec Ideal s .f32} {g' m' : FVec Ideal t .f32} {x : s.Idx} {y : t.Idx} (hg : g x = g' y) (hm : m x = m' y) :
    newM g m x = newM g' m' y := by
  show FloatOps.addf (FloatOps.mulf _ (m x)) (FloatOps.mulf _ (g x)) = _; rw [hg, hm]; rfl

theorem newV_entry {g v : FVec Ideal s .f32} {g' v' : FVec Ideal t .f32} {x : s.Idx} {y : t.Idx} (hg : g x = g' y) (hv : v x = v' y) :
    newV g v x = newV g' v' y := by
  show FloatOps.addf (FloatOps.mulf _ (v x)) (FloatOps.mulf _ (FloatOps.mulf (g x) (g x))) = _; rw [hg, hv]; rfl

theorem delta_entry {w g m v : FVec Ideal s .f32} {w' g' m' v' : FVec Ideal t .f32} {x : s.Idx} {y : t.Idx} (hw : w x = w' y)
    (hg : g x = g' y) (hm : m x = m' y) (hv : v x = v' y) : delta w g m v x = delta w' g' m' v' y := by
  show FloatOps.mulf _ (FloatOps.addf (FloatOps.divf (FloatOps.divf (newM g m x) _) (FloatOps.addf (FloatOps.sqrt (FloatOps.divf (newV g v x) _)) _))
    (FloatOps.mulf _ (w x))) = _
  rw [newM_entry hg hm, newV_entry hg hv, hw]; rfl

theorem copy_entry {g : FVec Ideal s .f32} {g' : FVec Ideal t .f32} {x : s.Idx} {y : t.Idx} (hg : g x = g' y) : copy g x = copy g' y := by
  unfold copy; exact hg

theorem copy_eq (g : FVec Ideal s .f32) : copy g = g := by unfold copy; rfl

/-! ## … so it commutes with a change of shape -/

theorem newM_cast (h : s.ShapeCasts t) (g m : FVec Ideal s .f32) : newM (shapeCast t g h) (shapeCast t m h) = shapeCast t (newM g m) h := by
  funext x; exact newM_entry (g' := g) (m' := m) rfl rfl

theorem newV_cast (h : s.ShapeCasts t) (g m : FVec Ideal s .f32) : newV (shapeCast t g h) (shapeCast t m h) = shapeCast t (newV g m) h := by
  funext x; exact newV_entry (g' := g) (v' := m) rfl rfl

theorem delta_cast (h : s.ShapeCasts t) (w g m v : FVec Ideal s .f32) :
    delta (shapeCast t w h) (shapeCast t g h) (shapeCast t m h) (shapeCast t v h) = shapeCast t (delta w g m v) h := by
  funext x; exact delta_entry (w' := w) (g' := g) (m' := m) (v' := v) rfl rfl rfl rfl

/-- A constant spread over a shape, as the reference writes it. -/
theorem bcast_const (h) (b : BitVec 32) : broadcastInDim s ![] h (constant (F := Ideal) ⟨0, ![]⟩ .f32 b) = broadcast s (Scalar.ofBits .f32 b) := by
  funext x; rfl

end Cert.Adam

end
-- ==== Proof.AdamMeta.lean ====
/- The optimiser's call on the memory tokens: what it leaves, and the value claim against the reference's
   AdamW lines. -/
module

public import proofs.«01_k».proof.Proof.Gen.AdamMetaIdeal.Frame
public import proofs.«01_k».proof.Proof.Gen.AdamMetaRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamMetaIdeal.Hand

open Cert.AdamMetaIdeal Cert.AdamMetaIdeal.Gen Cert.Adam

variable (m : (ℓ : Loc nD τ sig) → Buf (Elt Ideal) ℓ) (ρ : Dev nD → PrngReg)

/-! ## A tile -/

theorem pay1_eq (g m : Vec Ideal S16x512 .f32) : k0_pay1 g m = newM g m := rfl
theorem pay2_eq (g v : Vec Ideal S16x512 .f32) : k0_pay2 g v = newV g v := rfl
theorem pay3_eq (g m v w : Vec Ideal S16x512 .f32) : k0_pay3 g m v w = delta w g m v := by
  unfold k0_pay3; simp only [pay1_eq, pay2_eq]; rfl

theorem after4 (c : Dev nD) (t : Fin cfg0.N) : (dats m 0 c).after 4 t
    = delta (s := S16x512) (iblk m c 0 t) (iblk m c 1 t) (iblk m c 2 t) (iblk m c 3 t) := by
  rw [after0_4]; frame_out; exact pay3_eq _ _ _ _
theorem after5 (c : Dev nD) (t : Fin cfg0.N) : (dats m 0 c).after 5 t = newM (s := S16x512) (iblk m c 1 t) (iblk m c 2 t) := by
  rw [after0_5]; frame_out; exact pay1_eq _ _
theorem after6 (c : Dev nD) (t : Fin cfg0.N) : (dats m 0 c).after 6 t = newV (s := S16x512) (iblk m c 1 t) (iblk m c 3 t) := by
  rw [after0_6]; frame_out; exact pay2_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (s := S16x512) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ covers.1 (fun t _ y => ?_)
  rw [after4]; exact delta_entry rfl rfl rfl rfl
theorem arr5 (c : Dev nD) : (dats m 0 c).arrAt 5 cfg0.N = newM (s := S16x512) (m ((c.tc : Thread nD τ).loc main_arg1)) (m ((c.tc : Thread nD τ).loc main_arg2)) := by
  refine (dats m 0 c).arrAt_eq_of_covers 5 _ covers.2.1 (fun t _ y => ?_)
  rw [after5]; exact newM_entry rfl rfl
theorem arr6 (c : Dev nD) : (dats m 0 c).arrAt 6 cfg0.N = newV (s := S16x512) (m ((c.tc : Thread nD τ).loc main_arg1)) (m ((c.tc : Thread nD τ).loc main_arg3)) := by
  refine (dats m 0 c).arrAt_eq_of_covers 6 _ covers.2.2 (fun t _ y => ?_)
  rw [after6]; exact newV_entry rfl rfl

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v0_0) = delta (s := S16x512) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v0_1) = newM (s := S16x512) (m ((c.tc : Thread nD τ).loc main_arg1)) (m ((c.tc : Thread nD τ).loc main_arg2))
      ∧ r.2.mem ((c.tc : Thread nD τ).loc main_v0_2) = newV (s := S16x512) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    exact ⟨((h.1 c).1 4).trans (arr4 m c), ((h.1 c).1 5).trans (arr5 m c), ((h.1 c).1 6).trans (arr6 m c), h.2 c⟩)
    (θ_run_and (run_main m ρ) (unchanged m ρ))

/-- The frame of the reference's lines: host code, read off its run. -/
theorem frame_ref : Cert.quiescent_AdamMetaRefIdeal := fun m ρ _ =>
  (θ_run Cert.AdamMetaRefIdeal.defs _ _).mono (fun r h => ⟨fun c => (h c).2.2.2, Idealize.ShloMosaic.sem_eq_zero_of_no_sems (by decide) r.2⟩)
    (Cert.AdamMetaRefIdeal.Value.run (F := Ideal) m ρ)

/-- THE VALUE CLAIM: the call and the reference's lines end with the same step and the same moments. -/
theorem algebraic : Cert.algebraic_AdamMetaIdeal_AdamMetaRefIdeal := by
  intro m g m' g' _ hargs
  refine ⟨_, _, _, run m g, ?_⟩
  refine (θ_run _ _ _).mono (fun r h c => ?_) (Cert.AdamMetaRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamMetaIdeal.Hand

end
-- ==== Proof.AdamNorm.lean ====
/- The optimiser's call on the feed-forward norms: what it leaves, and the value claim against the reference's
   AdamW lines. -/
module

public import proofs.«01_k».proof.Proof.Gen.AdamNormIdeal.Frame
public import proofs.«01_k».proof.Proof.Gen.AdamNormRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamNormIdeal.Hand

open Cert.AdamNormIdeal Cert.AdamNormIdeal.Gen Cert.Adam

variable (m : (ℓ : Loc nD τ sig) → Buf (Elt Ideal) ℓ) (ρ : Dev nD → PrngReg)

/-! ## A tile -/

theorem pay1_eq (g : Vec Ideal S4x512 .f32) : k0_pay1 g = copy g := (shapeCast_self _ _).trans (copy_eq g).symm
theorem pay2_eq (g m : Vec Ideal S4x512 .f32) : k0_pay2 g m = newM g m := by
  unfold k0_pay2; simp only [shapeCast_self, pay1_eq, copy_eq]; rfl
theorem pay3_eq (g v : Vec Ideal S4x512 .f32) : k0_pay3 g v = newV g v := by
  unfold k0_pay3; simp only [shapeCast_self, pay1_eq, copy_eq]; rfl
theorem pay4_eq (g m v w : Vec Ideal S4x512 .f32) : k0_pay4 g m v w = delta w g m v := by
  unfold k0_pay4; simp only [shapeCast_self, pay2_eq, pay3_eq]; rfl

theorem after4 (c : Dev nD) (t : Fin cfg0.N) : (dats m 0 c).after 4 t
    = delta (s := S4x512) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S4x512) (iblk m c 1 t) (iblk m c 2 t) := by
  rw [after0_5]; frame_out; exact pay2_eq _ _
theorem after6 (c : Dev nD) (t : Fin cfg0.N) : (dats m 0 c).after 6 t = newV (s := S4x512) (iblk m c 1 t) (iblk m c 3 t) := by
  rw [after0_6]; frame_out; exact pay3_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2 (fun t _ y => ?_)
  rw [after6]; exact newV_entry rfl rfl

/-! ## The host's lines around the call: the arguments and the results change their shapes -/

/-- An argument as the call finds it. -/
abbrev flat (x : FVec Ideal S2x2x512 .f32) : FVec Ideal S4x512 .f32 := shapeCast _ x shapeCasts_S2x2x512_S4x512

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 : FVec Ideal S2x2x512 .f32} (h4 : (dats m 0 c).arrAt 4 cfg0.N = flat a4)
    (h5 : (dats m 0 c).arrAt 5 cfg0.N = flat a5) (h6 : (dats m 0 c).arrAt 6 cfg0.N = flat a6) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 := by
  unfold Pipeline.afterTail₀
  simp only [hostOps1, List.flatten_cons, List.flatten_nil, List.append_nil]
  have back : ∀ {w} {A : FVec Ideal S4x512 .f32} {a}, A = w → w = flat a →
      shapeCast S2x2x512 A shapeCasts_S4x512_S2x2x512 = a := fun h h' => by
    rw [h, h']; exact shapeCast_shapeCast _ _ _
  refine ⟨?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S2x2x512) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S2x2x512) (m ((c.tc : Thread nD τ).loc main_arg1)) (m ((c.tc : Thread nD τ).loc main_arg2))
      ∧ r.2.mem ((c.tc : Thread nD τ).loc main_v7) = newV (s := S2x2x512) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6⟩ := tail_eq m c (by rw [arr4, e0, e1, e2, e3]; exact delta_cast _ _ _ _ _)
      (by rw [arr5, e1, e2]; exact newM_cast _ _ _) (by rw [arr6, e1, e3]; exact newV_cast _ _ _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6, h.2 c⟩)
    (θ_run_and (run_main m ρ) (unchanged m ρ))

/-- The frame of the reference's lines: host code, read off its run. -/
theorem frame_ref : Cert.quiescent_AdamNormRefIdeal := fun m ρ _ =>
  (θ_run Cert.AdamNormRefIdeal.defs _ _).mono (fun r h => ⟨fun c => (h c).2.2.2, Idealize.ShloMosaic.sem_eq_zero_of_no_sems (by decide) r.2⟩)
    (Cert.AdamNormRefIdeal.Value.run (F := Ideal) m ρ)

/-- THE VALUE CLAIM: the call and the reference's lines end with the same step and the same moments. -/
theorem algebraic : Cert.algebraic_AdamNormIdeal_AdamNormRefIdeal := by
  intro m g m' g' _ hargs
  refine ⟨_, _, _, run m g, ?_⟩
  refine (θ_run _ _ _).mono (fun r h c => ?_) (Cert.AdamNormRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamNormIdeal.Hand

end
-- ==== Proof.AdamUp.lean ====
/- The optimiser's call on a device's part of the gate and up projections: what it leaves, and the value claim against the reference's
   AdamW lines. -/
module

public import proofs.«01_k».proof.Proof.Gen.AdamUpIdeal.Frame
public import proofs.«01_k».proof.Proof.Gen.AdamUpRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamUpIdeal.Hand

open Cert.AdamUpIdeal Cert.AdamUpIdeal.Gen Cert.Adam

variable (m : (ℓ : Loc nD τ sig) → Buf (Elt Ideal) ℓ) (ρ : Dev nD → PrngReg)

/-! ## A tile -/

theorem pay1_eq (g : Vec Ideal S256x1408 .f32) : k0_pay1 g = copy g := (shapeCast_self _ _).trans (copy_eq g).symm
theorem pay2_eq (g m : Vec Ideal S256x1408 .f32) : k0_pay2 g m = newM g m := by
  unfold k0_pay2; simp only [shapeCast_self, pay1_eq, copy_eq]; rfl
theorem pay3_eq (g v : Vec Ideal S256x1408 .f32) : k0_pay3 g v = newV g v := by
  unfold k0_pay3; simp only [shapeCast_self, pay1_eq, copy_eq]; rfl
theorem pay4_eq (g m v w : Vec Ideal S256x1408 .f32) : k0_pay4 g m v w = delta w g m v := by
  unfold k0_pay4; simp only [shapeCast_self, pay2_eq, pay3_eq]; rfl

theorem after4 (c : Dev nD) (t : Fin cfg0.N) : (dats m 0 c).after 4 t
    = delta (s := S256x1408) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S256x1408) (iblk m c 1 t) (iblk m c 2 t) := by
  rw [after0_5]; frame_out; exact pay2_eq _ _
theorem after6 (c : Dev nD) (t : Fin cfg0.N) : (dats m 0 c).after 6 t = newV (s := S256x1408) (iblk m c 1 t) (iblk m c 3 t) := by
  rw [after0_6]; frame_out; exact pay3_eq _ _
theorem after7 (c : Dev nD) (t : Fin cfg0.N) : (dats m 0 c).after 7 t = copy (s := S256x1408) (iblk m c 1 t) := by
  rw [after0_7]; frame_out; exact pay1_eq _

/-! ## The arrays that the call leaves: every tile is written, at the same place as it is read -/

theorem covers : (cfg0.win 4).Covers ∧ (cfg0.win 5).Covers ∧ (cfg0.win 6).Covers ∧ (cfg0.win 7).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2.1 (fun t _ y => ?_)
  rw [after6]; exact newV_entry rfl rfl
theorem arr7 (c : Dev nD) : (dats m 0 c).arrAt 7 cfg0.N = copy (V m c main_v1) := by
  refine (dats m 0 c).arrAt_eq_of_covers 7 _ covers.2.2.2 (fun t _ y => ?_)
  rw [after7]; exact copy_entry rfl

/-! ## The host's lines around the call: the arguments and the results change their shapes -/

/-- An argument as the call finds it. -/
abbrev flat (x : FVec Ideal S2x2x2048x1408 .f32) : FVec Ideal S8192x1408 .f32 := shapeCast _ x shapeCasts_S2x2x2048x1408_S8192x1408

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 a7 : FVec Ideal S2x2x2048x1408 .f32} (h4 : (dats m 0 c).arrAt 4 cfg0.N = flat a4)
    (h5 : (dats m 0 c).arrAt 5 cfg0.N = flat a5) (h6 : (dats m 0 c).arrAt 6 cfg0.N = flat a6) (h7 : (dats m 0 c).arrAt 7 cfg0.N = flat a7) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 ∧ Pipeline.afterTail₀ cfgs (dats m) 0 (V0 m) [hostOps1] c main_v8 = a7 := by
  unfold Pipeline.afterTail₀
  simp only [hostOps1, List.flatten_cons, List.flatten_nil, List.append_nil]
  have back : ∀ {w} {A : FVec Ideal S8192x1408 .f32} {a}, A = w → w = flat a →
      shapeCast S2x2x2048x1408 A shapeCasts_S8192x1408_S2x2x2048x1408 = a := fun h h' => by
    rw [h, h']; exact shapeCast_shapeCast _ _ _
  refine ⟨?_, ?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6
  · after_results; exact back (Pipeline.withArrays_arr spec0 launch0.win.arr_inj c _ _ 7) h7

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S2x2x2048x1408) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S2x2x2048x1408) (m ((c.tc : Thread nD τ).loc main_arg1)) (m ((c.tc : Thread nD τ).loc main_arg2))
      ∧ r.2.mem ((c.tc : Thread nD τ).loc main_v7) = newV (s := S2x2x2048x1408) (m ((c.tc : Thread nD τ).loc main_arg1)) (m ((c.tc : Thread nD τ).loc main_arg3))
      ∧ r.2.mem ((c.tc : Thread nD τ).loc main_v8) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6, t7⟩ := tail_eq m c (by rw [arr4, e0, e1, e2, e3]; exact delta_cast _ _ _ _ _)
      (by rw [arr5, e1, e2]; exact newM_cast _ _ _) (by rw [arr6, e1, e3]; exact newV_cast _ _ _) (by rw [arr7, e1]; exact copy_eq _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6,
      (rest main_v8 (Pipeline.mem_restRefs_of main_v8 (by decide) (by decide))).trans t7, h.2 c⟩)
    (θ_run_and (run_main m ρ) (unchanged m ρ))

/-- The frame of the reference's lines: host code, read off its run. -/
theorem frame_ref : Cert.quiescent_AdamUpRefIdeal := fun m ρ _ =>
  (θ_run Cert.AdamUpRefIdeal.defs _ _).mono (fun r h => ⟨fun c => (h c).2.2.2.2, Idealize.ShloMosaic.sem_eq_zero_of_no_sems (by decide) r.2⟩)
    (Cert.AdamUpRefIdeal.Value.run (F := Ideal) m ρ)

/-- THE VALUE CLAIM: the call and the reference's lines end with the same step and the same moments. -/
theorem algebraic : Cert.algebraic_AdamUpIdeal_AdamUpRefIdeal := by
  intro m g m' g' _ hargs
  refine ⟨_, _, _, _, run m g, ?_⟩
  refine (θ_run _ _ _).mono (fun r h c => ?_) (Cert.AdamUpRefIdeal.Value.run (F := Ideal) m' g')
  obtain ⟨e0, e1, e2, e3⟩ := hargs c
  obtain ⟨r0, r1, r2, r3, ra⟩ := h c
  rw [e0, e1, e2, e3] at r0
  rw [e1, e2] at r1
  rw [e1, e3] at r2
  rw [e1] at r3
  refine ⟨r0.trans ?_, r1.trans ?_, r2.trans ?_, r3, ra⟩
  · simp only [bcast_const]; rfl
  · simp only [bcast_const]; rfl
  · simp only [bcast_const]; rfl

end Cert.AdamUpIdeal.Hand

end
-- ==== Proof.AdamDown.lean ====
/- The optimiser's call on a device's part of the down projections: what it leaves, and the value claim against the reference's
   AdamW lines. -/
module

public import proofs.«01_k».proof.Proof.Gen.AdamDownIdeal.Frame
public import proofs.«01_k».proof.Proof.Gen.AdamDownRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamDownIdeal.Hand

open Cert.AdamDownIdeal Cert.AdamDownIdeal.Gen Cert.Adam

variable (m : (ℓ : Loc nD τ sig) → Buf (Elt Ideal) ℓ) (ρ : Dev nD → PrngReg)

/-! ## A tile -/

theorem pay1_eq (g : Vec Ideal S256x2048 .f32) : k0_pay1 g = copy g := (shapeCast_self _ _).trans (copy_eq g).symm
theorem pay2_eq (g m : Vec Ideal S256x2048 .f32) : k0_pay2 g m = newM g m := by
  unfold k0_pay2; simp only [shapeCast_self, pay1_eq, copy_eq]; rfl
theorem pay3_eq (g v : Vec Ideal S256x2048 .f32) : k0_pay3 g v = newV g v := by
  unfold k0_pay3; simp only [shapeCast_self, pay1_eq, copy_eq]; rfl
theorem pay4_eq (g m v w : Vec Ideal S256x2048 .f32) : k0_pay4 g m v w = delta w g m v := by
  unfold k0_pay4; simp only [shapeCast_self, pay2_eq, pay3_eq]; rfl

theorem after4 (c : Dev nD) (t : Fin cfg0.N) : (dats m 0 c).after 4 t
    = delta (s := S256x2048) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S256x2048) (iblk m c 1 t) (iblk m c 2 t) := by
  rw [after0_5]; frame_out; exact pay2_eq _ _
theorem after6 (c : Dev nD) (t : Fin cfg0.N) : (dats m 0 c).after 6 t = newV (s := S256x2048) (iblk m c 1 t) (iblk m c 3 t) := by
  rw [after0_6]; frame_out; exact pay3_eq _ _
theorem after7 (c : Dev nD) (t : Fin cfg0.N) : (dats m 0 c).after 7 t = copy (s := S256x2048) (iblk m c 1 t) := by
  rw [after0_7]; frame_out; exact pay1_eq _

/-! ## The arrays that the call leaves: every tile is written, at the same place as it is read -/

theorem covers : (cfg0.win 4).Covers ∧ (cfg0.win 5).Covers ∧ (cfg0.win 6).Covers ∧ (cfg0.win 7).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2.1 (fun t _ y => ?_)
  rw [after6]; exact newV_entry rfl rfl
theorem arr7 (c : Dev nD) : (dats m 0 c).arrAt 7 cfg0.N = copy (V m c main_v1) := by
  refine (dats m 0 c).arrAt_eq_of_covers 7 _ covers.2.2.2 (fun t _ y => ?_)
  rw [after7]; exact copy_entry rfl

/-! ## The host's lines around the call: the arguments and the results change their shapes -/

/-- An argument as the call finds it. -/
abbrev flat (x : FVec Ideal S2x2x1408x2048 .f32) : FVec Ideal S5632x2048 .f32 := shapeCast _ x shapeCasts_S2x2x1408x2048_S5632x2048

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 a7 : FVec Ideal S2x2x1408x2048 .f32} (h4 : (dats m 0 c).arrAt 4 cfg0.N = flat a4)
    (h5 : (dats m 0 c).arrAt 5 cfg0.N = flat a5) (h6 : (dats m 0 c).arrAt 6 cfg0.N = flat a6) (h7 : (dats m 0 c).arrAt 7 cfg0.N = flat a7) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 ∧ Pipeline.afterTail₀ cfgs (dats m) 0 (V0 m) [hostOps1] c main_v8 = a7 := by
  unfold Pipeline.afterTail₀
  simp only [hostOps1, List.flatten_cons, List.flatten_nil, List.append_nil]
  have back : ∀ {w} {A : FVec Ideal S5632x2048 .f32} {a}, A = w → w = flat a →
      shapeCast S2x2x1408x2048 A shapeCasts_S5632x2048_S2x2x1408x2048 = a := fun h h' => by
    rw [h, h']; exact shapeCast_shapeCast _ _ _
  refine ⟨?_, ?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6
  · after_results; exact back (Pipeline.withArrays_arr spec0 launch0.win.arr_inj c _ _ 7) h7

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S2x2x1408x2048) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S2x2x1408x2048) (m ((c.tc : Thread nD τ).loc main_arg1)) (m ((c.tc : Thread nD τ).loc main_arg2))
      ∧ r.2.mem ((c.tc : Thread nD τ).loc main_v7) = newV (s := S2x2x1408x2048) (m ((c.tc : Thread nD τ).loc main_arg1)) (m ((c.tc : Thread nD τ).loc main_arg3))
      ∧ r.2.mem ((c.tc : Thread nD τ).loc main_v8) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6, t7⟩ := tail_eq m c (by rw [arr4, e0, e1, e2, e3]; exact delta_cast _ _ _ _ _)
      (by rw [arr5, e1, e2]; exact newM_cast _ _ _) (by rw [arr6, e1, e3]; exact newV_cast _ _ _) (by rw [arr7, e1]; exact copy_eq _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6,
      (rest main_v8 (Pipeline.mem_restRefs_of main_v8 (by decide) (by decide))).trans t7, h.2 c⟩)
    (θ_run_and (run_main m ρ) (unchanged m ρ))

/-- The frame of the reference's lines: host code, read off its run. -/
theorem frame_ref : Cert.quiescent_AdamDownRefIdeal := fun m ρ _ =>
  (θ_run Cert.AdamDownRefIdeal.defs _ _).mono (fun r h => ⟨fun c => (h c).2.2.2.2, Idealize.ShloMosaic.sem_eq_zero_of_no_sems (by decide) r.2⟩)
    (Cert.AdamDownRefIdeal.Value.run (F := Ideal) m ρ)

/-- THE VALUE CLAIM: the call and the reference's lines end with the same step and the same moments. -/
theorem algebraic : Cert.algebraic_AdamDownIdeal_AdamDownRefIdeal := by
  intro m g m' g' _ hargs
  refine ⟨_, _, _, _, run m g, ?_⟩
  refine (θ_run _ _ _).mono (fun r h c => ?_) (Cert.AdamDownRefIdeal.Value.run (F := Ideal) m' g')
  obtain ⟨e0, e1, e2, e3⟩ := hargs c
  obtain ⟨r0, r1, r2, r3, ra⟩ := h c
  rw [e0, e1, e2, e3] at r0
  rw [e1, e2] at r1
  rw [e1, e3] at r2
  rw [e1] at r3
  refine ⟨r0.trans ?_, r1.trans ?_, r2.trans ?_, r3, ra⟩
  · simp only [bcast_const]; rfl
  · simp only [bcast_const]; rfl
  · simp only [bcast_const]; rfl

end Cert.AdamDownIdeal.Hand

end
-- ==== Proof.AdamGlaNorm.lean ====
/- The optimiser's call on the attention's norm: what it leaves, and the value claim against the reference's
   AdamW lines. -/
module

public import proofs.«01_k».proof.Proof.Gen.AdamGlaNormIdeal.Frame
public import proofs.«01_k».proof.Proof.Gen.AdamGlaNormRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamGlaNormIdeal.Hand

open Cert.AdamGlaNormIdeal Cert.AdamGlaNormIdeal.Gen Cert.Adam

variable (m : (ℓ : Loc nD τ sig) → Buf (Elt Ideal) ℓ) (ρ : Dev nD → PrngReg)

/-! ## A tile -/

theorem pay1_eq (g m : Vec Ideal S1x2048 .f32) : k0_pay1 g m = newM g m := rfl
theorem pay2_eq (g v : Vec Ideal S1x2048 .f32) : k0_pay2 g v = newV g v := rfl
theorem pay3_eq (g m v w : Vec Ideal S1x2048 .f32) : k0_pay3 g m v w = delta w g m v := by
  unfold k0_pay3; simp only [pay1_eq, pay2_eq]; rfl

theorem after4 (c : Dev nD) (t : Fin cfg0.N) : (dats m 0 c).after 4 t
    = delta (s := S1x2048) (iblk m c 0 t) (iblk m c 1 t) (iblk m c 2 t) (iblk m c 3 t) := by
  rw [after0_4]; frame_out; exact pay3_eq _ _ _ _
theorem after5 (c : Dev nD) (t : Fin cfg0.N) : (dats m 0 c).after 5 t = newM (s := S1x2048) (iblk m c 1 t) (iblk m c 2 t) := by
  rw [after0_5]; frame_out; exact pay1_eq _ _
theorem after6 (c : Dev nD) (t : Fin cfg0.N) : (dats m 0 c).after 6 t = newV (s := S1x2048) (iblk m c 1 t) (iblk m c 3 t) := by
  rw [after0_6]; frame_out; exact pay2_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (s := S1x2048) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ covers.1 (fun t _ y => ?_)
  rw [after4]; exact delta_entry rfl rfl rfl rfl
theorem arr5 (c : Dev nD) : (dats m 0 c).arrAt 5 cfg0.N = newM (s := S1x2048) (m ((c.tc : Thread nD τ).loc main_arg1)) (m ((c.tc : Thread nD τ).loc main_arg2)) := by
  refine (dats m 0 c).arrAt_eq_of_covers 5 _ covers.2.1 (fun t _ y => ?_)
  rw [after5]; exact newM_entry rfl rfl
theorem arr6 (c : Dev nD) : (dats m 0 c).arrAt 6 cfg0.N = newV (s := S1x2048) (m ((c.tc : Thread nD τ).loc main_arg1)) (m ((c.tc : Thread nD τ).loc main_arg3)) := by
  refine (dats m 0 c).arrAt_eq_of_covers 6 _ covers.2.2 (fun t _ y => ?_)
  rw [after6]; exact newV_entry rfl rfl

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v0_0) = delta (s := S1x2048) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v0_1) = newM (s := S1x2048) (m ((c.tc : Thread nD τ).loc main_arg1)) (m ((c.tc : Thread nD τ).loc main_arg2))
      ∧ r.2.mem ((c.tc : Thread nD τ).loc main_v0_2) = newV (s := S1x2048) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    exact ⟨((h.1 c).1 4).trans (arr4 m c), ((h.1 c).1 5).trans (arr5 m c), ((h.1 c).1 6).trans (arr6 m c), h.2 c⟩)
    (θ_run_and (run_main m ρ) (unchanged m ρ))

/-- The frame of the reference's lines: host code, read off its run. -/
theorem frame_ref : Cert.quiescent_AdamGlaNormRefIdeal := fun m ρ _ =>
  (θ_run Cert.AdamGlaNormRefIdeal.defs _ _).mono (fun r h => ⟨fun c => (h c).2.2.2, Idealize.ShloMosaic.sem_eq_zero_of_no_sems (by decide) r.2⟩)
    (Cert.AdamGlaNormRefIdeal.Value.run (F := Ideal) m ρ)

/-- THE VALUE CLAIM: the call and the reference's lines end with the same step and the same moments. -/
theorem algebraic : Cert.algebraic_AdamGlaNormIdeal_AdamGlaNormRefIdeal := by
  intro m g m' g' _ hargs
  refine ⟨_, _, _, run m g, ?_⟩
  refine (θ_run _ _ _).mono (fun r h c => ?_) (Cert.AdamGlaNormRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamGlaNormIdeal.Hand

end
-- ==== Proof.AdamIn.lean ====
/- The optimiser's call on the attention's input projection: what it leaves, and the value claim against the reference's
   AdamW lines. -/
module

public import proofs.«01_k».proof.Proof.Gen.AdamInIdeal.Frame
public import proofs.«01_k».proof.Proof.Gen.AdamInRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamInIdeal.Hand

open Cert.AdamInIdeal Cert.AdamInIdeal.Gen Cert.Adam

variable (m : (ℓ : Loc nD τ sig) → Buf (Elt Ideal) ℓ) (ρ : Dev nD → PrngReg)

/-! ## A tile -/

theorem pay1_eq (g : Vec Ideal S256x1540 .f32) : k0_pay1 g = copy g := (shapeCast_self _ _).trans (copy_eq g).symm
theorem pay2_eq (g m : Vec Ideal S256x1540 .f32) : k0_pay2 g m = newM g m := by
  unfold k0_pay2; simp only [shapeCast_self, pay1_eq, copy_eq]; rfl
theorem pay3_eq (g v : Vec Ideal S256x1540 .f32) : k0_pay3 g v = newV g v := by
  unfold k0_pay3; simp only [shapeCast_self, pay1_eq, copy_eq]; rfl
theorem pay4_eq (g m v w : Vec Ideal S256x1540 .f32) : k0_pay4 g m v w = delta w g m v := by
  unfold k0_pay4; simp only [shapeCast_self, pay2_eq, pay3_eq]; rfl

theorem after4 (c : Dev nD) (t : Fin cfg0.N) : (dats m 0 c).after 4 t
    = delta (s := S256x1540) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S256x1540) (iblk m c 1 t) (iblk m c 2 t) := by
  rw [after0_5]; frame_out; exact pay2_eq _ _
theorem after6 (c : Dev nD) (t : Fin cfg0.N) : (dats m 0 c).after 6 t = newV (s := S256x1540) (iblk m c 1 t) (iblk m c 3 t) := by
  rw [after0_6]; frame_out; exact pay3_eq _ _
theorem after7 (c : Dev nD) (t : Fin cfg0.N) : (dats m 0 c).after 7 t = copy (s := S256x1540) (iblk m c 1 t) := by
  rw [after0_7]; frame_out; exact pay1_eq _

/-! ## The arrays that the call leaves: every tile is written, at the same place as it is read -/

theorem covers : (cfg0.win 4).Covers ∧ (cfg0.win 5).Covers ∧ (cfg0.win 6).Covers ∧ (cfg0.win 7).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2.1 (fun t _ y => ?_)
  rw [after6]; exact newV_entry rfl rfl
theorem arr7 (c : Dev nD) : (dats m 0 c).arrAt 7 cfg0.N = copy (V m c main_v1) := by
  refine (dats m 0 c).arrAt_eq_of_covers 7 _ covers.2.2.2 (fun t _ y => ?_)
  rw [after7]; exact copy_entry rfl

/-! ## The host's lines around the call: the arguments and the results change their shapes -/

/-- An argument as the call finds it. -/
abbrev flat (x : FVec Ideal S1x2048x1540 .f32) : FVec Ideal S2048x1540 .f32 := shapeCast _ x shapeCasts_S1x2048x1540_S2048x1540

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 a7 : FVec Ideal S1x2048x1540 .f32} (h4 : (dats m 0 c).arrAt 4 cfg0.N = flat a4)
    (h5 : (dats m 0 c).arrAt 5 cfg0.N = flat a5) (h6 : (dats m 0 c).arrAt 6 cfg0.N = flat a6) (h7 : (dats m 0 c).arrAt 7 cfg0.N = flat a7) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 ∧ Pipeline.afterTail₀ cfgs (dats m) 0 (V0 m) [hostOps1] c main_v8 = a7 := by
  unfold Pipeline.afterTail₀
  simp only [hostOps1, List.flatten_cons, List.flatten_nil, List.append_nil]
  have back : ∀ {w} {A : FVec Ideal S2048x1540 .f32} {a}, A = w → w = flat a →
      shapeCast S1x2048x1540 A shapeCasts_S2048x1540_S1x2048x1540 = a := fun h h' => by
    rw [h, h']; exact shapeCast_shapeCast _ _ _
  refine ⟨?_, ?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6
  · after_results; exact back (Pipeline.withArrays_arr spec0 launch0.win.arr_inj c _ _ 7) h7

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S1x2048x1540) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S1x2048x1540) (m ((c.tc : Thread nD τ).loc main_arg1)) (m ((c.tc : Thread nD τ).loc main_arg2))
      ∧ r.2.mem ((c.tc : Thread nD τ).loc main_v7) = newV (s := S1x2048x1540) (m ((c.tc : Thread nD τ).loc main_arg1)) (m ((c.tc : Thread nD τ).loc main_arg3))
      ∧ r.2.mem ((c.tc : Thread nD τ).loc main_v8) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6, t7⟩ := tail_eq m c (by rw [arr4, e0, e1, e2, e3]; exact delta_cast _ _ _ _ _)
      (by rw [arr5, e1, e2]; exact newM_cast _ _ _) (by rw [arr6, e1, e3]; exact newV_cast _ _ _) (by rw [arr7, e1]; exact copy_eq _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6,
      (rest main_v8 (Pipeline.mem_restRefs_of main_v8 (by decide) (by decide))).trans t7, h.2 c⟩)
    (θ_run_and (run_main m ρ) (unchanged m ρ))

/-- The frame of the reference's lines: host code, read off its run. -/
theorem frame_ref : Cert.quiescent_AdamInRefIdeal := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

/-- THE VALUE CLAIM: the call and the reference's lines end with the same step and the same moments. -/
theorem algebraic : Cert.algebraic_AdamInIdeal_AdamInRefIdeal := by
  intro m g m' g' _ hargs
  refine ⟨_, _, _, _, run m g, ?_⟩
  refine (θ_run _ _ _).mono (fun r h c => ?_) (Cert.AdamInRefIdeal.Value.run (F := Ideal) m' g')
  obtain ⟨e0, e1, e2, e3⟩ := hargs c
  obtain ⟨r0, r1, r2, r3, ra⟩ := h c
  rw [e0, e1, e2, e3] at r0
  rw [e1, e2] at r1
  rw [e1, e3] at r2
  rw [e1] at r3
  refine ⟨r0.trans ?_, r1.trans ?_, r2.trans ?_, r3, ra⟩
  · simp only [bcast_const]; rfl
  · simp only [bcast_const]; rfl
  · simp only [bcast_const]; rfl

end Cert.AdamInIdeal.Hand

end
-- ==== Proof.AdamRank.lean ====
/- The optimiser's call on the gate's low-rank projection: what it leaves, and the value claim against the reference's
   AdamW lines. -/
module

public import proofs.«01_k».proof.Proof.Gen.AdamRankIdeal.Frame
public import proofs.«01_k».proof.Proof.Gen.AdamRankRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamRankIdeal.Hand

open Cert.AdamRankIdeal Cert.AdamRankIdeal.Gen Cert.Adam

variable (m : (ℓ : Loc nD τ sig) → Buf (Elt Ideal) ℓ) (ρ : Dev nD → PrngReg)

/-! ## A tile -/

theorem pay1_eq (g : Vec Ideal S16x256 .f32) : k0_pay1 g = copy g := (shapeCast_self _ _).trans (copy_eq g).symm
theorem pay2_eq (g m : Vec Ideal S16x256 .f32) : k0_pay2 g m = newM g m := by
  unfold k0_pay2; simp only [shapeCast_self, pay1_eq, copy_eq]; rfl
theorem pay3_eq (g v : Vec Ideal S16x256 .f32) : k0_pay3 g v = newV g v := by
  unfold k0_pay3; simp only [shapeCast_self, pay1_eq, copy_eq]; rfl
theorem pay4_eq (g m v w : Vec Ideal S16x256 .f32) : k0_pay4 g m v w = delta w g m v := by
  unfold k0_pay4; simp only [shapeCast_self, pay2_eq, pay3_eq]; rfl

theorem after4 (c : Dev nD) (t : Fin cfg0.N) : (dats m 0 c).after 4 t
    = delta (s := S16x256) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S16x256) (iblk m c 1 t) (iblk m c 2 t) := by
  rw [after0_5]; frame_out; exact pay2_eq _ _
theorem after6 (c : Dev nD) (t : Fin cfg0.N) : (dats m 0 c).after 6 t = newV (s := S16x256) (iblk m c 1 t) (iblk m c 3 t) := by
  rw [after0_6]; frame_out; exact pay3_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2 (fun t _ y => ?_)
  rw [after6]; exact newV_entry rfl rfl

/-! ## The host's lines around the call: the arguments and the results change their shapes -/

/-- An argument as the call finds it. -/
abbrev flat (x : FVec Ideal S1x16x256 .f32) : FVec Ideal S16x256 .f32 := shapeCast _ x shapeCasts_S1x16x256_S16x256

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 : FVec Ideal S1x16x256 .f32} (h4 : (dats m 0 c).arrAt 4 cfg0.N = flat a4)
    (h5 : (dats m 0 c).arrAt 5 cfg0.N = flat a5) (h6 : (dats m 0 c).arrAt 6 cfg0.N = flat a6) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 := by
  unfold Pipeline.afterTail₀
  simp only [hostOps1, List.flatten_cons, List.flatten_nil, List.append_nil]
  have back : ∀ {w} {A : FVec Ideal S16x256 .f32} {a}, A = w → w = flat a →
      shapeCast S1x16x256 A shapeCasts_S16x256_S1x16x256 = a := fun h h' => by
    rw [h, h']; exact shapeCast_shapeCast _ _ _
  refine ⟨?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S1x16x256) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S1x16x256) (m ((c.tc : Thread nD τ).loc main_arg1)) (m ((c.tc : Thread nD τ).loc main_arg2))
      ∧ r.2.mem ((c.tc : Thread nD τ).loc main_v7) = newV (s := S1x16x256) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6⟩ := tail_eq m c (by rw [arr4, e0, e1, e2, e3]; exact delta_cast _ _ _ _ _)
      (by rw [arr5, e1, e2]; exact newM_cast _ _ _) (by rw [arr6, e1, e3]; exact newV_cast _ _ _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6, h.2 c⟩)
    (θ_run_and (run_main m ρ) (unchanged m ρ))

/-- The frame of the reference's lines: host code, read off its run. -/
theorem frame_ref : Cert.quiescent_AdamRankRefIdeal := fun m ρ _ =>
  (θ_run Cert.AdamRankRefIdeal.defs _ _).mono (fun r h => ⟨fun c => (h c).2.2.2, Idealize.ShloMosaic.sem_eq_zero_of_no_sems (by decide) r.2⟩)
    (Cert.AdamRankRefIdeal.Value.run (F := Ideal) m ρ)

/-- THE VALUE CLAIM: the call and the reference's lines end with the same step and the same moments. -/
theorem algebraic : Cert.algebraic_AdamRankIdeal_AdamRankRefIdeal := by
  intro m g m' g' _ hargs
  refine ⟨_, _, _, run m g, ?_⟩
  refine (θ_run _ _ _).mono (fun r h c => ?_) (Cert.AdamRankRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamRankIdeal.Hand

end
-- ==== Proof.AdamBias.lean ====
/- The optimiser's call on the gate's bias: what it leaves, and the value claim against the reference's
   AdamW lines. -/
module

public import proofs.«01_k».proof.Proof.Gen.AdamBiasIdeal.Frame
public import proofs.«01_k».proof.Proof.Gen.AdamBiasRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamBiasIdeal.Hand

open Cert.AdamBiasIdeal Cert.AdamBiasIdeal.Gen Cert.Adam

variable (m : (ℓ : Loc nD τ sig) → Buf (Elt Ideal) ℓ) (ρ : Dev nD → PrngReg)

/-! ## A tile -/

theorem pay1_eq (g m : Vec Ideal S1x1024 .f32) : k0_pay1 g m = newM g m := rfl
theorem pay2_eq (g v : Vec Ideal S1x1024 .f32) : k0_pay2 g v = newV g v := rfl
theorem pay3_eq (g m v w : Vec Ideal S1x1024 .f32) : k0_pay3 g m v w = delta w g m v := by
  unfold k0_pay3; simp only [pay1_eq, pay2_eq]; rfl

theorem after4 (c : Dev nD) (t : Fin cfg0.N) : (dats m 0 c).after 4 t
    = delta (s := S1x1024) (iblk m c 0 t) (iblk m c 1 t) (iblk m c 2 t) (iblk m c 3 t) := by
  rw [after0_4]; frame_out; exact pay3_eq _ _ _ _
theorem after5 (c : Dev nD) (t : Fin cfg0.N) : (dats m 0 c).after 5 t = newM (s := S1x1024) (iblk m c 1 t) (iblk m c 2 t) := by
  rw [after0_5]; frame_out; exact pay1_eq _ _
theorem after6 (c : Dev nD) (t : Fin cfg0.N) : (dats m 0 c).after 6 t = newV (s := S1x1024) (iblk m c 1 t) (iblk m c 3 t) := by
  rw [after0_6]; frame_out; exact pay2_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (s := S1x1024) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ covers.1 (fun t _ y => ?_)
  rw [after4]; exact delta_entry rfl rfl rfl rfl
theorem arr5 (c : Dev nD) : (dats m 0 c).arrAt 5 cfg0.N = newM (s := S1x1024) (m ((c.tc : Thread nD τ).loc main_arg1)) (m ((c.tc : Thread nD τ).loc main_arg2)) := by
  refine (dats m 0 c).arrAt_eq_of_covers 5 _ covers.2.1 (fun t _ y => ?_)
  rw [after5]; exact newM_entry rfl rfl
theorem arr6 (c : Dev nD) : (dats m 0 c).arrAt 6 cfg0.N = newV (s := S1x1024) (m ((c.tc : Thread nD τ).loc main_arg1)) (m ((c.tc : Thread nD τ).loc main_arg3)) := by
  refine (dats m 0 c).arrAt_eq_of_covers 6 _ covers.2.2 (fun t _ y => ?_)
  rw [after6]; exact newV_entry rfl rfl

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v0_0) = delta (s := S1x1024) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v0_1) = newM (s := S1x1024) (m ((c.tc : Thread nD τ).loc main_arg1)) (m ((c.tc : Thread nD τ).loc main_arg2))
      ∧ r.2.mem ((c.tc : Thread nD τ).loc main_v0_2) = newV (s := S1x1024) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    exact ⟨((h.1 c).1 4).trans (arr4 m c), ((h.1 c).1 5).trans (arr5 m c), ((h.1 c).1 6).trans (arr6 m c), h.2 c⟩)
    (θ_run_and (run_main m ρ) (unchanged m ρ))

/-- The frame of the reference's lines: host code, read off its run. -/
theorem frame_ref : Cert.quiescent_AdamBiasRefIdeal := fun m ρ _ =>
  (θ_run Cert.AdamBiasRefIdeal.defs _ _).mono (fun r h => ⟨fun c => (h c).2.2.2, Idealize.ShloMosaic.sem_eq_zero_of_no_sems (by decide) r.2⟩)
    (Cert.AdamBiasRefIdeal.Value.run (F := Ideal) m ρ)

/-- THE VALUE CLAIM: the call and the reference's lines end with the same step and the same moments. -/
theorem algebraic : Cert.algebraic_AdamBiasIdeal_AdamBiasRefIdeal := by
  intro m g m' g' _ hargs
  refine ⟨_, _, _, run m g, ?_⟩
  refine (θ_run _ _ _).mono (fun r h c => ?_) (Cert.AdamBiasRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamBiasIdeal.Hand

end
-- ==== Proof.AdamHead.lean ====
/- The optimiser's call on the weights of 512 entries: the attention heads' norm, the pooling's norm and its scale: what it leaves, and the value claim against the reference's
   AdamW lines. -/
module

public import proofs.«01_k».proof.Proof.Gen.AdamHeadIdeal.Frame
public import proofs.«01_k».proof.Proof.Gen.AdamHeadRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamHeadIdeal.Hand

open Cert.AdamHeadIdeal Cert.AdamHeadIdeal.Gen Cert.Adam

variable (m : (ℓ : Loc nD τ sig) → Buf (Elt Ideal) ℓ) (ρ : Dev nD → PrngReg)

/-! ## A tile -/

theorem pay1_eq (g m : Vec Ideal S1x512 .f32) : k0_pay1 g m = newM g m := rfl
theorem pay2_eq (g v : Vec Ideal S1x512 .f32) : k0_pay2 g v = newV g v := rfl
theorem pay3_eq (g m v w : Vec Ideal S1x512 .f32) : k0_pay3 g m v w = delta w g m v := by
  unfold k0_pay3; simp only [pay1_eq, pay2_eq]; rfl

theorem after4 (c : Dev nD) (t : Fin cfg0.N) : (dats m 0 c).after 4 t
    = delta (s := S1x512) (iblk m c 0 t) (iblk m c 1 t) (iblk m c 2 t) (iblk m c 3 t) := by
  rw [after0_4]; frame_out; exact pay3_eq _ _ _ _
theorem after5 (c : Dev nD) (t : Fin cfg0.N) : (dats m 0 c).after 5 t = newM (s := S1x512) (iblk m c 1 t) (iblk m c 2 t) := by
  rw [after0_5]; frame_out; exact pay1_eq _ _
theorem after6 (c : Dev nD) (t : Fin cfg0.N) : (dats m 0 c).after 6 t = newV (s := S1x512) (iblk m c 1 t) (iblk m c 3 t) := by
  rw [after0_6]; frame_out; exact pay2_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (s := S1x512) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ covers.1 (fun t _ y => ?_)
  rw [after4]; exact delta_entry rfl rfl rfl rfl
theorem arr5 (c : Dev nD) : (dats m 0 c).arrAt 5 cfg0.N = newM (s := S1x512) (m ((c.tc : Thread nD τ).loc main_arg1)) (m ((c.tc : Thread nD τ).loc main_arg2)) := by
  refine (dats m 0 c).arrAt_eq_of_covers 5 _ covers.2.1 (fun t _ y => ?_)
  rw [after5]; exact newM_entry rfl rfl
theorem arr6 (c : Dev nD) : (dats m 0 c).arrAt 6 cfg0.N = newV (s := S1x512) (m ((c.tc : Thread nD τ).loc main_arg1)) (m ((c.tc : Thread nD τ).loc main_arg3)) := by
  refine (dats m 0 c).arrAt_eq_of_covers 6 _ covers.2.2 (fun t _ y => ?_)
  rw [after6]; exact newV_entry rfl rfl

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v0_0) = delta (s := S1x512) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v0_1) = newM (s := S1x512) (m ((c.tc : Thread nD τ).loc main_arg1)) (m ((c.tc : Thread nD τ).loc main_arg2))
      ∧ r.2.mem ((c.tc : Thread nD τ).loc main_v0_2) = newV (s := S1x512) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    exact ⟨((h.1 c).1 4).trans (arr4 m c), ((h.1 c).1 5).trans (arr5 m c), ((h.1 c).1 6).trans (arr6 m c), h.2 c⟩)
    (θ_run_and (run_main m ρ) (unchanged m ρ))

/-- The frame of the reference's lines: host code, read off its run. -/
theorem frame_ref : Cert.quiescent_AdamHeadRefIdeal := fun m ρ _ =>
  (θ_run Cert.AdamHeadRefIdeal.defs _ _).mono (fun r h => ⟨fun c => (h c).2.2.2, Idealize.ShloMosaic.sem_eq_zero_of_no_sems (by decide) r.2⟩)
    (Cert.AdamHeadRefIdeal.Value.run (F := Ideal) m ρ)

/-- THE VALUE CLAIM: the call and the reference's lines end with the same step and the same moments. -/
theorem algebraic : Cert.algebraic_AdamHeadIdeal_AdamHeadRefIdeal := by
  intro m g m' g' _ hargs
  refine ⟨_, _, _, run m g, ?_⟩
  refine (θ_run _ _ _).mono (fun r h c => ?_) (Cert.AdamHeadRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamHeadIdeal.Hand

end
-- ==== Proof.AdamOut.lean ====
/- The optimiser's call on the attention's output projection: what it leaves, and the value claim against the reference's
   AdamW lines. -/
module

public import proofs.«01_k».proof.Proof.Gen.AdamOutIdeal.Frame
public import proofs.«01_k».proof.Proof.Gen.AdamOutRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamOutIdeal.Hand

open Cert.AdamOutIdeal Cert.AdamOutIdeal.Gen Cert.Adam

variable (m : (ℓ : Loc nD τ sig) → Buf (Elt Ideal) ℓ) (ρ : Dev nD → PrngReg)

/-! ## A tile -/

theorem pay1_eq (g : Vec Ideal S256x2048 .f32) : k0_pay1 g = copy g := (shapeCast_self _ _).trans (copy_eq g).symm
theorem pay2_eq (g m : Vec Ideal S256x2048 .f32) : k0_pay2 g m = newM g m := by
  unfold k0_pay2; simp only [shapeCast_self, pay1_eq, copy_eq]; rfl
theorem pay3_eq (g v : Vec Ideal S256x2048 .f32) : k0_pay3 g v = newV g v := by
  unfold k0_pay3; simp only [shapeCast_self, pay1_eq, copy_eq]; rfl
theorem pay4_eq (g m v w : Vec Ideal S256x2048 .f32) : k0_pay4 g m v w = delta w g m v := by
  unfold k0_pay4; simp only [shapeCast_self, pay2_eq, pay3_eq]; rfl

theorem after4 (c : Dev nD) (t : Fin cfg0.N) : (dats m 0 c).after 4 t
    = delta (s := S256x2048) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S256x2048) (iblk m c 1 t) (iblk m c 2 t) := by
  rw [after0_5]; frame_out; exact pay2_eq _ _
theorem after6 (c : Dev nD) (t : Fin cfg0.N) : (dats m 0 c).after 6 t = newV (s := S256x2048) (iblk m c 1 t) (iblk m c 3 t) := by
  rw [after0_6]; frame_out; exact pay3_eq _ _
theorem after7 (c : Dev nD) (t : Fin cfg0.N) : (dats m 0 c).after 7 t = copy (s := S256x2048) (iblk m c 1 t) := by
  rw [after0_7]; frame_out; exact pay1_eq _

/-! ## The arrays that the call leaves: every tile is written, at the same place as it is read -/

theorem covers : (cfg0.win 4).Covers ∧ (cfg0.win 5).Covers ∧ (cfg0.win 6).Covers ∧ (cfg0.win 7).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2.1 (fun t _ y => ?_)
  rw [after6]; exact newV_entry rfl rfl
theorem arr7 (c : Dev nD) : (dats m 0 c).arrAt 7 cfg0.N = copy (V m c main_v1) := by
  refine (dats m 0 c).arrAt_eq_of_covers 7 _ covers.2.2.2 (fun t _ y => ?_)
  rw [after7]; exact copy_entry rfl

/-! ## The host's lines around the call: the arguments and the results change their shapes -/

/-- An argument as the call finds it. -/
abbrev flat (x : FVec Ideal S1x512x2048 .f32) : FVec Ideal S512x2048 .f32 := shapeCast _ x shapeCasts_S1x512x2048_S512x2048

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 a7 : FVec Ideal S1x512x2048 .f32} (h4 : (dats m 0 c).arrAt 4 cfg0.N = flat a4)
    (h5 : (dats m 0 c).arrAt 5 cfg0.N = flat a5) (h6 : (dats m 0 c).arrAt 6 cfg0.N = flat a6) (h7 : (dats m 0 c).arrAt 7 cfg0.N = flat a7) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 ∧ Pipeline.afterTail₀ cfgs (dats m) 0 (V0 m) [hostOps1] c main_v8 = a7 := by
  unfold Pipeline.afterTail₀
  simp only [hostOps1, List.flatten_cons, List.flatten_nil, List.append_nil]
  have back : ∀ {w} {A : FVec Ideal S512x2048 .f32} {a}, A = w → w = flat a →
      shapeCast S1x512x2048 A shapeCasts_S512x2048_S1x512x2048 = a := fun h h' => by
    rw [h, h']; exact shapeCast_shapeCast _ _ _
  refine ⟨?_, ?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6
  · after_results; exact back (Pipeline.withArrays_arr spec0 launch0.win.arr_inj c _ _ 7) h7

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S1x512x2048) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S1x512x2048) (m ((c.tc : Thread nD τ).loc main_arg1)) (m ((c.tc : Thread nD τ).loc main_arg2))
      ∧ r.2.mem ((c.tc : Thread nD τ).loc main_v7) = newV (s := S1x512x2048) (m ((c.tc : Thread nD τ).loc main_arg1)) (m ((c.tc : Thread nD τ).loc main_arg3))
      ∧ r.2.mem ((c.tc : Thread nD τ).loc main_v8) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6, t7⟩ := tail_eq m c (by rw [arr4, e0, e1, e2, e3]; exact delta_cast _ _ _ _ _)
      (by rw [arr5, e1, e2]; exact newM_cast _ _ _) (by rw [arr6, e1, e3]; exact newV_cast _ _ _) (by rw [arr7, e1]; exact copy_eq _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6,
      (rest main_v8 (Pipeline.mem_restRefs_of main_v8 (by decide) (by decide))).trans t7, h.2 c⟩)
    (θ_run_and (run_main m ρ) (unchanged m ρ))

/-- The frame of the reference's lines: host code, read off its run. -/
theorem frame_ref : Cert.quiescent_AdamOutRefIdeal := fun m ρ _ =>
  (θ_run Cert.AdamOutRefIdeal.defs _ _).mono (fun r h => ⟨fun c => (h c).2.2.2.2, Idealize.ShloMosaic.sem_eq_zero_of_no_sems (by decide) r.2⟩)
    (Cert.AdamOutRefIdeal.Value.run (F := Ideal) m ρ)

/-- THE VALUE CLAIM: the call and the reference's lines end with the same step and the same moments. -/
theorem algebraic : Cert.algebraic_AdamOutIdeal_AdamOutRefIdeal := by
  intro m g m' g' _ hargs
  refine ⟨_, _, _, _, run m g, ?_⟩
  refine (θ_run _ _ _).mono (fun r h c => ?_) (Cert.AdamOutRefIdeal.Value.run (F := Ideal) m' g')
  obtain ⟨e0, e1, e2, e3⟩ := hargs c
  obtain ⟨r0, r1, r2, r3, ra⟩ := h c
  rw [e0, e1, e2, e3] at r0
  rw [e1, e2] at r1
  rw [e1, e3] at r2
  rw [e1] at r3
  refine ⟨r0.trans ?_, r1.trans ?_, r2.trans ?_, r3, ra⟩
  · simp only [bcast_const]; rfl
  · simp only [bcast_const]; rfl
  · simp only [bcast_const]; rfl

end Cert.AdamOutIdeal.Hand

end
-- ==== Proof.AdamPool.lean ====
/- The optimiser's call on the pooling weights: what it leaves, and the value claim against the reference's
   AdamW lines. -/
module

public import proofs.«01_k».proof.Proof.Gen.AdamPoolIdeal.Frame
public import proofs.«01_k».proof.Proof.Gen.AdamPoolRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamPoolIdeal.Hand

open Cert.AdamPoolIdeal Cert.AdamPoolIdeal.Gen Cert.Adam

variable (m : (ℓ : Loc nD τ sig) → Buf (Elt Ideal) ℓ) (ρ : Dev nD → PrngReg)

/-! ## A tile -/

theorem pay1_eq (g : Vec Ideal S256x512 .f32) : k0_pay1 g = copy g := (shapeCast_self _ _).trans (copy_eq g).symm
theorem pay2_eq (g m : Vec Ideal S256x512 .f32) : k0_pay2 g m = newM g m := by
  unfold k0_pay2; simp only [shapeCast_self, pay1_eq, copy_eq]; rfl
theorem pay3_eq (g v : Vec Ideal S256x512 .f32) : k0_pay3 g v = newV g v := by
  unfold k0_pay3; simp only [shapeCast_self, pay1_eq, copy_eq]; rfl
theorem pay4_eq (g m v w : Vec Ideal S256x512 .f32) : k0_pay4 g m v w = delta w g m v := by
  unfold k0_pay4; simp only [shapeCast_self, pay2_eq, pay3_eq]; rfl

theorem after4 (c : Dev nD) (t : Fin cfg0.N) : (dats m 0 c).after 4 t
    = delta (s := S256x512) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S256x512) (iblk m c 1 t) (iblk m c 2 t) := by
  rw [after0_5]; frame_out; exact pay2_eq _ _
theorem after6 (c : Dev nD) (t : Fin cfg0.N) : (dats m 0 c).after 6 t = newV (s := S256x512) (iblk m c 1 t) (iblk m c 3 t) := by
  rw [after0_6]; frame_out; exact pay3_eq _ _
theorem after7 (c : Dev nD) (t : Fin cfg0.N) : (dats m 0 c).after 7 t = copy (s := S256x512) (iblk m c 1 t) := by
  rw [after0_7]; frame_out; exact pay1_eq _

/-! ## The arrays that the call leaves: every tile is written, at the same place as it is read -/

theorem covers : (cfg0.win 4).Covers ∧ (cfg0.win 5).Covers ∧ (cfg0.win 6).Covers ∧ (cfg0.win 7).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2.1 (fun t _ y => ?_)
  rw [after6]; exact newV_entry rfl rfl
theorem arr7 (c : Dev nD) : (dats m 0 c).arrAt 7 cfg0.N = copy (V m c main_v1) := by
  refine (dats m 0 c).arrAt_eq_of_covers 7 _ covers.2.2.2 (fun t _ y => ?_)
  rw [after7]; exact copy_entry rfl

/-! ## The host's lines around the call: the arguments and the results change their shapes -/

/-- An argument as the call finds it. -/
abbrev flat (x : FVec Ideal S1x4x128x512 .f32) : FVec Ideal S512x512 .f32 := shapeCast _ x shapeCasts_S1x4x128x512_S512x512

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 a7 : FVec Ideal S1x4x128x512 .f32} (h4 : (dats m 0 c).arrAt 4 cfg0.N = flat a4)
    (h5 : (dats m 0 c).arrAt 5 cfg0.N = flat a5) (h6 : (dats m 0 c).arrAt 6 cfg0.N = flat a6) (h7 : (dats m 0 c).arrAt 7 cfg0.N = flat a7) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 ∧ Pipeline.afterTail₀ cfgs (dats m) 0 (V0 m) [hostOps1] c main_v8 = a7 := by
  unfold Pipeline.afterTail₀
  simp only [hostOps1, List.flatten_cons, List.flatten_nil, List.append_nil]
  have back : ∀ {w} {A : FVec Ideal S512x512 .f32} {a}, A = w → w = flat a →
      shapeCast S1x4x128x512 A shapeCasts_S512x512_S1x4x128x512 = a := fun h h' => by
    rw [h, h']; exact shapeCast_shapeCast _ _ _
  refine ⟨?_, ?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6
  · after_results; exact back (Pipeline.withArrays_arr spec0 launch0.win.arr_inj c _ _ 7) h7

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S1x4x128x512) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S1x4x128x512) (m ((c.tc : Thread nD τ).loc main_arg1)) (m ((c.tc : Thread nD τ).loc main_arg2))
      ∧ r.2.mem ((c.tc : Thread nD τ).loc main_v7) = newV (s := S1x4x128x512) (m ((c.tc : Thread nD τ).loc main_arg1)) (m ((c.tc : Thread nD τ).loc main_arg3))
      ∧ r.2.mem ((c.tc : Thread nD τ).loc main_v8) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6, t7⟩ := tail_eq m c (by rw [arr4, e0, e1, e2, e3]; exact delta_cast _ _ _ _ _)
      (by rw [arr5, e1, e2]; exact newM_cast _ _ _) (by rw [arr6, e1, e3]; exact newV_cast _ _ _) (by rw [arr7, e1]; exact copy_eq _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6,
      (rest main_v8 (Pipeline.mem_restRefs_of main_v8 (by decide) (by decide))).trans t7, h.2 c⟩)
    (θ_run_and (run_main m ρ) (unchanged m ρ))

/-- The frame of the reference's lines: host code, read off its run. -/
theorem frame_ref : Cert.quiescent_AdamPoolRefIdeal := fun m ρ _ =>
  (θ_run Cert.AdamPoolRefIdeal.defs _ _).mono (fun r h => ⟨fun c => (h c).2.2.2.2, Idealize.ShloMosaic.sem_eq_zero_of_no_sems (by decide) r.2⟩)
    (Cert.AdamPoolRefIdeal.Value.run (F := Ideal) m ρ)

/-- THE VALUE CLAIM: the call and the reference's lines end with the same step and the same moments. -/
theorem algebraic : Cert.algebraic_AdamPoolIdeal_AdamPoolRefIdeal := by
  intro m g m' g' _ hargs
  refine ⟨_, _, _, _, run m g, ?_⟩
  refine (θ_run _ _ _).mono (fun r h c => ?_) (Cert.AdamPoolRefIdeal.Value.run (F := Ideal) m' g')
  obtain ⟨e0, e1, e2, e3⟩ := hargs c
  obtain ⟨r0, r1, r2, r3, ra⟩ := h c
  rw [e0, e1, e2, e3] at r0
  rw [e1, e2] at r1
  rw [e1, e3] at r2
  rw [e1] at r3
  refine ⟨r0.trans ?_, r1.trans ?_, r2.trans ?_, r3, ra⟩
  · simp only [bcast_const]; rfl
  · simp only [bcast_const]; rfl
  · simp only [bcast_const]; rfl

end Cert.AdamPoolIdeal.Hand

end
-- ==== Proof.AdamPoolBias.lean ====
/- The optimiser's call on the pooling bias: what it leaves, and the value claim against the reference's
   AdamW lines. -/
module

public import proofs.«01_k».proof.Proof.Gen.AdamPoolBiasIdeal.Frame
public import proofs.«01_k».proof.Proof.Gen.AdamPoolBiasRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamPoolBiasIdeal.Hand

open Cert.AdamPoolBiasIdeal Cert.AdamPoolBiasIdeal.Gen Cert.Adam

variable (m : (ℓ : Loc nD τ sig) → Buf (Elt Ideal) ℓ) (ρ : Dev nD → PrngReg)

/-! ## A tile -/

theorem pay1_eq (g : Vec Ideal S4x128 .f32) : k0_pay1 g = copy g := (shapeCast_self _ _).trans (copy_eq g).symm
theorem pay2_eq (g m : Vec Ideal S4x128 .f32) : k0_pay2 g m = newM g m := by
  unfold k0_pay2; simp only [shapeCast_self, pay1_eq, copy_eq]; rfl
theorem pay3_eq (g v : Vec Ideal S4x128 .f32) : k0_pay3 g v = newV g v := by
  unfold k0_pay3; simp only [shapeCast_self, pay1_eq, copy_eq]; rfl
theorem pay4_eq (g m v w : Vec Ideal S4x128 .f32) : k0_pay4 g m v w = delta w g m v := by
  unfold k0_pay4; simp only [shapeCast_self, pay2_eq, pay3_eq]; rfl

theorem after4 (c : Dev nD) (t : Fin cfg0.N) : (dats m 0 c).after 4 t
    = delta (s := S4x128) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S4x128) (iblk m c 1 t) (iblk m c 2 t) := by
  rw [after0_5]; frame_out; exact pay2_eq _ _
theorem after6 (c : Dev nD) (t : Fin cfg0.N) : (dats m 0 c).after 6 t = newV (s := S4x128) (iblk m c 1 t) (iblk m c 3 t) := by
  rw [after0_6]; frame_out; exact pay3_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2 (fun t _ y => ?_)
  rw [after6]; exact newV_entry rfl rfl

/-! ## The host's lines around the call: the arguments and the results change their shapes -/

/-- An argument as the call finds it. -/
abbrev flat (x : FVec Ideal S1x4x128 .f32) : FVec Ideal S4x128 .f32 := shapeCast _ x shapeCasts_S1x4x128_S4x128

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 : FVec Ideal S1x4x128 .f32} (h4 : (dats m 0 c).arrAt 4 cfg0.N = flat a4)
    (h5 : (dats m 0 c).arrAt 5 cfg0.N = flat a5) (h6 : (dats m 0 c).arrAt 6 cfg0.N = flat a6) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 := by
  unfold Pipeline.afterTail₀
  simp only [hostOps1, List.flatten_cons, List.flatten_nil, List.append_nil]
  have back : ∀ {w} {A : FVec Ideal S4x128 .f32} {a}, A = w → w = flat a →
      shapeCast S1x4x128 A shapeCasts_S4x128_S1x4x128 = a := fun h h' => by
    rw [h, h']; exact shapeCast_shapeCast _ _ _
  refine ⟨?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S1x4x128) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S1x4x128) (m ((c.tc : Thread nD τ).loc main_arg1)) (m ((c.tc : Thread nD τ).loc main_arg2))
      ∧ r.2.mem ((c.tc : Thread nD τ).loc main_v7) = newV (s := S1x4x128) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6⟩ := tail_eq m c (by rw [arr4, e0, e1, e2, e3]; exact delta_cast _ _ _ _ _)
      (by rw [arr5, e1, e2]; exact newM_cast _ _ _) (by rw [arr6, e1, e3]; exact newV_cast _ _ _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6, h.2 c⟩)
    (θ_run_and (run_main m ρ) (unchanged m ρ))

/-- The frame of the reference's lines: host code, read off its run. -/
theorem frame_ref : Cert.quiescent_AdamPoolBiasRefIdeal := fun m ρ _ =>
  (θ_run Cert.AdamPoolBiasRefIdeal.defs _ _).mono (fun r h => ⟨fun c => (h c).2.2.2, Idealize.ShloMosaic.sem_eq_zero_of_no_sems (by decide) r.2⟩)
    (Cert.AdamPoolBiasRefIdeal.Value.run (F := Ideal) m ρ)

/-- THE VALUE CLAIM: the call and the reference's lines end with the same step and the same moments. -/
theorem algebraic : Cert.algebraic_AdamPoolBiasIdeal_AdamPoolBiasRefIdeal := by
  intro m g m' g' _ hargs
  refine ⟨_, _, _, run m g, ?_⟩
  refine (θ_run _ _ _).mono (fun r h c => ?_) (Cert.AdamPoolBiasRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamPoolBiasIdeal.Hand

end
-- ==== Proof.AdamFinal.lean ====
/- The optimiser's call on the final norm: what it leaves, and the value claim against the reference's
   AdamW lines. -/
module

public import proofs.«01_k».proof.Proof.Gen.AdamFinalIdeal.Frame
public import proofs.«01_k».proof.Proof.Gen.AdamFinalRefIdeal.Run
public import proofs.«01_k».proof.Proof.Adam
public import proofs.«01_k».proof.Defs
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamFinalIdeal.Hand

open Cert.AdamFinalIdeal Cert.AdamFinalIdeal.Gen Cert.Adam

variable (m : (ℓ : Loc nD τ sig) → Buf (Elt Ideal) ℓ) (ρ : Dev nD → PrngReg)

/-! ## A tile -/

theorem pay1_eq (g : Vec Ideal S1x2048 .f32) : k0_pay1 g = copy g := (shapeCast_self _ _).trans (copy_eq g).symm
theorem pay2_eq (g m : Vec Ideal S1x2048 .f32) : k0_pay2 g m = newM g m := by
  unfold k0_pay2; simp only [shapeCast_self, pay1_eq, copy_eq]; rfl
theorem pay3_eq (g v : Vec Ideal S1x2048 .f32) : k0_pay3 g v = newV g v := by
  unfold k0_pay3; simp only [shapeCast_self, pay1_eq, copy_eq]; rfl
theorem pay4_eq (g m v w : Vec Ideal S1x2048 .f32) : k0_pay4 g m v w = delta w g m v := by
  unfold k0_pay4; simp only [shapeCast_self, pay2_eq, pay3_eq]; rfl

theorem after4 (c : Dev nD) (t : Fin cfg0.N) : (dats m 0 c).after 4 t
    = delta (s := S1x2048) (iblk m c 0 t) (iblk m c 1 t) (iblk m c 2 t) (iblk m c 3 t) := by
  rw [after0_4]; frame_out; exact pay4_eq _ _ _ _
theorem after5 (c : Dev nD) (t : Fin cfg0.N) : (dats m 0 c).after 5 t = newM (s := S1x2048) (iblk m c 1 t) (iblk m c 2 t) := by
  rw [after0_5]; frame_out; exact pay2_eq _ _
theorem after6 (c : Dev nD) (t : Fin cfg0.N) : (dats m 0 c).after 6 t = newV (s := S1x2048) (iblk m c 1 t) (iblk m c 3 t) := by
  rw [after0_6]; frame_out; exact pay3_eq _ _

/-! ## The arrays that the call leaves: every tile is written, at the same place as it is read -/

theorem covers : (cfg0.win 4).Covers ∧ (cfg0.win 5).Covers ∧ (cfg0.win 6).Covers := by decide +kernel

theorem arr4 (c : Dev nD) : (dats m 0 c).arrAt 4 cfg0.N = delta (V m c main_v0) (V m c main_v1) (V m c main_v2) (V m c main_v3) := by
  refine (dats m 0 c).arrAt_eq_of_covers 4 _ covers.1 (fun t _ y => ?_)
  rw [after4]; exact delta_entry rfl rfl rfl rfl
theorem arr5 (c : Dev nD) : (dats m 0 c).arrAt 5 cfg0.N = newM (V m c main_v1) (V m c main_v2) := by
  refine (dats m 0 c).arrAt_eq_of_covers 5 _ covers.2.1 (fun t _ y => ?_)
  rw [after5]; exact newM_entry rfl rfl
theorem arr6 (c : Dev nD) : (dats m 0 c).arrAt 6 cfg0.N = newV (V m c main_v1) (V m c main_v3) := by
  refine (dats m 0 c).arrAt_eq_of_covers 6 _ covers.2.2 (fun t _ y => ?_)
  rw [after6]; exact newV_entry rfl rfl

/-! ## The host's lines around the call: the arguments and the results change their shapes -/

/-- An argument as the call finds it. -/
abbrev flat (x : FVec Ideal S2048 .f32) : FVec Ideal S1x2048 .f32 := shapeCast _ x shapeCasts_S2048_S1x2048

theorem V_eq (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V V0
  simp only [hostOps0, List.flatten_cons, List.flatten_nil, List.append_nil]
  refine ⟨?_, ?_, ?_, ?_⟩ <;> · after_results; rfl

/-- A result, from the array that the call leaves. -/
theorem tail_eq (c : Dev nD) {a4 a5 a6 : FVec Ideal S2048 .f32} (h4 : (dats m 0 c).arrAt 4 cfg0.N = flat a4)
    (h5 : (dats m 0 c).arrAt 5 cfg0.N = flat a5) (h6 : (dats m 0 c).arrAt 6 cfg0.N = flat a6) :
    Pipeline.afterTail₀ cfgs (dats m) 0 (V0 m) [hostOps1] c main_v5 = a4 ∧ Pipeline.afterTail₀ cfgs (dats m) 0 (V0 m) [hostOps1] c main_v6 = a5
      ∧ Pipeline.afterTail₀ cfgs (dats m) 0 (V0 m) [hostOps1] c main_v7 = a6 := by
  unfold Pipeline.afterTail₀
  simp only [hostOps1, List.flatten_cons, List.flatten_nil, List.append_nil]
  have back : ∀ {w} {A : FVec Ideal S1x2048 .f32} {a}, A = w → w = flat a →
      shapeCast S2048 A shapeCasts_S1x2048_S2048 = a := fun h h' => by
    rw [h, h']; exact shapeCast_shapeCast _ _ _
  refine ⟨?_, ?_, ?_⟩
  · after_results; exact back (Pipeline.withArrays_arr spec0 launch0.win.arr_inj c _ _ 4) h4
  · after_results; exact back (Pipeline.withArrays_arr spec0 launch0.win.arr_inj c _ _ 5) h5
  · after_results; exact back (Pipeline.withArrays_arr spec0 launch0.win.arr_inj c _ _ 6) h6

/-- THE RUN: the results are the step's, of the arguments. -/
theorem run : θ_run (defs (F := Ideal)) (onTc (τ := τ) (main (F := Ideal))) ⟨m, fun _ => 0, ρ⟩ fun r => ∀ c : Dev nD,
    r.2.mem ((c.tc : Thread nD τ).loc main_v5) = delta (s := S2048) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v6) = newM (s := S2048) (m ((c.tc : Thread nD τ).loc main_arg1)) (m ((c.tc : Thread nD τ).loc main_arg2))
      ∧ r.2.mem ((c.tc : Thread nD τ).loc main_v7) = newV (s := S2048) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨e0, e1, e2, e3⟩ := V_eq m c
    have rest := (h.1 c).2
    obtain ⟨t4, t5, t6⟩ := tail_eq m c (by rw [arr4, e0, e1, e2, e3]; exact delta_cast _ _ _ _ _)
      (by rw [arr5, e1, e2]; exact newM_cast _ _ _) (by rw [arr6, e1, e3]; exact newV_cast _ _ _)
    exact ⟨(rest main_v5 (Pipeline.mem_restRefs_of main_v5 (by decide) (by decide))).trans t4,
      (rest main_v6 (Pipeline.mem_restRefs_of main_v6 (by decide) (by decide))).trans t5,
      (rest main_v7 (Pipeline.mem_restRefs_of main_v7 (by decide) (by decide))).trans t6, h.2 c⟩)
    (θ_run_and (run_main m ρ) (unchanged m ρ))

/-- The frame of the reference's lines: host code, read off its run. -/
theorem frame_ref : Cert.quiescent_AdamFinalRefIdeal := fun m ρ _ =>
  (θ_run Cert.AdamFinalRefIdeal.defs _ _).mono (fun r h => ⟨fun c => (h c).2.2.2, Idealize.ShloMosaic.sem_eq_zero_of_no_sems (by decide) r.2⟩)
    (Cert.AdamFinalRefIdeal.Value.run (F := Ideal) m ρ)

/-- THE VALUE CLAIM: the call and the reference's lines end with the same step and the same moments. -/
theorem algebraic : Cert.algebraic_AdamFinalIdeal_AdamFinalRefIdeal := by
  intro m g m' g' _ hargs
  refine ⟨_, _, _, run m g, ?_⟩
  refine (θ_run _ _ _).mono (fun r h c => ?_) (Cert.AdamFinalRefIdeal.Value.run (F := Ideal) m' g')
  obtain ⟨e0, e1, e2, e3⟩ := hargs c
  obtain ⟨r0, r1, r2, ra⟩ := h c
  rw [e0, e1, e2, e3] at r0
  rw [e1, e2] at r1
  rw [e1, e3] at r2
  refine ⟨r0.trans ?_, r1.trans ?_, r2.trans ?_, ra⟩
  · simp only [bcast_const]; rfl
  · simp only [bcast_const]; rfl
  · simp only [bcast_const]; rfl

end Cert.AdamFinalIdeal.Hand

end
-- ==== Proof.Small.lean ====
/- The sum over the devices of the small gradients, packed into one array: what the call leaves, and the value claim. -/
module

public import proofs.«01_k».proof.Proof.Gen.SmallIdeal.Frame
public import proofs.«01_k».proof.Proof.Gen.SmallRefIdeal.Run
public import proofs.«01_k».proof.Defs
public import Idealize.ShloMosaic.Lib.Pipeline.ValueKit
public import Idealize.ShloMosaic.Lib.Tactic
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SmallIdeal.Hand

open Cert.SmallIdeal Cert.SmallIdeal.Gen

variable (m : (ℓ : Loc nD τ sig) → Buf (Elt Ideal) ℓ) (ρ : Dev nD → PrngReg)

/-- The sum over the devices of an array that has a row of blocks, one per device. -/
def total (x : FVec Ideal S8x184x512 .f32) : FVec Ideal S184x512 .f32 := fun y =>
  ∑ d : Fin 8, x (ix3 d (y 0) (y 1))

/-- What the grid point leaves is the sum over the devices. -/
theorem out_eq (x : FVec Ideal S8x184x512 .f32) : out0_1 (F := Ideal) x = total x := by
  unfold out0_1
  frame_out
  funext y
  pointwise [k0_pay1, total, Fin.sum_univ_eight]

/-- An entry of the sum is settled by the devices' entries there. -/
theorem total_entry {x x' : FVec Ideal S8x184x512 .f32} {y y' : S184x512.Idx} (h : ∀ d, x (ix3 d (y 0) (y 1)) = x' (ix3 d (y' 0) (y' 1))) :
    total x y = total x' y' := Finset.sum_congr rfl fun d _ => h d

/-- The output window after the grid point. -/
theorem after1 (c : Dev nD) (t : Fin cfg0.N) : (dats m 0 c).after 1 t = total (iblk m c 0 t) := by
  rw [after0_1]; exact out_eq _

/-- The one block is the whole array. -/
theorem covers : (cfg0.win 1).Covers := by decide +kernel

/-- Every block index is zero. -/
theorem idx0 : ∀ t : Fin cfg0.N, win0_0.index t 0 = 0 ∧ win0_0.index t 1 = 0 ∧ win0_0.index t 2 = 0 ∧ win0_1.index t 0 = 0 ∧ win0_1.index t 1 = 0 :=
  (by decide +kernel : ∀ t : Fin grid0.N, _)

/-- The input block is the whole packed array. -/
theorem blk0 (c : Dev nD) (t : Fin cfg0.N) (x : S8x184x512.Idx) : (iblk m c 0 t : Vec Ideal S8x184x512 .f32) x = V m c main_v13 x := by
  unfold iblk
  rw [View.read_apply]
  refine congrArg (V m c main_v13) ?_
  obtain ⟨h0, h1, h2, -, -⟩ := idx0 t
  funext a
  apply Fin.ext
  match a with
  | ⟨0, _⟩ => show win0_0.index t 0 * 8 + 1 * (x 0).val = _; rw [h0]; simp
  | ⟨1, _⟩ => show win0_0.index t 1 * 184 + 1 * (x 1).val = _; rw [h1]; simp
  | ⟨2, _⟩ => show win0_0.index t 2 * 512 + 1 * (x 2).val = _; rw [h2]; simp

/-- The array that the call leaves. -/
theorem arr1 (c : Dev nD) : (dats m 0 c).arrAt 1 cfg0.N = total (V m c main_v13) := by
  refine (dats m 0 c).arrAt_eq_of_covers 1 _ covers (fun t _ y => ?_)
  rw [after1]
  obtain ⟨-, -, -, h0, h1⟩ := idx0 t
  refine total_entry fun d => (blk0 m c t _).trans (congrArg (V m c main_v13) ?_)
  funext a
  apply Fin.ext
  match a with
  | ⟨0, _⟩ => rfl
  | ⟨1, _⟩ => show (y 0).val = win0_1.index t 0 * 184 + 1 * (y 0).val; rw [h0]; simp
  | ⟨2, _⟩ => show (y 1).val = win0_1.index t 1 * 512 + 1 * (y 1).val; rw [h1]; simp

/-- The zero that fills the rows up. -/
def zero : FVec Ideal S_ .f32 := sitofp .f32 (constantI S_ 32 0#32)

/-- Pieces of whole groups of eight rows, one under the other. -/
def stack (p0 : FVec Ideal S8x64x512 .f32) (p1 : FVec Ideal S8x8x512 .f32) (p2 : FVec Ideal S8x8x512 .f32) (p3 : FVec Ideal S8x8x512 .f32) (p4 : FVec Ideal S8x8x512 .f32) (p5 : FVec Ideal S8x8x512 .f32) (p6 : FVec Ideal S8x32x512 .f32) (p7 : FVec Ideal S8x8x512 .f32) (p8 : FVec Ideal S8x8x512 .f32) (p9 : FVec Ideal S8x8x512 .f32) (p10 : FVec Ideal S8x8x512 .f32) (p11 : FVec Ideal S8x8x512 .f32) (p12 : FVec Ideal S8x8x512 .f32) : FVec Ideal S8x184x512 .f32 :=
  concatenate S8x184x512 1 [⟨S8x64x512, p0⟩, ⟨S8x8x512, p1⟩, ⟨S8x8x512, p2⟩, ⟨S8x8x512, p3⟩, ⟨S8x8x512, p4⟩, ⟨S8x8x512, p5⟩, ⟨S8x32x512, p6⟩, ⟨S8x8x512, p7⟩, ⟨S8x8x512, p8⟩, ⟨S8x8x512, p9⟩, ⟨S8x8x512, p10⟩, ⟨S8x8x512, p11⟩, ⟨S8x8x512, p12⟩] concatenates_S8x64x512_S8x8x512_S8x8x512_S8x8x512_S8x8x512_S8x8x512_S8x32x512_S8x8x512_S8x8x512_S8x8x512_S8x8x512_S8x8x512_S8x8x512_S8x184x512_d1

/-- The stack of equal pieces. -/
theorem stack_congr {p0 : FVec Ideal S8x64x512 .f32} {p1 : FVec Ideal S8x8x512 .f32} {p2 : FVec Ideal S8x8x512 .f32} {p3 : FVec Ideal S8x8x512 .f32} {p4 : FVec Ideal S8x8x512 .f32} {p5 : FVec Ideal S8x8x512 .f32} {p6 : FVec Ideal S8x32x512 .f32} {p7 : FVec Ideal S8x8x512 .f32} {p8 : FVec Ideal S8x8x512 .f32} {p9 : FVec Ideal S8x8x512 .f32} {p10 : FVec Ideal S8x8x512 .f32} {p11 : FVec Ideal S8x8x512 .f32} {p12 : FVec Ideal S8x8x512 .f32} {q0 : FVec Ideal S8x64x512 .f32} {q1 : FVec Ideal S8x8x512 .f32} {q2 : FVec Ideal S8x8x512 .f32} {q3 : FVec Ideal S8x8x512 .f32} {q4 : FVec Ideal S8x8x512 .f32} {q5 : FVec Ideal S8x8x512 .f32} {q6 : FVec Ideal S8x32x512 .f32} {q7 : FVec Ideal S8x8x512 .f32} {q8 : FVec Ideal S8x8x512 .f32} {q9 : FVec Ideal S8x8x512 .f32} {q10 : FVec Ideal S8x8x512 .f32} {q11 : FVec Ideal S8x8x512 .f32} {q12 : FVec Ideal S8x8x512 .f32} (e0 : p0 = q0) (e1 : p1 = q1) (e2 : p2 = q2) (e3 : p3 = q3) (e4 : p4 = q4) (e5 : p5 = q5) (e6 : p6 = q6) (e7 : p7 = q7) (e8 : p8 = q8) (e9 : p9 = q9) (e10 : p10 = q10) (e11 : p11 = q11) (e12 : p12 = q12) : stack p0 p1 p2 p3 p4 p5 p6 p7 p8 p9 p10 p11 p12 = stack q0 q1 q2 q3 q4 q5 q6 q7 q8 q9 q10 q11 q12 := by
  subst e0 e1 e2 e3 e4 e5 e6 e7 e8 e9 e10 e11 e12; rfl

/-- The devices' gradients, each filled up to whole groups of eight rows, one under the other. -/
def packed (a0 : FVec Ideal S8x64x512 .f32) (a1 : FVec Ideal S8x4x512 .f32) (a2 : FVec Ideal S8x4x512 .f32) (a3 : FVec Ideal S8x4x512 .f32) (a4 : FVec Ideal S8x4x512 .f32) (a5 : FVec Ideal S8x4x512 .f32) (a6 : FVec Ideal S8x32x512 .f32) (a7 : FVec Ideal S8x2x512 .f32) (a8 : FVec Ideal S8x1x512 .f32) (a9 : FVec Ideal S8x4x512 .f32) (a10 : FVec Ideal S8x4x512 .f32) (a11 : FVec Ideal S8x4x512 .f32) (a12 : FVec Ideal S8x4x512 .f32) : FVec Ideal S8x184x512 .f32 :=
  stack (pad S8x64x512 ![0, 0, 0] ![0, 0, 0] ![0, 0, 0] a0 zero pads_S8x64x512_S8x64x512_000_000_000 h_S_) (pad S8x8x512 ![0, 0, 0] ![0, 4, 0] ![0, 0, 0] a1 zero pads_S8x4x512_S8x8x512_000_040_000 h_S_) (pad S8x8x512 ![0, 0, 0] ![0, 4, 0] ![0, 0, 0] a2 zero pads_S8x4x512_S8x8x512_000_040_000 h_S_) (pad S8x8x512 ![0, 0, 0] ![0, 4, 0] ![0, 0, 0] a3 zero pads_S8x4x512_S8x8x512_000_040_000 h_S_) (pad S8x8x512 ![0, 0, 0] ![0, 4, 0] ![0, 0, 0] a4 zero pads_S8x4x512_S8x8x512_000_040_000 h_S_) (pad S8x8x512 ![0, 0, 0] ![0, 4, 0] ![0, 0, 0] a5 zero pads_S8x4x512_S8x8x512_000_040_000 h_S_) (pad S8x32x512 ![0, 0, 0] ![0, 0, 0] ![0, 0, 0] a6 zero pads_S8x32x512_S8x32x512_000_000_000 h_S_) (pad S8x8x512 ![0, 0, 0] ![0, 6, 0] ![0, 0, 0] a7 zero pads_S8x2x512_S8x8x512_000_060_000 h_S_) (pad S8x8x512 ![0, 0, 0] ![0, 7, 0] ![0, 0, 0] a8 zero pads_S8x1x512_S8x8x512_000_070_000 h_S_) (pad S8x8x512 ![0, 0, 0] ![0, 4, 0] ![0, 0, 0] a9 zero pads_S8x4x512_S8x8x512_000_040_000 h_S_) (pad S8x8x512 ![0, 0, 0] ![0, 4, 0] ![0, 0, 0] a10 zero pads_S8x4x512_S8x8x512_000_040_000 h_S_) (pad S8x8x512 ![0, 0, 0] ![0, 4, 0] ![0, 0, 0] a11 zero pads_S8x4x512_S8x8x512_000_040_000 h_S_) (pad S8x8x512 ![0, 0, 0] ![0, 4, 0] ![0, 0, 0] a12 zero pads_S8x4x512_S8x8x512_000_040_000 h_S_)

/-- Argument `b`, as the run finds it. -/
abbrev arg (c : Dev nD) (b : Ref sig .tc) : Buf (Elt Ideal) ((c : Thread nD τ).loc b) := m ((c : Thread nD τ).loc b)

/-- The host's lines before the packing. -/
abbrev preOps : List (List (HloOp τ sig (Elt Ideal))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]

/-- The buffers before the packing. -/
def Vpre (c : Dev nD) (b : Ref sig .tc) : Buf (Elt Ideal) ((c : Thread nD τ).loc b) :=
  StableHlo.after preOps.flatten (fun b => m (c, b)) (Proc.devRef .tc b)

/-- Each piece of the packing is its argument filled up with rows of zeros. -/
theorem pieces (c : Dev nD) : Vpre m c main_v0 = pad S8x64x512 ![0, 0, 0] ![0, 0, 0] ![0, 0, 0] (arg m c main_arg0) zero pads_S8x64x512_S8x64x512_000_000_000 h_S_ ∧
      Vpre m c main_v1 = pad S8x8x512 ![0, 0, 0] ![0, 4, 0] ![0, 0, 0] (arg m c main_arg1) zero pads_S8x4x512_S8x8x512_000_040_000 h_S_ ∧
      Vpre m c main_v2 = pad S8x8x512 ![0, 0, 0] ![0, 4, 0] ![0, 0, 0] (arg m c main_arg2) zero pads_S8x4x512_S8x8x512_000_040_000 h_S_ ∧
      Vpre m c main_v3 = pad S8x8x512 ![0, 0, 0] ![0, 4, 0] ![0, 0, 0] (arg m c main_arg3) zero pads_S8x4x512_S8x8x512_000_040_000 h_S_ ∧
      Vpre m c main_v4 = pad S8x8x512 ![0, 0, 0] ![0, 4, 0] ![0, 0, 0] (arg m c main_arg4) zero pads_S8x4x512_S8x8x512_000_040_000 h_S_ ∧
      Vpre m c main_v5 = pad S8x8x512 ![0, 0, 0] ![0, 4, 0] ![0, 0, 0] (arg m c main_arg5) zero pads_S8x4x512_S8x8x512_000_040_000 h_S_ ∧
      Vpre m c main_v6 = pad S8x32x512 ![0, 0, 0] ![0, 0, 0] ![0, 0, 0] (arg m c main_arg6) zero pads_S8x32x512_S8x32x512_000_000_000 h_S_ ∧
      Vpre m c main_v7 = pad S8x8x512 ![0, 0, 0] ![0, 6, 0] ![0, 0, 0] (arg m c main_arg7) zero pads_S8x2x512_S8x8x512_000_060_000 h_S_ ∧
      Vpre m c main_v8 = pad S8x8x512 ![0, 0, 0] ![0, 7, 0] ![0, 0, 0] (arg m c main_arg8) zero pads_S8x1x512_S8x8x512_000_070_000 h_S_ ∧
      Vpre m c main_v9 = pad S8x8x512 ![0, 0, 0] ![0, 4, 0] ![0, 0, 0] (arg m c main_arg9) zero pads_S8x4x512_S8x8x512_000_040_000 h_S_ ∧
      Vpre m c main_v10 = pad S8x8x512 ![0, 0, 0] ![0, 4, 0] ![0, 0, 0] (arg m c main_arg10) zero pads_S8x4x512_S8x8x512_000_040_000 h_S_ ∧
      Vpre m c main_v11 = pad S8x8x512 ![0, 0, 0] ![0, 4, 0] ![0, 0, 0] (arg m c main_arg11) zero pads_S8x4x512_S8x8x512_000_040_000 h_S_ ∧
      Vpre m c main_v12 = pad S8x8x512 ![0, 0, 0] ![0, 4, 0] ![0, 0, 0] (arg m c main_arg12) zero pads_S8x4x512_S8x8x512_000_040_000 h_S_ := by
  refine ⟨?_, ?_, ?_, ?_, ?_, ?_, ?_, ?_, ?_, ?_, ?_, ?_, ?_⟩ <;>
  · unfold Vpre
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, List.flatten_cons, List.flatten_nil,
      List.append_nil, List.cons_append, List.nil_append]
    after_results_simp
    rfl

/-- The call's argument is the packed array. -/
theorem V_packed (c : Dev nD) : V m c main_v13 = packed (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  unfold V V0
  rw [show ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26] : List (List (HloOp τ sig (Elt Ideal)))).flatten = preOps.flatten ++ hostOps0_26 from by simp only [preOps, List.flatten_cons, List.flatten_nil, List.append_nil, List.append_assoc], StableHlo.after_append]
  obtain ⟨e0, e1, e2, e3, e4, e5, e6, e7, e8, e9, e10, e11, e12⟩ := pieces m c
  simp only [hostOps0_26, StableHlo.after_cons, StableHlo.after_nil]
  rw [StableHlo.nary_result]
  exact stack_congr e0 e1 e2 e3 e4 e5 e6 e7 e8 e9 e10 e11 e12

/-- The sum over the devices. -/
def devSum {n : ℕ} (x : FVec Ideal ⟨3, ![8, n, 512]⟩ .f32) : FVec Ideal ⟨2, ![n, 512]⟩ .f32 := fun y => ∑ d : Fin 8, x (ix3 d (y 0) (y 1))

/-- The stack, read at a row. -/
theorem stack_row (p0 : FVec Ideal S8x64x512 .f32) (p1 : FVec Ideal S8x8x512 .f32) (p2 : FVec Ideal S8x8x512 .f32) (p3 : FVec Ideal S8x8x512 .f32) (p4 : FVec Ideal S8x8x512 .f32) (p5 : FVec Ideal S8x8x512 .f32) (p6 : FVec Ideal S8x32x512 .f32) (p7 : FVec Ideal S8x8x512 .f32) (p8 : FVec Ideal S8x8x512 .f32) (p9 : FVec Ideal S8x8x512 .f32) (p10 : FVec Ideal S8x8x512 .f32) (p11 : FVec Ideal S8x8x512 .f32) (p12 : FVec Ideal S8x8x512 .f32) (d : Fin 8) (i : ℕ) (hi : i < 184) (j : Fin 512) : stack p0 p1 p2 p3 p4 p5 p6 p7 p8 p9 p10 p11 p12 (ix3 d ⟨i, hi⟩ j) =
    if h : i < 64 then p0 (ix3 d ⟨i, h⟩ j) else
    if h : i - 64 < 8 then p1 (ix3 d ⟨i - 64, h⟩ j) else
    if h : i - 64 - 8 < 8 then p2 (ix3 d ⟨i - 64 - 8, h⟩ j) else
    if h : i - 64 - 8 - 8 < 8 then p3 (ix3 d ⟨i - 64 - 8 - 8, h⟩ j) else
    if h : i - 64 - 8 - 8 - 8 < 8 then p4 (ix3 d ⟨i - 64 - 8 - 8 - 8, h⟩ j) else
    if h : i - 64 - 8 - 8 - 8 - 8 < 8 then p5 (ix3 d ⟨i - 64 - 8 - 8 - 8 - 8, h⟩ j) else
    if h : i - 64 - 8 - 8 - 8 - 8 - 8 < 32 then p6 (ix3 d ⟨i - 64 - 8 - 8 - 8 - 8 - 8, h⟩ j) else
    if h : i - 64 - 8 - 8 - 8 - 8 - 8 - 32 < 8 then p7 (ix3 d ⟨i - 64 - 8 - 8 - 8 - 8 - 8 - 32, h⟩ j) else
    if h : i - 64 - 8 - 8 - 8 - 8 - 8 - 32 - 8 < 8 then p8 (ix3 d ⟨i - 64 - 8 - 8 - 8 - 8 - 8 - 32 - 8, h⟩ j) else
    if h : i - 64 - 8 - 8 - 8 - 8 - 8 - 32 - 8 - 8 < 8 then p9 (ix3 d ⟨i - 64 - 8 - 8 - 8 - 8 - 8 - 32 - 8 - 8, h⟩ j) else
    if h : i - 64 - 8 - 8 - 8 - 8 - 8 - 32 - 8 - 8 - 8 < 8 then p10 (ix3 d ⟨i - 64 - 8 - 8 - 8 - 8 - 8 - 32 - 8 - 8 - 8, h⟩ j) else
    if h : i - 64 - 8 - 8 - 8 - 8 - 8 - 32 - 8 - 8 - 8 - 8 < 8 then p11 (ix3 d ⟨i - 64 - 8 - 8 - 8 - 8 - 8 - 32 - 8 - 8 - 8 - 8, h⟩ j) else
    p12 (ix3 d ⟨i - 64 - 8 - 8 - 8 - 8 - 8 - 32 - 8 - 8 - 8 - 8 - 8, by omega⟩ j) := by
  unfold stack
  pointwise

/-- A filled-up piece, read at one of its own rows. -/
theorem pad_row {n R p : ℕ} (x : FVec Ideal ⟨3, ![8, n, 512]⟩ .f32) (h hu) (d : Fin 8) (i : ℕ) (hi : i < R) (j : Fin 512) (r : Fin n) (e : i = r.val) :
    pad ⟨3, ![8, R, 512]⟩ ![0, 0, 0] ![0, p, 0] ![0, 0, 0] x zero h hu (ix3 d ⟨i, hi⟩ j) = x (ix3 d r j) := by
  subst e
  unfold pad
  rw [dif_pos]
  · refine congrArg x ?_
    funext a
    apply Fin.ext
    match a with
    | ⟨0, _⟩ => simp [Nat.mod_one]
    | ⟨1, _⟩ => simp [Nat.mod_one]
    | ⟨2, _⟩ => simp [Nat.mod_one]
  · intro a
    match a with
    | ⟨0, _⟩ => simp [Nat.mod_one]
    | ⟨1, _⟩ => simp [Nat.mod_one]
    | ⟨2, _⟩ => simp [Nat.mod_one]

/-- A slice of the sum of an array whose rows from `o` on are those of `x` is the sum of `x`. -/
theorem part {n : ℕ} (o : ℕ) (X : FVec Ideal S8x184x512 .f32) (x : FVec Ideal ⟨3, ![8, n, 512]⟩ .f32) (h)
    (H : ∀ (d : Fin 8) (r : Fin n) (j : Fin 512) (h : o + r.val < 184), X (ix3 d ⟨o + r.val, h⟩ j) = x (ix3 d r j)) :
    extractStridedSlice ⟨2, ![n, 512]⟩ ![o, 0] (total X) h = devSum x := by
  funext y
  have h0 : o + (y 0).val < 184 := lt_of_lt_of_le (Nat.add_lt_add_left (y 0).isLt o) ((h.2 0).trans (le_refl 184))
  have h1 : 0 + (y 1).val < 512 := by rw [Nat.zero_add]; exact (y 1).isLt
  show (∑ d : Fin 8, X (ix3 d ⟨o + (y 0).val, h0⟩ ⟨0 + (y 1).val, h1⟩)) = ∑ d : Fin 8, x (ix3 d (y 0) (y 1))
  refine Finset.sum_congr rfl fun d _ => ?_
  refine Eq.trans (congrArg X ?_) (H d (y 0) (y 1) h0)
  funext a
  apply Fin.ext
  match a with
  | ⟨0, _⟩ => rfl
  | ⟨1, _⟩ => rfl
  | ⟨2, _⟩ => exact Nat.zero_add _

/-- Equal rows give equal entries. -/
theorem row_eq {n : ℕ} (p : FVec Ideal ⟨3, ![8, n, 512]⟩ .f32) (d : Fin 8) (i : ℕ) (hi : i < n) (r : Fin n) (j : Fin 512) (e : i = r.val) :
    p (ix3 d ⟨i, hi⟩ j) = p (ix3 d r j) := by subst e; rfl

/-- The stack holds each piece at its rows. -/
theorem stack_rows (p0 : FVec Ideal S8x64x512 .f32) (p1 : FVec Ideal S8x8x512 .f32) (p2 : FVec Ideal S8x8x512 .f32) (p3 : FVec Ideal S8x8x512 .f32) (p4 : FVec Ideal S8x8x512 .f32) (p5 : FVec Ideal S8x8x512 .f32) (p6 : FVec Ideal S8x32x512 .f32) (p7 : FVec Ideal S8x8x512 .f32) (p8 : FVec Ideal S8x8x512 .f32) (p9 : FVec Ideal S8x8x512 .f32) (p10 : FVec Ideal S8x8x512 .f32) (p11 : FVec Ideal S8x8x512 .f32) (p12 : FVec Ideal S8x8x512 .f32) : (∀ (d : Fin 8) (r : Fin 64) (j : Fin 512) (h : 0 + r.val < 184), stack p0 p1 p2 p3 p4 p5 p6 p7 p8 p9 p10 p11 p12 (ix3 d ⟨0 + r.val, h⟩ j) = p0 (ix3 d r j)) ∧
    (∀ (d : Fin 8) (r : Fin 8) (j : Fin 512) (h : 64 + r.val < 184), stack p0 p1 p2 p3 p4 p5 p6 p7 p8 p9 p10 p11 p12 (ix3 d ⟨64 + r.val, h⟩ j) = p1 (ix3 d r j)) ∧
    (∀ (d : Fin 8) (r : Fin 8) (j : Fin 512) (h : 72 + r.val < 184), stack p0 p1 p2 p3 p4 p5 p6 p7 p8 p9 p10 p11 p12 (ix3 d ⟨72 + r.val, h⟩ j) = p2 (ix3 d r j)) ∧
    (∀ (d : Fin 8) (r : Fin 8) (j : Fin 512) (h : 80 + r.val < 184), stack p0 p1 p2 p3 p4 p5 p6 p7 p8 p9 p10 p11 p12 (ix3 d ⟨80 + r.val, h⟩ j) = p3 (ix3 d r j)) ∧
    (∀ (d : Fin 8) (r : Fin 8) (j : Fin 512) (h : 88 + r.val < 184), stack p0 p1 p2 p3 p4 p5 p6 p7 p8 p9 p10 p11 p12 (ix3 d ⟨88 + r.val, h⟩ j) = p4 (ix3 d r j)) ∧
    (∀ (d : Fin 8) (r : Fin 8) (j : Fin 512) (h : 96 + r.val < 184), stack p0 p1 p2 p3 p4 p5 p6 p7 p8 p9 p10 p11 p12 (ix3 d ⟨96 + r.val, h⟩ j) = p5 (ix3 d r j)) ∧
    (∀ (d : Fin 8) (r : Fin 32) (j : Fin 512) (h : 104 + r.val < 184), stack p0 p1 p2 p3 p4 p5 p6 p7 p8 p9 p10 p11 p12 (ix3 d ⟨104 + r.val, h⟩ j) = p6 (ix3 d r j)) ∧
    (∀ (d : Fin 8) (r : Fin 8) (j : Fin 512) (h : 136 + r.val < 184), stack p0 p1 p2 p3 p4 p5 p6 p7 p8 p9 p10 p11 p12 (ix3 d ⟨136 + r.val, h⟩ j) = p7 (ix3 d r j)) ∧
    (∀ (d : Fin 8) (r : Fin 8) (j : Fin 512) (h : 144 + r.val < 184), stack p0 p1 p2 p3 p4 p5 p6 p7 p8 p9 p10 p11 p12 (ix3 d ⟨144 + r.val, h⟩ j) = p8 (ix3 d r j)) ∧
    (∀ (d : Fin 8) (r : Fin 8) (j : Fin 512) (h : 152 + r.val < 184), stack p0 p1 p2 p3 p4 p5 p6 p7 p8 p9 p10 p11 p12 (ix3 d ⟨152 + r.val, h⟩ j) = p9 (ix3 d r j)) ∧
    (∀ (d : Fin 8) (r : Fin 8) (j : Fin 512) (h : 160 + r.val < 184), stack p0 p1 p2 p3 p4 p5 p6 p7 p8 p9 p10 p11 p12 (ix3 d ⟨160 + r.val, h⟩ j) = p10 (ix3 d r j)) ∧
    (∀ (d : Fin 8) (r : Fin 8) (j : Fin 512) (h : 168 + r.val < 184), stack p0 p1 p2 p3 p4 p5 p6 p7 p8 p9 p10 p11 p12 (ix3 d ⟨168 + r.val, h⟩ j) = p11 (ix3 d r j)) ∧
    (∀ (d : Fin 8) (r : Fin 8) (j : Fin 512) (h : 176 + r.val < 184), stack p0 p1 p2 p3 p4 p5 p6 p7 p8 p9 p10 p11 p12 (ix3 d ⟨176 + r.val, h⟩ j) = p12 (ix3 d r j)) := by
  refine ⟨?_, ?_, ?_, ?_, ?_, ?_, ?_, ?_, ?_, ?_, ?_, ?_, ?_⟩ <;>
  · intro d r j h
    rw [stack_row]
    repeat rw [dif_neg (by omega)]
    try rw [dif_pos (by omega)]
    exact row_eq _ d _ _ r j (by omega)

/-- The packed array holds each gradient at its rows. -/
theorem packed_rows (a0 : FVec Ideal S8x64x512 .f32) (a1 : FVec Ideal S8x4x512 .f32) (a2 : FVec Ideal S8x4x512 .f32) (a3 : FVec Ideal S8x4x512 .f32) (a4 : FVec Ideal S8x4x512 .f32) (a5 : FVec Ideal S8x4x512 .f32) (a6 : FVec Ideal S8x32x512 .f32) (a7 : FVec Ideal S8x2x512 .f32) (a8 : FVec Ideal S8x1x512 .f32) (a9 : FVec Ideal S8x4x512 .f32) (a10 : FVec Ideal S8x4x512 .f32) (a11 : FVec Ideal S8x4x512 .f32) (a12 : FVec Ideal S8x4x512 .f32) : (∀ (d : Fin 8) (r : Fin 64) (j : Fin 512) (h : 0 + r.val < 184), (packed a0 a1 a2 a3 a4 a5 a6 a7 a8 a9 a10 a11 a12) (ix3 d ⟨0 + r.val, h⟩ j) = a0 (ix3 d r j)) ∧
    (∀ (d : Fin 8) (r : Fin 4) (j : Fin 512) (h : 64 + r.val < 184), (packed a0 a1 a2 a3 a4 a5 a6 a7 a8 a9 a10 a11 a12) (ix3 d ⟨64 + r.val, h⟩ j) = a1 (ix3 d r j)) ∧
    (∀ (d : Fin 8) (r : Fin 4) (j : Fin 512) (h : 72 + r.val < 184), (packed a0 a1 a2 a3 a4 a5 a6 a7 a8 a9 a10 a11 a12) (ix3 d ⟨72 + r.val, h⟩ j) = a2 (ix3 d r j)) ∧
    (∀ (d : Fin 8) (r : Fin 4) (j : Fin 512) (h : 80 + r.val < 184), (packed a0 a1 a2 a3 a4 a5 a6 a7 a8 a9 a10 a11 a12) (ix3 d ⟨80 + r.val, h⟩ j) = a3 (ix3 d r j)) ∧
    (∀ (d : Fin 8) (r : Fin 4) (j : Fin 512) (h : 88 + r.val < 184), (packed a0 a1 a2 a3 a4 a5 a6 a7 a8 a9 a10 a11 a12) (ix3 d ⟨88 + r.val, h⟩ j) = a4 (ix3 d r j)) ∧
    (∀ (d : Fin 8) (r : Fin 4) (j : Fin 512) (h : 96 + r.val < 184), (packed a0 a1 a2 a3 a4 a5 a6 a7 a8 a9 a10 a11 a12) (ix3 d ⟨96 + r.val, h⟩ j) = a5 (ix3 d r j)) ∧
    (∀ (d : Fin 8) (r : Fin 32) (j : Fin 512) (h : 104 + r.val < 184), (packed a0 a1 a2 a3 a4 a5 a6 a7 a8 a9 a10 a11 a12) (ix3 d ⟨104 + r.val, h⟩ j) = a6 (ix3 d r j)) ∧
    (∀ (d : Fin 8) (r : Fin 2) (j : Fin 512) (h : 136 + r.val < 184), (packed a0 a1 a2 a3 a4 a5 a6 a7 a8 a9 a10 a11 a12) (ix3 d ⟨136 + r.val, h⟩ j) = a7 (ix3 d r j)) ∧
    (∀ (d : Fin 8) (r : Fin 1) (j : Fin 512) (h : 144 + r.val < 184), (packed a0 a1 a2 a3 a4 a5 a6 a7 a8 a9 a10 a11 a12) (ix3 d ⟨144 + r.val, h⟩ j) = a8 (ix3 d r j)) ∧
    (∀ (d : Fin 8) (r : Fin 4) (j : Fin 512) (h : 152 + r.val < 184), (packed a0 a1 a2 a3 a4 a5 a6 a7 a8 a9 a10 a11 a12) (ix3 d ⟨152 + r.val, h⟩ j) = a9 (ix3 d r j)) ∧
    (∀ (d : Fin 8) (r : Fin 4) (j : Fin 512) (h : 160 + r.val < 184), (packed a0 a1 a2 a3 a4 a5 a6 a7 a8 a9 a10 a11 a12) (ix3 d ⟨160 + r.val, h⟩ j) = a10 (ix3 d r j)) ∧
    (∀ (d : Fin 8) (r : Fin 4) (j : Fin 512) (h : 168 + r.val < 184), (packed a0 a1 a2 a3 a4 a5 a6 a7 a8 a9 a10 a11 a12) (ix3 d ⟨168 + r.val, h⟩ j) = a11 (ix3 d r j)) ∧
    (∀ (d : Fin 8) (r : Fin 4) (j : Fin 512) (h : 176 + r.val < 184), (packed a0 a1 a2 a3 a4 a5 a6 a7 a8 a9 a10 a11 a12) (ix3 d ⟨176 + r.val, h⟩ j) = a12 (ix3 d r j)) := by
  obtain ⟨s0, s1, s2, s3, s4, s5, s6, s7, s8, s9, s10, s11, s12⟩ := stack_rows _ _ _ _ _ _ _ _ _ _ _ _ _
  exact ⟨fun d r j h => (s0 d (r.castLE (by decide)) j h).trans (pad_row _ _ _ d _ _ j r rfl),
    fun d r j h => (s1 d (r.castLE (by decide)) j h).trans (pad_row _ _ _ d _ _ j r rfl),
    fun d r j h => (s2 d (r.castLE (by decide)) j h).trans (pad_row _ _ _ d _ _ j r rfl),
    fun d r j h => (s3 d (r.castLE (by decide)) j h).trans (pad_row _ _ _ d _ _ j r rfl),
    fun d r j h => (s4 d (r.castLE (by decide)) j h).trans (pad_row _ _ _ d _ _ j r rfl),
    fun d r j h => (s5 d (r.castLE (by decide)) j h).trans (pad_row _ _ _ d _ _ j r rfl),
    fun d r j h => (s6 d (r.castLE (by decide)) j h).trans (pad_row _ _ _ d _ _ j r rfl),
    fun d r j h => (s7 d (r.castLE (by decide)) j h).trans (pad_row _ _ _ d _ _ j r rfl),
    fun d r j h => (s8 d (r.castLE (by decide)) j h).trans (pad_row _ _ _ d _ _ j r rfl),
    fun d r j h => (s9 d (r.castLE (by decide)) j h).trans (pad_row _ _ _ d _ _ j r rfl),
    fun d r j h => (s10 d (r.castLE (by decide)) j h).trans (pad_row _ _ _ d _ _ j r rfl),
    fun d r j h => (s11 d (r.castLE (by decide)) j h).trans (pad_row _ _ _ d _ _ j r rfl),
    fun d r j h => (s12 d (r.castLE (by decide)) j h).trans (pad_row _ _ _ d _ _ j r rfl)⟩

/-- The reference's sum. -/
theorem ref_sum {n : ℕ} (x : FVec Ideal ⟨3, ![8, n, 512]⟩ .f32) (h : (⟨3, ![8, n, 512]⟩ : Shape).ReducesTo [0] ⟨2, ![n, 512]⟩) (hu) :
    Host.reduceAdd x (constant (F := Ideal) S_ .f32 0x00000000#32) h hu = devSum x := by
  funext y
  pointwise [devSum]

/-- A result: the rows of the call's array, which sums the packed array over the devices. -/
theorem tail_eq (c : Dev nD) : Pipeline.afterTail₀ cfgs (dats m) 0 (V0 m) [hostOps1] c main_v15 = devSum (n := 64) (arg m c main_arg0) ∧
      Pipeline.afterTail₀ cfgs (dats m) 0 (V0 m) [hostOps1] c main_v16 = devSum (n := 4) (arg m c main_arg1) ∧
      Pipeline.afterTail₀ cfgs (dats m) 0 (V0 m) [hostOps1] c main_v17 = devSum (n := 4) (arg m c main_arg2) ∧
      Pipeline.afterTail₀ cfgs (dats m) 0 (V0 m) [hostOps1] c main_v18 = devSum (n := 4) (arg m c main_arg3) ∧
      Pipeline.afterTail₀ cfgs (dats m) 0 (V0 m) [hostOps1] c main_v19 = devSum (n := 4) (arg m c main_arg4) ∧
      Pipeline.afterTail₀ cfgs (dats m) 0 (V0 m) [hostOps1] c main_v20 = devSum (n := 4) (arg m c main_arg5) ∧
      Pipeline.afterTail₀ cfgs (dats m) 0 (V0 m) [hostOps1] c main_v21 = devSum (n := 32) (arg m c main_arg6) ∧
      Pipeline.afterTail₀ cfgs (dats m) 0 (V0 m) [hostOps1] c main_v22 = devSum (n := 2) (arg m c main_arg7) ∧
      Pipeline.afterTail₀ cfgs (dats m) 0 (V0 m) [hostOps1] c main_v23 = devSum (n := 1) (arg m c main_arg8) ∧
      Pipeline.afterTail₀ cfgs (dats m) 0 (V0 m) [hostOps1] c main_v24 = devSum (n := 4) (arg m c main_arg9) ∧
      Pipeline.afterTail₀ cfgs (dats m) 0 (V0 m) [hostOps1] c main_v25 = devSum (n := 4) (arg m c main_arg10) ∧
      Pipeline.afterTail₀ cfgs (dats m) 0 (V0 m) [hostOps1] c main_v26 = devSum (n := 4) (arg m c main_arg11) ∧
      Pipeline.afterTail₀ cfgs (dats m) 0 (V0 m) [hostOps1] c main_v27 = devSum (n := 4) (arg m c main_arg12) := by
  obtain ⟨p0, p1, p2, p3, p4, p5, p6, p7, p8, p9, p10, p11, p12⟩ := packed_rows (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12)
  have e1 := arr1 m c
  rw [V_packed] at e1
  unfold Pipeline.afterTail₀
  simp only [hostOps1, List.flatten_cons, List.flatten_nil, List.append_nil]
  have back : ∀ {n o : ℕ} {A w X : FVec Ideal _ .f32} {x : FVec Ideal ⟨3, ![8, n, 512]⟩ .f32} {h : S184x512.Slices ![o, 0] ⟨2, ![n, 512]⟩}, A = w → w = total X →
      (∀ (d : Fin 8) (r : Fin n) (j : Fin 512) (h : o + r.val < 184), X (ix3 d ⟨o + r.val, h⟩ j) = x (ix3 d r j)) →
      extractStridedSlice ⟨2, ![n, 512]⟩ ![o, 0] A h = devSum x := fun h h' H => by
    rw [h, h']; exact part _ _ _ _ H
  refine ⟨?_, ?_, ?_, ?_, ?_, ?_, ?_, ?_, ?_, ?_, ?_, ?_, ?_⟩
  · after_results; exact back (Pipeline.withArrays_arr spec0 launch0.win.arr_inj c _ _ 1) e1 p0
  · after_results; exact back (Pipeline.withArrays_arr spec0 launch0.win.arr_inj c _ _ 1) e1 p1
  · after_results; exact back (Pipeline.withArrays_arr spec0 launch0.win.arr_inj c _ _ 1) e1 p2
  · after_results; exact back (Pipeline.withArrays_arr spec0 launch0.win.arr_inj c _ _ 1) e1 p3
  · after_results; exact back (Pipeline.withArrays_arr spec0 launch0.win.arr_inj c _ _ 1) e1 p4
  · after_results; exact back (Pipeline.withArrays_arr spec0 launch0.win.arr_inj c _ _ 1) e1 p5
  · after_results; exact back (Pipeline.withArrays_arr spec0 launch0.win.arr_inj c _ _ 1) e1 p6
  · after_results; exact back (Pipeline.withArrays_arr spec0 launch0.win.arr_inj c _ _ 1) e1 p7
  · after_results; exact back (Pipeline.withArrays_arr spec0 launch0.win.arr_inj c _ _ 1) e1 p8
  · after_results; exact back (Pipeline.withArrays_arr spec0 launch0.win.arr_inj c _ _ 1) e1 p9
  · after_results; exact back (Pipeline.withArrays_arr spec0 launch0.win.arr_inj c _ _ 1) e1 p10
  · after_results; exact back (Pipeline.withArrays_arr spec0 launch0.win.arr_inj c _ _ 1) e1 p11
  · after_results; exact back (Pipeline.withArrays_arr spec0 launch0.win.arr_inj c _ _ 1) e1 p12

/-- THE RUN: each result is the sum of its argument over the devices. -/
theorem run : θ_run (defs (F := Ideal)) (onTc (τ := τ) (main (F := Ideal))) ⟨m, fun _ => 0, ρ⟩ fun r => ∀ c : Dev nD,
      r.2.mem ((c.tc : Thread nD τ).loc main_v15) = devSum (n := 64) (arg m c main_arg0) ∧
      r.2.mem ((c.tc : Thread nD τ).loc main_v16) = devSum (n := 4) (arg m c main_arg1) ∧
      r.2.mem ((c.tc : Thread nD τ).loc main_v17) = devSum (n := 4) (arg m c main_arg2) ∧
      r.2.mem ((c.tc : Thread nD τ).loc main_v18) = devSum (n := 4) (arg m c main_arg3) ∧
      r.2.mem ((c.tc : Thread nD τ).loc main_v19) = devSum (n := 4) (arg m c main_arg4) ∧
      r.2.mem ((c.tc : Thread nD τ).loc main_v20) = devSum (n := 4) (arg m c main_arg5) ∧
      r.2.mem ((c.tc : Thread nD τ).loc main_v21) = devSum (n := 32) (arg m c main_arg6) ∧
      r.2.mem ((c.tc : Thread nD τ).loc main_v22) = devSum (n := 2) (arg m c main_arg7) ∧
      r.2.mem ((c.tc : Thread nD τ).loc main_v23) = devSum (n := 1) (arg m c main_arg8) ∧
      r.2.mem ((c.tc : Thread nD τ).loc main_v24) = devSum (n := 4) (arg m c main_arg9) ∧
      r.2.mem ((c.tc : Thread nD τ).loc main_v25) = devSum (n := 4) (arg m c main_arg10) ∧
      r.2.mem ((c.tc : Thread nD τ).loc main_v26) = devSum (n := 4) (arg m c main_arg11) ∧
      r.2.mem ((c.tc : Thread nD τ).loc main_v27) = devSum (n := 4) (arg m c main_arg12) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) :=
  (θ_run defs _ _).mono (fun r h c => by
    obtain ⟨t0, t1, t2, t3, t4, t5, t6, t7, t8, t9, t10, t11, t12⟩ := tail_eq m c
    have rest := (h.1 c).2
    exact ⟨(rest main_v15 (Pipeline.mem_restRefs_of main_v15 (by decide) (by decide))).trans t0,
      (rest main_v16 (Pipeline.mem_restRefs_of main_v16 (by decide) (by decide))).trans t1,
      (rest main_v17 (Pipeline.mem_restRefs_of main_v17 (by decide) (by decide))).trans t2,
      (rest main_v18 (Pipeline.mem_restRefs_of main_v18 (by decide) (by decide))).trans t3,
      (rest main_v19 (Pipeline.mem_restRefs_of main_v19 (by decide) (by decide))).trans t4,
      (rest main_v20 (Pipeline.mem_restRefs_of main_v20 (by decide) (by decide))).trans t5,
      (rest main_v21 (Pipeline.mem_restRefs_of main_v21 (by decide) (by decide))).trans t6,
      (rest main_v22 (Pipeline.mem_restRefs_of main_v22 (by decide) (by decide))).trans t7,
      (rest main_v23 (Pipeline.mem_restRefs_of main_v23 (by decide) (by decide))).trans t8,
      (rest main_v24 (Pipeline.mem_restRefs_of main_v24 (by decide) (by decide))).trans t9,
      (rest main_v25 (Pipeline.mem_restRefs_of main_v25 (by decide) (by decide))).trans t10,
      (rest main_v26 (Pipeline.mem_restRefs_of main_v26 (by decide) (by decide))).trans t11,
      (rest main_v27 (Pipeline.mem_restRefs_of main_v27 (by decide) (by decide))).trans t12, h.2 c⟩)
    (θ_run_and (run_main m ρ) (unchanged m ρ))

/-- The frame of the reference's lines: host code, read off its run. -/
theorem frame_ref : Cert.quiescent_SmallRefIdeal := fun m ρ _ =>
  (θ_run Cert.SmallRefIdeal.defs _ _).mono (fun r h => ⟨fun c => (h c).2.2.2.2.2.2.2.2.2.2.2.2.2, Idealize.ShloMosaic.sem_eq_zero_of_no_sems (by decide) r.2⟩)
    (Cert.SmallRefIdeal.Value.run (F := Ideal) m ρ)

/-- THE VALUE CLAIM: the packed call and the plain sums end with the same arrays. -/
theorem algebraic : Cert.algebraic_SmallIdeal_SmallRefIdeal := by
  intro m g m' g' _ hargs
  refine ⟨_, _, _, _, _, _, _, _, _, _, _, _, _, run m g, ?_⟩
  refine (θ_run _ _ _).mono (fun r h c => ?_) (Cert.SmallRefIdeal.Value.run (F := Ideal) m' g')
  obtain ⟨e0, e1, e2, e3, e4, e5, e6, e7, e8, e9, e10, e11, e12⟩ := hargs c
  obtain ⟨r0, r1, r2, r3, r4, r5, r6, r7, r8, r9, r10, r11, r12, ra⟩ := h c
  exact ⟨r0.trans ((ref_sum (n := 64) _ _ _).trans (congrArg devSum e0)), r1.trans ((ref_sum (n := 4) _ _ _).trans (congrArg devSum e1)), r2.trans ((ref_sum (n := 4) _ _ _).trans (congrArg devSum e2)), r3.trans ((ref_sum (n := 4) _ _ _).trans (congrArg devSum e3)), r4.trans ((ref_sum (n := 4) _ _ _).trans (congrArg devSum e4)), r5.trans ((ref_sum (n := 4) _ _ _).trans (congrArg devSum e5)), r6.trans ((ref_sum (n := 32) _ _ _).trans (congrArg devSum e6)), r7.trans ((ref_sum (n := 2) _ _ _).trans (congrArg devSum e7)), r8.trans ((ref_sum (n := 1) _ _ _).trans (congrArg devSum e8)), r9.trans ((ref_sum (n := 4) _ _ _).trans (congrArg devSum e9)), r10.trans ((ref_sum (n := 4) _ _ _).trans (congrArg devSum e10)), r11.trans ((ref_sum (n := 4) _ _ _).trans (congrArg devSum e11)), r12.trans ((ref_sum (n := 4) _ _ _).trans (congrArg devSum e12)), ra⟩

end Cert.SmallIdeal.Hand

end
-- ==== Proof.RmsMath.lean ====
/- The arithmetic of the root-mean-square norm and of its gradient, over the extended reals. -/
module

public import Idealize.ShloMosaic.Lib.Pointwise
public import Idealize.ShloMosaic.PureOps.Ideal.Laws

@[expose] public section

noncomputable section

namespace Cert.Rms

open Idealize.ShloMosaic
open scoped BigOperators

/-- The width of a row, as the programs write it. -/
abbrev width : EReal := Ideal.ofBits .f32 0x45000000#32
/-- The small number under the root. -/
abbrev eps : EReal := Ideal.ofBits .f32 0x358637BD#32
/-- Minus one half, the derivative's factor. -/
abbrev mhalf : EReal := Ideal.ofBits .f32 0xBF000000#32

/-- The width is 2048. -/
theorem width_eq : width = ((2048 : ℝ) : EReal) := by
  simp [width, Ideal.ofBits, Ideal.ieee]
  rw [← EReal.coe_mul]
  norm_num

/-- Minus one half is a real. -/
theorem mhalf_eq : mhalf = ((-(1 / 2) : ℝ) : EReal) := by
  simp [mhalf, Ideal.ofBits, Ideal.ieee]
  rw [← EReal.coe_mul]
  norm_num

/-- The small number is a positive real. -/
theorem eps_pos : ∃ e : ℝ, 0 < e ∧ eps = (e : EReal) := by
  refine ⟨8796093 / 8796093022208, by norm_num, ?_⟩
  simp [eps, Ideal.ofBits, Ideal.ieee]
  rw [← EReal.coe_mul]
  norm_num

/-- Division by the width is multiplication by a real. -/
theorem div_width (x : EReal) : Ideal.div x width = x * ((1 / 2048 : ℝ) : EReal) := by
  rw [width_eq]
  unfold Ideal.div
  rw [if_neg (by norm_num), ← EReal.coe_inv]
  norm_num

/-- A square is not negative. -/
theorem sq_nonneg (x : EReal) : 0 ≤ x * x := by
  induction x with
  | bot => simp
  | top => simp
  | coe r => rw [← EReal.coe_mul]; exact_mod_cast mul_self_nonneg r

/-- The quantity under the root: the mean of the squares and a small number. -/
def under (S : EReal) : EReal := Ideal.div S width + eps

/-- It is an infinity or a positive real. -/
theorem under_cases {S : EReal} (h : 0 ≤ S) : under S = ⊤ ∨ ∃ c : ℝ, 0 < c ∧ under S = c := by
  obtain ⟨e, he, h'⟩ := eps_pos
  unfold under
  rw [div_width, h']
  induction S with
  | bot => simp at h
  | top => left; rw [EReal.top_mul_coe_of_pos (by norm_num)]; rfl
  | coe r =>
    right
    have hr : 0 ≤ r := by exact_mod_cast h
    exact ⟨r * (1 / 2048) + e, by positivity, by push_cast; rfl⟩

/-- A sum times a nonnegative real. -/
theorem sum_mul_coe {ι : Type*} [Fintype ι] (f : ι → EReal) {r : ℝ} (hr : 0 ≤ r) : (∑ k, f k) * (r : EReal) = ∑ k, f k * (r : EReal) := by
  classical
  have : ∀ s : Finset ι, (∑ k ∈ s, f k) * (r : EReal) = ∑ k ∈ s, f k * (r : EReal) := fun s => by
    induction s using Finset.induction_on with
    | empty => simp
    | insert a s ha ih =>
      rw [Finset.sum_insert ha, Finset.sum_insert ha, EReal.right_distrib_of_nonneg_of_ne_top (by exact_mod_cast hr) (EReal.coe_ne_top r), ih]
  exact this _

/-- A number times a negative real, twice over. -/
theorem twice (z : EReal) {a : ℝ} (ha : 0 ≤ a) : z * ((-a : ℝ) : EReal) + z * ((-a : ℝ) : EReal) = -(z * ((a + a : ℝ) : EReal)) := by
  rw [EReal.coe_neg, mul_neg, EReal.coe_add, EReal.left_distrib_of_nonneg (by exact_mod_cast ha) (by exact_mod_cast ha)]
  induction z with
  | bot =>
    rcases ha.eq_or_lt with rfl | h
    · simp
    · simp [EReal.bot_mul_coe_of_pos h]
  | top =>
    rcases ha.eq_or_lt with rfl | h
    · simp
    · simp [EReal.top_mul_coe_of_pos h]
  | coe z => norm_cast; ring

/-- ONE ENTRY OF THE GRADIENT of a row's norm: the closed form and the chain rule through the root agree, at every extended real. -/
theorem grad_row {ι : Type*} [Fintype ι] (x gd : ι → EReal) (u d : EReal) (hu : u = ⊤ ∨ ∃ c : ℝ, 0 < c ∧ u = c) (q : ι) :
    d + Ideal.rsqrt u * (gd q - x q * Ideal.rsqrt u * Ideal.div (∑ k, gd k * (x k * Ideal.rsqrt u)) width)
      = d + ((gd q * Ideal.rsqrt u + x q * Ideal.div ((∑ k, x k * gd k) * (mhalf * Ideal.div (Ideal.rsqrt u) u)) width)
          + Ideal.div ((∑ k, x k * gd k) * (mhalf * Ideal.div (Ideal.rsqrt u) u)) width * x q) := by
  simp only [div_width]
  rcases hu with rfl | ⟨c, hc, rfl⟩
  · rw [Ideal.rsqrt_top]
    have : Ideal.div 0 ⊤ = 0 := by unfold Ideal.div; simp
    simp [this]
  · have hr : Ideal.rsqrt (c : EReal) = (((Real.sqrt c)⁻¹ : ℝ) : EReal) := by
      rw [Ideal.rsqrt_coe, if_neg (not_lt.mpr hc.le), if_neg hc.ne']
    set r : ℝ := (Real.sqrt c)⁻¹ with hrdef
    have hr0 : 0 < r := inv_pos.mpr (Real.sqrt_pos.mpr hc)
    have hd : Ideal.div (r : EReal) (c : EReal) = ((r * c⁻¹ : ℝ) : EReal) := by
      unfold Ideal.div
      rw [if_neg (by exact_mod_cast hc.ne'), ← EReal.coe_inv, ← EReal.coe_mul]
    have hrc : r * c⁻¹ = r * r * r := by
      rw [hrdef]
      have h2 := Real.mul_self_sqrt hc.le
      have h3 : Real.sqrt c ≠ 0 := (Real.sqrt_pos.mpr hc).ne'
      field_simp
      rw [sq, h2]
    rw [hr, hd, hrc, mhalf_eq]
    have hs : ∑ k, gd k * (x k * (r : EReal)) = (∑ k, x k * gd k) * (r : EReal) := by
      rw [sum_mul_coe _ hr0.le]
      exact Finset.sum_congr rfl fun k _ => by rw [← mul_assoc, mul_comm (gd k)]
    rw [hs]
    generalize (∑ k, x k * gd k) = S
    have hB : x q * (S * (((-(1 / 2) : ℝ) : EReal) * ((r * r * r : ℝ) : EReal)) * ((1 / 2048 : ℝ) : EReal)) = x q * S * ((-(r * r * r / 4096) : ℝ) : EReal) := by
      rw [mul_assoc S, ← mul_assoc (x q), ← EReal.coe_mul, ← EReal.coe_mul]
      congr 2
      ring
    have hB' := (mul_comm (S * (((-(1 / 2) : ℝ) : EReal) * ((r * r * r : ℝ) : EReal)) * ((1 / 2048 : ℝ) : EReal)) (x q)).trans hB
    rw [hB, hB', add_assoc (gd q * (r : EReal)), twice _ (by positivity)]
    congr 1
    rw [sub_eq_add_neg, EReal.left_distrib_of_nonneg_of_ne_top (by exact_mod_cast hr0.le) (EReal.coe_ne_top r), mul_neg, mul_comm (r : EReal) (gd q)]
    congr 2
    rw [show x q * (r : EReal) * (S * (r : EReal) * ((1 / 2048 : ℝ) : EReal)) = x q * S * ((r : EReal) * (r : EReal) * ((1 / 2048 : ℝ) : EReal)) by
      simp only [mul_assoc, mul_left_comm, mul_comm]]
    rw [mul_comm (r : EReal), mul_assoc (x q * S), ← EReal.coe_mul, ← EReal.coe_mul, ← EReal.coe_mul]
    congr 2
    ring

end Cert.Rms

end
-- ==== Proof.NormTiles.lean ====
/- The norm's forward and backward calls, tile by tile: what each grid point computes, entry by entry. -/
module

public import proofs.«01_k».proof.Proof.Gen.NormIdeal.Frame
public import proofs.«01_k».proof.Proof.Sums
public import proofs.«01_k».proof.Proof.RmsMath
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.NormIdeal.Hand

open Cert.NormIdeal Cert.NormIdeal.Gen Cert.Sums Cert.Rms
open scoped BigOperators

/-- The forward call's reciprocal root of a row. -/
theorem pay1_apply (x : FVec Ideal S352x2048 .f32) (r : Fin 352) (z : Fin 1) :
    k0_pay1 (F := Ideal) x (ix2 r z) = Ideal.rsqrt (under (∑ k : Fin 2048, x (ix2 r k) * x (ix2 r k))) := by
  pointwise [k0_pay1]
  rfl

/-- The forward call's normed row, times the weight. -/
theorem pay2_apply (x : FVec Ideal S352x2048 .f32) (g : FVec Ideal S1x2048 .f32) (r : Fin 352) (q : Fin 2048) :
    k0_pay2 (F := Ideal) x g (ix2 r q) = x (ix2 r q) * Ideal.rsqrt (under (∑ k : Fin 2048, x (ix2 r k) * x (ix2 r k))) * g (ix2 0 q) := by
  pointwise [k0_pay2, k0_pay1]
  rfl

/-- The backward call's gradient of the row. -/
theorem pay5_apply (s : FVec Ideal S352x1 .f32) (x dh : FVec Ideal S352x2048 .f32) (g : FVec Ideal S1x2048 .f32) (d : FVec Ideal S352x2048 .f32)
    (r : Fin 352) (q : Fin 2048) :
    k1_pay5 s x dh g d (ix2 r q) = d (ix2 r q) + s (ix2 r 0) * (dh (ix2 r q) * g (ix2 0 q)
      - x (ix2 r q) * s (ix2 r 0) * Ideal.div (∑ k : Fin 2048, dh (ix2 r k) * g (ix2 0 k) * (x (ix2 r k) * s (ix2 r 0))) width) := by
  pointwise [k1_pay5, k1_pay4, k1_pay3]

/-- Half of it, which the backward call also hands on. -/
theorem pay6_apply (s : FVec Ideal S352x1 .f32) (x dh : FVec Ideal S352x2048 .f32) (g : FVec Ideal S1x2048 .f32) (d : FVec Ideal S352x2048 .f32)
    (y : S352x2048.Idx) : k1_pay6 (F := Ideal) s x dh g d y = Ideal.ofBits .f32 0x3F000000#32 * k1_pay5 (F := Ideal) s x dh g d y := rfl

/-- What a tile adds to the weight's gradient, at a column. -/
def tileSum (s : FVec Ideal S352x1 .f32) (x dh : FVec Ideal S352x2048 .f32) (q : Fin 2048) : EReal :=
  ∑ r : Fin 352, dh (ix2 r q) * (x (ix2 r q) * s (ix2 r 0))

/-- The backward call adds it to the weight's gradient. -/
theorem pay8_apply (s : FVec Ideal S352x1 .f32) (x dh : FVec Ideal S352x2048 .f32) (a : FVec Ideal S1x2048 .f32) (z : Fin 1) (q : Fin 2048) :
    k1_pay1 (k1_pay7 a) (k1_pay8 s x dh) (ix2 z q) = a (ix2 z q) + tileSum s x dh q := by
  unfold tileSum
  pointwise [k1_pay1, k1_pay7, k1_pay8, k1_pay4, k1_pay3]

/-- The weight's gradient starts at zero. -/
theorem pay2z_apply (y : S1x2048.Idx) : k1_pay2 (F := Ideal) y = 0 := by
  pointwise [k1_pay2]

variable (V : (c : Dev nD) → (b : Ref sig .tc) → Buf (Elt Ideal) ((c : Thread nD τ).loc b))

/-- The forward call's outputs at a point. -/
theorem out2_eq (x : FVec Ideal S352x2048 .f32) (g : FVec Ideal S1x2048 .f32) : out0_2 (F := Ideal) x g = k0_pay2 (F := Ideal) x g := by
  unfold out0_2
  frame_out

/-- The reciprocal roots' block. -/
theorem out3_eq (x : FVec Ideal S352x2048 .f32) (g : FVec Ideal S1x2048 .f32) : out0_3 (F := Ideal) x g = k0_pay1 (F := Ideal) x := by
  unfold out0_3
  frame_out

/-- The backward call's gradient block at a point. -/
theorem dx_out (c : Dev nD) (t : Fin cfg1.N) : (outsAt1 V c t.val t.isLt).1 = k1_pay5 (iblk1 V c 3 t) (iblk1 V c 1 t) (iblk1 V c 0 t) (iblk1 V c 2 t) (iblk1 V c 4 t) := by
  by_cases h : t.val % 6 = 0
  · rw [outsAt1_A V c t h]
    frame_out
  · rw [outsAt1_B V c t h]
    frame_out

/-- The backward call's half block at a point. -/
theorem half_out (c : Dev nD) (t : Fin cfg1.N) : (outsAt1 V c t.val t.isLt).2.2 = k1_pay6 (iblk1 V c 3 t) (iblk1 V c 1 t) (iblk1 V c 0 t) (iblk1 V c 2 t) (iblk1 V c 4 t) := by
  by_cases h : t.val % 6 = 0
  · rw [outsAt1_A V c t h]
    frame_out
  · rw [outsAt1_B V c t h]
    frame_out

/-- The weight's gradient after the first point … -/
theorem dg_A (c : Dev nD) (t : Fin cfg1.N) (h : t.val % 6 = 0) :
    (outsAt1 V c t.val t.isLt).2.1 = k1_pay1 (k1_pay7 k1_pay2) (k1_pay8 (iblk1 V c 3 t) (iblk1 V c 1 t) (iblk1 V c 0 t)) := by
  rw [outsAt1_A V c t h]
  frame_out

/-- … and after a later one. -/
theorem dg_B (c : Dev nD) (t : Fin cfg1.N) (h : ¬t.val % 6 = 0) :
    (outsAt1 V c t.val t.isLt).2.1 = k1_pay1 (k1_pay7 (outsAt1 V c (t.val - 1) (Nat.lt_of_le_of_lt (Nat.sub_le _ _) t.isLt)).2.1)
      (k1_pay8 (iblk1 V c 3 t) (iblk1 V c 1 t) (iblk1 V c 0 t)) := by
  rw [outsAt1_B V c t h]
  frame_out

end Cert.NormIdeal.Hand

end
-- ==== Proof.NormArrays.lean ====
/- The arrays that the norm's forward and backward calls leave: the tiles put together. -/
module

public import proofs.«01_k».proof.Proof.NormTiles

@[expose] public section

set_option maxRecDepth 16384

noncomputable section

open Idealize.ShloMosaic Idealize.ShloMosaic.TcCoe Idealize.SL.Sem
open Idealize.ShloMosaic.Pipeline (Dat)

namespace Cert.NormIdeal.Hand

open Cert.NormIdeal Cert.NormIdeal.Gen Cert.Sums Cert.Rms
open scoped BigOperators

variable (V : (c : Dev nD) → (b : Ref sig .tc) → Buf (Elt Ideal) ((c : Thread nD τ).loc b))

/-- The arrays the calls read, as arrays of extended reals. -/
abbrev vX (c : Dev nD) : FVec Ideal S2112x2048 .f32 := V c main_arg0
abbrev vG (c : Dev nD) : FVec Ideal S1x2048 .f32 := V c main_arg1
abbrev vDh (c : Dev nD) : FVec Ideal S2112x2048 .f32 := V c main_arg2
abbrev vRes (c : Dev nD) : FVec Ideal S2112x2048 .f32 := V c main_arg3
abbrev vR (c : Dev nD) : FVec Ideal S2112x1 .f32 := V c main_v0_1

/-- The windows' index maps in closed form: point `t` is tile of rows `t`. -/
theorem idx0_0 : ∀ t : Fin cfg0.N, win0_0.index t 0 = t.val ∧ win0_0.index t 1 = 0 := (by decide +kernel : ∀ t : Fin grid0.N, _)
theorem idx0_1 : ∀ t : Fin cfg0.N, win0_1.index t 0 = 0 ∧ win0_1.index t 1 = 0 := (by decide +kernel : ∀ t : Fin grid0.N, _)
theorem idx0_2 : ∀ t : Fin cfg0.N, win0_2.index t 0 = t.val ∧ win0_2.index t 1 = 0 := (by decide +kernel : ∀ t : Fin grid0.N, _)
theorem idx0_3 : ∀ t : Fin cfg0.N, win0_3.index t 0 = t.val ∧ win0_3.index t 1 = 0 := (by decide +kernel : ∀ t : Fin grid0.N, _)
theorem idx1_0 : ∀ t : Fin cfg1.N, win1_0.index t 0 = t.val ∧ win1_0.index t 1 = 0 := (by decide +kernel : ∀ t : Fin grid1.N, _)
theorem idx1_1 : ∀ t : Fin cfg1.N, win1_1.index t 0 = t.val ∧ win1_1.index t 1 = 0 := (by decide +kernel : ∀ t : Fin grid1.N, _)
theorem idx1_2 : ∀ t : Fin cfg1.N, win1_2.index t 0 = 0 ∧ win1_2.index t 1 = 0 := (by decide +kernel : ∀ t : Fin grid1.N, _)
theorem idx1_3 : ∀ t : Fin cfg1.N, win1_3.index t 0 = t.val ∧ win1_3.index t 1 = 0 := (by decide +kernel : ∀ t : Fin grid1.N, _)
theorem idx1_4 : ∀ t : Fin cfg1.N, win1_4.index t 0 = t.val ∧ win1_4.index t 1 = 0 := (by decide +kernel : ∀ t : Fin grid1.N, _)
theorem idx1_5 : ∀ t : Fin cfg1.N, win1_5.index t 0 = t.val ∧ win1_5.index t 1 = 0 := (by decide +kernel : ∀ t : Fin grid1.N, _)
theorem idx1_6 : ∀ t : Fin cfg1.N, win1_6.index t 0 = 0 ∧ win1_6.index t 1 = 0 := (by decide +kernel : ∀ t : Fin grid1.N, _)
theorem idx1_7 : ∀ t : Fin cfg1.N, win1_7.index t 0 = t.val ∧ win1_7.index t 1 = 0 := (by decide +kernel : ∀ t : Fin grid1.N, _)

/-- Row `r` of tile `t`. -/
def row (t : ℕ) (ht : t < 6) (r : Fin 352) : Fin 2112 := ⟨t * 352 + r.val, by omega⟩

/-- There are six tiles. -/
theorem lt0 (t : Fin cfg0.N) : t.val < 6 := lt_of_lt_of_eq t.isLt N_0
/-- There are six tiles. -/
theorem lt1 (t : Fin cfg1.N) : t.val < 6 := lt_of_lt_of_eq t.isLt N_1

/-- The block of the input: the tile's rows. -/
theorem blk0_0 (c : Dev nD) (t : Fin cfg0.N) (r : Fin 352) (q : Fin 2048) :
    (iblk0 V c 0 t : Vec Ideal S352x2048 .f32) (ix2 r q) = vX V c (ix2 (row t.val (lt0 t) r) q) := by
  unfold iblk0
  rw [View.read_apply]
  refine congrArg (V c main_arg0) ?_
  funext a
  apply Fin.ext
  match a with
  | ⟨0, _⟩ => show win0_0.index t 0 * 352 + 1 * r.val = t.val * 352 + r.val; rw [(idx0_0 t).1]; omega
  | ⟨1, _⟩ => show win0_0.index t 1 * 2048 + 1 * q.val = q.val; rw [(idx0_0 t).2]; omega

/-- The block of the weight. -/
theorem blk0_1 (c : Dev nD) (t : Fin cfg0.N) (z : Fin 1) (q : Fin 2048) :
    (iblk0 V c 1 t : Vec Ideal S1x2048 .f32) (ix2 z q) = vG V c (ix2 0 q) := by
  unfold iblk0
  rw [View.read_apply]
  refine congrArg (V c main_arg1) ?_
  funext a
  apply Fin.ext
  match a with
  | ⟨0, _⟩ => show win0_1.index t 0 * 1 + 1 * z.val = 0; rw [(idx0_1 t).1]; omega
  | ⟨1, _⟩ => show win0_1.index t 1 * 2048 + 1 * q.val = _; rw [(idx0_1 t).2]; simp

/-- The block of the output's gradient: the tile's rows. -/
theorem blk1_0 (c : Dev nD) (t : Fin cfg1.N) (r : Fin 352) (q : Fin 2048) :
    (iblk1 V c 0 t : Vec Ideal S352x2048 .f32) (ix2 r q) = vDh V c (ix2 (row t.val (lt1 t) r) q) := by
  unfold iblk1
  rw [View.read_apply]
  refine congrArg (V c main_arg2) ?_
  funext a
  apply Fin.ext
  match a with
  | ⟨0, _⟩ => show win1_0.index t 0 * 352 + 1 * r.val = t.val * 352 + r.val; rw [(idx1_0 t).1]; omega
  | ⟨1, _⟩ => show win1_0.index t 1 * 2048 + 1 * q.val = q.val; rw [(idx1_0 t).2]; omega

/-- The block of the input: the tile's rows. -/
theorem blk1_1 (c : Dev nD) (t : Fin cfg1.N) (r : Fin 352) (q : Fin 2048) :
    (iblk1 V c 1 t : Vec Ideal S352x2048 .f32) (ix2 r q) = vX V c (ix2 (row t.val (lt1 t) r) q) := by
  unfold iblk1
  rw [View.read_apply]
  refine congrArg (V c main_arg0) ?_
  funext a
  apply Fin.ext
  match a with
  | ⟨0, _⟩ => show win1_1.index t 0 * 352 + 1 * r.val = t.val * 352 + r.val; rw [(idx1_1 t).1]; omega
  | ⟨1, _⟩ => show win1_1.index t 1 * 2048 + 1 * q.val = q.val; rw [(idx1_1 t).2]; omega

/-- The block of the weight. -/
theorem blk1_2 (c : Dev nD) (t : Fin cfg1.N) (z : Fin 1) (q : Fin 2048) :
    (iblk1 V c 2 t : Vec Ideal S1x2048 .f32) (ix2 z q) = vG V c (ix2 0 q) := by
  unfold iblk1
  rw [View.read_apply]
  refine congrArg (V c main_arg1) ?_
  funext a
  apply Fin.ext
  match a with
  | ⟨0, _⟩ => show win1_2.index t 0 * 1 + 1 * z.val = 0; rw [(idx1_2 t).1]; omega
  | ⟨1, _⟩ => show win1_2.index t 1 * 2048 + 1 * q.val = _; rw [(idx1_2 t).2]; simp

/-- The block of the reciprocal roots: the tile's rows. -/
theorem blk1_3 (c : Dev nD) (t : Fin cfg1.N) (r : Fin 352) (q : Fin 1) :
    (iblk1 V c 3 t : Vec Ideal S352x1 .f32) (ix2 r q) = vR V c (ix2 (row t.val (lt1 t) r) q) := by
  unfold iblk1
  rw [View.read_apply]
  refine congrArg (V c main_v0_1) ?_
  funext a
  apply Fin.ext
  match a with
  | ⟨0, _⟩ => show win1_3.index t 0 * 352 + 1 * r.val = t.val * 352 + r.val; rw [(idx1_3 t).1]; omega
  | ⟨1, _⟩ => show win1_3.index t 1 * 1 + 1 * q.val = q.val; rw [(idx1_3 t).2]; omega

/-- The block of the residual's gradient: the tile's rows. -/
theorem blk1_4 (c : Dev nD) (t : Fin cfg1.N) (r : Fin 352) (q : Fin 2048) :
    (iblk1 V c 4 t : Vec Ideal S352x2048 .f32) (ix2 r q) = vRes V c (ix2 (row t.val (lt1 t) r) q) := by
  unfold iblk1
  rw [View.read_apply]
  refine congrArg (V c main_arg3) ?_
  funext a
  apply Fin.ext
  match a with
  | ⟨0, _⟩ => show win1_4.index t 0 * 352 + 1 * r.val = t.val * 352 + r.val; rw [(idx1_4 t).1]; omega
  | ⟨1, _⟩ => show win1_4.index t 1 * 2048 + 1 * q.val = q.val; rw [(idx1_4 t).2]; omega

/-! ## The results as functions of the arguments -/

/-- The reciprocal root of a row's mean square. -/
def rr (x : FVec Ideal S2112x2048 .f32) (i : Fin 2112) : EReal := Ideal.rsqrt (under (∑ k : Fin 2048, x (ix2 i k) * x (ix2 i k)))

/-- The reciprocal roots as an array. -/
def rOf (x : FVec Ideal S2112x2048 .f32) : FVec Ideal S2112x1 .f32 := fun y => rr x (y 0)

/-- The normed rows times the weight. -/
def hOf (x : FVec Ideal S2112x2048 .f32) (g : FVec Ideal S1x2048 .f32) : FVec Ideal S2112x2048 .bf16 := fun y => x (ix2 (y 0) (y 1)) * rr x (y 0) * g (ix2 0 (y 1))

/-- The gradient of the rows. -/
def dxOf (x : FVec Ideal S2112x2048 .f32) (g : FVec Ideal S1x2048 .f32) (dh d : FVec Ideal S2112x2048 .f32) (s : FVec Ideal S2112x1 .f32) :
    FVec Ideal S2112x2048 .f32 := fun y => d (ix2 (y 0) (y 1)) + s (ix2 (y 0) 0) * (dh (ix2 (y 0) (y 1)) * g (ix2 0 (y 1))
      - x (ix2 (y 0) (y 1)) * s (ix2 (y 0) 0) * Ideal.div (∑ k : Fin 2048, dh (ix2 (y 0) k) * g (ix2 0 k) * (x (ix2 (y 0) k) * s (ix2 (y 0) 0))) width)

/-- Half of it. -/
def halfOf (x : FVec Ideal S2112x2048 .f32) (g : FVec Ideal S1x2048 .f32) (dh d : FVec Ideal S2112x2048 .f32) (s : FVec Ideal S2112x1 .f32) :
    FVec Ideal S2112x2048 .bf16 := fun y => Ideal.ofBits .f32 0x3F000000#32 * dxOf x g dh d s y

/-- One row's part of the weight's gradient. -/
def dgAt (x dh : FVec Ideal S2112x2048 .f32) (s : FVec Ideal S2112x1 .f32) (q i : ℕ) : EReal := at2 dh i q * (at2 x i q * at2 s i 0)

/-- The weight's gradient. -/
def dgOf (x dh : FVec Ideal S2112x2048 .f32) (s : FVec Ideal S2112x1 .f32) : FVec Ideal S1x2048 .f32 := fun y =>
  ∑ i : Fin 2112, dh (ix2 i (y 1)) * (x (ix2 i (y 1)) * s (ix2 i 0))

/-! ## The arrays -/

/-- THE NORMED ROWS, as the forward call leaves them. -/
theorem arr0_2 (c : Dev nD) : (dat0 V c).arrAt 2 cfg0.N = hOf (vX V c) (vG V c) := by
  refine (dat0 V c).arrAt_eq_of_cover 2 _ (fun t _ => ?_) (fun x => ?_)
  · show (dat0 V c).after 2 t = _
    rw [after0_2, out2_eq]
    funext y
    obtain ⟨r, q, rfl⟩ : ∃ (r : Fin 352) (q : Fin 2048), y = ix2 r q := ⟨_, _, eq_ix2 y⟩
    rw [View.read_apply]
    have hy : ((cfg0.win 2).blk t).view.emb (ix2 r q) = ix2 (row t.val (lt0 t) r) q := by
      funext a
      apply Fin.ext
      match a with
      | ⟨0, _⟩ => show win0_2.index t 0 * 352 + 1 * r.val = t.val * 352 + r.val; rw [(idx0_2 t).1]; omega
      | ⟨1, _⟩ => show win0_2.index t 1 * 2048 + 1 * q.val = q.val; rw [(idx0_2 t).2]; omega
    refine Eq.trans ?_ (congrArg (hOf (vX V c) (vG V c) : S2112x2048.Idx → EReal) hy).symm
    rw [pay2_apply]
    simp only [blk0_0, blk0_1]
    rfl
  · have hx0 : (x 0).val < 2112 := (x 0).isLt
    have hx1 : (x 1).val < 2048 := (x 1).isLt
    have ht : (x 0).val / 352 < cfg0.N := by rw [show cfg0.N = 6 from N_0]; omega
    refine ⟨⟨_, ht⟩, flush0_2 _, ?_⟩
    show x ∈ ((View.whole main_v0_0).slice (win0_2.rect ⟨_, ht⟩)).set
    rw [View.set_slice_whole, Rect.mem_set_unit]
    have e0 : win0_2.index ⟨_, ht⟩ 0 = (x 0).val / 352 := (idx0_2 ⟨_, ht⟩).1
    have e1 : win0_2.index ⟨_, ht⟩ 1 = 0 := (idx0_2 ⟨_, ht⟩).2
    intro a
    match a with
    | ⟨0, _⟩ => show win0_2.index ⟨_, ht⟩ 0 * 352 ≤ (x 0).val ∧ (x 0).val < win0_2.index ⟨_, ht⟩ 0 * 352 + 352; omega
    | ⟨1, _⟩ => show win0_2.index ⟨_, ht⟩ 1 * 2048 ≤ (x 1).val ∧ (x 1).val < win0_2.index ⟨_, ht⟩ 1 * 2048 + 2048; omega

/-- THE RECIPROCAL ROOTS, as the forward call leaves them. -/
theorem arr0_3 (c : Dev nD) : (dat0 V c).arrAt 3 cfg0.N = rOf (vX V c) := by
  refine (dat0 V c).arrAt_eq_of_cover 3 _ (fun t _ => ?_) (fun x => ?_)
  · show (dat0 V c).after 3 t = _
    rw [after0_3, out3_eq]
    funext y
    obtain ⟨r, q, rfl⟩ : ∃ (r : Fin 352) (q : Fin 1), y = ix2 r q := ⟨_, _, eq_ix2 y⟩
    rw [View.read_apply]
    have hy : ((cfg0.win 3).blk t).view.emb (ix2 r q) = ix2 (row t.val (lt0 t) r) q := by
      funext a
      apply Fin.ext
      match a with
      | ⟨0, _⟩ => show win0_3.index t 0 * 352 + 1 * r.val = t.val * 352 + r.val; rw [(idx0_3 t).1]; omega
      | ⟨1, _⟩ => show win0_3.index t 1 * 1 + 1 * q.val = q.val; rw [(idx0_3 t).2]; omega
    refine Eq.trans ?_ (congrArg (rOf (vX V c) : S2112x1.Idx → EReal) hy).symm
    rw [pay1_apply]
    simp only [blk0_0]
    rfl
  · have hx0 : (x 0).val < 2112 := (x 0).isLt
    have hx1 : (x 1).val < 1 := (x 1).isLt
    have ht : (x 0).val / 352 < cfg0.N := by rw [show cfg0.N = 6 from N_0]; omega
    refine ⟨⟨_, ht⟩, flush0_3 _, ?_⟩
    show x ∈ ((View.whole main_v0_1).slice (win0_3.rect ⟨_, ht⟩)).set
    rw [View.set_slice_whole, Rect.mem_set_unit]
    have e0 : win0_3.index ⟨_, ht⟩ 0 = (x 0).val / 352 := (idx0_3 ⟨_, ht⟩).1
    have e1 : win0_3.index ⟨_, ht⟩ 1 = 0 := (idx0_3 ⟨_, ht⟩).2
    intro a
    match a with
    | ⟨0, _⟩ => show win0_3.index ⟨_, ht⟩ 0 * 352 ≤ (x 0).val ∧ (x 0).val < win0_3.index ⟨_, ht⟩ 0 * 352 + 352; omega
    | ⟨1, _⟩ => show win0_3.index ⟨_, ht⟩ 1 * 1 ≤ (x 1).val ∧ (x 1).val < win0_3.index ⟨_, ht⟩ 1 * 1 + 1; omega

/-- THE ROWS' GRADIENT, as the backward call leaves it. -/
theorem arr1_5 (c : Dev nD) : (dat1 V c).arrAt 5 cfg1.N = dxOf (vX V c) (vG V c) (vDh V c) (vRes V c) (vR V c) := by
  refine (dat1 V c).arrAt_eq_of_cover 5 _ (fun t _ => ?_) (fun x => ?_)
  · show (dat1 V c).after 5 t = _
    rw [after1_5, dx_out]
    funext y
    obtain ⟨r, q, rfl⟩ : ∃ (r : Fin 352) (q : Fin 2048), y = ix2 r q := ⟨_, _, eq_ix2 y⟩
    rw [View.read_apply]
    have hy : ((cfg1.win 5).blk t).view.emb (ix2 r q) = ix2 (row t.val (lt1 t) r) q := by
      funext a
      apply Fin.ext
      match a with
      | ⟨0, _⟩ => show win1_5.index t 0 * 352 + 1 * r.val = t.val * 352 + r.val; rw [(idx1_5 t).1]; omega
      | ⟨1, _⟩ => show win1_5.index t 1 * 2048 + 1 * q.val = q.val; rw [(idx1_5 t).2]; omega
    refine Eq.trans ?_ (congrArg (dxOf (vX V c) (vG V c) (vDh V c) (vRes V c) (vR V c) : S2112x2048.Idx → EReal) hy).symm
    rw [pay5_apply]
    simp only [blk1_0, blk1_1, blk1_2, blk1_3, blk1_4]
    rfl
  · have hx0 : (x 0).val < 2112 := (x 0).isLt
    have hx1 : (x 1).val < 2048 := (x 1).isLt
    have ht : (x 0).val / 352 < cfg1.N := by rw [show cfg1.N = 6 from N_1]; omega
    refine ⟨⟨_, ht⟩, flush1_5 _, ?_⟩
    show x ∈ ((View.whole main_v1_0).slice (win1_5.rect ⟨_, ht⟩)).set
    rw [View.set_slice_whole, Rect.mem_set_unit]
    have e0 : win1_5.index ⟨_, ht⟩ 0 = (x 0).val / 352 := (idx1_5 ⟨_, ht⟩).1
    have e1 : win1_5.index ⟨_, ht⟩ 1 = 0 := (idx1_5 ⟨_, ht⟩).2
    intro a
    match a with
    | ⟨0, _⟩ => show win1_5.index ⟨_, ht⟩ 0 * 352 ≤ (x 0).val ∧ (x 0).val < win1_5.index ⟨_, ht⟩ 0 * 352 + 352; omega
    | ⟨1, _⟩ => show win1_5.index ⟨_, ht⟩ 1 * 2048 ≤ (x 1).val ∧ (x 1).val < win1_5.index ⟨_, ht⟩ 1 * 2048 + 2048; omega

/-- HALF OF IT, as the backward call leaves it. -/
theorem arr1_7 (c : Dev nD) : (dat1 V c).arrAt 7 cfg1.N = halfOf (vX V c) (vG V c) (vDh V c) (vRes V c) (vR V c) := by
  refine (dat1 V c).arrAt_eq_of_cover 7 _ (fun t _ => ?_) (fun x => ?_)
  · show (dat1 V c).after 7 t = _
    rw [after1_7, half_out]
    funext y
    obtain ⟨r, q, rfl⟩ : ∃ (r : Fin 352) (q : Fin 2048), y = ix2 r q := ⟨_, _, eq_ix2 y⟩
    rw [View.read_apply]
    have hy : ((cfg1.win 7).blk t).view.emb (ix2 r q) = ix2 (row t.val (lt1 t) r) q := by
      funext a
      apply Fin.ext
      match a with
      | ⟨0, _⟩ => show win1_7.index t 0 * 352 + 1 * r.val = t.val * 352 + r.val; rw [(idx1_7 t).1]; omega
      | ⟨1, _⟩ => show win1_7.index t 1 * 2048 + 1 * q.val = q.val; rw [(idx1_7 t).2]; omega
    refine Eq.trans ?_ (congrArg (halfOf (vX V c) (vG V c) (vDh V c) (vRes V c) (vR V c) : S2112x2048.Idx → EReal) hy).symm
    rw [pay6_apply, pay5_apply]
    simp only [blk1_0, blk1_1, blk1_2, blk1_3, blk1_4]
    rfl
  · have hx0 : (x 0).val < 2112 := (x 0).isLt
    have hx1 : (x 1).val < 2048 := (x 1).isLt
    have ht : (x 0).val / 352 < cfg1.N := by rw [show cfg1.N = 6 from N_1]; omega
    refine ⟨⟨_, ht⟩, flush1_7 _, ?_⟩
    show x ∈ ((View.whole main_v1_2).slice (win1_7.rect ⟨_, ht⟩)).set
    rw [View.set_slice_whole, Rect.mem_set_unit]
    have e0 : win1_7.index ⟨_, ht⟩ 0 = (x 0).val / 352 := (idx1_7 ⟨_, ht⟩).1
    have e1 : win1_7.index ⟨_, ht⟩ 1 = 0 := (idx1_7 ⟨_, ht⟩).2
    intro a
    match a with
    | ⟨0, _⟩ => show win1_7.index ⟨_, ht⟩ 0 * 352 ≤ (x 0).val ∧ (x 0).val < win1_7.index ⟨_, ht⟩ 0 * 352 + 352; omega
    | ⟨1, _⟩ => show win1_7.index ⟨_, ht⟩ 1 * 2048 ≤ (x 1).val ∧ (x 1).val < win1_7.index ⟨_, ht⟩ 1 * 2048 + 2048; omega

/-- The weight's gradient after point `n`: the rows of the tiles so far. -/
theorem dg_eq (c : Dev nD) : ∀ (n : ℕ) (h : n < cfg1.N) (z : Fin 1) (q : Fin 2048),
    (outsAt1 V c n h).2.1 (ix2 z q) = ∑ s ∈ Finset.range (n + 1), ∑ r : Fin 352, dgAt (vX V c) (vDh V c) (vR V c) q.val (s * 352 + r.val) := by
  have step : ∀ (t : Fin cfg1.N) (q : Fin 2048), tileSum (iblk1 V c 3 t) (iblk1 V c 1 t) (iblk1 V c 0 t) q
      = ∑ r : Fin 352, dgAt (vX V c) (vDh V c) (vR V c) q.val (t.val * 352 + r.val) := fun t q =>
    Finset.sum_congr rfl fun r _ => by
      rw [blk1_0, blk1_1, blk1_3, eq_at2 (vX V c), eq_at2 (vDh V c), eq_at2 (vR V c)]
      rfl
  intro n
  induction n with
  | zero =>
    intro h z q
    refine (congrFun (dg_A V c ⟨0, h⟩ rfl) _).trans ?_
    rw [pay8_apply, pay2z_apply, zero_add, step]
    simp
  | succ n ih =>
    intro h z q
    have h6 : n + 1 < 6 := lt_of_lt_of_eq h N_1
    refine (congrFun (dg_B V c ⟨n + 1, h⟩ (by show ¬(n + 1) % 6 = 0; omega)) _).trans ?_
    rw [pay8_apply, step, Finset.sum_range_succ]
    congr 1
    exact ih _ z q

/-- THE WEIGHT'S GRADIENT, as the backward call leaves it. -/
theorem arr1_6 (c : Dev nD) : (dat1 V c).arrAt 6 cfg1.N = dgOf (vX V c) (vDh V c) (vR V c) := by
  refine (dat1 V c).arrAt_eq_of_cover 6 _ (fun t ht => ?_) (fun x => ?_)
  · show (dat1 V c).after 6 t = _
    rw [after1_6]
    funext y
    obtain ⟨z, q, rfl⟩ : ∃ (z : Fin 1) (q : Fin 2048), y = ix2 z q := ⟨_, _, eq_ix2 y⟩
    rw [View.read_apply, dg_eq]
    have h5 : t.val % 6 = 5 := (flush1_6 t).mp ht
    have hl := lt1 t
    have h5' : t.val + 1 = 6 := by omega
    have h1 : (((cfg1.win 6).blk t).view.emb (ix2 z q) 1) = q := Fin.ext (by
      show win1_6.index t 1 * 2048 + 1 * q.val = _; rw [(idx1_6 t).2]; simp)
    show _ = ∑ i : Fin 2112, vDh V c (ix2 i (((cfg1.win 6).blk t).view.emb (ix2 z q) 1)) * (vX V c (ix2 i (((cfg1.win 6).blk t).view.emb (ix2 z q) 1)) * vR V c (ix2 i 0))
    rw [h1, h5', ← sum_fin_tiles (fun i => dgAt (vX V c) (vDh V c) (vR V c) q.val i) 6 352]
    refine Finset.sum_congr rfl fun i _ => ?_
    rw [eq_at2 (vX V c), eq_at2 (vDh V c), eq_at2 (vR V c)]
    rfl
  · have hx0 : (x 0).val < 1 := (x 0).isLt
    have hx1 : (x 1).val < 2048 := (x 1).isLt
    have ht : 5 < cfg1.N := by rw [show cfg1.N = 6 from N_1]; omega
    refine ⟨⟨5, ht⟩, (flush1_6 _).mpr rfl, ?_⟩
    show x ∈ ((View.whole main_v1_1).slice (win1_6.rect ⟨5, ht⟩)).set
    rw [View.set_slice_whole, Rect.mem_set_unit]
    have e0 := (idx1_6 ⟨5, ht⟩).1
    have e1 := (idx1_6 ⟨5, ht⟩).2
    intro a
    match a with
    | ⟨0, _⟩ => show win1_6.index ⟨5, ht⟩ 0 * 1 ≤ (x 0).val ∧ (x 0).val < win1_6.index ⟨5, ht⟩ 0 * 1 + 1; omega
    | ⟨1, _⟩ => show win1_6.index ⟨5, ht⟩ 1 * 2048 ≤ (x 1).val ∧ (x 1).val < win1_6.index ⟨5, ht⟩ 1 * 2048 + 2048; omega

end Cert.NormIdeal.Hand

end
-- ==== Proof.Norm.lean ====
/- The norm's forward and backward calls and the reference's chain rule: the run of the two calls, and the value claim. -/
module

public import proofs.«01_k».proof.Defs
public import proofs.«01_k».proof.Proof.NormArrays
public import proofs.«01_k».proof.Proof.Gen.NormRefIdeal.Run
public import Idealize.ShloMosaic.Lib.Quiescent

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat cellOf)

namespace Cert.NormIdeal.Hand

open Cert.NormIdeal Cert.NormIdeal.Gen Cert.Sums Cert.Rms
open scoped BigOperators

variable (m : (ℓ : Loc nD τ sig) → Buf (Elt Ideal) ℓ) (ρ : Dev nD → PrngReg)

/-- The four arguments as arrays of extended reals. -/
abbrev aX (c : Dev nD) : FVec Ideal S2112x2048 .f32 := m ((c.tc : Thread nD τ).loc main_arg0)
abbrev aG (c : Dev nD) : FVec Ideal S1x2048 .f32 := m ((c.tc : Thread nD τ).loc main_arg1)
abbrev aDh (c : Dev nD) : FVec Ideal S2112x2048 .f32 := m ((c.tc : Thread nD τ).loc main_arg2)
abbrev aRes (c : Dev nD) : FVec Ideal S2112x2048 .f32 := m ((c.tc : Thread nD τ).loc main_arg3)

/-! ## What the backward call finds in its input arrays -/

/-- The input. -/
theorem V1_x (c : Dev nD) : vX (V1 m ρ) c = aX m c := W1_args m ρ c main_arg0 (by decide)
/-- The weight. -/
theorem V1_g (c : Dev nD) : vG (V1 m ρ) c = aG m c := W1_args m ρ c main_arg1 (by decide)
/-- The output's gradient. -/
theorem V1_dh (c : Dev nD) : vDh (V1 m ρ) c = aDh m c := W1_args m ρ c main_arg2 (by decide)
/-- The residual's gradient. -/
theorem V1_res (c : Dev nD) : vRes (V1 m ρ) c = aRes m c := W1_args m ρ c main_arg3 (by decide)
/-- The forward call's reciprocal roots. -/
theorem V1_r (c : Dev nD) : vR (V1 m ρ) c = rOf (aX m c) := (W1_arr m ρ c 3).trans (arr0_3 (V0 m ρ) c)

/-! ## The four result arrays at the end -/

/-- The normed rows. -/
theorem end_h (c : Dev nD) : W2 m ρ c (Proc.devRef .tc main_v0_0) = hOf (aX m c) (aG m c) :=
  (W2_of m ρ c main_v0_0 (by decide +kernel)).trans ((W1_arr m ρ c 2).trans (arr0_2 (V0 m ρ) c))

/-- The rows' gradient. -/
theorem end_dx (c : Dev nD) : W2 m ρ c (Proc.devRef .tc main_v1_0) = dxOf (aX m c) (aG m c) (aDh m c) (aRes m c) (rOf (aX m c)) := by
  refine (W2_arr m ρ c 5).trans ((arr1_5 (V1 m ρ) c).trans ?_)
  rw [V1_x, V1_g, V1_dh, V1_res, V1_r]

/-- The weight's gradient. -/
theorem end_dg (c : Dev nD) : W2 m ρ c (Proc.devRef .tc main_v1_1) = dgOf (aX m c) (aDh m c) (rOf (aX m c)) := by
  refine (W2_arr m ρ c 6).trans ((arr1_6 (V1 m ρ) c).trans ?_)
  rw [V1_x, V1_dh, V1_r]

/-- Half the rows' gradient. -/
theorem end_half (c : Dev nD) : W2 m ρ c (Proc.devRef .tc main_v1_2) = halfOf (aX m c) (aG m c) (aDh m c) (aRes m c) (rOf (aX m c)) := by
  refine (W2_arr m ρ c 7).trans ((arr1_7 (V1 m ρ) c).trans ?_)
  rw [V1_x, V1_g, V1_dh, V1_res, V1_r]

/-! ## The run -/

set_option backward.isDefEq.respectTransparency.types false in
/-- The run of the two calls: it ends with the four results at their closed forms and the arguments as they were. -/
theorem run : θ_run defs (onTc (τ := τ) (main (F := Ideal))) ⟨m, fun _ => 0, ρ⟩ (fun r => ∀ c : Dev nD,
      r.2.mem ((c.tc : Thread nD τ).loc main_v0_0) = hOf (aX m c) (aG m c)
      ∧ r.2.mem ((c.tc : Thread nD τ).loc main_v1_0) = dxOf (aX m c) (aG m c) (aDh m c) (aRes m c) (rOf (aX m c))
      ∧ r.2.mem ((c.tc : Thread nD τ).loc main_v1_1) = dgOf (aX m c) (aDh m c) (rOf (aX m c))
      ∧ r.2.mem ((c.tc : Thread nD τ).loc main_v1_2) = halfOf (aX m c) (aG m c) (aDh m c) (aRes m c) (rOf (aX m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => (fun c =>
      ⟨(h c _ (mem_uc main_v0_0 (by decide))).trans (end_h m ρ c),
       (h c _ (mem_uc main_v1_0 (by decide))).trans (end_dx m ρ c),
       (h c _ (mem_uc main_v1_1 (by decide))).trans (end_dg m ρ c),
       (h c _ (mem_uc main_v1_2 (by decide))).trans (end_half m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩))

end Cert.NormIdeal.Hand

namespace Cert.NormRefIdeal.Hand

open Cert.NormRefIdeal Cert.NormRefIdeal.Gen Cert.NormIdeal.Hand Cert.Rms Cert.Sums
open scoped BigOperators

variable (x : FVec Ideal S2112x2048 .f32) (g : FVec Ideal S1x2048 .f32) (dh d : FVec Ideal S2112x2048 .f32)

/-- A row's mean square with the small number, as the reference has it. -/
def refU : FVec Ideal S2112x1 .f32 := (addf (Host.divf (broadcastInDim S2112x1 ![0] bcast_S2112_S2112x1_0 (Host.reduceAdd (mulf x x)
    (constant S_ .f32 0x00000000#32) reducesTo_S2112x2048_S2112_d1 h_S_)) (broadcastInDim S2112x1 ![] bcast_S_S2112x1 (constant S_ .f32
    0x45000000#32))) (broadcastInDim S2112x1 ![] bcast_S_S2112x1 (constant S_ .f32 0x358637BD#32)))

/-- The same at an index. -/
theorem refU_apply (i : Fin 2112) (z : Fin 1) : refU x (ix2 i z) = under (∑ k : Fin 2048, x (ix2 i k) * x (ix2 i k)) := by
  unfold refU under
  pointwise

/-- The normed rows. -/
def refH : FVec Ideal S2112x2048 .bf16 := truncf .bf16 (mulf (mulf x (broadcastInDim S2112x2048 ![0, 1] bcast_S2112x1_S2112x2048_0_1
    (Host.rsqrt (refU x)))) (broadcastInDim S2112x2048 ![0, 1] bcast_S1x2048_S2112x2048_0_1 g)) bitsLt_bf16_f32
/-- The rows' gradient. -/
def refDx : FVec Ideal S2112x2048 .f32 := addf d (addf (addf (mulf (mulf dh (broadcastInDim S2112x2048 ![0, 1]
    bcast_S1x2048_S2112x2048_0_1 g)) (broadcastInDim S2112x2048 ![0, 1] bcast_S2112x1_S2112x2048_0_1 (Host.rsqrt (refU x)))) (mulf x
    (broadcastInDim S2112x2048 ![0] bcast_S2112_S2112x2048_0 (Host.reduceAdd (Host.divf (mulf (shapeCast _ (Host.reduceAdd (mulf x (mulf
    dh (broadcastInDim S2112x2048 ![0, 1] bcast_S1x2048_S2112x2048_0_1 g))) (constant S_ .f32 0x00000000#32) reducesTo_S2112x2048_S2112_d1
    h_S_) shapeCasts_S2112_S2112x1) (mulf (broadcastInDim S2112x1 ![] bcast_S_S2112x1 (constant S_ .f32 0xBF000000#32)) (Host.divf
    (Host.rsqrt (refU x)) (refU x)))) (broadcastInDim S2112x1 ![] bcast_S_S2112x1 (constant S_ .f32 0x45000000#32))) (constant S_ .f32
    0x00000000#32) reducesTo_S2112x1_S2112_d1 h_S_)))) (mulf (broadcastInDim S2112x2048 ![0] bcast_S2112_S2112x2048_0 (Host.reduceAdd
    (Host.divf (mulf (shapeCast _ (Host.reduceAdd (mulf x (mulf dh (broadcastInDim S2112x2048 ![0, 1] bcast_S1x2048_S2112x2048_0_1 g)))
    (constant S_ .f32 0x00000000#32) reducesTo_S2112x2048_S2112_d1 h_S_) shapeCasts_S2112_S2112x1) (mulf (broadcastInDim S2112x1 ![]
    bcast_S_S2112x1 (constant S_ .f32 0xBF000000#32)) (Host.divf (Host.rsqrt (refU x)) (refU x)))) (broadcastInDim S2112x1 ![]
    bcast_S_S2112x1 (constant S_ .f32 0x45000000#32))) (constant S_ .f32 0x00000000#32) reducesTo_S2112x1_S2112_d1 h_S_)) x))
/-- The weight's gradient. -/
def refDg : FVec Ideal S1x2048 .f32 := shapeCast _ (Host.reduceAdd (mulf (mulf x (broadcastInDim S2112x2048 ![0, 1]
    bcast_S2112x1_S2112x2048_0_1 (Host.rsqrt (refU x)))) dh) (constant S_ .f32 0x00000000#32) reducesTo_S2112x2048_S2048_d0 h_S_)
    shapeCasts_S2048_S1x2048
/-- Half the rows' gradient. -/
def refHalf : FVec Ideal S2112x2048 .bf16 := truncf .bf16 (mulf (broadcastInDim S2112x2048 ![] bcast_S_S2112x2048 (constant S_ .f32
    0x3F000000#32)) (refDx x g dh d)) bitsLt_bf16_f32

/-- The normed rows are the forward call's. -/
theorem refH_eq : refH x g = hOf x g := by
  funext y
  obtain ⟨i, q, rfl⟩ : ∃ (i : Fin 2112) (q : Fin 2048), y = ix2 i q := ⟨_, _, eq_ix2 y⟩
  unfold refH
  pointwise
  rw [refU_apply]
  rfl

/-- The weight's gradient is the backward call's. -/
theorem refDg_eq : refDg x dh = dgOf x dh (rOf x) := by
  funext y
  obtain ⟨z, q, rfl⟩ : ∃ (z : Fin 1) (q : Fin 2048), y = ix2 z q := ⟨_, _, eq_ix2 y⟩
  unfold refDg
  pointwise
  simp only [refU_apply]
  refine Finset.sum_congr rfl fun i _ => ?_
  exact mul_comm _ _

/-- The rows' gradient is the backward call's: the chain rule through the root against the closed form. -/
theorem refDx_eq : refDx x g dh d = dxOf x g dh d (rOf x) := by
  funext y
  obtain ⟨i, q, rfl⟩ : ∃ (i : Fin 2112) (q : Fin 2048), y = ix2 i q := ⟨_, _, eq_ix2 y⟩
  have hu := under_cases (S := ∑ k : Fin 2048, x (ix2 i k) * x (ix2 i k)) (Finset.sum_nonneg fun k _ => sq_nonneg _)
  refine Eq.trans ?_ (grad_row (fun k => x (ix2 i k)) (fun k => dh (ix2 i k) * g (ix2 0 k)) _ (d (ix2 i q)) hu q).symm
  unfold refDx
  pointwise
  simp only [refU_apply, Fin.sum_univ_one]

/-- Half of it, likewise. -/
theorem refHalf_eq : refHalf x g dh d = halfOf x g dh d (rOf x) := by
  funext y
  exact congrArg (fun z => Ideal.ofBits .f32 0x3F000000#32 * z) (congrFun (refDx_eq x g dh d) y)

end Cert.NormRefIdeal.Hand

namespace Cert.NormIdeal.Hand

open Cert.NormRefIdeal.Hand

/-- The frame of the reference's lines: host code, read off its run. -/
theorem frame_ref : Cert.quiescent_NormRefIdeal := fun m ρ _ =>
  (θ_run Cert.NormRefIdeal.defs _ _).mono (fun r h => ⟨fun c => (h c).2.2.2.2,
      Idealize.ShloMosaic.sem_eq_zero_of_no_sems (by decide) r.2⟩)
    (Cert.NormRefIdeal.Value.run (F := Ideal) m ρ)

/-- THE VALUE CLAIM: the two calls and the chain rule end with the same arrays. -/
theorem algebraic : Cert.algebraic_NormIdeal_NormRefIdeal := by
  intro m g m' g' _ hargs
  refine ⟨_, _, _, _, run m g, ?_⟩
  refine (θ_run _ _ _).mono (fun r h c => ?_) (Cert.NormRefIdeal.Value.run (F := Ideal) m' g')
  obtain ⟨h0, h1, h2, h3, h4⟩ := h c
  obtain ⟨e0, e1, e2, e3⟩ := hargs c
  refine ⟨h0.trans ?_, h1.trans ?_, h2.trans ?_, h3.trans ?_, h4⟩
  · rw [e0, e1]
    exact refH_eq (aX m c) (aG m c)
  · rw [e0, e1, e2, e3]
    exact refDx_eq (aX m c) (aG m c) (aDh m c) (aRes m c)
  · rw [e0, e2]
    exact refDg_eq (aX m c) (aDh m c)
  · rw [e0, e1, e2, e3]
    exact refHalf_eq (aX m c) (aG m c) (aDh m c) (aRes m c)

end Cert.NormIdeal.Hand

end
-- ==== Proof.LossTiles.lean ====
/- The loss head's call, tile by tile: what each grid point computes, entry by entry. -/
module

public import proofs.«01_k».proof.Proof.Gen.LossIdeal.Value
public import proofs.«01_k».proof.Proof.Sums
public import proofs.«01_k».proof.Proof.RmsMath
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen Cert.Sums Cert.Rms
open scoped BigOperators

/-- One half. -/
abbrev half : EReal := Ideal.ofBits .f32 0x3F000000#32
/-- One over the width. -/
abbrev share : EReal := Ideal.ofBits .f32 0x3A000000#32

/-- The mask's word at a row: it is set from row 64 on. -/
theorem live_word (t r : ℕ) (ht : t < 6) (hr : r < 352) :
    IntOp.cmpi .sge (IntOp.addi (BitVec.ofNat 32 r) (IntOp.muli (BitVec.ofNat 32 t) 352#32)) 64#32 = BitVec.ofBool (decide (64 ≤ t * 352 + r)) := by
  have h : IntOp.addi (BitVec.ofNat 32 r) (IntOp.muli (BitVec.ofNat 32 t) 352#32) = BitVec.ofNat 32 (t * 352 + r) := by
    apply BitVec.eq_of_toNat_eq
    simp [IntOp.addi, IntOp.muli]
    omega
  rw [h]
  unfold IntOp.cmpi
  congr 1
  simp only [BitVec.sle, decide_eq_decide]
  have e : (BitVec.ofNat 32 (t * 352 + r)).toInt = ((t * 352 + r : ℕ) : ℤ) := by
    have hn : (BitVec.ofNat 32 (t * 352 + r)).toNat = t * 352 + r := by
      rw [BitVec.toNat_ofNat, Nat.mod_eq_of_lt (by omega)]
    rw [BitVec.toInt_eq_toNat_of_lt (by rw [hn]; omega), hn]
  rw [e]
  show (64 : ℤ) ≤ _ ↔ _
  omega

/-- The tile's error: zero on the rows above row 64 of the array, the normed row times the weight less the target below. -/
theorem pay10_apply (i : grid0.Coords) (x : FVec Ideal S352x2048 .f32) (g : FVec Ideal S1x2048 .f32) (t : FVec Ideal S352x2048 .f32) (r : Fin 352) (q : Fin 2048) :
    k0_pay10 (F := Ideal) i x g t (ix2 r q) = if 64 ≤ (i 0).val * 352 + r.val then
      x (ix2 r q) * Ideal.rsqrt (under (∑ k : Fin 2048, x (ix2 r k) * x (ix2 r k))) * g (ix2 0 q) - t (ix2 r q) else 0 := by
  have h := live_word (i 0).val r.val (i 0).isLt r.isLt
  pointwise [k0_pay10, k0_pay9, k0_pay8]
  refine (congrArg (fun b => Scalar.select b _ _) h).trans ?_
  by_cases hl : 64 ≤ (i 0).val * 352 + r.val
  · rw [if_pos hl, decide_eq_true hl]
    rfl
  · rw [if_neg hl, decide_eq_false hl]
    rfl

/-- The gradient of the rows. -/
theorem pay3_apply (g : FVec Ideal S1x2048 .f32) (x e : FVec Ideal S352x2048 .f32) (r : Fin 352) (q : Fin 2048) :
    k0_pay3 (F := Ideal) g (k0_pay8 x) (k0_pay9 x) e (ix2 r q) = Ideal.rsqrt (under (∑ k : Fin 2048, x (ix2 r k) * x (ix2 r k))) * (e (ix2 r q) * share * g (ix2 0 q)
      - x (ix2 r q) * Ideal.rsqrt (under (∑ k : Fin 2048, x (ix2 r k) * x (ix2 r k))) *
        Ideal.div (∑ k : Fin 2048, e (ix2 r k) * share * g (ix2 0 k) * (x (ix2 r k) * Ideal.rsqrt (under (∑ k : Fin 2048, x (ix2 r k) * x (ix2 r k))))) width) := by
  pointwise [k0_pay3, k0_pay2, k0_pay9, k0_pay8]
  rfl

/-- Half of it, which the call also hands on. -/
theorem pay4_apply (g : FVec Ideal S1x2048 .f32) (s : FVec Ideal S352x1 .f32) (h e : FVec Ideal S352x2048 .f32) (y : S352x2048.Idx) :
    k0_pay4 (F := Ideal) g s h e y = half * k0_pay3 (F := Ideal) g s h e y := rfl

/-- What a tile adds to the weight's gradient, at a column. -/
def tileDg (x e : FVec Ideal S352x2048 .f32) (q : Fin 2048) : EReal :=
  ∑ r : Fin 352, e (ix2 r q) * share * (x (ix2 r q) * Ideal.rsqrt (under (∑ k : Fin 2048, x (ix2 r k) * x (ix2 r k))))

/-- The call adds it to the weight's gradient. -/
theorem pay5_apply (x e : FVec Ideal S352x2048 .f32) (a : FVec Ideal S1x2048 .f32) (z : Fin 1) (q : Fin 2048) :
    k0_pay5 (F := Ideal) (k0_pay9 x) e a (ix2 z q) = a (ix2 z q) + tileDg x e q := by
  unfold tileDg
  pointwise [k0_pay5, k0_pay2, k0_pay9, k0_pay8]
  rfl

/-- What a tile adds to the loss: half the sum of its rows' means of squares. -/
def tileLoss (e : FVec Ideal S352x2048 .f32) : EReal := half * ∑ r : Fin 352, Ideal.div (∑ k : Fin 2048, e (ix2 r k) * e (ix2 r k)) width

/-- The call adds it to the loss. -/
theorem pay1_apply (i : grid0.Coords) (x : FVec Ideal S352x2048 .f32) (g : FVec Ideal S1x2048 .f32) (t : FVec Ideal S352x2048 .f32) (a : FVec Ideal S1x1 .f32) (z z' : Fin 1) :
    k0_pay1 (F := Ideal) (k0_pay11 a) (k0_pay12 i x g t) half (ix2 z z') = a (ix2 z z') + tileLoss (k0_pay10 i x g t) := by
  unfold tileLoss
  pointwise [k0_pay1, k0_pay11, k0_pay12]

/-- The loss starts at zero. -/
theorem pay6_apply (y : S1x1.Idx) : k0_pay6 (F := Ideal) y = 0 := by
  pointwise [k0_pay6]

/-- The weight's gradient starts at zero. -/
theorem pay7_apply (y : S1x2048.Idx) : k0_pay7 (F := Ideal) y = 0 := by
  pointwise [k0_pay7]

variable (m : (ℓ : Loc nD τ sig) → Buf (Elt Ideal) ℓ)

/-- The tile's error at a point. -/
def errT (c : Dev nD) (t : Fin cfg0.N) : FVec Ideal S352x2048 .f32 := k0_pay10 (F := Ideal) (grid0.coords t) (iblk m c 0 t) (iblk m c 1 t) (iblk m c 2 t)

/-- The rows' gradient block at a point. -/
theorem dx_out (c : Dev nD) (t : Fin cfg0.N) : (outsAt0 m c t.val t.isLt).2.1 = k0_pay3 (F := Ideal) (iblk m c 1 t) (k0_pay8 (iblk m c 0 t)) (k0_pay9 (iblk m c 0 t)) (errT m c t) := by
  by_cases h : t.val % 6 = 0
  · rw [outsAt0_A m c t h]
    frame_out
    rfl
  · rw [outsAt0_B m c t h]
    frame_out
    rfl

/-- The half block at a point. -/
theorem half_out (c : Dev nD) (t : Fin cfg0.N) : (outsAt0 m c t.val t.isLt).2.2.2 = k0_pay4 (F := Ideal) (iblk m c 1 t) (k0_pay8 (iblk m c 0 t)) (k0_pay9 (iblk m c 0 t)) (errT m c t) := by
  by_cases h : t.val % 6 = 0
  · rw [outsAt0_A m c t h]
    frame_out
    rfl
  · rw [outsAt0_B m c t h]
    frame_out
    rfl

/-- The loss after the first point … -/
theorem loss_A (c : Dev nD) (t : Fin cfg0.N) (h : t.val % 6 = 0) :
    (outsAt0 m c t.val t.isLt).1 = k0_pay1 (F := Ideal) (k0_pay11 (k0_pay6 (F := Ideal))) (k0_pay12 (grid0.coords t) (iblk m c 0 t) (iblk m c 1 t) (iblk m c 2 t)) half := by
  rw [outsAt0_A m c t h]
  frame_out
  rfl

/-- … and after a later one. -/
theorem loss_B (c : Dev nD) (t : Fin cfg0.N) (h : ¬t.val % 6 = 0) :
    (outsAt0 m c t.val t.isLt).1 = k0_pay1 (F := Ideal) (k0_pay11 (outsAt0 m c (t.val - 1) (Nat.lt_of_le_of_lt (Nat.sub_le _ _) t.isLt)).1)
      (k0_pay12 (grid0.coords t) (iblk m c 0 t) (iblk m c 1 t) (iblk m c 2 t)) half := by
  rw [outsAt0_B m c t h]
  frame_out
  rfl

/-- The weight's gradient after the first point … -/
theorem dg_A (c : Dev nD) (t : Fin cfg0.N) (h : t.val % 6 = 0) :
    (outsAt0 m c t.val t.isLt).2.2.1 = k0_pay5 (F := Ideal) (k0_pay9 (iblk m c 0 t)) (errT m c t) (k0_pay7 (F := Ideal)) := by
  rw [outsAt0_A m c t h]
  frame_out
  rfl

/-- … and after a later one. -/
theorem dg_B (c : Dev nD) (t : Fin cfg0.N) (h : ¬t.val % 6 = 0) :
    (outsAt0 m c t.val t.isLt).2.2.1 = k0_pay5 (F := Ideal) (k0_pay9 (iblk m c 0 t)) (errT m c t)
      (outsAt0 m c (t.val - 1) (Nat.lt_of_le_of_lt (Nat.sub_le _ _) t.isLt)).2.2.1 := by
  rw [outsAt0_B m c t h]
  frame_out
  rfl

end Cert.LossIdeal.Hand

end
-- ==== Proof.LossArrays.lean ====
/- The arrays that the loss head's call leaves: the tiles put together. -/
module

public import proofs.«01_k».proof.Proof.LossTiles

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen Cert.Sums Cert.Rms
open scoped BigOperators

variable (m : (ℓ : Loc nD τ sig) → Buf (Elt Ideal) ℓ)

/-- The arrays the call reads, as arrays of extended reals: the activations, the weight, the target. -/
abbrev aX (c : Dev nD) : FVec Ideal S2112x2048 .f32 := m ((c.tc : Thread nD τ).loc main_arg0)
abbrev aG (c : Dev nD) : FVec Ideal S1x2048 .f32 := m ((c.tc : Thread nD τ).loc main_arg1)
abbrev aT (c : Dev nD) : FVec Ideal S2112x2048 .f32 := m ((c.tc : Thread nD τ).loc main_arg2)

/-- The windows' index maps in closed form: point `t` is tile of rows `t`. -/
theorem idx_0 : ∀ t : Fin cfg0.N, win0_0.index t 0 = t.val ∧ win0_0.index t 1 = 0 := (by decide +kernel : ∀ t : Fin grid0.N, _)
theorem idx_1 : ∀ t : Fin cfg0.N, win0_1.index t 0 = 0 ∧ win0_1.index t 1 = 0 := (by decide +kernel : ∀ t : Fin grid0.N, _)
theorem idx_2 : ∀ t : Fin cfg0.N, win0_2.index t 0 = t.val ∧ win0_2.index t 1 = 0 := (by decide +kernel : ∀ t : Fin grid0.N, _)
theorem idx_3 : ∀ t : Fin cfg0.N, win0_3.index t 0 = 0 ∧ win0_3.index t 1 = 0 := (by decide +kernel : ∀ t : Fin grid0.N, _)
theorem idx_4 : ∀ t : Fin cfg0.N, win0_4.index t 0 = t.val ∧ win0_4.index t 1 = 0 := (by decide +kernel : ∀ t : Fin grid0.N, _)
theorem idx_5 : ∀ t : Fin cfg0.N, win0_5.index t 0 = 0 ∧ win0_5.index t 1 = 0 := (by decide +kernel : ∀ t : Fin grid0.N, _)
theorem idx_6 : ∀ t : Fin cfg0.N, win0_6.index t 0 = t.val ∧ win0_6.index t 1 = 0 := (by decide +kernel : ∀ t : Fin grid0.N, _)

/-- Row `r` of tile `t`. -/
def row (t : ℕ) (ht : t < 6) (r : Fin 352) : Fin 2112 := ⟨t * 352 + r.val, by omega⟩

/-- There are six tiles. -/
theorem lt0 (t : Fin cfg0.N) : t.val < 6 := lt_of_lt_of_eq t.isLt N_0

/-- A point's coordinate is its position. -/
theorem coord (t : Fin cfg0.N) : (grid0.coords t 0).val = t.val := (by decide +kernel : ∀ t : Fin grid0.N, (grid0.coords t 0).val = t.val) t

/-- The block of the activations: the tile's rows. -/
theorem blk_0 (c : Dev nD) (t : Fin cfg0.N) (r : Fin 352) (q : Fin 2048) :
    (iblk m c 0 t : Vec Ideal S352x2048 .f32) (ix2 r q) = aX m c (ix2 (row t.val (lt0 t) r) q) := by
  unfold iblk
  rw [View.read_apply]
  refine congrArg (m ((c.tc : Thread nD τ).loc main_arg0)) ?_
  funext a
  apply Fin.ext
  match a with
  | ⟨0, _⟩ => show win0_0.index t 0 * 352 + 1 * r.val = t.val * 352 + r.val; rw [(idx_0 t).1]; omega
  | ⟨1, _⟩ => show win0_0.index t 1 * 2048 + 1 * q.val = q.val; rw [(idx_0 t).2]; omega

/-- The block of the target: the tile's rows. -/
theorem blk_2 (c : Dev nD) (t : Fin cfg0.N) (r : Fin 352) (q : Fin 2048) :
    (iblk m c 2 t : Vec Ideal S352x2048 .f32) (ix2 r q) = aT m c (ix2 (row t.val (lt0 t) r) q) := by
  unfold iblk
  rw [View.read_apply]
  refine congrArg (m ((c.tc : Thread nD τ).loc main_arg2)) ?_
  funext a
  apply Fin.ext
  match a with
  | ⟨0, _⟩ => show win0_2.index t 0 * 352 + 1 * r.val = t.val * 352 + r.val; rw [(idx_2 t).1]; omega
  | ⟨1, _⟩ => show win0_2.index t 1 * 2048 + 1 * q.val = q.val; rw [(idx_2 t).2]; omega

/-- The block of the weight. -/
theorem blk_1 (c : Dev nD) (t : Fin cfg0.N) (z : Fin 1) (q : Fin 2048) :
    (iblk m c 1 t : Vec Ideal S1x2048 .f32) (ix2 z q) = aG m c (ix2 0 q) := by
  unfold iblk
  rw [View.read_apply]
  refine congrArg (m ((c.tc : Thread nD τ).loc main_arg1)) ?_
  funext a
  apply Fin.ext
  match a with
  | ⟨0, _⟩ => show win0_1.index t 0 * 1 + 1 * z.val = 0; rw [(idx_1 t).1]; omega
  | ⟨1, _⟩ => show win0_1.index t 1 * 2048 + 1 * q.val = _; rw [(idx_1 t).2]; simp

/-! ## The results as functions of the arguments -/

/-- The reciprocal root of a row's mean square. -/
def rr (x : FVec Ideal S2112x2048 .f32) (i : Fin 2112) : EReal := Ideal.rsqrt (under (∑ k : Fin 2048, x (ix2 i k) * x (ix2 i k)))

/-- The error: zero above row 64. -/
def err (x : FVec Ideal S2112x2048 .f32) (g : FVec Ideal S1x2048 .f32) (t : FVec Ideal S2112x2048 .f32) : FVec Ideal S2112x2048 .f32 := fun y =>
  if 64 ≤ (y 0).val then x (ix2 (y 0) (y 1)) * rr x (y 0) * g (ix2 0 (y 1)) - t (ix2 (y 0) (y 1)) else 0

/-- The gradient of the rows. -/
def dxOf (x : FVec Ideal S2112x2048 .f32) (g : FVec Ideal S1x2048 .f32) (t : FVec Ideal S2112x2048 .f32) : FVec Ideal S2112x2048 .f32 := fun y =>
  rr x (y 0) * (err x g t (ix2 (y 0) (y 1)) * share * g (ix2 0 (y 1))
    - x (ix2 (y 0) (y 1)) * rr x (y 0) * Ideal.div (∑ k : Fin 2048, err x g t (ix2 (y 0) k) * share * g (ix2 0 k) * (x (ix2 (y 0) k) * rr x (y 0))) width)

/-- Half of it. -/
def halfOf (x : FVec Ideal S2112x2048 .f32) (g : FVec Ideal S1x2048 .f32) (t : FVec Ideal S2112x2048 .f32) : FVec Ideal S2112x2048 .bf16 := fun y =>
  half * dxOf x g t y

/-- One row's part of the weight's gradient. -/
def dgTerm (x : FVec Ideal S2112x2048 .f32) (g : FVec Ideal S1x2048 .f32) (t : FVec Ideal S2112x2048 .f32) (q : Fin 2048) (i : Fin 2112) : EReal :=
  err x g t (ix2 i q) * share * (x (ix2 i q) * rr x i)

/-- The weight's gradient. -/
def dgOf (x : FVec Ideal S2112x2048 .f32) (g : FVec Ideal S1x2048 .f32) (t : FVec Ideal S2112x2048 .f32) : FVec Ideal S1x2048 .f32 := fun y =>
  ∑ i : Fin 2112, dgTerm x g t (y 1) i

/-- The mean of a row's squared error. -/
def rowLoss (x : FVec Ideal S2112x2048 .f32) (g : FVec Ideal S1x2048 .f32) (t : FVec Ideal S2112x2048 .f32) (i : Fin 2112) : EReal :=
  Ideal.div (∑ k : Fin 2048, err x g t (ix2 i k) * err x g t (ix2 i k)) width

/-- The loss: half the sum of the rows' means. -/
def lossOf (x : FVec Ideal S2112x2048 .f32) (g : FVec Ideal S1x2048 .f32) (t : FVec Ideal S2112x2048 .f32) : FVec Ideal S1x1 .f32 := fun _ =>
  half * ∑ i : Fin 2112, rowLoss x g t i

/-- A function of the rows read at a natural number, zero outside. -/
def atRow (f : Fin 2112 → EReal) (i : ℕ) : EReal := if h : i < 2112 then f ⟨i, h⟩ else 0

/-- A sum over the rows, tile by tile. -/
theorem sum_rows (f : Fin 2112 → EReal) : ∑ i, f i = ∑ s ∈ Finset.range 6, ∑ r : Fin 352, atRow f (s * 352 + r.val) := by
  rw [← sum_fin_tiles (atRow f) 6 352]
  exact Finset.sum_congr rfl fun i _ => by unfold atRow; rw [dif_pos i.isLt]

/-- A row of a tile. -/
theorem atRow_row (f : Fin 2112 → EReal) (t : ℕ) (ht : t < 6) (r : Fin 352) : atRow f (t * 352 + r.val) = f (row t ht r) := dif_pos (row t ht r).isLt

/-- The tile's error is the array's on the tile's rows. -/
theorem errT_apply (c : Dev nD) (t : Fin cfg0.N) (r : Fin 352) (q : Fin 2048) :
    errT m c t (ix2 r q) = err (aX m c) (aG m c) (aT m c) (ix2 (row t.val (lt0 t) r) q) := by
  unfold errT
  rw [pay10_apply, coord]
  simp only [blk_0, blk_1, blk_2]
  rfl

/-! ## The arrays -/

/-- THE ROWS' GRADIENT, as the call leaves it. -/
theorem arr_4 (c : Dev nD) : (dats m 0 c).arrAt 4 cfg0.N = dxOf (aX m c) (aG m c) (aT m c) := by
  refine (dats m 0 c).arrAt_eq_of_cover 4 _ (fun t _ => ?_) (fun x => ?_)
  · show (dats m 0 c).after 4 t = _
    rw [after0_4, dx_out]
    funext y
    obtain ⟨r, q, rfl⟩ : ∃ (r : Fin 352) (q : Fin 2048), y = ix2 r q := ⟨_, _, eq_ix2 y⟩
    rw [View.read_apply]
    have hy : ((cfg0.win 4).blk t).view.emb (ix2 r q) = ix2 (row t.val (lt0 t) r) q := by
      funext a
      apply Fin.ext
      match a with
      | ⟨0, _⟩ => show win0_4.index t 0 * 352 + 1 * r.val = t.val * 352 + r.val; rw [(idx_4 t).1]; omega
      | ⟨1, _⟩ => show win0_4.index t 1 * 2048 + 1 * q.val = q.val; rw [(idx_4 t).2]; omega
    refine Eq.trans ?_ (congrArg (dxOf (aX m c) (aG m c) (aT m c) : S2112x2048.Idx → EReal) hy).symm
    rw [pay3_apply]
    simp only [blk_0, blk_1, errT_apply]
    rfl
  · have hx0 : (x 0).val < 2112 := (x 0).isLt
    have hx1 : (x 1).val < 2048 := (x 1).isLt
    have ht : (x 0).val / 352 < cfg0.N := by rw [show cfg0.N = 6 from N_0]; omega
    refine ⟨⟨_, ht⟩, flush0_4 _, ?_⟩
    show x ∈ ((View.whole main_v0_1).slice (win0_4.rect ⟨_, ht⟩)).set
    rw [View.set_slice_whole, Rect.mem_set_unit]
    have e0 : win0_4.index ⟨_, ht⟩ 0 = (x 0).val / 352 := (idx_4 ⟨_, ht⟩).1
    have e1 : win0_4.index ⟨_, ht⟩ 1 = 0 := (idx_4 ⟨_, ht⟩).2
    intro a
    match a with
    | ⟨0, _⟩ => show win0_4.index ⟨_, ht⟩ 0 * 352 ≤ (x 0).val ∧ (x 0).val < win0_4.index ⟨_, ht⟩ 0 * 352 + 352; omega
    | ⟨1, _⟩ => show win0_4.index ⟨_, ht⟩ 1 * 2048 ≤ (x 1).val ∧ (x 1).val < win0_4.index ⟨_, ht⟩ 1 * 2048 + 2048; omega

/-- HALF OF IT, as the call leaves it. -/
theorem arr_6 (c : Dev nD) : (dats m 0 c).arrAt 6 cfg0.N = halfOf (aX m c) (aG m c) (aT m c) := by
  refine (dats m 0 c).arrAt_eq_of_cover 6 _ (fun t _ => ?_) (fun x => ?_)
  · show (dats m 0 c).after 6 t = _
    rw [after0_6, half_out]
    funext y
    obtain ⟨r, q, rfl⟩ : ∃ (r : Fin 352) (q : Fin 2048), y = ix2 r q := ⟨_, _, eq_ix2 y⟩
    rw [View.read_apply]
    have hy : ((cfg0.win 6).blk t).view.emb (ix2 r q) = ix2 (row t.val (lt0 t) r) q := by
      funext a
      apply Fin.ext
      match a with
      | ⟨0, _⟩ => show win0_6.index t 0 * 352 + 1 * r.val = t.val * 352 + r.val; rw [(idx_6 t).1]; omega
      | ⟨1, _⟩ => show win0_6.index t 1 * 2048 + 1 * q.val = q.val; rw [(idx_6 t).2]; omega
    refine Eq.trans ?_ (congrArg (halfOf (aX m c) (aG m c) (aT m c) : S2112x2048.Idx → EReal) hy).symm
    rw [pay4_apply, pay3_apply]
    simp only [blk_0, blk_1, errT_apply]
    rfl
  · have hx0 : (x 0).val < 2112 := (x 0).isLt
    have hx1 : (x 1).val < 2048 := (x 1).isLt
    have ht : (x 0).val / 352 < cfg0.N := by rw [show cfg0.N = 6 from N_0]; omega
    refine ⟨⟨_, ht⟩, flush0_6 _, ?_⟩
    show x ∈ ((View.whole main_v0_3).slice (win0_6.rect ⟨_, ht⟩)).set
    rw [View.set_slice_whole, Rect.mem_set_unit]
    have e0 : win0_6.index ⟨_, ht⟩ 0 = (x 0).val / 352 := (idx_6 ⟨_, ht⟩).1
    have e1 : win0_6.index ⟨_, ht⟩ 1 = 0 := (idx_6 ⟨_, ht⟩).2
    intro a
    match a with
    | ⟨0, _⟩ => show win0_6.index ⟨_, ht⟩ 0 * 352 ≤ (x 0).val ∧ (x 0).val < win0_6.index ⟨_, ht⟩ 0 * 352 + 352; omega
    | ⟨1, _⟩ => show win0_6.index ⟨_, ht⟩ 1 * 2048 ≤ (x 1).val ∧ (x 1).val < win0_6.index ⟨_, ht⟩ 1 * 2048 + 2048; omega

/-- The weight's gradient after point `n`: the rows of the tiles so far. -/
theorem dg_eq (c : Dev nD) : ∀ (n : ℕ) (h : n < cfg0.N) (z : Fin 1) (q : Fin 2048),
    (outsAt0 m c n h).2.2.1 (ix2 z q) = ∑ s ∈ Finset.range (n + 1), ∑ r : Fin 352, atRow (dgTerm (aX m c) (aG m c) (aT m c) q) (s * 352 + r.val) := by
  have step : ∀ (t : Fin cfg0.N) (q : Fin 2048), tileDg (iblk m c 0 t) (errT m c t) q
      = ∑ r : Fin 352, atRow (dgTerm (aX m c) (aG m c) (aT m c) q) (t.val * 352 + r.val) := fun t q =>
    Finset.sum_congr rfl fun r _ => by
      rw [atRow_row _ _ (lt0 t)]
      simp only [blk_0, errT_apply]
      rfl
  intro n
  induction n with
  | zero =>
    intro h z q
    refine (congrFun (dg_A m c ⟨0, h⟩ rfl) _).trans ?_
    rw [pay5_apply, pay7_apply, zero_add, step]
    simp
  | succ n ih =>
    intro h z q
    have h6 : n + 1 < 6 := lt_of_lt_of_eq h N_0
    refine (congrFun (dg_B m c ⟨n + 1, h⟩ (by show ¬(n + 1) % 6 = 0; omega)) _).trans ?_
    rw [pay5_apply, step, Finset.sum_range_succ]
    congr 1
    exact ih _ z q

/-- One half is a real. -/
theorem half_eq : half = ((1 / 2 : ℝ) : EReal) := by
  simp [half, Ideal.ofBits, Ideal.ieee]
  rw [← EReal.coe_mul]
  norm_num

/-- One half over a sum of two. -/
theorem half_add (a b : EReal) : half * (a + b) = half * a + half * b := by
  rw [half_eq]
  exact EReal.left_distrib_of_nonneg_of_ne_top (by norm_num) (EReal.coe_ne_top _) _ _

/-- The loss after point `n`: half the sum over the rows of the tiles so far. -/
theorem loss_eq (c : Dev nD) : ∀ (n : ℕ) (h : n < cfg0.N) (z z' : Fin 1),
    (outsAt0 m c n h).1 (ix2 z z') = half * ∑ s ∈ Finset.range (n + 1), ∑ r : Fin 352, atRow (rowLoss (aX m c) (aG m c) (aT m c)) (s * 352 + r.val) := by
  have step : ∀ (t : Fin cfg0.N), tileLoss (errT m c t) = half * ∑ r : Fin 352, atRow (rowLoss (aX m c) (aG m c) (aT m c)) (t.val * 352 + r.val) := fun t => by
    unfold tileLoss
    congr 1
    refine Finset.sum_congr rfl fun r _ => ?_
    rw [atRow_row _ _ (lt0 t)]
    simp only [errT_apply]
    rfl
  intro n
  induction n with
  | zero =>
    intro h z z'
    refine (congrFun (loss_A m c ⟨0, h⟩ rfl) _).trans ?_
    rw [pay1_apply, pay6_apply, zero_add]
    refine (step ⟨0, h⟩).trans ?_
    simp
  | succ n ih =>
    intro h z z'
    have h6 : n + 1 < 6 := lt_of_lt_of_eq h N_0
    refine (congrFun (loss_B m c ⟨n + 1, h⟩ (by show ¬(n + 1) % 6 = 0; omega)) _).trans ?_
    rw [pay1_apply, Finset.sum_range_succ, half_add]
    congr 1
    · exact ih _ z z'
    · exact step ⟨n + 1, h⟩

/-- THE WEIGHT'S GRADIENT, as the call leaves it. -/
theorem arr_5 (c : Dev nD) : (dats m 0 c).arrAt 5 cfg0.N = dgOf (aX m c) (aG m c) (aT m c) := by
  refine (dats m 0 c).arrAt_eq_of_cover 5 _ (fun t ht => ?_) (fun x => ?_)
  · show (dats m 0 c).after 5 t = _
    rw [after0_5]
    funext y
    obtain ⟨z, q, rfl⟩ : ∃ (z : Fin 1) (q : Fin 2048), y = ix2 z q := ⟨_, _, eq_ix2 y⟩
    have h5 : t.val % 6 = 5 := (flush0_5 t).mp ht
    have hl := lt0 t
    have h5' : t.val + 1 = 6 := by omega
    rw [View.read_apply, dg_eq]
    have h1 : (((cfg0.win 5).blk t).view.emb (ix2 z q) 1) = q := Fin.ext (by
      show win0_5.index t 1 * 2048 + 1 * q.val = _; rw [(idx_5 t).2]; simp)
    show _ = ∑ i : Fin 2112, dgTerm (aX m c) (aG m c) (aT m c) (((cfg0.win 5).blk t).view.emb (ix2 z q) 1) i
    rw [h1, h5', sum_rows]
  · have hx0 : (x 0).val < 1 := (x 0).isLt
    have hx1 : (x 1).val < 2048 := (x 1).isLt
    have ht : 5 < cfg0.N := by rw [show cfg0.N = 6 from N_0]; omega
    refine ⟨⟨5, ht⟩, (flush0_5 _).mpr rfl, ?_⟩
    show x ∈ ((View.whole main_v0_2).slice (win0_5.rect ⟨5, ht⟩)).set
    rw [View.set_slice_whole, Rect.mem_set_unit]
    have e0 := (idx_5 ⟨5, ht⟩).1
    have e1 := (idx_5 ⟨5, ht⟩).2
    intro a
    match a with
    | ⟨0, _⟩ => show win0_5.index ⟨5, ht⟩ 0 * 1 ≤ (x 0).val ∧ (x 0).val < win0_5.index ⟨5, ht⟩ 0 * 1 + 1; omega
    | ⟨1, _⟩ => show win0_5.index ⟨5, ht⟩ 1 * 2048 ≤ (x 1).val ∧ (x 1).val < win0_5.index ⟨5, ht⟩ 1 * 2048 + 2048; omega

/-- THE LOSS, as the call leaves it. -/
theorem arr_3 (c : Dev nD) : (dats m 0 c).arrAt 3 cfg0.N = lossOf (aX m c) (aG m c) (aT m c) := by
  refine (dats m 0 c).arrAt_eq_of_cover 3 _ (fun t ht => ?_) (fun x => ?_)
  · show (dats m 0 c).after 3 t = _
    rw [after0_3]
    funext y
    obtain ⟨z, q, rfl⟩ : ∃ (z : Fin 1) (q : Fin 1), y = ix2 z q := ⟨_, _, eq_ix2 y⟩
    have h5 : t.val % 6 = 5 := (flush0_3 t).mp ht
    have hl := lt0 t
    have h5' : t.val + 1 = 6 := by omega
    rw [View.read_apply, loss_eq]
    show _ = half * ∑ i : Fin 2112, rowLoss (aX m c) (aG m c) (aT m c) i
    rw [h5', sum_rows]
  · have hx0 : (x 0).val < 1 := (x 0).isLt
    have hx1 : (x 1).val < 1 := (x 1).isLt
    have ht : 5 < cfg0.N := by rw [show cfg0.N = 6 from N_0]; omega
    refine ⟨⟨5, ht⟩, (flush0_3 _).mpr rfl, ?_⟩
    show x ∈ ((View.whole main_v0_0).slice (win0_3.rect ⟨5, ht⟩)).set
    rw [View.set_slice_whole, Rect.mem_set_unit]
    have e0 := (idx_3 ⟨5, ht⟩).1
    have e1 := (idx_3 ⟨5, ht⟩).2
    intro a
    match a with
    | ⟨0, _⟩ => show win0_3.index ⟨5, ht⟩ 0 * 1 ≤ (x 0).val ∧ (x 0).val < win0_3.index ⟨5, ht⟩ 0 * 1 + 1; omega
    | ⟨1, _⟩ => show win0_3.index ⟨5, ht⟩ 1 * 1 ≤ (x 1).val ∧ (x 1).val < win0_3.index ⟨5, ht⟩ 1 * 1 + 1; omega

end Cert.LossIdeal.Hand

end
-- ==== Proof.Loss.lean ====
/- The loss head's call and the reference's loss with its gradient: the run, and the value claim. -/
module

public import proofs.«01_k».proof.Defs
public import proofs.«01_k».proof.Proof.LossArrays
public import proofs.«01_k».proof.Proof.Gen.LossRefIdeal.Run
public import Idealize.ShloMosaic.Lib.Quiescent

@[expose] public section

set_option maxRecDepth 16384

noncomputable section

open Idealize.ShloMosaic Idealize.ShloMosaic.TcCoe Idealize.SL.Sem

namespace Cert.LossIdeal.Hand

open Cert.LossIdeal Cert.LossIdeal.Gen Cert.LossIdeal.Value Cert.Sums Cert.Rms
open scoped BigOperators

variable (m : (ℓ : Loc nD τ sig) → Buf (Elt Ideal) ℓ) (ρ : Dev nD → PrngReg)

/-- The run of the call: it ends with the four results at their closed forms and the arguments as they were. -/
theorem run : θ_run defs (onTc (τ := τ) (main (F := Ideal))) ⟨m, fun _ => 0, ρ⟩ (fun r => ∀ c : Dev nD,
      r.2.mem ((c.tc : Thread nD τ).loc main_v0_0) = lossOf (aX m c) (aG m c) (aT m c)
      ∧ r.2.mem ((c.tc : Thread nD τ).loc main_v0_1) = dxOf (aX m c) (aG m c) (aT m c)
      ∧ r.2.mem ((c.tc : Thread nD τ).loc main_v0_2) = dgOf (aX m c) (aG m c) (aT m c)
      ∧ r.2.mem ((c.tc : Thread nD τ).loc main_v0_3) = halfOf (aX m c) (aG m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr_3 m c), (h c).2.1.trans (arr_4 m c), (h c).2.2.1.trans (arr_5 m c),
      (h c).2.2.2.1.trans (arr_6 m c), (h c).2.2.2.2⟩) (run_blocks m ρ)

end Cert.LossIdeal.Hand

namespace Cert.LossRefIdeal.Hand

open Cert.LossRefIdeal Cert.LossRefIdeal.Gen Cert.LossIdeal.Hand Cert.Rms Cert.Sums
open scoped BigOperators

variable (x : FVec Ideal S2112x2048 .f32) (g : FVec Ideal S1x2048 .f32) (t : FVec Ideal S2112x2048 .f32)

/-- A row's mean square with the small number, as the reference has it. -/
def refU : FVec Ideal S2112x1 .f32 := (addf (Host.divf (broadcastInDim S2112x1 ![0] bcast_S2112_S2112x1_0 (Host.reduceAdd (mulf x x)
    (constant S_ .f32 0x00000000#32) reducesTo_S2112x2048_S2112_d1 h_S_)) (broadcastInDim S2112x1 ![] bcast_S_S2112x1 (constant S_ .f32
    0x45000000#32))) (broadcastInDim S2112x1 ![] bcast_S_S2112x1 (constant S_ .f32 0x358637BD#32)))

/-- The same at an index. -/
theorem refU_apply (i : Fin 2112) (z : Fin 1) : refU x (ix2 i z) = under (∑ k : Fin 2048, x (ix2 i k) * x (ix2 i k)) := by
  unfold refU under
  pointwise

/-- The rows over their roots. -/
def refHat : FVec Ideal S2112x2048 .f32 := mulf x (broadcastInDim S2112x2048 ![0, 1] bcast_S2112x1_S2112x2048_0_1 (Host.rsqrt (refU x)))

/-- The same at an index. -/
theorem refHat_apply (i : Fin 2112) (q : Fin 2048) : refHat x (ix2 i q) = x (ix2 i q) * rr x i := by
  unfold refHat
  pointwise
  rw [refU_apply]
  rfl

/-- The error of the rows from 64 on. -/
def refErr : FVec Ideal S2048x2048 .f32 := subf (extractStridedSlice S2048x2048 ![64, 0] (mulf (refHat x) (broadcastInDim S2112x2048 ![0, 1]
    bcast_S1x2048_S2112x2048_0_1 g)) slices_S2112x2048_S2048x2048_64_0) (extractStridedSlice S2048x2048 ![64, 0] t slices_S2112x2048_S2048x2048_64_0)

/-- Row `i` of those is row `64 + i` of the array. -/
def below (i : Fin 2048) : Fin 2112 := ⟨64 + i.val, by omega⟩

/-- The error at an index is the call's. -/
theorem refErr_apply (i : Fin 2048) (q : Fin 2048) : refErr x g t (ix2 i q) = err x g t (ix2 (below i) q) := by
  have h : err x g t (ix2 (below i) q) = x (ix2 (below i) q) * rr x (below i) * g (ix2 0 q) - t (ix2 (below i) q) := if_pos (Nat.le_add_right 64 i.val)
  rw [h, ← refHat_apply]
  unfold refErr
  pointwise
  rfl

/-- The gradient of the normed rows: zero above row 64. -/
def refDy : FVec Ideal S2112x2048 .f32 := (pad S2112x2048 ![64, 0] ![0, 0] ![0, 0] (mulf (broadcastInDim S2048x2048 ![0]
    bcast_S2048_S2048x2048_0 (Host.divf (broadcastInDim S2048 ![] bcast_S_S2048 (mulf (constant S_ .f32 0x3F000000#32) (constant S_ .f32
    0x3F800000#32))) (broadcastInDim S2048 ![] bcast_S_S2048 (constant S_ .f32 0x45000000#32)))) (mulf (broadcastInDim S2048x2048 ![]
    bcast_S_S2048x2048 (constant S_ .f32 0x40000000#32)) (refErr x g t))) (constant S_ .f32 0x00000000#32) pads_S2048x2048_S2112x2048_6400_000 h_S_)

/-- The factor that the reference puts on the error is one over the width. -/
theorem factor (e : EReal) : Ideal.div (Ideal.ofBits .f32 0x3F000000#32) width * (Ideal.ofBits .f32 0x40000000#32 * e) = e * share := by
  have h2 : Ideal.ofBits .f32 0x40000000#32 = ((2 : ℝ) : EReal) := by
    simp [Ideal.ofBits, Ideal.ieee]
    rw [← EReal.coe_mul]
    norm_num
  have hs : share = ((1 / 2048 : ℝ) : EReal) := by
    simp [share, Ideal.ofBits, Ideal.ieee]
    rw [← EReal.coe_mul]
    norm_num
  rw [div_width, h2, hs, show Ideal.ofBits .f32 0x3F000000#32 = ((1 / 2 : ℝ) : EReal) from half_eq, ← mul_assoc, ← EReal.coe_mul, ← EReal.coe_mul, mul_comm]
  congr 2
  norm_num

/-- The gradient of the normed rows is the call's. -/
theorem refDy_apply (i : Fin 2112) (q : Fin 2048) : refDy x g t (ix2 i q) = err x g t (ix2 i q) * share := by
  unfold refDy
  pointwise
  by_cases h : 64 ≤ i.val
  · have hi : i.val - 64 < 2048 := by omega
    have hb : below ⟨i.val - 64, hi⟩ = i := Fin.ext (by show 64 + (i.val - 64) = i.val; omega)
    rw [dif_pos ⟨h, hi⟩]
    refine (factor _).trans ?_
    rw [refErr_apply, hb]
  · rw [dif_neg (fun h' => h h'.1), show err x g t (ix2 i q) = 0 from if_neg h, zero_mul]

/-- The loss. -/
def refLoss : FVec Ideal S1x1 .f32 := shapeCast _ (mulf (constant S_ .f32 0x3F000000#32) (Host.reduceAdd (Host.divf (Host.reduceAdd
    (mulf (refErr x g t) (refErr x g t)) (constant S_ .f32 0x00000000#32) reducesTo_S2048x2048_S2048_d1 h_S_) (broadcastInDim S2048 ![] bcast_S_S2048
    (constant S_ .f32 0x45000000#32))) (constant S_ .f32 0x00000000#32) reducesTo_S2048_S_d0 h_S_)) shapeCasts_S_S1x1
/-- The rows' gradient. -/
def refDx : FVec Ideal S2112x2048 .f32 := addf (addf (mulf (mulf (refDy x g t) (broadcastInDim S2112x2048 ![0, 1]
    bcast_S1x2048_S2112x2048_0_1 g)) (broadcastInDim S2112x2048 ![0, 1] bcast_S2112x1_S2112x2048_0_1 (Host.rsqrt (refU x)))) (mulf x
    (broadcastInDim S2112x2048 ![0] bcast_S2112_S2112x2048_0 (Host.reduceAdd (Host.divf (mulf (shapeCast _ (Host.reduceAdd (mulf x (mulf
    (refDy x g t) (broadcastInDim S2112x2048 ![0, 1] bcast_S1x2048_S2112x2048_0_1 g))) (constant S_ .f32 0x00000000#32) reducesTo_S2112x2048_S2112_d1
    h_S_) shapeCasts_S2112_S2112x1) (mulf (broadcastInDim S2112x1 ![] bcast_S_S2112x1 (constant S_ .f32 0xBF000000#32)) (Host.divf
    (Host.rsqrt (refU x)) (refU x)))) (broadcastInDim S2112x1 ![] bcast_S_S2112x1 (constant S_ .f32 0x45000000#32))) (constant S_ .f32
    0x00000000#32) reducesTo_S2112x1_S2112_d1 h_S_)))) (mulf (broadcastInDim S2112x2048 ![0] bcast_S2112_S2112x2048_0 (Host.reduceAdd
    (Host.divf (mulf (shapeCast _ (Host.reduceAdd (mulf x (mulf (refDy x g t) (broadcastInDim S2112x2048 ![0, 1] bcast_S1x2048_S2112x2048_0_1 g)))
    (constant S_ .f32 0x00000000#32) reducesTo_S2112x2048_S2112_d1 h_S_) shapeCasts_S2112_S2112x1) (mulf (broadcastInDim S2112x1 ![]
    bcast_S_S2112x1 (constant S_ .f32 0xBF000000#32)) (Host.divf (Host.rsqrt (refU x)) (refU x)))) (broadcastInDim S2112x1 ![]
    bcast_S_S2112x1 (constant S_ .f32 0x45000000#32))) (constant S_ .f32 0x00000000#32) reducesTo_S2112x1_S2112_d1 h_S_)) x)
/-- The weight's gradient. -/
def refDg : FVec Ideal S1x2048 .f32 := shapeCast _ (Host.reduceAdd (mulf (refHat x) (refDy x g t)) (constant S_ .f32 0x00000000#32)
    reducesTo_S2112x2048_S2048_d0 h_S_) shapeCasts_S2048_S1x2048
/-- Half the rows' gradient. -/
def refHalf : FVec Ideal S2112x2048 .bf16 := truncf .bf16 (mulf (broadcastInDim S2112x2048 ![] bcast_S_S2112x2048 (constant S_ .f32
    0x3F000000#32)) (refDx x g t)) bitsLt_bf16_f32

/-- A sum over the rows is the sum over those from 64 on where the others are zero. -/
theorem sum_below (f : Fin 2112 → EReal) (h : ∀ i : Fin 2112, i.val < 64 → f i = 0) : ∑ i, f i = ∑ i : Fin 2048, f (below i) := by
  refine (Fin.sum_univ_add (a := 64) (b := 2048) f).trans ?_
  rw [Finset.sum_eq_zero (fun i _ => h _ i.isLt), zero_add]
  rfl

/-- The loss is the call's. -/
theorem refLoss_eq : refLoss x g t = lossOf x g t := by
  have h : ∀ i : Fin 2112, i.val < 64 → rowLoss x g t i = 0 := fun i hi => by
    have h0 : ∀ k : Fin 2048, err x g t (ix2 i k) = 0 := fun k => if_neg (by show ¬64 ≤ i.val; omega)
    unfold rowLoss
    simp only [h0, mul_zero, Finset.sum_const_zero, div_width, zero_mul]
  funext y
  obtain ⟨z, z', rfl⟩ : ∃ (z z' : Fin 1), y = ix2 z z' := ⟨_, _, eq_ix2 y⟩
  unfold refLoss lossOf
  rw [sum_below _ h]
  unfold rowLoss
  pointwise
  simp only [refErr_apply]

/-- The weight's gradient is the call's. -/
theorem refDg_eq : refDg x g t = dgOf x g t := by
  funext y
  obtain ⟨z, q, rfl⟩ : ∃ (z : Fin 1) (q : Fin 2048), y = ix2 z q := ⟨_, _, eq_ix2 y⟩
  unfold refDg
  pointwise
  simp only [refHat_apply, refDy_apply]
  refine Finset.sum_congr rfl fun i _ => ?_
  exact mul_comm _ _

/-- The rows' gradient is the call's: the chain rule through the root against the closed form. -/
theorem refDx_eq : refDx x g t = dxOf x g t := by
  funext y
  obtain ⟨i, q, rfl⟩ : ∃ (i : Fin 2112) (q : Fin 2048), y = ix2 i q := ⟨_, _, eq_ix2 y⟩
  have hu := under_cases (S := ∑ k : Fin 2048, x (ix2 i k) * x (ix2 i k)) (Finset.sum_nonneg fun k _ => sq_nonneg _)
  have h := grad_row (fun k => x (ix2 i k)) (fun k => err x g t (ix2 i k) * share * g (ix2 0 k)) _ 0 hu q
  rw [zero_add, zero_add] at h
  refine Eq.trans ?_ h.symm
  unfold refDx
  pointwise
  simp only [refU_apply, refDy_apply, Fin.sum_univ_one]

/-- Half of it, likewise. -/
theorem refHalf_eq : refHalf x g t = halfOf x g t := by
  funext y
  exact congrArg (fun z => Ideal.ofBits .f32 0x3F000000#32 * z) (congrFun (refDx_eq x g t) y)

end Cert.LossRefIdeal.Hand

namespace Cert.LossIdeal.Hand

open Cert.LossRefIdeal.Hand

/-- The frame of the reference's lines: host code, read off its run. -/
theorem frame_ref : Cert.quiescent_LossRefIdeal := fun m ρ _ =>
  (θ_run Cert.LossRefIdeal.defs _ _).mono (fun r h => ⟨fun c => (h c).2.2.2.2,
      Idealize.ShloMosaic.sem_eq_zero_of_no_sems (by decide) r.2⟩)
    (Cert.LossRefIdeal.Value.run (F := Ideal) m ρ)

/-- THE VALUE CLAIM: the call and the reference's loss with its gradient end with the same arrays. -/
theorem algebraic : Cert.algebraic_LossIdeal_LossRefIdeal := by
  intro m g m' g' _ hargs
  refine ⟨_, _, _, _, run m g, ?_⟩
  refine (θ_run _ _ _).mono (fun r h c => ?_) (Cert.LossRefIdeal.Value.run (F := Ideal) m' g')
  obtain ⟨h0, h1, h2, h3, h4⟩ := h c
  obtain ⟨e0, e1, e2⟩ := hargs c
  refine ⟨h0.trans ?_, h1.trans ?_, h2.trans ?_, h3.trans ?_, h4⟩
  · rw [e0, e1, e2]
    exact refLoss_eq (aX m c) (aG m c) (aT m c)
  · unfold Cert.LossRefIdeal.Value.res_main_v51
    rw [e0, e1, e2]
    exact refDx_eq (aX m c) (aG m c) (aT m c)
  · rw [e0, e1, e2]
    exact refDg_eq (aX m c) (aG m c) (aT m c)
  · unfold Cert.LossRefIdeal.Value.res_main_v55
    rw [e0, e1, e2]
    exact refHalf_eq (aX m c) (aG m c) (aT m c)

end Cert.LossIdeal.Hand

end
-- ==== Proof.Products.lean ====
/-
  The three products of two matrices that a linear layer and its backward pass take, entry by entry at natural-number
  coordinates: rows by columns, rows by rows, columns by columns.
-/
module

public import proofs.«01_k».proof.Proof.Sums

@[expose] public section

noncomputable section

namespace Cert.Products

open Idealize.ShloMosaic Cert.Sums
open scoped BigOperators

variable {M K N : ℕ}

/-- An entry of `a · b`. -/
def rowCol (a : (⟨2, ![M, K]⟩ : Shape).Idx → EReal) (b : (⟨2, ![K, N]⟩ : Shape).Idx → EReal) (i j : ℕ) : EReal :=
  ∑ k : Fin K, at2 a i k.val * at2 b k.val j

/-- An entry of `a · bᵀ`. -/
def rowRow (a : (⟨2, ![M, K]⟩ : Shape).Idx → EReal) (b : (⟨2, ![N, K]⟩ : Shape).Idx → EReal) (i j : ℕ) : EReal :=
  ∑ k : Fin K, at2 a i k.val * at2 b j k.val

/-- An entry of `aᵀ · b`. -/
def colCol (a : (⟨2, ![K, M]⟩ : Shape).Idx → EReal) (b : (⟨2, ![K, N]⟩ : Shape).Idx → EReal) (i j : ℕ) : EReal :=
  ∑ k : Fin K, at2 a k.val i * at2 b k.val j

/-- The array with the given entries. -/
def ofEntries (M N : ℕ) (f : ℕ → ℕ → EReal) : (⟨2, ![M, N]⟩ : Shape).Idx → EReal := fun x => f (x 0).val (x 1).val

end Cert.Products

end
-- ==== Proof.GlaProj.lean ====
/- The attention's input projection `h · w`: every tile of the call is a product of a block of rows by a block of columns. -/
module

public import proofs.«01_k».proof.Defs
public import proofs.«01_k».proof.Proof.Products
public import proofs.«01_k».proof.Proof.Gen.GlaProjIdeal.Value
public import proofs.«01_k».proof.Proof.Gen.GlaProjRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GlaProjRefIdeal.Hand

open Cert.GlaProjRefIdeal Cert.GlaProjRefIdeal.Gen Cert.Sums Cert.Products
open scoped BigOperators

/-- The reference's term, entry by entry: the same sum. -/
theorem ref_eq (a : FVec Ideal S2112x2048 .bf16) (b : FVec Ideal S2048x6272 .bf16) :
    Host.dotGeneral (F := Ideal) dot_S2112x2048_S2048x6272_S2112x6272_1_0_0_1_n_n none (extf .f32 a bitsLt_bf16_f32) (extf .f32 b bitsLt_bf16_f32)
      = ofEntries 2112 6272 (rowCol a b) := by
  funext y
  obtain ⟨i, j, rfl⟩ : ∃ (i : Fin 2112) (j : Fin 6272), y = ix2 i j := ⟨_, _, eq_ix2 y⟩
  show _ = rowCol a b i.val j.val
  unfold rowCol
  pointwise
  refine Finset.sum_congr rfl fun k _ => ?_
  rw [eq_at2 a, eq_at2 b]

end Cert.GlaProjRefIdeal.Hand

namespace Cert.GlaProjIdeal.Hand

open Cert.GlaProjIdeal Cert.GlaProjIdeal.Gen Cert.GlaProjIdeal.Value Cert.Sums Cert.Products
open scoped BigOperators

variable (m : (ℓ : Loc nD τ sig) → Buf (Elt Ideal) ℓ)

/-! ## A tile -/

/-- A tile's entry: the sum over the contracted axis. -/
theorem tile_apply (x0 : FVec Ideal S704x2048 .bf16) (x1 : FVec Ideal S2048x896 .bf16) (r : Fin 704) (q : Fin 896) :
    (k0_pay1 (F := Ideal) x0 x1 (ix2 r q) : EReal) = ∑ k : Fin 2048, (x0 (ix2 r k) : EReal) * x1 (ix2 k q) := by
  pointwise [k0_pay1]

/-- What a point leaves in its block of the result. -/
theorem after_apply (c : Dev nD) (t : Fin cfg0.N) : (dats m 0 c).after 2 t = k0_pay1 (iblk m c 0 t) (iblk m c 1 t) := by
  rw [after0_2]; frame_out

/-! ## The tiles' places -/

/-- The arguments as arrays of extended reals. -/
abbrev aH (c : Dev nD) : FVec Ideal S2112x2048 .bf16 := m ((c.tc : Thread nD τ).loc main_arg0)
abbrev aW (c : Dev nD) : FVec Ideal S2048x6272 .bf16 := m ((c.tc : Thread nD τ).loc main_arg1)

theorem lt_points (t : Fin cfg0.N) : t.val < 21 := lt_of_lt_of_eq t.isLt N_0

/-- The windows' index maps in closed form. -/
theorem idx_0 : ∀ t : Fin cfg0.N, win0_0.index t 0 = t.val % 3 ∧ win0_0.index t 1 = 0 :=
  (by decide +kernel : ∀ t : Fin grid0.N, _)
theorem idx_1 : ∀ t : Fin cfg0.N, win0_1.index t 0 = 0 ∧ win0_1.index t 1 = t.val / 3 :=
  (by decide +kernel : ∀ t : Fin grid0.N, _)
theorem idx_2 : ∀ t : Fin cfg0.N, win0_2.index t 0 = t.val % 3 ∧ win0_2.index t 1 = t.val / 3 :=
  (by decide +kernel : ∀ t : Fin grid0.N, _)

/-- The block of `aH` at point `t`. -/
theorem blk_0 (c : Dev nD) (t : Fin cfg0.N) (r : Fin 704) (k : Fin 2048) :
    (iblk m c 0 t : Vec Ideal S704x2048 .bf16) (ix2 r k) = at2 (aH m c) (t.val % 3 * 704 + r.val) (k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 704 + 1 * r.val = _; rw [(idx_0 t).1]; simp
  | ⟨1, _⟩ => show win0_0.index t 1 * 2048 + 1 * k.val = _; rw [(idx_0 t).2]; simp

/-- The block of `aW` at point `t`. -/
theorem blk_1 (c : Dev nD) (t : Fin cfg0.N) (r : Fin 2048) (k : Fin 896) :
    (iblk m c 1 t : Vec Ideal S2048x896 .bf16) (ix2 r k) = at2 (aW m c) (r.val) (t.val / 3 * 896 + k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 2048 + 1 * r.val = _; rw [(idx_1 t).1]; simp
  | ⟨1, _⟩ => show win0_1.index t 1 * 896 + 1 * k.val = _; rw [(idx_1 t).2]; simp

/-! ## The array that the call leaves -/

/-- THE RESULT, entry by entry: every tile is written once, and the tiles cover the array. -/
theorem arr (c : Dev nD) : (dats m 0 c).arrAt 2 cfg0.N = ofEntries 2112 6272 (rowCol (aH m c) (aW m c)) := by
  refine (dats m 0 c).arrAt_eq_of_cover 2 _ (fun t _ => ?_) (fun x => ?_)
  · show (dats m 0 c).after 2 t = _
    rw [after_apply]
    funext y
    obtain ⟨r, q, rfl⟩ : ∃ (r : Fin 704) (q : Fin 896), y = ix2 r q := ⟨_, _, eq_ix2 y⟩
    rw [View.read_apply]
    have h0 : (((cfg0.win 2).blk t).view.emb (ix2 r q) 0).val = t.val % 3 * 704 + r.val := by
      show win0_2.index t 0 * 704 + 1 * r.val = _; rw [(idx_2 t).1]; simp
    have h1 : (((cfg0.win 2).blk t).view.emb (ix2 r q) 1).val = t.val / 3 * 896 + q.val := by
      show win0_2.index t 1 * 896 + 1 * q.val = _; rw [(idx_2 t).2]; simp
    show _ = (rowCol (aH m c) (aW m c)) (((cfg0.win 2).blk t).view.emb (ix2 r q) 0).val (((cfg0.win 2).blk t).view.emb (ix2 r q) 1).val
    rw [h0, h1]
    rw [tile_apply]
    simp only [blk_0, blk_1]
    rfl
  · have hx0 : (x 0).val < 2112 := (x 0).isLt
    have hx1 : (x 1).val < 6272 := (x 1).isLt
    have ht : (x 1).val / 896 * 3 + (x 0).val / 704 < cfg0.N := by rw [show cfg0.N = 21 from N_0]; omega
    refine ⟨⟨_, ht⟩, flush0_2 _, ?_⟩
    show x ∈ ((View.whole main_v0).slice (win0_2.rect ⟨_, ht⟩)).set
    rw [View.set_slice_whole, Rect.mem_set_unit]
    have e0 : win0_2.index ⟨_, ht⟩ 0 = (x 0).val / 704 := (idx_2 _).1.trans (show ((x 1).val / 896 * 3 + (x 0).val / 704) % 3 = _ by omega)
    have e1 : win0_2.index ⟨_, ht⟩ 1 = (x 1).val / 896 := (idx_2 _).2.trans (show ((x 1).val / 896 * 3 + (x 0).val / 704) / 3 = _ by omega)
    intro a
    match a with
    | ⟨0, _⟩ => show win0_2.index ⟨_, ht⟩ 0 * 704 ≤ (x 0).val ∧ (x 0).val < win0_2.index ⟨_, ht⟩ 0 * 704 + 704; omega
    | ⟨1, _⟩ => show win0_2.index ⟨_, ht⟩ 1 * 896 ≤ (x 1).val ∧ (x 1).val < win0_2.index ⟨_, ht⟩ 1 * 896 + 896; omega

/-! ## The claims -/

/-- The frame of the reference's lines: host code, read off its run. -/
theorem frame_ref : Cert.quiescent_GlaProjRefIdeal := fun m ρ _ =>
  (θ_run Cert.GlaProjRefIdeal.defs _ _).mono (fun r h => ⟨fun c => (h c).2, Idealize.ShloMosaic.sem_eq_zero_of_no_sems (by decide) r.2⟩)
    (Cert.GlaProjRefIdeal.Value.run (F := Ideal) m ρ)

/-- THE VALUE CLAIM: from the same arguments the call and the reference end with the same array of extended reals. -/
theorem algebraic : Cert.algebraic_GlaProjIdeal_GlaProjRefIdeal := by
  intro m g m' g' _ hargs
  refine ⟨_, run_blocks (F := Ideal) m g, ?_⟩
  refine (θ_run _ _ _).mono (fun r h c => ⟨(h c).1.trans ?_, (h c).2⟩) (Cert.GlaProjRefIdeal.Value.run (F := Ideal) m' g')
  obtain ⟨e0, e1⟩ := hargs c
  rw [e0, e1, arr]
  exact Cert.GlaProjRefIdeal.Hand.ref_eq _ _

end Cert.GlaProjIdeal.Hand

end
-- ==== Proof.GlaProjW.lean ====
/- The gradient of the attention's input weight, `hᵀ · dproj`: every tile of the call is a product of a block of columns by a block
   of columns, over all rows. -/
module

public import proofs.«01_k».proof.Defs
public import proofs.«01_k».proof.Proof.Products
public import proofs.«01_k».proof.Proof.Gen.GlaProjWIdeal.Value
public import proofs.«01_k».proof.Proof.Gen.GlaProjWRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GlaProjWRefIdeal.Hand

open Cert.GlaProjWRefIdeal Cert.GlaProjWRefIdeal.Gen Cert.Sums Cert.Products
open scoped BigOperators

/-- The reference's term, entry by entry: the same sum. -/
theorem ref_eq (a : FVec Ideal S2112x2048 .bf16) (b : FVec Ideal S2112x6272 .bf16) :
    truncf (F := Ideal) .bf16 (transpose S2048x6272 [1, 0] (Host.dotGeneral dot_S2112x6272_S2112x2048_S6272x2048_0_0_1_1_n_n none (extf .f32 b bitsLt_bf16_f32) (extf .f32 a bitsLt_bf16_f32)) transposes_S6272x2048_S2048x6272_1_0) bitsLt_bf16_f32
      = ofEntries 2048 6272 (colCol a b) := by
  funext y
  obtain ⟨i, j, rfl⟩ : ∃ (i : Fin 2048) (j : Fin 6272), y = ix2 i j := ⟨_, _, eq_ix2 y⟩
  show _ = colCol a b i.val j.val
  unfold colCol
  pointwise
  refine Finset.sum_congr rfl fun k _ => ?_
  rw [eq_at2 a, eq_at2 b, mul_comm]

end Cert.GlaProjWRefIdeal.Hand

namespace Cert.GlaProjWIdeal.Hand

open Cert.GlaProjWIdeal Cert.GlaProjWIdeal.Gen Cert.GlaProjWIdeal.Value Cert.Sums Cert.Products
open scoped BigOperators

variable (m : (ℓ : Loc nD τ sig) → Buf (Elt Ideal) ℓ)

/-! ## A tile -/

/-- A tile's entry: the sum over the contracted axis. -/
theorem tile_apply (x0 : FVec Ideal S2112x512 .bf16) (x1 : FVec Ideal S2112x896 .bf16) (r : Fin 512) (q : Fin 896) :
    (k0_pay1 (F := Ideal) x0 x1 (ix2 r q) : EReal) = ∑ k : Fin 2112, (x0 (ix2 k r) : EReal) * x1 (ix2 k q) := by
  pointwise [k0_pay1]

/-- What a point leaves in its block of the result. -/
theorem after_apply (c : Dev nD) (t : Fin cfg0.N) : (dats m 0 c).after 2 t = k0_pay1 (iblk m c 0 t) (iblk m c 1 t) := by
  rw [after0_2]; frame_out

/-! ## The tiles' places -/

/-- The arguments as arrays of extended reals. -/
abbrev aH (c : Dev nD) : FVec Ideal S2112x2048 .bf16 := m ((c.tc : Thread nD τ).loc main_arg0)
abbrev aD (c : Dev nD) : FVec Ideal S2112x6272 .bf16 := m ((c.tc : Thread nD τ).loc main_arg1)

theorem lt_points (t : Fin cfg0.N) : t.val < 28 := lt_of_lt_of_eq t.isLt N_0

/-- The windows' index maps in closed form. -/
theorem idx_0 : ∀ t : Fin cfg0.N, win0_0.index t 0 = 0 ∧ win0_0.index t 1 = t.val % 4 :=
  (by decide +kernel : ∀ t : Fin grid0.N, _)
theorem idx_1 : ∀ t : Fin cfg0.N, win0_1.index t 0 = 0 ∧ win0_1.index t 1 = t.val / 4 :=
  (by decide +kernel : ∀ t : Fin grid0.N, _)
theorem idx_2 : ∀ t : Fin cfg0.N, win0_2.index t 0 = t.val % 4 ∧ win0_2.index t 1 = t.val / 4 :=
  (by decide +kernel : ∀ t : Fin grid0.N, _)

/-- The block of `aH` at point `t`. -/
theorem blk_0 (c : Dev nD) (t : Fin cfg0.N) (r : Fin 2112) (k : Fin 512) :
    (iblk m c 0 t : Vec Ideal S2112x512 .bf16) (ix2 r k) = at2 (aH m c) (r.val) (t.val % 4 * 512 + k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 2112 + 1 * r.val = _; rw [(idx_0 t).1]; simp
  | ⟨1, _⟩ => show win0_0.index t 1 * 512 + 1 * k.val = _; rw [(idx_0 t).2]; simp

/-- The block of `aD` at point `t`. -/
theorem blk_1 (c : Dev nD) (t : Fin cfg0.N) (r : Fin 2112) (k : Fin 896) :
    (iblk m c 1 t : Vec Ideal S2112x896 .bf16) (ix2 r k) = at2 (aD m c) (r.val) (t.val / 4 * 896 + k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 2112 + 1 * r.val = _; rw [(idx_1 t).1]; simp
  | ⟨1, _⟩ => show win0_1.index t 1 * 896 + 1 * k.val = _; rw [(idx_1 t).2]; simp

/-! ## The array that the call leaves -/

/-- THE RESULT, entry by entry: every tile is written once, and the tiles cover the array. -/
theorem arr (c : Dev nD) : (dats m 0 c).arrAt 2 cfg0.N = ofEntries 2048 6272 (colCol (aH m c) (aD m c)) := by
  refine (dats m 0 c).arrAt_eq_of_cover 2 _ (fun t _ => ?_) (fun x => ?_)
  · show (dats m 0 c).after 2 t = _
    rw [after_apply]
    funext y
    obtain ⟨r, q, rfl⟩ : ∃ (r : Fin 512) (q : Fin 896), y = ix2 r q := ⟨_, _, eq_ix2 y⟩
    rw [View.read_apply]
    have h0 : (((cfg0.win 2).blk t).view.emb (ix2 r q) 0).val = t.val % 4 * 512 + r.val := by
      show win0_2.index t 0 * 512 + 1 * r.val = _; rw [(idx_2 t).1]; simp
    have h1 : (((cfg0.win 2).blk t).view.emb (ix2 r q) 1).val = t.val / 4 * 896 + q.val := by
      show win0_2.index t 1 * 896 + 1 * q.val = _; rw [(idx_2 t).2]; simp
    show _ = (colCol (aH m c) (aD m c)) (((cfg0.win 2).blk t).view.emb (ix2 r q) 0).val (((cfg0.win 2).blk t).view.emb (ix2 r q) 1).val
    rw [h0, h1]
    rw [tile_apply]
    simp only [blk_0, blk_1]
    rfl
  · have hx0 : (x 0).val < 2048 := (x 0).isLt
    have hx1 : (x 1).val < 6272 := (x 1).isLt
    have ht : (x 1).val / 896 * 4 + (x 0).val / 512 < cfg0.N := by rw [show cfg0.N = 28 from N_0]; omega
    refine ⟨⟨_, ht⟩, flush0_2 _, ?_⟩
    show x ∈ ((View.whole main_v0).slice (win0_2.rect ⟨_, ht⟩)).set
    rw [View.set_slice_whole, Rect.mem_set_unit]
    have e0 : win0_2.index ⟨_, ht⟩ 0 = (x 0).val / 512 := (idx_2 _).1.trans (show ((x 1).val / 896 * 4 + (x 0).val / 512) % 4 = _ by omega)
    have e1 : win0_2.index ⟨_, ht⟩ 1 = (x 1).val / 896 := (idx_2 _).2.trans (show ((x 1).val / 896 * 4 + (x 0).val / 512) / 4 = _ by omega)
    intro a
    match a with
    | ⟨0, _⟩ => show win0_2.index ⟨_, ht⟩ 0 * 512 ≤ (x 0).val ∧ (x 0).val < win0_2.index ⟨_, ht⟩ 0 * 512 + 512; omega
    | ⟨1, _⟩ => show win0_2.index ⟨_, ht⟩ 1 * 896 ≤ (x 1).val ∧ (x 1).val < win0_2.index ⟨_, ht⟩ 1 * 896 + 896; omega

/-! ## The claims -/

/-- The frame of the reference's lines: host code, read off its run. -/
theorem frame_ref : Cert.quiescent_GlaProjWRefIdeal := fun m ρ _ =>
  (θ_run Cert.GlaProjWRefIdeal.defs _ _).mono (fun r h => ⟨fun c => (h c).2, Idealize.ShloMosaic.sem_eq_zero_of_no_sems (by decide) r.2⟩)
    (Cert.GlaProjWRefIdeal.Value.run (F := Ideal) m ρ)

/-- THE VALUE CLAIM: from the same arguments the call and the reference end with the same array of extended reals. -/
theorem algebraic : Cert.algebraic_GlaProjWIdeal_GlaProjWRefIdeal := by
  intro m g m' g' _ hargs
  refine ⟨_, run_blocks (F := Ideal) m g, ?_⟩
  refine (θ_run _ _ _).mono (fun r h c => ⟨(h c).1.trans ?_, (h c).2⟩) (Cert.GlaProjWRefIdeal.Value.run (F := Ideal) m' g')
  obtain ⟨e0, e1⟩ := hargs c
  rw [e0, e1, arr]
  exact Cert.GlaProjWRefIdeal.Hand.ref_eq _ _

end Cert.GlaProjWIdeal.Hand

end
-- ==== Proof.GlaProjH.lean ====
/-
  The gradient of the attention's normed input, `dproj · wᵀ`: the kernel adds, tile after tile of the projection's width,
  the tile's partial products into one accumulator; over the extended reals these sums regroup to the reference's whole product.
-/
module

public import proofs.«01_k».proof.Defs
public import proofs.«01_k».proof.Proof.Sums
public import proofs.«01_k».proof.Proof.Gen.GlaProjHIdeal.Value
public import proofs.«01_k».proof.Proof.Gen.GlaProjHRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GlaProjHRefIdeal.Hand

open Cert.GlaProjHRefIdeal Cert.GlaProjHRefIdeal.Gen Cert.Sums
open scoped BigOperators

/-- The reference's product at an index, its sum over the projection's width cut into seven tiles. -/
theorem product_apply (x : FVec Ideal S2112x6272 .bf16) (w : FVec Ideal S2048x6272 .bf16) (i : Fin 2112) (q : Fin 2048) :
    Host.dotGeneral (F := Ideal) dot_S2112x6272_S2048x6272_S2112x2048_1_1_0_0_n_n none (extf .f32 x bitsLt_bf16_f32)
        (extf .f32 w bitsLt_bf16_f32) (ix2 i q)
      = ∑ s ∈ Finset.range 7, ∑ k : Fin 896, at2 x i.val (s * 896 + k.val) * at2 w q.val (s * 896 + k.val) := by
  pointwise
  rw [← sum_fin_tiles (fun p => at2 x i.val p * at2 w q.val p) 7 896]
  refine Finset.sum_congr rfl fun p _ => ?_
  rw [eq_at2 x, eq_at2 w]

end Cert.GlaProjHRefIdeal.Hand

namespace Cert.GlaProjHIdeal.Hand

open Cert.GlaProjHIdeal Cert.GlaProjHIdeal.Gen Cert.GlaProjHIdeal.Value Cert.Sums
open scoped BigOperators

/-- One point's update of the accumulator at an index: the tile's partial product is added. -/
theorem step_apply (acc : FVec Ideal S704x2048 .f32) (x0 : FVec Ideal S704x896 .bf16) (x1 : FVec Ideal S2048x896 .bf16)
    (r : Fin 704) (q : Fin 2048) :
    (k0_pay2 (F := Ideal) acc x0 x1 (ix2 r q) : EReal) = acc (ix2 r q) + ∑ k : Fin 896, (x0 (ix2 r k) : EReal) * x1 (ix2 q k) := by
  pointwise [k0_pay2]

/-- The accumulator's first contents are zero. -/
theorem init_apply (j : S704x2048.Idx) : k0_pay1 (F := Ideal) j = 0 := by
  pointwise [k0_pay1]

variable (m : (ℓ : Loc nD τ sig) → Buf (Elt Ideal) ℓ)

/-- A row tile's first point leaves its partial product added onto zero. -/
theorem scratch_A (c : Dev nD) (t : Fin cfg0.N) (h0 : t.val % 7 = 0) :
    (outsAt0 m c t.val t.isLt).2 = k0_pay2 k0_pay1 (iblk m c 0 t) (iblk m c 1 t) := by
  rw [outsAt0_A m c t h0 (by omega)]
  frame_out

/-- A later point adds its partial product onto what the point before left … -/
theorem scratch_BC (c : Dev nD) (t : Fin cfg0.N) (h0 : ¬t.val % 7 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 7 = 6
  · rw [outsAt0_C m c t h0 h1]
    frame_out
    rw [(Memref.isWhole_whole _).read_unread]
  · rw [outsAt0_B m c t h0 h1]
    frame_out
    rw [(Memref.isWhole_whole _).read_unread]

/-- … and the last one stores the accumulator into the output block. -/
theorem out_C (c : Dev nD) (t : Fin cfg0.N) (h1 : t.val % 7 = 6) :
    (outsAt0 m c t.val t.isLt).1 = (outsAt0 m c t.val t.isLt).2 := by
  rw [outsAt0_C m c t (by omega) h1]
  frame_out

/-- The two arguments as arrays of extended reals. -/
abbrev dproj (c : Dev nD) : FVec Ideal S2112x6272 .bf16 := m ((c.tc : Thread nD τ).loc main_arg0)
abbrev wAll (c : Dev nD) : FVec Ideal S2048x6272 .bf16 := m ((c.tc : Thread nD τ).loc main_arg1)

/-- The windows' index maps in closed form: point `t` is tile of rows `t / 7`, tile of the projection's width `t % 7`. -/
theorem idx0 : ∀ t : Fin cfg0.N, win0_0.index t 0 = t.val / 7 ∧ win0_0.index t 1 = t.val % 7 :=
  (by decide +kernel : ∀ t : Fin grid0.N, _)
theorem idx1 : ∀ t : Fin cfg0.N, win0_1.index t 0 = 0 ∧ win0_1.index t 1 = t.val % 7 :=
  (by decide +kernel : ∀ t : Fin grid0.N, _)

/-- The block of `dproj` at point `t`. -/
theorem blk0 (c : Dev nD) (t : Fin cfg0.N) (r : Fin 704) (k : Fin 896) :
    (iblk m c 0 t : Vec Ideal S704x896 .bf16) (ix2 r k) = at2 (dproj m c) (t.val / 7 * 704 + r.val) (t.val % 7 * 896 + k.val) := by
  have hN : t.val < 21 := lt_of_lt_of_eq t.isLt N_0
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 704 + 1 * r.val = _; rw [(idx0 t).1]; simp
  | ⟨1, _⟩ => show win0_0.index t 1 * 896 + 1 * k.val = _; rw [(idx0 t).2]; simp

/-- The weight's block at point `t`: the columns of tile `t % 7`. -/
theorem blk1 (c : Dev nD) (t : Fin cfg0.N) (q : Fin 2048) (k : Fin 896) :
    (iblk m c 1 t : Vec Ideal S2048x896 .bf16) (ix2 q k) = at2 (wAll m c) q.val (t.val % 7 * 896 + k.val) := by
  rw [at2_of_lt _ q.isLt (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 2048 + 1 * q.val = _; rw [(idx1 t).1]; simp
  | ⟨1, _⟩ => show win0_1.index t 1 * 896 + 1 * k.val = _; rw [(idx1 t).2]; simp

/-- What tile `s` of the projection's width adds to row `i`, column `q` of the result. -/
def part (c : Dev nD) (i q s : ℕ) : EReal :=
  ∑ k : Fin 896, at2 (dproj m c) i (s * 896 + k.val) * at2 (wAll m c) q (s * 896 + k.val)

/-- The accumulator after point `n`: the sum of the tiles seen since the row tile began. -/
theorem scratch_eq (c : Dev nD) : ∀ (n : ℕ) (h : n < cfg0.N) (r : Fin 704) (q : Fin 2048),
    (outsAt0 m c n h).2 (ix2 r q) = ∑ s ∈ Finset.range (n % 7 + 1), part m c (n / 7 * 704 + r.val) q.val s := by
  intro n
  induction n with
  | zero =>
    intro h r q
    refine (congrFun (scratch_A m c ⟨0, h⟩ rfl) _).trans ?_
    rw [step_apply, init_apply, zero_add]
    simp only [blk0, blk1]
    simp [part]
  | succ n ih =>
    intro h r q
    by_cases h0 : (n + 1) % 7 = 0
    · refine (congrFun (scratch_A m c ⟨n + 1, h⟩ h0) _).trans ?_
      rw [step_apply, init_apply, zero_add]
      simp only [blk0, blk1, h0]
      simp [part]
    · refine (congrFun (scratch_BC m c ⟨n + 1, h⟩ h0) _).trans ?_
      rw [step_apply]
      simp only [blk0, blk1]
      have e1 : (n + 1) / 7 = n / 7 := by omega
      have e2 : (n + 1) % 7 = n % 7 + 1 := by omega
      rw [e1, e2, Finset.sum_range_succ]
      congr 1
      exact ih _ r q

/-- THE KERNEL'S RESULT at an index: the sum over the seven tiles. -/
theorem result_apply (c : Dev nD) (i : Fin 2112) (q : Fin 2048) :
    (G2 m c : S2112x2048.Idx → EReal) (ix2 i q) = ∑ s ∈ Finset.range 7, part m c i.val q.val s := by
  have hp : pt2Of (ix2 i q) = 7 * (i.val / 704) + 6 := by
    show 7 * (1 * (i.val / 704 - 0) + 1 * (q.val / 2048 - 0)) + 6 = _
    have := q.isLt
    omega
  have hN : pt2Of (ix2 i q) < cfg0.N := by
    rw [hp, show cfg0.N = 21 from N_0]
    have := i.isLt
    omega
  unfold G2
  rw [dif_pos hN, ← outsAt0_sweep m c _ hN]
  have hl : loc2Of (ix2 i q) = ix2 ⟨i.val % 704, Nat.mod_lt _ (by decide)⟩ q := by
    funext a
    apply Fin.ext
    match a with
    | ⟨0, _⟩ => rfl
    | ⟨1, _⟩ => exact Nat.mod_eq_of_lt q.isLt
  rw [hl, out_C m c ⟨pt2Of (ix2 i q), hN⟩ (by show pt2Of (ix2 i q) % 7 = 6; rw [hp]; omega), scratch_eq]
  have e1 : pt2Of (ix2 i q) % 7 + 1 = 7 := by rw [hp]; omega
  have e2 : pt2Of (ix2 i q) / 7 * 704 + i.val % 704 = i.val := by rw [hp]; omega
  simp only [e1, e2]

/-- The frame of the reference's lines: host code, read off its run. -/
theorem frame_ref : Cert.quiescent_GlaProjHRefIdeal := fun m ρ _ =>
  (θ_run Cert.GlaProjHRefIdeal.defs _ _).mono (fun r h => ⟨fun c => (h c).2, Idealize.ShloMosaic.sem_eq_zero_of_no_sems (by decide) r.2⟩)
    (Cert.GlaProjHRefIdeal.Value.run (F := Ideal) m ρ)

/-- THE VALUE CLAIM: from the same arguments the kernel and the reference end with the same array of extended reals. -/
theorem algebraic : Cert.algebraic_GlaProjHIdeal_GlaProjHRefIdeal := by
  intro m g m' g' _ hargs
  refine ⟨fun c => Cert.GlaProjHIdeal.Value.G2 m c, Cert.GlaProjHIdeal.Value.run m g, ?_⟩
  refine (θ_run _ _ _).mono (fun r h c => ⟨(h c).1.trans ?_, (h c).2⟩) (Cert.GlaProjHRefIdeal.Value.run (F := Ideal) m' g')
  obtain ⟨e0, e1⟩ := hargs c
  rw [e0, e1]
  funext j
  obtain ⟨i, q, rfl⟩ : ∃ (i : Fin 2112) (q : Fin 2048), j = ix2 i q := ⟨_, _, eq_ix2 j⟩
  exact (Cert.GlaProjHRefIdeal.Hand.product_apply (dproj m c) (wAll m c) i q).trans (result_apply m c i q).symm

end Cert.GlaProjHIdeal.Hand

end
-- ==== Proof.GlaOut.lean ====
/- The attention's output projection with the residual, `x + gated · w`: every tile of the call is a block of rows, the product added onto
   an accumulator that starts at zero and then onto the residual. -/
module

public import proofs.«01_k».proof.Defs
public import proofs.«01_k».proof.Proof.Products
public import proofs.«01_k».proof.Proof.Gen.GlaOutIdeal.Value
public import proofs.«01_k».proof.Proof.Gen.GlaOutRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GlaOutRefIdeal.Hand

open Cert.GlaOutRefIdeal Cert.GlaOutRefIdeal.Gen Cert.Sums Cert.Products
open scoped BigOperators

/-- The reference's term, entry by entry: the same sum. -/
theorem ref_eq (a : FVec Ideal S2112x2048 .bf16) (b : FVec Ideal S2048x2048 .bf16) (x : FVec Ideal S2112x2048 .f32) :
    addf (F := Ideal) x (Host.dotGeneral dot_S2112x2048_S2048x2048_S2112x2048_1_0_0_1_n_n none (extf .f32 a bitsLt_bf16_f32) (extf .f32 b bitsLt_bf16_f32))
      = ofEntries 2112 2048 (fun i j => at2 x i j + rowCol a b i j) := by
  funext y
  obtain ⟨i, j, rfl⟩ : ∃ (i : Fin 2112) (j : Fin 2048), y = ix2 i j := ⟨_, _, eq_ix2 y⟩
  show _ = at2 x i.val j.val + rowCol a b i.val j.val
  unfold rowCol
  pointwise
  rw [eq_at2 x]
  refine congrArg _ ?_
  refine Finset.sum_congr rfl fun k _ => ?_
  rw [eq_at2 a, eq_at2 b]

end Cert.GlaOutRefIdeal.Hand

namespace Cert.GlaOutIdeal.Hand

open Cert.GlaOutIdeal Cert.GlaOutIdeal.Gen Cert.GlaOutIdeal.Value Cert.Sums Cert.Products
open scoped BigOperators

variable (m : (ℓ : Loc nD τ sig) → Buf (Elt Ideal) ℓ)

/-! ## A tile -/

/-- A tile's entry: the sum over the contracted axis, added to what the accumulator held. -/
theorem tile_apply (acc : FVec Ideal S352x2048 .f32) (x0 : FVec Ideal S352x2048 .bf16) (x1 : FVec Ideal S2048x2048 .bf16) (r : Fin 352) (q : Fin 2048) :
    (k0_pay2 (F := Ideal) acc x0 x1 (ix2 r q) : EReal) = acc (ix2 r q) + ∑ k : Fin 2048, (x0 (ix2 r k) : EReal) * x1 (ix2 k q) := by
  pointwise [k0_pay2]

/-- The accumulator starts at zero. -/
theorem init_apply (j : S352x2048.Idx) : k0_pay1 (F := Ideal) j = 0 := by
  pointwise [k0_pay1]

/-- The residual and the accumulator, which is multiplied by one. -/
theorem store_apply (x acc : FVec Ideal S352x2048 .f32) (j : S352x2048.Idx) : k0_pay3 x acc j = x j + acc j := by
  pointwise [k0_pay3]

/-- What a point leaves in its block of the result. -/
theorem after_apply (c : Dev nD) (t : Fin cfg0.N) :
    (dats m 0 c).after 3 t = k0_pay3 (iblk m c 0 t) (k0_pay2 k0_pay1 (iblk m c 1 t) (iblk m c 2 t)) := by
  rw [after0_3]; unfold outsAt0; frame_out

/-! ## The tiles' places -/

/-- The arguments as arrays of extended reals. -/
abbrev aG (c : Dev nD) : FVec Ideal S2112x2048 .bf16 := m ((c.tc : Thread nD τ).loc main_arg0)
abbrev aW (c : Dev nD) : FVec Ideal S2048x2048 .bf16 := m ((c.tc : Thread nD τ).loc main_arg1)
abbrev aX (c : Dev nD) : FVec Ideal S2112x2048 .f32 := m ((c.tc : Thread nD τ).loc main_arg2)

theorem lt_points (t : Fin cfg0.N) : t.val < 6 := lt_of_lt_of_eq t.isLt N_0

/-- The windows' index maps in closed form. -/
theorem idx_0 : ∀ t : Fin cfg0.N, win0_0.index t 0 = t.val ∧ win0_0.index t 1 = 0 :=
  (by decide +kernel : ∀ t : Fin grid0.N, _)
theorem idx_1 : ∀ t : Fin cfg0.N, win0_1.index t 0 = t.val ∧ win0_1.index t 1 = 0 :=
  (by decide +kernel : ∀ t : Fin grid0.N, _)
theorem idx_2 : ∀ t : Fin cfg0.N, win0_2.index t 0 = 0 ∧ win0_2.index t 1 = 0 :=
  (by decide +kernel : ∀ t : Fin grid0.N, _)
theorem idx_3 : ∀ t : Fin cfg0.N, win0_3.index t 0 = t.val ∧ win0_3.index t 1 = 0 :=
  (by decide +kernel : ∀ t : Fin grid0.N, _)

/-- The block of `aX` at point `t`. -/
theorem blk_0 (c : Dev nD) (t : Fin cfg0.N) (r : Fin 352) (k : Fin 2048) :
    (iblk m c 0 t : Vec Ideal S352x2048 .f32) (ix2 r k) = at2 (aX m c) (t.val * 352 + r.val) (k.val) := by
  have hN := lt_points t
  rw [at2_of_lt _ (by omega) (by omega)]
  unfold iblk
  rw [View.read_apply]
  refine (congrFun (V_main_arg2 m c) _).trans (congrArg (m ((c.tc : Thread nD τ).loc main_arg2)) ?_)
  funext a
  apply Fin.ext
  match a with
  | ⟨0, _⟩ => show win0_0.index t 0 * 352 + 1 * r.val = _; rw [(idx_0 t).1]; simp
  | ⟨1, _⟩ => show win0_0.index t 1 * 2048 + 1 * k.val = _; rw [(idx_0 t).2]; simp

/-- The block of `aG` at point `t`. -/
theorem blk_1 (c : Dev nD) (t : Fin cfg0.N) (r : Fin 352) (k : Fin 2048) :
    (iblk m c 1 t : Vec Ideal S352x2048 .bf16) (ix2 r k) = at2 (aG m c) (t.val * 352 + r.val) (k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_1.index t 0 * 352 + 1 * r.val = _; rw [(idx_1 t).1]; simp
  | ⟨1, _⟩ => show win0_1.index t 1 * 2048 + 1 * k.val = _; rw [(idx_1 t).2]; simp

/-- The block of `aW` at point `t`. -/
theorem blk_2 (c : Dev nD) (t : Fin cfg0.N) (r : Fin 2048) (k : Fin 2048) :
    (iblk m c 2 t : Vec Ideal S2048x2048 .bf16) (ix2 r k) = at2 (aW m c) (r.val) (k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_2.index t 0 * 2048 + 1 * r.val = _; rw [(idx_2 t).1]; simp
  | ⟨1, _⟩ => show win0_2.index t 1 * 2048 + 1 * k.val = _; rw [(idx_2 t).2]; simp

/-! ## The array that the call leaves -/

/-- THE RESULT, entry by entry: every tile is written once, and the tiles cover the array. -/
theorem arr (c : Dev nD) : (dats m 0 c).arrAt 3 cfg0.N = ofEntries 2112 2048 (fun i j => at2 (aX m c) i j + rowCol (aG m c) (aW m c) i j) := by
  refine (dats m 0 c).arrAt_eq_of_cover 3 _ (fun t _ => ?_) (fun x => ?_)
  · show (dats m 0 c).after 3 t = _
    rw [after_apply]
    funext y
    obtain ⟨r, q, rfl⟩ : ∃ (r : Fin 352) (q : Fin 2048), y = ix2 r q := ⟨_, _, eq_ix2 y⟩
    rw [View.read_apply]
    have h0 : (((cfg0.win 3).blk t).view.emb (ix2 r q) 0).val = t.val * 352 + r.val := by
      show win0_3.index t 0 * 352 + 1 * r.val = _; rw [(idx_3 t).1]; simp
    have h1 : (((cfg0.win 3).blk t).view.emb (ix2 r q) 1).val = q.val := by
      show win0_3.index t 1 * 2048 + 1 * q.val = _; rw [(idx_3 t).2]; simp
    show _ = (fun i j => at2 (aX m c) i j + rowCol (aG m c) (aW m c) i j) (((cfg0.win 3).blk t).view.emb (ix2 r q) 0).val (((cfg0.win 3).blk t).view.emb (ix2 r q) 1).val
    rw [h0, h1]
    rw [store_apply, tile_apply, init_apply, zero_add]
    simp only [blk_0, blk_1, blk_2]
    rfl
  · have hx0 : (x 0).val < 2112 := (x 0).isLt
    have hx1 : (x 1).val < 2048 := (x 1).isLt
    have ht : (x 0).val / 352 < cfg0.N := by rw [show cfg0.N = 6 from N_0]; omega
    refine ⟨⟨_, ht⟩, flush0_3 _, ?_⟩
    show x ∈ ((View.whole main_v0).slice (win0_3.rect ⟨_, ht⟩)).set
    rw [View.set_slice_whole, Rect.mem_set_unit]
    have e0 : win0_3.index ⟨_, ht⟩ 0 = (x 0).val / 352 := (idx_3 _).1.trans (show ((x 0).val / 352) = _ by omega)
    have e1 : win0_3.index ⟨_, ht⟩ 1 = 0 := (idx_3 _).2
    intro a
    match a with
    | ⟨0, _⟩ => show win0_3.index ⟨_, ht⟩ 0 * 352 ≤ (x 0).val ∧ (x 0).val < win0_3.index ⟨_, ht⟩ 0 * 352 + 352; omega
    | ⟨1, _⟩ => show win0_3.index ⟨_, ht⟩ 1 * 2048 ≤ (x 1).val ∧ (x 1).val < win0_3.index ⟨_, ht⟩ 1 * 2048 + 2048; omega

/-! ## The claims -/

/-- The frame of the reference's lines: host code, read off its run. -/
theorem frame_ref : Cert.quiescent_GlaOutRefIdeal := fun m ρ _ =>
  (θ_run Cert.GlaOutRefIdeal.defs _ _).mono (fun r h => ⟨fun c => (h c).2, Idealize.ShloMosaic.sem_eq_zero_of_no_sems (by decide) r.2⟩)
    (Cert.GlaOutRefIdeal.Value.run (F := Ideal) m ρ)

/-- THE VALUE CLAIM: from the same arguments the call and the reference end with the same array of extended reals. -/
theorem algebraic : Cert.algebraic_GlaOutIdeal_GlaOutRefIdeal := by
  intro m g m' g' _ hargs
  refine ⟨_, run_blocks (F := Ideal) m g, ?_⟩
  refine (θ_run _ _ _).mono (fun r h c => ⟨(h c).1.trans ?_, (h c).2⟩) (Cert.GlaOutRefIdeal.Value.run (F := Ideal) m' g')
  obtain ⟨e0, e1, e2⟩ := hargs c
  rw [e0, e1, e2, arr]
  exact Cert.GlaOutRefIdeal.Hand.ref_eq _ _ _

end Cert.GlaOutIdeal.Hand

end
-- ==== Proof.GlaOutW.lean ====
/- The gradient of the attention's output weight, `gatedᵀ · dy`: every tile of the call is a product of a block of columns by a block
   of columns, over all rows. -/
module

public import proofs.«01_k».proof.Defs
public import proofs.«01_k».proof.Proof.Products
public import proofs.«01_k».proof.Proof.Gen.GlaOutWIdeal.Value
public import proofs.«01_k».proof.Proof.Gen.GlaOutWRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GlaOutWRefIdeal.Hand

open Cert.GlaOutWRefIdeal Cert.GlaOutWRefIdeal.Gen Cert.Sums Cert.Products
open scoped BigOperators

/-- The reference's term, entry by entry: the same sum. -/
theorem ref_eq (a : FVec Ideal S2112x2048 .bf16) (b : FVec Ideal S2112x2048 .f32) :
    truncf (F := Ideal) .bf16 (transpose S2048x2048 [1, 0] (Host.dotGeneral dot_S2112x2048_S2112x2048_S2048x2048_0_0_1_1_n_n none b (extf .f32 a bitsLt_bf16_f32)) transposes_S2048x2048_S2048x2048_1_0) bitsLt_bf16_f32
      = ofEntries 2048 2048 (colCol a b) := by
  funext y
  obtain ⟨i, j, rfl⟩ : ∃ (i : Fin 2048) (j : Fin 2048), y = ix2 i j := ⟨_, _, eq_ix2 y⟩
  show _ = colCol a b i.val j.val
  unfold colCol
  pointwise
  refine Finset.sum_congr rfl fun k _ => ?_
  rw [eq_at2 a, eq_at2 b, mul_comm]

end Cert.GlaOutWRefIdeal.Hand

namespace Cert.GlaOutWIdeal.Hand

open Cert.GlaOutWIdeal Cert.GlaOutWIdeal.Gen Cert.GlaOutWIdeal.Value Cert.Sums Cert.Products
open scoped BigOperators

variable (m : (ℓ : Loc nD τ sig) → Buf (Elt Ideal) ℓ)

/-! ## A tile -/

/-- A tile's entry: the sum over the contracted axis. -/
theorem tile_apply (x0 : FVec Ideal S2112x512 .bf16) (x1 : FVec Ideal S2112x512 .f32) (r : Fin 512) (q : Fin 512) :
    (k0_pay1 (F := Ideal) x0 x1 (ix2 r q) : EReal) = ∑ k : Fin 2112, (x0 (ix2 k r) : EReal) * x1 (ix2 k q) := by
  pointwise [k0_pay1]

/-- What a point leaves in its block of the result. -/
theorem after_apply (c : Dev nD) (t : Fin cfg0.N) : (dats m 0 c).after 2 t = k0_pay1 (iblk m c 0 t) (iblk m c 1 t) := by
  rw [after0_2]; frame_out

/-! ## The tiles' places -/

/-- The arguments as arrays of extended reals. -/
abbrev aH (c : Dev nD) : FVec Ideal S2112x2048 .bf16 := m ((c.tc : Thread nD τ).loc main_arg0)
abbrev aD (c : Dev nD) : FVec Ideal S2112x2048 .f32 := m ((c.tc : Thread nD τ).loc main_arg1)

theorem lt_points (t : Fin cfg0.N) : t.val < 16 := lt_of_lt_of_eq t.isLt N_0

/-- The windows' index maps in closed form. -/
theorem idx_0 : ∀ t : Fin cfg0.N, win0_0.index t 0 = 0 ∧ win0_0.index t 1 = t.val % 4 :=
  (by decide +kernel : ∀ t : Fin grid0.N, _)
theorem idx_1 : ∀ t : Fin cfg0.N, win0_1.index t 0 = 0 ∧ win0_1.index t 1 = t.val / 4 :=
  (by decide +kernel : ∀ t : Fin grid0.N, _)
theorem idx_2 : ∀ t : Fin cfg0.N, win0_2.index t 0 = t.val % 4 ∧ win0_2.index t 1 = t.val / 4 :=
  (by decide +kernel : ∀ t : Fin grid0.N, _)

/-- The block of `aH` at point `t`. -/
theorem blk_0 (c : Dev nD) (t : Fin cfg0.N) (r : Fin 2112) (k : Fin 512) :
    (iblk m c 0 t : Vec Ideal S2112x512 .bf16) (ix2 r k) = at2 (aH m c) (r.val) (t.val % 4 * 512 + k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 2112 + 1 * r.val = _; rw [(idx_0 t).1]; simp
  | ⟨1, _⟩ => show win0_0.index t 1 * 512 + 1 * k.val = _; rw [(idx_0 t).2]; simp

/-- The block of `aD` at point `t`. -/
theorem blk_1 (c : Dev nD) (t : Fin cfg0.N) (r : Fin 2112) (k : Fin 512) :
    (iblk m c 1 t : Vec Ideal S2112x512 .f32) (ix2 r k) = at2 (aD m c) (r.val) (t.val / 4 * 512 + k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 2112 + 1 * r.val = _; rw [(idx_1 t).1]; simp
  | ⟨1, _⟩ => show win0_1.index t 1 * 512 + 1 * k.val = _; rw [(idx_1 t).2]; simp

/-! ## The array that the call leaves -/

/-- THE RESULT, entry by entry: every tile is written once, and the tiles cover the array. -/
theorem arr (c : Dev nD) : (dats m 0 c).arrAt 2 cfg0.N = ofEntries 2048 2048 (colCol (aH m c) (aD m c)) := by
  refine (dats m 0 c).arrAt_eq_of_cover 2 _ (fun t _ => ?_) (fun x => ?_)
  · show (dats m 0 c).after 2 t = _
    rw [after_apply]
    funext y
    obtain ⟨r, q, rfl⟩ : ∃ (r : Fin 512) (q : Fin 512), y = ix2 r q := ⟨_, _, eq_ix2 y⟩
    rw [View.read_apply]
    have h0 : (((cfg0.win 2).blk t).view.emb (ix2 r q) 0).val = t.val % 4 * 512 + r.val := by
      show win0_2.index t 0 * 512 + 1 * r.val = _; rw [(idx_2 t).1]; simp
    have h1 : (((cfg0.win 2).blk t).view.emb (ix2 r q) 1).val = t.val / 4 * 512 + q.val := by
      show win0_2.index t 1 * 512 + 1 * q.val = _; rw [(idx_2 t).2]; simp
    show _ = (colCol (aH m c) (aD m c)) (((cfg0.win 2).blk t).view.emb (ix2 r q) 0).val (((cfg0.win 2).blk t).view.emb (ix2 r q) 1).val
    rw [h0, h1]
    rw [tile_apply]
    simp only [blk_0, blk_1]
    rfl
  · have hx0 : (x 0).val < 2048 := (x 0).isLt
    have hx1 : (x 1).val < 2048 := (x 1).isLt
    have ht : (x 1).val / 512 * 4 + (x 0).val / 512 < cfg0.N := by rw [show cfg0.N = 16 from N_0]; omega
    refine ⟨⟨_, ht⟩, flush0_2 _, ?_⟩
    show x ∈ ((View.whole main_v0).slice (win0_2.rect ⟨_, ht⟩)).set
    rw [View.set_slice_whole, Rect.mem_set_unit]
    have e0 : win0_2.index ⟨_, ht⟩ 0 = (x 0).val / 512 := (idx_2 _).1.trans (show ((x 1).val / 512 * 4 + (x 0).val / 512) % 4 = _ by omega)
    have e1 : win0_2.index ⟨_, ht⟩ 1 = (x 1).val / 512 := (idx_2 _).2.trans (show ((x 1).val / 512 * 4 + (x 0).val / 512) / 4 = _ by omega)
    intro a
    match a with
    | ⟨0, _⟩ => show win0_2.index ⟨_, ht⟩ 0 * 512 ≤ (x 0).val ∧ (x 0).val < win0_2.index ⟨_, ht⟩ 0 * 512 + 512; omega
    | ⟨1, _⟩ => show win0_2.index ⟨_, ht⟩ 1 * 512 ≤ (x 1).val ∧ (x 1).val < win0_2.index ⟨_, ht⟩ 1 * 512 + 512; omega

/-! ## The claims -/

/-- The frame of the reference's lines: host code, read off its run. -/
theorem frame_ref : Cert.quiescent_GlaOutWRefIdeal := fun m ρ _ =>
  (θ_run Cert.GlaOutWRefIdeal.defs _ _).mono (fun r h => ⟨fun c => (h c).2, Idealize.ShloMosaic.sem_eq_zero_of_no_sems (by decide) r.2⟩)
    (Cert.GlaOutWRefIdeal.Value.run (F := Ideal) m ρ)

/-- THE VALUE CLAIM: from the same arguments the call and the reference end with the same array of extended reals. -/
theorem algebraic : Cert.algebraic_GlaOutWIdeal_GlaOutWRefIdeal := by
  intro m g m' g' _ hargs
  refine ⟨_, run_blocks (F := Ideal) m g, ?_⟩
  refine (θ_run _ _ _).mono (fun r h c => ⟨(h c).1.trans ?_, (h c).2⟩) (Cert.GlaOutWRefIdeal.Value.run (F := Ideal) m' g')
  obtain ⟨e0, e1⟩ := hargs c
  rw [e0, e1, arr]
  exact Cert.GlaOutWRefIdeal.Hand.ref_eq _ _

end Cert.GlaOutWIdeal.Hand

end
-- ==== Proof.GlaOutH.lean ====
/- The gradient of the gated attention, `dy · wᵀ`: every tile of the call is a product of a block of rows by a block of rows, added onto
   an accumulator that starts at zero. -/
module

public import proofs.«01_k».proof.Defs
public import proofs.«01_k».proof.Proof.Products
public import proofs.«01_k».proof.Proof.Gen.GlaOutHIdeal.Value
public import proofs.«01_k».proof.Proof.Gen.GlaOutHRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GlaOutHRefIdeal.Hand

open Cert.GlaOutHRefIdeal Cert.GlaOutHRefIdeal.Gen Cert.Sums Cert.Products
open scoped BigOperators

/-- The reference's term, entry by entry: the same sum. -/
theorem ref_eq (a : FVec Ideal S2112x2048 .f32) (b : FVec Ideal S2048x2048 .bf16) :
    Host.dotGeneral (F := Ideal) dot_S2112x2048_S2048x2048_S2112x2048_1_1_0_0_n_n none a (extf .f32 b bitsLt_bf16_f32)
      = ofEntries 2112 2048 (rowRow a b) := by
  funext y
  obtain ⟨i, j, rfl⟩ : ∃ (i : Fin 2112) (j : Fin 2048), y = ix2 i j := ⟨_, _, eq_ix2 y⟩
  show _ = rowRow a b i.val j.val
  unfold rowRow
  pointwise
  refine Finset.sum_congr rfl fun k _ => ?_
  rw [eq_at2 a, eq_at2 b]

end Cert.GlaOutHRefIdeal.Hand

namespace Cert.GlaOutHIdeal.Hand

open Cert.GlaOutHIdeal Cert.GlaOutHIdeal.Gen Cert.GlaOutHIdeal.Value Cert.Sums Cert.Products
open scoped BigOperators

variable (m : (ℓ : Loc nD τ sig) → Buf (Elt Ideal) ℓ)

/-! ## A tile -/

/-- A tile's entry: the sum over the contracted axis, added to what the accumulator held. -/
theorem tile_apply (acc : FVec Ideal S352x512 .f32) (x0 : FVec Ideal S352x2048 .f32) (x1 : FVec Ideal S512x2048 .bf16) (r : Fin 352) (q : Fin 512) :
    (k0_pay2 (F := Ideal) acc x0 x1 (ix2 r q) : EReal) = acc (ix2 r q) + ∑ k : Fin 2048, (x0 (ix2 r k) : EReal) * x1 (ix2 q k) := by
  pointwise [k0_pay2]

/-- The accumulator starts at zero. -/
theorem init_apply (j : S352x512.Idx) : k0_pay1 (F := Ideal) j = 0 := by
  pointwise [k0_pay1]

/-- What a point leaves in its block of the result. -/
theorem after_apply (c : Dev nD) (t : Fin cfg0.N) :
    (dats m 0 c).after 2 t = k0_pay2 k0_pay1 (iblk m c 0 t) (iblk m c 1 t) := by
  rw [after0_2]; unfold outsAt0; frame_out

/-! ## The tiles' places -/

/-- The arguments as arrays of extended reals. -/
abbrev aD (c : Dev nD) : FVec Ideal S2112x2048 .f32 := m ((c.tc : Thread nD τ).loc main_arg0)
abbrev aW (c : Dev nD) : FVec Ideal S2048x2048 .bf16 := m ((c.tc : Thread nD τ).loc main_arg1)

theorem lt_points (t : Fin cfg0.N) : t.val < 24 := lt_of_lt_of_eq t.isLt N_0

/-- The windows' index maps in closed form. -/
theorem idx_0 : ∀ t : Fin cfg0.N, win0_0.index t 0 = t.val / 4 ∧ win0_0.index t 1 = 0 :=
  (by decide +kernel : ∀ t : Fin grid0.N, _)
theorem idx_1 : ∀ t : Fin cfg0.N, win0_1.index t 0 = t.val % 4 ∧ win0_1.index t 1 = 0 :=
  (by decide +kernel : ∀ t : Fin grid0.N, _)
theorem idx_2 : ∀ t : Fin cfg0.N, win0_2.index t 0 = t.val / 4 ∧ win0_2.index t 1 = t.val % 4 :=
  (by decide +kernel : ∀ t : Fin grid0.N, _)

/-- The block of `aD` at point `t`. -/
theorem blk_0 (c : Dev nD) (t : Fin cfg0.N) (r : Fin 352) (k : Fin 2048) :
    (iblk m c 0 t : Vec Ideal S352x2048 .f32) (ix2 r k) = at2 (aD m c) (t.val / 4 * 352 + r.val) (k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 352 + 1 * r.val = _; rw [(idx_0 t).1]; simp
  | ⟨1, _⟩ => show win0_0.index t 1 * 2048 + 1 * k.val = _; rw [(idx_0 t).2]; simp

/-- The block of `aW` at point `t`. -/
theorem blk_1 (c : Dev nD) (t : Fin cfg0.N) (r : Fin 512) (k : Fin 2048) :
    (iblk m c 1 t : Vec Ideal S512x2048 .bf16) (ix2 r k) = at2 (aW m c) (t.val % 4 * 512 + r.val) (k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 512 + 1 * r.val = _; rw [(idx_1 t).1]; simp
  | ⟨1, _⟩ => show win0_1.index t 1 * 2048 + 1 * k.val = _; rw [(idx_1 t).2]; simp

/-! ## The array that the call leaves -/

/-- THE RESULT, entry by entry: every tile is written once, and the tiles cover the array. -/
theorem arr (c : Dev nD) : (dats m 0 c).arrAt 2 cfg0.N = ofEntries 2112 2048 (rowRow (aD m c) (aW m c)) := by
  refine (dats m 0 c).arrAt_eq_of_cover 2 _ (fun t _ => ?_) (fun x => ?_)
  · show (dats m 0 c).after 2 t = _
    rw [after_apply]
    funext y
    obtain ⟨r, q, rfl⟩ : ∃ (r : Fin 352) (q : Fin 512), y = ix2 r q := ⟨_, _, eq_ix2 y⟩
    rw [View.read_apply]
    have h0 : (((cfg0.win 2).blk t).view.emb (ix2 r q) 0).val = t.val / 4 * 352 + r.val := by
      show win0_2.index t 0 * 352 + 1 * r.val = _; rw [(idx_2 t).1]; simp
    have h1 : (((cfg0.win 2).blk t).view.emb (ix2 r q) 1).val = t.val % 4 * 512 + q.val := by
      show win0_2.index t 1 * 512 + 1 * q.val = _; rw [(idx_2 t).2]; simp
    show _ = (rowRow (aD m c) (aW m c)) (((cfg0.win 2).blk t).view.emb (ix2 r q) 0).val (((cfg0.win 2).blk t).view.emb (ix2 r q) 1).val
    rw [h0, h1]
    rw [tile_apply, init_apply, zero_add]
    simp only [blk_0, blk_1]
    rfl
  · have hx0 : (x 0).val < 2112 := (x 0).isLt
    have hx1 : (x 1).val < 2048 := (x 1).isLt
    have ht : (x 0).val / 352 * 4 + (x 1).val / 512 < cfg0.N := by rw [show cfg0.N = 24 from N_0]; omega
    refine ⟨⟨_, ht⟩, flush0_2 _, ?_⟩
    show x ∈ ((View.whole main_v0).slice (win0_2.rect ⟨_, ht⟩)).set
    rw [View.set_slice_whole, Rect.mem_set_unit]
    have e0 : win0_2.index ⟨_, ht⟩ 0 = (x 0).val / 352 := (idx_2 _).1.trans (show ((x 0).val / 352 * 4 + (x 1).val / 512) / 4 = _ by omega)
    have e1 : win0_2.index ⟨_, ht⟩ 1 = (x 1).val / 512 := (idx_2 _).2.trans (show ((x 0).val / 352 * 4 + (x 1).val / 512) % 4 = _ by omega)
    intro a
    match a with
    | ⟨0, _⟩ => show win0_2.index ⟨_, ht⟩ 0 * 352 ≤ (x 0).val ∧ (x 0).val < win0_2.index ⟨_, ht⟩ 0 * 352 + 352; omega
    | ⟨1, _⟩ => show win0_2.index ⟨_, ht⟩ 1 * 512 ≤ (x 1).val ∧ (x 1).val < win0_2.index ⟨_, ht⟩ 1 * 512 + 512; omega

/-! ## The claims -/

/-- The frame of the reference's lines: host code, read off its run. -/
theorem frame_ref : Cert.quiescent_GlaOutHRefIdeal := fun m ρ _ =>
  (θ_run Cert.GlaOutHRefIdeal.defs _ _).mono (fun r h => ⟨fun c => (h c).2, Idealize.ShloMosaic.sem_eq_zero_of_no_sems (by decide) r.2⟩)
    (Cert.GlaOutHRefIdeal.Value.run (F := Ideal) m ρ)

/-- THE VALUE CLAIM: from the same arguments the call and the reference end with the same array of extended reals. -/
theorem algebraic : Cert.algebraic_GlaOutHIdeal_GlaOutHRefIdeal := by
  intro m g m' g' _ hargs
  refine ⟨_, run_blocks (F := Ideal) m g, ?_⟩
  refine (θ_run _ _ _).mono (fun r h c => ⟨(h c).1.trans ?_, (h c).2⟩) (Cert.GlaOutHRefIdeal.Value.run (F := Ideal) m' g')
  obtain ⟨e0, e1⟩ := hargs c
  rw [e0, e1, arr]
  exact Cert.GlaOutHRefIdeal.Hand.ref_eq _ _

end Cert.GlaOutHIdeal.Hand

end
-- ==== Proof.PairUp.lean ====
/- The sum of a sibling pair's parts of a gradient (`add_sibling`), for a block of 2048 x 1408: every entry of the array that the call
   leaves is the sum of its two parts. -/
module

public import proofs.«01_k».proof.Defs
public import proofs.«01_k».proof.Proof.Gen.PairUp
public import proofs.«01_k».proof.Proof.Gen.PairUp.Frame
public import proofs.«01_k».proof.Proof.Gen.PairUpIdeal.Frame
public import proofs.«01_k».proof.Proof.Gen.PairUpRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.PairUp.Hand

open Cert.PairUp Cert.PairUp.Gen

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Bits) zeros := by decide +kernel

/-- The frame of the kernel. -/
theorem frame : Cert.quiescent_PairUp := fun m ρ _ => Gen.frame m ρ (ok_of m ok_zeros)

end Cert.PairUp.Hand

namespace Cert.PairUpIdeal.Hand

open Cert.PairUpIdeal Cert.PairUpIdeal.Gen Cert.Sums
open scoped BigOperators

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Ideal) zeros := by decide +kernel

/-- The frame of its idealized text. -/
theorem frame : Cert.quiescent_PairUpIdeal := fun m ρ _ => Gen.frame m ρ (ok_of m ok_zeros)

/-- The prefetched word as the pipeline takes it. -/
abbrev words : (pcfg0 (F := Ideal)).Adm := ⟨zeros, ok_zeros⟩

/-- The windows' index maps in closed form, at the zero word. -/
theorem idx : ∀ t : Fin (cfg0 words).N, ((cfg0 words).win 0).index t = ![t.val / 2, 0, t.val % 2, 0]
    ∧ ((cfg0 words).win 1).index t = ![t.val / 2, t.val % 2, 0] ∧ ((cfg0 words).win 2).index t = ![t.val / 2, t.val % 2, 0]
    ∧ ((cfg0 words).win 2).flush t = true := by
  decide +kernel

/-- The same of an equal word. -/
theorem idx_of (a : (pcfg0 (F := Ideal)).Adm) (h : a = words) : ∀ t : Fin (cfg0 a).N, ((cfg0 a).win 0).index t = ![t.val / 2, 0, t.val % 2, 0]
    ∧ ((cfg0 a).win 1).index t = ![t.val / 2, t.val % 2, 0] ∧ ((cfg0 a).win 2).index t = ![t.val / 2, t.val % 2, 0]
    ∧ ((cfg0 a).win 2).flush t = true := by
  subst h; exact idx

section Values

variable (m : (ℓ : Loc nD τ sig) → Buf (Elt Ideal) ℓ)

abbrev ok : Ok m := ok_of m ok_zeros

/-- The launch's word is the zero one. -/
theorem adm_eq : adm m (ok m) = words := Subtype.ext (tbl_eq m)

/-- What a point leaves in its block of the result. -/
theorem after_apply (c : Dev nD) (t : Fin (cfgM m (ok m)).N) (x0 : FVec Ideal S1x1x512x1408 .bf16) (x1 : FVec Ideal S1x512x1408 .bf16)
    (h0 : iblk m (ok m) c 0 t = x0) (h1 : iblk m (ok m) c 1 t = x1) (r : Fin 512) (q : Fin 1408) :
    (((dats m (ok m) 0 c).after 2 t : FVec Ideal S1x512x1408 .bf16) (ix3 0 r q) : EReal)
      = (x0 (ix4 0 0 r q) : EReal) + (x1 (ix3 0 r q) : EReal) := by
  rw [after0_2]; unfold outsAt0; frame_out
  rw [h0, h1]
  pointwise [k0_pay1]
  simp only [Memref.IsWhole.read_unread]
  rfl

/-- There are eight points. -/
theorem lt_points (t : Fin (cfgM m (ok m)).N) : t.val < 8 := t.isLt

/-- The arguments as arrays of extended reals. -/
abbrev parts (c : Dev nD) : FVec Ideal S4x2x1024x1408 .bf16 := m ((c.tc : Thread nD τ).loc main_arg0)
abbrev received (c : Dev nD) : FVec Ideal S4x1024x1408 .bf16 := m ((c.tc : Thread nD τ).loc main_arg1)

/-- The block of the device's own part at point `t`. -/
theorem blk_0 (c : Dev nD) (t : Fin (cfgM m (ok m)).N) (r : Fin 512) (q : Fin 1408) (hj : t.val / 2 < 4) (h : t.val % 2 * 512 + r.val < 1024) :
    (iblk m (ok m) c 0 t : Vec Ideal S1x1x512x1408 .bf16) (ix4 0 0 r q) = parts m c (ix4 ⟨t.val / 2, hj⟩ 0 ⟨t.val % 2 * 512 + r.val, h⟩ q) := by
  have e := (idx_of _ (adm_eq m) t).1
  refine (congrFun (V_main_arg0 m c) _).trans (congrArg (parts m c) ?_)
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 512 + 1 * r.val) (congrFun e (2 : Fin 4))).trans (by simp)
  | ⟨3, _⟩ => exact (congrArg (fun n : Nat => n * 1408 + 1 * q.val) (congrFun e (3 : Fin 4))).trans (by simp)

/-- The block of the received part at point `t`. -/
theorem blk_1 (c : Dev nD) (t : Fin (cfgM m (ok m)).N) (r : Fin 512) (q : Fin 1408) (hj : t.val / 2 < 4) (h : t.val % 2 * 512 + r.val < 1024) :
    (iblk m (ok m) c 1 t : Vec Ideal S1x512x1408 .bf16) (ix3 0 r q) = received m c (ix3 ⟨t.val / 2, hj⟩ ⟨t.val % 2 * 512 + r.val, h⟩ q) := by
  have e := (idx_of _ (adm_eq m) t).2.1
  refine (congrFun (V_main_arg1 m c) _).trans (congrArg (received m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1408 + 1 * q.val) (congrFun e (2 : Fin 3))).trans (by simp)

/-- The sum of the own part, at core 0's half of the rows, and the received one. -/
def result (p : FVec Ideal S4x2x1024x1408 .bf16) (x : FVec Ideal S4x1024x1408 .bf16) : FVec Ideal S4x1024x1408 .bf16 := fun y =>
  ((p (ix4 (y 0) 0 (y 1) (y 2)) : EReal) + (x y : EReal) : EReal)

/-- Where an entry of the result's block at point `t` lies in the array. -/
abbrev place (t : Fin (cfgM m (ok m)).N) (y : S1x512x1408.Idx) : S4x1024x1408.Idx := (((cfgM m (ok m)).win 2).blk t).view.emb y

/-- It is the entry `t % 2 * 512 + r` of the rows of the chip `t / 2`. -/
theorem place_eq (t : Fin (cfgM m (ok m)).N) (r : Fin 512) (q : Fin 1408) (hj : t.val / 2 < 4) (h : t.val % 2 * 512 + r.val < 1024) :
    place m t (ix3 0 r q) = ix3 ⟨t.val / 2, hj⟩ ⟨t.val % 2 * 512 + r.val, h⟩ q := by
  have e := (idx_of _ (adm_eq m) t).2.2.1
  funext a
  apply Fin.ext
  match a with
  | ⟨0, _⟩ => exact (congrArg (fun n : Nat => n * 1 + 1 * 0) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1408 + 1 * q.val) (congrFun e (2 : Fin 3))).trans (by simp)

/-- A point writes its tile of the sum. -/
theorem tile (c : Dev nD) (t : Fin (cfgM m (ok m)).N) (y : S1x512x1408.Idx) :
    ((dats m (ok m) 0 c).after 2 t : FVec Ideal S1x512x1408 .bf16) y = result (parts m c) (received m c) (place m t y) := by
  obtain ⟨r, q, rfl⟩ : ∃ (r : Fin 512) (q : Fin 1408), y = ix3 0 r q := ⟨y 1, y 2, by
    rw [eq_ix3 y]; congr 1; exact Subsingleton.elim (α := Fin 1) _ _⟩
  have hN := lt_points m t
  have hr := r.isLt
  rw [place_eq m t r q (by omega) (by omega)]
  refine (after_apply m c t _ _ rfl rfl r q).trans ?_
  rw [blk_0 m c t r q (by omega) (by omega), blk_1 m c t r q (by omega) (by omega)]
  rfl

/-- The array: every entry is in the tile of a point. -/
theorem arr (c : Dev nD) : ((dats m (ok m) 0 c).arrAt 2 (cfgM m (ok m)).N : FVec Ideal S4x1024x1408 .bf16) = result (parts m c) (received m c) := by
  funext y
  obtain ⟨j, i, q, rfl⟩ : ∃ (j : Fin 4) (i : Fin 1024) (q : Fin 1408), y = ix3 j i q := ⟨_, _, _, eq_ix3 y⟩
  have hi := i.isLt
  have hj := j.isLt
  let t : Fin (cfgM m (ok m)).N := (⟨j.val * 2 + i.val / 512, by omega⟩ : Fin 8)
  have ht : t.val = j.val * 2 + i.val / 512 := rfl
  have hp : place m t (ix3 0 (⟨i.val % 512, Nat.mod_lt _ (by decide)⟩ : Fin 512) q) = ix3 j i q :=
    (place_eq m t _ q (by omega) (show t.val % 2 * 512 + i.val % 512 < 1024 by omega)).trans
      (congrArg₂ (fun (j : Fin 4) (i : Fin 1024) => (ix3 j i q : S4x1024x1408.Idx)) (Fin.ext (show t.val / 2 = j.val by omega))
        (Fin.ext (show t.val % 2 * 512 + i.val % 512 = i.val by omega)))
  exact (dats m (ok m) 0 c).arrAt_apply_of_mem 2 (result (parts m c) (received m c)) (fun t _ => funext (tile m c t)) _ t (ix3 j i q) t.isLt
    (idx_of _ (adm_eq m) t).2.2.2 (hp ▸ View.emb_mem_set _ _)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v1) = result (parts m c) (received m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr m c), h.2 c⟩)
    (θ_run_and (run_main m ρ (ok m)) (unchanged m ρ (ok m)))

end Values

/-- The frame of the reference's lines: host code, read off its run. -/
theorem frame_ref : Cert.quiescent_PairUpRefIdeal := fun m ρ _ =>
  (θ_run Cert.PairUpRefIdeal.defs _ _).mono (fun r h => ⟨fun c => (h c).2, Idealize.ShloMosaic.sem_eq_zero_of_no_sems (by decide) r.2⟩)
    (Cert.PairUpRefIdeal.Value.run (F := Ideal) m ρ)

end Cert.PairUpIdeal.Hand

namespace Cert.PairUpRefIdeal.Hand

open Cert.PairUpRefIdeal Cert.PairUpRefIdeal.Gen

/-- The reference's sum, with its casts. -/
theorem ref_eq (p : FVec Ideal S4x2x1024x1408 .bf16) (x : FVec Ideal S4x1024x1408 .bf16) :
    truncf .bf16 (addf (extf .f32 (shapeCast S4x1024x1408 (extractStridedSlice S4x1x1024x1408 ![0, 0, 0, 0] p slices_S4x2x1024x1408_S4x1x1024x1408_0_0_0_0) shapeCasts_S4x1x1024x1408_S4x1024x1408) bitsLt_bf16_f32)
      (extf .f32 x bitsLt_bf16_f32)) bitsLt_bf16_f32
      = Cert.PairUpIdeal.Hand.result p x := by
  funext y
  obtain ⟨j, i, q, rfl⟩ : ∃ (j : Fin 4) (i : Fin 1024) (q : Fin 1408), y = ix3 j i q := ⟨_, _, _, eq_ix3 y⟩
  pointwise [Cert.PairUpIdeal.Hand.result]

end Cert.PairUpRefIdeal.Hand

namespace Cert.PairUpIdeal.Hand

/-- THE VALUE CLAIM: the call and the reference end with the same sum. -/
theorem algebraic : Cert.algebraic_PairUpIdeal_PairUpRefIdeal := by
  intro m g m' g' _ hargs
  refine ⟨_, run m g, ?_⟩
  refine (θ_run _ _ _).mono (fun r h c => ?_) (Cert.PairUpRefIdeal.Value.run (F := Ideal) m' g')
  obtain ⟨e0, e1⟩ := hargs c
  obtain ⟨r0, ra⟩ := h c
  rw [e0, e1] at r0
  exact ⟨r0.trans (Cert.PairUpRefIdeal.Hand.ref_eq _ _), ra⟩

end Cert.PairUpIdeal.Hand
-- ==== Proof.SumUp.lean ====
/- The sum of the parts of a gradient that the four chips hold (`add_chips`), for a block of 2048 x 1408: the array that the call leaves
   holds it at the rows that the device sums. -/
module

public import proofs.«01_k».proof.Defs
public import proofs.«01_k».proof.Proof.Gen.SumUp
public import proofs.«01_k».proof.Proof.Gen.SumUp.Frame
public import proofs.«01_k».proof.Proof.Gen.SumUpIdeal.Frame
public import proofs.«01_k».proof.Proof.Gen.SumUpRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.SumUp.Hand

open Cert.SumUp Cert.SumUp.Gen

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Bits) zeros := by decide +kernel

/-- The frame of the kernel. -/
theorem frame : Cert.quiescent_SumUp := fun m ρ _ => Gen.frame m ρ (ok_of m ok_zeros)

end Cert.SumUp.Hand

namespace Cert.SumUpIdeal.Hand

open Cert.SumUpIdeal Cert.SumUpIdeal.Gen Cert.Sums
open scoped BigOperators

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Ideal) zeros := by decide +kernel

/-- The frame of its idealized text. -/
theorem frame : Cert.quiescent_SumUpIdeal := fun m ρ _ => Gen.frame m ρ (ok_of m ok_zeros)

/-- The prefetched words as the pipeline takes them. -/
abbrev words : (pcfg0 (F := Ideal)).Adm := ⟨zeros, ok_zeros⟩

/-- The windows' index maps in closed form, at the two zero words. -/
theorem idx : ∀ t : Fin (cfg0 words).N, ((cfg0 words).win 0).index t = ![0, t.val, 0]
    ∧ ((cfg0 words).win 1).index t = ![0, t.val, 0] ∧ ((cfg0 words).win 2).index t = ![3, 0, t.val, 0] ∧ ((cfg0 words).win 2).flush t = true := by
  decide +kernel

/-- The same of equal words. -/
theorem idx_of (a : (pcfg0 (F := Ideal)).Adm) (h : a = words) : ∀ t : Fin (cfg0 a).N, ((cfg0 a).win 0).index t = ![0, t.val, 0]
    ∧ ((cfg0 a).win 1).index t = ![0, t.val, 0] ∧ ((cfg0 a).win 2).index t = ![3, 0, t.val, 0] ∧ ((cfg0 a).win 2).flush t = true := by
  subst h; exact idx

section Values

variable (m : (ℓ : Loc nD τ sig) → Buf (Elt Ideal) ℓ)

abbrev ok : Ok m := ok_of m ok_zeros

/-- The launch's words are the zero ones. -/
theorem adm_eq : adm m (ok m) = words := Subtype.ext (tbl_eq m)

/-- What a point leaves in its block of the result. -/
theorem after_apply (c : Dev nD) (t : Fin (cfgM m (ok m)).N) (x0 : FVec Ideal S1x512x1408 .bf16) (x1 : FVec Ideal S3x512x1408 .bf16)
    (h0 : iblk m (ok m) c 0 t = x0) (h1 : iblk m (ok m) c 1 t = x1) (r : Fin 512) (q : Fin 1408) :
    (((dats m (ok m) 0 c).after 2 t : FVec Ideal S1x1x512x1408 .f32) (ix4 0 0 r q) : EReal)
      = (x0 (ix3 0 r q) : EReal) + (x1 (ix3 0 r q) : EReal) + (x1 (ix3 1 r q) : EReal) + (x1 (ix3 2 r q) : EReal) := by
  rw [after0_2]; unfold outsAt0; frame_out
  rw [h0, h1]
  pointwise [k0_pay1]
  simp only [Memref.IsWhole.read_unread]
  rfl

/-- There are two points. -/
theorem lt_points (t : Fin (cfgM m (ok m)).N) : t.val < 2 := t.isLt

/-- The arguments as arrays of extended reals. -/
abbrev part (c : Dev nD) : FVec Ideal S4x1024x1408 .bf16 := m ((c.tc : Thread nD τ).loc main_arg0)
abbrev chips (c : Dev nD) : FVec Ideal S3x1024x1408 .bf16 := m ((c.tc : Thread nD τ).loc main_arg1)

/-- The block of the own part at point `t`. -/
theorem blk_0 (c : Dev nD) (t : Fin (cfgM m (ok m)).N) (r : Fin 512) (q : Fin 1408) (h : t.val * 512 + r.val < 1024) :
    (iblk m (ok m) c 0 t : Vec Ideal S1x512x1408 .bf16) (ix3 0 r q) = part m c (ix3 0 ⟨t.val * 512 + r.val, h⟩ q) := by
  have e := (idx_of _ (adm_eq m) t).1
  refine (congrFun (V_main_arg0 m c) _).trans (congrArg (part m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1408 + 1 * q.val) (congrFun e (2 : Fin 3))).trans (by simp)

/-- The block of the received parts at point `t`. -/
theorem blk_1 (c : Dev nD) (t : Fin (cfgM m (ok m)).N) (k : Fin 3) (r : Fin 512) (q : Fin 1408) (h : t.val * 512 + r.val < 1024) :
    (iblk m (ok m) c 1 t : Vec Ideal S3x512x1408 .bf16) (ix3 k r q) = chips m c (ix3 k ⟨t.val * 512 + r.val, h⟩ q) := by
  have e := (idx_of _ (adm_eq m) t).2.1
  refine (congrFun (V_main_arg1 m c) _).trans (congrArg (chips m c) ?_)
  funext a
  apply Fin.ext
  match a with
  | ⟨0, _⟩ => exact (congrArg (fun n : Nat => n * 3 + 1 * k.val) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1408 + 1 * q.val) (congrFun e (2 : Fin 3))).trans (by simp)

/-- The sum of the own part and the three received ones. -/
def total (p : FVec Ideal S4x1024x1408 .bf16) (x : FVec Ideal S3x1024x1408 .bf16) (i : Fin 1024) (q : Fin 1408) : EReal :=
  (p (ix3 0 i q) : EReal) + (x (ix3 0 i q) : EReal) + (x (ix3 1 i q) : EReal) + (x (ix3 2 i q) : EReal)

/-- Where an entry of the result's block at point `t` lies in the array. -/
abbrev place (t : Fin (cfgM m (ok m)).N) (y : S1x1x512x1408.Idx) : S4x2x1024x1408.Idx := (((cfgM m (ok m)).win 2).blk t).view.emb y

/-- It is the entry `t * 512 + r` of the written half's rows. -/
theorem place_eq (t : Fin (cfgM m (ok m)).N) (r : Fin 512) (q : Fin 1408) (h : t.val * 512 + r.val < 1024) :
    place m t (ix4 0 0 r q) = ix4 3 0 ⟨t.val * 512 + r.val, h⟩ q := by
  have e := (idx_of _ (adm_eq m) t).2.2.1
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 512 + 1 * r.val) (congrFun e (2 : Fin 4))).trans (by simp)
  | ⟨3, _⟩ => exact (congrArg (fun n : Nat => n * 1408 + 1 * q.val) (congrFun e (3 : Fin 4))).trans (by simp)

/-- The whole array whose tiles the points write. -/
abbrev whole (c : Dev nD) : FVec Ideal S4x2x1024x1408 .f32 := fun z => total (part m c) (chips m c) (z 2) (z 3)

/-- A point writes its tile of it. -/
theorem tile (c : Dev nD) (t : Fin (cfgM m (ok m)).N) (y : S1x1x512x1408.Idx) :
    ((dats m (ok m) 0 c).after 2 t : FVec Ideal S1x1x512x1408 .f32) y = whole m c (place m t y) := by
  obtain ⟨r, q, rfl⟩ : ∃ (r : Fin 512) (q : Fin 1408), y = ix4 0 0 r q := ⟨y 2, y 3, by
    rw [eq_ix4 y]; congr 1 <;> exact Subsingleton.elim (α := Fin 1) _ _⟩
  have hN := lt_points m t
  have hr := r.isLt
  rw [place_eq m t r q (by omega)]
  refine (after_apply m c t _ _ rfl rfl r q).trans ?_
  rw [blk_0 m c t r q (by omega), blk_1 m c t 0 r q (by omega), blk_1 m c t 1 r q (by omega), blk_1 m c t 2 r q (by omega)]
  rfl

/-- The result at its written rows: every one of them is in a tile. -/
theorem arr (c : Dev nD) (i : Fin 1024) (q : Fin 1408) :
    ((dats m (ok m) 0 c).arrAt 2 (cfgM m (ok m)).N : FVec Ideal S4x2x1024x1408 .f32) (ix4 3 0 i q) = total (part m c) (chips m c) i q := by
  have hi := i.isLt
  let t : Fin (cfgM m (ok m)).N := (⟨i.val / 512, by omega⟩ : Fin 2)
  have hp : place m t (ix4 0 0 (⟨i.val % 512, Nat.mod_lt _ (by decide)⟩ : Fin 512) q) = ix4 3 0 i q :=
    (place_eq m t _ q (show i.val / 512 * 512 + i.val % 512 < 1024 by omega)).trans
      (congrArg (fun j : Fin 1024 => (ix4 3 0 j q : S4x2x1024x1408.Idx)) (Fin.ext (show i.val / 512 * 512 + i.val % 512 = i.val by omega)))
  exact (dats m (ok m) 0 c).arrAt_apply_of_mem 2 (whole m c) (fun t _ => funext (tile m c t)) _ t (ix4 3 0 i q) t.isLt
    (idx_of _ (adm_eq m) t).2.2.2 (hp ▸ View.emb_mem_set _ _)

/-- The result that the host takes out of the array: the half that the call writes. -/
def result (p : FVec Ideal S4x1024x1408 .bf16) (x : FVec Ideal S3x1024x1408 .bf16) : FVec Ideal S1024x1408 .f32 := fun y => total p x (y 0) (y 1)

/-- The host's slice of the array after the call. -/
theorem tail_eq (c : Dev nD) : Pipeline.afterTail pcfgs (fun _ => adm m (ok m)) (dats m (ok m)) 0 (V0 m) [hostOps1] c main_v4 = result (part m c) (chips m c) := by
  unfold Pipeline.afterTail
  simp only [hostOps1, List.flatten_cons, List.flatten_nil, List.append_nil]
  after_results
  have key : ∀ A : FVec Ideal S4x2x1024x1408 .f32, (∀ i q, A (ix4 3 0 i q) = total (part m c) (chips m c) i q) →
      shapeCast S1024x1408 (extractStridedSlice S1x1x1024x1408 ![3, 0, 0, 0] A slices_S4x2x1024x1408_S1x1x1024x1408_3_0_0_0) shapeCasts_S1x1x1024x1408_S1024x1408
        = result (part m c) (chips m c) := fun A h => by
    funext y
    obtain ⟨i, q, rfl⟩ : ∃ (i : Fin 1024) (q : Fin 1408), y = ix2 i q := ⟨_, _, eq_ix2 y⟩
    refine Eq.trans ?_ (h i q)
    pointwise
  refine key _ fun i q => ?_
  exact (congrFun (Pipeline.withArrays_arr spec0 (launch0 (F := Ideal)).win.arr_inj c _ _ 2) _).trans (arr m c i q)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4) = result (part m c) (chips m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v4 (Pipeline.mem_restRefs_of main_v4 (by decide) (show ∀ w : Fin 3, (spec0 w).arr.view.ref ≠ main_v4 by decide))).trans (tail_eq m c), h.2 c⟩)
    (θ_run_and (run_main m ρ (ok m)) (unchanged m ρ (ok m)))

end Values

/-- The frame of the reference's lines: host code, read off its run. -/
theorem frame_ref : Cert.quiescent_SumUpRefIdeal := fun m ρ _ =>
  (θ_run Cert.SumUpRefIdeal.defs _ _).mono (fun r h => ⟨fun c => (h c).2, Idealize.ShloMosaic.sem_eq_zero_of_no_sems (by decide) r.2⟩)
    (Cert.SumUpRefIdeal.Value.run (F := Ideal) m ρ)

end Cert.SumUpIdeal.Hand

namespace Cert.SumUpRefIdeal.Hand

open Cert.SumUpRefIdeal Cert.SumUpRefIdeal.Gen

/-- The reference's sum over the received parts, added to the own part. -/
theorem ref_eq (p : FVec Ideal S4x1024x1408 .bf16) (x : FVec Ideal S3x1024x1408 .bf16) :
    addf (extf .f32 (shapeCast S1024x1408 (extractStridedSlice S1x1024x1408 ![0, 0, 0] p slices_S4x1024x1408_S1x1024x1408_0_0_0) shapeCasts_S1x1024x1408_S1024x1408) bitsLt_bf16_f32)
      (Host.reduceAdd (extf .f32 x bitsLt_bf16_f32) (constant (F := Ideal) S_ .f32 0x00000000#32) reducesTo_S3x1024x1408_S1024x1408_d0 h_S_)
      = Cert.SumUpIdeal.Hand.result p x := by
  funext y
  obtain ⟨i, q, rfl⟩ : ∃ (i : Fin 1024) (q : Fin 1408), y = ix2 i q := ⟨_, _, eq_ix2 y⟩
  pointwise [Cert.SumUpIdeal.Hand.result, Cert.SumUpIdeal.Hand.total, Fin.sum_univ_three]
  simp only [zero_add, add_assoc]

end Cert.SumUpRefIdeal.Hand

namespace Cert.SumUpIdeal.Hand

/-- THE VALUE CLAIM: the call and the reference end with the same sum. -/
theorem algebraic : Cert.algebraic_SumUpIdeal_SumUpRefIdeal := by
  intro m g m' g' _ hargs
  refine ⟨_, run m g, ?_⟩
  refine (θ_run _ _ _).mono (fun r h c => ?_) (Cert.SumUpRefIdeal.Value.run (F := Ideal) m' g')
  obtain ⟨e0, e1⟩ := hargs c
  obtain ⟨r0, ra⟩ := h c
  rw [e0, e1] at r0
  exact ⟨r0.trans (Cert.SumUpRefIdeal.Hand.ref_eq _ _), ra⟩

end Cert.SumUpIdeal.Hand
-- ==== Proof.PairDown.lean ====
/- The sum of a sibling pair's parts of a gradient (`add_sibling`), for a block of 2048 x 2048: every entry of the array that the call
   leaves is the sum of its two parts. -/
module

public import proofs.«01_k».proof.Defs
public import proofs.«01_k».proof.Proof.Gen.PairDown
public import proofs.«01_k».proof.Proof.Gen.PairDown.Frame
public import proofs.«01_k».proof.Proof.Gen.PairDownIdeal.Frame
public import proofs.«01_k».proof.Proof.Gen.PairDownRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.PairDown.Hand

open Cert.PairDown Cert.PairDown.Gen

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Bits) zeros := by decide +kernel

/-- The frame of the kernel. -/
theorem frame : Cert.quiescent_PairDown := fun m ρ _ => Gen.frame m ρ (ok_of m ok_zeros)

end Cert.PairDown.Hand

namespace Cert.PairDownIdeal.Hand

open Cert.PairDownIdeal Cert.PairDownIdeal.Gen Cert.Sums
open scoped BigOperators

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Ideal) zeros := by decide +kernel

/-- The frame of its idealized text. -/
theorem frame : Cert.quiescent_PairDownIdeal := fun m ρ _ => Gen.frame m ρ (ok_of m ok_zeros)

/-- The prefetched word as the pipeline takes it. -/
abbrev words : (pcfg0 (F := Ideal)).Adm := ⟨zeros, ok_zeros⟩

/-- The windows' index maps in closed form, at the zero word. -/
theorem idx : ∀ t : Fin (cfg0 words).N, ((cfg0 words).win 0).index t = ![t.val / 2, 0, t.val % 2, 0]
    ∧ ((cfg0 words).win 1).index t = ![t.val / 2, t.val % 2, 0] ∧ ((cfg0 words).win 2).index t = ![t.val / 2, t.val % 2, 0]
    ∧ ((cfg0 words).win 2).flush t = true := by
  decide +kernel

/-- The same of an equal word. -/
theorem idx_of (a : (pcfg0 (F := Ideal)).Adm) (h : a = words) : ∀ t : Fin (cfg0 a).N, ((cfg0 a).win 0).index t = ![t.val / 2, 0, t.val % 2, 0]
    ∧ ((cfg0 a).win 1).index t = ![t.val / 2, t.val % 2, 0] ∧ ((cfg0 a).win 2).index t = ![t.val / 2, t.val % 2, 0]
    ∧ ((cfg0 a).win 2).flush t = true := by
  subst h; exact idx

section Values

variable (m : (ℓ : Loc nD τ sig) → Buf (Elt Ideal) ℓ)

abbrev ok : Ok m := ok_of m ok_zeros

/-- The launch's word is the zero one. -/
theorem adm_eq : adm m (ok m) = words := Subtype.ext (tbl_eq m)

/-- What a point leaves in its block of the result. -/
theorem after_apply (c : Dev nD) (t : Fin (cfgM m (ok m)).N) (x0 : FVec Ideal S1x1x352x2048 .bf16) (x1 : FVec Ideal S1x352x2048 .bf16)
    (h0 : iblk m (ok m) c 0 t = x0) (h1 : iblk m (ok m) c 1 t = x1) (r : Fin 352) (q : Fin 2048) :
    (((dats m (ok m) 0 c).after 2 t : FVec Ideal S1x352x2048 .bf16) (ix3 0 r q) : EReal)
      = (x0 (ix4 0 0 r q) : EReal) + (x1 (ix3 0 r q) : EReal) := by
  rw [after0_2]; unfold outsAt0; frame_out
  rw [h0, h1]
  pointwise [k0_pay1]
  simp only [Memref.IsWhole.read_unread]
  rfl

/-- There are eight points. -/
theorem lt_points (t : Fin (cfgM m (ok m)).N) : t.val < 8 := t.isLt

/-- The arguments as arrays of extended reals. -/
abbrev parts (c : Dev nD) : FVec Ideal S4x2x704x2048 .bf16 := m ((c.tc : Thread nD τ).loc main_arg0)
abbrev received (c : Dev nD) : FVec Ideal S4x704x2048 .bf16 := m ((c.tc : Thread nD τ).loc main_arg1)

/-- The block of the device's own part at point `t`. -/
theorem blk_0 (c : Dev nD) (t : Fin (cfgM m (ok m)).N) (r : Fin 352) (q : Fin 2048) (hj : t.val / 2 < 4) (h : t.val % 2 * 352 + r.val < 704) :
    (iblk m (ok m) c 0 t : Vec Ideal S1x1x352x2048 .bf16) (ix4 0 0 r q) = parts m c (ix4 ⟨t.val / 2, hj⟩ 0 ⟨t.val % 2 * 352 + r.val, h⟩ q) := by
  have e := (idx_of _ (adm_eq m) t).1
  refine (congrFun (V_main_arg0 m c) _).trans (congrArg (parts m c) ?_)
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 352 + 1 * r.val) (congrFun e (2 : Fin 4))).trans (by simp)
  | ⟨3, _⟩ => exact (congrArg (fun n : Nat => n * 2048 + 1 * q.val) (congrFun e (3 : Fin 4))).trans (by simp)

/-- The block of the received part at point `t`. -/
theorem blk_1 (c : Dev nD) (t : Fin (cfgM m (ok m)).N) (r : Fin 352) (q : Fin 2048) (hj : t.val / 2 < 4) (h : t.val % 2 * 352 + r.val < 704) :
    (iblk m (ok m) c 1 t : Vec Ideal S1x352x2048 .bf16) (ix3 0 r q) = received m c (ix3 ⟨t.val / 2, hj⟩ ⟨t.val % 2 * 352 + r.val, h⟩ q) := by
  have e := (idx_of _ (adm_eq m) t).2.1
  refine (congrFun (V_main_arg1 m c) _).trans (congrArg (received m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 352 + 1 * r.val) (congrFun e (1 : Fin 3))).trans (by simp)
  | ⟨2, _⟩ => exact (congrArg (fun n : Nat => n * 2048 + 1 * q.val) (congrFun e (2 : Fin 3))).trans (by simp)

/-- The sum of the own part, at core 0's half of the rows, and the received one. -/
def result (p : FVec Ideal S4x2x704x2048 .bf16) (x : FVec Ideal S4x704x2048 .bf16) : FVec Ideal S4x704x2048 .bf16 := fun y =>
  ((p (ix4 (y 0) 0 (y 1) (y 2)) : EReal) + (x y : EReal) : EReal)

/-- Where an entry of the result's block at point `t` lies in the array. -/
abbrev place (t : Fin (cfgM m (ok m)).N) (y : S1x352x2048.Idx) : S4x704x2048.Idx := (((cfgM m (ok m)).win 2).blk t).view.emb y

/-- It is the entry `t % 2 * 352 + r` of the rows of the chip `t / 2`. -/
theorem place_eq (t : Fin (cfgM m (ok m)).N) (r : Fin 352) (q : Fin 2048) (hj : t.val / 2 < 4) (h : t.val % 2 * 352 + r.val < 704) :
    place m t (ix3 0 r q) = ix3 ⟨t.val / 2, hj⟩ ⟨t.val % 2 * 352 + r.val, h⟩ q := by
  have e := (idx_of _ (adm_eq m) t).2.2.1
  funext a
  apply Fin.ext
  match a with
  | ⟨0, _⟩ => exact (congrArg (fun n : Nat => n * 1 + 1 * 0) (congrFun e (0 : Fin 3))).trans (by simp)
  | ⟨1, _⟩ => exact (congrArg (fun n : Nat => n * 352 + 1 * r.val) (congrFun e (1 : Fin 3))).trans (by simp)
  | ⟨2, _⟩ => exact (congrArg (fun n : Nat => n * 2048 + 1 * q.val) (congrFun e (2 : Fin 3))).trans (by simp)

/-- A point writes its tile of the sum. -/
theorem tile (c : Dev nD) (t : Fin (cfgM m (ok m)).N) (y : S1x352x2048.Idx) :
    ((dats m (ok m) 0 c).after 2 t : FVec Ideal S1x352x2048 .bf16) y = result (parts m c) (received m c) (place m t y) := by
  obtain ⟨r, q, rfl⟩ : ∃ (r : Fin 352) (q : Fin 2048), y = ix3 0 r q := ⟨y 1, y 2, by
    rw [eq_ix3 y]; congr 1; exact Subsingleton.elim (α := Fin 1) _ _⟩
  have hN := lt_points m t
  have hr := r.isLt
  rw [place_eq m t r q (by omega) (by omega)]
  refine (after_apply m c t _ _ rfl rfl r q).trans ?_
  rw [blk_0 m c t r q (by omega) (by omega), blk_1 m c t r q (by omega) (by omega)]
  rfl

/-- The array: every entry is in the tile of a point. -/
theorem arr (c : Dev nD) : ((dats m (ok m) 0 c).arrAt 2 (cfgM m (ok m)).N : FVec Ideal S4x704x2048 .bf16) = result (parts m c) (received m c) := by
  funext y
  obtain ⟨j, i, q, rfl⟩ : ∃ (j : Fin 4) (i : Fin 704) (q : Fin 2048), y = ix3 j i q := ⟨_, _, _, eq_ix3 y⟩
  have hi := i.isLt
  have hj := j.isLt
  let t : Fin (cfgM m (ok m)).N := (⟨j.val * 2 + i.val / 352, by omega⟩ : Fin 8)
  have ht : t.val = j.val * 2 + i.val / 352 := rfl
  have hp : place m t (ix3 0 (⟨i.val % 352, Nat.mod_lt _ (by decide)⟩ : Fin 352) q) = ix3 j i q :=
    (place_eq m t _ q (by omega) (show t.val % 2 * 352 + i.val % 352 < 704 by omega)).trans
      (congrArg₂ (fun (j : Fin 4) (i : Fin 704) => (ix3 j i q : S4x704x2048.Idx)) (Fin.ext (show t.val / 2 = j.val by omega))
        (Fin.ext (show t.val % 2 * 352 + i.val % 352 = i.val by omega)))
  exact (dats m (ok m) 0 c).arrAt_apply_of_mem 2 (result (parts m c) (received m c)) (fun t _ => funext (tile m c t)) _ t (ix3 j i q) t.isLt
    (idx_of _ (adm_eq m) t).2.2.2 (hp ▸ View.emb_mem_set _ _)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v1) = result (parts m c) (received m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr m c), h.2 c⟩)
    (θ_run_and (run_main m ρ (ok m)) (unchanged m ρ (ok m)))

end Values

/-- The frame of the reference's lines: host code, read off its run. -/
theorem frame_ref : Cert.quiescent_PairDownRefIdeal := fun m ρ _ =>
  (θ_run Cert.PairDownRefIdeal.defs _ _).mono (fun r h => ⟨fun c => (h c).2, Idealize.ShloMosaic.sem_eq_zero_of_no_sems (by decide) r.2⟩)
    (Cert.PairDownRefIdeal.Value.run (F := Ideal) m ρ)

end Cert.PairDownIdeal.Hand

namespace Cert.PairDownRefIdeal.Hand

open Cert.PairDownRefIdeal Cert.PairDownRefIdeal.Gen

/-- The reference's sum, with its casts. -/
theorem ref_eq (p : FVec Ideal S4x2x704x2048 .bf16) (x : FVec Ideal S4x704x2048 .bf16) :
    truncf .bf16 (addf (extf .f32 (shapeCast S4x704x2048 (extractStridedSlice S4x1x704x2048 ![0, 0, 0, 0] p slices_S4x2x704x2048_S4x1x704x2048_0_0_0_0) shapeCasts_S4x1x704x2048_S4x704x2048) bitsLt_bf16_f32)
      (extf .f32 x bitsLt_bf16_f32)) bitsLt_bf16_f32
      = Cert.PairDownIdeal.Hand.result p x := by
  funext y
  obtain ⟨j, i, q, rfl⟩ : ∃ (j : Fin 4) (i : Fin 704) (q : Fin 2048), y = ix3 j i q := ⟨_, _, _, eq_ix3 y⟩
  pointwise [Cert.PairDownIdeal.Hand.result]

end Cert.PairDownRefIdeal.Hand

namespace Cert.PairDownIdeal.Hand

/-- THE VALUE CLAIM: the call and the reference end with the same sum. -/
theorem algebraic : Cert.algebraic_PairDownIdeal_PairDownRefIdeal := by
  intro m g m' g' _ hargs
  refine ⟨_, run m g, ?_⟩
  refine (θ_run _ _ _).mono (fun r h c => ?_) (Cert.PairDownRefIdeal.Value.run (F := Ideal) m' g')
  obtain ⟨e0, e1⟩ := hargs c
  obtain ⟨r0, ra⟩ := h c
  rw [e0, e1] at r0
  exact ⟨r0.trans (Cert.PairDownRefIdeal.Hand.ref_eq _ _), ra⟩

end Cert.PairDownIdeal.Hand
-- ==== Proof.SumDown.lean ====
/- The sum of the parts of a gradient that the four chips hold (`add_chips`), for a block of 2048 x 2048: the array that the call leaves
   holds it at the rows that the device sums. -/
module

public import proofs.«01_k».proof.Defs
public import proofs.«01_k».proof.Proof.Gen.SumDown
public import proofs.«01_k».proof.Proof.Gen.SumDown.Frame
public import proofs.«01_k».proof.Proof.Gen.SumDownIdeal.Frame
public import proofs.«01_k».proof.Proof.Gen.SumDownRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.SumDown.Hand

open Cert.SumDown Cert.SumDown.Gen

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Bits) zeros := by decide +kernel

/-- The frame of the kernel. -/
theorem frame : Cert.quiescent_SumDown := fun m ρ _ => Gen.frame m ρ (ok_of m ok_zeros)

end Cert.SumDown.Hand

namespace Cert.SumDownIdeal.Hand

open Cert.SumDownIdeal Cert.SumDownIdeal.Gen Cert.Sums
open scoped BigOperators

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Ideal) zeros := by decide +kernel

/-- The frame of its idealized text. -/
theorem frame : Cert.quiescent_SumDownIdeal := fun m ρ _ => Gen.frame m ρ (ok_of m ok_zeros)

/-- The prefetched words as the pipeline takes them. -/
abbrev words : (pcfg0 (F := Ideal)).Adm := ⟨zeros, ok_zeros⟩

/-- The windows' index maps in closed form, at the two zero words. -/
theorem idx : ∀ t : Fin (cfg0 words).N, ((cfg0 words).win 0).index t = ![0, t.val, 0]
    ∧ ((cfg0 words).win 1).index t = ![0, t.val, 0] ∧ ((cfg0 words).win 2).index t = ![3, 0, t.val, 0] ∧ ((cfg0 words).win 2).flush t = true := by
  decide +kernel

/-- The same of equal words. -/
theorem idx_of (a : (pcfg0 (F := Ideal)).Adm) (h : a = words) : ∀ t : Fin (cfg0 a).N, ((cfg0 a).win 0).index t = ![0, t.val, 0]
    ∧ ((cfg0 a).win 1).index t = ![0, t.val, 0] ∧ ((cfg0 a).win 2).index t = ![3, 0, t.val, 0] ∧ ((cfg0 a).win 2).flush t = true := by
  subst h; exact idx

section Values

variable (m : (ℓ : Loc nD τ sig) → Buf (Elt Ideal) ℓ)

abbrev ok : Ok m := ok_of m ok_zeros

/-- The launch's words are the zero ones. -/
theorem adm_eq : adm m (ok m) = words := Subtype.ext (tbl_eq m)

/-- What a point leaves in its block of the result. -/
theorem after_apply (c : Dev nD) (t : Fin (cfgM m (ok m)).N) (x0 : FVec Ideal S1x352x2048 .bf16) (x1 : FVec Ideal S3x352x2048 .bf16)
    (h0 : iblk m (ok m) c 0 t = x0) (h1 : iblk m (ok m) c 1 t = x1) (r : Fin 352) (q : Fin 2048) :
    (((dats m (ok m) 0 c).after 2 t : FVec Ideal S1x1x352x2048 .f32) (ix4 0 0 r q) : EReal)
      = (x0 (ix3 0 r q) : EReal) + (x1 (ix3 0 r q) : EReal) + (x1 (ix3 1 r q) : EReal) + (x1 (ix3 2 r q) : EReal) := by
  rw [after0_2]; unfold outsAt0; frame_out
  rw [h0, h1]
  pointwise [k0_pay1]
  simp only [Memref.IsWhole.read_unread]
  rfl

/-- There are two points. -/
theorem lt_points (t : Fin (cfgM m (ok m)).N) : t.val < 2 := t.isLt

/-- The arguments as arrays of extended reals. -/
abbrev part (c : Dev nD) : FVec Ideal S4x704x2048 .bf16 := m ((c.tc : Thread nD τ).loc main_arg0)
abbrev chips (c : Dev nD) : FVec Ideal S3x704x2048 .bf16 := m ((c.tc : Thread nD τ).loc main_arg1)

/-- The block of the own part at point `t`. -/
theorem blk_0 (c : Dev nD) (t : Fin (cfgM m (ok m)).N) (r : Fin 352) (q : Fin 2048) (h : t.val * 352 + r.val < 704) :
    (iblk m (ok m) c 0 t : Vec Ideal S1x352x2048 .bf16) (ix3 0 r q) = part m c (ix3 0 ⟨t.val * 352 + r.val, h⟩ q) := by
  have e := (idx_of _ (adm_eq m) t).1
  refine (congrFun (V_main_arg0 m c) _).trans (congrArg (part m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 352 + 1 * r.val) (congrFun e (1 : Fin 3))).trans (by simp)
  | ⟨2, _⟩ => exact (congrArg (fun n : Nat => n * 2048 + 1 * q.val) (congrFun e (2 : Fin 3))).trans (by simp)

/-- The block of the received parts at point `t`. -/
theorem blk_1 (c : Dev nD) (t : Fin (cfgM m (ok m)).N) (k : Fin 3) (r : Fin 352) (q : Fin 2048) (h : t.val * 352 + r.val < 704) :
    (iblk m (ok m) c 1 t : Vec Ideal S3x352x2048 .bf16) (ix3 k r q) = chips m c (ix3 k ⟨t.val * 352 + r.val, h⟩ q) := by
  have e := (idx_of _ (adm_eq m) t).2.1
  refine (congrFun (V_main_arg1 m c) _).trans (congrArg (chips m c) ?_)
  funext a
  apply Fin.ext
  match a with
  | ⟨0, _⟩ => exact (congrArg (fun n : Nat => n * 3 + 1 * k.val) (congrFun e (0 : Fin 3))).trans (by simp)
  | ⟨1, _⟩ => exact (congrArg (fun n : Nat => n * 352 + 1 * r.val) (congrFun e (1 : Fin 3))).trans (by simp)
  | ⟨2, _⟩ => exact (congrArg (fun n : Nat => n * 2048 + 1 * q.val) (congrFun e (2 : Fin 3))).trans (by simp)

/-- The sum of the own part and the three received ones. -/
def total (p : FVec Ideal S4x704x2048 .bf16) (x : FVec Ideal S3x704x2048 .bf16) (i : Fin 704) (q : Fin 2048) : EReal :=
  (p (ix3 0 i q) : EReal) + (x (ix3 0 i q) : EReal) + (x (ix3 1 i q) : EReal) + (x (ix3 2 i q) : EReal)

/-- Where an entry of the result's block at point `t` lies in the array. -/
abbrev place (t : Fin (cfgM m (ok m)).N) (y : S1x1x352x2048.Idx) : S4x2x704x2048.Idx := (((cfgM m (ok m)).win 2).blk t).view.emb y

/-- It is the entry `t * 352 + r` of the written half's rows. -/
theorem place_eq (t : Fin (cfgM m (ok m)).N) (r : Fin 352) (q : Fin 2048) (h : t.val * 352 + r.val < 704) :
    place m t (ix4 0 0 r q) = ix4 3 0 ⟨t.val * 352 + r.val, h⟩ q := by
  have e := (idx_of _ (adm_eq m) t).2.2.1
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 352 + 1 * r.val) (congrFun e (2 : Fin 4))).trans (by simp)
  | ⟨3, _⟩ => exact (congrArg (fun n : Nat => n * 2048 + 1 * q.val) (congrFun e (3 : Fin 4))).trans (by simp)

/-- The whole array whose tiles the points write. -/
abbrev whole (c : Dev nD) : FVec Ideal S4x2x704x2048 .f32 := fun z => total (part m c) (chips m c) (z 2) (z 3)

/-- A point writes its tile of it. -/
theorem tile (c : Dev nD) (t : Fin (cfgM m (ok m)).N) (y : S1x1x352x2048.Idx) :
    ((dats m (ok m) 0 c).after 2 t : FVec Ideal S1x1x352x2048 .f32) y = whole m c (place m t y) := by
  obtain ⟨r, q, rfl⟩ : ∃ (r : Fin 352) (q : Fin 2048), y = ix4 0 0 r q := ⟨y 2, y 3, by
    rw [eq_ix4 y]; congr 1 <;> exact Subsingleton.elim (α := Fin 1) _ _⟩
  have hN := lt_points m t
  have hr := r.isLt
  rw [place_eq m t r q (by omega)]
  refine (after_apply m c t _ _ rfl rfl r q).trans ?_
  rw [blk_0 m c t r q (by omega), blk_1 m c t 0 r q (by omega), blk_1 m c t 1 r q (by omega), blk_1 m c t 2 r q (by omega)]
  rfl

/-- The result at its written rows: every one of them is in a tile. -/
theorem arr (c : Dev nD) (i : Fin 704) (q : Fin 2048) :
    ((dats m (ok m) 0 c).arrAt 2 (cfgM m (ok m)).N : FVec Ideal S4x2x704x2048 .f32) (ix4 3 0 i q) = total (part m c) (chips m c) i q := by
  have hi := i.isLt
  let t : Fin (cfgM m (ok m)).N := (⟨i.val / 352, by omega⟩ : Fin 2)
  have hp : place m t (ix4 0 0 (⟨i.val % 352, Nat.mod_lt _ (by decide)⟩ : Fin 352) q) = ix4 3 0 i q :=
    (place_eq m t _ q (show i.val / 352 * 352 + i.val % 352 < 704 by omega)).trans
      (congrArg (fun j : Fin 704 => (ix4 3 0 j q : S4x2x704x2048.Idx)) (Fin.ext (show i.val / 352 * 352 + i.val % 352 = i.val by omega)))
  exact (dats m (ok m) 0 c).arrAt_apply_of_mem 2 (whole m c) (fun t _ => funext (tile m c t)) _ t (ix4 3 0 i q) t.isLt
    (idx_of _ (adm_eq m) t).2.2.2 (hp ▸ View.emb_mem_set _ _)

/-- The result that the host takes out of the array: the half that the call writes. -/
def result (p : FVec Ideal S4x704x2048 .bf16) (x : FVec Ideal S3x704x2048 .bf16) : FVec Ideal S704x2048 .f32 := fun y => total p x (y 0) (y 1)

/-- The host's slice of the array after the call. -/
theorem tail_eq (c : Dev nD) : Pipeline.afterTail pcfgs (fun _ => adm m (ok m)) (dats m (ok m)) 0 (V0 m) [hostOps1] c main_v4 = result (part m c) (chips m c) := by
  unfold Pipeline.afterTail
  simp only [hostOps1, List.flatten_cons, List.flatten_nil, List.append_nil]
  after_results
  have key : ∀ A : FVec Ideal S4x2x704x2048 .f32, (∀ i q, A (ix4 3 0 i q) = total (part m c) (chips m c) i q) →
      shapeCast S704x2048 (extractStridedSlice S1x1x704x2048 ![3, 0, 0, 0] A slices_S4x2x704x2048_S1x1x704x2048_3_0_0_0) shapeCasts_S1x1x704x2048_S704x2048
        = result (part m c) (chips m c) := fun A h => by
    funext y
    obtain ⟨i, q, rfl⟩ : ∃ (i : Fin 704) (q : Fin 2048), y = ix2 i q := ⟨_, _, eq_ix2 y⟩
    refine Eq.trans ?_ (h i q)
    pointwise
  refine key _ fun i q => ?_
  exact (congrFun (Pipeline.withArrays_arr spec0 (launch0 (F := Ideal)).win.arr_inj c _ _ 2) _).trans (arr m c i q)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4) = result (part m c) (chips m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v4 (Pipeline.mem_restRefs_of main_v4 (by decide) (show ∀ w : Fin 3, (spec0 w).arr.view.ref ≠ main_v4 by decide))).trans (tail_eq m c), h.2 c⟩)
    (θ_run_and (run_main m ρ (ok m)) (unchanged m ρ (ok m)))

end Values

/-- The frame of the reference's lines: host code, read off its run. -/
theorem frame_ref : Cert.quiescent_SumDownRefIdeal := fun m ρ _ =>
  (θ_run Cert.SumDownRefIdeal.defs _ _).mono (fun r h => ⟨fun c => (h c).2, Idealize.ShloMosaic.sem_eq_zero_of_no_sems (by decide) r.2⟩)
    (Cert.SumDownRefIdeal.Value.run (F := Ideal) m ρ)

end Cert.SumDownIdeal.Hand

namespace Cert.SumDownRefIdeal.Hand

open Cert.SumDownRefIdeal Cert.SumDownRefIdeal.Gen

/-- The reference's sum over the received parts, added to the own part. -/
theorem ref_eq (p : FVec Ideal S4x704x2048 .bf16) (x : FVec Ideal S3x704x2048 .bf16) :
    addf (extf .f32 (shapeCast S704x2048 (extractStridedSlice S1x704x2048 ![0, 0, 0] p slices_S4x704x2048_S1x704x2048_0_0_0) shapeCasts_S1x704x2048_S704x2048) bitsLt_bf16_f32)
      (Host.reduceAdd (extf .f32 x bitsLt_bf16_f32) (constant (F := Ideal) S_ .f32 0x00000000#32) reducesTo_S3x704x2048_S704x2048_d0 h_S_)
      = Cert.SumDownIdeal.Hand.result p x := by
  funext y
  obtain ⟨i, q, rfl⟩ : ∃ (i : Fin 704) (q : Fin 2048), y = ix2 i q := ⟨_, _, eq_ix2 y⟩
  pointwise [Cert.SumDownIdeal.Hand.result, Cert.SumDownIdeal.Hand.total, Fin.sum_univ_three]
  simp only [zero_add, add_assoc]

end Cert.SumDownRefIdeal.Hand

namespace Cert.SumDownIdeal.Hand

/-- THE VALUE CLAIM: the call and the reference end with the same sum. -/
theorem algebraic : Cert.algebraic_SumDownIdeal_SumDownRefIdeal := by
  intro m g m' g' _ hargs
  refine ⟨_, run m g, ?_⟩
  refine (θ_run _ _ _).mono (fun r h c => ?_) (Cert.SumDownRefIdeal.Value.run (F := Ideal) m' g')
  obtain ⟨e0, e1⟩ := hargs c
  obtain ⟨r0, ra⟩ := h c
  rw [e0, e1] at r0
  exact ⟨r0.trans (Cert.SumDownRefIdeal.Hand.ref_eq _ _), ra⟩

end Cert.SumDownIdeal.Hand
-- ==== Proof.PairIn.lean ====
/- The sum of a sibling pair's parts of a gradient (`add_sibling`), for a block of 2048 x 1540: every entry of the array that the call
   leaves is the sum of its two parts. -/
module

public import proofs.«01_k».proof.Defs
public import proofs.«01_k».proof.Proof.Gen.PairIn
public import proofs.«01_k».proof.Proof.Gen.PairIn.Frame
public import proofs.«01_k».proof.Proof.Gen.PairInIdeal.Frame
public import proofs.«01_k».proof.Proof.Gen.PairInRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.PairIn.Hand

open Cert.PairIn Cert.PairIn.Gen

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Bits) zeros := by decide +kernel

/-- The frame of the kernel. -/
theorem frame : Cert.quiescent_PairIn := fun m ρ _ => Gen.frame m ρ (ok_of m ok_zeros)

end Cert.PairIn.Hand

namespace Cert.PairInIdeal.Hand

open Cert.PairInIdeal Cert.PairInIdeal.Gen Cert.Sums
open scoped BigOperators

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Ideal) zeros := by decide +kernel

/-- The frame of its idealized text. -/
theorem frame : Cert.quiescent_PairInIdeal := fun m ρ _ => Gen.frame m ρ (ok_of m ok_zeros)

/-- The prefetched word as the pipeline takes it. -/
abbrev words : (pcfg0 (F := Ideal)).Adm := ⟨zeros, ok_zeros⟩

/-- The windows' index maps in closed form, at the zero word. -/
theorem idx : ∀ t : Fin (cfg0 words).N, ((cfg0 words).win 0).index t = ![t.val / 2, 0, t.val % 2, 0]
    ∧ ((cfg0 words).win 1).index t = ![t.val / 2, t.val % 2, 0] ∧ ((cfg0 words).win 2).index t = ![t.val / 2, t.val % 2, 0]
    ∧ ((cfg0 words).win 2).flush t = true := by
  decide +kernel

/-- The same of an equal word. -/
theorem idx_of (a : (pcfg0 (F := Ideal)).Adm) (h : a = words) : ∀ t : Fin (cfg0 a).N, ((cfg0 a).win 0).index t = ![t.val / 2, 0, t.val % 2, 0]
    ∧ ((cfg0 a).win 1).index t = ![t.val / 2, t.val % 2, 0] ∧ ((cfg0 a).win 2).index t = ![t.val / 2, t.val % 2, 0]
    ∧ ((cfg0 a).win 2).flush t = true := by
  subst h; exact idx

section Values

variable (m : (ℓ : Loc nD τ sig) → Buf (Elt Ideal) ℓ)

abbrev ok : Ok m := ok_of m ok_zeros

/-- The launch's word is the zero one. -/
theorem adm_eq : adm m (ok m) = words := Subtype.ext (tbl_eq m)

/-- What a point leaves in its block of the result. -/
theorem after_apply (c : Dev nD) (t : Fin (cfgM m (ok m)).N) (x0 : FVec Ideal S1x1x512x1540 .bf16) (x1 : FVec Ideal S1x512x1540 .bf16)
    (h0 : iblk m (ok m) c 0 t = x0) (h1 : iblk m (ok m) c 1 t = x1) (r : Fin 512) (q : Fin 1540) :
    (((dats m (ok m) 0 c).after 2 t : FVec Ideal S1x512x1540 .bf16) (ix3 0 r q) : EReal)
      = (x0 (ix4 0 0 r q) : EReal) + (x1 (ix3 0 r q) : EReal) := by
  rw [after0_2]; unfold outsAt0; frame_out
  rw [h0, h1]
  pointwise [k0_pay1]
  simp only [Memref.IsWhole.read_unread]
  rfl

/-- There are eight points. -/
theorem lt_points (t : Fin (cfgM m (ok m)).N) : t.val < 8 := t.isLt

/-- The arguments as arrays of extended reals. -/
abbrev parts (c : Dev nD) : FVec Ideal S4x2x1024x1540 .bf16 := m ((c.tc : Thread nD τ).loc main_arg0)
abbrev received (c : Dev nD) : FVec Ideal S4x1024x1540 .bf16 := m ((c.tc : Thread nD τ).loc main_arg1)

/-- The block of the device's own part at point `t`. -/
theorem blk_0 (c : Dev nD) (t : Fin (cfgM m (ok m)).N) (r : Fin 512) (q : Fin 1540) (hj : t.val / 2 < 4) (h : t.val % 2 * 512 + r.val < 1024) :
    (iblk m (ok m) c 0 t : Vec Ideal S1x1x512x1540 .bf16) (ix4 0 0 r q) = parts m c (ix4 ⟨t.val / 2, hj⟩ 0 ⟨t.val % 2 * 512 + r.val, h⟩ q) := by
  have e := (idx_of _ (adm_eq m) t).1
  refine (congrFun (V_main_arg0 m c) _).trans (congrArg (parts m c) ?_)
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 512 + 1 * r.val) (congrFun e (2 : Fin 4))).trans (by simp)
  | ⟨3, _⟩ => exact (congrArg (fun n : Nat => n * 1540 + 1 * q.val) (congrFun e (3 : Fin 4))).trans (by simp)

/-- The block of the received part at point `t`. -/
theorem blk_1 (c : Dev nD) (t : Fin (cfgM m (ok m)).N) (r : Fin 512) (q : Fin 1540) (hj : t.val / 2 < 4) (h : t.val % 2 * 512 + r.val < 1024) :
    (iblk m (ok m) c 1 t : Vec Ideal S1x512x1540 .bf16) (ix3 0 r q) = received m c (ix3 ⟨t.val / 2, hj⟩ ⟨t.val % 2 * 512 + r.val, h⟩ q) := by
  have e := (idx_of _ (adm_eq m) t).2.1
  refine (congrFun (V_main_arg1 m c) _).trans (congrArg (received m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1540 + 1 * q.val) (congrFun e (2 : Fin 3))).trans (by simp)

/-- The sum of the own part, at core 0's half of the rows, and the received one. -/
def result (p : FVec Ideal S4x2x1024x1540 .bf16) (x : FVec Ideal S4x1024x1540 .bf16) : FVec Ideal S4x1024x1540 .bf16 := fun y =>
  ((p (ix4 (y 0) 0 (y 1) (y 2)) : EReal) + (x y : EReal) : EReal)

/-- Where an entry of the result's block at point `t` lies in the array. -/
abbrev place (t : Fin (cfgM m (ok m)).N) (y : S1x512x1540.Idx) : S4x1024x1540.Idx := (((cfgM m (ok m)).win 2).blk t).view.emb y

/-- It is the entry `t % 2 * 512 + r` of the rows of the chip `t / 2`. -/
theorem place_eq (t : Fin (cfgM m (ok m)).N) (r : Fin 512) (q : Fin 1540) (hj : t.val / 2 < 4) (h : t.val % 2 * 512 + r.val < 1024) :
    place m t (ix3 0 r q) = ix3 ⟨t.val / 2, hj⟩ ⟨t.val % 2 * 512 + r.val, h⟩ q := by
  have e := (idx_of _ (adm_eq m) t).2.2.1
  funext a
  apply Fin.ext
  match a with
  | ⟨0, _⟩ => exact (congrArg (fun n : Nat => n * 1 + 1 * 0) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1540 + 1 * q.val) (congrFun e (2 : Fin 3))).trans (by simp)

/-- A point writes its tile of the sum. -/
theorem tile (c : Dev nD) (t : Fin (cfgM m (ok m)).N) (y : S1x512x1540.Idx) :
    ((dats m (ok m) 0 c).after 2 t : FVec Ideal S1x512x1540 .bf16) y = result (parts m c) (received m c) (place m t y) := by
  obtain ⟨r, q, rfl⟩ : ∃ (r : Fin 512) (q : Fin 1540), y = ix3 0 r q := ⟨y 1, y 2, by
    rw [eq_ix3 y]; congr 1; exact Subsingleton.elim (α := Fin 1) _ _⟩
  have hN := lt_points m t
  have hr := r.isLt
  rw [place_eq m t r q (by omega) (by omega)]
  refine (after_apply m c t _ _ rfl rfl r q).trans ?_
  rw [blk_0 m c t r q (by omega) (by omega), blk_1 m c t r q (by omega) (by omega)]
  rfl

/-- The array: every entry is in the tile of a point. -/
theorem arr (c : Dev nD) : ((dats m (ok m) 0 c).arrAt 2 (cfgM m (ok m)).N : FVec Ideal S4x1024x1540 .bf16) = result (parts m c) (received m c) := by
  funext y
  obtain ⟨j, i, q, rfl⟩ : ∃ (j : Fin 4) (i : Fin 1024) (q : Fin 1540), y = ix3 j i q := ⟨_, _, _, eq_ix3 y⟩
  have hi := i.isLt
  have hj := j.isLt
  let t : Fin (cfgM m (ok m)).N := (⟨j.val * 2 + i.val / 512, by omega⟩ : Fin 8)
  have ht : t.val = j.val * 2 + i.val / 512 := rfl
  have hp : place m t (ix3 0 (⟨i.val % 512, Nat.mod_lt _ (by decide)⟩ : Fin 512) q) = ix3 j i q :=
    (place_eq m t _ q (by omega) (show t.val % 2 * 512 + i.val % 512 < 1024 by omega)).trans
      (congrArg₂ (fun (j : Fin 4) (i : Fin 1024) => (ix3 j i q : S4x1024x1540.Idx)) (Fin.ext (show t.val / 2 = j.val by omega))
        (Fin.ext (show t.val % 2 * 512 + i.val % 512 = i.val by omega)))
  exact (dats m (ok m) 0 c).arrAt_apply_of_mem 2 (result (parts m c) (received m c)) (fun t _ => funext (tile m c t)) _ t (ix3 j i q) t.isLt
    (idx_of _ (adm_eq m) t).2.2.2 (hp ▸ View.emb_mem_set _ _)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v1) = result (parts m c) (received m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr m c), h.2 c⟩)
    (θ_run_and (run_main m ρ (ok m)) (unchanged m ρ (ok m)))

end Values

/-- The frame of the reference's lines: host code, read off its run. -/
theorem frame_ref : Cert.quiescent_PairInRefIdeal := fun m ρ _ =>
  (θ_run Cert.PairInRefIdeal.defs _ _).mono (fun r h => ⟨fun c => (h c).2, Idealize.ShloMosaic.sem_eq_zero_of_no_sems (by decide) r.2⟩)
    (Cert.PairInRefIdeal.Value.run (F := Ideal) m ρ)

end Cert.PairInIdeal.Hand

namespace Cert.PairInRefIdeal.Hand

open Cert.PairInRefIdeal Cert.PairInRefIdeal.Gen

/-- The reference's sum, with its casts. -/
theorem ref_eq (p : FVec Ideal S4x2x1024x1540 .bf16) (x : FVec Ideal S4x1024x1540 .bf16) :
    truncf .bf16 (addf (extf .f32 (shapeCast S4x1024x1540 (extractStridedSlice S4x1x1024x1540 ![0, 0, 0, 0] p slices_S4x2x1024x1540_S4x1x1024x1540_0_0_0_0) shapeCasts_S4x1x1024x1540_S4x1024x1540) bitsLt_bf16_f32)
      (extf .f32 x bitsLt_bf16_f32)) bitsLt_bf16_f32
      = Cert.PairInIdeal.Hand.result p x := by
  funext y
  obtain ⟨j, i, q, rfl⟩ : ∃ (j : Fin 4) (i : Fin 1024) (q : Fin 1540), y = ix3 j i q := ⟨_, _, _, eq_ix3 y⟩
  pointwise [Cert.PairInIdeal.Hand.result]

end Cert.PairInRefIdeal.Hand

namespace Cert.PairInIdeal.Hand

/-- THE VALUE CLAIM: the call and the reference end with the same sum. -/
theorem algebraic : Cert.algebraic_PairInIdeal_PairInRefIdeal := by
  intro m g m' g' _ hargs
  refine ⟨_, run m g, ?_⟩
  refine (θ_run _ _ _).mono (fun r h c => ?_) (Cert.PairInRefIdeal.Value.run (F := Ideal) m' g')
  obtain ⟨e0, e1⟩ := hargs c
  obtain ⟨r0, ra⟩ := h c
  rw [e0, e1] at r0
  exact ⟨r0.trans (Cert.PairInRefIdeal.Hand.ref_eq _ _), ra⟩

end Cert.PairInIdeal.Hand
-- ==== Proof.SumIn.lean ====
/- The sum of the parts of a gradient that the four chips hold (`add_chips`), for a block of 2048 x 1540: the array that the call leaves
   holds it at the rows that the device sums. -/
module

public import proofs.«01_k».proof.Defs
public import proofs.«01_k».proof.Proof.Gen.SumIn
public import proofs.«01_k».proof.Proof.Gen.SumIn.Frame
public import proofs.«01_k».proof.Proof.Gen.SumInIdeal.Frame
public import proofs.«01_k».proof.Proof.Gen.SumInRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.SumIn.Hand

open Cert.SumIn Cert.SumIn.Gen

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Bits) zeros := by decide +kernel

/-- The frame of the kernel. -/
theorem frame : Cert.quiescent_SumIn := fun m ρ _ => Gen.frame m ρ (ok_of m ok_zeros)

end Cert.SumIn.Hand

namespace Cert.SumInIdeal.Hand

open Cert.SumInIdeal Cert.SumInIdeal.Gen Cert.Sums
open scoped BigOperators

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Ideal) zeros := by decide +kernel

/-- The frame of its idealized text. -/
theorem frame : Cert.quiescent_SumInIdeal := fun m ρ _ => Gen.frame m ρ (ok_of m ok_zeros)

/-- The prefetched words as the pipeline takes them. -/
abbrev words : (pcfg0 (F := Ideal)).Adm := ⟨zeros, ok_zeros⟩

/-- The windows' index maps in closed form, at the two zero words. -/
theorem idx : ∀ t : Fin (cfg0 words).N, ((cfg0 words).win 0).index t = ![0, t.val, 0]
    ∧ ((cfg0 words).win 1).index t = ![0, t.val, 0] ∧ ((cfg0 words).win 2).index t = ![0, 0, t.val, 0] ∧ ((cfg0 words).win 2).flush t = true := by
  decide +kernel

/-- The same of equal words. -/
theorem idx_of (a : (pcfg0 (F := Ideal)).Adm) (h : a = words) : ∀ t : Fin (cfg0 a).N, ((cfg0 a).win 0).index t = ![0, t.val, 0]
    ∧ ((cfg0 a).win 1).index t = ![0, t.val, 0] ∧ ((cfg0 a).win 2).index t = ![0, 0, t.val, 0] ∧ ((cfg0 a).win 2).flush t = true := by
  subst h; exact idx

section Values

variable (m : (ℓ : Loc nD τ sig) → Buf (Elt Ideal) ℓ)

abbrev ok : Ok m := ok_of m ok_zeros

/-- The launch's words are the zero ones. -/
theorem adm_eq : adm m (ok m) = words := Subtype.ext (tbl_eq m)

/-- What a point leaves in its block of the result. -/
theorem after_apply (c : Dev nD) (t : Fin (cfgM m (ok m)).N) (x0 : FVec Ideal S1x512x1540 .bf16) (x1 : FVec Ideal S3x512x1540 .bf16)
    (h0 : iblk m (ok m) c 0 t = x0) (h1 : iblk m (ok m) c 1 t = x1) (r : Fin 512) (q : Fin 1540) :
    (((dats m (ok m) 0 c).after 2 t : FVec Ideal S1x1x512x1540 .f32) (ix4 0 0 r q) : EReal)
      = (x0 (ix3 0 r q) : EReal) + (x1 (ix3 0 r q) : EReal) + (x1 (ix3 1 r q) : EReal) + (x1 (ix3 2 r q) : EReal) := by
  rw [after0_2]; unfold outsAt0; frame_out
  rw [h0, h1]
  pointwise [k0_pay1]
  simp only [Memref.IsWhole.read_unread]
  rfl

/-- There are two points. -/
theorem lt_points (t : Fin (cfgM m (ok m)).N) : t.val < 2 := t.isLt

/-- The arguments as arrays of extended reals. -/
abbrev part (c : Dev nD) : FVec Ideal S4x1024x1540 .bf16 := m ((c.tc : Thread nD τ).loc main_arg0)
abbrev chips (c : Dev nD) : FVec Ideal S3x1024x1540 .bf16 := m ((c.tc : Thread nD τ).loc main_arg1)

/-- The block of the own part at point `t`. -/
theorem blk_0 (c : Dev nD) (t : Fin (cfgM m (ok m)).N) (r : Fin 512) (q : Fin 1540) (h : t.val * 512 + r.val < 1024) :
    (iblk m (ok m) c 0 t : Vec Ideal S1x512x1540 .bf16) (ix3 0 r q) = part m c (ix3 0 ⟨t.val * 512 + r.val, h⟩ q) := by
  have e := (idx_of _ (adm_eq m) t).1
  refine (congrFun (V_main_arg0 m c) _).trans (congrArg (part m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1540 + 1 * q.val) (congrFun e (2 : Fin 3))).trans (by simp)

/-- The block of the received parts at point `t`. -/
theorem blk_1 (c : Dev nD) (t : Fin (cfgM m (ok m)).N) (k : Fin 3) (r : Fin 512) (q : Fin 1540) (h : t.val * 512 + r.val < 1024) :
    (iblk m (ok m) c 1 t : Vec Ideal S3x512x1540 .bf16) (ix3 k r q) = chips m c (ix3 k ⟨t.val * 512 + r.val, h⟩ q) := by
  have e := (idx_of _ (adm_eq m) t).2.1
  refine (congrFun (V_main_arg1 m c) _).trans (congrArg (chips m c) ?_)
  funext a
  apply Fin.ext
  match a with
  | ⟨0, _⟩ => exact (congrArg (fun n : Nat => n * 3 + 1 * k.val) (congrFun e (0 : Fin 3))).trans (by simp)
  | ⟨1, _⟩ => exact (congrArg (fun n : Nat => n * 512 + 1 * r.val) (congrFun e (1 : Fin 3))).trans (by simp)
  | ⟨2, _⟩ => exact (congrArg (fun n : Nat => n * 1540 + 1 * q.val) (congrFun e (2 : Fin 3))).trans (by simp)

/-- The sum of the own part and the three received ones. -/
def total (p : FVec Ideal S4x1024x1540 .bf16) (x : FVec Ideal S3x1024x1540 .bf16) (i : Fin 1024) (q : Fin 1540) : EReal :=
  (p (ix3 0 i q) : EReal) + (x (ix3 0 i q) : EReal) + (x (ix3 1 i q) : EReal) + (x (ix3 2 i q) : EReal)

/-- Where an entry of the result's block at point `t` lies in the array. -/
abbrev place (t : Fin (cfgM m (ok m)).N) (y : S1x1x512x1540.Idx) : S1x2x1024x1540.Idx := (((cfgM m (ok m)).win 2).blk t).view.emb y

/-- It is the entry `t * 512 + r` of the written half's rows. -/
theorem place_eq (t : Fin (cfgM m (ok m)).N) (r : Fin 512) (q : Fin 1540) (h : t.val * 512 + r.val < 1024) :
    place m t (ix4 0 0 r q) = ix4 0 0 ⟨t.val * 512 + r.val, h⟩ q := by
  have e := (idx_of _ (adm_eq m) t).2.2.1
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 512 + 1 * r.val) (congrFun e (2 : Fin 4))).trans (by simp)
  | ⟨3, _⟩ => exact (congrArg (fun n : Nat => n * 1540 + 1 * q.val) (congrFun e (3 : Fin 4))).trans (by simp)

/-- The whole array whose tiles the points write. -/
abbrev whole (c : Dev nD) : FVec Ideal S1x2x1024x1540 .f32 := fun z => total (part m c) (chips m c) (z 2) (z 3)

/-- A point writes its tile of it. -/
theorem tile (c : Dev nD) (t : Fin (cfgM m (ok m)).N) (y : S1x1x512x1540.Idx) :
    ((dats m (ok m) 0 c).after 2 t : FVec Ideal S1x1x512x1540 .f32) y = whole m c (place m t y) := by
  obtain ⟨r, q, rfl⟩ : ∃ (r : Fin 512) (q : Fin 1540), y = ix4 0 0 r q := ⟨y 2, y 3, by
    rw [eq_ix4 y]; congr 1 <;> exact Subsingleton.elim (α := Fin 1) _ _⟩
  have hN := lt_points m t
  have hr := r.isLt
  rw [place_eq m t r q (by omega)]
  refine (after_apply m c t _ _ rfl rfl r q).trans ?_
  rw [blk_0 m c t r q (by omega), blk_1 m c t 0 r q (by omega), blk_1 m c t 1 r q (by omega), blk_1 m c t 2 r q (by omega)]
  rfl

/-- The result at its written rows: every one of them is in a tile. -/
theorem arr (c : Dev nD) (i : Fin 1024) (q : Fin 1540) :
    ((dats m (ok m) 0 c).arrAt 2 (cfgM m (ok m)).N : FVec Ideal S1x2x1024x1540 .f32) (ix4 0 0 i q) = total (part m c) (chips m c) i q := by
  have hi := i.isLt
  let t : Fin (cfgM m (ok m)).N := (⟨i.val / 512, by omega⟩ : Fin 2)
  have hp : place m t (ix4 0 0 (⟨i.val % 512, Nat.mod_lt _ (by decide)⟩ : Fin 512) q) = ix4 0 0 i q :=
    (place_eq m t _ q (show i.val / 512 * 512 + i.val % 512 < 1024 by omega)).trans
      (congrArg (fun j : Fin 1024 => (ix4 0 0 j q : S1x2x1024x1540.Idx)) (Fin.ext (show i.val / 512 * 512 + i.val % 512 = i.val by omega)))
  exact (dats m (ok m) 0 c).arrAt_apply_of_mem 2 (whole m c) (fun t _ => funext (tile m c t)) _ t (ix4 0 0 i q) t.isLt
    (idx_of _ (adm_eq m) t).2.2.2 (hp ▸ View.emb_mem_set _ _)

/-- The result that the host takes out of the array: the half that the call writes. -/
def result (p : FVec Ideal S4x1024x1540 .bf16) (x : FVec Ideal S3x1024x1540 .bf16) : FVec Ideal S1024x1540 .f32 := fun y => total p x (y 0) (y 1)

/-- The host's slice of the array after the call. -/
theorem tail_eq (c : Dev nD) : Pipeline.afterTail pcfgs (fun _ => adm m (ok m)) (dats m (ok m)) 0 (V0 m) [hostOps1] c main_v4 = result (part m c) (chips m c) := by
  unfold Pipeline.afterTail
  simp only [hostOps1, List.flatten_cons, List.flatten_nil, List.append_nil]
  after_results
  have key : ∀ A : FVec Ideal S1x2x1024x1540 .f32, (∀ i q, A (ix4 0 0 i q) = total (part m c) (chips m c) i q) →
      shapeCast S1024x1540 (extractStridedSlice S1x1x1024x1540 ![0, 0, 0, 0] A slices_S1x2x1024x1540_S1x1x1024x1540_0_0_0_0) shapeCasts_S1x1x1024x1540_S1024x1540
        = result (part m c) (chips m c) := fun A h => by
    funext y
    obtain ⟨i, q, rfl⟩ : ∃ (i : Fin 1024) (q : Fin 1540), y = ix2 i q := ⟨_, _, eq_ix2 y⟩
    refine Eq.trans ?_ (h i q)
    pointwise
  refine key _ fun i q => ?_
  exact (congrFun (Pipeline.withArrays_arr spec0 (launch0 (F := Ideal)).win.arr_inj c _ _ 2) _).trans (arr m c i q)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4) = result (part m c) (chips m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v4 (Pipeline.mem_restRefs_of main_v4 (by decide) (show ∀ w : Fin 3, (spec0 w).arr.view.ref ≠ main_v4 by decide))).trans (tail_eq m c), h.2 c⟩)
    (θ_run_and (run_main m ρ (ok m)) (unchanged m ρ (ok m)))

end Values

/-- The frame of the reference's lines: host code, read off its run. -/
theorem frame_ref : Cert.quiescent_SumInRefIdeal := fun m ρ _ =>
  (θ_run Cert.SumInRefIdeal.defs _ _).mono (fun r h => ⟨fun c => (h c).2, Idealize.ShloMosaic.sem_eq_zero_of_no_sems (by decide) r.2⟩)
    (Cert.SumInRefIdeal.Value.run (F := Ideal) m ρ)

end Cert.SumInIdeal.Hand

namespace Cert.SumInRefIdeal.Hand

open Cert.SumInRefIdeal Cert.SumInRefIdeal.Gen

/-- The reference's sum over the received parts, added to the own part. -/
theorem ref_eq (p : FVec Ideal S4x1024x1540 .bf16) (x : FVec Ideal S3x1024x1540 .bf16) :
    addf (extf .f32 (shapeCast S1024x1540 (extractStridedSlice S1x1024x1540 ![0, 0, 0] p slices_S4x1024x1540_S1x1024x1540_0_0_0) shapeCasts_S1x1024x1540_S1024x1540) bitsLt_bf16_f32)
      (Host.reduceAdd (extf .f32 x bitsLt_bf16_f32) (constant (F := Ideal) S_ .f32 0x00000000#32) reducesTo_S3x1024x1540_S1024x1540_d0 h_S_)
      = Cert.SumInIdeal.Hand.result p x := by
  funext y
  obtain ⟨i, q, rfl⟩ : ∃ (i : Fin 1024) (q : Fin 1540), y = ix2 i q := ⟨_, _, eq_ix2 y⟩
  pointwise [Cert.SumInIdeal.Hand.result, Cert.SumInIdeal.Hand.total, Fin.sum_univ_three]
  simp only [zero_add, add_assoc]

end Cert.SumInRefIdeal.Hand

namespace Cert.SumInIdeal.Hand

/-- THE VALUE CLAIM: the call and the reference end with the same sum. -/
theorem algebraic : Cert.algebraic_SumInIdeal_SumInRefIdeal := by
  intro m g m' g' _ hargs
  refine ⟨_, run m g, ?_⟩
  refine (θ_run _ _ _).mono (fun r h c => ?_) (Cert.SumInRefIdeal.Value.run (F := Ideal) m' g')
  obtain ⟨e0, e1⟩ := hargs c
  obtain ⟨r0, ra⟩ := h c
  rw [e0, e1] at r0
  exact ⟨r0.trans (Cert.SumInRefIdeal.Hand.ref_eq _ _), ra⟩

end Cert.SumInIdeal.Hand
-- ==== Proof.PairOut.lean ====
/- The sum of a sibling pair's parts of a gradient (`add_sibling`), for a block of 256 x 2048: every entry of the array that the call
   leaves is the sum of its two parts. -/
module

public import proofs.«01_k».proof.Defs
public import proofs.«01_k».proof.Proof.Gen.PairOut
public import proofs.«01_k».proof.Proof.Gen.PairOut.Frame
public import proofs.«01_k».proof.Proof.Gen.PairOutIdeal.Frame
public import proofs.«01_k».proof.Proof.Gen.PairOutRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.PairOut.Hand

open Cert.PairOut Cert.PairOut.Gen

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Bits) zeros := by decide +kernel

/-- The frame of the kernel. -/
theorem frame : Cert.quiescent_PairOut := fun m ρ _ => Gen.frame m ρ (ok_of m ok_zeros)

end Cert.PairOut.Hand

namespace Cert.PairOutIdeal.Hand

open Cert.PairOutIdeal Cert.PairOutIdeal.Gen Cert.Sums
open scoped BigOperators

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Ideal) zeros := by decide +kernel

/-- The frame of its idealized text. -/
theorem frame : Cert.quiescent_PairOutIdeal := fun m ρ _ => Gen.frame m ρ (ok_of m ok_zeros)

/-- The prefetched word as the pipeline takes it. -/
abbrev words : (pcfg0 (F := Ideal)).Adm := ⟨zeros, ok_zeros⟩

/-- The windows' index maps in closed form, at the zero word. -/
theorem idx : ∀ t : Fin (cfg0 words).N, ((cfg0 words).win 0).index t = ![t.val / 1, 0, t.val % 1, 0]
    ∧ ((cfg0 words).win 1).index t = ![t.val / 1, t.val % 1, 0] ∧ ((cfg0 words).win 2).index t = ![t.val / 1, t.val % 1, 0]
    ∧ ((cfg0 words).win 2).flush t = true := by
  decide +kernel

/-- The same of an equal word. -/
theorem idx_of (a : (pcfg0 (F := Ideal)).Adm) (h : a = words) : ∀ t : Fin (cfg0 a).N, ((cfg0 a).win 0).index t = ![t.val / 1, 0, t.val % 1, 0]
    ∧ ((cfg0 a).win 1).index t = ![t.val / 1, t.val % 1, 0] ∧ ((cfg0 a).win 2).index t = ![t.val / 1, t.val % 1, 0]
    ∧ ((cfg0 a).win 2).flush t = true := by
  subst h; exact idx

section Values

variable (m : (ℓ : Loc nD τ sig) → Buf (Elt Ideal) ℓ)

abbrev ok : Ok m := ok_of m ok_zeros

/-- The launch's word is the zero one. -/
theorem adm_eq : adm m (ok m) = words := Subtype.ext (tbl_eq m)

/-- What a point leaves in its block of the result. -/
theorem after_apply (c : Dev nD) (t : Fin (cfgM m (ok m)).N) (x0 : FVec Ideal S1x1x256x2048 .bf16) (x1 : FVec Ideal S1x256x2048 .bf16)
    (h0 : iblk m (ok m) c 0 t = x0) (h1 : iblk m (ok m) c 1 t = x1) (r : Fin 256) (q : Fin 2048) :
    (((dats m (ok m) 0 c).after 2 t : FVec Ideal S1x256x2048 .bf16) (ix3 0 r q) : EReal)
      = (x0 (ix4 0 0 r q) : EReal) + (x1 (ix3 0 r q) : EReal) := by
  rw [after0_2]; unfold outsAt0; frame_out
  rw [h0, h1]
  pointwise [k0_pay1]
  simp only [Memref.IsWhole.read_unread]
  rfl

/-- There are four points. -/
theorem lt_points (t : Fin (cfgM m (ok m)).N) : t.val < 4 := t.isLt

/-- The arguments as arrays of extended reals. -/
abbrev parts (c : Dev nD) : FVec Ideal S4x2x256x2048 .bf16 := m ((c.tc : Thread nD τ).loc main_arg0)
abbrev received (c : Dev nD) : FVec Ideal S4x256x2048 .bf16 := m ((c.tc : Thread nD τ).loc main_arg1)

/-- The block of the device's own part at point `t`. -/
theorem blk_0 (c : Dev nD) (t : Fin (cfgM m (ok m)).N) (r : Fin 256) (q : Fin 2048) (hj : t.val / 1 < 4) (h : t.val % 1 * 256 + r.val < 256) :
    (iblk m (ok m) c 0 t : Vec Ideal S1x1x256x2048 .bf16) (ix4 0 0 r q) = parts m c (ix4 ⟨t.val / 1, hj⟩ 0 ⟨t.val % 1 * 256 + r.val, h⟩ q) := by
  have e := (idx_of _ (adm_eq m) t).1
  refine (congrFun (V_main_arg0 m c) _).trans (congrArg (parts m c) ?_)
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 256 + 1 * r.val) (congrFun e (2 : Fin 4))).trans (by simp)
  | ⟨3, _⟩ => exact (congrArg (fun n : Nat => n * 2048 + 1 * q.val) (congrFun e (3 : Fin 4))).trans (by simp)

/-- The block of the received part at point `t`. -/
theorem blk_1 (c : Dev nD) (t : Fin (cfgM m (ok m)).N) (r : Fin 256) (q : Fin 2048) (hj : t.val / 1 < 4) (h : t.val % 1 * 256 + r.val < 256) :
    (iblk m (ok m) c 1 t : Vec Ideal S1x256x2048 .bf16) (ix3 0 r q) = received m c (ix3 ⟨t.val / 1, hj⟩ ⟨t.val % 1 * 256 + r.val, h⟩ q) := by
  have e := (idx_of _ (adm_eq m) t).2.1
  refine (congrFun (V_main_arg1 m c) _).trans (congrArg (received m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 2048 + 1 * q.val) (congrFun e (2 : Fin 3))).trans (by simp)

/-- The sum of the own part, at core 0's half of the rows, and the received one. -/
def result (p : FVec Ideal S4x2x256x2048 .bf16) (x : FVec Ideal S4x256x2048 .bf16) : FVec Ideal S4x256x2048 .bf16 := fun y =>
  ((p (ix4 (y 0) 0 (y 1) (y 2)) : EReal) + (x y : EReal) : EReal)

/-- Where an entry of the result's block at point `t` lies in the array. -/
abbrev place (t : Fin (cfgM m (ok m)).N) (y : S1x256x2048.Idx) : S4x256x2048.Idx := (((cfgM m (ok m)).win 2).blk t).view.emb y

/-- It is the entry `t % 1 * 256 + r` of the rows of the chip `t / 1`. -/
theorem place_eq (t : Fin (cfgM m (ok m)).N) (r : Fin 256) (q : Fin 2048) (hj : t.val / 1 < 4) (h : t.val % 1 * 256 + r.val < 256) :
    place m t (ix3 0 r q) = ix3 ⟨t.val / 1, hj⟩ ⟨t.val % 1 * 256 + r.val, h⟩ q := by
  have e := (idx_of _ (adm_eq m) t).2.2.1
  funext a
  apply Fin.ext
  match a with
  | ⟨0, _⟩ => exact (congrArg (fun n : Nat => n * 1 + 1 * 0) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 2048 + 1 * q.val) (congrFun e (2 : Fin 3))).trans (by simp)

/-- A point writes its tile of the sum. -/
theorem tile (c : Dev nD) (t : Fin (cfgM m (ok m)).N) (y : S1x256x2048.Idx) :
    ((dats m (ok m) 0 c).after 2 t : FVec Ideal S1x256x2048 .bf16) y = result (parts m c) (received m c) (place m t y) := by
  obtain ⟨r, q, rfl⟩ : ∃ (r : Fin 256) (q : Fin 2048), y = ix3 0 r q := ⟨y 1, y 2, by
    rw [eq_ix3 y]; congr 1; exact Subsingleton.elim (α := Fin 1) _ _⟩
  have hN := lt_points m t
  have hr := r.isLt
  rw [place_eq m t r q (by omega) (by omega)]
  refine (after_apply m c t _ _ rfl rfl r q).trans ?_
  rw [blk_0 m c t r q (by omega) (by omega), blk_1 m c t r q (by omega) (by omega)]
  rfl

/-- The array: every entry is in the tile of a point. -/
theorem arr (c : Dev nD) : ((dats m (ok m) 0 c).arrAt 2 (cfgM m (ok m)).N : FVec Ideal S4x256x2048 .bf16) = result (parts m c) (received m c) := by
  funext y
  obtain ⟨j, i, q, rfl⟩ : ∃ (j : Fin 4) (i : Fin 256) (q : Fin 2048), y = ix3 j i q := ⟨_, _, _, eq_ix3 y⟩
  have hi := i.isLt
  have hj := j.isLt
  let t : Fin (cfgM m (ok m)).N := (⟨j.val * 1 + i.val / 256, by omega⟩ : Fin 4)
  have ht : t.val = j.val * 1 + i.val / 256 := rfl
  have hp : place m t (ix3 0 (⟨i.val % 256, Nat.mod_lt _ (by decide)⟩ : Fin 256) q) = ix3 j i q :=
    (place_eq m t _ q (by omega) (show t.val % 1 * 256 + i.val % 256 < 256 by omega)).trans
      (congrArg₂ (fun (j : Fin 4) (i : Fin 256) => (ix3 j i q : S4x256x2048.Idx)) (Fin.ext (show t.val / 1 = j.val by omega))
        (Fin.ext (show t.val % 1 * 256 + i.val % 256 = i.val by omega)))
  exact (dats m (ok m) 0 c).arrAt_apply_of_mem 2 (result (parts m c) (received m c)) (fun t _ => funext (tile m c t)) _ t (ix3 j i q) t.isLt
    (idx_of _ (adm_eq m) t).2.2.2 (hp ▸ View.emb_mem_set _ _)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v1) = result (parts m c) (received m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr m c), h.2 c⟩)
    (θ_run_and (run_main m ρ (ok m)) (unchanged m ρ (ok m)))

end Values

/-- The frame of the reference's lines: host code, read off its run. -/
theorem frame_ref : Cert.quiescent_PairOutRefIdeal := fun m ρ _ =>
  (θ_run Cert.PairOutRefIdeal.defs _ _).mono (fun r h => ⟨fun c => (h c).2, Idealize.ShloMosaic.sem_eq_zero_of_no_sems (by decide) r.2⟩)
    (Cert.PairOutRefIdeal.Value.run (F := Ideal) m ρ)

end Cert.PairOutIdeal.Hand

namespace Cert.PairOutRefIdeal.Hand

open Cert.PairOutRefIdeal Cert.PairOutRefIdeal.Gen

/-- The reference's sum, with its casts. -/
theorem ref_eq (p : FVec Ideal S4x2x256x2048 .bf16) (x : FVec Ideal S4x256x2048 .bf16) :
    truncf .bf16 (addf (extf .f32 (shapeCast S4x256x2048 (extractStridedSlice S4x1x256x2048 ![0, 0, 0, 0] p slices_S4x2x256x2048_S4x1x256x2048_0_0_0_0) shapeCasts_S4x1x256x2048_S4x256x2048) bitsLt_bf16_f32)
      (extf .f32 x bitsLt_bf16_f32)) bitsLt_bf16_f32
      = Cert.PairOutIdeal.Hand.result p x := by
  funext y
  obtain ⟨j, i, q, rfl⟩ : ∃ (j : Fin 4) (i : Fin 256) (q : Fin 2048), y = ix3 j i q := ⟨_, _, _, eq_ix3 y⟩
  pointwise [Cert.PairOutIdeal.Hand.result]

end Cert.PairOutRefIdeal.Hand

namespace Cert.PairOutIdeal.Hand

/-- THE VALUE CLAIM: the call and the reference end with the same sum. -/
theorem algebraic : Cert.algebraic_PairOutIdeal_PairOutRefIdeal := by
  intro m g m' g' _ hargs
  refine ⟨_, run m g, ?_⟩
  refine (θ_run _ _ _).mono (fun r h c => ?_) (Cert.PairOutRefIdeal.Value.run (F := Ideal) m' g')
  obtain ⟨e0, e1⟩ := hargs c
  obtain ⟨r0, ra⟩ := h c
  rw [e0, e1] at r0
  exact ⟨r0.trans (Cert.PairOutRefIdeal.Hand.ref_eq _ _), ra⟩

end Cert.PairOutIdeal.Hand
-- ==== Proof.SumOut.lean ====
/- The sum of the parts of a gradient that the four chips hold (`add_chips`), for a block of 256 x 2048: the array that the call leaves
   holds it at the rows that the device sums. -/
module

public import proofs.«01_k».proof.Defs
public import proofs.«01_k».proof.Proof.Gen.SumOut
public import proofs.«01_k».proof.Proof.Gen.SumOut.Frame
public import proofs.«01_k».proof.Proof.Gen.SumOutIdeal.Frame
public import proofs.«01_k».proof.Proof.Gen.SumOutRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.SumOut.Hand

open Cert.SumOut Cert.SumOut.Gen

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Bits) zeros := by decide +kernel

/-- The frame of the kernel. -/
theorem frame : Cert.quiescent_SumOut := fun m ρ _ => Gen.frame m ρ (ok_of m ok_zeros)

end Cert.SumOut.Hand

namespace Cert.SumOutIdeal.Hand

open Cert.SumOutIdeal Cert.SumOutIdeal.Gen Cert.Sums
open scoped BigOperators

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Ideal) zeros := by decide +kernel

/-- The frame of its idealized text. -/
theorem frame : Cert.quiescent_SumOutIdeal := fun m ρ _ => Gen.frame m ρ (ok_of m ok_zeros)

/-- The prefetched words as the pipeline takes them. -/
abbrev words : (pcfg0 (F := Ideal)).Adm := ⟨zeros, ok_zeros⟩

/-- The windows' index maps in closed form, at the two zero words. -/
theorem idx : ∀ t : Fin (cfg0 words).N, ((cfg0 words).win 0).index t = ![0, t.val, 0]
    ∧ ((cfg0 words).win 1).index t = ![0, t.val, 0] ∧ ((cfg0 words).win 2).index t = ![0, 0, t.val, 0] ∧ ((cfg0 words).win 2).flush t = true := by
  decide +kernel

/-- The same of equal words. -/
theorem idx_of (a : (pcfg0 (F := Ideal)).Adm) (h : a = words) : ∀ t : Fin (cfg0 a).N, ((cfg0 a).win 0).index t = ![0, t.val, 0]
    ∧ ((cfg0 a).win 1).index t = ![0, t.val, 0] ∧ ((cfg0 a).win 2).index t = ![0, 0, t.val, 0] ∧ ((cfg0 a).win 2).flush t = true := by
  subst h; exact idx

section Values

variable (m : (ℓ : Loc nD τ sig) → Buf (Elt Ideal) ℓ)

abbrev ok : Ok m := ok_of m ok_zeros

/-- The launch's words are the zero ones. -/
theorem adm_eq : adm m (ok m) = words := Subtype.ext (tbl_eq m)

/-- What a point leaves in its block of the result. -/
theorem after_apply (c : Dev nD) (t : Fin (cfgM m (ok m)).N) (x0 : FVec Ideal S1x256x2048 .bf16) (x1 : FVec Ideal S3x256x2048 .bf16)
    (h0 : iblk m (ok m) c 0 t = x0) (h1 : iblk m (ok m) c 1 t = x1) (r : Fin 256) (q : Fin 2048) :
    (((dats m (ok m) 0 c).after 2 t : FVec Ideal S1x1x256x2048 .f32) (ix4 0 0 r q) : EReal)
      = (x0 (ix3 0 r q) : EReal) + (x1 (ix3 0 r q) : EReal) + (x1 (ix3 1 r q) : EReal) + (x1 (ix3 2 r q) : EReal) := by
  rw [after0_2]; unfold outsAt0; frame_out
  rw [h0, h1]
  pointwise [k0_pay1]
  simp only [Memref.IsWhole.read_unread]
  rfl

/-- There is one point. -/
theorem lt_points (t : Fin (cfgM m (ok m)).N) : t.val < 1 := t.isLt

/-- The arguments as arrays of extended reals. -/
abbrev part (c : Dev nD) : FVec Ideal S4x256x2048 .bf16 := m ((c.tc : Thread nD τ).loc main_arg0)
abbrev chips (c : Dev nD) : FVec Ideal S3x256x2048 .bf16 := m ((c.tc : Thread nD τ).loc main_arg1)

/-- The block of the own part at point `t`. -/
theorem blk_0 (c : Dev nD) (t : Fin (cfgM m (ok m)).N) (r : Fin 256) (q : Fin 2048) (h : t.val * 256 + r.val < 256) :
    (iblk m (ok m) c 0 t : Vec Ideal S1x256x2048 .bf16) (ix3 0 r q) = part m c (ix3 0 ⟨t.val * 256 + r.val, h⟩ q) := by
  have e := (idx_of _ (adm_eq m) t).1
  refine (congrFun (V_main_arg0 m c) _).trans (congrArg (part m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 2048 + 1 * q.val) (congrFun e (2 : Fin 3))).trans (by simp)

/-- The block of the received parts at point `t`. -/
theorem blk_1 (c : Dev nD) (t : Fin (cfgM m (ok m)).N) (k : Fin 3) (r : Fin 256) (q : Fin 2048) (h : t.val * 256 + r.val < 256) :
    (iblk m (ok m) c 1 t : Vec Ideal S3x256x2048 .bf16) (ix3 k r q) = chips m c (ix3 k ⟨t.val * 256 + r.val, h⟩ q) := by
  have e := (idx_of _ (adm_eq m) t).2.1
  refine (congrFun (V_main_arg1 m c) _).trans (congrArg (chips m c) ?_)
  funext a
  apply Fin.ext
  match a with
  | ⟨0, _⟩ => exact (congrArg (fun n : Nat => n * 3 + 1 * k.val) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 2048 + 1 * q.val) (congrFun e (2 : Fin 3))).trans (by simp)

/-- The sum of the own part and the three received ones. -/
def total (p : FVec Ideal S4x256x2048 .bf16) (x : FVec Ideal S3x256x2048 .bf16) (i : Fin 256) (q : Fin 2048) : EReal :=
  (p (ix3 0 i q) : EReal) + (x (ix3 0 i q) : EReal) + (x (ix3 1 i q) : EReal) + (x (ix3 2 i q) : EReal)

/-- Where an entry of the result's block at point `t` lies in the array. -/
abbrev place (t : Fin (cfgM m (ok m)).N) (y : S1x1x256x2048.Idx) : S1x2x256x2048.Idx := (((cfgM m (ok m)).win 2).blk t).view.emb y

/-- It is the entry `t * 256 + r` of the written half's rows. -/
theorem place_eq (t : Fin (cfgM m (ok m)).N) (r : Fin 256) (q : Fin 2048) (h : t.val * 256 + r.val < 256) :
    place m t (ix4 0 0 r q) = ix4 0 0 ⟨t.val * 256 + r.val, h⟩ q := by
  have e := (idx_of _ (adm_eq m) t).2.2.1
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 256 + 1 * r.val) (congrFun e (2 : Fin 4))).trans (by simp)
  | ⟨3, _⟩ => exact (congrArg (fun n : Nat => n * 2048 + 1 * q.val) (congrFun e (3 : Fin 4))).trans (by simp)

/-- The whole array whose tiles the points write. -/
abbrev whole (c : Dev nD) : FVec Ideal S1x2x256x2048 .f32 := fun z => total (part m c) (chips m c) (z 2) (z 3)

/-- A point writes its tile of it. -/
theorem tile (c : Dev nD) (t : Fin (cfgM m (ok m)).N) (y : S1x1x256x2048.Idx) :
    ((dats m (ok m) 0 c).after 2 t : FVec Ideal S1x1x256x2048 .f32) y = whole m c (place m t y) := by
  obtain ⟨r, q, rfl⟩ : ∃ (r : Fin 256) (q : Fin 2048), y = ix4 0 0 r q := ⟨y 2, y 3, by
    rw [eq_ix4 y]; congr 1 <;> exact Subsingleton.elim (α := Fin 1) _ _⟩
  have hN := lt_points m t
  have hr := r.isLt
  rw [place_eq m t r q (by omega)]
  refine (after_apply m c t _ _ rfl rfl r q).trans ?_
  rw [blk_0 m c t r q (by omega), blk_1 m c t 0 r q (by omega), blk_1 m c t 1 r q (by omega), blk_1 m c t 2 r q (by omega)]
  rfl

/-- The result at its written rows: every one of them is in a tile. -/
theorem arr (c : Dev nD) (i : Fin 256) (q : Fin 2048) :
    ((dats m (ok m) 0 c).arrAt 2 (cfgM m (ok m)).N : FVec Ideal S1x2x256x2048 .f32) (ix4 0 0 i q) = total (part m c) (chips m c) i q := by
  have hi := i.isLt
  let t : Fin (cfgM m (ok m)).N := (⟨i.val / 256, by omega⟩ : Fin 1)
  have hp : place m t (ix4 0 0 (⟨i.val % 256, Nat.mod_lt _ (by decide)⟩ : Fin 256) q) = ix4 0 0 i q :=
    (place_eq m t _ q (show i.val / 256 * 256 + i.val % 256 < 256 by omega)).trans
      (congrArg (fun j : Fin 256 => (ix4 0 0 j q : S1x2x256x2048.Idx)) (Fin.ext (show i.val / 256 * 256 + i.val % 256 = i.val by omega)))
  exact (dats m (ok m) 0 c).arrAt_apply_of_mem 2 (whole m c) (fun t _ => funext (tile m c t)) _ t (ix4 0 0 i q) t.isLt
    (idx_of _ (adm_eq m) t).2.2.2 (hp ▸ View.emb_mem_set _ _)

/-- The result that the host takes out of the array: the half that the call writes. -/
def result (p : FVec Ideal S4x256x2048 .bf16) (x : FVec Ideal S3x256x2048 .bf16) : FVec Ideal S256x2048 .f32 := fun y => total p x (y 0) (y 1)

/-- The host's slice of the array after the call. -/
theorem tail_eq (c : Dev nD) : Pipeline.afterTail pcfgs (fun _ => adm m (ok m)) (dats m (ok m)) 0 (V0 m) [hostOps1] c main_v4 = result (part m c) (chips m c) := by
  unfold Pipeline.afterTail
  simp only [hostOps1, List.flatten_cons, List.flatten_nil, List.append_nil]
  after_results
  have key : ∀ A : FVec Ideal S1x2x256x2048 .f32, (∀ i q, A (ix4 0 0 i q) = total (part m c) (chips m c) i q) →
      shapeCast S256x2048 (extractStridedSlice S1x1x256x2048 ![0, 0, 0, 0] A slices_S1x2x256x2048_S1x1x256x2048_0_0_0_0) shapeCasts_S1x1x256x2048_S256x2048
        = result (part m c) (chips m c) := fun A h => by
    funext y
    obtain ⟨i, q, rfl⟩ : ∃ (i : Fin 256) (q : Fin 2048), y = ix2 i q := ⟨_, _, eq_ix2 y⟩
    refine Eq.trans ?_ (h i q)
    pointwise
  refine key _ fun i q => ?_
  exact (congrFun (Pipeline.withArrays_arr spec0 (launch0 (F := Ideal)).win.arr_inj c _ _ 2) _).trans (arr m c i q)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4) = result (part m c) (chips m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v4 (Pipeline.mem_restRefs_of main_v4 (by decide) (show ∀ w : Fin 3, (spec0 w).arr.view.ref ≠ main_v4 by decide))).trans (tail_eq m c), h.2 c⟩)
    (θ_run_and (run_main m ρ (ok m)) (unchanged m ρ (ok m)))

end Values

/-- The frame of the reference's lines: host code, read off its run. -/
theorem frame_ref : Cert.quiescent_SumOutRefIdeal := fun m ρ _ =>
  (θ_run Cert.SumOutRefIdeal.defs _ _).mono (fun r h => ⟨fun c => (h c).2, Idealize.ShloMosaic.sem_eq_zero_of_no_sems (by decide) r.2⟩)
    (Cert.SumOutRefIdeal.Value.run (F := Ideal) m ρ)

end Cert.SumOutIdeal.Hand

namespace Cert.SumOutRefIdeal.Hand

open Cert.SumOutRefIdeal Cert.SumOutRefIdeal.Gen

/-- The reference's sum over the received parts, added to the own part. -/
theorem ref_eq (p : FVec Ideal S4x256x2048 .bf16) (x : FVec Ideal S3x256x2048 .bf16) :
    addf (extf .f32 (shapeCast S256x2048 (extractStridedSlice S1x256x2048 ![0, 0, 0] p slices_S4x256x2048_S1x256x2048_0_0_0) shapeCasts_S1x256x2048_S256x2048) bitsLt_bf16_f32)
      (Host.reduceAdd (extf .f32 x bitsLt_bf16_f32) (constant (F := Ideal) S_ .f32 0x00000000#32) reducesTo_S3x256x2048_S256x2048_d0 h_S_)
      = Cert.SumOutIdeal.Hand.result p x := by
  funext y
  obtain ⟨i, q, rfl⟩ : ∃ (i : Fin 256) (q : Fin 2048), y = ix2 i q := ⟨_, _, eq_ix2 y⟩
  pointwise [Cert.SumOutIdeal.Hand.result, Cert.SumOutIdeal.Hand.total, Fin.sum_univ_three]
  simp only [zero_add, add_assoc]

end Cert.SumOutRefIdeal.Hand

namespace Cert.SumOutIdeal.Hand

/-- THE VALUE CLAIM: the call and the reference end with the same sum. -/
theorem algebraic : Cert.algebraic_SumOutIdeal_SumOutRefIdeal := by
  intro m g m' g' _ hargs
  refine ⟨_, run m g, ?_⟩
  refine (θ_run _ _ _).mono (fun r h c => ?_) (Cert.SumOutRefIdeal.Value.run (F := Ideal) m' g')
  obtain ⟨e0, e1⟩ := hargs c
  obtain ⟨r0, ra⟩ := h c
  rw [e0, e1] at r0
  exact ⟨r0.trans (Cert.SumOutRefIdeal.Hand.ref_eq _ _), ra⟩

end Cert.SumOutIdeal.Hand
-- ==== Proof.PairPool.lean ====
/- The sum of a sibling pair's parts of a gradient (`add_sibling`), for a block of 256 x 256: every entry of the array that the call
   leaves is the sum of its two parts. -/
module

public import proofs.«01_k».proof.Defs
public import proofs.«01_k».proof.Proof.Gen.PairPool
public import proofs.«01_k».proof.Proof.Gen.PairPool.Frame
public import proofs.«01_k».proof.Proof.Gen.PairPoolIdeal.Frame
public import proofs.«01_k».proof.Proof.Gen.PairPoolRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.PairPool.Hand

open Cert.PairPool Cert.PairPool.Gen

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Bits) zeros := by decide +kernel

/-- The frame of the kernel. -/
theorem frame : Cert.quiescent_PairPool := fun m ρ _ => Gen.frame m ρ (ok_of m ok_zeros)

end Cert.PairPool.Hand

namespace Cert.PairPoolIdeal.Hand

open Cert.PairPoolIdeal Cert.PairPoolIdeal.Gen Cert.Sums
open scoped BigOperators

section Frame

variable {F : FTy → Type} [FloatOps F] (m : (ℓ : Loc nD τ sig) → Buf (Elt F) ℓ)

/-- The prefetched word, the core's number: zero. -/
def zeros : pre0.Contents (Elt F) := fun
  | 0 => (fun _ => 0#32 : (⟨S1, .i32⟩ : BufTy).Contents (Elt F))
  | ⟨_ + 1, h⟩ => absurd h (Nat.not_lt.2 (Nat.le_add_left _ _))

/-- The launch reads that word: the host writes it in front of it. -/
theorem tbl_eq : tbl m = zeros := by
  funext j
  fin_cases j
  show V m 0 main_v0 = _
  unfold V
  simp only [hostOps0, List.flatten_cons, List.flatten_nil, List.append_nil]
  after_results; rfl

/-- So what holds at a zero word holds of the launch. -/
theorem ok_of (h : ok0 (F := F) zeros) : Ok m := (congrArg ok0 (tbl_eq m)).mpr h

end Frame

/-- At a zero word every tile lies in its array. -/
theorem ok_zeros : ok0 (F := Ideal) zeros := by decide +kernel

/-- The frame of its idealized text. -/
theorem frame : Cert.quiescent_PairPoolIdeal := fun m ρ _ => Gen.frame m ρ (ok_of m ok_zeros)

/-- The prefetched word as the pipeline takes it. -/
abbrev words : (pcfg0 (F := Ideal)).Adm := ⟨zeros, ok_zeros⟩

/-- The windows' index maps in closed form, at the zero word. -/
theorem idx : ∀ t : Fin (cfg0 words).N, ((cfg0 words).win 0).index t = ![t.val / 1, 0, t.val % 1, 0]
    ∧ ((cfg0 words).win 1).index t = ![t.val / 1, t.val % 1, 0] ∧ ((cfg0 words).win 2).index t = ![t.val / 1, t.val % 1, 0]
    ∧ ((cfg0 words).win 2).flush t = true := by
  decide +kernel

/-- The same of an equal word. -/
theorem idx_of (a : (pcfg0 (F := Ideal)).Adm) (h : a = words) : ∀ t : Fin (cfg0 a).N, ((cfg0 a).win 0).index t = ![t.val / 1, 0, t.val % 1, 0]
    ∧ ((cfg0 a).win 1).index t = ![t.val / 1, t.val % 1, 0] ∧ ((cfg0 a).win 2).index t = ![t.val / 1, t.val % 1, 0]
    ∧ ((cfg0 a).win 2).flush t = true := by
  subst h; exact idx

section Values

variable (m : (ℓ : Loc nD τ sig) → Buf (Elt Ideal) ℓ)

abbrev ok : Ok m := ok_of m ok_zeros

/-- The launch's word is the zero one. -/
theorem adm_eq : adm m (ok m) = words := Subtype.ext (tbl_eq m)

/-- What a point leaves in its block of the result. -/
theorem after_apply (c : Dev nD) (t : Fin (cfgM m (ok m)).N) (x0 : FVec Ideal S1x1x256x512 .bf16) (x1 : FVec Ideal S1x256x512 .bf16)
    (h0 : iblk m (ok m) c 0 t = x0) (h1 : iblk m (ok m) c 1 t = x1) (r : Fin 256) (q : Fin 512) :
    (((dats m (ok m) 0 c).after 2 t : FVec Ideal S1x256x512 .bf16) (ix3 0 r q) : EReal)
      = (x0 (ix4 0 0 r q) : EReal) + (x1 (ix3 0 r q) : EReal) := by
  rw [after0_2]; unfold outsAt0; frame_out
  rw [h0, h1]
  pointwise [k0_pay1]
  simp only [Memref.IsWhole.read_unread]
  rfl

/-- There are four points. -/
theorem lt_points (t : Fin (cfgM m (ok m)).N) : t.val < 4 := t.isLt

/-- The arguments as arrays of extended reals. -/
abbrev parts (c : Dev nD) : FVec Ideal S4x2x256x512 .bf16 := m ((c.tc : Thread nD τ).loc main_arg0)
abbrev received (c : Dev nD) : FVec Ideal S4x256x512 .bf16 := m ((c.tc : Thread nD τ).loc main_arg1)

/-- The block of the device's own part at point `t`. -/
theorem blk_0 (c : Dev nD) (t : Fin (cfgM m (ok m)).N) (r : Fin 256) (q : Fin 512) (hj : t.val / 1 < 4) (h : t.val % 1 * 256 + r.val < 256) :
    (iblk m (ok m) c 0 t : Vec Ideal S1x1x256x512 .bf16) (ix4 0 0 r q) = parts m c (ix4 ⟨t.val / 1, hj⟩ 0 ⟨t.val % 1 * 256 + r.val, h⟩ q) := by
  have e := (idx_of _ (adm_eq m) t).1
  refine (congrFun (V_main_arg0 m c) _).trans (congrArg (parts m c) ?_)
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 256 + 1 * r.val) (congrFun e (2 : Fin 4))).trans (by simp)
  | ⟨3, _⟩ => exact (congrArg (fun n : Nat => n * 512 + 1 * q.val) (congrFun e (3 : Fin 4))).trans (by simp)

/-- The block of the received part at point `t`. -/
theorem blk_1 (c : Dev nD) (t : Fin (cfgM m (ok m)).N) (r : Fin 256) (q : Fin 512) (hj : t.val / 1 < 4) (h : t.val % 1 * 256 + r.val < 256) :
    (iblk m (ok m) c 1 t : Vec Ideal S1x256x512 .bf16) (ix3 0 r q) = received m c (ix3 ⟨t.val / 1, hj⟩ ⟨t.val % 1 * 256 + r.val, h⟩ q) := by
  have e := (idx_of _ (adm_eq m) t).2.1
  refine (congrFun (V_main_arg1 m c) _).trans (congrArg (received m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 512 + 1 * q.val) (congrFun e (2 : Fin 3))).trans (by simp)

/-- The sum of the own part, at core 0's half of the rows, and the received one. -/
def result (p : FVec Ideal S4x2x256x512 .bf16) (x : FVec Ideal S4x256x512 .bf16) : FVec Ideal S4x256x512 .bf16 := fun y =>
  ((p (ix4 (y 0) 0 (y 1) (y 2)) : EReal) + (x y : EReal) : EReal)

/-- Where an entry of the result's block at point `t` lies in the array. -/
abbrev place (t : Fin (cfgM m (ok m)).N) (y : S1x256x512.Idx) : S4x256x512.Idx := (((cfgM m (ok m)).win 2).blk t).view.emb y

/-- It is the entry `t % 1 * 256 + r` of the rows of the chip `t / 1`. -/
theorem place_eq (t : Fin (cfgM m (ok m)).N) (r : Fin 256) (q : Fin 512) (hj : t.val / 1 < 4) (h : t.val % 1 * 256 + r.val < 256) :
    place m t (ix3 0 r q) = ix3 ⟨t.val / 1, hj⟩ ⟨t.val % 1 * 256 + r.val, h⟩ q := by
  have e := (idx_of _ (adm_eq m) t).2.2.1
  funext a
  apply Fin.ext
  match a with
  | ⟨0, _⟩ => exact (congrArg (fun n : Nat => n * 1 + 1 * 0) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 512 + 1 * q.val) (congrFun e (2 : Fin 3))).trans (by simp)

/-- A point writes its tile of the sum. -/
theorem tile (c : Dev nD) (t : Fin (cfgM m (ok m)).N) (y : S1x256x512.Idx) :
    ((dats m (ok m) 0 c).after 2 t : FVec Ideal S1x256x512 .bf16) y = result (parts m c) (received m c) (place m t y) := by
  obtain ⟨r, q, rfl⟩ : ∃ (r : Fin 256) (q : Fin 512), y = ix3 0 r q := ⟨y 1, y 2, by
    rw [eq_ix3 y]; congr 1; exact Subsingleton.elim (α := Fin 1) _ _⟩
  have hN := lt_points m t
  have hr := r.isLt
  rw [place_eq m t r q (by omega) (by omega)]
  refine (after_apply m c t _ _ rfl rfl r q).trans ?_
  rw [blk_0 m c t r q (by omega) (by omega), blk_1 m c t r q (by omega) (by omega)]
  rfl

/-- The array: every entry is in the tile of a point. -/
theorem arr (c : Dev nD) : ((dats m (ok m) 0 c).arrAt 2 (cfgM m (ok m)).N : FVec Ideal S4x256x512 .bf16) = result (parts m c) (received m c) := by
  funext y
  obtain ⟨j, i, q, rfl⟩ : ∃ (j : Fin 4) (i : Fin 256) (q : Fin 512), y = ix3 j i q := ⟨_, _, _, eq_ix3 y⟩
  have hi := i.isLt
  have hj := j.isLt
  let t : Fin (cfgM m (ok m)).N := (⟨j.val * 1 + i.val / 256, by omega⟩ : Fin 4)
  have ht : t.val = j.val * 1 + i.val / 256 := rfl
  have hp : place m t (ix3 0 (⟨i.val % 256, Nat.mod_lt _ (by decide)⟩ : Fin 256) q) = ix3 j i q :=
    (place_eq m t _ q (by omega) (show t.val % 1 * 256 + i.val % 256 < 256 by omega)).trans
      (congrArg₂ (fun (j : Fin 4) (i : Fin 256) => (ix3 j i q : S4x256x512.Idx)) (Fin.ext (show t.val / 1 = j.val by omega))
        (Fin.ext (show t.val % 1 * 256 + i.val % 256 = i.val by omega)))
  exact (dats m (ok m) 0 c).arrAt_apply_of_mem 2 (result (parts m c) (received m c)) (fun t _ => funext (tile m c t)) _ t (ix3 j i q) t.isLt
    (idx_of _ (adm_eq m) t).2.2.2 (hp ▸ View.emb_mem_set _ _)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v1) = result (parts m c) (received m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr m c), h.2 c⟩)
    (θ_run_and (run_main m ρ (ok m)) (unchanged m ρ (ok m)))

end Values

/-- The frame of the reference's lines: host code, read off its run. -/
theorem frame_ref : Cert.quiescent_PairPoolRefIdeal := fun m ρ _ =>
  (θ_run Cert.PairPoolRefIdeal.defs _ _).mono (fun r h => ⟨fun c => (h c).2, Idealize.ShloMosaic.sem_eq_zero_of_no_sems (by decide) r.2⟩)
    (Cert.PairPoolRefIdeal.Value.run (F := Ideal) m ρ)

end Cert.PairPoolIdeal.Hand

namespace Cert.PairPoolRefIdeal.Hand

open Cert.PairPoolRefIdeal Cert.PairPoolRefIdeal.Gen

/-- The reference's sum, with its casts. -/
theorem ref_eq (p : FVec Ideal S4x2x256x512 .bf16) (x : FVec Ideal S4x256x512 .bf16) :
    truncf .bf16 (addf (extf .f32 (shapeCast S4x256x512 (extractStridedSlice S4x1x256x512 ![0, 0, 0, 0] p slices_S4x2x256x512_S4x1x256x512_0_0_0_0) shapeCasts_S4x1x256x512_S4x256x512) bitsLt_bf16_f32)
      (extf .f32 x bitsLt_bf16_f32)) bitsLt_bf16_f32
      = Cert.PairPoolIdeal.Hand.result p x := by
  funext y
  obtain ⟨j, i, q, rfl⟩ : ∃ (j : Fin 4) (i : Fin 256) (q : Fin 512), y = ix3 j i q := ⟨_, _, _, eq_ix3 y⟩
  pointwise [Cert.PairPoolIdeal.Hand.result]

end Cert.PairPoolRefIdeal.Hand

namespace Cert.PairPoolIdeal.Hand

/-- THE VALUE CLAIM: the call and the reference end with the same sum. -/
theorem algebraic : Cert.algebraic_PairPoolIdeal_PairPoolRefIdeal := by
  intro m g m' g' _ hargs
  refine ⟨_, run m g, ?_⟩
  refine (θ_run _ _ _).mono (fun r h c => ?_) (Cert.PairPoolRefIdeal.Value.run (F := Ideal) m' g')
  obtain ⟨e0, e1⟩ := hargs c
  obtain ⟨r0, ra⟩ := h c
  rw [e0, e1] at r0
  exact ⟨r0.trans (Cert.PairPoolRefIdeal.Hand.ref_eq _ _), ra⟩

end Cert.PairPoolIdeal.Hand
-- ==== Proof.SumPool.lean ====
/- The sum of the parts of a gradient that the four chips hold (`add_chips`), for a block of 256 x 256: the array that the call leaves
   holds it at the rows that the device sums. -/
module

public import proofs.«01_k».proof.Defs
public import proofs.«01_k».proof.Proof.Gen.SumPool
public import proofs.«01_k».proof.Proof.Gen.SumPool.Frame
public import proofs.«01_k».proof.Proof.Gen.SumPoolIdeal.Frame
public import proofs.«01_k».proof.Proof.Gen.SumPoolRefIdeal.Run
public import Idealize.ShloMosaic.Lib.Pipeline.ValueKit
public import Idealize.ShloMosaic.Lib.Quiescent
public import Idealize.ShloMosaic.Lib.Tactic
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.SumPool.Hand

open Cert.SumPool Cert.SumPool.Gen

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Bits) zeros := by decide +kernel

/-- The frame of the kernel. -/
theorem frame : Cert.quiescent_SumPool := fun m ρ _ => Gen.frame m ρ (ok_of m ok_zeros)

end Cert.SumPool.Hand

namespace Cert.SumPoolIdeal.Hand

open Cert.SumPoolIdeal Cert.SumPoolIdeal.Gen Cert.Sums
open scoped BigOperators

section Frame

variable {F : FTy → Type} [FloatOps F] (m : (ℓ : Loc nD τ sig) → Buf (Elt F) ℓ)

/-- The two prefetched words, the chip's and the core's number: both zero. -/
def zeros : pre0.Contents (Elt F) := fun
  | 0 => (fun _ => 0#32 : (⟨S1, .i32⟩ : BufTy).Contents (Elt F))
  | 1 => (fun _ => 0#32 : (⟨S1, .i32⟩ : BufTy).Contents (Elt F))
  | ⟨_ + 2, h⟩ => absurd h (Nat.not_lt.2 (Nat.le_add_left _ _))

/-- The launch reads those words: the host writes them in front of it. -/
theorem tbl_eq : tbl m = zeros := by
  funext j
  fin_cases j
  · show V m 0 main_v0 = _
    unfold V V0
    simp only [hostOps0, List.flatten_cons, List.flatten_nil, List.append_nil]
    after_results; rfl
  · show V m 0 main_v1 = _
    unfold V V0
    simp only [hostOps0, List.flatten_cons, List.flatten_nil, List.append_nil]
    after_results; rfl

/-- So what holds at zero words holds of the launch. -/
theorem ok_of (h : ok0 (F := F) zeros) : Ok m := (congrArg ok0 (tbl_eq m)).mpr h

end Frame

/-- At zero words every tile lies in its array. -/
theorem ok_zeros : ok0 (F := Ideal) zeros := by decide +kernel

/-- The frame of its idealized text. -/
theorem frame : Cert.quiescent_SumPoolIdeal := fun m ρ _ => Gen.frame m ρ (ok_of m ok_zeros)

/-- The prefetched words as the pipeline takes them. -/
abbrev words : (pcfg0 (F := Ideal)).Adm := ⟨zeros, ok_zeros⟩

/-- The windows' index maps in closed form, at the two zero words. -/
theorem idx : ∀ t : Fin (cfg0 words).N, ((cfg0 words).win 0).index t = ![0, t.val, 0]
    ∧ ((cfg0 words).win 1).index t = ![0, t.val, 0] ∧ ((cfg0 words).win 2).index t = ![0, 0, t.val, 0] ∧ ((cfg0 words).win 2).flush t = true := by
  decide +kernel

/-- The same of equal words. -/
theorem idx_of (a : (pcfg0 (F := Ideal)).Adm) (h : a = words) : ∀ t : Fin (cfg0 a).N, ((cfg0 a).win 0).index t = ![0, t.val, 0]
    ∧ ((cfg0 a).win 1).index t = ![0, t.val, 0] ∧ ((cfg0 a).win 2).index t = ![0, 0, t.val, 0] ∧ ((cfg0 a).win 2).flush t = true := by
  subst h; exact idx

section Values

variable (m : (ℓ : Loc nD τ sig) → Buf (Elt Ideal) ℓ)

abbrev ok : Ok m := ok_of m ok_zeros

/-- The launch's words are the zero ones. -/
theorem adm_eq : adm m (ok m) = words := Subtype.ext (tbl_eq m)

/-- What a point leaves in its block of the result. -/
theorem after_apply (c : Dev nD) (t : Fin (cfgM m (ok m)).N) (x0 : FVec Ideal S1x256x512 .bf16) (x1 : FVec Ideal S3x256x512 .bf16)
    (h0 : iblk m (ok m) c 0 t = x0) (h1 : iblk m (ok m) c 1 t = x1) (r : Fin 256) (q : Fin 512) :
    (((dats m (ok m) 0 c).after 2 t : FVec Ideal S1x1x256x512 .f32) (ix4 0 0 r q) : EReal)
      = (x0 (ix3 0 r q) : EReal) + (x1 (ix3 0 r q) : EReal) + (x1 (ix3 1 r q) : EReal) + (x1 (ix3 2 r q) : EReal) := by
  rw [after0_2]; unfold outsAt0; frame_out
  rw [h0, h1]
  pointwise [k0_pay1]
  simp only [Memref.IsWhole.read_unread]
  rfl

/-- There is one point. -/
theorem lt_points (t : Fin (cfgM m (ok m)).N) : t.val < 1 := t.isLt

/-- The arguments as arrays of extended reals. -/
abbrev part (c : Dev nD) : FVec Ideal S4x256x512 .bf16 := m ((c.tc : Thread nD τ).loc main_arg0)
abbrev chips (c : Dev nD) : FVec Ideal S3x256x512 .bf16 := m ((c.tc : Thread nD τ).loc main_arg1)

/-- The block of the own part at point `t`. -/
theorem blk_0 (c : Dev nD) (t : Fin (cfgM m (ok m)).N) (r : Fin 256) (q : Fin 512) (h : t.val * 256 + r.val < 256) :
    (iblk m (ok m) c 0 t : Vec Ideal S1x256x512 .bf16) (ix3 0 r q) = part m c (ix3 0 ⟨t.val * 256 + r.val, h⟩ q) := by
  have e := (idx_of _ (adm_eq m) t).1
  refine (congrFun (V_main_arg0 m c) _).trans (congrArg (part m c) ?_)
  funext a
  apply Fin.ext
  match a with
  | ⟨0, _⟩ => exact (congrArg (fun n : Nat => n * 1 + 1 * 0) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 512 + 1 * q.val) (congrFun e (2 : Fin 3))).trans (by simp)

/-- The block of the received parts at point `t`. -/
theorem blk_1 (c : Dev nD) (t : Fin (cfgM m (ok m)).N) (k : Fin 3) (r : Fin 256) (q : Fin 512) (h : t.val * 256 + r.val < 256) :
    (iblk m (ok m) c 1 t : Vec Ideal S3x256x512 .bf16) (ix3 k r q) = chips m c (ix3 k ⟨t.val * 256 + r.val, h⟩ q) := by
  have e := (idx_of _ (adm_eq m) t).2.1
  refine (congrFun (V_main_arg1 m c) _).trans (congrArg (chips m c) ?_)
  funext a
  apply Fin.ext
  match a with
  | ⟨0, _⟩ => exact (congrArg (fun n : Nat => n * 3 + 1 * k.val) (congrFun e (0 : Fin 3))).trans (by simp)
  | ⟨1, _⟩ => exact (congrArg (fun n : Nat => n * 256 + 1 * r.val) (congrFun e (1 : Fin 3))).trans (by simp)
  | ⟨2, _⟩ => exact (congrArg (fun n : Nat => n * 512 + 1 * q.val) (congrFun e (2 : Fin 3))).trans (by simp)

/-- The sum of the own part and the three received ones. -/
def total (p : FVec Ideal S4x256x512 .bf16) (x : FVec Ideal S3x256x512 .bf16) (i : Fin 256) (q : Fin 512) : EReal :=
  (p (ix3 0 i q) : EReal) + (x (ix3 0 i q) : EReal) + (x (ix3 1 i q) : EReal) + (x (ix3 2 i q) : EReal)

/-- Where an entry of the result's block at point `t` lies in the array. -/
abbrev place (t : Fin (cfgM m (ok m)).N) (y : S1x1x256x512.Idx) : S1x2x256x512.Idx := (((cfgM m (ok m)).win 2).blk t).view.emb y

/-- It is the entry `t * 256 + r` of the written half's rows. -/
theorem place_eq (t : Fin (cfgM m (ok m)).N) (r : Fin 256) (q : Fin 512) (h : t.val * 256 + r.val < 256) :
    place m t (ix4 0 0 r q) = ix4 0 0 ⟨t.val * 256 + r.val, h⟩ q := by
  have e := (idx_of _ (adm_eq m) t).2.2.1
  funext a
  apply Fin.ext
  match a with
  | ⟨0, _⟩ => exact (congrArg (fun n : Nat => n * 1 + 1 * 0) (congrFun e (0 : Fin 4))).trans (by simp)
  | ⟨1, _⟩ => exact (congrArg (fun n : Nat => n * 1 + 1 * 0) (congrFun e (1 : Fin 4))).trans (by simp)
  | ⟨2, _⟩ => exact (congrArg (fun n : Nat => n * 256 + 1 * r.val) (congrFun e (2 : Fin 4))).trans (by simp)
  | ⟨3, _⟩ => exact (congrArg (fun n : Nat => n * 512 + 1 * q.val) (congrFun e (3 : Fin 4))).trans (by simp)

/-- The whole array whose tiles the points write. -/
abbrev whole (c : Dev nD) : FVec Ideal S1x2x256x512 .f32 := fun z => total (part m c) (chips m c) (z 2) (z 3)

/-- A point writes its tile of it. -/
theorem tile (c : Dev nD) (t : Fin (cfgM m (ok m)).N) (y : S1x1x256x512.Idx) :
    ((dats m (ok m) 0 c).after 2 t : FVec Ideal S1x1x256x512 .f32) y = whole m c (place m t y) := by
  obtain ⟨r, q, rfl⟩ : ∃ (r : Fin 256) (q : Fin 512), y = ix4 0 0 r q := ⟨y 2, y 3, by
    rw [eq_ix4 y]; congr 1 <;> exact Subsingleton.elim (α := Fin 1) _ _⟩
  have hN := lt_points m t
  have hr := r.isLt
  rw [place_eq m t r q (by omega)]
  refine (after_apply m c t _ _ rfl rfl r q).trans ?_
  rw [blk_0 m c t r q (by omega), blk_1 m c t 0 r q (by omega), blk_1 m c t 1 r q (by omega), blk_1 m c t 2 r q (by omega)]
  rfl

/-- The result at its written rows: every one of them is in a tile. -/
theorem arr (c : Dev nD) (i : Fin 256) (q : Fin 512) :
    ((dats m (ok m) 0 c).arrAt 2 (cfgM m (ok m)).N : FVec Ideal S1x2x256x512 .f32) (ix4 0 0 i q) = total (part m c) (chips m c) i q := by
  have hi := i.isLt
  let t : Fin (cfgM m (ok m)).N := (⟨i.val / 256, by omega⟩ : Fin 1)
  have hp : place m t (ix4 0 0 (⟨i.val % 256, Nat.mod_lt _ (by decide)⟩ : Fin 256) q) = ix4 0 0 i q :=
    (place_eq m t _ q (show i.val / 256 * 256 + i.val % 256 < 256 by omega)).trans
      (congrArg (fun j : Fin 256 => (ix4 0 0 j q : S1x2x256x512.Idx)) (Fin.ext (show i.val / 256 * 256 + i.val % 256 = i.val by omega)))
  exact (dats m (ok m) 0 c).arrAt_apply_of_mem 2 (whole m c) (fun t _ => funext (tile m c t)) _ t (ix4 0 0 i q) t.isLt
    (idx_of _ (adm_eq m) t).2.2.2 (hp ▸ View.emb_mem_set _ _)

/-- The result that the host takes out of the array: the half that the call writes. -/
def result (p : FVec Ideal S4x256x512 .bf16) (x : FVec Ideal S3x256x512 .bf16) : FVec Ideal S256x512 .f32 := fun y => total p x (y 0) (y 1)

/-- The host's slice of the array after the call. -/
theorem tail_eq (c : Dev nD) : Pipeline.afterTail pcfgs (fun _ => adm m (ok m)) (dats m (ok m)) 0 (V0 m) [hostOps1] c main_v4 = result (part m c) (chips m c) := by
  unfold Pipeline.afterTail
  simp only [hostOps1, List.flatten_cons, List.flatten_nil, List.append_nil]
  after_results
  have key : ∀ A : FVec Ideal S1x2x256x512 .f32, (∀ i q, A (ix4 0 0 i q) = total (part m c) (chips m c) i q) →
      shapeCast S256x512 (extractStridedSlice S1x1x256x512 ![0, 0, 0, 0] A slices_S1x2x256x512_S1x1x256x512_0_0_0_0) shapeCasts_S1x1x256x512_S256x512
        = result (part m c) (chips m c) := fun A h => by
    funext y
    obtain ⟨i, q, rfl⟩ : ∃ (i : Fin 256) (q : Fin 512), y = ix2 i q := ⟨_, _, eq_ix2 y⟩
    refine Eq.trans ?_ (h i q)
    pointwise
  refine key _ fun i q => ?_
  exact (congrFun (Pipeline.withArrays_arr spec0 (launch0 (F := Ideal)).win.arr_inj c _ _ 2) _).trans (arr m c i q)

/-- THE RUN: the result is the sum, and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4) = result (part m c) (chips m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v4 (Pipeline.mem_restRefs_of main_v4 (by decide) (show ∀ w : Fin 3, (spec0 w).arr.view.ref ≠ main_v4 by decide))).trans (tail_eq m c), h.2 c⟩)
    (θ_run_and (run_main m ρ (ok m)) (unchanged m ρ (ok m)))

end Values

/-- The frame of the reference's lines: host code, read off its run. -/
theorem frame_ref : Cert.quiescent_SumPoolRefIdeal := fun m ρ _ =>
  (θ_run Cert.SumPoolRefIdeal.defs _ _).mono (fun r h => ⟨fun c => (h c).2, Idealize.ShloMosaic.sem_eq_zero_of_no_sems (by decide) r.2⟩)
    (Cert.SumPoolRefIdeal.Value.run (F := Ideal) m ρ)

end Cert.SumPoolIdeal.Hand

namespace Cert.SumPoolRefIdeal.Hand

open Cert.SumPoolRefIdeal Cert.SumPoolRefIdeal.Gen

/-- The reference's sum over the received parts, added to the own part. -/
theorem ref_eq (p : FVec Ideal S4x256x512 .bf16) (x : FVec Ideal S3x256x512 .bf16) :
    addf (extf .f32 (shapeCast S256x512 (extractStridedSlice S1x256x512 ![0, 0, 0] p slices_S4x256x512_S1x256x512_0_0_0) shapeCasts_S1x256x512_S256x512) bitsLt_bf16_f32)
      (Host.reduceAdd (extf .f32 x bitsLt_bf16_f32) (constant (F := Ideal) S_ .f32 0x00000000#32) reducesTo_S3x256x512_S256x512_d0 h_S_)
      = Cert.SumPoolIdeal.Hand.result p x := by
  funext y
  obtain ⟨i, q, rfl⟩ : ∃ (i : Fin 256) (q : Fin 512), y = ix2 i q := ⟨_, _, eq_ix2 y⟩
  pointwise [Cert.SumPoolIdeal.Hand.result, Cert.SumPoolIdeal.Hand.total, Fin.sum_univ_three]
  simp only [zero_add, add_assoc]

end Cert.SumPoolRefIdeal.Hand

namespace Cert.SumPoolIdeal.Hand

/-- THE VALUE CLAIM: the call and the reference end with the same sum. -/
theorem algebraic : Cert.algebraic_SumPoolIdeal_SumPoolRefIdeal := by
  intro m g m' g' _ hargs
  refine ⟨_, run m g, ?_⟩
  refine (θ_run _ _ _).mono (fun r h c => ?_) (Cert.SumPoolRefIdeal.Value.run (F := Ideal) m' g')
  obtain ⟨e0, e1⟩ := hargs c
  obtain ⟨r0, ra⟩ := h c
  rw [e0, e1] at r0
  exact ⟨r0.trans (Cert.SumPoolRefIdeal.Hand.ref_eq _ _), ra⟩

end Cert.SumPoolIdeal.Hand
-- ==== Proof.PoolMix.lean ====
/- The pooling layer's product, `x + (pooled · w + bias) · scale` on the rows from 48 on, group by group: every tile of the call is a block
   of rows of one group of columns. -/
module

public import proofs.«01_k».proof.Defs
public import proofs.«01_k».proof.Proof.Products
public import proofs.«01_k».proof.Proof.Gen.PoolMixIdeal.Value
public import proofs.«01_k».proof.Proof.Gen.PoolMixRefIdeal.Run
public import Idealize.ShloMosaic.Lib.Pipeline.ValueKit
public import Idealize.ShloMosaic.Lib.Quiescent
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.PoolMixIdeal.Hand

open Cert.PoolMixIdeal Cert.PoolMixIdeal.Gen Cert.PoolMixIdeal.Value Cert.Sums Cert.Products
open scoped BigOperators

/-- A word of a small number, as an integer. -/
theorem word_toInt (n : ℕ) (hn : n < 2112) : (BitVec.ofNat 32 n).toInt = ((n : ℕ) : ℤ) := by
  have e : (BitVec.ofNat 32 n).toNat = n := by
    rw [BitVec.toNat_ofNat, Nat.mod_eq_of_lt (by omega)]
  rw [BitVec.toInt_eq_toNat_of_lt (by rw [e]; omega), e]

/-- The mask's word at a row: it is set from row 48 on. -/
theorem live_row (n : ℕ) (hn : n < 2112) : IntOp.cmpi .sge (BitVec.ofNat 32 n) 48#32 = BitVec.ofBool (decide (48 ≤ n)) := by
  unfold IntOp.cmpi
  congr 1
  simp only [BitVec.sle, decide_eq_decide]
  rw [word_toInt n hn]
  show (48 : ℤ) ≤ _ ↔ _
  omega

/-- The same as a tile's row has it. -/
theorem live_word (t r : ℕ) (ht : t < 6) (hr : r < 352) :
    IntOp.cmpi .sge (IntOp.addi (BitVec.ofNat 32 r) (IntOp.muli (BitVec.ofNat 32 t) 352#32)) 48#32 = BitVec.ofBool (decide (48 ≤ t * 352 + r)) := by
  have h : IntOp.addi (BitVec.ofNat 32 r) (IntOp.muli (BitVec.ofNat 32 t) 352#32) = BitVec.ofNat 32 (t * 352 + r) := by
    apply BitVec.eq_of_toNat_eq
    simp [IntOp.addi, IntOp.muli]
    omega
  rw [h, live_row _ (by omega)]

/-- An entry of the result at natural coordinates. -/
def entry (p : FVec Ideal S2112x2048 .bf16) (x : FVec Ideal S2112x2048 .f32) (w : FVec Ideal S4x512x512 .bf16) (b s : FVec Ideal S1x2048 .f32)
    (i j : ℕ) : EReal :=
  at2 x i j + if 48 ≤ i then ((∑ k : Fin 512, at2 p i (j / 512 * 512 + k.val) * at3 w (j / 512) k.val (j % 512)) + at2 b 0 j) * at2 s 0 j else 0

end Cert.PoolMixIdeal.Hand

namespace Cert.PoolMixRefIdeal.Hand

open Cert.PoolMixRefIdeal Cert.PoolMixRefIdeal.Gen Cert.PoolMixIdeal.Hand Cert.Sums Cert.Products
open scoped BigOperators

variable (p : FVec Ideal S2112x2048 .bf16) (x : FVec Ideal S2112x2048 .f32) (w : FVec Ideal S4x512x512 .bf16) (b s : FVec Ideal S1x2048 .f32)

/-- The groups' products with the bias, side by side. -/
def refY : FVec Ideal S2112x2048 .f32 := shapeCast _ (addf (transpose S2112x4x512 [2, 0, 1] (Host.dotGeneral dot_S4x512x512_S2112x4x512_S4x512x2112_1_2_2_0_0_1 none w (shapeCast _ p shapeCasts_S2112x2048_S2112x4x512)) transposes_S4x512x2112_S2112x4x512_2_0_1) (broadcastInDim S2112x4x512 ![0, 1, 2] bcast_S1x4x512_S2112x4x512_0_1_2 (broadcastInDim S1x4x512 ![1, 2] bcast_S4x512_S1x4x512_1_2 (shapeCast _ b shapeCasts_S1x2048_S4x512)))) shapeCasts_S2112x4x512_S2112x2048

/-- The same at an index. -/
theorem refY_apply (i : Fin 2112) (j : Fin 2048) : refY p w b (ix2 i j) =
    (∑ k : Fin 512, at2 p i.val (j.val / 512 * 512 + k.val) * at3 w (j.val / 512) k.val (j.val % 512)) + at2 b 0 j.val := by
  unfold refY
  pointwise
  rw [eq_at2 b]
  refine congrArg (· + _) (Finset.sum_congr rfl fun k _ => ?_)
  rw [eq_at2 p, eq_at3 w, mul_comm]

/-- The rows from 48 on. -/
def refLive : IVec S2112x2048 1 := broadcastInDim S2112x2048 ![0, 1] bcast_S2112x1_S2112x2048_0_1 (cmpi .sge (broadcastInDim S2112x1 ![0] bcast_S2112_S2112x1_0 (iotaInDim S2112 32 0)) (broadcastInDim S2112x1 ![] bcast_S_S2112x1 (constantI S_ 32 48#32)))

/-- The same at an index. -/
theorem refLive_apply (i : Fin 2112) (j : Fin 2048) : refLive (ix2 i j) = BitVec.ofBool (decide (48 ≤ i.val)) := by
  refine Eq.trans ?_ (live_row i.val i.isLt)
  unfold refLive
  pointwise
  try rfl

/-- The number in the rows above is zero. -/
theorem pad_zero : constant (F := Ideal) S_ .f32 0x00000000#32 ix0 = (0 : EReal) := by
  pointwise

/-- The reference's term, entry by entry. -/
theorem ref_eq : addf (F := Ideal) x (select refLive (mulf (refY p w b) (broadcastInDim S2112x2048 ![0, 1] bcast_S1x2048_S2112x2048_0_1 s)) (broadcastInDim S2112x2048 ![] bcast_S_S2112x2048 (id (constant (F := Ideal) S_ .f32 0x00000000#32))))
      = ofEntries 2112 2048 (entry p x w b s) := by
  funext y
  obtain ⟨i, j, rfl⟩ : ∃ (i : Fin 2112) (j : Fin 2048), y = ix2 i j := ⟨_, _, eq_ix2 y⟩
  show _ = at2 x i.val j.val + ite _ ((_ + at2 b 0 j.val) * at2 s 0 j.val) 0
  pointwise
  rw [refLive_apply, refY_apply, eq_at2 x, eq_at2 s]
  refine congrArg _ ?_
  by_cases hl : 48 ≤ i.val
  · rw [if_pos hl, decide_eq_true hl]
    rfl
  · rw [if_neg hl, decide_eq_false hl]
    exact pad_zero

end Cert.PoolMixRefIdeal.Hand

namespace Cert.PoolMixIdeal.Hand

open Cert.PoolMixIdeal Cert.PoolMixIdeal.Gen Cert.PoolMixIdeal.Value Cert.Sums Cert.Products
open scoped BigOperators

variable (m : (ℓ : Loc nD τ sig) → Buf (Elt Ideal) ℓ)

/-! ## A tile -/

/-- A tile's entry. -/
theorem tile_apply (i : grid0.Coords) (p : FVec Ideal S352x512 .bf16) (w : FVec Ideal S1x512x512 .bf16) (b s : FVec Ideal S1x512 .f32) (x : FVec Ideal S352x512 .f32) (r : Fin 352) (q : Fin 512) :
    k0_pay1 (F := Ideal) i p w b s x (ix2 r q) = x (ix2 r q) + if 48 ≤ (i 1).val * 352 + r.val then
      ((∑ k : Fin 512, p (ix2 r k) * w (ix3 0 k q)) + b (ix2 0 q)) * s (ix2 0 q) else 0 := by
  have h := live_word (i 1).val r.val (i 1).isLt r.isLt
  pointwise [k0_pay1]
  refine congrArg _ ?_
  refine (congrArg (fun b => Scalar.select b _ _) h).trans ?_
  by_cases hl : 48 ≤ (i 1).val * 352 + r.val
  · rw [if_pos hl, decide_eq_true hl]
    try rfl
  · rw [if_neg hl, decide_eq_false hl]
    try rfl

/-- What a point leaves in its block of the result. -/
theorem after_apply (c : Dev nD) (t : Fin cfg0.N) :
    (dats m 0 c).after 5 t = k0_pay1 (grid0.coords t) (iblk m c 0 t) (iblk m c 2 t) (iblk m c 3 t) (iblk m c 4 t) (iblk m c 1 t) := by
  rw [after0_5]; unfold out0_5; frame_out

/-! ## The tiles' places -/

/-- The arguments as arrays of extended reals. -/
abbrev aP (c : Dev nD) : FVec Ideal S2112x2048 .bf16 := m ((c.tc : Thread nD τ).loc main_arg0)
abbrev aX (c : Dev nD) : FVec Ideal S2112x2048 .f32 := m ((c.tc : Thread nD τ).loc main_arg1)
abbrev aW (c : Dev nD) : FVec Ideal S4x512x512 .bf16 := m ((c.tc : Thread nD τ).loc main_arg2)
abbrev aB (c : Dev nD) : FVec Ideal S1x2048 .f32 := m ((c.tc : Thread nD τ).loc main_arg3)
abbrev aS (c : Dev nD) : FVec Ideal S1x2048 .f32 := m ((c.tc : Thread nD τ).loc main_arg4)

theorem lt_points (t : Fin cfg0.N) : t.val < 24 := lt_of_lt_of_eq t.isLt N_0

/-- A point's tile of rows. -/
theorem coord (t : Fin cfg0.N) : (grid0.coords t 1).val = t.val % 6 := (by decide +kernel : ∀ t : Fin grid0.N, (grid0.coords t 1).val = t.val % 6) t

/-- The windows' index maps in closed form. -/
theorem idx_0 : ∀ t : Fin cfg0.N, win0_0.index t 0 = t.val % 6 ∧ win0_0.index t 1 = t.val / 6 :=
  (by decide +kernel : ∀ t : Fin grid0.N, _)
theorem idx_1 : ∀ t : Fin cfg0.N, win0_1.index t 0 = t.val % 6 ∧ win0_1.index t 1 = t.val / 6 :=
  (by decide +kernel : ∀ t : Fin grid0.N, _)
theorem idx_2 : ∀ t : Fin cfg0.N, win0_2.index t 0 = t.val / 6 ∧ win0_2.index t 1 = 0 ∧ win0_2.index t 2 = 0 :=
  (by decide +kernel : ∀ t : Fin grid0.N, _)
theorem idx_3 : ∀ t : Fin cfg0.N, win0_3.index t 0 = 0 ∧ win0_3.index t 1 = t.val / 6 :=
  (by decide +kernel : ∀ t : Fin grid0.N, _)
theorem idx_4 : ∀ t : Fin cfg0.N, win0_4.index t 0 = 0 ∧ win0_4.index t 1 = t.val / 6 :=
  (by decide +kernel : ∀ t : Fin grid0.N, _)
theorem idx_5 : ∀ t : Fin cfg0.N, win0_5.index t 0 = t.val % 6 ∧ win0_5.index t 1 = t.val / 6 :=
  (by decide +kernel : ∀ t : Fin grid0.N, _)

/-- The block of `aP` at point `t`. -/
theorem blk_0 (c : Dev nD) (t : Fin cfg0.N) (r : Fin 352) (k : Fin 512) :
    (iblk m c 0 t : Vec Ideal S352x512 .bf16) (ix2 r k) = at2 (aP m c) (t.val % 6 * 352 + r.val) (t.val / 6 * 512 + k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 352 + 1 * r.val = _; rw [(idx_0 t).1]; simp
  | ⟨1, _⟩ => show win0_0.index t 1 * 512 + 1 * k.val = _; rw [(idx_0 t).2]; simp

/-- The block of `aX` at point `t`. -/
theorem blk_1 (c : Dev nD) (t : Fin cfg0.N) (r : Fin 352) (k : Fin 512) :
    (iblk m c 1 t : Vec Ideal S352x512 .f32) (ix2 r k) = at2 (aX m c) (t.val % 6 * 352 + r.val) (t.val / 6 * 512 + k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 352 + 1 * r.val = _; rw [(idx_1 t).1]; simp
  | ⟨1, _⟩ => show win0_1.index t 1 * 512 + 1 * k.val = _; rw [(idx_1 t).2]; simp

/-- The block of `aW` at point `t`. -/
theorem blk_2 (c : Dev nD) (t : Fin cfg0.N) (z : Fin 1) (r : Fin 512) (k : Fin 512) :
    (iblk m c 2 t : Vec Ideal S1x512x512 .bf16) (ix3 z r k) = at3 (aW m c) (t.val / 6) r.val k.val := by
  have hN := lt_points t
  have hz : z.val = 0 := by omega
  rw [at3_of_lt _ (by omega) (by omega) (by omega)]
  unfold iblk
  rw [View.read_apply]
  refine (congrFun (V_main_arg2 m c) _).trans (congrArg (m ((c.tc : Thread nD τ).loc main_arg2)) ?_)
  funext a
  apply Fin.ext
  match a with
  | ⟨0, _⟩ => show win0_2.index t 0 * 1 + 1 * z.val = _; rw [(idx_2 t).1, hz]; simp
  | ⟨1, _⟩ => show win0_2.index t 1 * 512 + 1 * r.val = _; rw [(idx_2 t).2.1]; simp
  | ⟨2, _⟩ => show win0_2.index t 2 * 512 + 1 * k.val = _; rw [(idx_2 t).2.2]; simp

/-- The block of `aB` at point `t`. -/
theorem blk_3 (c : Dev nD) (t : Fin cfg0.N) (r : Fin 1) (k : Fin 512) :
    (iblk m c 3 t : Vec Ideal S1x512 .f32) (ix2 r k) = at2 (aB m c) r.val (t.val / 6 * 512 + k.val) := by
  have hN := lt_points t
  rw [at2_of_lt _ (by omega) (by omega)]
  unfold iblk
  rw [View.read_apply]
  refine (congrFun (V_main_arg3 m c) _).trans (congrArg (m ((c.tc : Thread nD τ).loc main_arg3)) ?_)
  funext a
  apply Fin.ext
  match a with
  | ⟨0, _⟩ => show win0_3.index t 0 * 1 + 1 * r.val = _; rw [(idx_3 t).1]; simp
  | ⟨1, _⟩ => show win0_3.index t 1 * 512 + 1 * k.val = _; rw [(idx_3 t).2]; simp

/-- The block of `aS` at point `t`. -/
theorem blk_4 (c : Dev nD) (t : Fin cfg0.N) (r : Fin 1) (k : Fin 512) :
    (iblk m c 4 t : Vec Ideal S1x512 .f32) (ix2 r k) = at2 (aS m c) r.val (t.val / 6 * 512 + k.val) := by
  have hN := lt_points t
  rw [at2_of_lt _ (by omega) (by omega)]
  unfold iblk
  rw [View.read_apply]
  refine (congrFun (V_main_arg4 m c) _).trans (congrArg (m ((c.tc : Thread nD τ).loc main_arg4)) ?_)
  funext a
  apply Fin.ext
  match a with
  | ⟨0, _⟩ => show win0_4.index t 0 * 1 + 1 * r.val = _; rw [(idx_4 t).1]; simp
  | ⟨1, _⟩ => show win0_4.index t 1 * 512 + 1 * k.val = _; rw [(idx_4 t).2]; simp

/-! ## The array that the call leaves -/

/-- THE RESULT, entry by entry: every tile is written once, and the tiles cover the array. -/
theorem arr (c : Dev nD) : (dats m 0 c).arrAt 5 cfg0.N = ofEntries 2112 2048 (entry (aP m c) (aX m c) (aW m c) (aB m c) (aS m c)) := by
  refine (dats m 0 c).arrAt_eq_of_cover 5 _ (fun t _ => ?_) (fun x => ?_)
  · show (dats m 0 c).after 5 t = _
    rw [after_apply]
    funext y
    obtain ⟨r, q, rfl⟩ : ∃ (r : Fin 352) (q : Fin 512), y = ix2 r q := ⟨_, _, eq_ix2 y⟩
    rw [View.read_apply]
    have h0 : (((cfg0.win 5).blk t).view.emb (ix2 r q) 0).val = t.val % 6 * 352 + r.val := by
      show win0_5.index t 0 * 352 + 1 * r.val = _; rw [(idx_5 t).1]; simp
    have h1 : (((cfg0.win 5).blk t).view.emb (ix2 r q) 1).val = t.val / 6 * 512 + q.val := by
      show win0_5.index t 1 * 512 + 1 * q.val = _; rw [(idx_5 t).2]; simp
    show _ = entry (aP m c) (aX m c) (aW m c) (aB m c) (aS m c) (((cfg0.win 5).blk t).view.emb (ix2 r q) 0).val (((cfg0.win 5).blk t).view.emb (ix2 r q) 1).val
    rw [h0, h1]
    have d : (t.val / 6 * 512 + q.val) / 512 = t.val / 6 := by omega
    have e : (t.val / 6 * 512 + q.val) % 512 = q.val := by omega
    unfold entry
    rw [tile_apply, coord, d, e]
    simp only [blk_0, blk_1, blk_2, blk_3, blk_4]
    rfl
  · have hx0 : (x 0).val < 2112 := (x 0).isLt
    have hx1 : (x 1).val < 2048 := (x 1).isLt
    have ht : (x 1).val / 512 * 6 + (x 0).val / 352 < cfg0.N := by rw [show cfg0.N = 24 from N_0]; omega
    refine ⟨⟨_, ht⟩, flush0_5 _, ?_⟩
    show x ∈ ((View.whole main_v0).slice (win0_5.rect ⟨_, ht⟩)).set
    rw [View.set_slice_whole, Rect.mem_set_unit]
    have e0 : win0_5.index ⟨_, ht⟩ 0 = (x 0).val / 352 := (idx_5 _).1.trans (show ((x 1).val / 512 * 6 + (x 0).val / 352) % 6 = _ by omega)
    have e1 : win0_5.index ⟨_, ht⟩ 1 = (x 1).val / 512 := (idx_5 _).2.trans (show ((x 1).val / 512 * 6 + (x 0).val / 352) / 6 = _ by omega)
    intro a
    match a with
    | ⟨0, _⟩ => show win0_5.index ⟨_, ht⟩ 0 * 352 ≤ (x 0).val ∧ (x 0).val < win0_5.index ⟨_, ht⟩ 0 * 352 + 352; omega
    | ⟨1, _⟩ => show win0_5.index ⟨_, ht⟩ 1 * 512 ≤ (x 1).val ∧ (x 1).val < win0_5.index ⟨_, ht⟩ 1 * 512 + 512; omega

/-! ## The claims -/

/-- The frame of the reference's lines: host code, read off its run. -/
theorem frame_ref : Cert.quiescent_PoolMixRefIdeal := fun m ρ _ =>
  (θ_run Cert.PoolMixRefIdeal.defs _ _).mono (fun r h => ⟨fun c => (h c).2, Idealize.ShloMosaic.sem_eq_zero_of_no_sems (by decide) r.2⟩)
    (Cert.PoolMixRefIdeal.Value.run (F := Ideal) m ρ)

/-- THE VALUE CLAIM: from the same arguments the call and the reference end with the same array of extended reals. -/
theorem algebraic : Cert.algebraic_PoolMixIdeal_PoolMixRefIdeal := by
  intro m g m' g' _ hargs
  refine ⟨_, run_blocks (F := Ideal) m g, ?_⟩
  refine (θ_run _ _ _).mono (fun r h c => ⟨(h c).1.trans ?_, (h c).2⟩) (Cert.PoolMixRefIdeal.Value.run (F := Ideal) m' g')
  obtain ⟨e0, e1, e2, e3, e4⟩ := hargs c
  rw [e0, e1, e2, e3, e4, arr]
  exact Cert.PoolMixRefIdeal.Hand.ref_eq _ _ _ _ _

end Cert.PoolMixIdeal.Hand

end
-- ==== Proof.PoolMixBwdTiles.lean ====
/- The pooling layer's backward products, tile by tile: what each grid point computes and carries on, entry by entry. -/
module

public import proofs.«01_k».proof.Proof.PoolMix
public import proofs.«01_k».proof.Proof.Gen.PoolMixBwdIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.PoolMixBwdIdeal.Hand

open Cert.PoolMixBwdIdeal Cert.PoolMixBwdIdeal.Gen Cert.PoolMixBwdIdeal.Value Cert.Sums Cert.Products Cert.PoolMixIdeal.Hand
open scoped BigOperators

/-! ## What a point computes -/

/-- The gradient's tile, zero on the rows above row 48 of the array. -/
theorem pay9_apply (i : grid0.Coords) (y : FVec Ideal S352x512 .f32) (r : Fin 352) (q : Fin 512) :
    k0_pay9 (F := Ideal) i y (ix2 r q) = if 48 ≤ (i 1).val * 352 + r.val then (y (ix2 r q) : EReal) else 0 := by
  have h := live_word (i 1).val r.val (i 1).isLt r.isLt
  pointwise [k0_pay9]
  refine (congrArg (fun b => Scalar.select b _ _) h).trans ?_
  by_cases hl : 48 ≤ (i 1).val * 352 + r.val
  · rw [if_pos hl, decide_eq_true hl]
    rfl
  · rw [if_neg hl, decide_eq_false hl]
    rfl

/-- The same times the scale. -/
theorem pay12_apply (i : grid0.Coords) (y : FVec Ideal S352x512 .f32) (s : FVec Ideal S1x512 .f32) (r : Fin 352) (q : Fin 512) :
    (k0_pay12 (F := Ideal) i y s (ix2 r q) : EReal) = k0_pay9 (F := Ideal) i y (ix2 r q) * s (ix2 0 q) := by
  pointwise [k0_pay12]

/-- The bias's gradient: the tile's column sums are added. -/
theorem pay1_apply (d : FVec Ideal S352x512 .f32) (acc : FVec Ideal S1x512 .f32) (z : Fin 1) (q : Fin 512) :
    (k0_pay1 (F := Ideal) d acc (ix2 z q) : EReal) = acc (ix2 z q) + ∑ r : Fin 352, d (ix2 r q) := by
  pointwise [k0_pay1]

/-- The scale's gradient: the tile's column sums against the product with the bias are added. -/
theorem pay11_apply (i : grid0.Coords) (y : FVec Ideal S352x512 .f32) (p : FVec Ideal S352x512 .bf16) (w : FVec Ideal S1x512x512 .bf16)
    (acc b : FVec Ideal S1x512 .f32) (z : Fin 1) (q : Fin 512) :
    (k0_pay11 (F := Ideal) i y p w acc b (ix2 z q) : EReal) = acc (ix2 z q) + ∑ r : Fin 352, k0_pay9 (F := Ideal) i y (ix2 r q)
      * ((∑ k : Fin 512, p (ix2 r k) * w (ix3 0 k q)) + b (ix2 0 q)) := by
  pointwise [k0_pay11, k0_pay10]

/-- The weight's gradient: the tile's product is added. -/
theorem pay3_apply (p : FVec Ideal S352x512 .bf16) (d : FVec Ideal S352x512 .f32) (acc : FVec Ideal S512x512 .f32) (a q : Fin 512) :
    (k0_pay3 (F := Ideal) p d acc (ix2 a q) : EReal) = acc (ix2 a q) + ∑ r : Fin 352, p (ix2 r a) * d (ix2 r q) := by
  pointwise [k0_pay3, k0_pay2]

/-- The gradient of the pooled rows. -/
theorem pay4_apply (w : FVec Ideal S1x512x512 .bf16) (d : FVec Ideal S352x512 .f32) (r : Fin 352) (q : Fin 512) :
    (k0_pay4 (F := Ideal) (k0_pay10 w) d (ix2 r q) : EReal) = ∑ k : Fin 512, d (ix2 r k) * w (ix3 0 q k) := by
  pointwise [k0_pay4, k0_pay2, k0_pay10]

/-- The stored weight's gradient is the carried one. -/
theorem pay5_apply (acc : FVec Ideal S512x512 .f32) (z : Fin 1) (a q : Fin 512) : (k0_pay5 (F := Ideal) acc (ix3 z a q) : EReal) = acc (ix2 a q) := by
  pointwise [k0_pay5]

/-- The three sums start at zero. -/
theorem pay6_apply (j : S512x512.Idx) : k0_pay6 (F := Ideal) j = (0 : EReal) := by
  pointwise [k0_pay6]
theorem pay7_apply (j : S1x512.Idx) : k0_pay7 (F := Ideal) j = (0 : EReal) := by
  pointwise [k0_pay7]
theorem pay8_apply (j : S1x512.Idx) : k0_pay8 (F := Ideal) j = (0 : EReal) := by
  pointwise [k0_pay8]

variable (m : (ℓ : Loc nD τ sig) → Buf (Elt Ideal) ℓ)

/-! ## What a point leaves -/

/-- The tile of the gradient times the scale. -/
def dysT (c : Dev nD) (t : Fin cfg0.N) : FVec Ideal S352x512 .f32 := k0_pay12 (F := Ideal) (grid0.coords t) (iblk m c 0 t) (iblk m c 4 t)

/-- The gradient of the pooled rows. -/
theorem out_dp (c : Dev nD) (t : Fin cfg0.N) : (outsAt0 m c t.val t.isLt).1 = k0_pay4 (F := Ideal) (k0_pay10 (iblk m c 2 t)) (dysT m c t) := by
  by_cases h0 : t.val % 6 = 0
  · rw [outsAt0_A m c t h0 (by omega)]
    frame_out
    rfl
  · by_cases h1 : t.val % 6 = 5
    · rw [outsAt0_C m c t h0 h1]
      frame_out
      rfl
    · rw [outsAt0_B m c t h0 h1]
      frame_out
      rfl

/-- The weight's gradient at a group's last point: the carried sum. -/
theorem out_dw (c : Dev nD) (t : Fin cfg0.N) (h1 : t.val % 6 = 5) :
    (outsAt0 m c t.val t.isLt).2.1 = k0_pay5 (F := Ideal) (outsAt0 m c t.val t.isLt).2.2.2.2 := by
  rw [outsAt0_C m c t (by omega) h1]
  frame_out

/-- The bias's gradient at a group's first point … -/
theorem db_A (c : Dev nD) (t : Fin cfg0.N) (h0 : t.val % 6 = 0) :
    (outsAt0 m c t.val t.isLt).2.2.1 = k0_pay1 (F := Ideal) (dysT m c t) (k0_pay7 (F := Ideal)) := by
  rw [outsAt0_A m c t h0 (by omega)]
  frame_out
  try rfl

/-- … and at a later one. -/
theorem db_BC (c : Dev nD) (t : Fin cfg0.N) (h0 : ¬t.val % 6 = 0) :
    (outsAt0 m c t.val t.isLt).2.2.1 = k0_pay1 (F := Ideal) (dysT m c t) (outsAt0 m c (t.val - 1) (Nat.lt_of_le_of_lt (Nat.sub_le _ _) t.isLt)).2.2.1 := by
  by_cases h1 : t.val % 6 = 5
  · rw [outsAt0_C m c t h0 h1]
    frame_out
    try rw [(Memref.isWhole_whole _).read_unread]
    try rfl
  · rw [outsAt0_B m c t h0 h1]
    frame_out
    try rw [(Memref.isWhole_whole _).read_unread]
    try rfl

/-- The scale's gradient at a group's first point … -/
theorem ds_A (c : Dev nD) (t : Fin cfg0.N) (h0 : t.val % 6 = 0) :
    (outsAt0 m c t.val t.isLt).2.2.2.1 = k0_pay11 (F := Ideal) (grid0.coords t) (iblk m c 0 t) (iblk m c 1 t) (iblk m c 2 t) (k0_pay8 (F := Ideal)) (iblk m c 3 t) := by
  rw [outsAt0_A m c t h0 (by omega)]
  frame_out
  try rfl

/-- … and at a later one. -/
theorem ds_BC (c : Dev nD) (t : Fin cfg0.N) (h0 : ¬t.val % 6 = 0) :
    (outsAt0 m c t.val t.isLt).2.2.2.1 = k0_pay11 (F := Ideal) (grid0.coords t) (iblk m c 0 t) (iblk m c 1 t) (iblk m c 2 t) (outsAt0 m c (t.val - 1) (Nat.lt_of_le_of_lt (Nat.sub_le _ _) t.isLt)).2.2.2.1 (iblk m c 3 t) := by
  by_cases h1 : t.val % 6 = 5
  · rw [outsAt0_C m c t h0 h1]
    frame_out
    try rw [(Memref.isWhole_whole _).read_unread]
    try rfl
  · rw [outsAt0_B m c t h0 h1]
    frame_out
    try rw [(Memref.isWhole_whole _).read_unread]
    try rfl

/-- The weight's gradient at a group's first point … -/
theorem dw_A (c : Dev nD) (t : Fin cfg0.N) (h0 : t.val % 6 = 0) :
    (outsAt0 m c t.val t.isLt).2.2.2.2 = k0_pay3 (F := Ideal) (iblk m c 1 t) (dysT m c t) (k0_pay6 (F := Ideal)) := by
  rw [outsAt0_A m c t h0 (by omega)]
  frame_out
  try rfl

/-- … and at a later one. -/
theorem dw_BC (c : Dev nD) (t : Fin cfg0.N) (h0 : ¬t.val % 6 = 0) :
    (outsAt0 m c t.val t.isLt).2.2.2.2 = k0_pay3 (F := Ideal) (iblk m c 1 t) (dysT m c t) (outsAt0 m c (t.val - 1) (Nat.lt_of_le_of_lt (Nat.sub_le _ _) t.isLt)).2.2.2.2 := by
  by_cases h1 : t.val % 6 = 5
  · rw [outsAt0_C m c t h0 h1]
    frame_out
    try rw [(Memref.isWhole_whole _).read_unread]
    try rfl
  · rw [outsAt0_B m c t h0 h1]
    frame_out
    try rw [(Memref.isWhole_whole _).read_unread]
    try rfl

end Cert.PoolMixBwdIdeal.Hand

end
-- ==== Proof.PoolMixBwd.lean ====
/- The pooling layer's backward products: the four arrays that the call leaves, and the reference's, at natural coordinates. -/
module

public import proofs.«01_k».proof.Defs
public import proofs.«01_k».proof.Proof.PoolMixBwdTiles
public import proofs.«01_k».proof.Proof.Gen.PoolMixBwdRefIdeal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PoolMixBwdIdeal.Hand

open Cert.PoolMixBwdIdeal Cert.Sums Cert.Products
open scoped BigOperators

/-! ## The results at natural coordinates -/

/-- The gradient on the rows from 48 on. -/
def dyl (y : FVec Ideal S2112x2048 .f32) (i j : ℕ) : EReal := if 48 ≤ i then at2 y i j else 0

/-- The same times the scale. -/
def dys (y : FVec Ideal S2112x2048 .f32) (s : FVec Ideal S1x2048 .f32) (i j : ℕ) : EReal := dyl y i j * at2 s 0 j

/-- The product with the bias. -/
def mix (p : FVec Ideal S2112x2048 .bf16) (w : FVec Ideal S4x512x512 .bf16) (b : FVec Ideal S1x2048 .f32) (i j : ℕ) : EReal :=
  (∑ k : Fin 512, at2 p i (j / 512 * 512 + k.val) * at3 w (j / 512) k.val (j % 512)) + at2 b 0 j

/-- The gradient of the pooled rows. -/
def dpE (y : FVec Ideal S2112x2048 .f32) (w : FVec Ideal S4x512x512 .bf16) (s : FVec Ideal S1x2048 .f32) (i j : ℕ) : EReal :=
  ∑ k : Fin 512, dys y s i (j / 512 * 512 + k.val) * at3 w (j / 512) (j % 512) k.val

/-- The gradient of a group's weight. -/
def dwE (y : FVec Ideal S2112x2048 .f32) (p : FVec Ideal S2112x2048 .bf16) (s : FVec Ideal S1x2048 .f32) (g a q : ℕ) : EReal :=
  ∑ i : Fin 2112, at2 p i.val (g * 512 + a) * dys y s i.val (g * 512 + q)

/-- The gradient of the bias. -/
def dbE (y : FVec Ideal S2112x2048 .f32) (s : FVec Ideal S1x2048 .f32) (j : ℕ) : EReal := ∑ i : Fin 2112, dys y s i.val j

/-- The gradient of the scale. -/
def dsE (y : FVec Ideal S2112x2048 .f32) (p : FVec Ideal S2112x2048 .bf16) (w : FVec Ideal S4x512x512 .bf16) (b : FVec Ideal S1x2048 .f32) (j : ℕ) : EReal :=
  ∑ i : Fin 2112, dyl y i.val j * mix p w b i.val j

end Cert.PoolMixBwdIdeal.Hand

namespace Cert.PoolMixBwdRefIdeal.Hand

open Cert.PoolMixBwdRefIdeal Cert.PoolMixBwdRefIdeal.Gen Cert.PoolMixBwdIdeal.Hand Cert.Sums Cert.Products
open Cert.PoolMixIdeal.Hand (live_row)
open scoped BigOperators

variable (y : FVec Ideal S2112x2048 .f32) (p : FVec Ideal S2112x2048 .bf16) (w : FVec Ideal S4x512x512 .bf16) (b s : FVec Ideal S1x2048 .f32)

/-- The rows from 48 on. -/
def refLive : IVec S2112x2048 1 := broadcastInDim S2112x2048 ![0, 1] bcast_S2112x1_S2112x2048_0_1 (cmpi .sge (broadcastInDim S2112x1 ![0] bcast_S2112_S2112x1_0 (iotaInDim S2112 32 0)) (broadcastInDim S2112x1 ![] bcast_S_S2112x1 (constantI S_ 32 48#32)))

/-- The same at an index. -/
theorem refLive_apply (i : Fin 2112) (j : Fin 2048) : refLive (ix2 i j) = BitVec.ofBool (decide (48 ≤ i.val)) := by
  refine Eq.trans ?_ (live_row i.val i.isLt)
  unfold refLive
  pointwise
  try rfl

/-- The gradient on the rows from 48 on. -/
def refDyl : FVec Ideal S2112x2048 .f32 := select refLive y (broadcastInDim S2112x2048 ![] bcast_S_S2112x2048 (constant (F := Ideal) S_ .f32 0x00000000#32))

/-- The same at an index. -/
theorem refDyl_apply (i : Fin 2112) (j : Fin 2048) : (refDyl y (ix2 i j) : EReal) = dyl y i.val j.val := by
  unfold refDyl dyl
  pointwise
  rw [refLive_apply, eq_at2 y]
  by_cases hl : 48 ≤ i.val
  · rw [if_pos hl, decide_eq_true hl]
    rfl
  · rw [if_neg hl, decide_eq_false hl]
    rfl

/-- The same times the scale. -/
def refDys : FVec Ideal S2112x2048 .f32 := mulf (refDyl y) (broadcastInDim S2112x2048 ![0, 1] bcast_S1x2048_S2112x2048_0_1 s)

/-- The same at an index. -/
theorem refDys_apply (i : Fin 2112) (j : Fin 2048) : (refDys y s (ix2 i j) : EReal) = dys y s i.val j.val := by
  unfold refDys dys
  pointwise
  rw [refDyl_apply, eq_at2 s]
  rfl

/-- The gradient of the pooled rows. -/
theorem ref_dp : shapeCast S2112x2048 (transpose S2112x4x512 [1, 0, 2] (Host.dotGeneral dot_S4x512x2112_S4x512x512_S4x2112x512_1_2_2_1_0_0 none (transpose S4x512x2112 [1, 2, 0] (shapeCast _ (refDys y s) shapeCasts_S2112x2048_S2112x4x512) transposes_S2112x4x512_S4x512x2112_1_2_0) (extf .f32 w bitsLt_bf16_f32)) transposes_S4x2112x512_S2112x4x512_1_0_2) shapeCasts_S2112x4x512_S2112x2048
    = ofEntries 2112 2048 (dpE y w s) := by
  funext x
  obtain ⟨i, j, rfl⟩ : ∃ (i : Fin 2112) (j : Fin 2048), x = ix2 i j := ⟨_, _, eq_ix2 x⟩
  show _ = dpE y w s i.val j.val
  unfold dpE
  pointwise
  refine Finset.sum_congr rfl fun k _ => ?_
  rw [refDys_apply, eq_at3 w]

/-- The gradient of the weights. -/
theorem ref_dw : truncf .bf16 (transpose S4x512x512 [0, 2, 1] (Host.dotGeneral dot_S4x512x2112_S2112x4x512_S4x512x512_2_0_1_2_0_1 none (transpose S4x512x2112 [1, 2, 0] (shapeCast _ (refDys y s) shapeCasts_S2112x2048_S2112x4x512) transposes_S2112x4x512_S4x512x2112_1_2_0) (shapeCast _ (extf .f32 p bitsLt_bf16_f32) shapeCasts_S2112x2048_S2112x4x512)) transposes_S4x512x512_S4x512x512_0_2_1) bitsLt_bf16_f32
    = fun x => dwE y p s (x 0).val (x 1).val (x 2).val := by
  funext x
  obtain ⟨g, a, q, rfl⟩ : ∃ (g : Fin 4) (a q : Fin 512), x = ix3 g a q := ⟨_, _, _, eq_ix3 x⟩
  show _ = dwE y p s g.val a.val q.val
  unfold dwE
  pointwise
  refine Finset.sum_congr rfl fun k _ => ?_
  rw [refDys_apply, eq_at2 p, mul_comm]

/-- The gradient of the bias. -/
theorem ref_db : shapeCast S1x2048 (Host.reduceAdd (shapeCast _ (Host.reduceAdd (shapeCast _ (refDys y s) shapeCasts_S2112x2048_S2112x4x512) (constant S_ .f32 0x00000000#32) reducesTo_S2112x4x512_S4x512_d0 h_S_) shapeCasts_S4x512_S1x4x512) (constant S_ .f32 0x00000000#32) reducesTo_S1x4x512_S4x512_d0 h_S_) shapeCasts_S4x512_S1x2048
    = ofEntries 1 2048 (fun _ j => dbE y s j) := by
  funext x
  obtain ⟨z, j, rfl⟩ : ∃ (z : Fin 1) (j : Fin 2048), x = ix2 z j := ⟨_, _, eq_ix2 x⟩
  show _ = dbE y s j.val
  unfold dbE
  pointwise
  refine (Fin.sum_univ_one _).trans (Finset.sum_congr rfl fun k _ => ?_)
  rw [refDys_apply]

/-- The groups' products with the bias, side by side. -/
def refY : FVec Ideal S2112x2048 .f32 := shapeCast _ (addf (transpose S2112x4x512 [2, 0, 1] (Host.dotGeneral dot_S4x512x512_S2112x4x512_S4x512x2112_1_2_2_0_0_1 none (extf .f32 w bitsLt_bf16_f32) (shapeCast _ (extf .f32 p bitsLt_bf16_f32) shapeCasts_S2112x2048_S2112x4x512)) transposes_S4x512x2112_S2112x4x512_2_0_1) (broadcastInDim S2112x4x512 ![0, 1, 2] bcast_S1x4x512_S2112x4x512_0_1_2 (broadcastInDim S1x4x512 ![1, 2] bcast_S4x512_S1x4x512_1_2 (shapeCast _ b shapeCasts_S1x2048_S4x512)))) shapeCasts_S2112x4x512_S2112x2048

/-- The same at an index. -/
theorem refY_apply (i : Fin 2112) (j : Fin 2048) : (refY p w b (ix2 i j) : EReal) = mix p w b i.val j.val := by
  unfold refY mix
  pointwise
  rw [eq_at2 b]
  refine congrArg (· + _) (Finset.sum_congr rfl fun k _ => ?_)
  rw [eq_at2 p, eq_at3 w, mul_comm]

/-- The gradient of the scale. -/
theorem ref_ds : shapeCast S1x2048 (Host.reduceAdd (mulf (refY p w b) (refDyl y)) (constant S_ .f32 0x00000000#32) reducesTo_S2112x2048_S2048_d0 h_S_) shapeCasts_S2048_S1x2048
    = ofEntries 1 2048 (fun _ j => dsE y p w b j) := by
  funext x
  obtain ⟨z, j, rfl⟩ : ∃ (z : Fin 1) (j : Fin 2048), x = ix2 z j := ⟨_, _, eq_ix2 x⟩
  show _ = dsE y p w b j.val
  unfold dsE
  pointwise
  refine Finset.sum_congr rfl fun k _ => ?_
  rw [refDyl_apply, refY_apply, mul_comm]

end Cert.PoolMixBwdRefIdeal.Hand

namespace Cert.PoolMixBwdIdeal.Hand

open Cert.PoolMixBwdIdeal Cert.PoolMixBwdIdeal.Gen Cert.PoolMixBwdIdeal.Value Cert.Sums Cert.Products
open scoped BigOperators

variable (m : (ℓ : Loc nD τ sig) → Buf (Elt Ideal) ℓ)

/-! ## The tiles' places -/

/-- The arguments as arrays of extended reals. -/
abbrev aY (c : Dev nD) : FVec Ideal S2112x2048 .f32 := m ((c.tc : Thread nD τ).loc main_arg0)
abbrev aP (c : Dev nD) : FVec Ideal S2112x2048 .bf16 := m ((c.tc : Thread nD τ).loc main_arg1)
abbrev aW (c : Dev nD) : FVec Ideal S4x512x512 .bf16 := m ((c.tc : Thread nD τ).loc main_arg2)
abbrev aB (c : Dev nD) : FVec Ideal S1x2048 .f32 := m ((c.tc : Thread nD τ).loc main_arg3)
abbrev aS (c : Dev nD) : FVec Ideal S1x2048 .f32 := m ((c.tc : Thread nD τ).loc main_arg4)

theorem lt_points (t : Fin cfg0.N) : t.val < 24 := lt_of_lt_of_eq t.isLt N_0

/-- A point's tile of rows. -/
theorem coord (t : Fin cfg0.N) : (grid0.coords t 1).val = t.val % 6 := (by decide +kernel : ∀ t : Fin grid0.N, (grid0.coords t 1).val = t.val % 6) t

/-- The windows' index maps in closed form. -/
theorem idx_0 : ∀ t : Fin cfg0.N, win0_0.index t 0 = t.val % 6 ∧ win0_0.index t 1 = t.val / 6 :=
  (by decide +kernel : ∀ t : Fin grid0.N, _)
theorem idx_1 : ∀ t : Fin cfg0.N, win0_1.index t 0 = t.val % 6 ∧ win0_1.index t 1 = t.val / 6 :=
  (by decide +kernel : ∀ t : Fin grid0.N, _)
theorem idx_5 : ∀ t : Fin cfg0.N, win0_5.index t 0 = t.val % 6 ∧ win0_5.index t 1 = t.val / 6 :=
  (by decide +kernel : ∀ t : Fin grid0.N, _)
theorem idx_2 : ∀ t : Fin cfg0.N, win0_2.index t 0 = t.val / 6 ∧ win0_2.index t 1 = 0 ∧ win0_2.index t 2 = 0 :=
  (by decide +kernel : ∀ t : Fin grid0.N, _)
theorem idx_6 : ∀ t : Fin cfg0.N, win0_6.index t 0 = t.val / 6 ∧ win0_6.index t 1 = 0 ∧ win0_6.index t 2 = 0 :=
  (by decide +kernel : ∀ t : Fin grid0.N, _)
theorem idx_3 : ∀ t : Fin cfg0.N, win0_3.index t 0 = 0 ∧ win0_3.index t 1 = t.val / 6 :=
  (by decide +kernel : ∀ t : Fin grid0.N, _)
theorem idx_4 : ∀ t : Fin cfg0.N, win0_4.index t 0 = 0 ∧ win0_4.index t 1 = t.val / 6 :=
  (by decide +kernel : ∀ t : Fin grid0.N, _)
theorem idx_7 : ∀ t : Fin cfg0.N, win0_7.index t 0 = 0 ∧ win0_7.index t 1 = t.val / 6 :=
  (by decide +kernel : ∀ t : Fin grid0.N, _)
theorem idx_8 : ∀ t : Fin cfg0.N, win0_8.index t 0 = 0 ∧ win0_8.index t 1 = t.val / 6 :=
  (by decide +kernel : ∀ t : Fin grid0.N, _)

/-- The block of `aY` at point `t`. -/
theorem blk_0 (c : Dev nD) (t : Fin cfg0.N) (r : Fin 352) (k : Fin 512) :
    (iblk m c 0 t : Vec Ideal S352x512 .f32) (ix2 r k) = at2 (aY m c) (t.val % 6 * 352 + r.val) (t.val / 6 * 512 + k.val) := by
  have hN := lt_points t
  rw [at2_of_lt _ (by omega) (by omega)]
  unfold iblk
  rw [View.read_apply]
  refine (congrFun (V_main_arg0 m c) _).trans (congrArg (m ((c.tc : Thread nD τ).loc main_arg0)) ?_)
  funext a
  apply Fin.ext
  match a with
  | ⟨0, _⟩ => show win0_0.index t 0 * 352 + 1 * r.val = _; rw [(idx_0 t).1]; simp
  | ⟨1, _⟩ => show win0_0.index t 1 * 512 + 1 * k.val = _; rw [(idx_0 t).2]; simp

/-- The block of `aP` at point `t`. -/
theorem blk_1 (c : Dev nD) (t : Fin cfg0.N) (r : Fin 352) (k : Fin 512) :
    (iblk m c 1 t : Vec Ideal S352x512 .bf16) (ix2 r k) = at2 (aP m c) (t.val % 6 * 352 + r.val) (t.val / 6 * 512 + k.val) := by
  have hN := lt_points t
  rw [at2_of_lt _ (by omega) (by omega)]
  unfold iblk
  rw [View.read_apply]
  refine (congrFun (V_main_arg1 m c) _).trans (congrArg (m ((c.tc : Thread nD τ).loc main_arg1)) ?_)
  funext a
  apply Fin.ext
  match a with
  | ⟨0, _⟩ => show win0_1.index t 0 * 352 + 1 * r.val = _; rw [(idx_1 t).1]; simp
  | ⟨1, _⟩ => show win0_1.index t 1 * 512 + 1 * k.val = _; rw [(idx_1 t).2]; simp

/-- The block of `aW` at point `t`. -/
theorem blk_2 (c : Dev nD) (t : Fin cfg0.N) (z : Fin 1) (r : Fin 512) (k : Fin 512) :
    (iblk m c 2 t : Vec Ideal S1x512x512 .bf16) (ix3 z r k) = at3 (aW m c) (t.val / 6) r.val k.val := by
  have hN := lt_points t
  have hz : z.val = 0 := by omega
  rw [at3_of_lt _ (by omega) (by omega) (by omega)]
  unfold iblk
  rw [View.read_apply]
  refine (congrFun (V_main_arg2 m c) _).trans (congrArg (m ((c.tc : Thread nD τ).loc main_arg2)) ?_)
  funext a
  apply Fin.ext
  match a with
  | ⟨0, _⟩ => show win0_2.index t 0 * 1 + 1 * z.val = _; rw [(idx_2 t).1, hz]; simp
  | ⟨1, _⟩ => show win0_2.index t 1 * 512 + 1 * r.val = _; rw [(idx_2 t).2.1]; simp
  | ⟨2, _⟩ => show win0_2.index t 2 * 512 + 1 * k.val = _; rw [(idx_2 t).2.2]; simp

/-- The block of `aB` at point `t`. -/
theorem blk_3 (c : Dev nD) (t : Fin cfg0.N) (r : Fin 1) (k : Fin 512) :
    (iblk m c 3 t : Vec Ideal S1x512 .f32) (ix2 r k) = at2 (aB m c) r.val (t.val / 6 * 512 + k.val) := by
  have hN := lt_points t
  rw [at2_of_lt _ (by omega) (by omega)]
  unfold iblk
  rw [View.read_apply]
  refine (congrFun (V_main_arg3 m c) _).trans (congrArg (m ((c.tc : Thread nD τ).loc main_arg3)) ?_)
  funext a
  apply Fin.ext
  match a with
  | ⟨0, _⟩ => show win0_3.index t 0 * 1 + 1 * r.val = _; rw [(idx_3 t).1]; simp
  | ⟨1, _⟩ => show win0_3.index t 1 * 512 + 1 * k.val = _; rw [(idx_3 t).2]; simp

/-- The block of `aS` at point `t`. -/
theorem blk_4 (c : Dev nD) (t : Fin cfg0.N) (r : Fin 1) (k : Fin 512) :
    (iblk m c 4 t : Vec Ideal S1x512 .f32) (ix2 r k) = at2 (aS m c) r.val (t.val / 6 * 512 + k.val) := by
  have hN := lt_points t
  rw [at2_of_lt _ (by omega) (by omega)]
  unfold iblk
  rw [View.read_apply]
  refine (congrFun (V_main_arg4 m c) _).trans (congrArg (m ((c.tc : Thread nD τ).loc main_arg4)) ?_)
  funext a
  apply Fin.ext
  match a with
  | ⟨0, _⟩ => show win0_4.index t 0 * 1 + 1 * r.val = _; rw [(idx_4 t).1]; simp
  | ⟨1, _⟩ => show win0_4.index t 1 * 512 + 1 * k.val = _; rw [(idx_4 t).2]; simp

/-! ## What the points carry -/

/-- The gradient's tile, at its place. -/
theorem dylT_apply (c : Dev nD) (t : Fin cfg0.N) (r : Fin 352) (q : Fin 512) :
    (k0_pay9 (F := Ideal) (grid0.coords t) (iblk m c 0 t) (ix2 r q) : EReal) = dyl (aY m c) (t.val % 6 * 352 + r.val) (t.val / 6 * 512 + q.val) := by
  refine (pay9_apply _ _ r q).trans ?_
  unfold dyl
  rw [coord, blk_0]

/-- The same times the scale. -/
theorem dysT_apply (c : Dev nD) (t : Fin cfg0.N) (r : Fin 352) (q : Fin 512) :
    (dysT m c t (ix2 r q) : EReal) = dys (aY m c) (aS m c) (t.val % 6 * 352 + r.val) (t.val / 6 * 512 + q.val) := by
  refine (pay12_apply _ _ _ r q).trans ?_
  unfold dys
  rw [dylT_apply, blk_4]
  rfl

/-- The first point of the group goes on from zero, a later one from the point before: after a point the carried number is the sum over the
    group's tiles so far. -/
theorem carried (v : (n : ℕ) → n < cfg0.N → EReal) (f : ℕ → ℕ → EReal)
    (first : ∀ t : Fin cfg0.N, t.val % 6 = 0 → v t.val t.isLt = 0 + f (t.val / 6) (t.val % 6))
    (later : ∀ t : Fin cfg0.N, ¬t.val % 6 = 0 → v t.val t.isLt = v (t.val - 1) (Nat.lt_of_le_of_lt (Nat.sub_le _ _) t.isLt) + f (t.val / 6) (t.val % 6)) :
    ∀ (n : ℕ) (hn : n < cfg0.N), v n hn = ∑ s ∈ Finset.range (n % 6 + 1), f (n / 6) s := by
  intro n
  induction n with
  | zero =>
    intro hn
    rw [first ⟨0, hn⟩ rfl]
    simp
  | succ n ih =>
    intro hn
    by_cases h : (n + 1) % 6 = 0
    · rw [first ⟨n + 1, hn⟩ h]
      show 0 + f ((n + 1) / 6) ((n + 1) % 6) = _
      rw [h]
      simp
    · rw [later ⟨n + 1, hn⟩ h]
      show v n _ + f ((n + 1) / 6) ((n + 1) % 6) = _
      have e1 : (n + 1) / 6 = n / 6 := by omega
      have e2 : (n + 1) % 6 = n % 6 + 1 := by omega
      rw [ih, e1, e2, Finset.sum_range_succ _ (n % 6 + 1)]

/-- At a group's last point it is the sum over all rows. -/
theorem carried_last (v : (n : ℕ) → n < cfg0.N → EReal) (f : ℕ → ℕ → EReal)
    (first : ∀ t : Fin cfg0.N, t.val % 6 = 0 → v t.val t.isLt = 0 + ∑ r : Fin 352, f (t.val / 6) (t.val % 6 * 352 + r.val))
    (later : ∀ t : Fin cfg0.N, ¬t.val % 6 = 0 → v t.val t.isLt = v (t.val - 1) (Nat.lt_of_le_of_lt (Nat.sub_le _ _) t.isLt) + ∑ r : Fin 352, f (t.val / 6) (t.val % 6 * 352 + r.val))
    (t : Fin cfg0.N) (h : t.val % 6 = 5) : v t.val t.isLt = ∑ i : Fin 2112, f (t.val / 6) i.val := by
  rw [carried v (fun g s => ∑ r : Fin 352, f g (s * 352 + r.val)) first later t.val t.isLt, h]
  exact (sum_fin_tiles (fun i => f (t.val / 6) i) 6 352).symm

/-- The bias's gradient at a group's last point. -/
theorem db_last (c : Dev nD) (q : Fin 512) (z : Fin 1) (t : Fin cfg0.N) (h : t.val % 6 = 5) :
    ((outsAt0 m c t.val t.isLt).2.2.1 (ix2 z q) : EReal) = dbE (aY m c) (aS m c) (t.val / 6 * 512 + q.val) := by
  refine carried_last (fun n hn => ((outsAt0 m c n hn).2.2.1 (ix2 z q) : EReal)) (fun g i => dys (aY m c) (aS m c) i (g * 512 + q.val)) (fun t h => ?_) (fun t h => ?_) t h
  · refine (congrFun (db_A m c t h) _).trans ((pay1_apply _ _ z q).trans ?_)
    rw [pay7_apply]
    exact congrArg _ (Finset.sum_congr rfl fun r _ => dysT_apply m c t r q)
  · refine (congrFun (db_BC m c t h) _).trans ((pay1_apply _ _ z q).trans ?_)
    exact congrArg _ (Finset.sum_congr rfl fun r _ => dysT_apply m c t r q)

/-- A tile's term of the scale's gradient. -/
theorem ds_term (c : Dev nD) (t : Fin cfg0.N) (r : Fin 352) (q : Fin 512)
    (P : FVec Ideal S352x512 .bf16) (W : FVec Ideal S1x512x512 .bf16) (B : FVec Ideal S1x512 .f32)
    (hP : P = iblk m c 1 t) (hW : W = iblk m c 2 t) (hB : B = iblk m c 3 t) :
    (k0_pay9 (F := Ideal) (grid0.coords t) (iblk m c 0 t) (ix2 r q) : EReal) * ((∑ k : Fin 512, P (ix2 r k) * W (ix3 0 k q)) + B (ix2 0 q))
      = dyl (aY m c) (t.val % 6 * 352 + r.val) (t.val / 6 * 512 + q.val) * mix (aP m c) (aW m c) (aB m c) (t.val % 6 * 352 + r.val) (t.val / 6 * 512 + q.val) := by
  have d : (t.val / 6 * 512 + q.val) / 512 = t.val / 6 := by omega
  have e : (t.val / 6 * 512 + q.val) % 512 = q.val := by omega
  unfold mix
  subst hP hW hB
  rw [dylT_apply, d, e]
  simp only [blk_1, blk_2, blk_3]
  rfl

/-- The scale's gradient at a group's last point. -/
theorem ds_last (c : Dev nD) (q : Fin 512) (z : Fin 1) (t : Fin cfg0.N) (h : t.val % 6 = 5) :
    ((outsAt0 m c t.val t.isLt).2.2.2.1 (ix2 z q) : EReal) = dsE (aY m c) (aP m c) (aW m c) (aB m c) (t.val / 6 * 512 + q.val) := by
  refine carried_last (fun n hn => ((outsAt0 m c n hn).2.2.2.1 (ix2 z q) : EReal))
    (fun g i => dyl (aY m c) i (g * 512 + q.val) * mix (aP m c) (aW m c) (aB m c) i (g * 512 + q.val)) (fun t h => ?_) (fun t h => ?_) t h
  · refine (congrFun (ds_A m c t h) _).trans ((pay11_apply _ _ _ _ _ _ z q).trans ?_)
    rw [pay8_apply]
    exact congrArg _ (Finset.sum_congr rfl fun r _ => ds_term m c t r q _ _ _ rfl rfl rfl)
  · refine (congrFun (ds_BC m c t h) _).trans ((pay11_apply _ _ _ _ _ _ z q).trans ?_)
    exact congrArg _ (Finset.sum_congr rfl fun r _ => ds_term m c t r q _ _ _ rfl rfl rfl)

/-- The weight's gradient at a group's last point. -/
theorem dw_last (c : Dev nD) (a q : Fin 512) (t : Fin cfg0.N) (h : t.val % 6 = 5) :
    ((outsAt0 m c t.val t.isLt).2.2.2.2 (ix2 a q) : EReal) = dwE (aY m c) (aP m c) (aS m c) (t.val / 6) a.val q.val := by
  refine carried_last (fun n hn => ((outsAt0 m c n hn).2.2.2.2 (ix2 a q) : EReal))
    (fun g i => at2 (aP m c) i (g * 512 + a.val) * dys (aY m c) (aS m c) i (g * 512 + q.val)) (fun t h => ?_) (fun t h => ?_) t h
  · refine (congrFun (dw_A m c t h) _).trans ((pay3_apply _ _ _ a q).trans ?_)
    rw [pay6_apply]
    exact congrArg _ (Finset.sum_congr rfl fun r _ => congrArg₂ (· * ·) (blk_1 m c t r a) (dysT_apply m c t r q))
  · refine (congrFun (dw_BC m c t h) _).trans ((pay3_apply _ _ _ a q).trans ?_)
    exact congrArg _ (Finset.sum_congr rfl fun r _ => congrArg₂ (· * ·) (blk_1 m c t r a) (dysT_apply m c t r q))

/-! ## The arrays that the call leaves -/

/-- The gradient of the pooled rows: every tile is written once, and the tiles cover the array. -/
theorem arr_5 (c : Dev nD) : (dats m 0 c).arrAt 5 cfg0.N = ofEntries 2112 2048 (dpE (aY m c) (aW m c) (aS m c)) := by
  refine (dats m 0 c).arrAt_eq_of_cover 5 _ (fun t _ => ?_) (fun x => ?_)
  · show (dats m 0 c).after 5 t = _
    rw [after0_5, out_dp]
    funext y
    obtain ⟨r, q, rfl⟩ : ∃ (r : Fin 352) (q : Fin 512), y = ix2 r q := ⟨_, _, eq_ix2 y⟩
    rw [View.read_apply]
    have h0 : (((cfg0.win 5).blk t).view.emb (ix2 r q) 0).val = t.val % 6 * 352 + r.val := by
      show win0_5.index t 0 * 352 + 1 * r.val = _; rw [(idx_5 t).1]; simp
    have h1 : (((cfg0.win 5).blk t).view.emb (ix2 r q) 1).val = t.val / 6 * 512 + q.val := by
      show win0_5.index t 1 * 512 + 1 * q.val = _; rw [(idx_5 t).2]; simp
    show _ = dpE (aY m c) (aW m c) (aS m c) (((cfg0.win 5).blk t).view.emb (ix2 r q) 0).val (((cfg0.win 5).blk t).view.emb (ix2 r q) 1).val
    rw [h0, h1]
    have d : (t.val / 6 * 512 + q.val) / 512 = t.val / 6 := by omega
    have e : (t.val / 6 * 512 + q.val) % 512 = q.val := by omega
    unfold dpE
    rw [d, e]
    refine (pay4_apply _ _ r q).trans (Finset.sum_congr rfl fun k _ => ?_)
    exact congrArg₂ (· * ·) (dysT_apply m c t r k) (blk_2 m c t 0 q k)
  · have hx0 : (x 0).val < 2112 := (x 0).isLt
    have hx1 : (x 1).val < 2048 := (x 1).isLt
    have ht : (x 1).val / 512 * 6 + (x 0).val / 352 < cfg0.N := by rw [show cfg0.N = 24 from N_0]; omega
    refine ⟨⟨_, ht⟩, flush0_5 _, ?_⟩
    show x ∈ ((View.whole main_v0_0).slice (win0_5.rect ⟨_, ht⟩)).set
    rw [View.set_slice_whole, Rect.mem_set_unit]
    have e0 : win0_5.index ⟨_, ht⟩ 0 = (x 0).val / 352 := (idx_5 _).1.trans (show ((x 1).val / 512 * 6 + (x 0).val / 352) % 6 = _ by omega)
    have e1 : win0_5.index ⟨_, ht⟩ 1 = (x 1).val / 512 := (idx_5 _).2.trans (show ((x 1).val / 512 * 6 + (x 0).val / 352) / 6 = _ by omega)
    intro a
    match a with
    | ⟨0, _⟩ => show win0_5.index ⟨_, ht⟩ 0 * 352 ≤ (x 0).val ∧ (x 0).val < win0_5.index ⟨_, ht⟩ 0 * 352 + 352; omega
    | ⟨1, _⟩ => show win0_5.index ⟨_, ht⟩ 1 * 512 ≤ (x 1).val ∧ (x 1).val < win0_5.index ⟨_, ht⟩ 1 * 512 + 512; omega

/-- The gradient of the weights: a group's last point writes its block. -/
theorem arr_6 (c : Dev nD) : (dats m 0 c).arrAt 6 cfg0.N = fun x : S4x512x512.Idx => dwE (aY m c) (aP m c) (aS m c) (x 0).val (x 1).val (x 2).val := by
  refine (dats m 0 c).arrAt_eq_of_cover 6 _ (fun t hf => ?_) (fun x => ?_)
  · show (dats m 0 c).after 6 t = _
    have h5 := (flush0_6 t).mp hf
    rw [after0_6, out_dw m c t h5]
    funext y
    obtain ⟨z, a, q, rfl⟩ : ∃ (z : Fin 1) (a q : Fin 512), y = ix3 z a q := ⟨_, _, _, eq_ix3 y⟩
    have hz : z.val = 0 := by omega
    rw [View.read_apply]
    have h0 : (((cfg0.win 6).blk t).view.emb (ix3 z a q) 0).val = t.val / 6 := by
      show win0_6.index t 0 * 1 + 1 * z.val = _; rw [(idx_6 t).1, hz]; simp
    have h1 : (((cfg0.win 6).blk t).view.emb (ix3 z a q) 1).val = a.val := by
      show win0_6.index t 1 * 512 + 1 * a.val = _; rw [(idx_6 t).2.1]; simp
    have h2 : (((cfg0.win 6).blk t).view.emb (ix3 z a q) 2).val = q.val := by
      show win0_6.index t 2 * 512 + 1 * q.val = _; rw [(idx_6 t).2.2]; simp
    show _ = dwE (aY m c) (aP m c) (aS m c) (((cfg0.win 6).blk t).view.emb (ix3 z a q) 0).val (((cfg0.win 6).blk t).view.emb (ix3 z a q) 1).val (((cfg0.win 6).blk t).view.emb (ix3 z a q) 2).val
    rw [h0, h1, h2]
    exact (pay5_apply _ z a q).trans (dw_last m c a q t h5)
  · have hx0 : (x 0).val < 4 := (x 0).isLt
    have hx1 : (x 1).val < 512 := (x 1).isLt
    have hx2 : (x 2).val < 512 := (x 2).isLt
    have ht : (x 0).val * 6 + 5 < cfg0.N := by rw [show cfg0.N = 24 from N_0]; omega
    refine ⟨⟨_, ht⟩, (flush0_6 _).mpr (show ((x 0).val * 6 + 5) % 6 = 5 by omega), ?_⟩
    show x ∈ ((View.whole main_v0_1).slice (win0_6.rect ⟨_, ht⟩)).set
    rw [View.set_slice_whole, Rect.mem_set_unit]
    have e0 : win0_6.index ⟨_, ht⟩ 0 = (x 0).val := (idx_6 _).1.trans (show ((x 0).val * 6 + 5) / 6 = _ by omega)
    have e1 : win0_6.index ⟨_, ht⟩ 1 = 0 := (idx_6 _).2.1
    have e2 : win0_6.index ⟨_, ht⟩ 2 = 0 := (idx_6 _).2.2
    intro a
    match a with
    | ⟨0, _⟩ => show win0_6.index ⟨_, ht⟩ 0 * 1 ≤ (x 0).val ∧ (x 0).val < win0_6.index ⟨_, ht⟩ 0 * 1 + 1; omega
    | ⟨1, _⟩ => show win0_6.index ⟨_, ht⟩ 1 * 512 ≤ (x 1).val ∧ (x 1).val < win0_6.index ⟨_, ht⟩ 1 * 512 + 512; omega
    | ⟨2, _⟩ => show win0_6.index ⟨_, ht⟩ 2 * 512 ≤ (x 2).val ∧ (x 2).val < win0_6.index ⟨_, ht⟩ 2 * 512 + 512; omega

/-- The gradient of the bias: a group's last point writes its columns. -/
theorem arr_7 (c : Dev nD) : (dats m 0 c).arrAt 7 cfg0.N = ofEntries 1 2048 (fun _ j => dbE (aY m c) (aS m c) j) := by
  refine (dats m 0 c).arrAt_eq_of_cover 7 _ (fun t hf => ?_) (fun x => ?_)
  · show (dats m 0 c).after 7 t = _
    have h5 := (flush0_7 t).mp hf
    rw [after0_7]
    funext y
    obtain ⟨z, q, rfl⟩ : ∃ (z : Fin 1) (q : Fin 512), y = ix2 z q := ⟨_, _, eq_ix2 y⟩
    rw [View.read_apply]
    have h1 : (((cfg0.win 7).blk t).view.emb (ix2 z q) 1).val = t.val / 6 * 512 + q.val := by
      show win0_7.index t 1 * 512 + 1 * q.val = _; rw [(idx_7 t).2]; simp
    show _ = dbE (aY m c) (aS m c) (((cfg0.win 7).blk t).view.emb (ix2 z q) 1).val
    rw [h1]
    exact db_last m c q z t h5
  · have hx0 : (x 0).val < 1 := (x 0).isLt
    have hx1 : (x 1).val < 2048 := (x 1).isLt
    have ht : (x 1).val / 512 * 6 + 5 < cfg0.N := by rw [show cfg0.N = 24 from N_0]; omega
    refine ⟨⟨_, ht⟩, (flush0_7 _).mpr (show ((x 1).val / 512 * 6 + 5) % 6 = 5 by omega), ?_⟩
    show x ∈ ((View.whole main_v0_2).slice (win0_7.rect ⟨_, ht⟩)).set
    rw [View.set_slice_whole, Rect.mem_set_unit]
    have e0 : win0_7.index ⟨_, ht⟩ 0 = 0 := (idx_7 _).1
    have e1 : win0_7.index ⟨_, ht⟩ 1 = (x 1).val / 512 := (idx_7 _).2.trans (show ((x 1).val / 512 * 6 + 5) / 6 = _ by omega)
    intro a
    match a with
    | ⟨0, _⟩ => show win0_7.index ⟨_, ht⟩ 0 * 1 ≤ (x 0).val ∧ (x 0).val < win0_7.index ⟨_, ht⟩ 0 * 1 + 1; omega
    | ⟨1, _⟩ => show win0_7.index ⟨_, ht⟩ 1 * 512 ≤ (x 1).val ∧ (x 1).val < win0_7.index ⟨_, ht⟩ 1 * 512 + 512; omega

/-- The gradient of the scale: a group's last point writes its columns. -/
theorem arr_8 (c : Dev nD) : (dats m 0 c).arrAt 8 cfg0.N = ofEntries 1 2048 (fun _ j => dsE (aY m c) (aP m c) (aW m c) (aB m c) j) := by
  refine (dats m 0 c).arrAt_eq_of_cover 8 _ (fun t hf => ?_) (fun x => ?_)
  · show (dats m 0 c).after 8 t = _
    have h5 := (flush0_8 t).mp hf
    rw [after0_8]
    funext y
    obtain ⟨z, q, rfl⟩ : ∃ (z : Fin 1) (q : Fin 512), y = ix2 z q := ⟨_, _, eq_ix2 y⟩
    rw [View.read_apply]
    have h1 : (((cfg0.win 8).blk t).view.emb (ix2 z q) 1).val = t.val / 6 * 512 + q.val := by
      show win0_8.index t 1 * 512 + 1 * q.val = _; rw [(idx_8 t).2]; simp
    show _ = dsE (aY m c) (aP m c) (aW m c) (aB m c) (((cfg0.win 8).blk t).view.emb (ix2 z q) 1).val
    rw [h1]
    exact ds_last m c q z t h5
  · have hx0 : (x 0).val < 1 := (x 0).isLt
    have hx1 : (x 1).val < 2048 := (x 1).isLt
    have ht : (x 1).val / 512 * 6 + 5 < cfg0.N := by rw [show cfg0.N = 24 from N_0]; omega
    refine ⟨⟨_, ht⟩, (flush0_8 _).mpr (show ((x 1).val / 512 * 6 + 5) % 6 = 5 by omega), ?_⟩
    show x ∈ ((View.whole main_v0_3).slice (win0_8.rect ⟨_, ht⟩)).set
    rw [View.set_slice_whole, Rect.mem_set_unit]
    have e0 : win0_8.index ⟨_, ht⟩ 0 = 0 := (idx_8 _).1
    have e1 : win0_8.index ⟨_, ht⟩ 1 = (x 1).val / 512 := (idx_8 _).2.trans (show ((x 1).val / 512 * 6 + 5) / 6 = _ by omega)
    intro a
    match a with
    | ⟨0, _⟩ => show win0_8.index ⟨_, ht⟩ 0 * 1 ≤ (x 0).val ∧ (x 0).val < win0_8.index ⟨_, ht⟩ 0 * 1 + 1; omega
    | ⟨1, _⟩ => show win0_8.index ⟨_, ht⟩ 1 * 512 ≤ (x 1).val ∧ (x 1).val < win0_8.index ⟨_, ht⟩ 1 * 512 + 512; omega

/-! ## The claims -/

/-- The frame of the reference's lines: host code, read off its run. -/
theorem frame_ref : Cert.quiescent_PoolMixBwdRefIdeal := fun m ρ _ =>
  (θ_run Cert.PoolMixBwdRefIdeal.defs _ _).mono (fun r h => ⟨fun c => (h c).2.2.2.2, Idealize.ShloMosaic.sem_eq_zero_of_no_sems (by decide) r.2⟩)
    (Cert.PoolMixBwdRefIdeal.Value.run (F := Ideal) m ρ)

/-- THE VALUE CLAIM: from the same arguments the call and the reference end with the same four arrays of extended reals. -/
theorem algebraic : Cert.algebraic_PoolMixBwdIdeal_PoolMixBwdRefIdeal := by
  intro m g m' g' _ hargs
  refine ⟨_, _, _, _, run_blocks (F := Ideal) m g, ?_⟩
  refine (θ_run _ _ _).mono (fun r h c => ?_) (Cert.PoolMixBwdRefIdeal.Value.run (F := Ideal) m' g')
  obtain ⟨e0, e1, e2, e3, e4⟩ := hargs c
  obtain ⟨h0, h1, h2, h3, hr⟩ := h c
  rw [e0, e2, e4] at h0
  rw [e0, e1, e4] at h1
  rw [e0, e4] at h2
  rw [e0, e1, e2, e3] at h3
  refine ⟨h0.trans ?_, h1.trans ?_, h2.trans ?_, h3.trans ?_, hr⟩
  · rw [arr_5]
    exact Cert.PoolMixBwdRefIdeal.Hand.ref_dp _ _ _
  · rw [arr_6]
    exact Cert.PoolMixBwdRefIdeal.Hand.ref_dw _ _ _
  · rw [arr_7]
    exact Cert.PoolMixBwdRefIdeal.Hand.ref_db _ _
  · rw [arr_8]
    exact Cert.PoolMixBwdRefIdeal.Hand.ref_ds _ _ _ _

end Cert.PoolMixBwdIdeal.Hand

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnDh.Frame
public import proofs.«01_k».proof.Proof.Gen.FfnDhIdeal.Frame
public import proofs.«01_k».proof.Proof.Gen.FfnDhIdeal.Value
public import proofs.«01_k».proof.Proof.Gen.FfnDhRefIdeal.Run
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.AdamMeta.Frame
public import proofs.«01_k».proof.Proof.Gen.AdamMetaIdeal.Frame
public import proofs.«01_k».proof.Proof.Gen.AdamMetaRefIdeal.Run
public import proofs.«01_k».proof.Proof.Gen.AdamNorm.Frame
public import proofs.«01_k».proof.Proof.Gen.AdamNormIdeal.Frame
public import proofs.«01_k».proof.Proof.Gen.AdamNormRefIdeal.Run
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamGlaNorm.Frame
public import proofs.«01_k».proof.Proof.Gen.AdamGlaNormIdeal.Frame
public import proofs.«01_k».proof.Proof.Gen.AdamGlaNormRefIdeal.Run
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamRank.Frame
public import proofs.«01_k».proof.Proof.Gen.AdamRankIdeal.Frame
public import proofs.«01_k».proof.Proof.Gen.AdamRankRefIdeal.Run
public import proofs.«01_k».proof.Proof.Gen.AdamBias.Frame
public import proofs.«01_k».proof.Proof.Gen.AdamBiasIdeal.Frame
public import proofs.«01_k».proof.Proof.Gen.AdamBiasRefIdeal.Run
public import proofs.«01_k».proof.Proof.Gen.AdamHead.Frame
public import proofs.«01_k».proof.Proof.Gen.AdamHeadIdeal.Frame
public import proofs.«01_k».proof.Proof.Gen.AdamHeadRefIdeal.Run
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamPool.Frame
public import proofs.«01_k».proof.Proof.Gen.AdamPoolIdeal.Frame
public import proofs.«01_k».proof.Proof.Gen.AdamPoolRefIdeal.Run
public import proofs.«01_k».proof.Proof.Gen.AdamPoolBias.Frame
public import proofs.«01_k».proof.Proof.Gen.AdamPoolBiasIdeal.Frame
public import proofs.«01_k».proof.Proof.Gen.AdamPoolBiasRefIdeal.Run
public import proofs.«01_k».proof.Proof.Gen.AdamFinal.Frame
public import proofs.«01_k».proof.Proof.Gen.AdamFinalIdeal.Frame
public import proofs.«01_k».proof.Proof.Gen.AdamFinalRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.GlaProj.Frame
public import proofs.«01_k».proof.Proof.Gen.GlaProjIdeal.Frame
public import proofs.«01_k».proof.Proof.Gen.GlaProjIdeal.Value
public import proofs.«01_k».proof.Proof.Gen.GlaProjRefIdeal.Run
public import proofs.«01_k».proof.Proof.Gen.GlaProjW.Frame
public import proofs.«01_k».proof.Proof.Gen.GlaProjWIdeal.Frame
public import proofs.«01_k».proof.Proof.Gen.GlaProjWIdeal.Value
public import proofs.«01_k».proof.Proof.Gen.GlaProjWRefIdeal.Run
public import proofs.«01_k».proof.Proof.Gen.GlaProjH.Frame
public import proofs.«01_k».proof.Proof.Gen.GlaProjHIdeal.Frame
public import proofs.«01_k».proof.Proof.Gen.GlaProjHIdeal.Value
public import proofs.«01_k».proof.Proof.Gen.GlaProjHRefIdeal.Run
public import proofs.«01_k».proof.Proof.Gen.GlaOut.Frame
public import proofs.«01_k».proof.Proof.Gen.GlaOutIdeal.Frame
public import proofs.«01_k».proof.Proof.Gen.GlaOutIdeal.Value
public import proofs.«01_k».proof.Proof.Gen.GlaOutRefIdeal.Run
public import proofs.«01_k».proof.Proof.Gen.GlaOutW.Frame
public import proofs.«01_k».proof.Proof.Gen.GlaOutWIdeal.Frame
public import proofs.«01_k».proof.Proof.Gen.GlaOutWIdeal.Value
public import proofs.«01_k».proof.Proof.Gen.GlaOutWRefIdeal.Run
public import proofs.«01_k».proof.Proof.Gen.GlaOutH.Frame
public import proofs.«01_k».proof.Proof.Gen.GlaOutHIdeal.Frame
public import proofs.«01_k».proof.Proof.Gen.GlaOutHIdeal.Value
public import proofs.«01_k».proof.Proof.Gen.GlaOutHRefIdeal.Run
public import proofs.«01_k».proof.Proof.GlaRef
public import proofs.«01_k».proof.Proof.FfnValue
public import proofs.«01_k».proof.Proof.FfnDh
public import proofs.«01_k».proof.Proof.FfnDown
public import proofs.«01_k».proof.Proof.AdamMeta
public import proofs.«01_k».proof.Proof.AdamNorm
public import proofs.«01_k».proof.Proof.AdamUp
public import proofs.«01_k».proof.Proof.AdamDown
public import proofs.«01_k».proof.Proof.AdamGlaNorm
public import proofs.«01_k».proof.Proof.AdamIn
public import proofs.«01_k».proof.Proof.AdamRank
public import proofs.«01_k».proof.Proof.AdamBias
public import proofs.«01_k».proof.Proof.AdamHead
public import proofs.«01_k».proof.Proof.AdamOut
public import proofs.«01_k».proof.Proof.AdamPool
public import proofs.«01_k».proof.Proof.AdamPoolBias
public import proofs.«01_k».proof.Proof.AdamFinal
public import proofs.«01_k».proof.Proof.Small
public import proofs.«01_k».proof.Proof.Norm
public import proofs.«01_k».proof.Proof.Loss
public import proofs.«01_k».proof.Proof.GlaProj
public import proofs.«01_k».proof.Proof.GlaProjW
public import proofs.«01_k».proof.Proof.GlaProjH
public import proofs.«01_k».proof.Proof.GlaOut
public import proofs.«01_k».proof.Proof.GlaOutW
public import proofs.«01_k».proof.Proof.GlaOutH
public import proofs.«01_k».proof.Proof.PairUp
public import proofs.«01_k».proof.Proof.SumUp
public import proofs.«01_k».proof.Proof.PairDown
public import proofs.«01_k».proof.Proof.SumDown
public import proofs.«01_k».proof.Proof.PairIn
public import proofs.«01_k».proof.Proof.SumIn
public import proofs.«01_k».proof.Proof.PairOut
public import proofs.«01_k».proof.Proof.SumOut
public import proofs.«01_k».proof.Proof.PairPool
public import proofs.«01_k».proof.Proof.SumPool
public import proofs.«01_k».proof.Proof.Gen.PoolMix.Frame
public import proofs.«01_k».proof.Proof.Gen.PoolMixIdeal.Frame
public import proofs.«01_k».proof.Proof.Gen.PoolMixIdeal.Value
public import proofs.«01_k».proof.Proof.Gen.PoolMixRefIdeal.Run
public import proofs.«01_k».proof.Proof.PoolMix
public import proofs.«01_k».proof.Proof.Gen.PoolMixBwd.Frame
public import proofs.«01_k».proof.Proof.Gen.PoolMixBwdIdeal.Frame
public import proofs.«01_k».proof.Proof.Gen.PoolMixBwdIdeal.Value
public import proofs.«01_k».proof.Proof.Gen.PoolMixBwdRefIdeal.Run
public import proofs.«01_k».proof.Proof.PoolMixBwd
public import Idealize.ShloMosaic.Lib.Quiescent
public import Idealize.ShloMosaic.Adequacy
public import Idealize.ShloMosaic.Init

@[expose] public section

noncomputable section

namespace Cert.Proof

open Idealize.ShloMosaic Idealize.SL.Sem

/-- The frame of the reference of the feed-forward block's backward pass: host code, read off its run. -/
theorem frame_ffnRef : Cert.quiescent_FfnRefIdeal := fun m ρ _ =>
  (θ_run Cert.FfnRefIdeal.defs _ _).mono (fun r h => ⟨fun c => (h c).2.2.2.2.2.2,
      Idealize.ShloMosaic.sem_eq_zero_of_no_sems (by decide) r.2⟩)
    (Cert.FfnRefIdeal.Value.run (F := Ideal) m ρ)

/-- The frame of the reference of the gradient of the feed-forward block's input. -/
theorem frame_ffnDhRef : Cert.quiescent_FfnDhRefIdeal := fun m ρ _ =>
  (θ_run Cert.FfnDhRefIdeal.defs _ _).mono (fun r h => ⟨fun c => (h c).2,
      Idealize.ShloMosaic.sem_eq_zero_of_no_sems (by decide) r.2⟩)
    (Cert.FfnDhRefIdeal.Value.run (F := Ideal) m ρ)

/-- The frame of the reference of the feed-forward block's down projection with its residual. -/
theorem frame_ffnDownRef : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)

/-- Everything the certificate claims: the frames of the programs with kernels are the generated ones, those of the
    references are read off their runs, no rewriting lies between a kernel and its idealized text, and the value claims
    are those of the modules under `Proof/`. -/
theorem claim : Cert.Claim :=
  ⟨Cert.Kernel.Gen.facts, Cert.KernelIdeal.Gen.facts, Cert.ReferenceIdeal.Gen.facts, Cert.Ffn.Gen.facts,
   Cert.FfnIdeal.Gen.facts, Cert.FfnRefIdeal.Gen.facts, Cert.FfnDh.Gen.facts, Cert.FfnDhIdeal.Gen.facts,
   Cert.FfnDhRefIdeal.Gen.facts, Cert.FfnDown.Gen.facts, Cert.FfnDownIdeal.Gen.facts, Cert.FfnDownRefIdeal.Gen.facts,
   Cert.AdamMeta.Gen.facts, Cert.AdamMetaIdeal.Gen.facts, Cert.AdamMetaRefIdeal.Gen.facts,
   Cert.AdamNorm.Gen.facts, Cert.AdamNormIdeal.Gen.facts, Cert.AdamNormRefIdeal.Gen.facts,
   Cert.AdamUp.Gen.facts, Cert.AdamUpIdeal.Gen.facts, Cert.AdamUpRefIdeal.Gen.facts,
   Cert.AdamDown.Gen.facts, Cert.AdamDownIdeal.Gen.facts, Cert.AdamDownRefIdeal.Gen.facts,
   Cert.AdamGlaNorm.Gen.facts, Cert.AdamGlaNormIdeal.Gen.facts, Cert.AdamGlaNormRefIdeal.Gen.facts,
   Cert.AdamIn.Gen.facts, Cert.AdamInIdeal.Gen.facts, Cert.AdamInRefIdeal.Gen.facts,
   Cert.AdamRank.Gen.facts, Cert.AdamRankIdeal.Gen.facts, Cert.AdamRankRefIdeal.Gen.facts,
   Cert.AdamBias.Gen.facts, Cert.AdamBiasIdeal.Gen.facts, Cert.AdamBiasRefIdeal.Gen.facts,
   Cert.AdamHead.Gen.facts, Cert.AdamHeadIdeal.Gen.facts, Cert.AdamHeadRefIdeal.Gen.facts,
   Cert.AdamOut.Gen.facts, Cert.AdamOutIdeal.Gen.facts, Cert.AdamOutRefIdeal.Gen.facts,
   Cert.AdamPool.Gen.facts, Cert.AdamPoolIdeal.Gen.facts, Cert.AdamPoolRefIdeal.Gen.facts,
   Cert.AdamPoolBias.Gen.facts, Cert.AdamPoolBiasIdeal.Gen.facts, Cert.AdamPoolBiasRefIdeal.Gen.facts,
   Cert.AdamFinal.Gen.facts, Cert.AdamFinalIdeal.Gen.facts, Cert.AdamFinalRefIdeal.Gen.facts,
   Cert.Small.Gen.facts, Cert.SmallIdeal.Gen.facts, Cert.SmallRefIdeal.Gen.facts,
   Cert.Norm.Gen.facts, Cert.NormIdeal.Gen.facts, Cert.NormRefIdeal.Gen.facts,
   Cert.Loss.Gen.facts, Cert.LossIdeal.Gen.facts, Cert.LossRefIdeal.Gen.facts,
   Cert.GlaProj.Gen.facts, Cert.GlaProjIdeal.Gen.facts, Cert.GlaProjRefIdeal.Gen.facts,
   Cert.GlaProjW.Gen.facts, Cert.GlaProjWIdeal.Gen.facts, Cert.GlaProjWRefIdeal.Gen.facts,
   Cert.GlaProjH.Gen.facts, Cert.GlaProjHIdeal.Gen.facts, Cert.GlaProjHRefIdeal.Gen.facts,
   Cert.GlaOut.Gen.facts, Cert.GlaOutIdeal.Gen.facts, Cert.GlaOutRefIdeal.Gen.facts,
   Cert.GlaOutW.Gen.facts, Cert.GlaOutWIdeal.Gen.facts, Cert.GlaOutWRefIdeal.Gen.facts,
   Cert.GlaOutH.Gen.facts, Cert.GlaOutHIdeal.Gen.facts, Cert.GlaOutHRefIdeal.Gen.facts,
   Cert.PairUp.Gen.facts, Cert.PairUpIdeal.Gen.facts, Cert.PairUpRefIdeal.Gen.facts,
   Cert.SumUp.Gen.facts, Cert.SumUpIdeal.Gen.facts, Cert.SumUpRefIdeal.Gen.facts,
   Cert.PairDown.Gen.facts, Cert.PairDownIdeal.Gen.facts, Cert.PairDownRefIdeal.Gen.facts,
   Cert.SumDown.Gen.facts, Cert.SumDownIdeal.Gen.facts, Cert.SumDownRefIdeal.Gen.facts,
   Cert.PairIn.Gen.facts, Cert.PairInIdeal.Gen.facts, Cert.PairInRefIdeal.Gen.facts,
   Cert.SumIn.Gen.facts, Cert.SumInIdeal.Gen.facts, Cert.SumInRefIdeal.Gen.facts,
   Cert.PairOut.Gen.facts, Cert.PairOutIdeal.Gen.facts, Cert.PairOutRefIdeal.Gen.facts,
   Cert.SumOut.Gen.facts, Cert.SumOutIdeal.Gen.facts, Cert.SumOutRefIdeal.Gen.facts,
   Cert.PairPool.Gen.facts, Cert.PairPoolIdeal.Gen.facts, Cert.PairPoolRefIdeal.Gen.facts,
   Cert.SumPool.Gen.facts, Cert.SumPoolIdeal.Gen.facts, Cert.SumPoolRefIdeal.Gen.facts,
   Cert.PoolMix.Gen.facts, Cert.PoolMixIdeal.Gen.facts, Cert.PoolMixRefIdeal.Gen.facts,
   Cert.PoolMixBwd.Gen.facts, Cert.PoolMixBwdIdeal.Gen.facts, Cert.PoolMixBwdRefIdeal.Gen.facts,
   Cert.Finite.facts,
   fun m ρ _ => Cert.Kernel.Gen.frame m ρ, fun m ρ _ => Cert.KernelIdeal.Gen.frame m ρ, Cert.ReferenceIdeal.Hand.frame,
   fun m ρ _ => Cert.Ffn.Gen.frame m ρ, fun m ρ _ => Cert.FfnIdeal.Gen.frame m ρ,
   fun m ρ _ => Cert.FfnIdeal.Gen.frame m ρ, frame_ffnRef, fun m ρ _ => frame_ffnRef m ρ trivial,
   fun m ρ _ => Cert.FfnDh.Gen.frame m ρ, fun m ρ _ => Cert.FfnDhIdeal.Gen.frame m ρ, frame_ffnDhRef,
   fun m ρ _ => Cert.FfnDown.Gen.frame m ρ, fun m ρ _ => Cert.FfnDownIdeal.Gen.frame m ρ, frame_ffnDownRef,
   fun m ρ _ => Cert.AdamMeta.Gen.frame m ρ, fun m ρ _ => Cert.AdamMetaIdeal.Gen.frame m ρ, Cert.AdamMetaIdeal.Hand.frame_ref,
   fun m ρ _ => Cert.AdamNorm.Gen.frame m ρ, fun m ρ _ => Cert.AdamNormIdeal.Gen.frame m ρ, Cert.AdamNormIdeal.Hand.frame_ref,
   fun m ρ _ => Cert.AdamUp.Gen.frame m ρ, fun m ρ _ => Cert.AdamUpIdeal.Gen.frame m ρ, Cert.AdamUpIdeal.Hand.frame_ref,
   fun m ρ _ => Cert.AdamDown.Gen.frame m ρ, fun m ρ _ => Cert.AdamDownIdeal.Gen.frame m ρ, Cert.AdamDownIdeal.Hand.frame_ref,
   fun m ρ _ => Cert.AdamGlaNorm.Gen.frame m ρ, fun m ρ _ => Cert.AdamGlaNormIdeal.Gen.frame m ρ, Cert.AdamGlaNormIdeal.Hand.frame_ref,
   fun m ρ _ => Cert.AdamIn.Gen.frame m ρ, fun m ρ _ => Cert.AdamInIdeal.Gen.frame m ρ, Cert.AdamInIdeal.Hand.frame_ref,
   fun m ρ _ => Cert.AdamRank.Gen.frame m ρ, fun m ρ _ => Cert.AdamRankIdeal.Gen.frame m ρ, Cert.AdamRankIdeal.Hand.frame_ref,
   fun m ρ _ => Cert.AdamBias.Gen.frame m ρ, fun m ρ _ => Cert.AdamBiasIdeal.Gen.frame m ρ, Cert.AdamBiasIdeal.Hand.frame_ref,
   fun m ρ _ => Cert.AdamHead.Gen.frame m ρ, fun m ρ _ => Cert.AdamHeadIdeal.Gen.frame m ρ, Cert.AdamHeadIdeal.Hand.frame_ref,
   fun m ρ _ => Cert.AdamOut.Gen.frame m ρ, fun m ρ _ => Cert.AdamOutIdeal.Gen.frame m ρ, Cert.AdamOutIdeal.Hand.frame_ref,
   fun m ρ _ => Cert.AdamPool.Gen.frame m ρ, fun m ρ _ => Cert.AdamPoolIdeal.Gen.frame m ρ, Cert.AdamPoolIdeal.Hand.frame_ref,
   fun m ρ _ => Cert.AdamPoolBias.Gen.frame m ρ, fun m ρ _ => Cert.AdamPoolBiasIdeal.Gen.frame m ρ, Cert.AdamPoolBiasIdeal.Hand.frame_ref,
   fun m ρ _ => Cert.AdamFinal.Gen.frame m ρ, fun m ρ _ => Cert.AdamFinalIdeal.Gen.frame m ρ, Cert.AdamFinalIdeal.Hand.frame_ref,
   fun m ρ _ => Cert.Small.Gen.frame m ρ, fun m ρ _ => Cert.SmallIdeal.Gen.frame m ρ, Cert.SmallIdeal.Hand.frame_ref,
   fun m ρ _ => Cert.Norm.Gen.frame m ρ, fun m ρ _ => Cert.NormIdeal.Gen.frame m ρ, Cert.NormIdeal.Hand.frame_ref,
   fun m ρ _ => Cert.Loss.Gen.frame m ρ, fun m ρ _ => Cert.LossIdeal.Gen.frame m ρ, Cert.LossIdeal.Hand.frame_ref,
   fun m ρ _ => Cert.GlaProj.Gen.frame m ρ, fun m ρ _ => Cert.GlaProjIdeal.Gen.frame m ρ, Cert.GlaProjIdeal.Hand.frame_ref,
   fun m ρ _ => Cert.GlaProjW.Gen.frame m ρ, fun m ρ _ => Cert.GlaProjWIdeal.Gen.frame m ρ, Cert.GlaProjWIdeal.Hand.frame_ref,
   fun m ρ _ => Cert.GlaProjH.Gen.frame m ρ, fun m ρ _ => Cert.GlaProjHIdeal.Gen.frame m ρ, Cert.GlaProjHIdeal.Hand.frame_ref,
   fun m ρ _ => Cert.GlaOut.Gen.frame m ρ, fun m ρ _ => Cert.GlaOutIdeal.Gen.frame m ρ, Cert.GlaOutIdeal.Hand.frame_ref,
   fun m ρ _ => Cert.GlaOutW.Gen.frame m ρ, fun m ρ _ => Cert.GlaOutWIdeal.Gen.frame m ρ, Cert.GlaOutWIdeal.Hand.frame_ref,
   fun m ρ _ => Cert.GlaOutH.Gen.frame m ρ, fun m ρ _ => Cert.GlaOutHIdeal.Gen.frame m ρ, Cert.GlaOutHIdeal.Hand.frame_ref,
   Cert.PairUp.Hand.frame, Cert.PairUpIdeal.Hand.frame, Cert.PairUpIdeal.Hand.frame_ref,
   Cert.SumUp.Hand.frame, Cert.SumUpIdeal.Hand.frame, Cert.SumUpIdeal.Hand.frame_ref,
   Cert.PairDown.Hand.frame, Cert.PairDownIdeal.Hand.frame, Cert.PairDownIdeal.Hand.frame_ref,
   Cert.SumDown.Hand.frame, Cert.SumDownIdeal.Hand.frame, Cert.SumDownIdeal.Hand.frame_ref,
   Cert.PairIn.Hand.frame, Cert.PairInIdeal.Hand.frame, Cert.PairInIdeal.Hand.frame_ref,
   Cert.SumIn.Hand.frame, Cert.SumInIdeal.Hand.frame, Cert.SumInIdeal.Hand.frame_ref,
   Cert.PairOut.Hand.frame, Cert.PairOutIdeal.Hand.frame, Cert.PairOutIdeal.Hand.frame_ref,
   Cert.SumOut.Hand.frame, Cert.SumOutIdeal.Hand.frame, Cert.SumOutIdeal.Hand.frame_ref,
   Cert.PairPool.Hand.frame, Cert.PairPoolIdeal.Hand.frame, Cert.PairPoolIdeal.Hand.frame_ref,
   Cert.SumPool.Hand.frame, Cert.SumPoolIdeal.Hand.frame, Cert.SumPoolIdeal.Hand.frame_ref,
   fun m ρ _ => Cert.PoolMix.Gen.frame m ρ, fun m ρ _ => Cert.PoolMixIdeal.Gen.frame m ρ, Cert.PoolMixIdeal.Hand.frame_ref,
   fun m ρ _ => Cert.PoolMixBwd.Gen.frame m ρ, fun m ρ _ => Cert.PoolMixBwdIdeal.Gen.frame m ρ, Cert.PoolMixBwdIdeal.Hand.frame_ref,
   trivial, trivial, @Cert.Ffn.Hand.algebraic Cert.Finite.facts, trivial, Cert.FfnDh.Hand.algebraic,
   trivial, Cert.FfnDown.Hand.algebraic,
   trivial, Cert.AdamMetaIdeal.Hand.algebraic,
   trivial, Cert.AdamNormIdeal.Hand.algebraic,
   trivial, Cert.AdamUpIdeal.Hand.algebraic,
   trivial, Cert.AdamDownIdeal.Hand.algebraic,
   trivial, Cert.AdamGlaNormIdeal.Hand.algebraic,
   trivial, Cert.AdamInIdeal.Hand.algebraic,
   trivial, Cert.AdamRankIdeal.Hand.algebraic,
   trivial, Cert.AdamBiasIdeal.Hand.algebraic,
   trivial, Cert.AdamHeadIdeal.Hand.algebraic,
   trivial, Cert.AdamOutIdeal.Hand.algebraic,
   trivial, Cert.AdamPoolIdeal.Hand.algebraic,
   trivial, Cert.AdamPoolBiasIdeal.Hand.algebraic,
   trivial, Cert.AdamFinalIdeal.Hand.algebraic,
   trivial, Cert.SmallIdeal.Hand.algebraic,
   trivial, Cert.NormIdeal.Hand.algebraic,
   trivial, Cert.LossIdeal.Hand.algebraic,
   trivial, Cert.GlaProjIdeal.Hand.algebraic,
   trivial, Cert.GlaProjWIdeal.Hand.algebraic,
   trivial, Cert.GlaProjHIdeal.Hand.algebraic,
   trivial, Cert.GlaOutIdeal.Hand.algebraic,
   trivial, Cert.GlaOutWIdeal.Hand.algebraic,
   trivial, Cert.GlaOutHIdeal.Hand.algebraic,
   trivial, Cert.PairUpIdeal.Hand.algebraic,
   trivial, Cert.SumUpIdeal.Hand.algebraic,
   trivial, Cert.PairDownIdeal.Hand.algebraic,
   trivial, Cert.SumDownIdeal.Hand.algebraic,
   trivial, Cert.PairInIdeal.Hand.algebraic,
   trivial, Cert.SumInIdeal.Hand.algebraic,
   trivial, Cert.PairOutIdeal.Hand.algebraic,
   trivial, Cert.SumOutIdeal.Hand.algebraic,
   trivial, Cert.PairPoolIdeal.Hand.algebraic,
   trivial, Cert.SumPoolIdeal.Hand.algebraic,
   trivial, Cert.PoolMixIdeal.Hand.algebraic,
   trivial, Cert.PoolMixBwdIdeal.Hand.algebraic⟩

end Cert.Proof

end
